-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackRefIdeal (m : (ℓ : Loc Cert.MergeBackRefIdeal.nD Cert.MergeBackRefIdeal.τ Cert.MergeBackRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateBack (m : (ℓ : Loc Cert.GateBack.nD Cert.GateBack.τ Cert.GateBack.sig) → Buf (Elt Bits) ℓ) : Prop :=
  True

def Pre_GateBackIdeal (m : (ℓ : Loc Cert.GateBackIdeal.nD Cert.GateBackIdeal.τ Cert.GateBackIdeal.sig) → Buf (Elt Ideal) ℓ) : Prop :=
  True

def Pre_GateBackRefIdeal (m : (ℓ : Loc Cert.GateBackRefIdeal.nD Cert.GateBackRefIdeal.τ Cert.GateBackRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_OutProduct (m : (ℓ : Loc Cert.OutProduct.nD Cert.OutProduct.τ Cert.OutProduct.sig) → Buf (Elt Bits) ℓ) : Prop :=
  True

def Pre_OutProductIdeal (m : (ℓ : Loc Cert.OutProductIdeal.nD Cert.OutProductIdeal.τ Cert.OutProductIdeal.sig) → Buf (Elt Ideal) ℓ) : Prop :=
  True

def Pre_OutProductRefIdeal (m : (ℓ : Loc Cert.OutProductRefIdeal.nD Cert.OutProductRefIdeal.τ Cert.OutProductRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_ShiftBack (m : (ℓ : Loc Cert.ShiftBack.nD Cert.ShiftBack.τ Cert.ShiftBack.sig) → Buf (Elt Bits) ℓ) : Prop :=
  True

def Pre_ShiftBackIdeal (m : (ℓ : Loc Cert.ShiftBackIdeal.nD Cert.ShiftBackIdeal.τ Cert.ShiftBackIdeal.sig) → Buf (Elt Ideal) ℓ) : Prop :=
  True

def Pre_ShiftBackRefIdeal (m : (ℓ : Loc Cert.ShiftBackRefIdeal.nD Cert.ShiftBackRefIdeal.τ Cert.ShiftBackRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_rows [hPre_finite_rows : Cert.Pre_finite_rows.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_rows.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).1 = (fun _ => 1#1)
    ∧ (Cert.Pre_finite_rows.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).2 = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_rows [hPre_finite_rows : Cert.Pre_finite_rows.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_rows.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))).1 = (fun _ => 1#1)
    ∧ (Cert.Pre_finite_rows.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))).2 = (fun _ => 1#1)

def Pre_InProduct (m : (ℓ : Loc Cert.InProduct.nD Cert.InProduct.τ Cert.InProduct.sig) → Buf (Elt Bits) ℓ) : Prop :=
  True

def Pre_InProductIdeal (m : (ℓ : Loc Cert.InProductIdeal.nD Cert.InProductIdeal.τ Cert.InProductIdeal.sig) → Buf (Elt Ideal) ℓ) : Prop :=
  True

def Pre_InProductRefIdeal (m : (ℓ : Loc Cert.InProductRefIdeal.nD Cert.InProductRefIdeal.τ Cert.InProductRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_AttentionBack (m : (ℓ : Loc Cert.AttentionBack.nD Cert.AttentionBack.τ Cert.AttentionBack.sig) → Buf (Elt Bits) ℓ) : Prop :=
  True

def Pre_AttentionBackIdeal (m : (ℓ : Loc Cert.AttentionBackIdeal.nD Cert.AttentionBackIdeal.τ Cert.AttentionBackIdeal.sig) → Buf (Elt Ideal) ℓ) : Prop :=
  True

def Pre_AttentionBackIdeal_finite_keys [hPre_finite_keys : Cert.Pre_finite_keys.Facts] (m : (ℓ : Loc Cert.AttentionBackIdeal.nD Cert.AttentionBackIdeal.τ Cert.AttentionBackIdeal.sig) → Buf (Elt Ideal) ℓ) : Prop :=
  ∀ c : Dev Cert.AttentionBackIdeal.nD,
    (Cert.Pre_finite_keys.fn (F := Ideal) (m ((c.tc : Thread Cert.AttentionBackIdeal.nD Cert.AttentionBackIdeal.τ).loc Cert.AttentionBackIdeal.main_arg0)) (m ((c.tc : Thread Cert.AttentionBackIdeal.nD Cert.AttentionBackIdeal.τ).loc Cert.AttentionBackIdeal.main_arg1)) (m ((c.tc : Thread Cert.AttentionBackIdeal.nD Cert.AttentionBackIdeal.τ).loc Cert.AttentionBackIdeal.main_arg2)) (m ((c.tc : Thread Cert.AttentionBackIdeal.nD Cert.AttentionBackIdeal.τ).loc Cert.AttentionBackIdeal.main_arg3))).1 = (fun _ => 1#1)
    ∧ (Cert.Pre_finite_keys.fn (F := Ideal) (m ((c.tc : Thread Cert.AttentionBackIdeal.nD Cert.AttentionBackIdeal.τ).loc Cert.AttentionBackIdeal.main_arg0)) (m ((c.tc : Thread Cert.AttentionBackIdeal.nD Cert.AttentionBackIdeal.τ).loc Cert.AttentionBackIdeal.main_arg1)) (m ((c.tc : Thread Cert.AttentionBackIdeal.nD Cert.AttentionBackIdeal.τ).loc Cert.AttentionBackIdeal.main_arg2)) (m ((c.tc : Thread Cert.AttentionBackIdeal.nD Cert.AttentionBackIdeal.τ).loc Cert.AttentionBackIdeal.main_arg3))).2 = (fun _ => 1#1)

def Pre_AttentionBackRefIdeal (m : (ℓ : Loc Cert.AttentionBackRefIdeal.nD Cert.AttentionBackRefIdeal.τ Cert.AttentionBackRefIdeal.sig) → Buf (Elt Ideal) ℓ) : Prop :=
  True

def Pre_AttentionBackRefIdeal_finite_keys [hPre_finite_keys : Cert.Pre_finite_keys.Facts] (m : (ℓ : Loc Cert.AttentionBackRefIdeal.nD Cert.AttentionBackRefIdeal.τ Cert.AttentionBackRefIdeal.sig) → Buf (Elt Ideal) ℓ) : Prop :=
  ∀ c : Dev Cert.AttentionBackRefIdeal.nD,
    (Cert.Pre_finite_keys.fn (F := Ideal) (m ((c.tc : Thread Cert.AttentionBackRefIdeal.nD Cert.AttentionBackRefIdeal.τ).loc Cert.AttentionBackRefIdeal.main_arg0)) (m ((c.tc : Thread Cert.AttentionBackRefIdeal.nD Cert.AttentionBackRefIdeal.τ).loc Cert.AttentionBackRefIdeal.main_arg1)) (m ((c.tc : Thread Cert.AttentionBackRefIdeal.nD Cert.AttentionBackRefIdeal.τ).loc Cert.AttentionBackRefIdeal.main_arg2)) (m ((c.tc : Thread Cert.AttentionBackRefIdeal.nD Cert.AttentionBackRefIdeal.τ).loc Cert.AttentionBackRefIdeal.main_arg3))).1 = (fun _ => 1#1)
    ∧ (Cert.Pre_finite_keys.fn (F := Ideal) (m ((c.tc : Thread Cert.AttentionBackRefIdeal.nD Cert.AttentionBackRefIdeal.τ).loc Cert.AttentionBackRefIdeal.main_arg0)) (m ((c.tc : Thread Cert.AttentionBackRefIdeal.nD Cert.AttentionBackRefIdeal.τ).loc Cert.AttentionBackRefIdeal.main_arg1)) (m ((c.tc : Thread Cert.AttentionBackRefIdeal.nD Cert.AttentionBackRefIdeal.τ).loc Cert.AttentionBackRefIdeal.main_arg2)) (m ((c.tc : Thread Cert.AttentionBackRefIdeal.nD Cert.AttentionBackRefIdeal.τ).loc Cert.AttentionBackRefIdeal.main_arg3))).2 = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_MixerRows (m : (ℓ : Loc Cert.MixerRows.nD Cert.MixerRows.τ Cert.MixerRows.sig) → Buf (Elt Bits) ℓ) : Prop :=
  True

def Pre_MixerRowsIdeal (m : (ℓ : Loc Cert.MixerRowsIdeal.nD Cert.MixerRowsIdeal.τ Cert.MixerRowsIdeal.sig) → Buf (Elt Ideal) ℓ) : Prop :=
  True

def Pre_MixerRowsIdeal_finite_heads [hPre_finite_heads : Cert.Pre_finite_heads.Facts] (m : (ℓ : Loc Cert.MixerRowsIdeal.nD Cert.MixerRowsIdeal.τ Cert.MixerRowsIdeal.sig) → Buf (Elt Ideal) ℓ) : Prop :=
  ∀ c : Dev Cert.MixerRowsIdeal.nD,
    (Cert.Pre_finite_heads.fn (F := Ideal) (m ((c.tc : Thread Cert.MixerRowsIdeal.nD Cert.MixerRowsIdeal.τ).loc Cert.MixerRowsIdeal.main_arg0)) (m ((c.tc : Thread Cert.MixerRowsIdeal.nD Cert.MixerRowsIdeal.τ).loc Cert.MixerRowsIdeal.main_arg1)) (m ((c.tc : Thread Cert.MixerRowsIdeal.nD Cert.MixerRowsIdeal.τ).loc Cert.MixerRowsIdeal.main_arg2)) (m ((c.tc : Thread Cert.MixerRowsIdeal.nD Cert.MixerRowsIdeal.τ).loc Cert.MixerRowsIdeal.main_arg3)) (m ((c.tc : Thread Cert.MixerRowsIdeal.nD Cert.MixerRowsIdeal.τ).loc Cert.MixerRowsIdeal.main_arg4)) (m ((c.tc : Thread Cert.MixerRowsIdeal.nD Cert.MixerRowsIdeal.τ).loc Cert.MixerRowsIdeal.main_arg5)) (m ((c.tc : Thread Cert.MixerRowsIdeal.nD Cert.MixerRowsIdeal.τ).loc Cert.MixerRowsIdeal.main_arg6)) (m ((c.tc : Thread Cert.MixerRowsIdeal.nD Cert.MixerRowsIdeal.τ).loc Cert.MixerRowsIdeal.main_arg7)) (m ((c.tc : Thread Cert.MixerRowsIdeal.nD Cert.MixerRowsIdeal.τ).loc Cert.MixerRowsIdeal.main_arg8)) (m ((c.tc : Thread Cert.MixerRowsIdeal.nD Cert.MixerRowsIdeal.τ).loc Cert.MixerRowsIdeal.main_arg9))).1 = (fun _ => 1#1)
    ∧ (Cert.Pre_finite_heads.fn (F := Ideal) (m ((c.tc : Thread Cert.MixerRowsIdeal.nD Cert.MixerRowsIdeal.τ).loc Cert.MixerRowsIdeal.main_arg0)) (m ((c.tc : Thread Cert.MixerRowsIdeal.nD Cert.MixerRowsIdeal.τ).loc Cert.MixerRowsIdeal.main_arg1)) (m ((c.tc : Thread Cert.MixerRowsIdeal.nD Cert.MixerRowsIdeal.τ).loc Cert.MixerRowsIdeal.main_arg2)) (m ((c.tc : Thread Cert.MixerRowsIdeal.nD Cert.MixerRowsIdeal.τ).loc Cert.MixerRowsIdeal.main_arg3)) (m ((c.tc : Thread Cert.MixerRowsIdeal.nD Cert.MixerRowsIdeal.τ).loc Cert.MixerRowsIdeal.main_arg4)) (m ((c.tc : Thread Cert.MixerRowsIdeal.nD Cert.MixerRowsIdeal.τ).loc Cert.MixerRowsIdeal.main_arg5)) (m ((c.tc : Thread Cert.MixerRowsIdeal.nD Cert.MixerRowsIdeal.τ).loc Cert.MixerRowsIdeal.main_arg6)) (m ((c.tc : Thread Cert.MixerRowsIdeal.nD Cert.MixerRowsIdeal.τ).loc Cert.MixerRowsIdeal.main_arg7)) (m ((c.tc : Thread Cert.MixerRowsIdeal.nD Cert.MixerRowsIdeal.τ).loc Cert.MixerRowsIdeal.main_arg8)) (m ((c.tc : Thread Cert.MixerRowsIdeal.nD Cert.MixerRowsIdeal.τ).loc Cert.MixerRowsIdeal.main_arg9))).2.1 = (fun _ => 1#1)
    ∧ (Cert.Pre_finite_heads.fn (F := Ideal) (m ((c.tc : Thread Cert.MixerRowsIdeal.nD Cert.MixerRowsIdeal.τ).loc Cert.MixerRowsIdeal.main_arg0)) (m ((c.tc : Thread Cert.MixerRowsIdeal.nD Cert.MixerRowsIdeal.τ).loc Cert.MixerRowsIdeal.main_arg1)) (m ((c.tc : Thread Cert.MixerRowsIdeal.nD Cert.MixerRowsIdeal.τ).loc Cert.MixerRowsIdeal.main_arg2)) (m ((c.tc : Thread Cert.MixerRowsIdeal.nD Cert.MixerRowsIdeal.τ).loc Cert.MixerRowsIdeal.main_arg3)) (m ((c.tc : Thread Cert.MixerRowsIdeal.nD Cert.MixerRowsIdeal.τ).loc Cert.MixerRowsIdeal.main_arg4)) (m ((c.tc : Thread Cert.MixerRowsIdeal.nD Cert.MixerRowsIdeal.τ).loc Cert.MixerRowsIdeal.main_arg5)) (m ((c.tc : Thread Cert.MixerRowsIdeal.nD Cert.MixerRowsIdeal.τ).loc Cert.MixerRowsIdeal.main_arg6)) (m ((c.tc : Thread Cert.MixerRowsIdeal.nD Cert.MixerRowsIdeal.τ).loc Cert.MixerRowsIdeal.main_arg7)) (m ((c.tc : Thread Cert.MixerRowsIdeal.nD Cert.MixerRowsIdeal.τ).loc Cert.MixerRowsIdeal.main_arg8)) (m ((c.tc : Thread Cert.MixerRowsIdeal.nD Cert.MixerRowsIdeal.τ).loc Cert.MixerRowsIdeal.main_arg9))).2.2.1 = (fun _ => 1#1)
    ∧ (Cert.Pre_finite_heads.fn (F := Ideal) (m ((c.tc : Thread Cert.MixerRowsIdeal.nD Cert.MixerRowsIdeal.τ).loc Cert.MixerRowsIdeal.main_arg0)) (m ((c.tc : Thread Cert.MixerRowsIdeal.nD Cert.MixerRowsIdeal.τ).loc Cert.MixerRowsIdeal.main_arg1)) (m ((c.tc : Thread Cert.MixerRowsIdeal.nD Cert.MixerRowsIdeal.τ).loc Cert.MixerRowsIdeal.main_arg2)) (m ((c.tc : Thread Cert.MixerRowsIdeal.nD Cert.MixerRowsIdeal.τ).loc Cert.MixerRowsIdeal.main_arg3)) (m ((c.tc : Thread Cert.MixerRowsIdeal.nD Cert.MixerRowsIdeal.τ).loc Cert.MixerRowsIdeal.main_arg4)) (m ((c.tc : Thread Cert.MixerRowsIdeal.nD Cert.MixerRowsIdeal.τ).loc Cert.MixerRowsIdeal.main_arg5)) (m ((c.tc : Thread Cert.MixerRowsIdeal.nD Cert.MixerRowsIdeal.τ).loc Cert.MixerRowsIdeal.main_arg6)) (m ((c.tc : Thread Cert.MixerRowsIdeal.nD Cert.MixerRowsIdeal.τ).loc Cert.MixerRowsIdeal.main_arg7)) (m ((c.tc : Thread Cert.MixerRowsIdeal.nD Cert.MixerRowsIdeal.τ).loc Cert.MixerRowsIdeal.main_arg8)) (m ((c.tc : Thread Cert.MixerRowsIdeal.nD Cert.MixerRowsIdeal.τ).loc Cert.MixerRowsIdeal.main_arg9))).2.2.2.1 = (fun _ => 1#1)
    ∧ (Cert.Pre_finite_heads.fn (F := Ideal) (m ((c.tc : Thread Cert.MixerRowsIdeal.nD Cert.MixerRowsIdeal.τ).loc Cert.MixerRowsIdeal.main_arg0)) (m ((c.tc : Thread Cert.MixerRowsIdeal.nD Cert.MixerRowsIdeal.τ).loc Cert.MixerRowsIdeal.main_arg1)) (m ((c.tc : Thread Cert.MixerRowsIdeal.nD Cert.MixerRowsIdeal.τ).loc Cert.MixerRowsIdeal.main_arg2)) (m ((c.tc : Thread Cert.MixerRowsIdeal.nD Cert.MixerRowsIdeal.τ).loc Cert.MixerRowsIdeal.main_arg3)) (m ((c.tc : Thread Cert.MixerRowsIdeal.nD Cert.MixerRowsIdeal.τ).loc Cert.MixerRowsIdeal.main_arg4)) (m ((c.tc : Thread Cert.MixerRowsIdeal.nD Cert.MixerRowsIdeal.τ).loc Cert.MixerRowsIdeal.main_arg5)) (m ((c.tc : Thread Cert.MixerRowsIdeal.nD Cert.MixerRowsIdeal.τ).loc Cert.MixerRowsIdeal.main_arg6)) (m ((c.tc : Thread Cert.MixerRowsIdeal.nD Cert.MixerRowsIdeal.τ).loc Cert.MixerRowsIdeal.main_arg7)) (m ((c.tc : Thread Cert.MixerRowsIdeal.nD Cert.MixerRowsIdeal.τ).loc Cert.MixerRowsIdeal.main_arg8)) (m ((c.tc : Thread Cert.MixerRowsIdeal.nD Cert.MixerRowsIdeal.τ).loc Cert.MixerRowsIdeal.main_arg9))).2.2.2.2.1 = (fun _ => 1#1)
    ∧ (Cert.Pre_finite_heads.fn (F := Ideal) (m ((c.tc : Thread Cert.MixerRowsIdeal.nD Cert.MixerRowsIdeal.τ).loc Cert.MixerRowsIdeal.main_arg0)) (m ((c.tc : Thread Cert.MixerRowsIdeal.nD Cert.MixerRowsIdeal.τ).loc Cert.MixerRowsIdeal.main_arg1)) (m ((c.tc : Thread Cert.MixerRowsIdeal.nD Cert.MixerRowsIdeal.τ).loc Cert.MixerRowsIdeal.main_arg2)) (m ((c.tc : Thread Cert.MixerRowsIdeal.nD Cert.MixerRowsIdeal.τ).loc Cert.MixerRowsIdeal.main_arg3)) (m ((c.tc : Thread Cert.MixerRowsIdeal.nD Cert.MixerRowsIdeal.τ).loc Cert.MixerRowsIdeal.main_arg4)) (m ((c.tc : Thread Cert.MixerRowsIdeal.nD Cert.MixerRowsIdeal.τ).loc Cert.MixerRowsIdeal.main_arg5)) (m ((c.tc : Thread Cert.MixerRowsIdeal.nD Cert.MixerRowsIdeal.τ).loc Cert.MixerRowsIdeal.main_arg6)) (m ((c.tc : Thread Cert.MixerRowsIdeal.nD Cert.MixerRowsIdeal.τ).loc Cert.MixerRowsIdeal.main_arg7)) (m ((c.tc : Thread Cert.MixerRowsIdeal.nD Cert.MixerRowsIdeal.τ).loc Cert.MixerRowsIdeal.main_arg8)) (m ((c.tc : Thread Cert.MixerRowsIdeal.nD Cert.MixerRowsIdeal.τ).loc Cert.MixerRowsIdeal.main_arg9))).2.2.2.2.2 = (fun _ => 1#1)

def Pre_MixerRowsRefIdeal (m : (ℓ : Loc Cert.MixerRowsRefIdeal.nD Cert.MixerRowsRefIdeal.τ Cert.MixerRowsRefIdeal.sig) → Buf (Elt Ideal) ℓ) : Prop :=
  True

def Pre_MixerRowsRefIdeal_finite_heads [hPre_finite_heads : Cert.Pre_finite_heads.Facts] (m : (ℓ : Loc Cert.MixerRowsRefIdeal.nD Cert.MixerRowsRefIdeal.τ Cert.MixerRowsRefIdeal.sig) → Buf (Elt Ideal) ℓ) : Prop :=
  ∀ c : Dev Cert.MixerRowsRefIdeal.nD,
    (Cert.Pre_finite_heads.fn (F := Ideal) (m ((c.tc : Thread Cert.MixerRowsRefIdeal.nD Cert.MixerRowsRefIdeal.τ).loc Cert.MixerRowsRefIdeal.main_arg0)) (m ((c.tc : Thread Cert.MixerRowsRefIdeal.nD Cert.MixerRowsRefIdeal.τ).loc Cert.MixerRowsRefIdeal.main_arg1)) (m ((c.tc : Thread Cert.MixerRowsRefIdeal.nD Cert.MixerRowsRefIdeal.τ).loc Cert.MixerRowsRefIdeal.main_arg2)) (m ((c.tc : Thread Cert.MixerRowsRefIdeal.nD Cert.MixerRowsRefIdeal.τ).loc Cert.MixerRowsRefIdeal.main_arg3)) (m ((c.tc : Thread Cert.MixerRowsRefIdeal.nD Cert.MixerRowsRefIdeal.τ).loc Cert.MixerRowsRefIdeal.main_arg4)) (m ((c.tc : Thread Cert.MixerRowsRefIdeal.nD Cert.MixerRowsRefIdeal.τ).loc Cert.MixerRowsRefIdeal.main_arg5)) (m ((c.tc : Thread Cert.MixerRowsRefIdeal.nD Cert.MixerRowsRefIdeal.τ).loc Cert.MixerRowsRefIdeal.main_arg6)) (m ((c.tc : Thread Cert.MixerRowsRefIdeal.nD Cert.MixerRowsRefIdeal.τ).loc Cert.MixerRowsRefIdeal.main_arg7)) (m ((c.tc : Thread Cert.MixerRowsRefIdeal.nD Cert.MixerRowsRefIdeal.τ).loc Cert.MixerRowsRefIdeal.main_arg8)) (m ((c.tc : Thread Cert.MixerRowsRefIdeal.nD Cert.MixerRowsRefIdeal.τ).loc Cert.MixerRowsRefIdeal.main_arg9))).1 = (fun _ => 1#1)
    ∧ (Cert.Pre_finite_heads.fn (F := Ideal) (m ((c.tc : Thread Cert.MixerRowsRefIdeal.nD Cert.MixerRowsRefIdeal.τ).loc Cert.MixerRowsRefIdeal.main_arg0)) (m ((c.tc : Thread Cert.MixerRowsRefIdeal.nD Cert.MixerRowsRefIdeal.τ).loc Cert.MixerRowsRefIdeal.main_arg1)) (m ((c.tc : Thread Cert.MixerRowsRefIdeal.nD Cert.MixerRowsRefIdeal.τ).loc Cert.MixerRowsRefIdeal.main_arg2)) (m ((c.tc : Thread Cert.MixerRowsRefIdeal.nD Cert.MixerRowsRefIdeal.τ).loc Cert.MixerRowsRefIdeal.main_arg3)) (m ((c.tc : Thread Cert.MixerRowsRefIdeal.nD Cert.MixerRowsRefIdeal.τ).loc Cert.MixerRowsRefIdeal.main_arg4)) (m ((c.tc : Thread Cert.MixerRowsRefIdeal.nD Cert.MixerRowsRefIdeal.τ).loc Cert.MixerRowsRefIdeal.main_arg5)) (m ((c.tc : Thread Cert.MixerRowsRefIdeal.nD Cert.MixerRowsRefIdeal.τ).loc Cert.MixerRowsRefIdeal.main_arg6)) (m ((c.tc : Thread Cert.MixerRowsRefIdeal.nD Cert.MixerRowsRefIdeal.τ).loc Cert.MixerRowsRefIdeal.main_arg7)) (m ((c.tc : Thread Cert.MixerRowsRefIdeal.nD Cert.MixerRowsRefIdeal.τ).loc Cert.MixerRowsRefIdeal.main_arg8)) (m ((c.tc : Thread Cert.MixerRowsRefIdeal.nD Cert.MixerRowsRefIdeal.τ).loc Cert.MixerRowsRefIdeal.main_arg9))).2.1 = (fun _ => 1#1)
    ∧ (Cert.Pre_finite_heads.fn (F := Ideal) (m ((c.tc : Thread Cert.MixerRowsRefIdeal.nD Cert.MixerRowsRefIdeal.τ).loc Cert.MixerRowsRefIdeal.main_arg0)) (m ((c.tc : Thread Cert.MixerRowsRefIdeal.nD Cert.MixerRowsRefIdeal.τ).loc Cert.MixerRowsRefIdeal.main_arg1)) (m ((c.tc : Thread Cert.MixerRowsRefIdeal.nD Cert.MixerRowsRefIdeal.τ).loc Cert.MixerRowsRefIdeal.main_arg2)) (m ((c.tc : Thread Cert.MixerRowsRefIdeal.nD Cert.MixerRowsRefIdeal.τ).loc Cert.MixerRowsRefIdeal.main_arg3)) (m ((c.tc : Thread Cert.MixerRowsRefIdeal.nD Cert.MixerRowsRefIdeal.τ).loc Cert.MixerRowsRefIdeal.main_arg4)) (m ((c.tc : Thread Cert.MixerRowsRefIdeal.nD Cert.MixerRowsRefIdeal.τ).loc Cert.MixerRowsRefIdeal.main_arg5)) (m ((c.tc : Thread Cert.MixerRowsRefIdeal.nD Cert.MixerRowsRefIdeal.τ).loc Cert.MixerRowsRefIdeal.main_arg6)) (m ((c.tc : Thread Cert.MixerRowsRefIdeal.nD Cert.MixerRowsRefIdeal.τ).loc Cert.MixerRowsRefIdeal.main_arg7)) (m ((c.tc : Thread Cert.MixerRowsRefIdeal.nD Cert.MixerRowsRefIdeal.τ).loc Cert.MixerRowsRefIdeal.main_arg8)) (m ((c.tc : Thread Cert.MixerRowsRefIdeal.nD Cert.MixerRowsRefIdeal.τ).loc Cert.MixerRowsRefIdeal.main_arg9))).2.2.1 = (fun _ => 1#1)
    ∧ (Cert.Pre_finite_heads.fn (F := Ideal) (m ((c.tc : Thread Cert.MixerRowsRefIdeal.nD Cert.MixerRowsRefIdeal.τ).loc Cert.MixerRowsRefIdeal.main_arg0)) (m ((c.tc : Thread Cert.MixerRowsRefIdeal.nD Cert.MixerRowsRefIdeal.τ).loc Cert.MixerRowsRefIdeal.main_arg1)) (m ((c.tc : Thread Cert.MixerRowsRefIdeal.nD Cert.MixerRowsRefIdeal.τ).loc Cert.MixerRowsRefIdeal.main_arg2)) (m ((c.tc : Thread Cert.MixerRowsRefIdeal.nD Cert.MixerRowsRefIdeal.τ).loc Cert.MixerRowsRefIdeal.main_arg3)) (m ((c.tc : Thread Cert.MixerRowsRefIdeal.nD Cert.MixerRowsRefIdeal.τ).loc Cert.MixerRowsRefIdeal.main_arg4)) (m ((c.tc : Thread Cert.MixerRowsRefIdeal.nD Cert.MixerRowsRefIdeal.τ).loc Cert.MixerRowsRefIdeal.main_arg5)) (m ((c.tc : Thread Cert.MixerRowsRefIdeal.nD Cert.MixerRowsRefIdeal.τ).loc Cert.MixerRowsRefIdeal.main_arg6)) (m ((c.tc : Thread Cert.MixerRowsRefIdeal.nD Cert.MixerRowsRefIdeal.τ).loc Cert.MixerRowsRefIdeal.main_arg7)) (m ((c.tc : Thread Cert.MixerRowsRefIdeal.nD Cert.MixerRowsRefIdeal.τ).loc Cert.MixerRowsRefIdeal.main_arg8)) (m ((c.tc : Thread Cert.MixerRowsRefIdeal.nD Cert.MixerRowsRefIdeal.τ).loc Cert.MixerRowsRefIdeal.main_arg9))).2.2.2.1 = (fun _ => 1#1)
    ∧ (Cert.Pre_finite_heads.fn (F := Ideal) (m ((c.tc : Thread Cert.MixerRowsRefIdeal.nD Cert.MixerRowsRefIdeal.τ).loc Cert.MixerRowsRefIdeal.main_arg0)) (m ((c.tc : Thread Cert.MixerRowsRefIdeal.nD Cert.MixerRowsRefIdeal.τ).loc Cert.MixerRowsRefIdeal.main_arg1)) (m ((c.tc : Thread Cert.MixerRowsRefIdeal.nD Cert.MixerRowsRefIdeal.τ).loc Cert.MixerRowsRefIdeal.main_arg2)) (m ((c.tc : Thread Cert.MixerRowsRefIdeal.nD Cert.MixerRowsRefIdeal.τ).loc Cert.MixerRowsRefIdeal.main_arg3)) (m ((c.tc : Thread Cert.MixerRowsRefIdeal.nD Cert.MixerRowsRefIdeal.τ).loc Cert.MixerRowsRefIdeal.main_arg4)) (m ((c.tc : Thread Cert.MixerRowsRefIdeal.nD Cert.MixerRowsRefIdeal.τ).loc Cert.MixerRowsRefIdeal.main_arg5)) (m ((c.tc : Thread Cert.MixerRowsRefIdeal.nD Cert.MixerRowsRefIdeal.τ).loc Cert.MixerRowsRefIdeal.main_arg6)) (m ((c.tc : Thread Cert.MixerRowsRefIdeal.nD Cert.MixerRowsRefIdeal.τ).loc Cert.MixerRowsRefIdeal.main_arg7)) (m ((c.tc : Thread Cert.MixerRowsRefIdeal.nD Cert.MixerRowsRefIdeal.τ).loc Cert.MixerRowsRefIdeal.main_arg8)) (m ((c.tc : Thread Cert.MixerRowsRefIdeal.nD Cert.MixerRowsRefIdeal.τ).loc Cert.MixerRowsRefIdeal.main_arg9))).2.2.2.2.1 = (fun _ => 1#1)
    ∧ (Cert.Pre_finite_heads.fn (F := Ideal) (m ((c.tc : Thread Cert.MixerRowsRefIdeal.nD Cert.MixerRowsRefIdeal.τ).loc Cert.MixerRowsRefIdeal.main_arg0)) (m ((c.tc : Thread Cert.MixerRowsRefIdeal.nD Cert.MixerRowsRefIdeal.τ).loc Cert.MixerRowsRefIdeal.main_arg1)) (m ((c.tc : Thread Cert.MixerRowsRefIdeal.nD Cert.MixerRowsRefIdeal.τ).loc Cert.MixerRowsRefIdeal.main_arg2)) (m ((c.tc : Thread Cert.MixerRowsRefIdeal.nD Cert.MixerRowsRefIdeal.τ).loc Cert.MixerRowsRefIdeal.main_arg3)) (m ((c.tc : Thread Cert.MixerRowsRefIdeal.nD Cert.MixerRowsRefIdeal.τ).loc Cert.MixerRowsRefIdeal.main_arg4)) (m ((c.tc : Thread Cert.MixerRowsRefIdeal.nD Cert.MixerRowsRefIdeal.τ).loc Cert.MixerRowsRefIdeal.main_arg5)) (m ((c.tc : Thread Cert.MixerRowsRefIdeal.nD Cert.MixerRowsRefIdeal.τ).loc Cert.MixerRowsRefIdeal.main_arg6)) (m ((c.tc : Thread Cert.MixerRowsRefIdeal.nD Cert.MixerRowsRefIdeal.τ).loc Cert.MixerRowsRefIdeal.main_arg7)) (m ((c.tc : Thread Cert.MixerRowsRefIdeal.nD Cert.MixerRowsRefIdeal.τ).loc Cert.MixerRowsRefIdeal.main_arg8)) (m ((c.tc : Thread Cert.MixerRowsRefIdeal.nD Cert.MixerRowsRefIdeal.τ).loc Cert.MixerRowsRefIdeal.main_arg9))).2.2.2.2.2 = (fun _ => 1#1)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3))
      ∧ r.2.sem = fun _ => 0)

def quiescent_MergeBackRefIdeal [hMergeBackRefIdeal : Cert.MergeBackRefIdeal.Facts] : Prop :=
  ∀ (m : (ℓ : Loc Cert.MergeBackRefIdeal.nD Cert.MergeBackRefIdeal.τ Cert.MergeBackRefIdeal.sig) → Buf (Elt Ideal) ℓ) (g : Dev Cert.MergeBackRefIdeal.nD → PrngReg), Pre_MergeBackRefIdeal m →
    θ_run (Cert.MergeBackRefIdeal.defs (F := Ideal)) (onTc (τ := Cert.MergeBackRefIdeal.τ) (Cert.MergeBackRefIdeal.main (F := Ideal))) ⟨m, fun _ => 0, g⟩ (fun r => (∀ c : Dev Cert.MergeBackRefIdeal.nD,
      r.2.mem ((c.tc : Thread Cert.MergeBackRefIdeal.nD Cert.MergeBackRefIdeal.τ).loc Cert.MergeBackRefIdeal.main_arg0) = m ((c.tc : Thread Cert.MergeBackRefIdeal.nD Cert.MergeBackRefIdeal.τ).loc Cert.MergeBackRefIdeal.main_arg0)
      ∧ r.2.mem ((c.tc : Thread Cert.MergeBackRefIdeal.nD Cert.MergeBackRefIdeal.τ).loc Cert.MergeBackRefIdeal.main_arg1) = m ((c.tc : Thread Cert.MergeBackRefIdeal.nD Cert.MergeBackRefIdeal.τ).loc Cert.MergeBackRefIdeal.main_arg1)
      ∧ r.2.mem ((c.tc : Thread Cert.MergeBackRefIdeal.nD Cert.MergeBackRefIdeal.τ).loc Cert.MergeBackRefIdeal.main_arg2) = m ((c.tc : Thread Cert.MergeBackRefIdeal.nD Cert.MergeBackRefIdeal.τ).loc Cert.MergeBackRefIdeal.main_arg2)
      ∧ r.2.mem ((c.tc : Thread Cert.MergeBackRefIdeal.nD Cert.MergeBackRefIdeal.τ).loc Cert.MergeBackRefIdeal.main_arg3) = m ((c.tc : Thread Cert.MergeBackRefIdeal.nD Cert.MergeBackRefIdeal.τ).loc Cert.MergeBackRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateBack [hGateBack : Cert.GateBack.Facts] : Prop :=
  ∀ (m : (ℓ : Loc Cert.GateBack.nD Cert.GateBack.τ Cert.GateBack.sig) → Buf (Elt Bits) ℓ) (g : Dev Cert.GateBack.nD → PrngReg), Pre_GateBack m →
    θ_run (Cert.GateBack.defs (F := Bits)) (onTc (τ := Cert.GateBack.τ) (Cert.GateBack.main (F := Bits))) ⟨m, fun _ => 0, g⟩ (fun r => (∀ c : Dev Cert.GateBack.nD,
      r.2.mem ((c.tc : Thread Cert.GateBack.nD Cert.GateBack.τ).loc Cert.GateBack.main_arg0) = m ((c.tc : Thread Cert.GateBack.nD Cert.GateBack.τ).loc Cert.GateBack.main_arg0)
      ∧ r.2.mem ((c.tc : Thread Cert.GateBack.nD Cert.GateBack.τ).loc Cert.GateBack.main_arg1) = m ((c.tc : Thread Cert.GateBack.nD Cert.GateBack.τ).loc Cert.GateBack.main_arg1)
      ∧ r.2.mem ((c.tc : Thread Cert.GateBack.nD Cert.GateBack.τ).loc Cert.GateBack.main_arg2) = m ((c.tc : Thread Cert.GateBack.nD Cert.GateBack.τ).loc Cert.GateBack.main_arg2))
      ∧ r.2.sem = fun _ => 0)

def quiescent_GateBackIdeal [hGateBackIdeal : Cert.GateBackIdeal.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ r.2.sem = fun _ => 0)

def quiescent_GateBackRefIdeal [hGateBackRefIdeal : Cert.GateBackRefIdeal.Facts] : Prop :=
  ∀ (m : (ℓ : Loc Cert.GateBackRefIdeal.nD Cert.GateBackRefIdeal.τ Cert.GateBackRefIdeal.sig) → Buf (Elt Ideal) ℓ) (g : Dev Cert.GateBackRefIdeal.nD → PrngReg), Pre_GateBackRefIdeal m →
    θ_run (Cert.GateBackRefIdeal.defs (F := Ideal)) (onTc (τ := Cert.GateBackRefIdeal.τ) (Cert.GateBackRefIdeal.main (F := Ideal))) ⟨m, fun _ => 0, g⟩ (fun r => (∀ c : Dev Cert.GateBackRefIdeal.nD,
      r.2.mem ((c.tc : Thread Cert.GateBackRefIdeal.nD Cert.GateBackRefIdeal.τ).loc Cert.GateBackRefIdeal.main_arg0) = m ((c.tc : Thread Cert.GateBackRefIdeal.nD Cert.GateBackRefIdeal.τ).loc Cert.GateBackRefIdeal.main_arg0)
      ∧ r.2.mem ((c.tc : Thread Cert.GateBackRefIdeal.nD Cert.GateBackRefIdeal.τ).loc Cert.GateBackRefIdeal.main_arg1) = m ((c.tc : Thread Cert.GateBackRefIdeal.nD Cert.GateBackRefIdeal.τ).loc Cert.GateBackRefIdeal.main_arg1)
      ∧ r.2.mem ((c.tc : Thread Cert.GateBackRefIdeal.nD Cert.GateBackRefIdeal.τ).loc Cert.GateBackRefIdeal.main_arg2) = m ((c.tc : Thread Cert.GateBackRefIdeal.nD Cert.GateBackRefIdeal.τ).loc Cert.GateBackRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_OutProduct [hOutProduct : Cert.OutProduct.Facts] : Prop :=
  ∀ (m : (ℓ : Loc Cert.OutProduct.nD Cert.OutProduct.τ Cert.OutProduct.sig) → Buf (Elt Bits) ℓ) (g : Dev Cert.OutProduct.nD → PrngReg), Pre_OutProduct m →
    θ_run (Cert.OutProduct.defs (F := Bits)) (onTc (τ := Cert.OutProduct.τ) (Cert.OutProduct.main (F := Bits))) ⟨m, fun _ => 0, g⟩ (fun r => (∀ c : Dev Cert.OutProduct.nD,
      r.2.mem ((c.tc : Thread Cert.OutProduct.nD Cert.OutProduct.τ).loc Cert.OutProduct.main_arg0) = m ((c.tc : Thread Cert.OutProduct.nD Cert.OutProduct.τ).loc Cert.OutProduct.main_arg0)
      ∧ r.2.mem ((c.tc : Thread Cert.OutProduct.nD Cert.OutProduct.τ).loc Cert.OutProduct.main_arg1) = m ((c.tc : Thread Cert.OutProduct.nD Cert.OutProduct.τ).loc Cert.OutProduct.main_arg1))
      ∧ r.2.sem = fun _ => 0)

def quiescent_OutProductIdeal [hOutProductIdeal : Cert.OutProductIdeal.Facts] : Prop :=
  ∀ (m : (ℓ : Loc Cert.OutProductIdeal.nD Cert.OutProductIdeal.τ Cert.OutProductIdeal.sig) → Buf (Elt Ideal) ℓ) (g : Dev Cert.OutProductIdeal.nD → PrngReg), Pre_OutProductIdeal m →
    θ_run (Cert.OutProductIdeal.defs (F := Ideal)) (onTc (τ := Cert.OutProductIdeal.τ) (Cert.OutProductIdeal.main (F := Ideal))) ⟨m, fun _ => 0, g⟩ (fun r => (∀ c : Dev Cert.OutProductIdeal.nD,
      r.2.mem ((c.tc : Thread Cert.OutProductIdeal.nD Cert.OutProductIdeal.τ).loc Cert.OutProductIdeal.main_arg0) = m ((c.tc : Thread Cert.OutProductIdeal.nD Cert.OutProductIdeal.τ).loc Cert.OutProductIdeal.main_arg0)
      ∧ r.2.mem ((c.tc : Thread Cert.OutProductIdeal.nD Cert.OutProductIdeal.τ).loc Cert.OutProductIdeal.main_arg1) = m ((c.tc : Thread Cert.OutProductIdeal.nD Cert.OutProductIdeal.τ).loc Cert.OutProductIdeal.main_arg1))
      ∧ r.2.sem = fun _ => 0)

def quiescent_OutProductRefIdeal [hOutProductRefIdeal : Cert.OutProductRefIdeal.Facts] : Prop :=
  ∀ (m : (ℓ : Loc Cert.OutProductRefIdeal.nD Cert.OutProductRefIdeal.τ Cert.OutProductRefIdeal.sig) → Buf (Elt Ideal) ℓ) (g : Dev Cert.OutProductRefIdeal.nD → PrngReg), Pre_OutProductRefIdeal m →
    θ_run (Cert.OutProductRefIdeal.defs (F := Ideal)) (onTc (τ := Cert.OutProductRefIdeal.τ) (Cert.OutProductRefIdeal.main (F := Ideal))) ⟨m, fun _ => 0, g⟩ (fun r => (∀ c : Dev Cert.OutProductRefIdeal.nD,
      r.2.mem ((c.tc : Thread Cert.OutProductRefIdeal.nD Cert.OutProductRefIdeal.τ).loc Cert.OutProductRefIdeal.main_arg0) = m ((c.tc : Thread Cert.OutProductRefIdeal.nD Cert.OutProductRefIdeal.τ).loc Cert.OutProductRefIdeal.main_arg0)
      ∧ r.2.mem ((c.tc : Thread Cert.OutProductRefIdeal.nD Cert.OutProductRefIdeal.τ).loc Cert.OutProductRefIdeal.main_arg1) = m ((c.tc : Thread Cert.OutProductRefIdeal.nD Cert.OutProductRefIdeal.τ).loc Cert.OutProductRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1))
      ∧ r.2.sem = fun _ => 0)

def quiescent_ShiftBack [hShiftBack : Cert.ShiftBack.Facts] : Prop :=
  ∀ (m : (ℓ : Loc Cert.ShiftBack.nD Cert.ShiftBack.τ Cert.ShiftBack.sig) → Buf (Elt Bits) ℓ) (g : Dev Cert.ShiftBack.nD → PrngReg), Pre_ShiftBack m →
    θ_run (Cert.ShiftBack.defs (F := Bits)) (onTc (τ := Cert.ShiftBack.τ) (Cert.ShiftBack.main (F := Bits))) ⟨m, fun _ => 0, g⟩ (fun r => (∀ c : Dev Cert.ShiftBack.nD,
      r.2.mem ((c.tc : Thread Cert.ShiftBack.nD Cert.ShiftBack.τ).loc Cert.ShiftBack.main_arg0) = m ((c.tc : Thread Cert.ShiftBack.nD Cert.ShiftBack.τ).loc Cert.ShiftBack.main_arg0)
      ∧ r.2.mem ((c.tc : Thread Cert.ShiftBack.nD Cert.ShiftBack.τ).loc Cert.ShiftBack.main_arg1) = m ((c.tc : Thread Cert.ShiftBack.nD Cert.ShiftBack.τ).loc Cert.ShiftBack.main_arg1)
      ∧ r.2.mem ((c.tc : Thread Cert.ShiftBack.nD Cert.ShiftBack.τ).loc Cert.ShiftBack.main_arg2) = m ((c.tc : Thread Cert.ShiftBack.nD Cert.ShiftBack.τ).loc Cert.ShiftBack.main_arg2))
      ∧ r.2.sem = fun _ => 0)

def quiescent_ShiftBackIdeal [hShiftBackIdeal : Cert.ShiftBackIdeal.Facts] : Prop :=
  ∀ (m : (ℓ : Loc Cert.ShiftBackIdeal.nD Cert.ShiftBackIdeal.τ Cert.ShiftBackIdeal.sig) → Buf (Elt Ideal) ℓ) (g : Dev Cert.ShiftBackIdeal.nD → PrngReg), Pre_ShiftBackIdeal m →
    θ_run (Cert.ShiftBackIdeal.defs (F := Ideal)) (onTc (τ := Cert.ShiftBackIdeal.τ) (Cert.ShiftBackIdeal.main (F := Ideal))) ⟨m, fun _ => 0, g⟩ (fun r => (∀ c : Dev Cert.ShiftBackIdeal.nD,
      r.2.mem ((c.tc : Thread Cert.ShiftBackIdeal.nD Cert.ShiftBackIdeal.τ).loc Cert.ShiftBackIdeal.main_arg0) = m ((c.tc : Thread Cert.ShiftBackIdeal.nD Cert.ShiftBackIdeal.τ).loc Cert.ShiftBackIdeal.main_arg0)
      ∧ r.2.mem ((c.tc : Thread Cert.ShiftBackIdeal.nD Cert.ShiftBackIdeal.τ).loc Cert.ShiftBackIdeal.main_arg1) = m ((c.tc : Thread Cert.ShiftBackIdeal.nD Cert.ShiftBackIdeal.τ).loc Cert.ShiftBackIdeal.main_arg1)
      ∧ r.2.mem ((c.tc : Thread Cert.ShiftBackIdeal.nD Cert.ShiftBackIdeal.τ).loc Cert.ShiftBackIdeal.main_arg2) = m ((c.tc : Thread Cert.ShiftBackIdeal.nD Cert.ShiftBackIdeal.τ).loc Cert.ShiftBackIdeal.main_arg2))
      ∧ r.2.sem = fun _ => 0)

def quiescent_ShiftBackRefIdeal [hShiftBackRefIdeal : Cert.ShiftBackRefIdeal.Facts] : Prop :=
  ∀ (m : (ℓ : Loc Cert.ShiftBackRefIdeal.nD Cert.ShiftBackRefIdeal.τ Cert.ShiftBackRefIdeal.sig) → Buf (Elt Ideal) ℓ) (g : Dev Cert.ShiftBackRefIdeal.nD → PrngReg), Pre_ShiftBackRefIdeal m →
    θ_run (Cert.ShiftBackRefIdeal.defs (F := Ideal)) (onTc (τ := Cert.ShiftBackRefIdeal.τ) (Cert.ShiftBackRefIdeal.main (F := Ideal))) ⟨m, fun _ => 0, g⟩ (fun r => (∀ c : Dev Cert.ShiftBackRefIdeal.nD,
      r.2.mem ((c.tc : Thread Cert.ShiftBackRefIdeal.nD Cert.ShiftBackRefIdeal.τ).loc Cert.ShiftBackRefIdeal.main_arg0) = m ((c.tc : Thread Cert.ShiftBackRefIdeal.nD Cert.ShiftBackRefIdeal.τ).loc Cert.ShiftBackRefIdeal.main_arg0)
      ∧ r.2.mem ((c.tc : Thread Cert.ShiftBackRefIdeal.nD Cert.ShiftBackRefIdeal.τ).loc Cert.ShiftBackRefIdeal.main_arg1) = m ((c.tc : Thread Cert.ShiftBackRefIdeal.nD Cert.ShiftBackRefIdeal.τ).loc Cert.ShiftBackRefIdeal.main_arg1)
      ∧ r.2.mem ((c.tc : Thread Cert.ShiftBackRefIdeal.nD Cert.ShiftBackRefIdeal.τ).loc Cert.ShiftBackRefIdeal.main_arg2) = m ((c.tc : Thread Cert.ShiftBackRefIdeal.nD Cert.ShiftBackRefIdeal.τ).loc Cert.ShiftBackRefIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_rows [hAttentionIdeal : Cert.AttentionIdeal.Facts] [hPre_finite_rows : Cert.Pre_finite_rows.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_rows m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_rows [hAttentionRefIdeal : Cert.AttentionRefIdeal.Facts] [hPre_finite_rows : Cert.Pre_finite_rows.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_rows m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_InProduct [hInProduct : Cert.InProduct.Facts] : Prop :=
  ∀ (m : (ℓ : Loc Cert.InProduct.nD Cert.InProduct.τ Cert.InProduct.sig) → Buf (Elt Bits) ℓ) (g : Dev Cert.InProduct.nD → PrngReg), Pre_InProduct m →
    θ_run (Cert.InProduct.defs (F := Bits)) (onTc (τ := Cert.InProduct.τ) (Cert.InProduct.main (F := Bits))) ⟨m, fun _ => 0, g⟩ (fun r => (∀ c : Dev Cert.InProduct.nD,
      r.2.mem ((c.tc : Thread Cert.InProduct.nD Cert.InProduct.τ).loc Cert.InProduct.main_arg0) = m ((c.tc : Thread Cert.InProduct.nD Cert.InProduct.τ).loc Cert.InProduct.main_arg0)
      ∧ r.2.mem ((c.tc : Thread Cert.InProduct.nD Cert.InProduct.τ).loc Cert.InProduct.main_arg1) = m ((c.tc : Thread Cert.InProduct.nD Cert.InProduct.τ).loc Cert.InProduct.main_arg1))
      ∧ r.2.sem = fun _ => 0)

def quiescent_InProductIdeal [hInProductIdeal : Cert.InProductIdeal.Facts] : Prop :=
  ∀ (m : (ℓ : Loc Cert.InProductIdeal.nD Cert.InProductIdeal.τ Cert.InProductIdeal.sig) → Buf (Elt Ideal) ℓ) (g : Dev Cert.InProductIdeal.nD → PrngReg), Pre_InProductIdeal m →
    θ_run (Cert.InProductIdeal.defs (F := Ideal)) (onTc (τ := Cert.InProductIdeal.τ) (Cert.InProductIdeal.main (F := Ideal))) ⟨m, fun _ => 0, g⟩ (fun r => (∀ c : Dev Cert.InProductIdeal.nD,
      r.2.mem ((c.tc : Thread Cert.InProductIdeal.nD Cert.InProductIdeal.τ).loc Cert.InProductIdeal.main_arg0) = m ((c.tc : Thread Cert.InProductIdeal.nD Cert.InProductIdeal.τ).loc Cert.InProductIdeal.main_arg0)
      ∧ r.2.mem ((c.tc : Thread Cert.InProductIdeal.nD Cert.InProductIdeal.τ).loc Cert.InProductIdeal.main_arg1) = m ((c.tc : Thread Cert.InProductIdeal.nD Cert.InProductIdeal.τ).loc Cert.InProductIdeal.main_arg1))
      ∧ r.2.sem = fun _ => 0)

def quiescent_InProductRefIdeal [hInProductRefIdeal : Cert.InProductRefIdeal.Facts] : Prop :=
  ∀ (m : (ℓ : Loc Cert.InProductRefIdeal.nD Cert.InProductRefIdeal.τ Cert.InProductRefIdeal.sig) → Buf (Elt Ideal) ℓ) (g : Dev Cert.InProductRefIdeal.nD → PrngReg), Pre_InProductRefIdeal m →
    θ_run (Cert.InProductRefIdeal.defs (F := Ideal)) (onTc (τ := Cert.InProductRefIdeal.τ) (Cert.InProductRefIdeal.main (F := Ideal))) ⟨m, fun _ => 0, g⟩ (fun r => (∀ c : Dev Cert.InProductRefIdeal.nD,
      r.2.mem ((c.tc : Thread Cert.InProductRefIdeal.nD Cert.InProductRefIdeal.τ).loc Cert.InProductRefIdeal.main_arg0) = m ((c.tc : Thread Cert.InProductRefIdeal.nD Cert.InProductRefIdeal.τ).loc Cert.InProductRefIdeal.main_arg0)
      ∧ r.2.mem ((c.tc : Thread Cert.InProductRefIdeal.nD Cert.InProductRefIdeal.τ).loc Cert.InProductRefIdeal.main_arg1) = m ((c.tc : Thread Cert.InProductRefIdeal.nD Cert.InProductRefIdeal.τ).loc Cert.InProductRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_AttentionBack [hAttentionBack : Cert.AttentionBack.Facts] : Prop :=
  ∀ (m : (ℓ : Loc Cert.AttentionBack.nD Cert.AttentionBack.τ Cert.AttentionBack.sig) → Buf (Elt Bits) ℓ) (g : Dev Cert.AttentionBack.nD → PrngReg), Pre_AttentionBack m →
    θ_run (Cert.AttentionBack.defs (F := Bits)) (onTc (τ := Cert.AttentionBack.τ) (Cert.AttentionBack.main (F := Bits))) ⟨m, fun _ => 0, g⟩ (fun r => (∀ c : Dev Cert.AttentionBack.nD,
      r.2.mem ((c.tc : Thread Cert.AttentionBack.nD Cert.AttentionBack.τ).loc Cert.AttentionBack.main_arg0) = m ((c.tc : Thread Cert.AttentionBack.nD Cert.AttentionBack.τ).loc Cert.AttentionBack.main_arg0)
      ∧ r.2.mem ((c.tc : Thread Cert.AttentionBack.nD Cert.AttentionBack.τ).loc Cert.AttentionBack.main_arg1) = m ((c.tc : Thread Cert.AttentionBack.nD Cert.AttentionBack.τ).loc Cert.AttentionBack.main_arg1)
      ∧ r.2.mem ((c.tc : Thread Cert.AttentionBack.nD Cert.AttentionBack.τ).loc Cert.AttentionBack.main_arg2) = m ((c.tc : Thread Cert.AttentionBack.nD Cert.AttentionBack.τ).loc Cert.AttentionBack.main_arg2)
      ∧ r.2.mem ((c.tc : Thread Cert.AttentionBack.nD Cert.AttentionBack.τ).loc Cert.AttentionBack.main_arg3) = m ((c.tc : Thread Cert.AttentionBack.nD Cert.AttentionBack.τ).loc Cert.AttentionBack.main_arg3))
      ∧ r.2.sem = fun _ => 0)

def quiescent_AttentionBackIdeal [hAttentionBackIdeal : Cert.AttentionBackIdeal.Facts] : Prop :=
  ∀ (m : (ℓ : Loc Cert.AttentionBackIdeal.nD Cert.AttentionBackIdeal.τ Cert.AttentionBackIdeal.sig) → Buf (Elt Ideal) ℓ) (g : Dev Cert.AttentionBackIdeal.nD → PrngReg), Pre_AttentionBackIdeal m →
    θ_run (Cert.AttentionBackIdeal.defs (F := Ideal)) (onTc (τ := Cert.AttentionBackIdeal.τ) (Cert.AttentionBackIdeal.main (F := Ideal))) ⟨m, fun _ => 0, g⟩ (fun r => (∀ c : Dev Cert.AttentionBackIdeal.nD,
      r.2.mem ((c.tc : Thread Cert.AttentionBackIdeal.nD Cert.AttentionBackIdeal.τ).loc Cert.AttentionBackIdeal.main_arg0) = m ((c.tc : Thread Cert.AttentionBackIdeal.nD Cert.AttentionBackIdeal.τ).loc Cert.AttentionBackIdeal.main_arg0)
      ∧ r.2.mem ((c.tc : Thread Cert.AttentionBackIdeal.nD Cert.AttentionBackIdeal.τ).loc Cert.AttentionBackIdeal.main_arg1) = m ((c.tc : Thread Cert.AttentionBackIdeal.nD Cert.AttentionBackIdeal.τ).loc Cert.AttentionBackIdeal.main_arg1)
      ∧ r.2.mem ((c.tc : Thread Cert.AttentionBackIdeal.nD Cert.AttentionBackIdeal.τ).loc Cert.AttentionBackIdeal.main_arg2) = m ((c.tc : Thread Cert.AttentionBackIdeal.nD Cert.AttentionBackIdeal.τ).loc Cert.AttentionBackIdeal.main_arg2)
      ∧ r.2.mem ((c.tc : Thread Cert.AttentionBackIdeal.nD Cert.AttentionBackIdeal.τ).loc Cert.AttentionBackIdeal.main_arg3) = m ((c.tc : Thread Cert.AttentionBackIdeal.nD Cert.AttentionBackIdeal.τ).loc Cert.AttentionBackIdeal.main_arg3))
      ∧ r.2.sem = fun _ => 0)

def quiescent_AttentionBackIdeal_pre_finite_keys [hAttentionBackIdeal : Cert.AttentionBackIdeal.Facts] [hPre_finite_keys : Cert.Pre_finite_keys.Facts] : Prop :=
  ∀ (m : (ℓ : Loc Cert.AttentionBackIdeal.nD Cert.AttentionBackIdeal.τ Cert.AttentionBackIdeal.sig) → Buf (Elt Ideal) ℓ) (g : Dev Cert.AttentionBackIdeal.nD → PrngReg), Pre_AttentionBackIdeal_finite_keys m →
    θ_run (Cert.AttentionBackIdeal.defs (F := Ideal)) (onTc (τ := Cert.AttentionBackIdeal.τ) (Cert.AttentionBackIdeal.main (F := Ideal))) ⟨m, fun _ => 0, g⟩ (fun r => (∀ c : Dev Cert.AttentionBackIdeal.nD,
      r.2.mem ((c.tc : Thread Cert.AttentionBackIdeal.nD Cert.AttentionBackIdeal.τ).loc Cert.AttentionBackIdeal.main_arg0) = m ((c.tc : Thread Cert.AttentionBackIdeal.nD Cert.AttentionBackIdeal.τ).loc Cert.AttentionBackIdeal.main_arg0)
      ∧ r.2.mem ((c.tc : Thread Cert.AttentionBackIdeal.nD Cert.AttentionBackIdeal.τ).loc Cert.AttentionBackIdeal.main_arg1) = m ((c.tc : Thread Cert.AttentionBackIdeal.nD Cert.AttentionBackIdeal.τ).loc Cert.AttentionBackIdeal.main_arg1)
      ∧ r.2.mem ((c.tc : Thread Cert.AttentionBackIdeal.nD Cert.AttentionBackIdeal.τ).loc Cert.AttentionBackIdeal.main_arg2) = m ((c.tc : Thread Cert.AttentionBackIdeal.nD Cert.AttentionBackIdeal.τ).loc Cert.AttentionBackIdeal.main_arg2)
      ∧ r.2.mem ((c.tc : Thread Cert.AttentionBackIdeal.nD Cert.AttentionBackIdeal.τ).loc Cert.AttentionBackIdeal.main_arg3) = m ((c.tc : Thread Cert.AttentionBackIdeal.nD Cert.AttentionBackIdeal.τ).loc Cert.AttentionBackIdeal.main_arg3))
      ∧ r.2.sem = fun _ => 0)

def quiescent_AttentionBackRefIdeal [hAttentionBackRefIdeal : Cert.AttentionBackRefIdeal.Facts] : Prop :=
  ∀ (m : (ℓ : Loc Cert.AttentionBackRefIdeal.nD Cert.AttentionBackRefIdeal.τ Cert.AttentionBackRefIdeal.sig) → Buf (Elt Ideal) ℓ) (g : Dev Cert.AttentionBackRefIdeal.nD → PrngReg), Pre_AttentionBackRefIdeal m →
    θ_run (Cert.AttentionBackRefIdeal.defs (F := Ideal)) (onTc (τ := Cert.AttentionBackRefIdeal.τ) (Cert.AttentionBackRefIdeal.main (F := Ideal))) ⟨m, fun _ => 0, g⟩ (fun r => (∀ c : Dev Cert.AttentionBackRefIdeal.nD,
      r.2.mem ((c.tc : Thread Cert.AttentionBackRefIdeal.nD Cert.AttentionBackRefIdeal.τ).loc Cert.AttentionBackRefIdeal.main_arg0) = m ((c.tc : Thread Cert.AttentionBackRefIdeal.nD Cert.AttentionBackRefIdeal.τ).loc Cert.AttentionBackRefIdeal.main_arg0)
      ∧ r.2.mem ((c.tc : Thread Cert.AttentionBackRefIdeal.nD Cert.AttentionBackRefIdeal.τ).loc Cert.AttentionBackRefIdeal.main_arg1) = m ((c.tc : Thread Cert.AttentionBackRefIdeal.nD Cert.AttentionBackRefIdeal.τ).loc Cert.AttentionBackRefIdeal.main_arg1)
      ∧ r.2.mem ((c.tc : Thread Cert.AttentionBackRefIdeal.nD Cert.AttentionBackRefIdeal.τ).loc Cert.AttentionBackRefIdeal.main_arg2) = m ((c.tc : Thread Cert.AttentionBackRefIdeal.nD Cert.AttentionBackRefIdeal.τ).loc Cert.AttentionBackRefIdeal.main_arg2)
      ∧ r.2.mem ((c.tc : Thread Cert.AttentionBackRefIdeal.nD Cert.AttentionBackRefIdeal.τ).loc Cert.AttentionBackRefIdeal.main_arg3) = m ((c.tc : Thread Cert.AttentionBackRefIdeal.nD Cert.AttentionBackRefIdeal.τ).loc Cert.AttentionBackRefIdeal.main_arg3))
      ∧ r.2.sem = fun _ => 0)

def quiescent_AttentionBackRefIdeal_pre_finite_keys [hAttentionBackRefIdeal : Cert.AttentionBackRefIdeal.Facts] [hPre_finite_keys : Cert.Pre_finite_keys.Facts] : Prop :=
  ∀ (m : (ℓ : Loc Cert.AttentionBackRefIdeal.nD Cert.AttentionBackRefIdeal.τ Cert.AttentionBackRefIdeal.sig) → Buf (Elt Ideal) ℓ) (g : Dev Cert.AttentionBackRefIdeal.nD → PrngReg), Pre_AttentionBackRefIdeal_finite_keys m →
    θ_run (Cert.AttentionBackRefIdeal.defs (F := Ideal)) (onTc (τ := Cert.AttentionBackRefIdeal.τ) (Cert.AttentionBackRefIdeal.main (F := Ideal))) ⟨m, fun _ => 0, g⟩ (fun r => (∀ c : Dev Cert.AttentionBackRefIdeal.nD,
      r.2.mem ((c.tc : Thread Cert.AttentionBackRefIdeal.nD Cert.AttentionBackRefIdeal.τ).loc Cert.AttentionBackRefIdeal.main_arg0) = m ((c.tc : Thread Cert.AttentionBackRefIdeal.nD Cert.AttentionBackRefIdeal.τ).loc Cert.AttentionBackRefIdeal.main_arg0)
      ∧ r.2.mem ((c.tc : Thread Cert.AttentionBackRefIdeal.nD Cert.AttentionBackRefIdeal.τ).loc Cert.AttentionBackRefIdeal.main_arg1) = m ((c.tc : Thread Cert.AttentionBackRefIdeal.nD Cert.AttentionBackRefIdeal.τ).loc Cert.AttentionBackRefIdeal.main_arg1)
      ∧ r.2.mem ((c.tc : Thread Cert.AttentionBackRefIdeal.nD Cert.AttentionBackRefIdeal.τ).loc Cert.AttentionBackRefIdeal.main_arg2) = m ((c.tc : Thread Cert.AttentionBackRefIdeal.nD Cert.AttentionBackRefIdeal.τ).loc Cert.AttentionBackRefIdeal.main_arg2)
      ∧ r.2.mem ((c.tc : Thread Cert.AttentionBackRefIdeal.nD Cert.AttentionBackRefIdeal.τ).loc Cert.AttentionBackRefIdeal.main_arg3) = m ((c.tc : Thread Cert.AttentionBackRefIdeal.nD Cert.AttentionBackRefIdeal.τ).loc Cert.AttentionBackRefIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3)
      ∧ r.2.mem ((c.tc : Thread Cert.LatentRefIdeal.nD Cert.LatentRefIdeal.τ).loc Cert.LatentRefIdeal.main_arg4) = m ((c.tc : Thread Cert.LatentRefIdeal.nD Cert.LatentRefIdeal.τ).loc Cert.LatentRefIdeal.main_arg4)
      ∧ r.2.mem ((c.tc : Thread Cert.LatentRefIdeal.nD Cert.LatentRefIdeal.τ).loc Cert.LatentRefIdeal.main_arg5) = m ((c.tc : Thread Cert.LatentRefIdeal.nD Cert.LatentRefIdeal.τ).loc Cert.LatentRefIdeal.main_arg5)
      ∧ r.2.mem ((c.tc : Thread Cert.LatentRefIdeal.nD Cert.LatentRefIdeal.τ).loc Cert.LatentRefIdeal.main_arg6) = m ((c.tc : Thread Cert.LatentRefIdeal.nD Cert.LatentRefIdeal.τ).loc Cert.LatentRefIdeal.main_arg6))
      ∧ r.2.sem = fun _ => 0)

def quiescent_MixerRows [hMixerRows : Cert.MixerRows.Facts] : Prop :=
  ∀ (m : (ℓ : Loc Cert.MixerRows.nD Cert.MixerRows.τ Cert.MixerRows.sig) → Buf (Elt Bits) ℓ) (g : Dev Cert.MixerRows.nD → PrngReg), Pre_MixerRows m →
    θ_run (Cert.MixerRows.defs (F := Bits)) (onTc (τ := Cert.MixerRows.τ) (Cert.MixerRows.main (F := Bits))) ⟨m, fun _ => 0, g⟩ (fun r => (∀ c : Dev Cert.MixerRows.nD,
      r.2.mem ((c.tc : Thread Cert.MixerRows.nD Cert.MixerRows.τ).loc Cert.MixerRows.main_arg0) = m ((c.tc : Thread Cert.MixerRows.nD Cert.MixerRows.τ).loc Cert.MixerRows.main_arg0)
      ∧ r.2.mem ((c.tc : Thread Cert.MixerRows.nD Cert.MixerRows.τ).loc Cert.MixerRows.main_arg1) = m ((c.tc : Thread Cert.MixerRows.nD Cert.MixerRows.τ).loc Cert.MixerRows.main_arg1)
      ∧ r.2.mem ((c.tc : Thread Cert.MixerRows.nD Cert.MixerRows.τ).loc Cert.MixerRows.main_arg2) = m ((c.tc : Thread Cert.MixerRows.nD Cert.MixerRows.τ).loc Cert.MixerRows.main_arg2)
      ∧ r.2.mem ((c.tc : Thread Cert.MixerRows.nD Cert.MixerRows.τ).loc Cert.MixerRows.main_arg3) = m ((c.tc : Thread Cert.MixerRows.nD Cert.MixerRows.τ).loc Cert.MixerRows.main_arg3)
      ∧ r.2.mem ((c.tc : Thread Cert.MixerRows.nD Cert.MixerRows.τ).loc Cert.MixerRows.main_arg4) = m ((c.tc : Thread Cert.MixerRows.nD Cert.MixerRows.τ).loc Cert.MixerRows.main_arg4)
      ∧ r.2.mem ((c.tc : Thread Cert.MixerRows.nD Cert.MixerRows.τ).loc Cert.MixerRows.main_arg5) = m ((c.tc : Thread Cert.MixerRows.nD Cert.MixerRows.τ).loc Cert.MixerRows.main_arg5)
      ∧ r.2.mem ((c.tc : Thread Cert.MixerRows.nD Cert.MixerRows.τ).loc Cert.MixerRows.main_arg6) = m ((c.tc : Thread Cert.MixerRows.nD Cert.MixerRows.τ).loc Cert.MixerRows.main_arg6)
      ∧ r.2.mem ((c.tc : Thread Cert.MixerRows.nD Cert.MixerRows.τ).loc Cert.MixerRows.main_arg7) = m ((c.tc : Thread Cert.MixerRows.nD Cert.MixerRows.τ).loc Cert.MixerRows.main_arg7)
      ∧ r.2.mem ((c.tc : Thread Cert.MixerRows.nD Cert.MixerRows.τ).loc Cert.MixerRows.main_arg8) = m ((c.tc : Thread Cert.MixerRows.nD Cert.MixerRows.τ).loc Cert.MixerRows.main_arg8)
      ∧ r.2.mem ((c.tc : Thread Cert.MixerRows.nD Cert.MixerRows.τ).loc Cert.MixerRows.main_arg9) = m ((c.tc : Thread Cert.MixerRows.nD Cert.MixerRows.τ).loc Cert.MixerRows.main_arg9))
      ∧ r.2.sem = fun _ => 0)

def quiescent_MixerRowsIdeal [hMixerRowsIdeal : Cert.MixerRowsIdeal.Facts] : Prop :=
  ∀ (m : (ℓ : Loc Cert.MixerRowsIdeal.nD Cert.MixerRowsIdeal.τ Cert.MixerRowsIdeal.sig) → Buf (Elt Ideal) ℓ) (g : Dev Cert.MixerRowsIdeal.nD → PrngReg), Pre_MixerRowsIdeal m →
    θ_run (Cert.MixerRowsIdeal.defs (F := Ideal)) (onTc (τ := Cert.MixerRowsIdeal.τ) (Cert.MixerRowsIdeal.main (F := Ideal))) ⟨m, fun _ => 0, g⟩ (fun r => (∀ c : Dev Cert.MixerRowsIdeal.nD,
      r.2.mem ((c.tc : Thread Cert.MixerRowsIdeal.nD Cert.MixerRowsIdeal.τ).loc Cert.MixerRowsIdeal.main_arg0) = m ((c.tc : Thread Cert.MixerRowsIdeal.nD Cert.MixerRowsIdeal.τ).loc Cert.MixerRowsIdeal.main_arg0)
      ∧ r.2.mem ((c.tc : Thread Cert.MixerRowsIdeal.nD Cert.MixerRowsIdeal.τ).loc Cert.MixerRowsIdeal.main_arg1) = m ((c.tc : Thread Cert.MixerRowsIdeal.nD Cert.MixerRowsIdeal.τ).loc Cert.MixerRowsIdeal.main_arg1)
      ∧ r.2.mem ((c.tc : Thread Cert.MixerRowsIdeal.nD Cert.MixerRowsIdeal.τ).loc Cert.MixerRowsIdeal.main_arg2) = m ((c.tc : Thread Cert.MixerRowsIdeal.nD Cert.MixerRowsIdeal.τ).loc Cert.MixerRowsIdeal.main_arg2)
      ∧ r.2.mem ((c.tc : Thread Cert.MixerRowsIdeal.nD Cert.MixerRowsIdeal.τ).loc Cert.MixerRowsIdeal.main_arg3) = m ((c.tc : Thread Cert.MixerRowsIdeal.nD Cert.MixerRowsIdeal.τ).loc Cert.MixerRowsIdeal.main_arg3)
      ∧ r.2.mem ((c.tc : Thread Cert.MixerRowsIdeal.nD Cert.MixerRowsIdeal.τ).loc Cert.MixerRowsIdeal.main_arg4) = m ((c.tc : Thread Cert.MixerRowsIdeal.nD Cert.MixerRowsIdeal.τ).loc Cert.MixerRowsIdeal.main_arg4)
      ∧ r.2.mem ((c.tc : Thread Cert.MixerRowsIdeal.nD Cert.MixerRowsIdeal.τ).loc Cert.MixerRowsIdeal.main_arg5) = m ((c.tc : Thread Cert.MixerRowsIdeal.nD Cert.MixerRowsIdeal.τ).loc Cert.MixerRowsIdeal.main_arg5)
      ∧ r.2.mem ((c.tc : Thread Cert.MixerRowsIdeal.nD Cert.MixerRowsIdeal.τ).loc Cert.MixerRowsIdeal.main_arg6) = m ((c.tc : Thread Cert.MixerRowsIdeal.nD Cert.MixerRowsIdeal.τ).loc Cert.MixerRowsIdeal.main_arg6)
      ∧ r.2.mem ((c.tc : Thread Cert.MixerRowsIdeal.nD Cert.MixerRowsIdeal.τ).loc Cert.MixerRowsIdeal.main_arg7) = m ((c.tc : Thread Cert.MixerRowsIdeal.nD Cert.MixerRowsIdeal.τ).loc Cert.MixerRowsIdeal.main_arg7)
      ∧ r.2.mem ((c.tc : Thread Cert.MixerRowsIdeal.nD Cert.MixerRowsIdeal.τ).loc Cert.MixerRowsIdeal.main_arg8) = m ((c.tc : Thread Cert.MixerRowsIdeal.nD Cert.MixerRowsIdeal.τ).loc Cert.MixerRowsIdeal.main_arg8)
      ∧ r.2.mem ((c.tc : Thread Cert.MixerRowsIdeal.nD Cert.MixerRowsIdeal.τ).loc Cert.MixerRowsIdeal.main_arg9) = m ((c.tc : Thread Cert.MixerRowsIdeal.nD Cert.MixerRowsIdeal.τ).loc Cert.MixerRowsIdeal.main_arg9))
      ∧ r.2.sem = fun _ => 0)

def quiescent_MixerRowsIdeal_pre_finite_heads [hMixerRowsIdeal : Cert.MixerRowsIdeal.Facts] [hPre_finite_heads : Cert.Pre_finite_heads.Facts] : Prop :=
  ∀ (m : (ℓ : Loc Cert.MixerRowsIdeal.nD Cert.MixerRowsIdeal.τ Cert.MixerRowsIdeal.sig) → Buf (Elt Ideal) ℓ) (g : Dev Cert.MixerRowsIdeal.nD → PrngReg), Pre_MixerRowsIdeal_finite_heads m →
    θ_run (Cert.MixerRowsIdeal.defs (F := Ideal)) (onTc (τ := Cert.MixerRowsIdeal.τ) (Cert.MixerRowsIdeal.main (F := Ideal))) ⟨m, fun _ => 0, g⟩ (fun r => (∀ c : Dev Cert.MixerRowsIdeal.nD,
      r.2.mem ((c.tc : Thread Cert.MixerRowsIdeal.nD Cert.MixerRowsIdeal.τ).loc Cert.MixerRowsIdeal.main_arg0) = m ((c.tc : Thread Cert.MixerRowsIdeal.nD Cert.MixerRowsIdeal.τ).loc Cert.MixerRowsIdeal.main_arg0)
      ∧ r.2.mem ((c.tc : Thread Cert.MixerRowsIdeal.nD Cert.MixerRowsIdeal.τ).loc Cert.MixerRowsIdeal.main_arg1) = m ((c.tc : Thread Cert.MixerRowsIdeal.nD Cert.MixerRowsIdeal.τ).loc Cert.MixerRowsIdeal.main_arg1)
      ∧ r.2.mem ((c.tc : Thread Cert.MixerRowsIdeal.nD Cert.MixerRowsIdeal.τ).loc Cert.MixerRowsIdeal.main_arg2) = m ((c.tc : Thread Cert.MixerRowsIdeal.nD Cert.MixerRowsIdeal.τ).loc Cert.MixerRowsIdeal.main_arg2)
      ∧ r.2.mem ((c.tc : Thread Cert.MixerRowsIdeal.nD Cert.MixerRowsIdeal.τ).loc Cert.MixerRowsIdeal.main_arg3) = m ((c.tc : Thread Cert.MixerRowsIdeal.nD Cert.MixerRowsIdeal.τ).loc Cert.MixerRowsIdeal.main_arg3)
      ∧ r.2.mem ((c.tc : Thread Cert.MixerRowsIdeal.nD Cert.MixerRowsIdeal.τ).loc Cert.MixerRowsIdeal.main_arg4) = m ((c.tc : Thread Cert.MixerRowsIdeal.nD Cert.MixerRowsIdeal.τ).loc Cert.MixerRowsIdeal.main_arg4)
      ∧ r.2.mem ((c.tc : Thread Cert.MixerRowsIdeal.nD Cert.MixerRowsIdeal.τ).loc Cert.MixerRowsIdeal.main_arg5) = m ((c.tc : Thread Cert.MixerRowsIdeal.nD Cert.MixerRowsIdeal.τ).loc Cert.MixerRowsIdeal.main_arg5)
      ∧ r.2.mem ((c.tc : Thread Cert.MixerRowsIdeal.nD Cert.MixerRowsIdeal.τ).loc Cert.MixerRowsIdeal.main_arg6) = m ((c.tc : Thread Cert.MixerRowsIdeal.nD Cert.MixerRowsIdeal.τ).loc Cert.MixerRowsIdeal.main_arg6)
      ∧ r.2.mem ((c.tc : Thread Cert.MixerRowsIdeal.nD Cert.MixerRowsIdeal.τ).loc Cert.MixerRowsIdeal.main_arg7) = m ((c.tc : Thread Cert.MixerRowsIdeal.nD Cert.MixerRowsIdeal.τ).loc Cert.MixerRowsIdeal.main_arg7)
      ∧ r.2.mem ((c.tc : Thread Cert.MixerRowsIdeal.nD Cert.MixerRowsIdeal.τ).loc Cert.MixerRowsIdeal.main_arg8) = m ((c.tc : Thread Cert.MixerRowsIdeal.nD Cert.MixerRowsIdeal.τ).loc Cert.MixerRowsIdeal.main_arg8)
      ∧ r.2.mem ((c.tc : Thread Cert.MixerRowsIdeal.nD Cert.MixerRowsIdeal.τ).loc Cert.MixerRowsIdeal.main_arg9) = m ((c.tc : Thread Cert.MixerRowsIdeal.nD Cert.MixerRowsIdeal.τ).loc Cert.MixerRowsIdeal.main_arg9))
      ∧ r.2.sem = fun _ => 0)

def quiescent_MixerRowsRefIdeal [hMixerRowsRefIdeal : Cert.MixerRowsRefIdeal.Facts] : Prop :=
  ∀ (m : (ℓ : Loc Cert.MixerRowsRefIdeal.nD Cert.MixerRowsRefIdeal.τ Cert.MixerRowsRefIdeal.sig) → Buf (Elt Ideal) ℓ) (g : Dev Cert.MixerRowsRefIdeal.nD → PrngReg), Pre_MixerRowsRefIdeal m →
    θ_run (Cert.MixerRowsRefIdeal.defs (F := Ideal)) (onTc (τ := Cert.MixerRowsRefIdeal.τ) (Cert.MixerRowsRefIdeal.main (F := Ideal))) ⟨m, fun _ => 0, g⟩ (fun r => (∀ c : Dev Cert.MixerRowsRefIdeal.nD,
      r.2.mem ((c.tc : Thread Cert.MixerRowsRefIdeal.nD Cert.MixerRowsRefIdeal.τ).loc Cert.MixerRowsRefIdeal.main_arg0) = m ((c.tc : Thread Cert.MixerRowsRefIdeal.nD Cert.MixerRowsRefIdeal.τ).loc Cert.MixerRowsRefIdeal.main_arg0)
      ∧ r.2.mem ((c.tc : Thread Cert.MixerRowsRefIdeal.nD Cert.MixerRowsRefIdeal.τ).loc Cert.MixerRowsRefIdeal.main_arg1) = m ((c.tc : Thread Cert.MixerRowsRefIdeal.nD Cert.MixerRowsRefIdeal.τ).loc Cert.MixerRowsRefIdeal.main_arg1)
      ∧ r.2.mem ((c.tc : Thread Cert.MixerRowsRefIdeal.nD Cert.MixerRowsRefIdeal.τ).loc Cert.MixerRowsRefIdeal.main_arg2) = m ((c.tc : Thread Cert.MixerRowsRefIdeal.nD Cert.MixerRowsRefIdeal.τ).loc Cert.MixerRowsRefIdeal.main_arg2)
      ∧ r.2.mem ((c.tc : Thread Cert.MixerRowsRefIdeal.nD Cert.MixerRowsRefIdeal.τ).loc Cert.MixerRowsRefIdeal.main_arg3) = m ((c.tc : Thread Cert.MixerRowsRefIdeal.nD Cert.MixerRowsRefIdeal.τ).loc Cert.MixerRowsRefIdeal.main_arg3)
      ∧ r.2.mem ((c.tc : Thread Cert.MixerRowsRefIdeal.nD Cert.MixerRowsRefIdeal.τ).loc Cert.MixerRowsRefIdeal.main_arg4) = m ((c.tc : Thread Cert.MixerRowsRefIdeal.nD Cert.MixerRowsRefIdeal.τ).loc Cert.MixerRowsRefIdeal.main_arg4)
      ∧ r.2.mem ((c.tc : Thread Cert.MixerRowsRefIdeal.nD Cert.MixerRowsRefIdeal.τ).loc Cert.MixerRowsRefIdeal.main_arg5) = m ((c.tc : Thread Cert.MixerRowsRefIdeal.nD Cert.MixerRowsRefIdeal.τ).loc Cert.MixerRowsRefIdeal.main_arg5)
      ∧ r.2.mem ((c.tc : Thread Cert.MixerRowsRefIdeal.nD Cert.MixerRowsRefIdeal.τ).loc Cert.MixerRowsRefIdeal.main_arg6) = m ((c.tc : Thread Cert.MixerRowsRefIdeal.nD Cert.MixerRowsRefIdeal.τ).loc Cert.MixerRowsRefIdeal.main_arg6)
      ∧ r.2.mem ((c.tc : Thread Cert.MixerRowsRefIdeal.nD Cert.MixerRowsRefIdeal.τ).loc Cert.MixerRowsRefIdeal.main_arg7) = m ((c.tc : Thread Cert.MixerRowsRefIdeal.nD Cert.MixerRowsRefIdeal.τ).loc Cert.MixerRowsRefIdeal.main_arg7)
      ∧ r.2.mem ((c.tc : Thread Cert.MixerRowsRefIdeal.nD Cert.MixerRowsRefIdeal.τ).loc Cert.MixerRowsRefIdeal.main_arg8) = m ((c.tc : Thread Cert.MixerRowsRefIdeal.nD Cert.MixerRowsRefIdeal.τ).loc Cert.MixerRowsRefIdeal.main_arg8)
      ∧ r.2.mem ((c.tc : Thread Cert.MixerRowsRefIdeal.nD Cert.MixerRowsRefIdeal.τ).loc Cert.MixerRowsRefIdeal.main_arg9) = m ((c.tc : Thread Cert.MixerRowsRefIdeal.nD Cert.MixerRowsRefIdeal.τ).loc Cert.MixerRowsRefIdeal.main_arg9))
      ∧ r.2.sem = fun _ => 0)

def quiescent_MixerRowsRefIdeal_pre_finite_heads [hMixerRowsRefIdeal : Cert.MixerRowsRefIdeal.Facts] [hPre_finite_heads : Cert.Pre_finite_heads.Facts] : Prop :=
  ∀ (m : (ℓ : Loc Cert.MixerRowsRefIdeal.nD Cert.MixerRowsRefIdeal.τ Cert.MixerRowsRefIdeal.sig) → Buf (Elt Ideal) ℓ) (g : Dev Cert.MixerRowsRefIdeal.nD → PrngReg), Pre_MixerRowsRefIdeal_finite_heads m →
    θ_run (Cert.MixerRowsRefIdeal.defs (F := Ideal)) (onTc (τ := Cert.MixerRowsRefIdeal.τ) (Cert.MixerRowsRefIdeal.main (F := Ideal))) ⟨m, fun _ => 0, g⟩ (fun r => (∀ c : Dev Cert.MixerRowsRefIdeal.nD,
      r.2.mem ((c.tc : Thread Cert.MixerRowsRefIdeal.nD Cert.MixerRowsRefIdeal.τ).loc Cert.MixerRowsRefIdeal.main_arg0) = m ((c.tc : Thread Cert.MixerRowsRefIdeal.nD Cert.MixerRowsRefIdeal.τ).loc Cert.MixerRowsRefIdeal.main_arg0)
      ∧ r.2.mem ((c.tc : Thread Cert.MixerRowsRefIdeal.nD Cert.MixerRowsRefIdeal.τ).loc Cert.MixerRowsRefIdeal.main_arg1) = m ((c.tc : Thread Cert.MixerRowsRefIdeal.nD Cert.MixerRowsRefIdeal.τ).loc Cert.MixerRowsRefIdeal.main_arg1)
      ∧ r.2.mem ((c.tc : Thread Cert.MixerRowsRefIdeal.nD Cert.MixerRowsRefIdeal.τ).loc Cert.MixerRowsRefIdeal.main_arg2) = m ((c.tc : Thread Cert.MixerRowsRefIdeal.nD Cert.MixerRowsRefIdeal.τ).loc Cert.MixerRowsRefIdeal.main_arg2)
      ∧ r.2.mem ((c.tc : Thread Cert.MixerRowsRefIdeal.nD Cert.MixerRowsRefIdeal.τ).loc Cert.MixerRowsRefIdeal.main_arg3) = m ((c.tc : Thread Cert.MixerRowsRefIdeal.nD Cert.MixerRowsRefIdeal.τ).loc Cert.MixerRowsRefIdeal.main_arg3)
      ∧ r.2.mem ((c.tc : Thread Cert.MixerRowsRefIdeal.nD Cert.MixerRowsRefIdeal.τ).loc Cert.MixerRowsRefIdeal.main_arg4) = m ((c.tc : Thread Cert.MixerRowsRefIdeal.nD Cert.MixerRowsRefIdeal.τ).loc Cert.MixerRowsRefIdeal.main_arg4)
      ∧ r.2.mem ((c.tc : Thread Cert.MixerRowsRefIdeal.nD Cert.MixerRowsRefIdeal.τ).loc Cert.MixerRowsRefIdeal.main_arg5) = m ((c.tc : Thread Cert.MixerRowsRefIdeal.nD Cert.MixerRowsRefIdeal.τ).loc Cert.MixerRowsRefIdeal.main_arg5)
      ∧ r.2.mem ((c.tc : Thread Cert.MixerRowsRefIdeal.nD Cert.MixerRowsRefIdeal.τ).loc Cert.MixerRowsRefIdeal.main_arg6) = m ((c.tc : Thread Cert.MixerRowsRefIdeal.nD Cert.MixerRowsRefIdeal.τ).loc Cert.MixerRowsRefIdeal.main_arg6)
      ∧ r.2.mem ((c.tc : Thread Cert.MixerRowsRefIdeal.nD Cert.MixerRowsRefIdeal.τ).loc Cert.MixerRowsRefIdeal.main_arg7) = m ((c.tc : Thread Cert.MixerRowsRefIdeal.nD Cert.MixerRowsRefIdeal.τ).loc Cert.MixerRowsRefIdeal.main_arg7)
      ∧ r.2.mem ((c.tc : Thread Cert.MixerRowsRefIdeal.nD Cert.MixerRowsRefIdeal.τ).loc Cert.MixerRowsRefIdeal.main_arg8) = m ((c.tc : Thread Cert.MixerRowsRefIdeal.nD Cert.MixerRowsRefIdeal.τ).loc Cert.MixerRowsRefIdeal.main_arg8)
      ∧ r.2.mem ((c.tc : Thread Cert.MixerRowsRefIdeal.nD Cert.MixerRowsRefIdeal.τ).loc Cert.MixerRowsRefIdeal.main_arg9) = m ((c.tc : Thread Cert.MixerRowsRefIdeal.nD Cert.MixerRowsRefIdeal.τ).loc Cert.MixerRowsRefIdeal.main_arg9))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![63488, 128]⟩ ⟨2, ![253952, 128]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![63488, 128]⟩ ⟨2, ![253952, 128]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 63488, 128]⟩ ⟨3, ![32, 63488, 128]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v4)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v2) = Layout.block ⟨2, ![63488, 128]⟩ ⟨2, ![507904, 128]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v4) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m ((c.tc : Thread Cert.UpdateIdeal.nD Cert.UpdateIdeal.τ).loc Cert.UpdateIdeal.main_arg0) = Layout.blockN ⟨2, ![63488, 128]⟩ ⟨2, ![253952, 128]⟩ (Layout.meshBlock [2, 2, 2] ![[0, 1], []] c) (m' (((0 : Dev Cert.UpdateRefIdeal.nD).tc : Thread Cert.UpdateRefIdeal.nD Cert.UpdateRefIdeal.τ).loc Cert.UpdateRefIdeal.main_arg0))
      ∧ m ((c.tc : Thread Cert.UpdateIdeal.nD Cert.UpdateIdeal.τ).loc Cert.UpdateIdeal.main_arg1) = Layout.blockN ⟨2, ![63488, 128]⟩ ⟨2, ![253952, 128]⟩ (Layout.meshBlock [2, 2, 2] ![[0, 1], []] c) (m' (((0 : Dev Cert.UpdateRefIdeal.nD).tc : Thread Cert.UpdateRefIdeal.nD Cert.UpdateRefIdeal.τ).loc Cert.UpdateRefIdeal.main_arg1))
      ∧ m ((c.tc : Thread Cert.UpdateIdeal.nD Cert.UpdateIdeal.τ).loc Cert.UpdateIdeal.main_arg2) = Layout.blockN ⟨2, ![63488, 128]⟩ ⟨2, ![253952, 128]⟩ (Layout.meshBlock [2, 2, 2] ![[0, 1], []] c) (m' (((0 : Dev Cert.UpdateRefIdeal.nD).tc : Thread Cert.UpdateRefIdeal.nD Cert.UpdateRefIdeal.τ).loc Cert.UpdateRefIdeal.main_arg2))
      ∧ m ((c.tc : Thread Cert.UpdateIdeal.nD Cert.UpdateIdeal.τ).loc Cert.UpdateIdeal.main_arg3) = Layout.block ⟨2, ![63488, 128]⟩ ⟨2, ![507904, 128]⟩ 0 8 c (m' (((0 : Dev Cert.UpdateRefIdeal.nD).tc : Thread Cert.UpdateRefIdeal.nD Cert.UpdateRefIdeal.τ).loc Cert.UpdateRefIdeal.main_arg3))) →
    ∃ (v0 : Buf (Elt Ideal) (((0 : Dev Cert.UpdateRefIdeal.nD).tc : Thread Cert.UpdateRefIdeal.nD Cert.UpdateRefIdeal.τ).loc Cert.UpdateRefIdeal.main_v2)) (v1 : Buf (Elt Ideal) (((0 : Dev Cert.UpdateRefIdeal.nD).tc : Thread Cert.UpdateRefIdeal.nD Cert.UpdateRefIdeal.τ).loc Cert.UpdateRefIdeal.main_v26)) (v2 : Buf (Elt Ideal) (((0 : Dev Cert.UpdateRefIdeal.nD).tc : Thread Cert.UpdateRefIdeal.nD Cert.UpdateRefIdeal.τ).loc Cert.UpdateRefIdeal.main_v7)) (v3 : Buf (Elt Ideal) (((0 : Dev Cert.UpdateRefIdeal.nD).tc : Thread Cert.UpdateRefIdeal.nD Cert.UpdateRefIdeal.τ).loc Cert.UpdateRefIdeal.main_v13)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v2_0) = Layout.blockN ⟨2, ![63488, 128]⟩ ⟨2, ![253952, 128]⟩ (Layout.meshBlock [2, 2, 2] ![[0, 1], []] c) v0
          ∧ r.2.mem ((c.tc : Thread Cert.UpdateIdeal.nD Cert.UpdateIdeal.τ).loc Cert.UpdateIdeal.main_v2_1) = Layout.blockN ⟨2, ![63488, 128]⟩ ⟨2, ![253952, 128]⟩ (Layout.meshBlock [2, 2, 2] ![[0, 1], []] c) v1
          ∧ r.2.mem ((c.tc : Thread Cert.UpdateIdeal.nD Cert.UpdateIdeal.τ).loc Cert.UpdateIdeal.main_v2_2) = Layout.blockN ⟨2, ![63488, 128]⟩ ⟨2, ![253952, 128]⟩ (Layout.meshBlock [2, 2, 2] ![[0, 1], []] c) v2
          ∧ r.2.mem ((c.tc : Thread Cert.UpdateIdeal.nD Cert.UpdateIdeal.τ).loc Cert.UpdateIdeal.main_v2_3) = Layout.blockN ⟨2, ![63488, 128]⟩ ⟨2, ![253952, 128]⟩ (Layout.meshBlock [2, 2, 2] ![[0, 1], []] c) v3
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r =>
          r.2.mem (((0 : Dev Cert.UpdateRefIdeal.nD).tc : Thread Cert.UpdateRefIdeal.nD Cert.UpdateRefIdeal.τ).loc Cert.UpdateRefIdeal.main_v2) = v0
          ∧ r.2.mem (((0 : Dev Cert.UpdateRefIdeal.nD).tc : Thread Cert.UpdateRefIdeal.nD Cert.UpdateRefIdeal.τ).loc Cert.UpdateRefIdeal.main_v26) = v1
          ∧ r.2.mem (((0 : Dev Cert.UpdateRefIdeal.nD).tc : Thread Cert.UpdateRefIdeal.nD Cert.UpdateRefIdeal.τ).loc Cert.UpdateRefIdeal.main_v7) = v2
          ∧ r.2.mem (((0 : Dev Cert.UpdateRefIdeal.nD).tc : Thread Cert.UpdateRefIdeal.nD Cert.UpdateRefIdeal.τ).loc Cert.UpdateRefIdeal.main_v13) = v3
          ∧ r.2.mem (((0 : Dev Cert.UpdateRefIdeal.nD).tc : Thread Cert.UpdateRefIdeal.nD Cert.UpdateRefIdeal.τ).loc Cert.UpdateRefIdeal.main_arg0) = m' (((0 : Dev Cert.UpdateRefIdeal.nD).tc : Thread Cert.UpdateRefIdeal.nD Cert.UpdateRefIdeal.τ).loc Cert.UpdateRefIdeal.main_arg0)
          ∧ r.2.mem (((0 : Dev Cert.UpdateRefIdeal.nD).tc : Thread Cert.UpdateRefIdeal.nD Cert.UpdateRefIdeal.τ).loc Cert.UpdateRefIdeal.main_arg1) = m' (((0 : Dev Cert.UpdateRefIdeal.nD).tc : Thread Cert.UpdateRefIdeal.nD Cert.UpdateRefIdeal.τ).loc Cert.UpdateRefIdeal.main_arg1)
          ∧ r.2.mem (((0 : Dev Cert.UpdateRefIdeal.nD).tc : Thread Cert.UpdateRefIdeal.nD Cert.UpdateRefIdeal.τ).loc Cert.UpdateRefIdeal.main_arg2) = m' (((0 : Dev Cert.UpdateRefIdeal.nD).tc : Thread Cert.UpdateRefIdeal.nD Cert.UpdateRefIdeal.τ).loc Cert.UpdateRefIdeal.main_arg2)
          ∧ r.2.mem (((0 : Dev Cert.UpdateRefIdeal.nD).tc : Thread Cert.UpdateRefIdeal.nD Cert.UpdateRefIdeal.τ).loc Cert.UpdateRefIdeal.main_arg3) = m' (((0 : Dev Cert.UpdateRefIdeal.nD).tc : Thread Cert.UpdateRefIdeal.nD Cert.UpdateRefIdeal.τ).loc Cert.UpdateRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v16_0)) (v1 : (c : Dev Cert.SmallIdeal.nD) → Buf (Elt Ideal) ((c.tc : Thread Cert.SmallIdeal.nD Cert.SmallIdeal.τ).loc Cert.SmallIdeal.main_v16_1)) (v2 : (c : Dev Cert.SmallIdeal.nD) → Buf (Elt Ideal) ((c.tc : Thread Cert.SmallIdeal.nD Cert.SmallIdeal.τ).loc Cert.SmallIdeal.main_v16_2)) (v3 : (c : Dev Cert.SmallIdeal.nD) → Buf (Elt Ideal) ((c.tc : Thread Cert.SmallIdeal.nD Cert.SmallIdeal.τ).loc Cert.SmallIdeal.main_v16_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v16_0) = v0 c
          ∧ r.2.mem ((c.tc : Thread Cert.SmallIdeal.nD Cert.SmallIdeal.τ).loc Cert.SmallIdeal.main_v16_1) = v1 c
          ∧ r.2.mem ((c.tc : Thread Cert.SmallIdeal.nD Cert.SmallIdeal.τ).loc Cert.SmallIdeal.main_v16_2) = v2 c
          ∧ r.2.mem ((c.tc : Thread Cert.SmallIdeal.nD Cert.SmallIdeal.τ).loc Cert.SmallIdeal.main_v16_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)) →
    ∃ (v0 : (c : Dev Cert.PreIdeal.nD) → Buf (Elt Ideal) ((c.tc : Thread Cert.PreIdeal.nD Cert.PreIdeal.τ).loc Cert.PreIdeal.main_v0_0)) (v1 : (c : Dev Cert.PreIdeal.nD) → Buf (Elt Ideal) ((c.tc : Thread Cert.PreIdeal.nD Cert.PreIdeal.τ).loc Cert.PreIdeal.main_v0_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_0) = v0 c
          ∧ r.2.mem ((c.tc : Thread Cert.PreIdeal.nD Cert.PreIdeal.τ).loc Cert.PreIdeal.main_v0_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v34) = v0 c
          ∧ r.2.mem ((c.tc : Thread Cert.PreRefIdeal.nD Cert.PreRefIdeal.τ).loc Cert.PreRefIdeal.main_v17) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v30) = v1 c
          ∧ r.2.mem ((c.tc : Thread Cert.LossRefIdeal.nD Cert.LossRefIdeal.τ).loc Cert.LossRefIdeal.main_v33) = v2 c
          ∧ r.2.mem ((c.tc : Thread Cert.LossRefIdeal.nD Cert.LossRefIdeal.τ).loc Cert.LossRefIdeal.main_v51) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBack_MergeBackIdeal : Prop :=
  True

def algebraic_MergeBackIdeal_MergeBackRefIdeal [hMergeBackIdeal : Cert.MergeBackIdeal.Facts] [hMergeBackRefIdeal : Cert.MergeBackRefIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackRefIdeal.nD Cert.MergeBackRefIdeal.τ Cert.MergeBackRefIdeal.sig) → Buf (Elt Ideal) ℓ) (g' : Dev Cert.MergeBackRefIdeal.nD → PrngReg), Pre_MergeBackIdeal m →
    (∀ c : Dev Cert.MergeBackIdeal.nD,
      m' ((c.tc : Thread Cert.MergeBackRefIdeal.nD Cert.MergeBackRefIdeal.τ).loc Cert.MergeBackRefIdeal.main_arg0) = m ((c.tc : Thread Cert.MergeBackIdeal.nD Cert.MergeBackIdeal.τ).loc Cert.MergeBackIdeal.main_arg0)
      ∧ m' ((c.tc : Thread Cert.MergeBackRefIdeal.nD Cert.MergeBackRefIdeal.τ).loc Cert.MergeBackRefIdeal.main_arg1) = m ((c.tc : Thread Cert.MergeBackIdeal.nD Cert.MergeBackIdeal.τ).loc Cert.MergeBackIdeal.main_arg1)
      ∧ m' ((c.tc : Thread Cert.MergeBackRefIdeal.nD Cert.MergeBackRefIdeal.τ).loc Cert.MergeBackRefIdeal.main_arg2) = m ((c.tc : Thread Cert.MergeBackIdeal.nD Cert.MergeBackIdeal.τ).loc Cert.MergeBackIdeal.main_arg2)
      ∧ m' ((c.tc : Thread Cert.MergeBackRefIdeal.nD Cert.MergeBackRefIdeal.τ).loc Cert.MergeBackRefIdeal.main_arg3) = m ((c.tc : Thread Cert.MergeBackIdeal.nD Cert.MergeBackIdeal.τ).loc Cert.MergeBackIdeal.main_arg3)) →
    ∃ (v0 : (c : Dev Cert.MergeBackIdeal.nD) → Buf (Elt Ideal) ((c.tc : Thread Cert.MergeBackIdeal.nD Cert.MergeBackIdeal.τ).loc Cert.MergeBackIdeal.main_v0_0)) (v1 : (c : Dev Cert.MergeBackIdeal.nD) → Buf (Elt Ideal) ((c.tc : Thread Cert.MergeBackIdeal.nD Cert.MergeBackIdeal.τ).loc Cert.MergeBackIdeal.main_v0_1)) (v2 : (c : Dev Cert.MergeBackIdeal.nD) → Buf (Elt Ideal) ((c.tc : Thread Cert.MergeBackIdeal.nD Cert.MergeBackIdeal.τ).loc Cert.MergeBackIdeal.main_v0_2)) (v3 : (c : Dev Cert.MergeBackIdeal.nD) → Buf (Elt Ideal) ((c.tc : Thread Cert.MergeBackIdeal.nD Cert.MergeBackIdeal.τ).loc Cert.MergeBackIdeal.main_v0_3)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v0_0) = v0 c
          ∧ r.2.mem ((c.tc : Thread Cert.MergeBackIdeal.nD Cert.MergeBackIdeal.τ).loc Cert.MergeBackIdeal.main_v0_1) = v1 c
          ∧ r.2.mem ((c.tc : Thread Cert.MergeBackIdeal.nD Cert.MergeBackIdeal.τ).loc Cert.MergeBackIdeal.main_v0_2) = v2 c
          ∧ r.2.mem ((c.tc : Thread Cert.MergeBackIdeal.nD Cert.MergeBackIdeal.τ).loc Cert.MergeBackIdeal.main_v0_3) = v3 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3))
      ∧ θ_run (Cert.MergeBackRefIdeal.defs (F := Ideal)) (onTc (τ := Cert.MergeBackRefIdeal.τ) (Cert.MergeBackRefIdeal.main (F := Ideal))) ⟨m', fun _ => 0, g'⟩ (fun r => ∀ c : Dev Cert.MergeBackRefIdeal.nD,
          r.2.mem ((c.tc : Thread Cert.MergeBackRefIdeal.nD Cert.MergeBackRefIdeal.τ).loc Cert.MergeBackRefIdeal.main_v31) = v0 c
          ∧ r.2.mem ((c.tc : Thread Cert.MergeBackRefIdeal.nD Cert.MergeBackRefIdeal.τ).loc Cert.MergeBackRefIdeal.main_v32) = v1 c
          ∧ r.2.mem ((c.tc : Thread Cert.MergeBackRefIdeal.nD Cert.MergeBackRefIdeal.τ).loc Cert.MergeBackRefIdeal.main_v33) = v2 c
          ∧ r.2.mem ((c.tc : Thread Cert.MergeBackRefIdeal.nD Cert.MergeBackRefIdeal.τ).loc Cert.MergeBackRefIdeal.main_v34) = v3 c
          ∧ r.2.mem ((c.tc : Thread Cert.MergeBackRefIdeal.nD Cert.MergeBackRefIdeal.τ).loc Cert.MergeBackRefIdeal.main_arg0) = m' ((c.tc : Thread Cert.MergeBackRefIdeal.nD Cert.MergeBackRefIdeal.τ).loc Cert.MergeBackRefIdeal.main_arg0)
          ∧ r.2.mem ((c.tc : Thread Cert.MergeBackRefIdeal.nD Cert.MergeBackRefIdeal.τ).loc Cert.MergeBackRefIdeal.main_arg1) = m' ((c.tc : Thread Cert.MergeBackRefIdeal.nD Cert.MergeBackRefIdeal.τ).loc Cert.MergeBackRefIdeal.main_arg1)
          ∧ r.2.mem ((c.tc : Thread Cert.MergeBackRefIdeal.nD Cert.MergeBackRefIdeal.τ).loc Cert.MergeBackRefIdeal.main_arg2) = m' ((c.tc : Thread Cert.MergeBackRefIdeal.nD Cert.MergeBackRefIdeal.τ).loc Cert.MergeBackRefIdeal.main_arg2)
          ∧ r.2.mem ((c.tc : Thread Cert.MergeBackRefIdeal.nD Cert.MergeBackRefIdeal.τ).loc Cert.MergeBackRefIdeal.main_arg3) = m' ((c.tc : Thread Cert.MergeBackRefIdeal.nD Cert.MergeBackRefIdeal.τ).loc Cert.MergeBackRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_GateBack_GateBackIdeal : Prop :=
  True

def algebraic_GateBackIdeal_GateBackRefIdeal [hGateBackIdeal : Cert.GateBackIdeal.Facts] [hGateBackRefIdeal : Cert.GateBackRefIdeal.Facts] : Prop :=
  ∀ (m : (ℓ : Loc Cert.GateBackIdeal.nD Cert.GateBackIdeal.τ Cert.GateBackIdeal.sig) → Buf (Elt Ideal) ℓ) (g : Dev Cert.GateBackIdeal.nD → PrngReg)
    (m' : (ℓ : Loc Cert.GateBackRefIdeal.nD Cert.GateBackRefIdeal.τ Cert.GateBackRefIdeal.sig) → Buf (Elt Ideal) ℓ) (g' : Dev Cert.GateBackRefIdeal.nD → PrngReg), Pre_GateBackIdeal m →
    (∀ c : Dev Cert.GateBackIdeal.nD,
      m' ((c.tc : Thread Cert.GateBackRefIdeal.nD Cert.GateBackRefIdeal.τ).loc Cert.GateBackRefIdeal.main_arg0) = m ((c.tc : Thread Cert.GateBackIdeal.nD Cert.GateBackIdeal.τ).loc Cert.GateBackIdeal.main_arg0)
      ∧ m' ((c.tc : Thread Cert.GateBackRefIdeal.nD Cert.GateBackRefIdeal.τ).loc Cert.GateBackRefIdeal.main_arg1) = m ((c.tc : Thread Cert.GateBackIdeal.nD Cert.GateBackIdeal.τ).loc Cert.GateBackIdeal.main_arg1)
      ∧ m' ((c.tc : Thread Cert.GateBackRefIdeal.nD Cert.GateBackRefIdeal.τ).loc Cert.GateBackRefIdeal.main_arg2) = m ((c.tc : Thread Cert.GateBackIdeal.nD Cert.GateBackIdeal.τ).loc Cert.GateBackIdeal.main_arg2)) →
    ∃ (v0 : (c : Dev Cert.GateBackIdeal.nD) → Buf (Elt Ideal) ((c.tc : Thread Cert.GateBackIdeal.nD Cert.GateBackIdeal.τ).loc Cert.GateBackIdeal.main_v0_0)) (v1 : (c : Dev Cert.GateBackIdeal.nD) → Buf (Elt Ideal) ((c.tc : Thread Cert.GateBackIdeal.nD Cert.GateBackIdeal.τ).loc Cert.GateBackIdeal.main_v0_1)),
      θ_run (Cert.GateBackIdeal.defs (F := Ideal)) (onTc (τ := Cert.GateBackIdeal.τ) (Cert.GateBackIdeal.main (F := Ideal))) ⟨m, fun _ => 0, g⟩ (fun r => ∀ c : Dev Cert.GateBackIdeal.nD,
          r.2.mem ((c.tc : Thread Cert.GateBackIdeal.nD Cert.GateBackIdeal.τ).loc Cert.GateBackIdeal.main_v0_0) = v0 c
          ∧ r.2.mem ((c.tc : Thread Cert.GateBackIdeal.nD Cert.GateBackIdeal.τ).loc Cert.GateBackIdeal.main_v0_1) = v1 c
          ∧ r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
          ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
          ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ θ_run (Cert.GateBackRefIdeal.defs (F := Ideal)) (onTc (τ := Cert.GateBackRefIdeal.τ) (Cert.GateBackRefIdeal.main (F := Ideal))) ⟨m', fun _ => 0, g'⟩ (fun r => ∀ c : Dev Cert.GateBackRefIdeal.nD,
          r.2.mem ((c.tc : Thread Cert.GateBackRefIdeal.nD Cert.GateBackRefIdeal.τ).loc Cert.GateBackRefIdeal.main_v4) = v0 c
          ∧ r.2.mem ((c.tc : Thread Cert.GateBackRefIdeal.nD Cert.GateBackRefIdeal.τ).loc Cert.GateBackRefIdeal.main_v6) = v1 c
          ∧ r.2.mem ((c.tc : Thread Cert.GateBackRefIdeal.nD Cert.GateBackRefIdeal.τ).loc Cert.GateBackRefIdeal.main_arg0) = m' ((c.tc : Thread Cert.GateBackRefIdeal.nD Cert.GateBackRefIdeal.τ).loc Cert.GateBackRefIdeal.main_arg0)
          ∧ r.2.mem ((c.tc : Thread Cert.GateBackRefIdeal.nD Cert.GateBackRefIdeal.τ).loc Cert.GateBackRefIdeal.main_arg1) = m' ((c.tc : Thread Cert.GateBackRefIdeal.nD Cert.GateBackRefIdeal.τ).loc Cert.GateBackRefIdeal.main_arg1)
          ∧ r.2.mem ((c.tc : Thread Cert.GateBackRefIdeal.nD Cert.GateBackRefIdeal.τ).loc Cert.GateBackRefIdeal.main_arg2) = m' ((c.tc : Thread Cert.GateBackRefIdeal.nD Cert.GateBackRefIdeal.τ).loc Cert.GateBackRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_OutProduct_OutProductIdeal : Prop :=
  True

def algebraic_OutProductIdeal_OutProductRefIdeal [hOutProductIdeal : Cert.OutProductIdeal.Facts] [hOutProductRefIdeal : Cert.OutProductRefIdeal.Facts] : Prop :=
  ∀ (m : (ℓ : Loc Cert.OutProductIdeal.nD Cert.OutProductIdeal.τ Cert.OutProductIdeal.sig) → Buf (Elt Ideal) ℓ) (g : Dev Cert.OutProductIdeal.nD → PrngReg)
    (m' : (ℓ : Loc Cert.OutProductRefIdeal.nD Cert.OutProductRefIdeal.τ Cert.OutProductRefIdeal.sig) → Buf (Elt Ideal) ℓ) (g' : Dev Cert.OutProductRefIdeal.nD → PrngReg), Pre_OutProductIdeal m →
    (∀ c : Dev Cert.OutProductIdeal.nD,
      m' ((c.tc : Thread Cert.OutProductRefIdeal.nD Cert.OutProductRefIdeal.τ).loc Cert.OutProductRefIdeal.main_arg0) = m ((c.tc : Thread Cert.OutProductIdeal.nD Cert.OutProductIdeal.τ).loc Cert.OutProductIdeal.main_arg0)
      ∧ m' ((c.tc : Thread Cert.OutProductRefIdeal.nD Cert.OutProductRefIdeal.τ).loc Cert.OutProductRefIdeal.main_arg1) = m ((c.tc : Thread Cert.OutProductIdeal.nD Cert.OutProductIdeal.τ).loc Cert.OutProductIdeal.main_arg1)) →
    ∃ (v0 : (c : Dev Cert.OutProductIdeal.nD) → Buf (Elt Ideal) ((c.tc : Thread Cert.OutProductIdeal.nD Cert.OutProductIdeal.τ).loc Cert.OutProductIdeal.main_v0)),
      θ_run (Cert.OutProductIdeal.defs (F := Ideal)) (onTc (τ := Cert.OutProductIdeal.τ) (Cert.OutProductIdeal.main (F := Ideal))) ⟨m, fun _ => 0, g⟩ (fun r => ∀ c : Dev Cert.OutProductIdeal.nD,
          r.2.mem ((c.tc : Thread Cert.OutProductIdeal.nD Cert.OutProductIdeal.τ).loc Cert.OutProductIdeal.main_v0) = v0 c
          ∧ r.2.mem ((c.tc : Thread Cert.OutProductIdeal.nD Cert.OutProductIdeal.τ).loc Cert.OutProductIdeal.main_arg0) = m ((c.tc : Thread Cert.OutProductIdeal.nD Cert.OutProductIdeal.τ).loc Cert.OutProductIdeal.main_arg0)
          ∧ r.2.mem ((c.tc : Thread Cert.OutProductIdeal.nD Cert.OutProductIdeal.τ).loc Cert.OutProductIdeal.main_arg1) = m ((c.tc : Thread Cert.OutProductIdeal.nD Cert.OutProductIdeal.τ).loc Cert.OutProductIdeal.main_arg1))
      ∧ θ_run (Cert.OutProductRefIdeal.defs (F := Ideal)) (onTc (τ := Cert.OutProductRefIdeal.τ) (Cert.OutProductRefIdeal.main (F := Ideal))) ⟨m', fun _ => 0, g'⟩ (fun r => ∀ c : Dev Cert.OutProductRefIdeal.nD,
          r.2.mem ((c.tc : Thread Cert.OutProductRefIdeal.nD Cert.OutProductRefIdeal.τ).loc Cert.OutProductRefIdeal.main_v2) = v0 c
          ∧ r.2.mem ((c.tc : Thread Cert.OutProductRefIdeal.nD Cert.OutProductRefIdeal.τ).loc Cert.OutProductRefIdeal.main_arg0) = m' ((c.tc : Thread Cert.OutProductRefIdeal.nD Cert.OutProductRefIdeal.τ).loc Cert.OutProductRefIdeal.main_arg0)
          ∧ r.2.mem ((c.tc : Thread Cert.OutProductRefIdeal.nD Cert.OutProductRefIdeal.τ).loc Cert.OutProductRefIdeal.main_arg1) = m' ((c.tc : Thread Cert.OutProductRefIdeal.nD Cert.OutProductRefIdeal.τ).loc Cert.OutProductRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)) →
    ∃ (v0 : (c : Dev Cert.ShiftIdeal.nD) → Buf (Elt Ideal) ((c.tc : Thread Cert.ShiftIdeal.nD Cert.ShiftIdeal.τ).loc Cert.ShiftIdeal.main_v0)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v0) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v12) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1))

def preserves_ShiftBack_ShiftBackIdeal : Prop :=
  True

def algebraic_ShiftBackIdeal_ShiftBackRefIdeal [hShiftBackIdeal : Cert.ShiftBackIdeal.Facts] [hShiftBackRefIdeal : Cert.ShiftBackRefIdeal.Facts] : Prop :=
  ∀ (m : (ℓ : Loc Cert.ShiftBackIdeal.nD Cert.ShiftBackIdeal.τ Cert.ShiftBackIdeal.sig) → Buf (Elt Ideal) ℓ) (g : Dev Cert.ShiftBackIdeal.nD → PrngReg)
    (m' : (ℓ : Loc Cert.ShiftBackRefIdeal.nD Cert.ShiftBackRefIdeal.τ Cert.ShiftBackRefIdeal.sig) → Buf (Elt Ideal) ℓ) (g' : Dev Cert.ShiftBackRefIdeal.nD → PrngReg), Pre_ShiftBackIdeal m →
    (∀ c : Dev Cert.ShiftBackIdeal.nD,
      m' ((c.tc : Thread Cert.ShiftBackRefIdeal.nD Cert.ShiftBackRefIdeal.τ).loc Cert.ShiftBackRefIdeal.main_arg0) = m ((c.tc : Thread Cert.ShiftBackIdeal.nD Cert.ShiftBackIdeal.τ).loc Cert.ShiftBackIdeal.main_arg0)
      ∧ m' ((c.tc : Thread Cert.ShiftBackRefIdeal.nD Cert.ShiftBackRefIdeal.τ).loc Cert.ShiftBackRefIdeal.main_arg1) = m ((c.tc : Thread Cert.ShiftBackIdeal.nD Cert.ShiftBackIdeal.τ).loc Cert.ShiftBackIdeal.main_arg1)
      ∧ m' ((c.tc : Thread Cert.ShiftBackRefIdeal.nD Cert.ShiftBackRefIdeal.τ).loc Cert.ShiftBackRefIdeal.main_arg2) = m ((c.tc : Thread Cert.ShiftBackIdeal.nD Cert.ShiftBackIdeal.τ).loc Cert.ShiftBackIdeal.main_arg2)) →
    ∃ (v0 : (c : Dev Cert.ShiftBackIdeal.nD) → Buf (Elt Ideal) ((c.tc : Thread Cert.ShiftBackIdeal.nD Cert.ShiftBackIdeal.τ).loc Cert.ShiftBackIdeal.main_v0_0)) (v1 : (c : Dev Cert.ShiftBackIdeal.nD) → Buf (Elt Ideal) ((c.tc : Thread Cert.ShiftBackIdeal.nD Cert.ShiftBackIdeal.τ).loc Cert.ShiftBackIdeal.main_v0_1)),
      θ_run (Cert.ShiftBackIdeal.defs (F := Ideal)) (onTc (τ := Cert.ShiftBackIdeal.τ) (Cert.ShiftBackIdeal.main (F := Ideal))) ⟨m, fun _ => 0, g⟩ (fun r => ∀ c : Dev Cert.ShiftBackIdeal.nD,
          r.2.mem ((c.tc : Thread Cert.ShiftBackIdeal.nD Cert.ShiftBackIdeal.τ).loc Cert.ShiftBackIdeal.main_v0_0) = v0 c
          ∧ r.2.mem ((c.tc : Thread Cert.ShiftBackIdeal.nD Cert.ShiftBackIdeal.τ).loc Cert.ShiftBackIdeal.main_v0_1) = v1 c
          ∧ r.2.mem ((c.tc : Thread Cert.ShiftBackIdeal.nD Cert.ShiftBackIdeal.τ).loc Cert.ShiftBackIdeal.main_arg0) = m ((c.tc : Thread Cert.ShiftBackIdeal.nD Cert.ShiftBackIdeal.τ).loc Cert.ShiftBackIdeal.main_arg0)
          ∧ r.2.mem ((c.tc : Thread Cert.ShiftBackIdeal.nD Cert.ShiftBackIdeal.τ).loc Cert.ShiftBackIdeal.main_arg1) = m ((c.tc : Thread Cert.ShiftBackIdeal.nD Cert.ShiftBackIdeal.τ).loc Cert.ShiftBackIdeal.main_arg1)
          ∧ r.2.mem ((c.tc : Thread Cert.ShiftBackIdeal.nD Cert.ShiftBackIdeal.τ).loc Cert.ShiftBackIdeal.main_arg2) = m ((c.tc : Thread Cert.ShiftBackIdeal.nD Cert.ShiftBackIdeal.τ).loc Cert.ShiftBackIdeal.main_arg2))
      ∧ θ_run (Cert.ShiftBackRefIdeal.defs (F := Ideal)) (onTc (τ := Cert.ShiftBackRefIdeal.τ) (Cert.ShiftBackRefIdeal.main (F := Ideal))) ⟨m', fun _ => 0, g'⟩ (fun r => ∀ c : Dev Cert.ShiftBackRefIdeal.nD,
          r.2.mem ((c.tc : Thread Cert.ShiftBackRefIdeal.nD Cert.ShiftBackRefIdeal.τ).loc Cert.ShiftBackRefIdeal.main_v37) = v0 c
          ∧ r.2.mem ((c.tc : Thread Cert.ShiftBackRefIdeal.nD Cert.ShiftBackRefIdeal.τ).loc Cert.ShiftBackRefIdeal.main_v24) = v1 c
          ∧ r.2.mem ((c.tc : Thread Cert.ShiftBackRefIdeal.nD Cert.ShiftBackRefIdeal.τ).loc Cert.ShiftBackRefIdeal.main_arg0) = m' ((c.tc : Thread Cert.ShiftBackRefIdeal.nD Cert.ShiftBackRefIdeal.τ).loc Cert.ShiftBackRefIdeal.main_arg0)
          ∧ r.2.mem ((c.tc : Thread Cert.ShiftBackRefIdeal.nD Cert.ShiftBackRefIdeal.τ).loc Cert.ShiftBackRefIdeal.main_arg1) = m' ((c.tc : Thread Cert.ShiftBackRefIdeal.nD Cert.ShiftBackRefIdeal.τ).loc Cert.ShiftBackRefIdeal.main_arg1)
          ∧ r.2.mem ((c.tc : Thread Cert.ShiftBackRefIdeal.nD Cert.ShiftBackRefIdeal.τ).loc Cert.ShiftBackRefIdeal.main_arg2) = m' ((c.tc : Thread Cert.ShiftBackRefIdeal.nD Cert.ShiftBackRefIdeal.τ).loc Cert.ShiftBackRefIdeal.main_arg2))

def preserves_Attention_AttentionIdeal : Prop :=
  True

def algebraic_AttentionIdeal_AttentionRefIdeal_pre_finite_rows [hAttentionIdeal : Cert.AttentionIdeal.Facts] [hAttentionRefIdeal : Cert.AttentionRefIdeal.Facts] [hPre_finite_rows : Cert.Pre_finite_rows.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_rows m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v21) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_InProduct_InProductIdeal : Prop :=
  True

def algebraic_InProductIdeal_InProductRefIdeal [hInProductIdeal : Cert.InProductIdeal.Facts] [hInProductRefIdeal : Cert.InProductRefIdeal.Facts] : Prop :=
  ∀ (m : (ℓ : Loc Cert.InProductIdeal.nD Cert.InProductIdeal.τ Cert.InProductIdeal.sig) → Buf (Elt Ideal) ℓ) (g : Dev Cert.InProductIdeal.nD → PrngReg)
    (m' : (ℓ : Loc Cert.InProductRefIdeal.nD Cert.InProductRefIdeal.τ Cert.InProductRefIdeal.sig) → Buf (Elt Ideal) ℓ) (g' : Dev Cert.InProductRefIdeal.nD → PrngReg), Pre_InProductIdeal m →
    (∀ c : Dev Cert.InProductIdeal.nD,
      m' ((c.tc : Thread Cert.InProductRefIdeal.nD Cert.InProductRefIdeal.τ).loc Cert.InProductRefIdeal.main_arg0) = m ((c.tc : Thread Cert.InProductIdeal.nD Cert.InProductIdeal.τ).loc Cert.InProductIdeal.main_arg0)
      ∧ m' ((c.tc : Thread Cert.InProductRefIdeal.nD Cert.InProductRefIdeal.τ).loc Cert.InProductRefIdeal.main_arg1) = m ((c.tc : Thread Cert.InProductIdeal.nD Cert.InProductIdeal.τ).loc Cert.InProductIdeal.main_arg1)) →
    ∃ (v0 : (c : Dev Cert.InProductIdeal.nD) → Buf (Elt Ideal) ((c.tc : Thread Cert.InProductIdeal.nD Cert.InProductIdeal.τ).loc Cert.InProductIdeal.main_v0)),
      θ_run (Cert.InProductIdeal.defs (F := Ideal)) (onTc (τ := Cert.InProductIdeal.τ) (Cert.InProductIdeal.main (F := Ideal))) ⟨m, fun _ => 0, g⟩ (fun r => ∀ c : Dev Cert.InProductIdeal.nD,
          r.2.mem ((c.tc : Thread Cert.InProductIdeal.nD Cert.InProductIdeal.τ).loc Cert.InProductIdeal.main_v0) = v0 c
          ∧ r.2.mem ((c.tc : Thread Cert.InProductIdeal.nD Cert.InProductIdeal.τ).loc Cert.InProductIdeal.main_arg0) = m ((c.tc : Thread Cert.InProductIdeal.nD Cert.InProductIdeal.τ).loc Cert.InProductIdeal.main_arg0)
          ∧ r.2.mem ((c.tc : Thread Cert.InProductIdeal.nD Cert.InProductIdeal.τ).loc Cert.InProductIdeal.main_arg1) = m ((c.tc : Thread Cert.InProductIdeal.nD Cert.InProductIdeal.τ).loc Cert.InProductIdeal.main_arg1))
      ∧ θ_run (Cert.InProductRefIdeal.defs (F := Ideal)) (onTc (τ := Cert.InProductRefIdeal.τ) (Cert.InProductRefIdeal.main (F := Ideal))) ⟨m', fun _ => 0, g'⟩ (fun r => ∀ c : Dev Cert.InProductRefIdeal.nD,
          r.2.mem ((c.tc : Thread Cert.InProductRefIdeal.nD Cert.InProductRefIdeal.τ).loc Cert.InProductRefIdeal.main_v2) = v0 c
          ∧ r.2.mem ((c.tc : Thread Cert.InProductRefIdeal.nD Cert.InProductRefIdeal.τ).loc Cert.InProductRefIdeal.main_arg0) = m' ((c.tc : Thread Cert.InProductRefIdeal.nD Cert.InProductRefIdeal.τ).loc Cert.InProductRefIdeal.main_arg0)
          ∧ r.2.mem ((c.tc : Thread Cert.InProductRefIdeal.nD Cert.InProductRefIdeal.τ).loc Cert.InProductRefIdeal.main_arg1) = m' ((c.tc : Thread Cert.InProductRefIdeal.nD Cert.InProductRefIdeal.τ).loc Cert.InProductRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v3) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v3) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v3) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_AttentionBack_AttentionBackIdeal : Prop :=
  True

def algebraic_AttentionBackIdeal_AttentionBackRefIdeal_pre_finite_keys [hAttentionBackIdeal : Cert.AttentionBackIdeal.Facts] [hAttentionBackRefIdeal : Cert.AttentionBackRefIdeal.Facts] [hPre_finite_keys : Cert.Pre_finite_keys.Facts] : Prop :=
  ∀ (m : (ℓ : Loc Cert.AttentionBackIdeal.nD Cert.AttentionBackIdeal.τ Cert.AttentionBackIdeal.sig) → Buf (Elt Ideal) ℓ) (g : Dev Cert.AttentionBackIdeal.nD → PrngReg)
    (m' : (ℓ : Loc Cert.AttentionBackRefIdeal.nD Cert.AttentionBackRefIdeal.τ Cert.AttentionBackRefIdeal.sig) → Buf (Elt Ideal) ℓ) (g' : Dev Cert.AttentionBackRefIdeal.nD → PrngReg), Pre_AttentionBackIdeal_finite_keys m →
    (∀ c : Dev Cert.AttentionBackIdeal.nD,
      m' ((c.tc : Thread Cert.AttentionBackRefIdeal.nD Cert.AttentionBackRefIdeal.τ).loc Cert.AttentionBackRefIdeal.main_arg0) = m ((c.tc : Thread Cert.AttentionBackIdeal.nD Cert.AttentionBackIdeal.τ).loc Cert.AttentionBackIdeal.main_arg0)
      ∧ m' ((c.tc : Thread Cert.AttentionBackRefIdeal.nD Cert.AttentionBackRefIdeal.τ).loc Cert.AttentionBackRefIdeal.main_arg1) = m ((c.tc : Thread Cert.AttentionBackIdeal.nD Cert.AttentionBackIdeal.τ).loc Cert.AttentionBackIdeal.main_arg1)
      ∧ m' ((c.tc : Thread Cert.AttentionBackRefIdeal.nD Cert.AttentionBackRefIdeal.τ).loc Cert.AttentionBackRefIdeal.main_arg2) = m ((c.tc : Thread Cert.AttentionBackIdeal.nD Cert.AttentionBackIdeal.τ).loc Cert.AttentionBackIdeal.main_arg2)
      ∧ m' ((c.tc : Thread Cert.AttentionBackRefIdeal.nD Cert.AttentionBackRefIdeal.τ).loc Cert.AttentionBackRefIdeal.main_arg3) = m ((c.tc : Thread Cert.AttentionBackIdeal.nD Cert.AttentionBackIdeal.τ).loc Cert.AttentionBackIdeal.main_arg3)) →
    ∃ (v0 : (c : Dev Cert.AttentionBackIdeal.nD) → Buf (Elt Ideal) ((c.tc : Thread Cert.AttentionBackIdeal.nD Cert.AttentionBackIdeal.τ).loc Cert.AttentionBackIdeal.main_v0_0)) (v1 : (c : Dev Cert.AttentionBackIdeal.nD) → Buf (Elt Ideal) ((c.tc : Thread Cert.AttentionBackIdeal.nD Cert.AttentionBackIdeal.τ).loc Cert.AttentionBackIdeal.main_v0_1)) (v2 : (c : Dev Cert.AttentionBackIdeal.nD) → Buf (Elt Ideal) ((c.tc : Thread Cert.AttentionBackIdeal.nD Cert.AttentionBackIdeal.τ).loc Cert.AttentionBackIdeal.main_v0_2)),
      θ_run (Cert.AttentionBackIdeal.defs (F := Ideal)) (onTc (τ := Cert.AttentionBackIdeal.τ) (Cert.AttentionBackIdeal.main (F := Ideal))) ⟨m, fun _ => 0, g⟩ (fun r => ∀ c : Dev Cert.AttentionBackIdeal.nD,
          r.2.mem ((c.tc : Thread Cert.AttentionBackIdeal.nD Cert.AttentionBackIdeal.τ).loc Cert.AttentionBackIdeal.main_v0_0) = v0 c
          ∧ r.2.mem ((c.tc : Thread Cert.AttentionBackIdeal.nD Cert.AttentionBackIdeal.τ).loc Cert.AttentionBackIdeal.main_v0_1) = v1 c
          ∧ r.2.mem ((c.tc : Thread Cert.AttentionBackIdeal.nD Cert.AttentionBackIdeal.τ).loc Cert.AttentionBackIdeal.main_v0_2) = v2 c
          ∧ r.2.mem ((c.tc : Thread Cert.AttentionBackIdeal.nD Cert.AttentionBackIdeal.τ).loc Cert.AttentionBackIdeal.main_arg0) = m ((c.tc : Thread Cert.AttentionBackIdeal.nD Cert.AttentionBackIdeal.τ).loc Cert.AttentionBackIdeal.main_arg0)
          ∧ r.2.mem ((c.tc : Thread Cert.AttentionBackIdeal.nD Cert.AttentionBackIdeal.τ).loc Cert.AttentionBackIdeal.main_arg1) = m ((c.tc : Thread Cert.AttentionBackIdeal.nD Cert.AttentionBackIdeal.τ).loc Cert.AttentionBackIdeal.main_arg1)
          ∧ r.2.mem ((c.tc : Thread Cert.AttentionBackIdeal.nD Cert.AttentionBackIdeal.τ).loc Cert.AttentionBackIdeal.main_arg2) = m ((c.tc : Thread Cert.AttentionBackIdeal.nD Cert.AttentionBackIdeal.τ).loc Cert.AttentionBackIdeal.main_arg2)
          ∧ r.2.mem ((c.tc : Thread Cert.AttentionBackIdeal.nD Cert.AttentionBackIdeal.τ).loc Cert.AttentionBackIdeal.main_arg3) = m ((c.tc : Thread Cert.AttentionBackIdeal.nD Cert.AttentionBackIdeal.τ).loc Cert.AttentionBackIdeal.main_arg3))
      ∧ θ_run (Cert.AttentionBackRefIdeal.defs (F := Ideal)) (onTc (τ := Cert.AttentionBackRefIdeal.τ) (Cert.AttentionBackRefIdeal.main (F := Ideal))) ⟨m', fun _ => 0, g'⟩ (fun r => ∀ c : Dev Cert.AttentionBackRefIdeal.nD,
          r.2.mem ((c.tc : Thread Cert.AttentionBackRefIdeal.nD Cert.AttentionBackRefIdeal.τ).loc Cert.AttentionBackRefIdeal.main_v67) = v0 c
          ∧ r.2.mem ((c.tc : Thread Cert.AttentionBackRefIdeal.nD Cert.AttentionBackRefIdeal.τ).loc Cert.AttentionBackRefIdeal.main_v65) = v1 c
          ∧ r.2.mem ((c.tc : Thread Cert.AttentionBackRefIdeal.nD Cert.AttentionBackRefIdeal.τ).loc Cert.AttentionBackRefIdeal.main_v42) = v2 c
          ∧ r.2.mem ((c.tc : Thread Cert.AttentionBackRefIdeal.nD Cert.AttentionBackRefIdeal.τ).loc Cert.AttentionBackRefIdeal.main_arg0) = m' ((c.tc : Thread Cert.AttentionBackRefIdeal.nD Cert.AttentionBackRefIdeal.τ).loc Cert.AttentionBackRefIdeal.main_arg0)
          ∧ r.2.mem ((c.tc : Thread Cert.AttentionBackRefIdeal.nD Cert.AttentionBackRefIdeal.τ).loc Cert.AttentionBackRefIdeal.main_arg1) = m' ((c.tc : Thread Cert.AttentionBackRefIdeal.nD Cert.AttentionBackRefIdeal.τ).loc Cert.AttentionBackRefIdeal.main_arg1)
          ∧ r.2.mem ((c.tc : Thread Cert.AttentionBackRefIdeal.nD Cert.AttentionBackRefIdeal.τ).loc Cert.AttentionBackRefIdeal.main_arg2) = m' ((c.tc : Thread Cert.AttentionBackRefIdeal.nD Cert.AttentionBackRefIdeal.τ).loc Cert.AttentionBackRefIdeal.main_arg2)
          ∧ r.2.mem ((c.tc : Thread Cert.AttentionBackRefIdeal.nD Cert.AttentionBackRefIdeal.τ).loc Cert.AttentionBackRefIdeal.main_arg3) = m' ((c.tc : Thread Cert.AttentionBackRefIdeal.nD Cert.AttentionBackRefIdeal.τ).loc Cert.AttentionBackRefIdeal.main_arg3))

def preserves_Latent_LatentIdeal : Prop :=
  True

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)
      ∧ m' ((c.tc : Thread Cert.LatentRefIdeal.nD Cert.LatentRefIdeal.τ).loc Cert.LatentRefIdeal.main_arg4) = m ((c.tc : Thread Cert.LatentIdeal.nD Cert.LatentIdeal.τ).loc Cert.LatentIdeal.main_arg4)
      ∧ m' ((c.tc : Thread Cert.LatentRefIdeal.nD Cert.LatentRefIdeal.τ).loc Cert.LatentRefIdeal.main_arg5) = m ((c.tc : Thread Cert.LatentIdeal.nD Cert.LatentIdeal.τ).loc Cert.LatentIdeal.main_arg5)
      ∧ m' ((c.tc : Thread Cert.LatentRefIdeal.nD Cert.LatentRefIdeal.τ).loc Cert.LatentRefIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v17_0)) (v1 : (c : Dev Cert.LatentIdeal.nD) → Buf (Elt Ideal) ((c.tc : Thread Cert.LatentIdeal.nD Cert.LatentIdeal.τ).loc Cert.LatentIdeal.main_v17_1)) (v2 : (c : Dev Cert.LatentIdeal.nD) → Buf (Elt Ideal) ((c.tc : Thread Cert.LatentIdeal.nD Cert.LatentIdeal.τ).loc Cert.LatentIdeal.main_v17_2)) (v3 : (c : Dev Cert.LatentIdeal.nD) → Buf (Elt Ideal) ((c.tc : Thread Cert.LatentIdeal.nD Cert.LatentIdeal.τ).loc Cert.LatentIdeal.main_v17_3)) (v4 : (c : Dev Cert.LatentIdeal.nD) → Buf (Elt Ideal) ((c.tc : Thread Cert.LatentIdeal.nD Cert.LatentIdeal.τ).loc Cert.LatentIdeal.main_v17_4)) (v5 : (c : Dev Cert.LatentIdeal.nD) → Buf (Elt Ideal) ((c.tc : Thread Cert.LatentIdeal.nD Cert.LatentIdeal.τ).loc Cert.LatentIdeal.main_v17_5)) (v6 : (c : Dev Cert.LatentIdeal.nD) → Buf (Elt Ideal) ((c.tc : Thread Cert.LatentIdeal.nD Cert.LatentIdeal.τ).loc Cert.LatentIdeal.main_v17_6)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v17_0) = v0 c
          ∧ r.2.mem ((c.tc : Thread Cert.LatentIdeal.nD Cert.LatentIdeal.τ).loc Cert.LatentIdeal.main_v17_1) = v1 c
          ∧ r.2.mem ((c.tc : Thread Cert.LatentIdeal.nD Cert.LatentIdeal.τ).loc Cert.LatentIdeal.main_v17_2) = v2 c
          ∧ r.2.mem ((c.tc : Thread Cert.LatentIdeal.nD Cert.LatentIdeal.τ).loc Cert.LatentIdeal.main_v17_3) = v3 c
          ∧ r.2.mem ((c.tc : Thread Cert.LatentIdeal.nD Cert.LatentIdeal.τ).loc Cert.LatentIdeal.main_v17_4) = v4 c
          ∧ r.2.mem ((c.tc : Thread Cert.LatentIdeal.nD Cert.LatentIdeal.τ).loc Cert.LatentIdeal.main_v17_5) = v5 c
          ∧ r.2.mem ((c.tc : Thread Cert.LatentIdeal.nD Cert.LatentIdeal.τ).loc Cert.LatentIdeal.main_v17_6) = v6 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v59) = v0 c
          ∧ r.2.mem ((c.tc : Thread Cert.LatentRefIdeal.nD Cert.LatentRefIdeal.τ).loc Cert.LatentRefIdeal.main_v61) = v1 c
          ∧ r.2.mem ((c.tc : Thread Cert.LatentRefIdeal.nD Cert.LatentRefIdeal.τ).loc Cert.LatentRefIdeal.main_v63) = v2 c
          ∧ r.2.mem ((c.tc : Thread Cert.LatentRefIdeal.nD Cert.LatentRefIdeal.τ).loc Cert.LatentRefIdeal.main_v65) = v3 c
          ∧ r.2.mem ((c.tc : Thread Cert.LatentRefIdeal.nD Cert.LatentRefIdeal.τ).loc Cert.LatentRefIdeal.main_v67) = v4 c
          ∧ r.2.mem ((c.tc : Thread Cert.LatentRefIdeal.nD Cert.LatentRefIdeal.τ).loc Cert.LatentRefIdeal.main_v69) = v5 c
          ∧ r.2.mem ((c.tc : Thread Cert.LatentRefIdeal.nD Cert.LatentRefIdeal.τ).loc Cert.LatentRefIdeal.main_v71) = v6 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3)
          ∧ r.2.mem ((c.tc : Thread Cert.LatentRefIdeal.nD Cert.LatentRefIdeal.τ).loc Cert.LatentRefIdeal.main_arg4) = m' ((c.tc : Thread Cert.LatentRefIdeal.nD Cert.LatentRefIdeal.τ).loc Cert.LatentRefIdeal.main_arg4)
          ∧ r.2.mem ((c.tc : Thread Cert.LatentRefIdeal.nD Cert.LatentRefIdeal.τ).loc Cert.LatentRefIdeal.main_arg5) = m' ((c.tc : Thread Cert.LatentRefIdeal.nD Cert.LatentRefIdeal.τ).loc Cert.LatentRefIdeal.main_arg5)
          ∧ r.2.mem ((c.tc : Thread Cert.LatentRefIdeal.nD Cert.LatentRefIdeal.τ).loc Cert.LatentRefIdeal.main_arg6) = m' ((c.tc : Thread Cert.LatentRefIdeal.nD Cert.LatentRefIdeal.τ).loc Cert.LatentRefIdeal.main_arg6))

def preserves_MixerRows_MixerRowsIdeal : Prop :=
  True

def algebraic_MixerRowsIdeal_MixerRowsRefIdeal_pre_finite_heads [hMixerRowsIdeal : Cert.MixerRowsIdeal.Facts] [hMixerRowsRefIdeal : Cert.MixerRowsRefIdeal.Facts] [hPre_finite_heads : Cert.Pre_finite_heads.Facts] : Prop :=
  ∀ (m : (ℓ : Loc Cert.MixerRowsIdeal.nD Cert.MixerRowsIdeal.τ Cert.MixerRowsIdeal.sig) → Buf (Elt Ideal) ℓ) (g : Dev Cert.MixerRowsIdeal.nD → PrngReg)
    (m' : (ℓ : Loc Cert.MixerRowsRefIdeal.nD Cert.MixerRowsRefIdeal.τ Cert.MixerRowsRefIdeal.sig) → Buf (Elt Ideal) ℓ) (g' : Dev Cert.MixerRowsRefIdeal.nD → PrngReg), Pre_MixerRowsIdeal_finite_heads m →
    (∀ c : Dev Cert.MixerRowsIdeal.nD,
      m' ((c.tc : Thread Cert.MixerRowsRefIdeal.nD Cert.MixerRowsRefIdeal.τ).loc Cert.MixerRowsRefIdeal.main_arg0) = m ((c.tc : Thread Cert.MixerRowsIdeal.nD Cert.MixerRowsIdeal.τ).loc Cert.MixerRowsIdeal.main_arg0)
      ∧ m' ((c.tc : Thread Cert.MixerRowsRefIdeal.nD Cert.MixerRowsRefIdeal.τ).loc Cert.MixerRowsRefIdeal.main_arg1) = m ((c.tc : Thread Cert.MixerRowsIdeal.nD Cert.MixerRowsIdeal.τ).loc Cert.MixerRowsIdeal.main_arg1)
      ∧ m' ((c.tc : Thread Cert.MixerRowsRefIdeal.nD Cert.MixerRowsRefIdeal.τ).loc Cert.MixerRowsRefIdeal.main_arg2) = m ((c.tc : Thread Cert.MixerRowsIdeal.nD Cert.MixerRowsIdeal.τ).loc Cert.MixerRowsIdeal.main_arg2)
      ∧ m' ((c.tc : Thread Cert.MixerRowsRefIdeal.nD Cert.MixerRowsRefIdeal.τ).loc Cert.MixerRowsRefIdeal.main_arg3) = m ((c.tc : Thread Cert.MixerRowsIdeal.nD Cert.MixerRowsIdeal.τ).loc Cert.MixerRowsIdeal.main_arg3)
      ∧ m' ((c.tc : Thread Cert.MixerRowsRefIdeal.nD Cert.MixerRowsRefIdeal.τ).loc Cert.MixerRowsRefIdeal.main_arg4) = m ((c.tc : Thread Cert.MixerRowsIdeal.nD Cert.MixerRowsIdeal.τ).loc Cert.MixerRowsIdeal.main_arg4)
      ∧ m' ((c.tc : Thread Cert.MixerRowsRefIdeal.nD Cert.MixerRowsRefIdeal.τ).loc Cert.MixerRowsRefIdeal.main_arg5) = m ((c.tc : Thread Cert.MixerRowsIdeal.nD Cert.MixerRowsIdeal.τ).loc Cert.MixerRowsIdeal.main_arg5)
      ∧ m' ((c.tc : Thread Cert.MixerRowsRefIdeal.nD Cert.MixerRowsRefIdeal.τ).loc Cert.MixerRowsRefIdeal.main_arg6) = m ((c.tc : Thread Cert.MixerRowsIdeal.nD Cert.MixerRowsIdeal.τ).loc Cert.MixerRowsIdeal.main_arg6)
      ∧ m' ((c.tc : Thread Cert.MixerRowsRefIdeal.nD Cert.MixerRowsRefIdeal.τ).loc Cert.MixerRowsRefIdeal.main_arg7) = m ((c.tc : Thread Cert.MixerRowsIdeal.nD Cert.MixerRowsIdeal.τ).loc Cert.MixerRowsIdeal.main_arg7)
      ∧ m' ((c.tc : Thread Cert.MixerRowsRefIdeal.nD Cert.MixerRowsRefIdeal.τ).loc Cert.MixerRowsRefIdeal.main_arg8) = m ((c.tc : Thread Cert.MixerRowsIdeal.nD Cert.MixerRowsIdeal.τ).loc Cert.MixerRowsIdeal.main_arg8)
      ∧ m' ((c.tc : Thread Cert.MixerRowsRefIdeal.nD Cert.MixerRowsRefIdeal.τ).loc Cert.MixerRowsRefIdeal.main_arg9) = m ((c.tc : Thread Cert.MixerRowsIdeal.nD Cert.MixerRowsIdeal.τ).loc Cert.MixerRowsIdeal.main_arg9)) →
    ∃ (v0 : (c : Dev Cert.MixerRowsIdeal.nD) → Buf (Elt Ideal) ((c.tc : Thread Cert.MixerRowsIdeal.nD Cert.MixerRowsIdeal.τ).loc Cert.MixerRowsIdeal.main_v9)),
      θ_run (Cert.MixerRowsIdeal.defs (F := Ideal)) (onTc (τ := Cert.MixerRowsIdeal.τ) (Cert.MixerRowsIdeal.main (F := Ideal))) ⟨m, fun _ => 0, g⟩ (fun r => ∀ c : Dev Cert.MixerRowsIdeal.nD,
          r.2.mem ((c.tc : Thread Cert.MixerRowsIdeal.nD Cert.MixerRowsIdeal.τ).loc Cert.MixerRowsIdeal.main_v9) = v0 c
          ∧ r.2.mem ((c.tc : Thread Cert.MixerRowsIdeal.nD Cert.MixerRowsIdeal.τ).loc Cert.MixerRowsIdeal.main_arg0) = m ((c.tc : Thread Cert.MixerRowsIdeal.nD Cert.MixerRowsIdeal.τ).loc Cert.MixerRowsIdeal.main_arg0)
          ∧ r.2.mem ((c.tc : Thread Cert.MixerRowsIdeal.nD Cert.MixerRowsIdeal.τ).loc Cert.MixerRowsIdeal.main_arg1) = m ((c.tc : Thread Cert.MixerRowsIdeal.nD Cert.MixerRowsIdeal.τ).loc Cert.MixerRowsIdeal.main_arg1)
          ∧ r.2.mem ((c.tc : Thread Cert.MixerRowsIdeal.nD Cert.MixerRowsIdeal.τ).loc Cert.MixerRowsIdeal.main_arg2) = m ((c.tc : Thread Cert.MixerRowsIdeal.nD Cert.MixerRowsIdeal.τ).loc Cert.MixerRowsIdeal.main_arg2)
          ∧ r.2.mem ((c.tc : Thread Cert.MixerRowsIdeal.nD Cert.MixerRowsIdeal.τ).loc Cert.MixerRowsIdeal.main_arg3) = m ((c.tc : Thread Cert.MixerRowsIdeal.nD Cert.MixerRowsIdeal.τ).loc Cert.MixerRowsIdeal.main_arg3)
          ∧ r.2.mem ((c.tc : Thread Cert.MixerRowsIdeal.nD Cert.MixerRowsIdeal.τ).loc Cert.MixerRowsIdeal.main_arg4) = m ((c.tc : Thread Cert.MixerRowsIdeal.nD Cert.MixerRowsIdeal.τ).loc Cert.MixerRowsIdeal.main_arg4)
          ∧ r.2.mem ((c.tc : Thread Cert.MixerRowsIdeal.nD Cert.MixerRowsIdeal.τ).loc Cert.MixerRowsIdeal.main_arg5) = m ((c.tc : Thread Cert.MixerRowsIdeal.nD Cert.MixerRowsIdeal.τ).loc Cert.MixerRowsIdeal.main_arg5)
          ∧ r.2.mem ((c.tc : Thread Cert.MixerRowsIdeal.nD Cert.MixerRowsIdeal.τ).loc Cert.MixerRowsIdeal.main_arg6) = m ((c.tc : Thread Cert.MixerRowsIdeal.nD Cert.MixerRowsIdeal.τ).loc Cert.MixerRowsIdeal.main_arg6)
          ∧ r.2.mem ((c.tc : Thread Cert.MixerRowsIdeal.nD Cert.MixerRowsIdeal.τ).loc Cert.MixerRowsIdeal.main_arg7) = m ((c.tc : Thread Cert.MixerRowsIdeal.nD Cert.MixerRowsIdeal.τ).loc Cert.MixerRowsIdeal.main_arg7)
          ∧ r.2.mem ((c.tc : Thread Cert.MixerRowsIdeal.nD Cert.MixerRowsIdeal.τ).loc Cert.MixerRowsIdeal.main_arg8) = m ((c.tc : Thread Cert.MixerRowsIdeal.nD Cert.MixerRowsIdeal.τ).loc Cert.MixerRowsIdeal.main_arg8)
          ∧ r.2.mem ((c.tc : Thread Cert.MixerRowsIdeal.nD Cert.MixerRowsIdeal.τ).loc Cert.MixerRowsIdeal.main_arg9) = m ((c.tc : Thread Cert.MixerRowsIdeal.nD Cert.MixerRowsIdeal.τ).loc Cert.MixerRowsIdeal.main_arg9))
      ∧ θ_run (Cert.MixerRowsRefIdeal.defs (F := Ideal)) (onTc (τ := Cert.MixerRowsRefIdeal.τ) (Cert.MixerRowsRefIdeal.main (F := Ideal))) ⟨m', fun _ => 0, g'⟩ (fun r => ∀ c : Dev Cert.MixerRowsRefIdeal.nD,
          r.2.mem ((c.tc : Thread Cert.MixerRowsRefIdeal.nD Cert.MixerRowsRefIdeal.τ).loc Cert.MixerRowsRefIdeal.main_v45) = v0 c
          ∧ r.2.mem ((c.tc : Thread Cert.MixerRowsRefIdeal.nD Cert.MixerRowsRefIdeal.τ).loc Cert.MixerRowsRefIdeal.main_arg0) = m' ((c.tc : Thread Cert.MixerRowsRefIdeal.nD Cert.MixerRowsRefIdeal.τ).loc Cert.MixerRowsRefIdeal.main_arg0)
          ∧ r.2.mem ((c.tc : Thread Cert.MixerRowsRefIdeal.nD Cert.MixerRowsRefIdeal.τ).loc Cert.MixerRowsRefIdeal.main_arg1) = m' ((c.tc : Thread Cert.MixerRowsRefIdeal.nD Cert.MixerRowsRefIdeal.τ).loc Cert.MixerRowsRefIdeal.main_arg1)
          ∧ r.2.mem ((c.tc : Thread Cert.MixerRowsRefIdeal.nD Cert.MixerRowsRefIdeal.τ).loc Cert.MixerRowsRefIdeal.main_arg2) = m' ((c.tc : Thread Cert.MixerRowsRefIdeal.nD Cert.MixerRowsRefIdeal.τ).loc Cert.MixerRowsRefIdeal.main_arg2)
          ∧ r.2.mem ((c.tc : Thread Cert.MixerRowsRefIdeal.nD Cert.MixerRowsRefIdeal.τ).loc Cert.MixerRowsRefIdeal.main_arg3) = m' ((c.tc : Thread Cert.MixerRowsRefIdeal.nD Cert.MixerRowsRefIdeal.τ).loc Cert.MixerRowsRefIdeal.main_arg3)
          ∧ r.2.mem ((c.tc : Thread Cert.MixerRowsRefIdeal.nD Cert.MixerRowsRefIdeal.τ).loc Cert.MixerRowsRefIdeal.main_arg4) = m' ((c.tc : Thread Cert.MixerRowsRefIdeal.nD Cert.MixerRowsRefIdeal.τ).loc Cert.MixerRowsRefIdeal.main_arg4)
          ∧ r.2.mem ((c.tc : Thread Cert.MixerRowsRefIdeal.nD Cert.MixerRowsRefIdeal.τ).loc Cert.MixerRowsRefIdeal.main_arg5) = m' ((c.tc : Thread Cert.MixerRowsRefIdeal.nD Cert.MixerRowsRefIdeal.τ).loc Cert.MixerRowsRefIdeal.main_arg5)
          ∧ r.2.mem ((c.tc : Thread Cert.MixerRowsRefIdeal.nD Cert.MixerRowsRefIdeal.τ).loc Cert.MixerRowsRefIdeal.main_arg6) = m' ((c.tc : Thread Cert.MixerRowsRefIdeal.nD Cert.MixerRowsRefIdeal.τ).loc Cert.MixerRowsRefIdeal.main_arg6)
          ∧ r.2.mem ((c.tc : Thread Cert.MixerRowsRefIdeal.nD Cert.MixerRowsRefIdeal.τ).loc Cert.MixerRowsRefIdeal.main_arg7) = m' ((c.tc : Thread Cert.MixerRowsRefIdeal.nD Cert.MixerRowsRefIdeal.τ).loc Cert.MixerRowsRefIdeal.main_arg7)
          ∧ r.2.mem ((c.tc : Thread Cert.MixerRowsRefIdeal.nD Cert.MixerRowsRefIdeal.τ).loc Cert.MixerRowsRefIdeal.main_arg8) = m' ((c.tc : Thread Cert.MixerRowsRefIdeal.nD Cert.MixerRowsRefIdeal.τ).loc Cert.MixerRowsRefIdeal.main_arg8)
          ∧ r.2.mem ((c.tc : Thread Cert.MixerRowsRefIdeal.nD Cert.MixerRowsRefIdeal.τ).loc Cert.MixerRowsRefIdeal.main_arg9) = m' ((c.tc : Thread Cert.MixerRowsRefIdeal.nD Cert.MixerRowsRefIdeal.τ).loc Cert.MixerRowsRefIdeal.main_arg9))

def Claim : Prop :=
  ∃ (hGather : Cert.Gather.Facts) (hGatherIdeal : Cert.GatherIdeal.Facts) (hGatherRefIdeal : Cert.GatherRefIdeal.Facts) (hGatherRef : Cert.GatherRef.Facts) (hScatter : Cert.Scatter.Facts) (hScatterIdeal : Cert.ScatterIdeal.Facts) (hScatterRefIdeal : Cert.ScatterRefIdeal.Facts) (hUpdate : Cert.Update.Facts) (hUpdateIdeal : Cert.UpdateIdeal.Facts) (hUpdateRefIdeal : Cert.UpdateRefIdeal.Facts) (hSmall : Cert.Small.Facts) (hSmallIdeal : Cert.SmallIdeal.Facts) (hSmallRefIdeal : Cert.SmallRefIdeal.Facts) (hPre : Cert.Pre.Facts) (hPreIdeal : Cert.PreIdeal.Facts) (hPreRefIdeal : Cert.PreRefIdeal.Facts) (hLoss : Cert.Loss.Facts) (hLossIdeal : Cert.LossIdeal.Facts) (hLossRefIdeal : Cert.LossRefIdeal.Facts) (hMerge : Cert.Merge.Facts) (hMergeIdeal : Cert.MergeIdeal.Facts) (hMergeRefIdeal : Cert.MergeRefIdeal.Facts) (hMergeBack : Cert.MergeBack.Facts) (hMergeBackIdeal : Cert.MergeBackIdeal.Facts) (hMergeBackRefIdeal : Cert.MergeBackRefIdeal.Facts) (hGate : Cert.Gate.Facts) (hGateIdeal : Cert.GateIdeal.Facts) (hGateRefIdeal : Cert.GateRefIdeal.Facts) (hGateBack : Cert.GateBack.Facts) (hGateBackIdeal : Cert.GateBackIdeal.Facts) (hGateBackRefIdeal : Cert.GateBackRefIdeal.Facts) (hNorm : Cert.Norm.Facts) (hNormIdeal : Cert.NormIdeal.Facts) (hNormRefIdeal : Cert.NormRefIdeal.Facts) (hOutProduct : Cert.OutProduct.Facts) (hOutProductIdeal : Cert.OutProductIdeal.Facts) (hOutProductRefIdeal : Cert.OutProductRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hShift : Cert.Shift.Facts) (hShiftIdeal : Cert.ShiftIdeal.Facts) (hShiftRefIdeal : Cert.ShiftRefIdeal.Facts) (hShiftBack : Cert.ShiftBack.Facts) (hShiftBackIdeal : Cert.ShiftBackIdeal.Facts) (hShiftBackRefIdeal : Cert.ShiftBackRefIdeal.Facts) (hAttention : Cert.Attention.Facts) (hAttentionIdeal : Cert.AttentionIdeal.Facts) (hAttentionRefIdeal : Cert.AttentionRefIdeal.Facts) (hInProduct : Cert.InProduct.Facts) (hInProductIdeal : Cert.InProductIdeal.Facts) (hInProductRefIdeal : Cert.InProductRefIdeal.Facts) (hInDw : Cert.InDw.Facts) (hInDwIdeal : Cert.InDwIdeal.Facts) (hInDwRefIdeal : Cert.InDwRefIdeal.Facts) (hBranch : Cert.Branch.Facts) (hBranchIdeal : Cert.BranchIdeal.Facts) (hBranchRefIdeal : Cert.BranchRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hInDx : Cert.InDx.Facts) (hInDxIdeal : Cert.InDxIdeal.Facts) (hInDxRefIdeal : Cert.InDxRefIdeal.Facts) (hAttentionBack : Cert.AttentionBack.Facts) (hAttentionBackIdeal : Cert.AttentionBackIdeal.Facts) (hAttentionBackRefIdeal : Cert.AttentionBackRefIdeal.Facts) (hLatent : Cert.Latent.Facts) (hLatentIdeal : Cert.LatentIdeal.Facts) (hLatentRefIdeal : Cert.LatentRefIdeal.Facts) (hMixerRows : Cert.MixerRows.Facts) (hMixerRowsIdeal : Cert.MixerRowsIdeal.Facts) (hMixerRowsRefIdeal : Cert.MixerRowsRefIdeal.Facts) (hPre_finite_rows : Cert.Pre_finite_rows.Facts) (hPre_finite_keys : Cert.Pre_finite_keys.Facts) (hPre_finite_heads : Cert.Pre_finite_heads.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Scatter (hScatter := hScatter)
    ∧ quiescent_ScatterIdeal (hScatterIdeal := hScatterIdeal)
    ∧ quiescent_ScatterRefIdeal (hScatterRefIdeal := hScatterRefIdeal)
    ∧ quiescent_Update (hUpdate := hUpdate)
    ∧ quiescent_UpdateIdeal (hUpdateIdeal := hUpdateIdeal)
    ∧ quiescent_UpdateRefIdeal (hUpdateRefIdeal := hUpdateRefIdeal)
    ∧ quiescent_Small (hSmall := hSmall)
    ∧ quiescent_SmallIdeal (hSmallIdeal := hSmallIdeal)
    ∧ quiescent_SmallRefIdeal (hSmallRefIdeal := hSmallRefIdeal)
    ∧ quiescent_Pre (hPre := hPre)
    ∧ quiescent_PreIdeal (hPreIdeal := hPreIdeal)
    ∧ quiescent_PreRefIdeal (hPreRefIdeal := hPreRefIdeal)
    ∧ quiescent_Loss (hLoss := hLoss)
    ∧ quiescent_LossIdeal (hLossIdeal := hLossIdeal)
    ∧ quiescent_LossRefIdeal (hLossRefIdeal := hLossRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBack (hMergeBack := hMergeBack)
    ∧ quiescent_MergeBackIdeal (hMergeBackIdeal := hMergeBackIdeal)
    ∧ quiescent_MergeBackRefIdeal (hMergeBackRefIdeal := hMergeBackRefIdeal)
    ∧ quiescent_Gate (hGate := hGate)
    ∧ quiescent_GateIdeal (hGateIdeal := hGateIdeal)
    ∧ quiescent_GateRefIdeal (hGateRefIdeal := hGateRefIdeal)
    ∧ quiescent_GateBack (hGateBack := hGateBack)
    ∧ quiescent_GateBackIdeal (hGateBackIdeal := hGateBackIdeal)
    ∧ quiescent_GateBackRefIdeal (hGateBackRefIdeal := hGateBackRefIdeal)
    ∧ quiescent_Norm (hNorm := hNorm)
    ∧ quiescent_NormIdeal (hNormIdeal := hNormIdeal)
    ∧ quiescent_NormRefIdeal (hNormRefIdeal := hNormRefIdeal)
    ∧ quiescent_OutProduct (hOutProduct := hOutProduct)
    ∧ quiescent_OutProductIdeal (hOutProductIdeal := hOutProductIdeal)
    ∧ quiescent_OutProductRefIdeal (hOutProductRefIdeal := hOutProductRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Shift (hShift := hShift)
    ∧ quiescent_ShiftIdeal (hShiftIdeal := hShiftIdeal)
    ∧ quiescent_ShiftRefIdeal (hShiftRefIdeal := hShiftRefIdeal)
    ∧ quiescent_ShiftBack (hShiftBack := hShiftBack)
    ∧ quiescent_ShiftBackIdeal (hShiftBackIdeal := hShiftBackIdeal)
    ∧ quiescent_ShiftBackRefIdeal (hShiftBackRefIdeal := hShiftBackRefIdeal)
    ∧ quiescent_Attention (hAttention := hAttention)
    ∧ quiescent_AttentionIdeal (hAttentionIdeal := hAttentionIdeal)
    ∧ quiescent_AttentionIdeal_pre_finite_rows (hAttentionIdeal := hAttentionIdeal) (hPre_finite_rows := hPre_finite_rows)
    ∧ quiescent_AttentionRefIdeal (hAttentionRefIdeal := hAttentionRefIdeal)
    ∧ quiescent_AttentionRefIdeal_pre_finite_rows (hAttentionRefIdeal := hAttentionRefIdeal) (hPre_finite_rows := hPre_finite_rows)
    ∧ quiescent_InProduct (hInProduct := hInProduct)
    ∧ quiescent_InProductIdeal (hInProductIdeal := hInProductIdeal)
    ∧ quiescent_InProductRefIdeal (hInProductRefIdeal := hInProductRefIdeal)
    ∧ quiescent_InDw (hInDw := hInDw)
    ∧ quiescent_InDwIdeal (hInDwIdeal := hInDwIdeal)
    ∧ quiescent_InDwRefIdeal (hInDwRefIdeal := hInDwRefIdeal)
    ∧ quiescent_Branch (hBranch := hBranch)
    ∧ quiescent_BranchIdeal (hBranchIdeal := hBranchIdeal)
    ∧ quiescent_BranchRefIdeal (hBranchRefIdeal := hBranchRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_AttentionBack (hAttentionBack := hAttentionBack)
    ∧ quiescent_AttentionBackIdeal (hAttentionBackIdeal := hAttentionBackIdeal)
    ∧ quiescent_AttentionBackIdeal_pre_finite_keys (hAttentionBackIdeal := hAttentionBackIdeal) (hPre_finite_keys := hPre_finite_keys)
    ∧ quiescent_AttentionBackRefIdeal (hAttentionBackRefIdeal := hAttentionBackRefIdeal)
    ∧ quiescent_AttentionBackRefIdeal_pre_finite_keys (hAttentionBackRefIdeal := hAttentionBackRefIdeal) (hPre_finite_keys := hPre_finite_keys)
    ∧ quiescent_Latent (hLatent := hLatent)
    ∧ quiescent_LatentIdeal (hLatentIdeal := hLatentIdeal)
    ∧ quiescent_LatentRefIdeal (hLatentRefIdeal := hLatentRefIdeal)
    ∧ quiescent_MixerRows (hMixerRows := hMixerRows)
    ∧ quiescent_MixerRowsIdeal (hMixerRowsIdeal := hMixerRowsIdeal)
    ∧ quiescent_MixerRowsIdeal_pre_finite_heads (hMixerRowsIdeal := hMixerRowsIdeal) (hPre_finite_heads := hPre_finite_heads)
    ∧ quiescent_MixerRowsRefIdeal (hMixerRowsRefIdeal := hMixerRowsRefIdeal)
    ∧ quiescent_MixerRowsRefIdeal_pre_finite_heads (hMixerRowsRefIdeal := hMixerRowsRefIdeal) (hPre_finite_heads := hPre_finite_heads)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Scatter_ScatterIdeal
    ∧ algebraic_ScatterIdeal_ScatterRefIdeal (hScatterIdeal := hScatterIdeal) (hScatterRefIdeal := hScatterRefIdeal)
    ∧ preserves_Update_UpdateIdeal
    ∧ algebraic_UpdateIdeal_UpdateRefIdeal (hUpdateIdeal := hUpdateIdeal) (hUpdateRefIdeal := hUpdateRefIdeal)
    ∧ preserves_Small_SmallIdeal
    ∧ algebraic_SmallIdeal_SmallRefIdeal (hSmallIdeal := hSmallIdeal) (hSmallRefIdeal := hSmallRefIdeal)
    ∧ preserves_Pre_PreIdeal
    ∧ algebraic_PreIdeal_PreRefIdeal (hPreIdeal := hPreIdeal) (hPreRefIdeal := hPreRefIdeal)
    ∧ preserves_Loss_LossIdeal
    ∧ algebraic_LossIdeal_LossRefIdeal (hLossIdeal := hLossIdeal) (hLossRefIdeal := hLossRefIdeal)
    ∧ preserves_Merge_MergeIdeal
    ∧ algebraic_MergeIdeal_MergeRefIdeal (hMergeIdeal := hMergeIdeal) (hMergeRefIdeal := hMergeRefIdeal)
    ∧ preserves_MergeBack_MergeBackIdeal
    ∧ algebraic_MergeBackIdeal_MergeBackRefIdeal (hMergeBackIdeal := hMergeBackIdeal) (hMergeBackRefIdeal := hMergeBackRefIdeal)
    ∧ preserves_Gate_GateIdeal
    ∧ algebraic_GateIdeal_GateRefIdeal (hGateIdeal := hGateIdeal) (hGateRefIdeal := hGateRefIdeal)
    ∧ preserves_GateBack_GateBackIdeal
    ∧ algebraic_GateBackIdeal_GateBackRefIdeal (hGateBackIdeal := hGateBackIdeal) (hGateBackRefIdeal := hGateBackRefIdeal)
    ∧ preserves_Norm_NormIdeal
    ∧ algebraic_NormIdeal_NormRefIdeal (hNormIdeal := hNormIdeal) (hNormRefIdeal := hNormRefIdeal)
    ∧ preserves_OutProduct_OutProductIdeal
    ∧ algebraic_OutProductIdeal_OutProductRefIdeal (hOutProductIdeal := hOutProductIdeal) (hOutProductRefIdeal := hOutProductRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Shift_ShiftIdeal
    ∧ algebraic_ShiftIdeal_ShiftRefIdeal (hShiftIdeal := hShiftIdeal) (hShiftRefIdeal := hShiftRefIdeal)
    ∧ preserves_ShiftBack_ShiftBackIdeal
    ∧ algebraic_ShiftBackIdeal_ShiftBackRefIdeal (hShiftBackIdeal := hShiftBackIdeal) (hShiftBackRefIdeal := hShiftBackRefIdeal)
    ∧ preserves_Attention_AttentionIdeal
    ∧ algebraic_AttentionIdeal_AttentionRefIdeal_pre_finite_rows (hAttentionIdeal := hAttentionIdeal) (hAttentionRefIdeal := hAttentionRefIdeal) (hPre_finite_rows := hPre_finite_rows)
    ∧ preserves_InProduct_InProductIdeal
    ∧ algebraic_InProductIdeal_InProductRefIdeal (hInProductIdeal := hInProductIdeal) (hInProductRefIdeal := hInProductRefIdeal)
    ∧ preserves_InDw_InDwIdeal
    ∧ algebraic_InDwIdeal_InDwRefIdeal (hInDwIdeal := hInDwIdeal) (hInDwRefIdeal := hInDwRefIdeal)
    ∧ preserves_Branch_BranchIdeal
    ∧ algebraic_BranchIdeal_BranchRefIdeal (hBranchIdeal := hBranchIdeal) (hBranchRefIdeal := hBranchRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_InDx_InDxIdeal
    ∧ algebraic_InDxIdeal_InDxRefIdeal (hInDxIdeal := hInDxIdeal) (hInDxRefIdeal := hInDxRefIdeal)
    ∧ preserves_AttentionBack_AttentionBackIdeal
    ∧ algebraic_AttentionBackIdeal_AttentionBackRefIdeal_pre_finite_keys (hAttentionBackIdeal := hAttentionBackIdeal) (hAttentionBackRefIdeal := hAttentionBackRefIdeal) (hPre_finite_keys := hPre_finite_keys)
    ∧ preserves_Latent_LatentIdeal
    ∧ algebraic_LatentIdeal_LatentRefIdeal (hLatentIdeal := hLatentIdeal) (hLatentRefIdeal := hLatentRefIdeal)
    ∧ preserves_MixerRows_MixerRowsIdeal
    ∧ algebraic_MixerRowsIdeal_MixerRowsRefIdeal_pre_finite_heads (hMixerRowsIdeal := hMixerRowsIdeal) (hMixerRowsRefIdeal := hMixerRowsRefIdeal) (hPre_finite_heads := hPre_finite_heads)
-- ==== Pre_finite_heads.lean ====
abbrev S2048x1024 : Shape := ⟨2, ![2048, 1024]⟩
abbrev S2048x11008 : Shape := ⟨2, ![2048, 11008]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S2048x1024 .f32) (main_arg5 : FVec F S2048x1024 .f32) (main_arg6 : FVec F S2048x11008 .f32) (main_arg7 : FVec F S1x1024 .f32) (main_arg8 : FVec F S1x1024 .f32) (main_arg9 : FVec F S1x1024 .f32) : IVec S2048x1024 1 × IVec S2048x1024 1 × IVec S2048x1024 1 × IVec S2048x1024 1 × IVec S2048x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  let main_v15 : FVec F S1x1024 .f32 := Host.absf main_arg9
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_keys.lean ====
abbrev S8x2048x192 : Shape := ⟨3, ![8, 2048, 192]⟩
abbrev S8x2048x128 : Shape := ⟨3, ![8, 2048, 128]⟩
abbrev S_ : Shape := ⟨0, ![]⟩

class Facts : Prop where
  bcast_S_S8x2048x192 : S_.BroadcastsInDim S8x2048x192 (![] : Fin 0 → Fin S8x2048x192.rank)

variable [Facts]

def fn {F : FTy → Type} [FloatOps F] (main_arg0 : FVec F S8x2048x192 .bf16) (main_arg1 : FVec F S8x2048x192 .bf16) (main_arg2 : FVec F S8x2048x128 .bf16) (main_arg3 : FVec F S8x2048x128 .f32) : IVec S8x2048x192 1 × IVec S8x2048x192 1 :=
  let main_v0 : FVec F S8x2048x192 .bf16 := Host.absf main_arg0
  let main_cst : FVec F S_ .bf16 := constant S_ .bf16 0x7F80#16
  let main_v1 : FVec F S8x2048x192 .bf16 := broadcastInDim S8x2048x192 ![] bcast_S_S8x2048x192 main_cst
  let main_v2 : IVec S8x2048x192 1 := cmpf .olt main_v0 main_v1
  let main_v3 : FVec F S8x2048x192 .bf16 := Host.absf main_arg1
  let main_cst_0 : FVec F S_ .bf16 := constant S_ .bf16 0x7F80#16
  let main_v4 : FVec F S8x2048x192 .bf16 := broadcastInDim S8x2048x192 ![] bcast_S_S8x2048x192 main_cst_0
  let main_v5 : IVec S8x2048x192 1 := cmpf .olt main_v3 main_v4
  (main_v2, main_v5)
-- ==== Pre_finite_rows.lean ====
abbrev S8x2048x192 : Shape := ⟨3, ![8, 2048, 192]⟩
abbrev S8x2048x128 : Shape := ⟨3, ![8, 2048, 128]⟩
abbrev S_ : Shape := ⟨0, ![]⟩

class Facts : Prop where
  bcast_S_S8x2048x192 : S_.BroadcastsInDim S8x2048x192 (![] : Fin 0 → Fin S8x2048x192.rank)

variable [Facts]

def fn {F : FTy → Type} [FloatOps F] (main_arg0 : FVec F S8x2048x192 .bf16) (main_arg1 : FVec F S8x2048x192 .bf16) (main_arg2 : FVec F S8x2048x128 .bf16) : IVec S8x2048x192 1 × IVec S8x2048x192 1 :=
  let main_v0 : FVec F S8x2048x192 .bf16 := Host.absf main_arg0
  let main_cst : FVec F S_ .bf16 := constant S_ .bf16 0x7F80#16
  let main_v1 : FVec F S8x2048x192 .bf16 := broadcastInDim S8x2048x192 ![] bcast_S_S8x2048x192 main_cst
  let main_v2 : IVec S8x2048x192 1 := cmpf .olt main_v0 main_v1
  let main_v3 : FVec F S8x2048x192 .bf16 := Host.absf main_arg1
  let main_cst_0 : FVec F S_ .bf16 := constant S_ .bf16 0x7F80#16
  let main_v4 : FVec F S8x2048x192 .bf16 := broadcastInDim S8x2048x192 ![] bcast_S_S8x2048x192 main_cst_0
  let main_v5 : IVec S8x2048x192 1 := cmpf .olt main_v3 main_v4
  (main_v2, main_v5)
-- ==== Gather.lean ====
abbrev S63488x128 : Shape := ⟨2, ![63488, 128]⟩
abbrev S4x63488x128 : Shape := ⟨3, ![4, 63488, 128]⟩
abbrev S3 : Shape := ⟨1, ![3]⟩
abbrev S_ : Shape := ⟨0, ![]⟩
abbrev S1x63488x128 : Shape := ⟨3, ![1, 63488, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S63488x128, .bf16⟩
  | .hbm, ⟨1, _⟩ => ⟨S4x63488x128, .bf16⟩
  | _, _ => ⟨S63488x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v23 : BitVec 32 := Scalar.muli v2 c4_i32_14
  let v24 : BitVec 32 := Scalar.addi c0_i32_15 v23
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let c2_i32_16 : BitVec 32 := 2#32
  let v25 : BitVec 32 := Scalar.muli v13 c2_i32_16
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v27 : BitVec 32 := Scalar.muli v8 c1_i32_17
  let v28 : BitVec 32 := Scalar.addi v26 v27
  v28.toNat
def k0_dev2 (d0 : Dev nD) : Nat :=
  let c0_i32_23 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c4_i32_22 : BitVec 32 := 4#32
  let v35 : BitVec 32 := Scalar.muli v16 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_31 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_30 : BitVec 32 := 4#32
  let v47 : BitVec 32 := Scalar.muli v19 c4_i32_30
  let v48 : BitVec 32 := Scalar.addi c0_i32_31 v47
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_32 : BitVec 32 := 2#32
  let v49 : BitVec 32 := Scalar.muli v20 c2_i32_32
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v51 : BitVec 32 := Scalar.muli v8 c1_i32_33
  let v52 : BitVec 32 := Scalar.addi v50 v51
  v52.toNat
def k0_off2 (d0 : Dev nD) : Fin 3 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_5 v5
  let v15 : BitVec 32 := Scalar.addi v14 v13
  let c0_i32_42 : BitVec 32 := 0#32
  let c0_i32_43 : BitVec 32 := 0#32
  ![v15.toNat, 0, 0]
def k0_off3 (d0 : Dev nD) : Fin 3 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v17 : BitVec 32 := Scalar.muli c2_i32_8 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.addi v17 v5
  let c0_i32_50 : BitVec 32 := 0#32
  let c0_i32_51 : BitVec 32 := 0#32
  ![v18.toNat, 0, 0]
def k0_off4 (d0 : Dev nD) : Fin 3 → Nat :=
  let c2_i32_11 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let v21 : BitVec 32 := Scalar.muli c2_i32_11 v19
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let v22 : BitVec 32 := Scalar.addi v21 v20
  let c0_i32_58 : BitVec 32 := 0#32
  let c0_i32_59 : BitVec 32 := 0#32
  ![v22.toNat, 0, 0]
-- ==== GatherRef.lean ====
abbrev S253952x128 : Shape := ⟨2, ![253952, 128]⟩
abbrev S4x63488x128 : Shape := ⟨3, ![4, 63488, 128]⟩

abbrev nBuf : Space → Nat
  | .hbm => 2
  | .vmem => 0
  | .smem => 0
  | _ => 0

abbrev bufTy : (tb : Table) → Fin (tcTables nBuf tb) → BufTy
  | .hbm, ⟨0, _⟩ => ⟨S253952x128, .bf16⟩
  | .hbm, ⟨1, _⟩ => ⟨S4x63488x128, .bf16⟩
  | _, _ => ⟨S253952x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Scatter.lean ====
abbrev S4x63488x128 : Shape := ⟨3, ![4, 63488, 128]⟩
abbrev S3 : Shape := ⟨1, ![3]⟩
abbrev S_ : Shape := ⟨0, ![]⟩
abbrev S1x63488x128 : Shape := ⟨3, ![1, 63488, 128]⟩
abbrev S63488x128 : Shape := ⟨2, ![63488, 128]⟩
abbrev S1 : Shape := ⟨1, ![1]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 3
  | .vmem => 4
  | .smem => 0
  | _ => 0

abbrev bufTy : (tb : Table) → Fin (tcTables nBuf tb) → BufTy
  | .hbm, ⟨0, _⟩ => ⟨S4x63488x128, .bf16⟩
  | .hbm, ⟨1, _⟩ => ⟨S4x63488x128, .bf16⟩
  | .hbm, ⟨2, _⟩ => ⟨S63488x128, .f32⟩
  | .local _ .vmem, ⟨0, _⟩ => ⟨S4x1024x128, .bf16⟩
  | .local _ .vmem, ⟨1, _⟩ => ⟨S4x1024x128, .bf16⟩
  | .local _ .vmem, ⟨2, _⟩ => ⟨S1024x128, .f32⟩
  | .local _ .vmem, ⟨3, _⟩ => ⟨S1024x128, .f32⟩
  | _, _ => ⟨S4x63488x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 7
abbrev cc1_sem0_1 : DmaSem sig := 8
abbrev cc1_sem1_0 : DmaSem sig := 9
abbrev cc1_sem1_1 : DmaSem sig := 10

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_8 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v17 : BitVec 32 := Scalar.addi v16 v15
  let c0_i32_22 : BitVec 32 := 0#32
  let c0_i32_23 : BitVec 32 := 0#32
  ![v17.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_18 : BitVec 32 := 2#32
  let v27 : BitVec 32 := Scalar.muli v15 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v19 : BitVec 32 := Scalar.muli c2_i32_10 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_32 : BitVec 32 := 0#32
  let c0_i32_33 : BitVec 32 := 0#32
  ![v20.toNat, 0, 0]
def k0_dev2 (d0 : Dev nD) : Nat :=
  let c0_i32_27 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_26 : BitVec 32 := 4#32
  let v39 : BitVec 32 := Scalar.muli v18 c4_i32_26
  let v40 : BitVec 32 := Scalar.addi c0_i32_27 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v41 : BitVec 32 := Scalar.muli v5 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let v23 : BitVec 32 := Scalar.muli c2_i32_13 v21
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v24 : BitVec 32 := Scalar.addi v23 v22
  let c0_i32_42 : BitVec 32 := 0#32
  let c0_i32_43 : BitVec 32 := 0#32
  ![v24.toNat, 0, 0]
def k0_dev3 (d0 : Dev nD) : Nat :=
  let c0_i32_37 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_36 : BitVec 32 := 4#32
  let v53 : BitVec 32 := Scalar.muli v21 c4_i32_36
  let v54 : BitVec 32 := Scalar.addi c0_i32_37 v53
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_38 : BitVec 32 := 2#32
  let v55 : BitVec 32 := Scalar.muli v22 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
abbrev grid1 : Pipeline.Grid := ⟨1, ![62], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ScatterRefIdeal.lean ====
abbrev S32x63488x128 : Shape := ⟨3, ![32, 63488, 128]⟩
abbrev S4x2x4x63488x128 : Shape := ⟨5, ![4, 2, 4, 63488, 128]⟩
abbrev S_ : Shape := ⟨0, ![]⟩
abbrev S2x4x63488x128 : Shape := ⟨4, ![2, 4, 63488, 128]⟩
abbrev S4x2x63488x128 : Shape := ⟨4, ![4, 2, 63488, 128]⟩
abbrev S507904x128 : Shape := ⟨2, ![507904, 128]⟩

abbrev nBuf : Space → Nat
  | .hbm => 7
  | .vmem => 0
  | .smem => 0
  | _ => 0

abbrev bufTy : (tb : Table) → Fin (tcTables nBuf tb) → BufTy
  | .hbm, ⟨0, _⟩ => ⟨S32x63488x128, .bf16⟩
  | .hbm, ⟨1, _⟩ => ⟨S32x63488x128, .f32⟩
  | .hbm, ⟨2, _⟩ => ⟨S4x2x4x63488x128, .f32⟩
  | .hbm, ⟨3, _⟩ => ⟨S_, .f32⟩
  | .hbm, ⟨4, _⟩ => ⟨S2x4x63488x128, .f32⟩
  | .hbm, ⟨5, _⟩ => ⟨S4x2x63488x128, .f32⟩
  | .hbm, ⟨6, _⟩ => ⟨S507904x128, .f32⟩
  | _, _ => ⟨S32x63488x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Update.lean ====
abbrev S63488x128 : Shape := ⟨2, ![63488, 128]⟩
abbrev S_ : Shape := ⟨0, ![]⟩
abbrev S1024x128 : Shape := ⟨2, ![1024, 128]⟩

abbrev nBuf : Space → Nat
  | .hbm => 9
  | .vmem => 18
  | .smem => 0
  | _ => 0

abbrev bufTy : (tb : Table) → Fin (tcTables nBuf tb) → BufTy
  | .hbm, ⟨0, _⟩ => ⟨S63488x128, .f32⟩
  | .hbm, ⟨1, _⟩ => ⟨S63488x128, .f32⟩
  | .hbm, ⟨2, _⟩ => ⟨S63488x128, .f32⟩
  | .hbm, ⟨3, _⟩ => ⟨S63488x128, .f32⟩
  | .hbm, ⟨4, _⟩ => ⟨S63488x128, .f32⟩
  | .hbm, ⟨5, _⟩ => ⟨S63488x128, .f32⟩
  | .hbm, ⟨6, _⟩ => ⟨S63488x128, .f32⟩
  | .hbm, ⟨7, _⟩ => ⟨S63488x128, .f32⟩
  | .hbm, ⟨8, _⟩ => ⟨S63488x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S63488x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
abbrev grid1 : Pipeline.Grid := ⟨1, ![62], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== UpdateRefIdeal.lean ====
abbrev S253952x128 : Shape := ⟨2, ![253952, 128]⟩
abbrev S507904x128 : Shape := ⟨2, ![507904, 128]⟩
abbrev S4x2x63488x128 : Shape := ⟨4, ![4, 2, 63488, 128]⟩
abbrev S_ : Shape := ⟨0, ![]⟩
abbrev S4x63488x128 : Shape := ⟨3, ![4, 63488, 128]⟩

abbrev nBuf : Space → Nat
  | .hbm => 41
  | .vmem => 0
  | .smem => 0
  | _ => 0

abbrev bufTy : (tb : Table) → Fin (tcTables nBuf tb) → BufTy
  | .hbm, ⟨0, _⟩ => ⟨S253952x128, .f32⟩
  | .hbm, ⟨1, _⟩ => ⟨S253952x128, .f32⟩
  | .hbm, ⟨2, _⟩ => ⟨S253952x128, .f32⟩
  | .hbm, ⟨3, _⟩ => ⟨S507904x128, .f32⟩
  | .hbm, ⟨4, _⟩ => ⟨S4x2x63488x128, .f32⟩
  | .hbm, ⟨5, _⟩ => ⟨S_, .f32⟩
  | .hbm, ⟨6, _⟩ => ⟨S4x63488x128, .f32⟩
  | .hbm, ⟨7, _⟩ => ⟨S253952x128, .f32⟩
  | .hbm, ⟨8, _⟩ => ⟨S_, .f32⟩
  | .hbm, ⟨9, _⟩ => ⟨S253952x128, .f32⟩
  | .hbm, ⟨10, _⟩ => ⟨S253952x128, .f32⟩
  | .hbm, ⟨11, _⟩ => ⟨S_, .f32⟩
  | .hbm, ⟨12, _⟩ => ⟨S253952x128, .f32⟩
  | .hbm, ⟨13, _⟩ => ⟨S253952x128, .f32⟩
  | .hbm, ⟨14, _⟩ => ⟨S253952x128, .f32⟩
  | .hbm, ⟨15, _⟩ => ⟨S_, .f32⟩
  | .hbm, ⟨16, _⟩ => ⟨S253952x128, .f32⟩
  | .hbm, ⟨17, _⟩ => ⟨S253952x128, .f32⟩
  | .hbm, ⟨18, _⟩ => ⟨S253952x128, .f32⟩
  | .hbm, ⟨19, _⟩ => ⟨S_, .f32⟩
  | .hbm, ⟨20, _⟩ => ⟨S253952x128, .f32⟩
  | .hbm, ⟨21, _⟩ => ⟨S253952x128, .f32⟩
  | .hbm, ⟨22, _⟩ => ⟨S253952x128, .f32⟩
  | .hbm, ⟨23, _⟩ => ⟨S_, .f32⟩
  | .hbm, ⟨24, _⟩ => ⟨S253952x128, .f32⟩
  | .hbm, ⟨25, _⟩ => ⟨S253952x128, .f32⟩
  | .hbm, ⟨26, _⟩ => ⟨S_, .f32⟩
  | .hbm, ⟨27, _⟩ => ⟨S253952x128, .f32⟩
  | .hbm, ⟨28, _⟩ => ⟨S253952x128, .f32⟩
  | .hbm, ⟨29, _⟩ => ⟨S253952x128, .f32⟩
  | .hbm, ⟨30, _⟩ => ⟨S_, .f32⟩
  | .hbm, ⟨31, _⟩ => ⟨S253952x128, .f32⟩
  | .hbm, ⟨32, _⟩ => ⟨S253952x128, .f32⟩
  | .hbm, ⟨33, _⟩ => ⟨S253952x128, .f32⟩
  | .hbm, ⟨34, _⟩ => ⟨S_, .f32⟩
  | .hbm, ⟨35, _⟩ => ⟨S253952x128, .f32⟩
  | .hbm, ⟨36, _⟩ => ⟨S253952x128, .f32⟩
  | .hbm, ⟨37, _⟩ => ⟨S253952x128, .f32⟩
  | .hbm, ⟨38, _⟩ => ⟨S_, .f32⟩
  | .hbm, ⟨39, _⟩ => ⟨S253952x128, .f32⟩
  | .hbm, ⟨40, _⟩ => ⟨S253952x128, .f32⟩
  | _, _ => ⟨S253952x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Small.lean ====
abbrev S144x128 : Shape := ⟨2, ![144, 128]⟩
abbrev S8x144x128 : Shape := ⟨3, ![8, 144, 128]⟩
abbrev S1x144x128 : Shape := ⟨3, ![1, 144, 128]⟩

abbrev nBuf : Space → Nat
  | .hbm => 24
  | .vmem => 15
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S8x144x128, .f32⟩
  | .hbm, ⟨4, _⟩ => ⟨S1x144x128, .f32⟩
  | .hbm, ⟨5, _⟩ => ⟨S144x128, .f32⟩
  | .hbm, ⟨6, _⟩ => ⟨S1x144x128, .f32⟩
  | .hbm, ⟨7, _⟩ => ⟨S144x128, .f32⟩
  | .hbm, ⟨8, _⟩ => ⟨S1x144x128, .f32⟩
  | .hbm, ⟨9, _⟩ => ⟨S144x128, .f32⟩
  | .hbm, ⟨10, _⟩ => ⟨S1x144x128, .f32⟩
  | .hbm, ⟨11, _⟩ => ⟨S144x128, .f32⟩
  | .hbm, ⟨12, _⟩ => ⟨S1x144x128, .f32⟩
  | .hbm, ⟨13, _⟩ => ⟨S144x128, .f32⟩
  | .hbm, ⟨14, _⟩ => ⟨S1x144x128, .f32⟩
  | .hbm, ⟨15, _⟩ => ⟨S144x128, .f32⟩
  | .hbm, ⟨16, _⟩ => ⟨S1x144x128, .f32⟩
  | .hbm, ⟨17, _⟩ => ⟨S144x128, .f32⟩
  | .hbm, ⟨18, _⟩ => ⟨S1x144x128, .f32⟩
  | .hbm, ⟨19, _⟩ => ⟨S144x128, .f32⟩
  | .hbm, ⟨20, _⟩ => ⟨S144x128, .f32⟩
  | .hbm, ⟨21, _⟩ => ⟨S144x128, .f32⟩
  | .hbm, ⟨22, _⟩ => ⟨S144x128, .f32⟩
  | .hbm, ⟨23, _⟩ => ⟨S144x128, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | .local _ .vmem, ⟨8, _⟩ => ⟨S144x128, .f32⟩
  | .local _ .vmem, ⟨9, _⟩ => ⟨S144x128, .f32⟩
  | .local _ .vmem, ⟨10, _⟩ => ⟨S144x128, .f32⟩
  | .local _ .vmem, ⟨11, _⟩ => ⟨S144x128, .f32⟩
  | .local _ .vmem, ⟨12, _⟩ => ⟨S144x128, .f32⟩
  | .local _ .vmem, ⟨13, _⟩ => ⟨S144x128, .f32⟩
  | .local _ .vmem, ⟨14, _⟩ => ⟨S144x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v16_2 : Ref sig .tc := ⟨.hbm, 22, rfl⟩
abbrev main_v16_3 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S144x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S144x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S144x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S144x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S144x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S144x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S144x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== SmallRefIdeal.lean ====
abbrev S144x128 : Shape := ⟨2, ![144, 128]⟩
abbrev S8x144x128 : Shape := ⟨3, ![8, 144, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S8x144x128, .f32⟩
  | .hbm, ⟨4, _⟩ => ⟨S_, .f32⟩
  | .hbm, ⟨5, _⟩ => ⟨S144x128, .f32⟩
  | .hbm, ⟨6, _⟩ => ⟨S_, .f32⟩
  | .hbm, ⟨7, _⟩ => ⟨S144x128, .f32⟩
  | .hbm, ⟨8, _⟩ => ⟨S144x128, .f32⟩
  | .hbm, ⟨9, _⟩ => ⟨S_, .f32⟩
  | .hbm, ⟨10, _⟩ => ⟨S144x128, .f32⟩
  | .hbm, ⟨11, _⟩ => ⟨S144x128, .f32⟩
  | .hbm, ⟨12, _⟩ => ⟨S144x128, .f32⟩
  | .hbm, ⟨13, _⟩ => ⟨S_, .f32⟩
  | .hbm, ⟨14, _⟩ => ⟨S144x128, .f32⟩
  | .hbm, ⟨15, _⟩ => ⟨S144x128, .f32⟩
  | .hbm, ⟨16, _⟩ => ⟨S144x128, .f32⟩
  | .hbm, ⟨17, _⟩ => ⟨S_, .f32⟩
  | .hbm, ⟨18, _⟩ => ⟨S144x128, .f32⟩
  | .hbm, ⟨19, _⟩ => ⟨S144x128, .f32⟩
  | .hbm, ⟨20, _⟩ => ⟨S144x128, .f32⟩
  | .hbm, ⟨21, _⟩ => ⟨S_, .f32⟩
  | .hbm, ⟨22, _⟩ => ⟨S144x128, .f32⟩
  | .hbm, ⟨23, _⟩ => ⟨S144x128, .f32⟩
  | .hbm, ⟨24, _⟩ => ⟨S_, .f32⟩
  | .hbm, ⟨25, _⟩ => ⟨S144x128, .f32⟩
  | .hbm, ⟨26, _⟩ => ⟨S144x128, .f32⟩
  | .hbm, ⟨27, _⟩ => ⟨S144x128, .f32⟩
  | .hbm, ⟨28, _⟩ => ⟨S_, .f32⟩
  | .hbm, ⟨29, _⟩ => ⟨S144x128, .f32⟩
  | .hbm, ⟨30, _⟩ => ⟨S144x128, .f32⟩
  | .hbm, ⟨31, _⟩ => ⟨S144x128, .f32⟩
  | .hbm, ⟨32, _⟩ => ⟨S_, .f32⟩
  | .hbm, ⟨33, _⟩ => ⟨S144x128, .f32⟩
  | .hbm, ⟨34, _⟩ => ⟨S144x128, .f32⟩
  | .hbm, ⟨35, _⟩ => ⟨S144x128, .f32⟩
  | .hbm, ⟨36, _⟩ => ⟨S_, .f32⟩
  | .hbm, ⟨37, _⟩ => ⟨S144x128, .f32⟩
  | .hbm, ⟨38, _⟩ => ⟨S144x128, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Pre.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S2048x2048, .f32⟩
  | .hbm, ⟨6, _⟩ => ⟨S1x2048, .f32⟩
  | .hbm, ⟨7, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .bf16⟩
  | .hbm, ⟨71, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Merge.lean ====
abbrev S2048x2048 : Shape := ⟨2, ![2048, 2048]⟩
abbrev S2048x11008 : Shape := ⟨2, ![2048, 11008]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x11008, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S2048x2048 : Shape := ⟨2, ![2048, 2048]⟩
abbrev S2048x11008 : Shape := ⟨2, ![2048, 11008]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x11008, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBack.lean ====
abbrev S2048x2048 : Shape := ⟨2, ![2048, 2048]⟩
abbrev S2048x11008 : Shape := ⟨2, ![2048, 11008]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x11008, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBackRefIdeal.lean ====
abbrev S2048x2048 : Shape := ⟨2, ![2048, 2048]⟩
abbrev S2048x11008 : Shape := ⟨2, ![2048, 11008]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x11008, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Gate.lean ====
abbrev S2048x1024 : Shape := ⟨2, ![2048, 1024]⟩
abbrev S2048x11008 : Shape := ⟨2, ![2048, 11008]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x11008, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S2048x1024 : Shape := ⟨2, ![2048, 1024]⟩
abbrev S2048x11008 : Shape := ⟨2, ![2048, 11008]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x11008, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== GateBack.lean ====
abbrev S2048x1024 : Shape := ⟨2, ![2048, 1024]⟩
abbrev S2048x11008 : Shape := ⟨2, ![2048, 11008]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x11008, .f32⟩
  | .hbm, ⟨2, _⟩ => ⟨S2048x1024, .f32⟩
  | .hbm, ⟨3, _⟩ => ⟨S2048x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateBackRefIdeal.lean ====
abbrev S2048x1024 : Shape := ⟨2, ![2048, 1024]⟩
abbrev S2048x11008 : Shape := ⟨2, ![2048, 11008]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x11008, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== OutProduct.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProductRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDx.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDw.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Shift.lean ====
abbrev S2048x11008 : Shape := ⟨2, ![2048, 11008]⟩
abbrev S1x3584 : Shape := ⟨2, ![1, 3584]⟩
abbrev S2048x3584 : Shape := ⟨2, ![2048, 3584]⟩
abbrev S2048x256 : Shape := ⟨2, ![2048, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x11008, .f32⟩
  | .hbm, ⟨1, _⟩ => ⟨S1x3584, .f32⟩
  | .hbm, ⟨2, _⟩ => ⟨S2048x3584, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c12_i32 : BitVec 32 := 12#32
  let v0 : BitVec 1 := Scalar.cmpi .slt arg0 c12_i32
  let c4_i32 : BitVec 32 := 4#32
  let v1 : BitVec 32 := Scalar.addi c4_i32 arg0
  let c40_i32 : BitVec 32 := 40#32
  let v2 : BitVec 32 := Scalar.addi c40_i32 arg0
  let c12_i32_0 : BitVec 32 := 12#32
  let v3 : BitVec 32 := Scalar.subi v2 c12_i32_0
  let v4 : BitVec 32 := Scalar.select v0 v1 v3
  let c0_i32 : BitVec 32 := 0#32
  let c0_i32_1 : BitVec 32 := 0#32
  ![c0_i32.toNat, v4.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ShiftRefIdeal.lean ====
abbrev S2048x11008 : Shape := ⟨2, ![2048, 11008]⟩
abbrev S1x3584 : Shape := ⟨2, ![1, 3584]⟩
abbrev S2048x3072 : Shape := ⟨2, ![2048, 3072]⟩
abbrev S2048x512 : Shape := ⟨2, ![2048, 512]⟩
abbrev S2048x3584 : Shape := ⟨2, ![2048, 3584]⟩
abbrev S_ : Shape := ⟨0, ![]⟩
abbrev S2050x3584 : Shape := ⟨2, ![2050, 3584]⟩

abbrev nBuf : Space → Nat
  | .hbm => 18
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S1x3584, .f32⟩
  | .hbm, ⟨2, _⟩ => ⟨S2048x3072, .f32⟩
  | .hbm, ⟨3, _⟩ => ⟨S2048x512, .f32⟩
  | .hbm, ⟨4, _⟩ => ⟨S2048x3584, .f32⟩
  | .hbm, ⟨5, _⟩ => ⟨S_, .i32⟩
  | .hbm, ⟨6, _⟩ => ⟨S_, .f32⟩
  | .hbm, ⟨7, _⟩ => ⟨S2050x3584, .f32⟩
  | .hbm, ⟨8, _⟩ => ⟨S2048x3584, .f32⟩
  | .hbm, ⟨9, _⟩ => ⟨S2048x3584, .f32⟩
  | .hbm, ⟨10, _⟩ => ⟨S2048x3584, .f32⟩
  | .hbm, ⟨11, _⟩ => ⟨S_, .f32⟩
  | .hbm, ⟨12, _⟩ => ⟨S2048x3584, .f32⟩
  | .hbm, ⟨13, _⟩ => ⟨S2048x3584, .f32⟩
  | .hbm, ⟨14, _⟩ => ⟨S2048x3584, .f32⟩
  | .hbm, ⟨15, _⟩ => ⟨S2048x3584, .f32⟩
  | .hbm, ⟨16, _⟩ => ⟨S2048x3584, .f32⟩
  | .hbm, ⟨17, _⟩ => ⟨S2048x3584, .f32⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ShiftBack.lean ====
abbrev S2048x11008 : Shape := ⟨2, ![2048, 11008]⟩
abbrev S1x3584 : Shape := ⟨2, ![1, 3584]⟩
abbrev S2048x3584 : Shape := ⟨2, ![2048, 3584]⟩
abbrev S2048x256 : Shape := ⟨2, ![2048, 256]⟩
abbrev S1x256 : Shape := ⟨2, ![1, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S2048x11008, .f32⟩
  | .hbm, ⟨1, _⟩ => ⟨S1x3584, .f32⟩
  | .hbm, ⟨2, _⟩ => ⟨S2048x3584, .f32⟩
  | .hbm, ⟨3, _⟩ => ⟨S2048x3584, .bf16⟩
  | .hbm, ⟨4, _⟩ => ⟨S1x3584, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S1x256, .f32⟩
  | .local _ .vmem, ⟨9, _⟩ => ⟨S1x256, .f32⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c12_i32 : BitVec 32 := 12#32
  let v0 : BitVec 1 := Scalar.cmpi .slt arg0 c12_i32
  let c4_i32 : BitVec 32 := 4#32
  let v1 : BitVec 32 := Scalar.addi c4_i32 arg0
  let c40_i32 : BitVec 32 := 40#32
  let v2 : BitVec 32 := Scalar.addi c40_i32 arg0
  let c12_i32_0 : BitVec 32 := 12#32
  let v3 : BitVec 32 := Scalar.subi v2 c12_i32_0
  let v4 : BitVec 32 := Scalar.select v0 v1 v3
  let c0_i32 : BitVec 32 := 0#32
  let c0_i32_1 : BitVec 32 := 0#32
  ![c0_i32.toNat, v4.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShiftBackRefIdeal.lean ====
abbrev S2048x11008 : Shape := ⟨2, ![2048, 11008]⟩
abbrev S1x3584 : Shape := ⟨2, ![1, 3584]⟩
abbrev S2048x3584 : Shape := ⟨2, ![2048, 3584]⟩
abbrev S2048x3072 : Shape := ⟨2, ![2048, 3072]⟩
abbrev S2048x512 : Shape := ⟨2, ![2048, 512]⟩
abbrev S_ : Shape := ⟨0, ![]⟩
abbrev S2047x3584 : Shape := ⟨2, ![2047, 3584]⟩
abbrev S3584 : Shape := ⟨1, ![3584]⟩

abbrev nBuf : Space → Nat
  | .hbm => 49
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S1x3584, .f32⟩
  | .hbm, ⟨2, _⟩ => ⟨S2048x3584, .f32⟩
  | .hbm, ⟨3, _⟩ => ⟨S2048x3072, .f32⟩
  | .hbm, ⟨4, _⟩ => ⟨S2048x512, .f32⟩
  | .hbm, ⟨5, _⟩ => ⟨S2048x3584, .f32⟩
  | .hbm, ⟨6, _⟩ => ⟨S1x3584, .f32⟩
  | .hbm, ⟨7, _⟩ => ⟨S_, .f32⟩
  | .hbm, ⟨8, _⟩ => ⟨S1x3584, .f32⟩
  | .hbm, ⟨9, _⟩ => ⟨S2047x3584, .f32⟩
  | .hbm, ⟨10, _⟩ => ⟨S2048x3584, .f32⟩
  | .hbm, ⟨11, _⟩ => ⟨S_, .f32⟩
  | .hbm, ⟨12, _⟩ => ⟨S1x3584, .f32⟩
  | .hbm, ⟨13, _⟩ => ⟨S2047x3584, .f32⟩
  | .hbm, ⟨14, _⟩ => ⟨S2048x3584, .f32⟩
  | .hbm, ⟨15, _⟩ => ⟨S_, .f32⟩
  | .hbm, ⟨16, _⟩ => ⟨S1x3584, .f32⟩
  | .hbm, ⟨17, _⟩ => ⟨S2048x3584, .f32⟩
  | .hbm, ⟨18, _⟩ => ⟨S_, .f32⟩
  | .hbm, ⟨19, _⟩ => ⟨S2048x3584, .f32⟩
  | .hbm, ⟨20, _⟩ => ⟨S2048x3584, .f32⟩
  | .hbm, ⟨21, _⟩ => ⟨S2048x3584, .f32⟩
  | .hbm, ⟨22, _⟩ => ⟨S2048x3584, .f32⟩
  | .hbm, ⟨23, _⟩ => ⟨S2048x3584, .f32⟩
  | .hbm, ⟨24, _⟩ => ⟨S2048x3584, .f32⟩
  | .hbm, ⟨25, _⟩ => ⟨S2048x3584, .f32⟩
  | .hbm, ⟨26, _⟩ => ⟨S2048x3584, .f32⟩
  | .hbm, ⟨27, _⟩ => ⟨S2048x3584, .f32⟩
  | .hbm, ⟨28, _⟩ => ⟨S2048x3584, .f32⟩
  | .hbm, ⟨29, _⟩ => ⟨S2048x3584, .f32⟩
  | .hbm, ⟨30, _⟩ => ⟨S_, .f32⟩
  | .hbm, ⟨31, _⟩ => ⟨S3584, .f32⟩
  | .hbm, ⟨32, _⟩ => ⟨S1x3584, .f32⟩
  | .hbm, ⟨33, _⟩ => ⟨S2048x3584, .f32⟩
  | .hbm, ⟨34, _⟩ => ⟨S2048x3584, .f32⟩
  | .hbm, ⟨35, _⟩ => ⟨S_, .f32⟩
  | .hbm, ⟨36, _⟩ => ⟨S2048x3584, .f32⟩
  | .hbm, ⟨37, _⟩ => ⟨S2048x3584, .f32⟩
  | .hbm, ⟨38, _⟩ => ⟨S2047x3584, .f32⟩
  | .hbm, ⟨39, _⟩ => ⟨S1x3584, .f32⟩
  | .hbm, ⟨40, _⟩ => ⟨S_, .f32⟩
  | .hbm, ⟨41, _⟩ => ⟨S2048x3584, .f32⟩
  | .hbm, ⟨42, _⟩ => ⟨S2048x3584, .f32⟩
  | .hbm, ⟨43, _⟩ => ⟨S1x3584, .f32⟩
  | .hbm, ⟨44, _⟩ => ⟨S2047x3584, .f32⟩
  | .hbm, ⟨45, _⟩ => ⟨S_, .f32⟩
  | .hbm, ⟨46, _⟩ => ⟨S2048x3584, .f32⟩
  | .hbm, ⟨47, _⟩ => ⟨S2048x3584, .f32⟩
  | .hbm, ⟨48, _⟩ => ⟨S2048x3584, .bf16⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Attention.lean ====
abbrev S8x2048x192 : Shape := ⟨3, ![8, 2048, 192]⟩
abbrev S8x2048x128 : Shape := ⟨3, ![8, 2048, 128]⟩
abbrev S1x256x192 : Shape := ⟨3, ![1, 256, 192]⟩
abbrev S1x2048x192 : Shape := ⟨3, ![1, 2048, 192]⟩
abbrev S1x2048x128 : Shape := ⟨3, ![1, 2048, 128]⟩
abbrev S1x256x128 : Shape := ⟨3, ![1, 256, 128]⟩
abbrev S256x192 : Shape := ⟨2, ![256, 192]⟩
abbrev S2048x192 : Shape := ⟨2, ![2048, 192]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S8x2048x128, .f32⟩
  | .local _ .vmem, ⟨0, _⟩ => ⟨S1x256x192, .bf16⟩
  | .local _ .vmem, ⟨1, _⟩ => ⟨S1x256x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .f32⟩
  | .local _ .vmem, ⟨7, _⟩ => ⟨S1x256x128, .f32⟩
  | _, _ => ⟨S8x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionRefIdeal.lean ====
abbrev S8x2048x192 : Shape := ⟨3, ![8, 2048, 192]⟩
abbrev S8x2048x128 : Shape := ⟨3, ![8, 2048, 128]⟩
abbrev S8x2048x2048 : Shape := ⟨3, ![8, 2048, 2048]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S8x2048x128, .bf16⟩
  | .hbm, ⟨4, _⟩ => ⟨S8x2048x128, .bf16⟩
  | .hbm, ⟨5, _⟩ => ⟨S8x2048x2048, .f32⟩
  | .hbm, ⟨6, _⟩ => ⟨S8x2048x64, .bf16⟩
  | .hbm, ⟨7, _⟩ => ⟨S8x2048x64, .bf16⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .bf16⟩
  | .hbm, ⟨28, _⟩ => ⟨S8x2048x128, .f32⟩
  | _, _ => ⟨S8x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== InProduct.lean ====
abbrev S2048x2048 : Shape := ⟨2, ![2048, 2048]⟩
abbrev S2048x11008 : Shape := ⟨2, ![2048, 11008]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x11008, .bf16⟩
  | .hbm, ⟨2, _⟩ => ⟨S2048x11008, .f32⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProductRefIdeal.lean ====
abbrev S2048x2048 : Shape := ⟨2, ![2048, 2048]⟩
abbrev S2048x11008 : Shape := ⟨2, ![2048, 11008]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11008, .bf16⟩
  | .hbm, ⟨2, _⟩ => ⟨S2048x2048, .f32⟩
  | .hbm, ⟨3, _⟩ => ⟨S2048x11008, .f32⟩
  | .hbm, ⟨4, _⟩ => ⟨S2048x11008, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDw.lean ====
abbrev S2048x2048 : Shape := ⟨2, ![2048, 2048]⟩
abbrev S2048x11008 : Shape := ⟨2, ![2048, 11008]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x11008, .bf16⟩
  | .hbm, ⟨2, _⟩ => ⟨S2048x11008, .f32⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x2048 : Shape := ⟨2, ![2048, 2048]⟩
abbrev S2048x11008 : Shape := ⟨2, ![2048, 11008]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11008, .bf16⟩
  | .hbm, ⟨2, _⟩ => ⟨S2048x2048, .f32⟩
  | .hbm, ⟨3, _⟩ => ⟨S2048x2048, .f32⟩
  | .hbm, ⟨4, _⟩ => ⟨S2048x11008, .f32⟩
  | .hbm, ⟨5, _⟩ => ⟨S2048x11008, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Branch.lean ====
abbrev S2048x1024 : Shape := ⟨2, ![2048, 1024]⟩
abbrev S1024x2048 : Shape := ⟨2, ![1024, 2048]⟩
abbrev S2048x2048 : Shape := ⟨2, ![2048, 2048]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchDx.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x2048, .f32⟩
  | .hbm, ⟨3, _⟩ => ⟨S1024x2048, .f32⟩
  | .hbm, ⟨4, _⟩ => ⟨S2048x1024, .f32⟩
  | .hbm, ⟨5, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchDw.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwRefIdeal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | .hbm, ⟨5, _⟩ => ⟨S1024x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDx.lean ====
abbrev S2048x11008 : Shape := ⟨2, ![2048, 11008]⟩
abbrev S2048x2048 : Shape := ⟨2, ![2048, 2048]⟩
abbrev S512x5504 : Shape := ⟨2, ![512, 5504]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x11008, .bf16⟩
  | .hbm, ⟨1, _⟩ => ⟨S2048x11008, .bf16⟩
  | .hbm, ⟨2, _⟩ => ⟨S2048x2048, .f32⟩
  | .local _ .vmem, ⟨0, _⟩ => ⟨S512x5504, .bf16⟩
  | .local _ .vmem, ⟨1, _⟩ => ⟨S512x5504, .bf16⟩
  | .local _ .vmem, ⟨2, _⟩ => ⟨S512x5504, .bf16⟩
  | .local _ .vmem, ⟨3, _⟩ => ⟨S512x5504, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2048x11008 : Shape := ⟨2, ![2048, 11008]⟩
abbrev S11008x2048 : Shape := ⟨2, ![11008, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11008, .bf16⟩
  | .hbm, ⟨1, _⟩ => ⟨S2048x11008, .bf16⟩
  | .hbm, ⟨2, _⟩ => ⟨S2048x11008, .f32⟩
  | .hbm, ⟨3, _⟩ => ⟨S2048x11008, .f32⟩
  | .hbm, ⟨4, _⟩ => ⟨S11008x2048, .f32⟩
  | .hbm, ⟨5, _⟩ => ⟨S2048x2048, .f32⟩
  | _, _ => ⟨S2048x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttentionBack.lean ====
abbrev S8x2048x192 : Shape := ⟨3, ![8, 2048, 192]⟩
abbrev S8x2048x128 : Shape := ⟨3, ![8, 2048, 128]⟩
abbrev S1x256x192 : Shape := ⟨3, ![1, 256, 192]⟩
abbrev S1x2048x192 : Shape := ⟨3, ![1, 2048, 192]⟩
abbrev S1x2048x128 : Shape := ⟨3, ![1, 2048, 128]⟩
abbrev S1x256x128 : Shape := ⟨3, ![1, 256, 128]⟩
abbrev S256x192 : Shape := ⟨2, ![256, 192]⟩
abbrev S2048x192 : Shape := ⟨2, ![2048, 192]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S8x2048x128, .f32⟩
  | .hbm, ⟨4, _⟩ => ⟨S8x2048x192, .f32⟩
  | .hbm, ⟨5, _⟩ => ⟨S8x2048x192, .f32⟩
  | .hbm, ⟨6, _⟩ => ⟨S8x2048x128, .f32⟩
  | .local _ .vmem, ⟨0, _⟩ => ⟨S1x256x192, .bf16⟩
  | .local _ .vmem, ⟨1, _⟩ => ⟨S1x256x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x192, .f32⟩
  | .local _ .vmem, ⟨9, _⟩ => ⟨S1x256x192, .f32⟩
  | .local _ .vmem, ⟨10, _⟩ => ⟨S1x2048x192, .f32⟩
  | .local _ .vmem, ⟨11, _⟩ => ⟨S1x2048x192, .f32⟩
  | .local _ .vmem, ⟨12, _⟩ => ⟨S1x2048x128, .f32⟩
  | .local _ .vmem, ⟨13, _⟩ => ⟨S1x2048x128, .f32⟩
  | _, _ => ⟨S8x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttentionBackRefIdeal.lean ====
abbrev S8x2048x192 : Shape := ⟨3, ![8, 2048, 192]⟩
abbrev S8x2048x128 : Shape := ⟨3, ![8, 2048, 128]⟩
abbrev S8x2048x2048 : Shape := ⟨3, ![8, 2048, 2048]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S8x2048x128, .f32⟩
  | .hbm, ⟨4, _⟩ => ⟨S8x2048x192, .f32⟩
  | .hbm, ⟨5, _⟩ => ⟨S8x2048x192, .f32⟩
  | .hbm, ⟨6, _⟩ => ⟨S8x2048x128, .f32⟩
  | .hbm, ⟨7, _⟩ => ⟨S8x2048x128, .f32⟩
  | .hbm, ⟨8, _⟩ => ⟨S8x2048x128, .f32⟩
  | .hbm, ⟨9, _⟩ => ⟨S8x2048x2048, .f32⟩
  | .hbm, ⟨10, _⟩ => ⟨S8x2048x64, .f32⟩
  | .hbm, ⟨11, _⟩ => ⟨S8x2048x64, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .i1⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .i1⟩
  | .hbm, ⟨31, _⟩ => ⟨S_, .f32⟩
  | .hbm, ⟨32, _⟩ => ⟨S8x2048, .f32⟩
  | .hbm, ⟨33, _⟩ => ⟨S8x2048, .i1⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x128, .f32⟩
  | .hbm, ⟨56, _⟩ => ⟨S8x128x2048, .f32⟩
  | .hbm, ⟨57, _⟩ => ⟨S8x2048x128, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048x2048, .f32⟩
  | .hbm, ⟨75, _⟩ => ⟨S8x2048x2048, .f32⟩
  | .hbm, ⟨76, _⟩ => ⟨S8x2048x64, .f32⟩
  | .hbm, ⟨77, _⟩ => ⟨S8x2048x64, .f32⟩
  | .hbm, ⟨78, _⟩ => ⟨S_, .f32⟩
  | .hbm, ⟨79, _⟩ => ⟨S8x2048x192, .f32⟩
  | .hbm, ⟨80, _⟩ => ⟨S_, .f32⟩
  | .hbm, ⟨81, _⟩ => ⟨S8x2048x192, .f32⟩
  | .hbm, ⟨82, _⟩ => ⟨S8x2048x128, .f32⟩
  | .hbm, ⟨83, _⟩ => ⟨S8x2048x128, .f32⟩
  | .hbm, ⟨84, _⟩ => ⟨S_, .f32⟩
  | .hbm, ⟨85, _⟩ => ⟨S8x2048x192, .f32⟩
  | .hbm, ⟨86, _⟩ => ⟨S8x2048x192, .f32⟩
  | .hbm, ⟨87, _⟩ => ⟨S_, .f32⟩
  | .hbm, ⟨88, _⟩ => ⟨S8x2048x192, .f32⟩
  | .hbm, ⟨89, _⟩ => ⟨S8x2048x192, .f32⟩
  | _, _ => ⟨S8x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Latent.lean ====
abbrev S2048x11008 : Shape := ⟨2, ![2048, 11008]⟩
abbrev S1x512 : Shape := ⟨2, ![1, 512]⟩
abbrev S512x1536 : Shape := ⟨2, ![512, 1536]⟩
abbrev S512x2048 : Shape := ⟨2, ![512, 2048]⟩
abbrev S2048x32 : Shape := ⟨2, ![2048, 32]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S_ : Shape := ⟨0, ![]⟩
abbrev S2048x128 : Shape := ⟨2, ![2048, 128]⟩
abbrev S128x32 : Shape := ⟨2, ![128, 32]⟩
abbrev S1x128x1x32 : Shape := ⟨4, ![1, 128, 1, 32]⟩
abbrev S1x128x8x32 : Shape := ⟨4, ![1, 128, 8, 32]⟩
abbrev S128x256 : Shape := ⟨2, ![128, 256]⟩
abbrev S2048x1024 : Shape := ⟨2, ![2048, 1024]⟩
abbrev S256x512 : Shape := ⟨2, ![256, 512]⟩
abbrev S256x256 : Shape := ⟨2, ![256, 256]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x2048 : Shape := ⟨2, ![256, 2048]⟩

abbrev nBuf : Space → Nat
  | .hbm => 36
  | .vmem => 33
  | .smem => 0
  | _ => 0

abbrev bufTy : (tb : Table) → Fin (tcTables nBuf tb) → BufTy
  | .hbm, ⟨0, _⟩ => ⟨S2048x11008, .f32⟩
  | .hbm, ⟨1, _⟩ => ⟨S1x512, .f32⟩
  | .hbm, ⟨2, _⟩ => ⟨S1x512, .f32⟩
  | .hbm, ⟨3, _⟩ => ⟨S512x1536, .f32⟩
  | .hbm, ⟨4, _⟩ => ⟨S512x2048, .f32⟩
  | .hbm, ⟨5, _⟩ => ⟨S2048x32, .f32⟩
  | .hbm, ⟨6, _⟩ => ⟨S2048x32, .f32⟩
  | .hbm, ⟨7, _⟩ => ⟨S1x2048x1x32, .f32⟩
  | .hbm, ⟨8, _⟩ => ⟨S1x2048x8x32, .f32⟩
  | .hbm, ⟨9, _⟩ => ⟨S2048x256, .f32⟩
  | .hbm, ⟨10, _⟩ => ⟨S1x2048x1x32, .f32⟩
  | .hbm, ⟨11, _⟩ => ⟨S1x2048x8x32, .f32⟩
  | .hbm, ⟨12, _⟩ => ⟨S2048x256, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S128x32, .i32⟩
  | .hbm, ⟨20, _⟩ => ⟨S128x32, .i32⟩
  | .hbm, ⟨21, _⟩ => ⟨S_, .i32⟩
  | .hbm, ⟨22, _⟩ => ⟨S128x32, .i32⟩
  | .hbm, ⟨23, _⟩ => ⟨S128x32, .i32⟩
  | .hbm, ⟨24, _⟩ => ⟨S128x32, .i1⟩
  | .hbm, ⟨25, _⟩ => ⟨S128x32, .bf16⟩
  | .hbm, ⟨26, _⟩ => ⟨S1x128x1x32, .bf16⟩
  | .hbm, ⟨27, _⟩ => ⟨S1x128x8x32, .bf16⟩
  | .hbm, ⟨28, _⟩ => ⟨S128x256, .bf16⟩
  | .hbm, ⟨29, _⟩ => ⟨S2048x1024, .bf16⟩
  | .hbm, ⟨30, _⟩ => ⟨S2048x256, .bf16⟩
  | .hbm, ⟨31, _⟩ => ⟨S2048x256, .bf16⟩
  | .hbm, ⟨32, _⟩ => ⟨S2048x1024, .bf16⟩
  | .hbm, ⟨33, _⟩ => ⟨S2048x256, .bf16⟩
  | .hbm, ⟨34, _⟩ => ⟨S2048x256, .bf16⟩
  | .hbm, ⟨35, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x512, .f32⟩
  | .local _ .vmem, ⟨15, _⟩ => ⟨S1x512, .f32⟩
  | .local _ .vmem, ⟨16, _⟩ => ⟨S512x1536, .f32⟩
  | .local _ .vmem, ⟨17, _⟩ => ⟨S512x2048, .f32⟩
  | .local _ .vmem, ⟨18, _⟩ => ⟨S128x256, .bf16⟩
  | .local _ .vmem, ⟨19, _⟩ => ⟨S256x1024, .bf16⟩
  | .local _ .vmem, ⟨20, _⟩ => ⟨S256x1024, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S256x1024, .bf16⟩
  | .local _ .vmem, ⟨26, _⟩ => ⟨S256x1024, .bf16⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S256x256, .bf16⟩
  | .local _ .vmem, ⟨31, _⟩ => ⟨S256x1024, .bf16⟩
  | .local _ .vmem, ⟨32, _⟩ => ⟨S256x1024, .bf16⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v17_5 : Ref sig .tc := ⟨.hbm, 34, rfl⟩
abbrev main_v17_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== LatentRefIdeal.lean ====
abbrev S2048x11008 : Shape := ⟨2, ![2048, 11008]⟩
abbrev S1x512 : Shape := ⟨2, ![1, 512]⟩
abbrev S512x1536 : Shape := ⟨2, ![512, 1536]⟩
abbrev S512x2048 : Shape := ⟨2, ![512, 2048]⟩
abbrev S2048x32 : Shape := ⟨2, ![2048, 32]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S2048x1536 : Shape := ⟨2, ![2048, 1536]⟩
abbrev S2048x2048 : Shape := ⟨2, ![2048, 2048]⟩
abbrev S2048x256 : Shape := ⟨2, ![2048, 256]⟩
abbrev S2048x8x32 : Shape := ⟨3, ![2048, 8, 32]⟩
abbrev S2048x1x32 : Shape := ⟨3, ![2048, 1, 32]⟩
abbrev S2048x1024 : Shape := ⟨2, ![2048, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S1x512, .f32⟩
  | .hbm, ⟨2, _⟩ => ⟨S1x512, .f32⟩
  | .hbm, ⟨3, _⟩ => ⟨S512x1536, .f32⟩
  | .hbm, ⟨4, _⟩ => ⟨S512x2048, .f32⟩
  | .hbm, ⟨5, _⟩ => ⟨S2048x32, .f32⟩
  | .hbm, ⟨6, _⟩ => ⟨S2048x32, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x1536, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x2048, .f32⟩
  | .hbm, ⟨41, _⟩ => ⟨S2048x256, .f32⟩
  | .hbm, ⟨42, _⟩ => ⟨S2048x8x32, .f32⟩
  | .hbm, ⟨43, _⟩ => ⟨S2048x256, .f32⟩
  | .hbm, ⟨44, _⟩ => ⟨S2048x8x32, .f32⟩
  | .hbm, ⟨45, _⟩ => ⟨S2048x32, .f32⟩
  | .hbm, ⟨46, _⟩ => ⟨S2048x32, .f32⟩
  | .hbm, ⟨47, _⟩ => ⟨S2048x1x32, .f32⟩
  | .hbm, ⟨48, _⟩ => ⟨S2048x8x32, .f32⟩
  | .hbm, ⟨49, _⟩ => ⟨S2048x8x32, .f32⟩
  | .hbm, ⟨50, _⟩ => ⟨S2048x1x32, .f32⟩
  | .hbm, ⟨51, _⟩ => ⟨S2048x8x32, .f32⟩
  | .hbm, ⟨52, _⟩ => ⟨S2048x8x32, .f32⟩
  | .hbm, ⟨53, _⟩ => ⟨S2048x8x32, .f32⟩
  | .hbm, ⟨54, _⟩ => ⟨S2048x1x32, .f32⟩
  | .hbm, ⟨55, _⟩ => ⟨S2048x8x32, .f32⟩
  | .hbm, ⟨56, _⟩ => ⟨S2048x8x32, .f32⟩
  | .hbm, ⟨57, _⟩ => ⟨S2048x1x32, .f32⟩
  | .hbm, ⟨58, _⟩ => ⟨S2048x8x32, .f32⟩
  | .hbm, ⟨59, _⟩ => ⟨S2048x8x32, .f32⟩
  | .hbm, ⟨60, _⟩ => ⟨S2048x8x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x1x32, .f32⟩
  | .hbm, ⟨65, _⟩ => ⟨S2048x8x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x1x32, .f32⟩
  | .hbm, ⟨70, _⟩ => ⟨S2048x8x32, .f32⟩
  | .hbm, ⟨71, _⟩ => ⟨S2048x1024, .f32⟩
  | .hbm, ⟨72, _⟩ => ⟨S2048x1024, .bf16⟩
  | .hbm, ⟨73, _⟩ => ⟨S2048x256, .f32⟩
  | .hbm, ⟨74, _⟩ => ⟨S2048x256, .bf16⟩
  | .hbm, ⟨75, _⟩ => ⟨S2048x256, .f32⟩
  | .hbm, ⟨76, _⟩ => ⟨S2048x256, .bf16⟩
  | .hbm, ⟨77, _⟩ => ⟨S2048x1024, .f32⟩
  | .hbm, ⟨78, _⟩ => ⟨S2048x1024, .bf16⟩
  | .hbm, ⟨79, _⟩ => ⟨S2048x256, .f32⟩
  | .hbm, ⟨80, _⟩ => ⟨S2048x256, .bf16⟩
  | .hbm, ⟨81, _⟩ => ⟨S2048x256, .f32⟩
  | .hbm, ⟨82, _⟩ => ⟨S2048x256, .bf16⟩
  | .hbm, ⟨83, _⟩ => ⟨S2048x1024, .f32⟩
  | .hbm, ⟨84, _⟩ => ⟨S2048x1024, .bf16⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩

abbrev nD : Nat := 1
abbrev τ : Topo := Topo.v7x

variable {F : FTy → Type} [FloatOps F]
-- ==== MixerRows.lean ====
abbrev S2048x1024 : Shape := ⟨2, ![2048, 1024]⟩
abbrev S2048x11008 : Shape := ⟨2, ![2048, 11008]⟩
abbrev S1x1024 : Shape := ⟨2, ![1, 1024]⟩
abbrev S2x2 : Shape := ⟨2, ![2, 2]⟩
abbrev S_ : Shape := ⟨0, ![]⟩
abbrev S2x1x2x1 : Shape := ⟨4, ![2, 1, 2, 1]⟩
abbrev S2x64x2x64 : Shape := ⟨4, ![2, 64, 2, 64]⟩
abbrev S128x128 : Shape := ⟨2, ![128, 128]⟩
abbrev S256x1024 : Shape := ⟨2, ![256, 1024]⟩
abbrev S256x128 : Shape := ⟨2, ![256, 128]⟩

abbrev nBuf : Space → Nat
  | .hbm => 21
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x11008, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2x2, .i32⟩
  | .hbm, ⟨11, _⟩ => ⟨S2x2, .i32⟩
  | .hbm, ⟨12, _⟩ => ⟨S_, .i32⟩
  | .hbm, ⟨13, _⟩ => ⟨S2x2, .i32⟩
  | .hbm, ⟨14, _⟩ => ⟨S2x2, .i32⟩
  | .hbm, ⟨15, _⟩ => ⟨S2x2, .i1⟩
  | .hbm, ⟨16, _⟩ => ⟨S2x2, .bf16⟩
  | .hbm, ⟨17, _⟩ => ⟨S2x1x2x1, .bf16⟩
  | .hbm, ⟨18, _⟩ => ⟨S2x64x2x64, .bf16⟩
  | .hbm, ⟨19, _⟩ => ⟨S128x128, .bf16⟩
  | .hbm, ⟨20, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S128x128, .bf16⟩
  | .local _ .vmem, ⟨18, _⟩ => ⟨S256x1024, .bf16⟩
  | .local _ .vmem, ⟨19, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixerRowsRefIdeal.lean ====
abbrev S2048x1024 : Shape := ⟨2, ![2048, 1024]⟩
abbrev S2048x11008 : Shape := ⟨2, ![2048, 11008]⟩
abbrev S1x1024 : Shape := ⟨2, ![1, 1024]⟩
abbrev S2048x16x64 : Shape := ⟨3, ![2048, 16, 64]⟩
abbrev S_ : Shape := ⟨0, ![]⟩
abbrev S2048x16 : Shape := ⟨2, ![2048, 16]⟩
abbrev S2048x16x1 : Shape := ⟨3, ![2048, 16, 1]⟩
abbrev S16x64 : Shape := ⟨2, ![16, 64]⟩
abbrev S1x16x64 : Shape := ⟨3, ![1, 16, 64]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x11008, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x16x64, .f32⟩
  | .hbm, ⟨11, _⟩ => ⟨S2048x16x64, .f32⟩
  | .hbm, ⟨12, _⟩ => ⟨S2048x16x64, .f32⟩
  | .hbm, ⟨13, _⟩ => ⟨S_, .f32⟩
  | .hbm, ⟨14, _⟩ => ⟨S2048x16, .f32⟩
  | .hbm, ⟨15, _⟩ => ⟨S2048x16x1, .f32⟩
  | .hbm, ⟨16, _⟩ => ⟨S_, .f32⟩
  | .hbm, ⟨17, _⟩ => ⟨S2048x16x1, .f32⟩
  | .hbm, ⟨18, _⟩ => ⟨S2048x16x1, .f32⟩
  | .hbm, ⟨19, _⟩ => ⟨S2048x16x64, .f32⟩
  | .hbm, ⟨20, _⟩ => ⟨S2048x16x64, .f32⟩
  | .hbm, ⟨21, _⟩ => ⟨S2048x16x64, .f32⟩
  | .hbm, ⟨22, _⟩ => ⟨S_, .f32⟩
  | .hbm, ⟨23, _⟩ => ⟨S2048x16, .f32⟩
  | .hbm, ⟨24, _⟩ => ⟨S2048x16x1, .f32⟩
  | .hbm, ⟨25, _⟩ => ⟨S_, .f32⟩
  | .hbm, ⟨26, _⟩ => ⟨S2048x16x1, .f32⟩
  | .hbm, ⟨27, _⟩ => ⟨S2048x16x1, .f32⟩
  | .hbm, ⟨28, _⟩ => ⟨S2048x16x64, .f32⟩
  | .hbm, ⟨29, _⟩ => ⟨S2048x16x64, .f32⟩
  | .hbm, ⟨30, _⟩ => ⟨S_, .f32⟩
  | .hbm, ⟨31, _⟩ => ⟨S2048x16x1, .f32⟩
  | .hbm, ⟨32, _⟩ => ⟨S2048x16x1, .f32⟩
  | .hbm, ⟨33, _⟩ => ⟨S2048x16x1, .f32⟩
  | .hbm, ⟨34, _⟩ => ⟨S2048x16x64, .f32⟩
  | .hbm, ⟨35, _⟩ => ⟨S2048x16x64, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x16x64, .f32⟩
  | .hbm, ⟨42, _⟩ => ⟨S2048x16x64, .f32⟩
  | .hbm, ⟨43, _⟩ => ⟨S2048x16x64, .f32⟩
  | .hbm, ⟨44, _⟩ => ⟨S2048x16x64, .f32⟩
  | .hbm, ⟨45, _⟩ => ⟨S2048x16x64, .f32⟩
  | .hbm, ⟨46, _⟩ => ⟨S16x64, .f32⟩
  | .hbm, ⟨47, _⟩ => ⟨S1x16x64, .f32⟩
  | .hbm, ⟨48, _⟩ => ⟨S2048x16x64, .f32⟩
  | .hbm, ⟨49, _⟩ => ⟨S2048x16x64, .f32⟩
  | .hbm, ⟨50, _⟩ => ⟨S_, .f32⟩
  | .hbm, ⟨51, _⟩ => ⟨S2048x16, .f32⟩
  | .hbm, ⟨52, _⟩ => ⟨S2048x16x1, .f32⟩
  | .hbm, ⟨53, _⟩ => ⟨S2048x16x64, .f32⟩
  | .hbm, ⟨54, _⟩ => ⟨S2048x16x64, .f32⟩
  | .hbm, ⟨55, _⟩ => ⟨S2048x16x64, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.Talk.lean ====
/-
  Kernels that talk once. Every kernel proved here exchanges data in the same way: each DMA semaphore it uses is
  completed by exactly one transfer, waited for exactly once. A `Talk` lists those semaphores; `sched` is the protocol
  (one round, one duty, on each of them, on every device), parametrised by what each completion hands over. The lemmas
  below issue a transfer between devices, issue a copy on one device, and wait, under such a protocol.

  `run_talk` is the launch: it hands the proof every device's buffers, semaphores, dues and credit at once, so that a
  buffer can be dealt to the device that will write it before any device starts.
-/
module

public import Idealize.ShloMosaic.Lib.Pipeline.Kit
public import Idealize.ShloMosaic.Lib.Pipeline.Regions
public import Idealize.ShloMosaic.Lib.Pipeline.RegionsLoop
public import Idealize.ShloMosaic.Lib.Tactic

@[expose] public section

noncomputable section

namespace Cert.Talking

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred owing)

variable {nD : ℕ} {τ : Topo} {sig : RefSig} {Val : EltTy → Type}

/-- The ghost state: one copy of the rounds library's for the pipelines, one for the exchange. -/
abbrev UU (nD : ℕ) (τ : Topo) (sig : RefSig) : Type := UR sig nD τ × UR sig nD τ

local notation "𝕄" => MT nD τ sig Unit Val ℕ (UU nD τ sig) ℕ

/-- The pipelines' copy. -/
abbrev EP : Emb (UR sig nD τ) (MT nD τ sig Unit Val ℕ (UU nD τ sig) ℕ) := embL
/-- The exchange's copy. -/
abbrev ER : Emb (UR sig nD τ) (MT nD τ sig Unit Val ℕ (UU nD τ sig) ℕ) := embR

/-! ## The launch -/

/-- A program run on every device, from every device's launch resources held together: `hinit` redistributes them into
    one assertion `T₀ c` per device, `hrun` runs the program on each device from it, and `hfin` reads the final
    memory off what the devices are left with. Every semaphore that is scoped, or not a TensorCore's, ends at zero. -/
theorem run_talk {Λ : Labels} (𝔻 : Defs nD τ sig Val Λ) (𝒱 : Variants) [∀ e, Nonempty (Val e)]
    (m : (ℓ : Loc nD τ sig) → Buf Val ℓ) (g : Dev nD → PrngReg)
    (main : Dev nD → Prog (TpuEff nD τ sig Val Λ .tc) PUnit)
    (O₀ : Dev nD → CellTallies nD τ sig Unit) (u₀ : UU nD τ sig) (T₀ Tₙ : Dev nD → sProp 𝕄)
    (hinit : iprop((bigSep Finset.univ fun c : Dev nD => iprop(boundary (c.tc : Thread nD τ)
          ∗ unscopedBufs c (fun b => m ((c.tc : Thread nD τ).loc b)) ∗ owes (c.tc : Thread nD τ) (O₀ c) ∅ ∗ launchCred O₀ c))
        ∗ ownU u₀) ⊢ |={Set.univ}=> bigSep Finset.univ T₀)
    (hrun : ∀ c : Dev nD, T₀ c ⊢ wp frame (wpE 𝔻 𝒱 (c.tc : Thread nD τ) none) Set.univ (main c)
      fun _ => iprop((Tₙ c ∗ boundary (c.tc : Thread nD τ)) ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝒱 (owing O₀) 0 (noBookings fun _ => le_rfl) (Pipeline.owing_of_ne O₀) u₀ (fun _ => T₀) (fun _ => fin)
      (fun _ => iprop(emp)) Set.univ ?_ (fun _ c => ?_) fun _ => ?_))
  · have hcores : (bigSep Finset.univ fun d : Dev nD =>
          coreInit (Ix := Unit) (Name := ℕ) (U := UU nD τ sig) (Lvl := ℕ) (owing O₀) 0 (⟨m, fun _ => 0, g⟩ : MemSt nD τ sig Val) (d.tc : Thread nD τ))
        ⊢ (bigSep Finset.univ fun c : Dev nD => iprop(boundary (c.tc : Thread nD τ)
            ∗ unscopedBufs c (fun b => m ((c.tc : Thread nD τ).loc b)) ∗ owes (c.tc : Thread nD τ) (O₀ c) ∅ ∗ launchCred O₀ c) : sProp 𝕄) :=
      bigSep_mono fun c _ => (Pipeline.coreInit_boundary_owing O₀ m g c).trans (by
        iintro ⟨Hb, Hub, -, HL, -, -, Hcr⟩
        isplitl [Hb]; · iexact Hb
        isplitl [Hub]; · iexact Hub
        isplitl [HL]; · iexact HL
        iexact Hcr)
    iintro ⟨Hcores, Hu⟩
    ihave Hc := hcores $$ Hcores
    imod hinit $$ [Hc Hu] with HT
    · isplitl [Hc] <;> iassumption
    imodintro
    iexists ()
    isplitl [HT]; · iexact HT
    iempintro
  · refine (hrun c).trans (wp_mono _ _ _ fun _ => ?_)
    unfold post; simp only [liftTc_tc, fin]
    exact BI.Entails.refl _
  · iintro ⟨H, -, Hsc⟩ %s' HSI
    ihave %hsc := (scSems_read_zero m g s') $$ [Hsc HSI]
    · isplitl [Hsc] <;> iassumption
    imod (posts_fupd Finset.univ (fun c s' => Pipeline.boundary_read c s' (hfin c s')) s') $$ [H HSI] with %h
    · isplitl [H] <;> iassumption
    imodintro
    ipureintro
    exact ⟨fun c => h c (Finset.mem_univ c), hsc⟩

/-! ## The protocol -/

/-- The semaphores of an exchange, each completed by one transfer of `N` units. -/
structure Talk (sig : RefSig) where
  n : ℕ
  sem : Fin n → SemLoc sig
  inj : Function.Injective sem
  N : ℕ
  pos : 0 < N

namespace Talk

variable (T : Talk sig)

/-- Device `c`'s `i`-th cell. -/
abbrev cell (τ : Topo) (c : Dev nD) (i : Fin T.n) : GSem nD τ sig := ((c.tc : Thread nD τ), T.sem i)

/-- All cells, indexed. -/
def cellEmb (nD : ℕ) (τ : Topo) : Dev nD × Fin T.n ↪ GSem nD τ sig where
  toFun x := T.cell τ x.1 x.2
  inj' := by
    rintro ⟨c, i⟩ ⟨c', i'⟩ h
    obtain ⟨h1, h2⟩ := Prod.mk.inj h
    exact Prod.ext (Prod.mk.inj h1).1 (T.inj h2)

/-- The launch's tokens: one per cell. -/
def tokEmb (nD : ℕ) (τ : Topo) : Dev nD × Fin T.n ↪ GSem nD τ sig × ℕ × Unit where
  toFun x := (T.cell τ x.1 x.2, 0, ())
  inj' := fun _ _ h => (T.cellEmb nD τ).injective (congrArg Prod.fst h)

/-- The exchange's launch element. -/
def init (nD : ℕ) (τ : Topo) : UR sig nD τ :=
  initOf (Finset.univ.map (T.cellEmb nD τ)) (Finset.univ.map (T.tokEmb nD τ))

variable (pay : Dev nD → Fin T.n → sProp (MT nD τ sig Unit Val ℕ (UU nD τ sig) ℕ))

open Classical in
/-- The protocol: on every cell one round of one duty, whose completion hands `pay c i` to device `c`. -/
def sched : Rounds.Schedule (GSem nD τ sig) Unit 𝕄 where
  duties g r := if r = 0 ∧ g.1.2 = .tc ∧ ∃ i, T.sem i = g.2 then {()} else ∅
  amount _ _ _ := T.N
  payload g _ _ := if h : ∃ i, T.sem i = g.2 then pay g.1.1 h.choose else iprop(emp)
  amount_pos _ _ _ _ := T.pos
  unitless _ := False

theorem duties_zero (c : Dev nD) (i : Fin T.n) : (T.sched (τ := τ) pay).duties (T.cell τ c i) 0 = {()} :=
  if_pos ⟨rfl, rfl, i, rfl⟩

theorem duties_later (g : GSem nD τ sig) (r : ℕ) (h : 1 ≤ r) : (T.sched (τ := τ) pay).duties g r = ∅ :=
  if_neg fun h' => absurd h'.1 (by omega)

theorem payload_eq (c : Dev nD) (i : Fin T.n) (r : ℕ) (d : Unit) :
    (T.sched (τ := τ) pay).payload (T.cell τ c i) r d = pay c i := by
  have h : ∃ j, T.sem j = (T.cell τ c i : GSem nD τ sig).2 := ⟨i, rfl⟩
  show (if h : ∃ j, T.sem j = (T.cell τ c i : GSem nD τ sig).2 then pay c h.choose else iprop(emp)) = _
  rw [dif_pos h, T.inj h.choose_spec]

theorem expect_eq (c : Dev nD) (i : Fin T.n) : (T.sched (τ := τ) pay).expect (T.cell τ c i) 0 = T.N := by
  unfold Schedule.expect Schedule.amountOf
  rw [duties_zero, Finset.sum_singleton]
  rfl

variable [hst : ∀ c i, Storable (upEmb : UEmb _ (MT nD τ sig Unit Val ℕ (UU nD τ sig) ℕ)) (pay c i)]

instance sched_storable (g : GSem nD τ sig) (r : ℕ) (d : Unit) : Storable (upEmb : UEmb _ 𝕄) ((T.sched (τ := τ) pay).payload g r d) := by
  show Storable _ (if h : ∃ i, T.sem i = g.2 then pay g.1.1 h.choose else iprop(emp))
  split
  · exact hst _ _
  · infer_instance

/-- Every cell's invariant, and that its round is open. -/
def invs (κ : Dev nD × Fin T.n → ℕ) : sProp 𝕄 :=
  bigSep Finset.univ fun x => iprop(cellInv ER (T.sched (τ := τ) pay) (κ x) (T.cell τ x.1 x.2) ∗ reached ER (T.cell τ x.1 x.2) 0)

instance invs_persistent (κ : Dev nD × Fin T.n → ℕ) : Persistent (T.invs (τ := τ) pay κ) := by
  unfold invs; infer_instance

omit hst in
theorem invs_get (κ : Dev nD × Fin T.n → ℕ) (c : Dev nD) (i : Fin T.n) :
    T.invs (τ := τ) pay κ ⊢ iprop(cellInv ER (T.sched (τ := τ) pay) (κ (c, i)) (T.cell τ c i) ∗ reached ER (T.cell τ c i) 0) :=
  BI.bigSep_elim (Φ := fun x : Dev nD × Fin T.n => iprop(cellInv ER (T.sched (τ := τ) pay) (κ x) (T.cell τ x.1 x.2) ∗ reached ER (T.cell τ x.1 x.2) 0))
    (Finset.mem_univ (c, i))

/-- The right to wait on device `c`'s cell `i`. -/
abbrev at0 (c : Dev nD) (i : Fin T.n) : sProp 𝕄 := atPos ER (T.cell τ c i) 0 ∅ 0
/-- The right to complete device `c`'s cell `i`. -/
abbrev tok (c : Dev nD) (i : Fin T.n) : sProp 𝕄 := dutyTok ER (T.cell τ c i) 0 ()

/-- The protocol is set up, every cell at zero. -/
theorem alloc : iprop(BI.own (ER (T.init nD τ)) ∗ bigSep Finset.univ fun c : Dev nD => bigSep Finset.univ fun i : Fin T.n => semVal (T.cell τ c i) 0)
    ⊢ (|={Set.univ}=> ∃ κ : Dev nD × Fin T.n → ℕ, T.invs (τ := τ) pay κ
        ∗ (bigSep Finset.univ fun c : Dev nD => bigSep Finset.univ fun i : Fin T.n => T.at0 (τ := τ) c i)
        ∗ (bigSep Finset.univ fun c : Dev nD => bigSep Finset.univ fun i : Fin T.n => T.tok (τ := τ) c i) : sProp 𝕄) := by
  rw [← bigSep_univ_prod (fun x : Dev nD × Fin T.n => (semVal (T.cell τ x.1 x.2) 0 : sProp 𝕄)),
    ← bigSep_univ_prod (fun x : Dev nD × Fin T.n => (T.at0 (τ := τ) x.1 x.2 : sProp 𝕄)),
    ← bigSep_univ_prod (fun x : Dev nD × Fin T.n => (T.tok (τ := τ) x.1 x.2 : sProp 𝕄))]
  have hf := Rounds.fund (ER (Val := Val)) (T.sched (τ := τ) pay) (Finset.univ.map (T.cellEmb nD τ)) (Finset.univ.map (T.tokEmb nD τ))
  simp only [bigSep_map] at hf
  have hb : iprop((bigSep Finset.univ fun x : Dev nD × Fin T.n => semVal (T.cell τ x.1 x.2) 0)
        ∗ bigSep Finset.univ fun x : Dev nD × Fin T.n => roundState ER (T.sched (τ := τ) pay) (T.cellEmb nD τ x) 0)
      ⊢ (bigSep Finset.univ fun x : Dev nD × Fin T.n => body ER (T.sched (τ := τ) pay) (T.cell τ x.1 x.2) : sProp 𝕄) := by
    rw [← bigSep_sep']
    exact bigSep_mono fun x _ => body_intro ER (T.sched (τ := τ) pay) (T.cell τ x.1 x.2)
  unfold init
  iintro ⟨Hu, Hv⟩
  imod hf $$ Hu with ⟨Hst, #Hr, Hat, Htok⟩
  ihave Hb := hb $$ [Hv Hst]
  · isplitl [Hv] <;> iassumption
  imod (invs_alloc (fun x : Dev nD × Fin T.n => body ER (T.sched (τ := τ) pay) (T.cell τ x.1 x.2))) $$ Hb with ⟨%κ, %hκ, #Hinv⟩
  imodintro
  iexists κ
  isplitr
  · unfold invs
    rw [bigSep_sep']
    isplitr
    · iexact Hinv
    · iexact Hr
  isplitl [Hat]; · iexact Hat
  iexact Htok

/-! ## The operations -/

variable {Λ : Labels} {𝔻 : Defs nD τ sig Val Λ} (𝒱 : Variants) {α : Type} {Q : α → sProp (MT nD τ sig Unit Val ℕ (UU nD τ sig) ℕ)}

/-- The wait on device `c`'s cell `i`, nothing owed: what the completion hands over, and the counter back at zero. -/
theorem wp_wait (κ : Dev nD × Fin T.n → ℕ) (c : Dev nD) (i : Fin T.n) {w : TpuEff nD τ sig Val Λ .tc PUnit}
    (hw : ∀ K : PUnit → sProp 𝕄, wpE 𝔻 𝒱 (c.tc : Thread nD τ) none Set.univ w K = waitSpec (c.tc : Thread nD τ) Set.univ (T.sem i) T.N K)
    {k : PUnit → Prog (TpuEff nD τ sig Val Λ .tc) α} :
    iprop(T.invs (τ := τ) pay κ ∗ cred (tallyAt (T.cell τ c i) () T.N) ∗ (∃ W, owes (c.tc : Thread nD τ) (0 : CellTallies nD τ sig Unit) W) ∗ T.at0 (τ := τ) c i)
      ⊢ iprop((((∃ W, owes (c.tc : Thread nD τ) (0 : CellTallies nD τ sig Unit) W) ∗ semVal (T.cell τ c i) 0 ∗ pay c i)
            -∗ wp frame (wpE 𝔻 𝒱 (c.tc : Thread nD τ) none) Set.univ (k ⟨⟩) Q)
          -∗ wp frame (wpE 𝔻 𝒱 (c.tc : Thread nD τ) none) Set.univ (.op w k) Q) := by
  have hrest : (bigSep ((T.sched (τ := τ) pay).duties (T.cell τ c i) 0 \ ∅) fun d => (T.sched (τ := τ) pay).payload (T.cell τ c i) 0 d) = pay c i := by
    rw [Finset.sdiff_empty, duties_zero, bigSep_singleton, payload_eq]
  iintro ⟨#Hinv, Hc, ⟨%W, HO⟩, Hat⟩ Hk
  ihave Hg := (T.invs_get (τ := τ) pay κ c i) $$ Hinv
  icases Hg with ⟨#Hi, -⟩
  iapply (wp_wait_rest_token 𝒱 ER (T.sched (τ := τ) pay) (c.tc : Thread nD τ) none (κ := κ (c, i)) hw (Set.mem_univ _) () (O := 0) (W := W) (R := 0) (m := 0) (T := ∅)
    (by rw [expect_eq, Nat.zero_add])) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hpay := (Entails.of_eq hrest) $$ Hpay
  imod (cell_close ER (T.sched (τ := τ) pay) (κ := κ (c, i)) (Set.mem_univ _) (fun h : False => h) (R := 1) (fun r hr => T.duties_later (τ := τ) pay _ r hr)) $$ [Hat] with Hv
  · isplitr; · iexact Hi
    iexact Hat
  iapply Hk
  isplitl [HO]; · iexists _; iexact HO
  isplitl [Hv]; · iexact Hv
  iexact Hpay

/-- A transfer to device `d`, completing this device's cell `i` and `d`'s cell `j`: the source share is handed over on
    the one, the destination with the source written into it on the other. It pays `d`'s credit. -/
theorem wp_send (κ : Dev nD × Fin T.n → ℕ) (c d : Dev nD) (i j : Fin T.n) {sp sp' : Space} {s : Shape} {e : EltTy}
    {src : Memref sig .tc sp s e} {dst : Memref sig .tc sp' s e} {hsc : dst.view.ref.isScScratch = false} {sS sem : SemLoc sig}
    (hi : T.sem i = sS) (hj : T.sem j = sem)
    {hsrc : src.view.WordExact} {hdst : dst.view.WordExact} {hsem : DmaTarget.Typed sp sem (.remote (d.tc : Thread nD τ) dst sS hsc)}
    {k : PUnit → Prog (TpuEff nD τ sig Val Λ .tc) α} {q : PosShare TreeShare}
    {fs : Buf Val (src.view.loc (c.tc : Thread nD τ))} {fd : Buf Val (dst.view.loc (d.tc : Thread nD τ))}
    (hN : dst.view.amount sem = T.N) (O : CellTallies nD τ sig Unit) {W : Waits sig Unit}
    (hpay₁ : (src.view.loc (c.tc : Thread nD τ) ↦[src.view.set]{q} fs) ⊢ pay c i)
    (hpay₂ : (dst.view.loc (d.tc : Thread nD τ) ↦[dst.view.set]{fullShare} (dst.view.write Val fd (src.view.read Val fs) Finset.univ)) ⊢ pay d j)
    (hr : τ.routes (c.tc : Thread nD τ) (d.tc : Thread nD τ) = true := by routes) :
    iprop(T.invs (τ := τ) pay κ ∗ (src.view.loc (c.tc : Thread nD τ) ↦[src.view.set]{q} fs) ∗ (dst.view.loc (d.tc : Thread nD τ) ↦[dst.view.set]{fullShare} fd)
        ∗ owes (c.tc : Thread nD τ) (O + tallyAt (T.cell τ d j) () T.N) W ∗ T.tok (τ := τ) c i ∗ T.tok (τ := τ) d j)
      ⊢ iprop(((cred (tallyAt (T.cell τ c i) () T.N) ∗ owes (c.tc : Thread nD τ) O W)
            -∗ wp frame (wpE 𝔻 𝒱 (c.tc : Thread nD τ) none) Set.univ (k ⟨⟩) Q)
          -∗ wp frame (wpE 𝔻 𝒱 (c.tc : Thread nD τ) none) Set.univ (.op (.enqueueDma src (.remote (d.tc : Thread nD τ) dst sS hsc) sem hsrc hdst hsem) k) Q) := by
  subst hi hj
  iintro ⟨#Hinv, Hs, Hd, HO, Ht1, Ht2⟩ Hk
  ihave Hg1 := (T.invs_get (τ := τ) pay κ c i) $$ Hinv
  icases Hg1 with ⟨#Hi1, #Hr1⟩
  ihave Hg2 := (T.invs_get (τ := τ) pay κ d j) $$ Hinv
  icases Hg2 with ⟨#Hi2, #Hr2⟩
  iapply (wp_send_pointsTo 𝒱 ER (T.sched (τ := τ) pay) (c.tc : Thread nD τ) none (κ₁ := κ (c, i)) (κ₂ := κ (d, j)) (r₁ := 0) (r₂ := 0) (d₁ := ()) (d₂ := ())
    (by rw [duties_zero]; exact Finset.mem_singleton_self _) (by rw [duties_zero]; exact Finset.mem_singleton_self _) () () T.N hN rfl rfl O rfl
    (hpay₁.trans (Entails.of_eq (T.payload_eq (τ := τ) pay c i 0 ()).symm)) (hpay₂.trans (Entails.of_eq (T.payload_eq (τ := τ) pay d j 0 ()).symm)) hr) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- A copy on this device, completing its cell `i`: the destination, with the source written into it, and the source
    share are handed over. -/
theorem wp_copy (κ : Dev nD × Fin T.n → ℕ) (c : Dev nD) (i : Fin T.n) {sp sp' : Space} {s : Shape} {e : EltTy}
    {src : Memref sig .tc sp s e} {dst : Memref sig .tc sp' s e} {sem : SemLoc sig} (hi : T.sem i = sem)
    {hsrc : src.view.WordExact} {hdst : dst.view.WordExact} {hsem : DmaTarget.Typed sp sem (.here dst : DmaTarget nD τ sig .tc sp' s e)}
    {k : PUnit → Prog (TpuEff nD τ sig Val Λ .tc) α} {q : PosShare TreeShare}
    {fs : Buf Val (src.view.loc (c.tc : Thread nD τ))} {fd : Buf Val (dst.view.loc (c.tc : Thread nD τ))}
    (hN : dst.view.amount sem = T.N)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ pay c i) :
    iprop(T.invs (τ := τ) pay κ ∗ (src.view.loc (c.tc : Thread nD τ) ↦[src.view.set]{q} fs) ∗ (dst.view.loc (c.tc : Thread nD τ) ↦[dst.view.set]{fullShare} fd)
        ∗ T.tok (τ := τ) c i)
      ⊢ iprop((cred (tallyAt (T.cell τ c i) () T.N) -∗ wp frame (wpE 𝔻 𝒱 (c.tc : Thread nD τ) none) Set.univ (k ⟨⟩) Q)
          -∗ wp frame (wpE 𝔻 𝒱 (c.tc : Thread nD τ) none) Set.univ (.op (.enqueueDma src (.here dst) sem hsrc hdst hsem) k) Q) := by
  subst hi
  iintro ⟨#Hinv, Hs, Hd, Ht⟩ Hk
  ihave Hg := (T.invs_get (τ := τ) pay κ c i) $$ Hinv
  icases Hg with ⟨#Hi, #Hr⟩
  iapply (wp_copy_pointsTo 𝒱 ER (T.sched (τ := τ) pay) (c.tc : Thread nD τ) none (κ := κ (c, i)) (r := 0) (d := ())
    (by rw [duties_zero]; exact Finset.mem_singleton_self _) () T.N hN rfl (hpay.trans (Entails.of_eq (T.payload_eq (τ := τ) pay c i 0 ()).symm))) $$ [Hs Hd Ht]
  · isplitr; · iexact Hi
    isplitl [Hs]; · iexact Hs
    isplitl [Hd]; · iexact Hd
    isplitl [Ht]; · iexact Ht
    iexact Hr
  iexact Hk

/-! ## The credit -/

/-- What device `c` owes at launch: for each listed cell `j`, the completion of the peer's. -/
def due (τ : Topo) {nD : ℕ} (peer : Fin T.n → Dev nD → Dev nD) : List (Fin T.n) → Dev nD → CellTallies nD τ sig Unit
  | [], _ => 0
  | j :: js, c => due τ peer js c + tallyAt (T.cell τ (peer j c) j) () T.N

omit hst in
theorem due_sum (peer : Fin T.n → Dev nD → Dev nD) (hp : ∀ j c, peer j (peer j c) = c) (js : List (Fin T.n)) :
    (∑ d, T.due τ peer js d) = ∑ d, T.due τ (fun _ d => d) js d := by
  induction js with
  | nil => rfl
  | cons j js ih =>
    simp only [due, Finset.sum_add_distrib, ih]
    congr 1
    exact Fintype.sum_equiv ⟨peer j, peer j, hp j, hp j⟩ _ _ fun _ => rfl

omit hst in
theorem due_local (js : List (Fin T.n)) (d : Dev nD) (g : GSem nD τ sig) (h : T.due τ (fun _ d => d) js d g ≠ 0) :
    g.1 = (d.tc : Thread nD τ) := by
  induction js with
  | nil => exact absurd rfl h
  | cons j js ih =>
    by_contra hne
    refine h ?_
    simp only [due, Pi.add_apply]
    rw [not_not.mp fun h' => hne (ih h'), zero_add]
    exact tallyAt_ne_cell (fun h' => hne (congrArg Prod.fst h')) () T.N

omit hst in
/-- The launch credit of a device: a completion of each of its own listed cells, when the peers are paired. -/
theorem launch_cred (peer : Fin T.n → Dev nD → Dev nD) (hp : ∀ j c, peer j (peer j c) = c) (js : List (Fin T.n)) (c : Dev nD) :
    (launchCred (T.due τ peer js) c : sProp 𝕄) = cred (T.due τ (fun _ d => d) js c) :=
  Pipeline.launchCred_of_sum _ (T.due τ (fun _ d => d) js) (T.due_sum peer hp js) (fun d g h => T.due_local js d g h) c

end Talk

end Cert.Talking

end
-- ==== Proof.Region.lean ====
/-
  The region of a kernel that talks: a kernel called without windows, whose operands stay in the device's memory. Its
  semaphores have been taken into the invariants of a `Talk` before the call, so the call is entered with the other
  scoped semaphores only, and leaves with all of them again at zero.
-/
module

public import proofs.«01_k».proof.Proof.Talk

@[expose] public section

noncomputable section

namespace Cert.Talking

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg pin entry)

variable {nD : ℕ} {τ : Topo} {sig : RefSig} {Val : EltTy → Type}

local notation "𝕄" => MT nD τ sig Unit Val ℕ (UU nD τ sig) ℕ

namespace Talk

variable (T : Talk sig)

/-- The scoped semaphores of device `c` the exchange does not use, at zero. -/
def otherSems (c : Dev nD) : sProp 𝕄 :=
  bigSep (scopedCells sig (c.tc : Thread nD τ) \ Finset.univ.map ⟨T.cell τ c, fun _ _ h => T.inj (Prod.mk.inj h).2⟩) fun g => semVal g 0

/-- The scoped semaphores are the exchange's and the others. -/
theorem sems_split (hT : ∀ i, (T.sem i).isScoped .tc = true) (c : Dev nD) :
    (scopedSems0 (c.tc : Thread nD τ) : sProp 𝕄) = iprop((bigSep Finset.univ fun i => semVal (T.cell τ c i) 0) ∗ T.otherSems c) := by
  have hsub : Finset.univ.map ⟨T.cell τ c, fun _ _ h => T.inj (Prod.mk.inj h).2⟩ ⊆ scopedCells sig (c.tc : Thread nD τ) := by
    intro g hg
    obtain ⟨i, -, rfl⟩ := Finset.mem_map.mp hg
    exact mem_scopedCells.mpr ⟨rfl, rfl, hT i⟩
  unfold scopedSems0 otherSems
  conv_lhs => rw [← Finset.union_sdiff_of_subset hsub]
  rw [bigSep_union Finset.disjoint_sdiff, bigSep_map]
  rfl

variable {Λ₀ : Labels}

/-- A big separating conjunction over no window. -/
theorem bigSep_none {n : ℕ} (h : n = 0) (Φ : Fin n → sProp 𝕄) : bigSep Finset.univ Φ = iprop(emp) := by
  subst h; rw [Finset.univ_eq_empty, bigSep_empty]; rfl

/-- The proof data of a windowless kernel of one point: it turns `Pre` into `Post`, and pays off `O`. -/
def dat (cfg : Cfg sig Λ₀) (hW : cfg.W = 0) (c : Dev nD) (Pre Post : sProp 𝕄) (O : CellTallies nD τ sig Unit) :
    Dat τ Val Unit ℕ (UU nD τ sig) ℕ cfg c where
  A w := absurd w.isLt (by omega)
  after w := absurd w.isLt (by omega)
  Φ t := if t = 0 then Pre else Post
  q _ := fullShare
  owed t := if t = 0 then O else 0

/-- The body obligation of that data, from a run of the body. -/
theorem dat_body (cfg : Cfg sig Λ₀) (hW : cfg.W = 0) (hN : cfg.N = 1) (c : Dev nD) (Pre Post : sProp 𝕄) (O : CellTallies nD τ sig Unit)
    (defs₀ : Defs nD τ sig Val Λ₀) (𝒱₀ : Variants)
    (h : ∀ t : Fin cfg.N, iprop(Pre ∗ ∃ W, owes (c.tc : Thread nD τ) O W)
      ⊢ wp frame (wpE defs₀ 𝒱₀ (c.tc : Thread nD τ) none) Set.univ (defs₀ .tc cfg.body (cfg.bodyArgs t (cfg.slots t)))
          fun _ => iprop(Post ∗ ∃ W, owes (c.tc : Thread nD τ) (0 : CellTallies nD τ sig Unit) W)) :
    Pipeline.BodyObligationLoose (dat cfg hW c Pre Post O) defs₀ 𝒱₀ () Set.univ := by
  intro t
  have ht : t.castSucc = 0 := Fin.ext (by have := t.isLt; simp only [Fin.val_castSucc, Fin.val_zero]; omega)
  have ht' : t.succ ≠ 0 := Fin.succ_ne_zero t
  rw [bigSep_none hW, bigSep_none hW]
  have e₁ : (dat cfg hW c Pre Post O).Φ t.castSucc = Pre := by dsimp only [dat]; exact if_pos ht
  have e₂ : (dat cfg hW c Pre Post O).Φ t.succ = Post := by dsimp only [dat]; exact if_neg ht'
  have e₃ : (dat cfg hW c Pre Post O).owed t.castSucc = O := by dsimp only [dat]; exact if_pos ht
  have e₄ : (dat cfg hW c Pre Post O).owed t.succ = 0 := by dsimp only [dat]; exact if_neg ht'
  unfold Dat.owesAt Pipeline.owesWithin
  rw [e₁, e₂, e₃, e₄]
  iintro ⟨HP, ⟨%W, -, HO⟩, -⟩
  iapply (wp_wand frame (wpE defs₀ 𝒱₀ (c.tc : Thread nD τ) none) Set.univ) $$ [HP HO]
  · iapply (h t)
    isplitl [HP]; · iexact HP
    iexists W; iexact HO
  iintro %_ ⟨HP, ⟨%W', HO⟩⟩
  isplitl [HP]; · iexact HP
  isplitl [HO]
  · iexists W'
    isplitr; · ipureintro; exact fun _ _ => Or.inl trivial
    iexact HO
  iempintro

variable {P : Type} [Fintype P] [DecidableEq P] [∀ e, Nonempty (Val e)]

/-- The call of a kernel that talks. -/
theorem wp_region (hT : ∀ i, (T.sem i).isScoped .tc = true) (pcs : P → PCfg sig Λ₀ Val) (a : (p : P) → (pcs p).Adm)
    (pdats : (p : P) → (c : Dev nD) → Dat τ Val Unit ℕ (UU nD τ sig) ℕ (pin pcs a p) c)
    (phinj : Function.Injective (Pipeline.cellOf (nD := nD) (τ := τ) (pin pcs a))) (p : P) (defs₀ : Defs nD τ sig Val Λ₀) (𝒱₀ : Variants)
    (hW : (pin pcs a p).W = 0) (hN : (pin pcs a p).N = 1) (hK : (pcs p).pre.K = 0) (c : Dev nD)
    {Pre Post : sProp 𝕄} {O : CellTallies nD τ sig Unit}
    (hdat : pdats p c = dat (pin pcs a p) hW c iprop(Pre ∗ scopedBufs (c.tc : Thread nD τ))
      iprop((Post ∗ bigSep Finset.univ fun i => semVal (T.cell τ c i) 0) ∗ scopedBufs (c.tc : Thread nD τ)) O)
    (hbody : ∀ t : Fin (pin pcs a p).N, iprop(Pre ∗ ∃ W, owes (c.tc : Thread nD τ) O W)
      ⊢ wp frame (wpE defs₀ 𝒱₀ (c.tc : Thread nD τ) none) Set.univ (defs₀ .tc (pin pcs a p).body ((pin pcs a p).bodyArgs t ((pin pcs a p).slots t)))
          fun _ => iprop((Post ∗ bigSep Finset.univ fun i => semVal (T.cell τ c i) 0) ∗ ∃ W, owes (c.tc : Thread nD τ) (0 : CellTallies nD τ sig Unit) W))
    {α : Type} {k : PUnit → Prog (TpuEff nD τ sig Val (Pipeline.Sig Λ₀ P fun p => (pcs p).Adm) Proc.tc) α} {Q : α → sProp 𝕄} :
    iprop(Pre ∗ scopedBufs (c.tc : Thread nD τ) ∗ T.otherSems c ∗ opIdle (c.tc : Thread nD τ) ∗ owes (c.tc : Thread nD τ) O ∅
        ∗ Pipeline.cellsGhost (pin pcs a) EP p c ∗ Pipeline.toksInit (pin pcs a) EP p c)
      ⊢ iprop(((Post ∗ boundary (c.tc : Thread nD τ) ∗ ∃ W, owes (c.tc : Thread nD τ) (0 : CellTallies nD τ sig Unit) W)
            -∗ wp frame (wpE (Pipeline.defs pcs defs₀) (Variants.lift 𝒱₀) (c.tc : Thread nD τ) none) Set.univ (k ⟨⟩) Q)
          -∗ wp frame (wpE (Pipeline.defs pcs defs₀) (Variants.lift 𝒱₀) (c.tc : Thread nD τ) none) Set.univ (.op (.customCall (entry p) ()) k) Q) := by
  have hcells : (Pipeline.cellsSems0 (pin pcs a) p c : sProp 𝕄) = iprop(emp) := bigSep_none hW _
  have hstag : (Dat.staging (pin pcs a p) c : sProp 𝕄) = iprop(emp) := bigSep_none hW _
  have harrs : ∀ G, ((pdats p c).arrays G : sProp 𝕄) = iprop(emp) := fun G => bigSep_none hW _
  have hpref : (Pipeline.prefHeld (pcs p).pre c (fun _ => fullShare) (a p).1 : sProp 𝕄) = iprop(emp) := bigSep_none hK _
  have hΦ0 : (pdats p c).Φ 0 = iprop(Pre ∗ scopedBufs (c.tc : Thread nD τ)) := by rw [hdat]; dsimp only [dat]; exact if_pos rfl
  have hlast : Fin.last (pin pcs a p).N ≠ 0 := by intro h; have := congrArg Fin.val h; simp only [Fin.val_last, Fin.val_zero] at this; omega
  have hΦN : (pdats p c).Φ (Fin.last (pin pcs a p).N) = iprop((Post ∗ bigSep Finset.univ fun i => semVal (T.cell τ c i) 0) ∗ scopedBufs (c.tc : Thread nD τ)) := by
    rw [hdat]; dsimp only [dat]; exact if_neg hlast
  have ho0 : (pdats p c).owed 0 = O := by rw [hdat]; dsimp only [dat]; exact if_pos rfl
  have hoN : (pdats p c).owed (Fin.last (pin pcs a p).N) = 0 := by rw [hdat]; dsimp only [dat]; exact if_neg hlast
  have hb : Pipeline.BodyObligationLoose (pdats p c) defs₀ 𝒱₀ () Set.univ := by
    rw [hdat]
    refine dat_body _ hW hN c _ _ O defs₀ 𝒱₀ fun t => ?_
    iintro ⟨⟨HP, Hsb⟩, HO⟩
    iapply (wp_wand frame (wpE defs₀ 𝒱₀ (c.tc : Thread nD τ) none) Set.univ) $$ [HP HO]
    · iapply (hbody t)
      isplitl [HP] <;> iassumption
    iintro %_ ⟨HP, HO⟩
    isplitl [HP Hsb]; · isplitl [HP] <;> iassumption
    iexact HO
  iintro ⟨HP, Hsb, Hos, Hidle, HO, Hg, Ht⟩ Hk
  iapply (fupd_wp frame (wpE (Pipeline.defs pcs defs₀) (Variants.lift 𝒱₀) (c.tc : Thread nD τ) none) Set.univ _ _)
  imod (Pipeline.cellsInit_alloc (pin pcs a) pdats EP phinj p c) $$ [Hg] with ⟨%κ, -, Hinit⟩
  · isplitr; · iapply (Entails.of_eq hcells.symm); iempintro
    iexact Hg
  imodintro
  iapply (Pipeline.wp_customCall_entry_frame pcs a pdats () EP κ phinj p defs₀ 𝒱₀ (fun _ => fullShare) c Set.univ (fun _ _ => Set.mem_univ _)
      hb (fun w => absurd w.isLt (by omega)) none (fun u h => nomatch h) (X := Pre)
      (Y := Post) (R := scopedBufs (c.tc : Thread nD τ)) (I := T.otherSems c) ?_ ?_ ?_) $$ [HP Hsb Hos HO Hinit Ht]
  · rw [hstag]; iintro H
    isplitr; · iempintro
    iexact H
  · rw [hpref, hΦ0]; iintro ⟨HP, -, HR⟩
    isplitl [HP] <;> iassumption
  · rw [hΦN, T.sems_split hT c]
    iintro ⟨⟨⟨HP, Hs⟩, Hb⟩, -, -, HI⟩
    isplitl [HP]; · iexact HP
    isplitl [Hs HI]; · isplitl [Hs] <;> iassumption
    iexact Hb
  · isplitl [HO Hinit Ht]
    · unfold Pipeline.EntryPre Pipeline.PerCore.EntryPre Dat.owesAt Pipeline.owesWithin
      rw [ho0]
      isplitr; · iapply (Entails.of_eq (harrs _).symm); iempintro
      isplitl [HO]
      · iexists ∅; isplitr; · ipureintro; rw [Finset.coe_empty]; exact Set.empty_subset _
        iexact HO
      isplitr
      · have hw : (Pipeline.cellsWaits (pin pcs a) pdats () p c : sProp 𝕄) = iprop(emp) := bigSep_none hW _
        iapply (Entails.of_eq hw.symm); iempintro
      isplitl [Hinit] <;> iassumption
    isplitr; · iapply (Entails.of_eq hpref.symm); iempintro
    isplitl [HP]; · iexact HP
    isplitl [Hos] <;> iassumption
  iintro ⟨Hpost, HY, Hss, Hsb⟩
  iapply Hk
  isplitl [HY]; · iexact HY
  isplitl [Hss Hsb Hidle]
  · unfold boundary
    isplitl [Hsb]; · iexact Hsb
    isplitl [Hss] <;> iassumption
  have hE : (Pipeline.EntryPost (pin pcs a) pdats () p c : sProp 𝕄) ⊢ iprop(∃ W, owes (c.tc : Thread nD τ) (0 : CellTallies nD τ sig Unit) W) := by
    unfold Pipeline.EntryPost Pipeline.PerCore.EntryPost Dat.owesAt Pipeline.owesWithin
    rw [hoN]
    iintro ⟨-, ⟨%W, -, HO⟩⟩
    iexists W; iexact HO
  iapply hE; iexact Hpost

end Talk

end Cert.Talking

end
-- ==== Proof.Exchange.lean ====
/-
  The exchanges themselves, over any memory references and any protocol: the launch that deals every device its tokens,
  the four-way exchange (one copy on the device, one transfer to each of three peers, every completion waited for) and
  the swap of two devices.
-/
module

public import proofs.«01_k».proof.Proof.Region
public import Idealize.ShloMosaic.Lib.ValueLayout

@[expose] public section

noncomputable section

namespace Cert.Talking

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg pin entry launchCred)

variable {nD : ℕ} {τ : Topo} {sig : RefSig} {Val : EltTy → Type}

local notation "𝕄" => MT nD τ sig Unit Val ℕ (UU nD τ sig) ℕ

/-- Every device's share of something, each taken at its peer instead: nothing is lost when peers are mutual. -/
theorem bigSep_peer (p : Dev nD → Dev nD) (hp : ∀ c, p (p c) = c) (Φ : Dev nD → sProp 𝕄) :
    bigSep Finset.univ Φ = bigSep Finset.univ fun c => Φ (p c) :=
  bigSep_univ_equiv (⟨p, p, hp, hp⟩ : Dev nD ≃ Dev nD) Φ

namespace Talk

variable (T : Talk sig) {Λ₀ : Labels} {P : Type} [Fintype P] [DecidableEq P]

/-- What every device holds besides its data: what the call needs of the launch. -/
def kit (pcs : P → PCfg sig Λ₀ Val) (a : (p : P) → (pcs p).Adm) (O₀ : Dev nD → CellTallies nD τ sig Unit) (c : Dev nD) : sProp 𝕄 :=
  iprop(scopedBufs (c.tc : Thread nD τ) ∗ T.otherSems c ∗ opIdle (c.tc : Thread nD τ) ∗ owes (c.tc : Thread nD τ) (O₀ c) ∅
    ∗ (bigSep Finset.univ fun p => Pipeline.cellsGhost (pin pcs a) EP p c) ∗ (bigSep Finset.univ fun p => Pipeline.toksInit (pin pcs a) EP p c))

/-- The launch's ghost state. -/
def ghost₀ (pcs : P → PCfg sig Λ₀ Val) (a : (p : P) → (pcs p).Adm) (phinj : Function.Injective (Pipeline.cellOf (nD := nD) (τ := τ) (pin pcs a))) :
    UU nD τ sig :=
  (initOf (Pipeline.cells (pin pcs a) phinj) (Pipeline.launchToks (pin pcs a) phinj), T.init nD τ)

/-- The protocol set up at launch: every device gets its positions and the tokens of its own cells. -/
theorem launch (hT : ∀ i, (T.sem i).isScoped .tc = true) (pcs : P → PCfg sig Λ₀ Val) (a : (p : P) → (pcs p).Adm)
    (phinj : Function.Injective (Pipeline.cellOf (nD := nD) (τ := τ) (pin pcs a)))
    (pay : Dev nD → Fin T.n → sProp 𝕄) [hst : ∀ c i, Storable (upEmb : UEmb _ 𝕄) (pay c i)]
    (U : Dev nD → sProp 𝕄) (O₀ : Dev nD → CellTallies nD τ sig Unit) :
    iprop((bigSep Finset.univ fun c : Dev nD => iprop(boundary (c.tc : Thread nD τ) ∗ U c ∗ owes (c.tc : Thread nD τ) (O₀ c) ∅ ∗ launchCred O₀ c))
        ∗ ownU (T.ghost₀ pcs a phinj))
      ⊢ |={Set.univ}=> iprop(∃ κ : Dev nD × Fin T.n → ℕ, T.invs (τ := τ) pay κ
        ∗ bigSep Finset.univ fun c : Dev nD => iprop(T.kit pcs a O₀ c
            ∗ ((bigSep Finset.univ fun i : Fin T.n => T.at0 (τ := τ) c i) ∗ (bigSep Finset.univ fun i : Fin T.n => T.tok (τ := τ) c i))
            ∗ U c ∗ launchCred O₀ c)) := by
  have hsplit : ∀ c : Dev nD, iprop(boundary (c.tc : Thread nD τ) ∗ U c ∗ owes (c.tc : Thread nD τ) (O₀ c) ∅ ∗ launchCred O₀ c)
      ⊢ (iprop((bigSep Finset.univ fun i => semVal (T.cell τ c i) 0)
          ∗ (scopedBufs (c.tc : Thread nD τ) ∗ T.otherSems c ∗ opIdle (c.tc : Thread nD τ) ∗ owes (c.tc : Thread nD τ) (O₀ c) ∅)
          ∗ U c ∗ launchCred O₀ c) : sProp 𝕄) := fun c => by
    unfold boundary
    rw [T.sems_split hT c]
    iintro ⟨⟨H1, ⟨H2, H3⟩, H4⟩, H5, H6, H7⟩
    isplitl [H2]; · iexact H2
    isplitl [H1 H3 H4 H6]
    · isplitl [H1]; · iexact H1
      isplitl [H3]; · iexact H3
      isplitl [H4] <;> iassumption
    isplitl [H5] <;> iassumption
  have hall : (bigSep Finset.univ fun c : Dev nD => iprop(boundary (c.tc : Thread nD τ) ∗ U c ∗ owes (c.tc : Thread nD τ) (O₀ c) ∅ ∗ launchCred O₀ c))
      ⊢ (iprop((bigSep Finset.univ fun c : Dev nD => bigSep Finset.univ fun i => semVal (T.cell τ c i) 0)
          ∗ bigSep Finset.univ fun c : Dev nD => iprop((scopedBufs (c.tc : Thread nD τ) ∗ T.otherSems c ∗ opIdle (c.tc : Thread nD τ) ∗ owes (c.tc : Thread nD τ) (O₀ c) ∅)
            ∗ U c ∗ launchCred O₀ c)) : sProp 𝕄) := by
    rw [← bigSep_sep']; exact bigSep_mono fun c _ => hsplit c
  have hend : (bigSep Finset.univ fun c : Dev nD => iprop((((bigSep Finset.univ fun p => Pipeline.cellsGhost (pin pcs a) EP p c)
          ∗ (bigSep Finset.univ fun p => Pipeline.toksInit (pin pcs a) EP p c))
        ∗ ((bigSep Finset.univ fun i : Fin T.n => T.at0 (τ := τ) c i) ∗ (bigSep Finset.univ fun i : Fin T.n => T.tok (τ := τ) c i)))
        ∗ ((scopedBufs (c.tc : Thread nD τ) ∗ T.otherSems c ∗ opIdle (c.tc : Thread nD τ) ∗ owes (c.tc : Thread nD τ) (O₀ c) ∅) ∗ U c ∗ launchCred O₀ c)))
      ⊢ (bigSep Finset.univ fun c : Dev nD => iprop(T.kit pcs a O₀ c
            ∗ ((bigSep Finset.univ fun i : Fin T.n => T.at0 (τ := τ) c i) ∗ (bigSep Finset.univ fun i : Fin T.n => T.tok (τ := τ) c i))
            ∗ U c ∗ launchCred O₀ c) : sProp 𝕄) := bigSep_mono fun c _ => by
    unfold kit
    show _ ⊢ (_ : sProp 𝕄)
    iintro ⟨⟨⟨H1, H2⟩, ⟨H3, H4⟩⟩, ⟨⟨H5, H6, H7, H8⟩, H9, H10⟩⟩
    isplitl [H1 H2 H5 H6 H7 H8]
    · isplitl [H5]; · iexact H5
      isplitl [H6]; · iexact H6
      isplitl [H7]; · iexact H7
      isplitl [H8]; · iexact H8
      isplitl [H1] <;> iassumption
    isplitl [H3 H4]; · isplitl [H3] <;> iassumption
    isplitl [H9] <;> iassumption
  unfold ghost₀
  iintro ⟨Hcs, Hu⟩
  ihave H := (ownU_pair _ _) $$ Hu
  icases H with ⟨HP, HR⟩
  ihave Hcs := hall $$ Hcs
  icases Hcs with ⟨Hsems, Hrest⟩
  imod (Pipeline.fund_ghost (pin pcs a) EP phinj) $$ HP with ⟨Hg, Ht⟩
  imod (T.alloc pay) $$ [HR Hsems] with ⟨%κ, #Hinv, Hat, Htok⟩
  · isplitl [HR] <;> iassumption
  imodintro
  iexists κ
  isplitr; · iexact Hinv
  ihave H := (Entails.of_eq (bigSep_sep' _ _ _).symm) $$ [Hg Ht]
  · isplitl [Hg] <;> iassumption
  ihave H' := (Entails.of_eq (bigSep_sep' _ _ _).symm) $$ [Hat Htok]
  · isplitl [Hat] <;> iassumption
  ihave H'' := (Entails.of_eq (bigSep_sep' _ _ _).symm) $$ [H H']
  · isplitl [H] <;> iassumption
  ihave H''' := (Entails.of_eq (bigSep_sep' _ _ _).symm) $$ [H'' Hrest]
  · isplitl [H''] <;> iassumption
  iapply hend; iexact H'''

variable {Λ : Labels} {𝔻 : Defs nD τ sig Val Λ} (𝒱 : Variants) {α : Type} {Q : α → sProp (MT nD τ sig Unit Val ℕ (UU nD τ sig) ℕ)}
  (pay : Dev nD → Fin T.n → sProp (MT nD τ sig Unit Val ℕ (UU nD τ sig) ℕ))
  [hst : ∀ c i, Storable (upEmb : UEmb _ (MT nD τ sig Unit Val ℕ (UU nD τ sig) ℕ)) (pay c i)]

/-- The four-way exchange: a copy of `a` into `D` on this device, transfers of `a0`, `a1`, `a2` into `D` on three peers,
    and the waits for what arrives, for what was sent and for the copy. It leaves with all seven completions' payloads. -/
theorem wp_exchange (κ : Dev nD × Fin T.n → ℕ) (c p0 p1 p2 : Dev nD) (s0 s1 s2 r0 r1 r2 l : Fin T.n) {sp sp' : Space} {s : Shape} {e : EltTy}
    {a a0 a1 a2 : Memref sig .tc sp s e} {D : Memref sig .tc sp' s e} {hsc0 hsc1 hsc2 : D.view.ref.isScScratch = false}
    {S0 S1 S2 R0 R1 R2 L : SemLoc sig} (hs0 : T.sem s0 = S0) (hs1 : T.sem s1 = S1) (hs2 : T.sem s2 = S2)
    (hr0 : T.sem r0 = R0) (hr1 : T.sem r1 = R1) (hr2 : T.sem r2 = R2) (hl : T.sem l = L)
    {ha : a.view.WordExact} {ha0 : a0.view.WordExact} {ha1 : a1.view.WordExact} {ha2 : a2.view.WordExact}
    {hD hD0 hD1 hD2 : D.view.WordExact} {ht : DmaTarget.Typed sp L (.here D : DmaTarget nD τ sig .tc sp' s e)}
    {ht0 : DmaTarget.Typed sp R0 (.remote (p0.tc : Thread nD τ) D S0 hsc0)} {ht1 : DmaTarget.Typed sp R1 (.remote (p1.tc : Thread nD τ) D S1 hsc1)}
    {ht2 : DmaTarget.Typed sp R2 (.remote (p2.tc : Thread nD τ) D S2 hsc2)}
    {w0 w1 w2 w3 w4 w5 w6 : TpuEff nD τ sig Val Λ .tc PUnit}
    (hw0 : ∀ K : PUnit → sProp 𝕄, wpE 𝔻 𝒱 (c.tc : Thread nD τ) none Set.univ w0 K = waitSpec (c.tc : Thread nD τ) Set.univ (T.sem r0) T.N K)
    (hw1 : ∀ K : PUnit → sProp 𝕄, wpE 𝔻 𝒱 (c.tc : Thread nD τ) none Set.univ w1 K = waitSpec (c.tc : Thread nD τ) Set.univ (T.sem r1) T.N K)
    (hw2 : ∀ K : PUnit → sProp 𝕄, wpE 𝔻 𝒱 (c.tc : Thread nD τ) none Set.univ w2 K = waitSpec (c.tc : Thread nD τ) Set.univ (T.sem r2) T.N K)
    (hw3 : ∀ K : PUnit → sProp 𝕄, wpE 𝔻 𝒱 (c.tc : Thread nD τ) none Set.univ w3 K = waitSpec (c.tc : Thread nD τ) Set.univ (T.sem s0) T.N K)
    (hw4 : ∀ K : PUnit → sProp 𝕄, wpE 𝔻 𝒱 (c.tc : Thread nD τ) none Set.univ w4 K = waitSpec (c.tc : Thread nD τ) Set.univ (T.sem s1) T.N K)
    (hw5 : ∀ K : PUnit → sProp 𝕄, wpE 𝔻 𝒱 (c.tc : Thread nD τ) none Set.univ w5 K = waitSpec (c.tc : Thread nD τ) Set.univ (T.sem s2) T.N K)
    (hw6 : ∀ K : PUnit → sProp 𝕄, wpE 𝔻 𝒱 (c.tc : Thread nD τ) none Set.univ w6 K = waitSpec (c.tc : Thread nD τ) Set.univ (T.sem l) T.N K)
    {q q0 q1 q2 : PosShare TreeShare} {f : Buf Val (a.view.loc (c.tc : Thread nD τ))} {f0 : Buf Val (a0.view.loc (c.tc : Thread nD τ))}
    {f1 : Buf Val (a1.view.loc (c.tc : Thread nD τ))} {f2 : Buf Val (a2.view.loc (c.tc : Thread nD τ))}
    {g : Buf Val (D.view.loc (c.tc : Thread nD τ))} {g0 : Buf Val (D.view.loc (p0.tc : Thread nD τ))}
    {g1 : Buf Val (D.view.loc (p1.tc : Thread nD τ))} {g2 : Buf Val (D.view.loc (p2.tc : Thread nD τ))}
    (hN : D.view.amount L = T.N) (hN0 : D.view.amount R0 = T.N) (hN1 : D.view.amount R1 = T.N) (hN2 : D.view.amount R2 = T.N)
    (hp : iprop((D.view.loc (c.tc : Thread nD τ) ↦[D.view.set]{fullShare} (D.view.write Val g (a.view.read Val f) Finset.univ))
      ∗ (a.view.loc (c.tc : Thread nD τ) ↦[a.view.set]{q} f)) ⊢ pay c l)
    (hps0 : (a0.view.loc (c.tc : Thread nD τ) ↦[a0.view.set]{q0} f0) ⊢ pay c s0)
    (hps1 : (a1.view.loc (c.tc : Thread nD τ) ↦[a1.view.set]{q1} f1) ⊢ pay c s1)
    (hps2 : (a2.view.loc (c.tc : Thread nD τ) ↦[a2.view.set]{q2} f2) ⊢ pay c s2)
    (hpr0 : (D.view.loc (p0.tc : Thread nD τ) ↦[D.view.set]{fullShare} (D.view.write Val g0 (a0.view.read Val f0) Finset.univ)) ⊢ pay p0 r0)
    (hpr1 : (D.view.loc (p1.tc : Thread nD τ) ↦[D.view.set]{fullShare} (D.view.write Val g1 (a1.view.read Val f1) Finset.univ)) ⊢ pay p1 r1)
    (hpr2 : (D.view.loc (p2.tc : Thread nD τ) ↦[D.view.set]{fullShare} (D.view.write Val g2 (a2.view.read Val f2) Finset.univ)) ⊢ pay p2 r2)
    {k : PUnit → Prog (TpuEff nD τ sig Val Λ .tc) α}
    (hR0 : τ.routes (c.tc : Thread nD τ) (p0.tc : Thread nD τ) = true := by routes)
    (hR1 : τ.routes (c.tc : Thread nD τ) (p1.tc : Thread nD τ) = true := by routes)
    (hR2 : τ.routes (c.tc : Thread nD τ) (p2.tc : Thread nD τ) = true := by routes) :
    iprop(T.invs (τ := τ) pay κ
        ∗ ((a.view.loc (c.tc : Thread nD τ) ↦[a.view.set]{q} f) ∗ (a0.view.loc (c.tc : Thread nD τ) ↦[a0.view.set]{q0} f0)
          ∗ (a1.view.loc (c.tc : Thread nD τ) ↦[a1.view.set]{q1} f1) ∗ (a2.view.loc (c.tc : Thread nD τ) ↦[a2.view.set]{q2} f2))
        ∗ ((D.view.loc (c.tc : Thread nD τ) ↦[D.view.set]{fullShare} g) ∗ (D.view.loc (p0.tc : Thread nD τ) ↦[D.view.set]{fullShare} g0)
          ∗ (D.view.loc (p1.tc : Thread nD τ) ↦[D.view.set]{fullShare} g1) ∗ (D.view.loc (p2.tc : Thread nD τ) ↦[D.view.set]{fullShare} g2))
        ∗ (T.tok (τ := τ) c l ∗ T.tok (τ := τ) c s0 ∗ T.tok (τ := τ) c s1 ∗ T.tok (τ := τ) c s2)
        ∗ (T.tok (τ := τ) p0 r0 ∗ T.tok (τ := τ) p1 r1 ∗ T.tok (τ := τ) p2 r2)
        ∗ (T.at0 (τ := τ) c l ∗ T.at0 (τ := τ) c s0 ∗ T.at0 (τ := τ) c s1 ∗ T.at0 (τ := τ) c s2 ∗ T.at0 (τ := τ) c r0 ∗ T.at0 (τ := τ) c r1 ∗ T.at0 (τ := τ) c r2)
        ∗ (cred (tallyAt (T.cell τ c r0) () T.N) ∗ cred (tallyAt (T.cell τ c r1) () T.N) ∗ cred (tallyAt (T.cell τ c r2) () T.N))
        ∗ ∃ W, owes (c.tc : Thread nD τ) (((0 + tallyAt (T.cell τ p2 r2) () T.N) + tallyAt (T.cell τ p1 r1) () T.N) + tallyAt (T.cell τ p0 r0) () T.N) W)
      ⊢ iprop((((pay c l ∗ pay c s0 ∗ pay c s1 ∗ pay c s2 ∗ pay c r0 ∗ pay c r1 ∗ pay c r2)
              ∗ (semVal (T.cell τ c l) 0 ∗ semVal (T.cell τ c s0) 0 ∗ semVal (T.cell τ c s1) 0 ∗ semVal (T.cell τ c s2) 0
                ∗ semVal (T.cell τ c r0) 0 ∗ semVal (T.cell τ c r1) 0 ∗ semVal (T.cell τ c r2) 0)
              ∗ ∃ W, owes (c.tc : Thread nD τ) (0 : CellTallies nD τ sig Unit) W)
            -∗ wp frame (wpE 𝔻 𝒱 (c.tc : Thread nD τ) none) Set.univ (k ⟨⟩) Q)
          -∗ wp frame (wpE 𝔻 𝒱 (c.tc : Thread nD τ) none) Set.univ
              (.op (.enqueueDma a (.here D) L ha hD ht) fun _ =>
                .op (.enqueueDma a0 (.remote (p0.tc : Thread nD τ) D S0 hsc0) R0 ha0 hD0 ht0) fun _ =>
                .op (.enqueueDma a1 (.remote (p1.tc : Thread nD τ) D S1 hsc1) R1 ha1 hD1 ht1) fun _ =>
                .op (.enqueueDma a2 (.remote (p2.tc : Thread nD τ) D S2 hsc2) R2 ha2 hD2 ht2) fun _ =>
                .op w0 fun _ => .op w1 fun _ => .op w2 fun _ => .op w3 fun _ => .op w4 fun _ => .op w5 fun _ => .op w6 k) Q) := by
  iintro ⟨#Hinv, ⟨Ha, Ha0, Ha1, Ha2⟩, ⟨Hg, Hg0, Hg1, Hg2⟩, ⟨Htl, Hts0, Hts1, Hts2⟩, ⟨Htr0, Htr1, Htr2⟩, ⟨Hal, Has0, Has1, Has2, Har0, Har1, Har2⟩,
    ⟨Hcr0, Hcr1, Hcr2⟩, ⟨%W, HO⟩⟩ Hk
  iapply (T.wp_copy pay 𝒱 κ c l hl hN hp) $$ [Ha Hg Htl]
  · isplitr; · iexact Hinv
    isplitl [Ha]; · iexact Ha
    isplitl [Hg] <;> iassumption
  iintro Hcl
  iapply (T.wp_send pay 𝒱 κ c p0 s0 r0 hs0 hr0 hN0 _ hps0 hpr0 hR0) $$ [Ha0 Hg0 HO Hts0 Htr0]
  · isplitr; · iexact Hinv
    isplitl [Ha0]; · iexact Ha0
    isplitl [Hg0]; · iexact Hg0
    isplitl [HO]; · iexact HO
    isplitl [Hts0] <;> iassumption
  iintro ⟨Hcs0, HO⟩
  iapply (T.wp_send pay 𝒱 κ c p1 s1 r1 hs1 hr1 hN1 _ hps1 hpr1 hR1) $$ [Ha1 Hg1 HO Hts1 Htr1]
  · isplitr; · iexact Hinv
    isplitl [Ha1]; · iexact Ha1
    isplitl [Hg1]; · iexact Hg1
    isplitl [HO]; · iexact HO
    isplitl [Hts1] <;> iassumption
  iintro ⟨Hcs1, HO⟩
  iapply (T.wp_send pay 𝒱 κ c p2 s2 r2 hs2 hr2 hN2 _ hps2 hpr2 hR2) $$ [Ha2 Hg2 HO Hts2 Htr2]
  · isplitr; · iexact Hinv
    isplitl [Ha2]; · iexact Ha2
    isplitl [Hg2]; · iexact Hg2
    isplitl [HO]; · iexact HO
    isplitl [Hts2] <;> iassumption
  iintro ⟨Hcs2, HO⟩
  ihave HO := (show owes (c.tc : Thread nD τ) (0 : CellTallies nD τ sig Unit) W ⊢ (iprop(∃ W, owes (c.tc : Thread nD τ) (0 : CellTallies nD τ sig Unit) W) : sProp 𝕄) from by
    iintro H; iexists W; iexact H) $$ HO
  iapply (T.wp_wait pay 𝒱 κ c r0 hw0) $$ [Hcr0 HO Har0]
  · isplitr; · iexact Hinv
    isplitl [Hcr0]; · iexact Hcr0
    isplitl [HO] <;> iassumption
  iintro ⟨HO, Hvr0, Hpr0⟩
  iapply (T.wp_wait pay 𝒱 κ c r1 hw1) $$ [Hcr1 HO Har1]
  · isplitr; · iexact Hinv
    isplitl [Hcr1]; · iexact Hcr1
    isplitl [HO] <;> iassumption
  iintro ⟨HO, Hvr1, Hpr1⟩
  iapply (T.wp_wait pay 𝒱 κ c r2 hw2) $$ [Hcr2 HO Har2]
  · isplitr; · iexact Hinv
    isplitl [Hcr2]; · iexact Hcr2
    isplitl [HO] <;> iassumption
  iintro ⟨HO, Hvr2, Hpr2⟩
  iapply (T.wp_wait pay 𝒱 κ c s0 hw3) $$ [Hcs0 HO Has0]
  · isplitr; · iexact Hinv
    isplitl [Hcs0]; · iexact Hcs0
    isplitl [HO] <;> iassumption
  iintro ⟨HO, Hvs0, Hps0⟩
  iapply (T.wp_wait pay 𝒱 κ c s1 hw4) $$ [Hcs1 HO Has1]
  · isplitr; · iexact Hinv
    isplitl [Hcs1]; · iexact Hcs1
    isplitl [HO] <;> iassumption
  iintro ⟨HO, Hvs1, Hps1⟩
  iapply (T.wp_wait pay 𝒱 κ c s2 hw5) $$ [Hcs2 HO Has2]
  · isplitr; · iexact Hinv
    isplitl [Hcs2]; · iexact Hcs2
    isplitl [HO] <;> iassumption
  iintro ⟨HO, Hvs2, Hps2⟩
  iapply (T.wp_wait pay 𝒱 κ c l hw6) $$ [Hcl HO Hal]
  · isplitr; · iexact Hinv
    isplitl [Hcl]; · iexact Hcl
    isplitl [HO] <;> iassumption
  iintro ⟨HO, Hvl, Hpl⟩
  iapply Hk
  isplitl [Hpl Hps0 Hps1 Hps2 Hpr0 Hpr1 Hpr2]
  · isplitl [Hpl]; · iexact Hpl
    isplitl [Hps0]; · iexact Hps0
    isplitl [Hps1]; · iexact Hps1
    isplitl [Hps2]; · iexact Hps2
    isplitl [Hpr0]; · iexact Hpr0
    isplitl [Hpr1] <;> iassumption
  isplitl [Hvl Hvs0 Hvs1 Hvs2 Hvr0 Hvr1 Hvr2]
  · isplitl [Hvl]; · iexact Hvl
    isplitl [Hvs0]; · iexact Hvs0
    isplitl [Hvs1]; · iexact Hvs1
    isplitl [Hvs2]; · iexact Hvs2
    isplitl [Hvr0]; · iexact Hvr0
    isplitl [Hvr1] <;> iassumption
  iexact HO

/-- The swap: a transfer of `a` into `D` on the peer, and the waits for what was sent and for what arrives. -/
theorem wp_swap (κ : Dev nD × Fin T.n → ℕ) (c p : Dev nD) (s r : Fin T.n) {sp sp' : Space} {sh : Shape} {e : EltTy}
    {a : Memref sig .tc sp sh e} {D : Memref sig .tc sp' sh e} {hsc : D.view.ref.isScScratch = false}
    {S R : SemLoc sig} (hs : T.sem s = S) (hr : T.sem r = R)
    {ha : a.view.WordExact} {hD : D.view.WordExact} {ht : DmaTarget.Typed sp R (.remote (p.tc : Thread nD τ) D S hsc)}
    {w0 w1 : TpuEff nD τ sig Val Λ .tc PUnit}
    (hw0 : ∀ K : PUnit → sProp 𝕄, wpE 𝔻 𝒱 (c.tc : Thread nD τ) none Set.univ w0 K = waitSpec (c.tc : Thread nD τ) Set.univ (T.sem s) T.N K)
    (hw1 : ∀ K : PUnit → sProp 𝕄, wpE 𝔻 𝒱 (c.tc : Thread nD τ) none Set.univ w1 K = waitSpec (c.tc : Thread nD τ) Set.univ (T.sem r) T.N K)
    {q : PosShare TreeShare} {f : Buf Val (a.view.loc (c.tc : Thread nD τ))} {g : Buf Val (D.view.loc (p.tc : Thread nD τ))}
    (hN : D.view.amount R = T.N)
    (hps : (a.view.loc (c.tc : Thread nD τ) ↦[a.view.set]{q} f) ⊢ pay c s)
    (hpr : (D.view.loc (p.tc : Thread nD τ) ↦[D.view.set]{fullShare} (D.view.write Val g (a.view.read Val f) Finset.univ)) ⊢ pay p r)
    {k : PUnit → Prog (TpuEff nD τ sig Val Λ .tc) α}
    (hR : τ.routes (c.tc : Thread nD τ) (p.tc : Thread nD τ) = true := by routes) :
    iprop(T.invs (τ := τ) pay κ
        ∗ (a.view.loc (c.tc : Thread nD τ) ↦[a.view.set]{q} f) ∗ (D.view.loc (p.tc : Thread nD τ) ↦[D.view.set]{fullShare} g)
        ∗ (T.tok (τ := τ) c s ∗ T.tok (τ := τ) p r) ∗ (T.at0 (τ := τ) c s ∗ T.at0 (τ := τ) c r)
        ∗ cred (tallyAt (T.cell τ c r) () T.N)
        ∗ ∃ W, owes (c.tc : Thread nD τ) (0 + tallyAt (T.cell τ p r) () T.N) W)
      ⊢ iprop((((pay c s ∗ pay c r) ∗ (semVal (T.cell τ c s) 0 ∗ semVal (T.cell τ c r) 0)
              ∗ ∃ W, owes (c.tc : Thread nD τ) (0 : CellTallies nD τ sig Unit) W)
            -∗ wp frame (wpE 𝔻 𝒱 (c.tc : Thread nD τ) none) Set.univ (k ⟨⟩) Q)
          -∗ wp frame (wpE 𝔻 𝒱 (c.tc : Thread nD τ) none) Set.univ
              (.op (.enqueueDma a (.remote (p.tc : Thread nD τ) D S hsc) R ha hD ht) fun _ => .op w0 fun _ => .op w1 k) Q) := by
  iintro ⟨#Hinv, Ha, Hg, ⟨Hts, Htr⟩, ⟨Has, Har⟩, Hcr, ⟨%W, HO⟩⟩ Hk
  iapply (T.wp_send pay 𝒱 κ c p s r hs hr hN _ hps hpr hR) $$ [Ha Hg HO Hts Htr]
  · isplitr; · iexact Hinv
    isplitl [Ha]; · iexact Ha
    isplitl [Hg]; · iexact Hg
    isplitl [HO]; · iexact HO
    isplitl [Hts] <;> iassumption
  iintro ⟨Hcs, HO⟩
  ihave HO := (show owes (c.tc : Thread nD τ) (0 : CellTallies nD τ sig Unit) W ⊢ (iprop(∃ W, owes (c.tc : Thread nD τ) (0 : CellTallies nD τ sig Unit) W) : sProp 𝕄) from by
    iintro H; iexists W; iexact H) $$ HO
  iapply (T.wp_wait pay 𝒱 κ c s hw0) $$ [Hcs HO Has]
  · isplitr; · iexact Hinv
    isplitl [Hcs]; · iexact Hcs
    isplitl [HO] <;> iassumption
  iintro ⟨HO, Hvs, Hps⟩
  iapply (T.wp_wait pay 𝒱 κ c r hw1) $$ [Hcr HO Har]
  · isplitr; · iexact Hinv
    isplitl [Hcr]; · iexact Hcr
    isplitl [HO] <;> iassumption
  iintro ⟨HO, Hvr, Hpr⟩
  iapply Hk
  isplitl [Hps Hpr]; · isplitl [Hps] <;> iassumption
  isplitl [Hvs Hvr]; · isplitl [Hvs] <;> iassumption
  iexact HO

end Talk

/-! ## Writing a whole view -/

/-- A view written with what another reads, when the first would read the same of `G`, holds `G` on its elements. -/
theorem write_eq {κ κ' : Kind} {sp sp' : Space} {s : Shape} {e : EltTy} (v : View sig κ sp s e) (u : View sig κ' sp' s e)
    (fd G : v.ty.Contents Val) (fs : u.ty.Contents Val) (h : ∀ x, u.read Val fs x = v.read Val G x) :
    ∀ i ∈ v.set, v.write Val fd (u.read Val fs) Finset.univ i = G i := by
  intro i hi
  obtain ⟨x, -, rfl⟩ := Finset.mem_map.mp hi
  rw [View.write_emb_of_mem _ _ (Finset.mem_univ x), h, View.read_apply, cast_cast, cast_eq]

/-! ## A stack of arrays and its slots -/

/-- The elements of slot `j` of a stack of `n` arrays. -/
def slotSet (n R L : ℕ) (j : ℕ) : Finset (⟨3, ![n, R, L]⟩ : Shape).Idx := Finset.univ.filter fun i => (i 0).val = j

theorem slot_rect {n R L j : ℕ} {off : Fin 3 → ℕ} (h : off = ![j, 0, 0])
    (inb : ∀ a, off a + (![1, R, L] : Fin 3 → ℕ) a ≤ (⟨3, ![n, R, L]⟩ : Shape).size a) :
    (Rect.unit (s := ⟨3, ![n, R, L]⟩) off ![1, R, L] inb).set = slotSet n R L j := by
  subst h
  ext i
  rw [Rect.mem_set_unit, slotSet, Finset.mem_filter]
  have h0 := (i 0).isLt; have h1 := (i 1).isLt; have h2 := (i 2).isLt
  constructor
  · intro h
    have := h 0
    simp at this
    exact ⟨Finset.mem_univ _, by omega⟩
  · rintro ⟨-, h⟩ a
    match a with
    | ⟨0, _⟩ => exact ⟨by show j ≤ (i 0).val; omega, by show (i 0).val < j + 1; omega⟩
    | ⟨1, _⟩ => exact ⟨by show 0 ≤ (i 1).val; omega, by show (i 1).val < 0 + R; have : (i 1).val < R := h1; omega⟩
    | ⟨2, _⟩ => exact ⟨by show 0 ≤ (i 2).val; omega, by show (i 2).val < 0 + L; have : (i 2).val < L := h2; omega⟩

/-- A slot's own index placed in the stack. -/
theorem slot_emb {n R L j : ℕ} {off : Fin 3 → ℕ} (h : off = ![j, 0, 0]) (hj : j < n)
    (inb : ∀ a, off a + (![1, R, L] : Fin 3 → ℕ) a ≤ (⟨3, ![n, R, L]⟩ : Shape).size a)
    (hn : (⟨2, ![R, L]⟩ : Shape).numel = (⟨3, ![1, R, L]⟩ : Shape).numel) (x : (⟨2, ![R, L]⟩ : Shape).Idx) :
    (Rect.unit (s := ⟨3, ![n, R, L]⟩) off ![1, R, L] inb).emb (Shape.reshapeEquiv hn x) = ValueIdx.ix3 (⟨j, hj⟩ : Fin n) (x 0) (x 1) := by
  subst h
  rw [ValueIdx.eq_ix2 x]
  funext a
  apply Fin.ext
  erw [ValueIdx.reshapeEquiv_ix2_1ab hn (x 0) (x 1)]
  match a with
  | ⟨0, _⟩ => show j + 1 * 0 = j; omega
  | ⟨1, _⟩ => show 0 + 1 * (x 0).val = (x 0).val; omega
  | ⟨2, _⟩ => show 0 + 1 * (x 1).val = (x 1).val; omega

theorem slots_disjoint (n R L : ℕ) {j j' : ℕ} (h : j ≠ j') : Disjoint (slotSet n R L j) (slotSet n R L j') := by
  rw [Finset.disjoint_left]
  intro i hi hi'
  exact h ((Finset.mem_filter.mp hi).2.symm.trans (Finset.mem_filter.mp hi').2)

/-- Four slots, in any order, make up a stack of four. -/
theorem slots_four (R L : ℕ) {j0 j1 j2 j3 : ℕ} (h : ∀ k < 4, k = j0 ∨ k = j1 ∨ k = j2 ∨ k = j3) :
    slotSet 4 R L j0 ∪ (slotSet 4 R L j1 ∪ (slotSet 4 R L j2 ∪ slotSet 4 R L j3)) = Finset.univ := by
  ext i
  simp only [slotSet, Finset.mem_union, Finset.mem_filter, Finset.mem_univ, true_and, iff_true]
  exact h _ (i 0).isLt

/-- A buffer held on all its elements is held on four disjoint sets that make them up. -/
theorem four_parts {ℓ : Loc nD τ sig} {A B C D : Finset (Idx ℓ)} {q : PosShare TreeShare} (f : Buf Val ℓ)
    (hu : A ∪ (B ∪ (C ∪ D)) = Finset.univ) (hAB : Disjoint A B) (hAC : Disjoint A C) (hAD : Disjoint A D)
    (hBC : Disjoint B C) (hBD : Disjoint B D) (hCD : Disjoint C D) :
    (ℓ ↦{q} f : sProp 𝕄) ⊣⊢ iprop((ℓ ↦[A]{q} f) ∗ (ℓ ↦[B]{q} f) ∗ (ℓ ↦[C]{q} f) ∗ (ℓ ↦[D]{q} f)) := by
  have h1 : Disjoint A (B ∪ (C ∪ D)) := by simp only [Finset.disjoint_union_right]; exact ⟨hAB, hAC, hAD⟩
  have h2 : Disjoint B (C ∪ D) := by simp only [Finset.disjoint_union_right]; exact ⟨hBC, hBD⟩
  have e1 := pointsTo_union (U := UU nD τ sig) (Ix := Unit) (Name := ℕ) (Lvl := ℕ) (q := q) (f := f) h1
  have e2 := pointsTo_union (U := UU nD τ sig) (Ix := Unit) (Name := ℕ) (Lvl := ℕ) (q := q) (f := f) h2
  have e3 := pointsTo_union (U := UU nD τ sig) (Ix := Unit) (Name := ℕ) (Lvl := ℕ) (q := q) (f := f) hCD
  rw [hu] at e1
  constructor
  · iintro H
    ihave ⟨HA, H⟩ := e1.1 $$ H
    ihave ⟨HB, H⟩ := e2.1 $$ H
    ihave ⟨HC, HD⟩ := e3.1 $$ H
    isplitl [HA]; · iexact HA
    isplitl [HB]; · iexact HB
    isplitl [HC] <;> iassumption
  · iintro ⟨HA, HB, HC, HD⟩
    ihave H := e3.2 $$ [HC HD]
    · isplitl [HC] <;> iassumption
    ihave H := e2.2 $$ [HB H]
    · isplitl [HB] <;> iassumption
    iapply e1.2 $$ [HA H]
    isplitl [HA] <;> iassumption

/-- A quarter of the full share, for each of four readers of one buffer. -/
abbrev quarter : Fin 4 → PosShare TreeShare
  | 0 => fullShare.left.left
  | 1 => fullShare.left.right
  | 2 => fullShare.right.left
  | 3 => fullShare.right.right

/-- A buffer held at the full share is held at its four quarters. -/
theorem four_quarters {ℓ : Loc nD τ sig} {I : Finset (Idx ℓ)} (f : Buf Val ℓ) :
    (ℓ ↦[I]{fullShare} f : sProp 𝕄)
      ⊣⊢ iprop((ℓ ↦[I]{quarter 0} f) ∗ (ℓ ↦[I]{quarter 1} f) ∗ (ℓ ↦[I]{quarter 2} f) ∗ (ℓ ↦[I]{quarter 3} f)) := by
  have e1 := pointsTo_share (U := UU nD τ sig) (Ix := Unit) (Name := ℕ) (Lvl := ℕ) (ℓ := ℓ) (I := I) (f := f) (PosShare.mem_left_op_right fullShare)
  have e2 := pointsTo_share (U := UU nD τ sig) (Ix := Unit) (Name := ℕ) (Lvl := ℕ) (ℓ := ℓ) (I := I) (f := f) (PosShare.mem_left_op_right fullShare.left)
  have e3 := pointsTo_share (U := UU nD τ sig) (Ix := Unit) (Name := ℕ) (Lvl := ℕ) (ℓ := ℓ) (I := I) (f := f) (PosShare.mem_left_op_right fullShare.right)
  constructor
  · iintro H
    ihave ⟨HL, HR⟩ := e1.1 $$ H
    ihave ⟨HA, HB⟩ := e2.1 $$ HL
    ihave ⟨HC, HD⟩ := e3.1 $$ HR
    isplitl [HA]; · iexact HA
    isplitl [HB]; · iexact HB
    isplitl [HC] <;> iassumption
  · iintro ⟨HA, HB, HC, HD⟩
    ihave HL := e2.2 $$ [HA HB]
    · isplitl [HA] <;> iassumption
    ihave HR := e3.2 $$ [HC HD]
    · isplitl [HC] <;> iassumption
    iapply e1.2 $$ [HL HR]
    isplitl [HL] <;> iassumption

/-- One of something. -/
theorem bigSep_one (Φ : Fin 1 → sProp 𝕄) : bigSep Finset.univ Φ = Φ 0 := by
  rw [show (Finset.univ : Finset (Fin 1)) = {0} from by decide, bigSep_singleton]

/-- Seven of something, one by one. -/
theorem bigSep_seven (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

/-- Two of something, one by one. -/
theorem bigSep_two (Φ : Fin 2 → sProp 𝕄) : bigSep Finset.univ Φ = iprop(Φ 0 ∗ Φ 1) := by
  rw [show (Finset.univ : Finset (Fin 2)) = {0, 1} from by decide, bigSep_insert (by decide), bigSep_singleton]
  rfl

/-- Of what every device holds, three shares each go to a peer. -/
theorem deal_three (p0 p1 p2 : Dev nD → Dev nD) (h0 : ∀ c, p0 (p0 c) = c) (h1 : ∀ c, p1 (p1 c) = c) (h2 : ∀ c, p2 (p2 c) = c)
    (X A B C : Dev nD → sProp 𝕄) :
    (bigSep Finset.univ fun c => iprop(X c ∗ A c ∗ B c ∗ C c)) = bigSep Finset.univ fun c => iprop(X c ∗ A (p0 c) ∗ B (p1 c) ∗ C (p2 c)) := by
  simp only [bigSep_sep']
  rw [bigSep_peer p0 h0 A, bigSep_peer p1 h1 B, bigSep_peer p2 h2 C]

end Cert.Talking

end
-- ==== Proof.Gather.lean ====
/-
  The gathering of a weight over the chips: every device sends its block to the three devices of the same core on the
  other chips, so that every device ends with the four blocks of its core's column. The run is over any float values;
  the claims read it at bits and at the ideal values.
-/
module

public import proofs.«01_k».proof.Defs
public import proofs.«01_k».proof.Proof.Exchange
public import proofs.«01_k».proof.Proof.Gen.GatherIdeal
public import proofs.«01_k».proof.Proof.Gen.GatherIdeal.Skeleton
public import proofs.«01_k».proof.Proof.Gen.GatherIdeal.Launch
public import proofs.«01_k».proof.Proof.Gen.Gather
public import proofs.«01_k».proof.Proof.Gen.GatherRef
public import proofs.«01_k».proof.Proof.Gen.GatherRefIdeal.Run

@[expose] public section

noncomputable section

namespace Cert.GatherIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat launchCred entry)
open Cert.Talking

variable {F : FTy → Type} [FloatOps F]

local notation "𝕄" => MT nD τ sig Unit (Elt F) ℕ (UU nD τ sig) ℕ

/-! ## Who talks to whom -/

/-- The chip of a device: the slot its block goes to. -/
def chip (c : Dev nD) : ℕ := 2 * (c.val / 4) + (c.val / 2) % 2

/-- The device a block is sent to, for each of the three transfers. -/
abbrev p0 (c : Dev nD) : Dev nD := ⟨k0_dev1 c, Facts₀.k0_dev1_lt c⟩
abbrev p1 (c : Dev nD) : Dev nD := ⟨k0_dev2 c, Facts₀.k0_dev2_lt c⟩
abbrev p2 (c : Dev nD) : Dev nD := ⟨k0_dev3 c, Facts₀.k0_dev3_lt c⟩

theorem p0_p0 : ∀ c, p0 (p0 c) = c := by decide +kernel
theorem p1_p1 : ∀ c, p1 (p1 c) = c := by decide +kernel
theorem p2_p2 : ∀ c, p2 (p2 c) = c := by decide +kernel

/-- The four chips are the device's own and its three peers'. -/
theorem chips : ∀ c : Dev nD, ∀ k < 4, k = chip c ∨ k = chip (p0 c) ∨ k = chip (p1 c) ∨ k = chip (p2 c) := by decide +kernel
theorem chip_ne : ∀ c : Dev nD, chip c ≠ chip (p0 c) ∧ chip c ≠ chip (p1 c) ∧ chip c ≠ chip (p2 c) ∧ chip (p0 c) ≠ chip (p1 c)
    ∧ chip (p0 c) ≠ chip (p2 c) ∧ chip (p1 c) ≠ chip (p2 c) := by decide +kernel
theorem chip_lt : ∀ c : Dev nD, chip c < 4 := by decide +kernel

/-- The device of core `d mod 2` on chip `j`. -/
def holder (d : Dev nD) (j : Fin 4) : Dev nD := ⟨2 * j.val + d.val % 2, by have := j.isLt; show _ < 8; omega⟩

theorem holder_self : ∀ c : Dev nD, holder c ⟨chip c, chip_lt c⟩ = c := by decide +kernel
theorem holder_p0 : ∀ c : Dev nD, holder (p0 c) ⟨chip c, chip_lt c⟩ = c := by decide +kernel
theorem holder_p1 : ∀ c : Dev nD, holder (p1 c) ⟨chip c, chip_lt c⟩ = c := by decide +kernel
theorem holder_p2 : ∀ c : Dev nD, holder (p2 c) ⟨chip c, chip_lt c⟩ = c := by decide +kernel

/-! ## The protocol -/

/-- The seven completions of a device: its three sends, its three receipts, its own copy. -/
def talk : Talk sig where
  n := 7
  sem := fun i => .dma i
  inj := fun _ _ h => by injection h
  N := (Memref.whole main_arg0 : Memref sig .tc _ _ _).view.dmaCredit
  pos := View.dmaCredit_pos _ (by decide)

theorem talk_scoped : ∀ i, (talk.sem i).isScoped .tc = true := by decide

theorem all_scoped : ∀ s : SemLoc sig, s.isScoped .tc = true := by decide

/-- Whose completion each one is: a receipt is the work of the peer. -/
def peer : Fin talk.n → Dev nD → Dev nD
  | ⟨3, _⟩ => p0
  | ⟨4, _⟩ => p1
  | ⟨5, _⟩ => p2
  | _ => id

theorem peer_peer : ∀ j c, peer j (peer j c) = c := by decide +kernel

/-- What every device owes its peers at launch. -/
abbrev O₀ : Dev nD → CellTallies nD τ sig Unit := talk.due τ peer [⟨3, by decide⟩, ⟨4, by decide⟩, ⟨5, by decide⟩]

/-! ## The values -/

variable (m : (ℓ : Loc nD τ sig) → Buf (Elt F) ℓ)

/-- The gathered array of a device: slot `j` is the block of the device of its core on chip `j`. -/
def gathered (c : Dev nD) : Buf (Elt F) ((c.tc : Thread nD τ).loc main_v1) := fun i =>
  m (((holder c (i 0)).tc : Thread nD τ).loc main_arg0) (ValueIdx.ix2 (i 1) (i 2))

/-- The slot of `main_v1` a device's block goes to, on every device. -/
abbrev slot (c : Dev nD) : Memref sig .tc .hbm S63488x128 .bf16 :=
  ((Memref.whole main_v1).slice (Rect.unit (s := S4x63488x128) (k0_off1 c) S1x63488x128.size (Facts₀.k0_off1_inb c)) (fun _ => rfl)).squeeze
    S63488x128 Facts₀.squeezes_S1x63488x128_S63488x128

theorem slot_set (c : Dev nD) : (slot c).view.set = slotSet 4 63488 128 (chip c) := by
  refine (Memref.set_view_squeeze _ _).trans ?_
  refine (View.set_slice_whole main_v1 _).trans ?_
  exact slot_rect (Gen.k0_off1_eq c) _

/-- A device's block written to its slot of a device of its core is what the gathered array has there. -/
theorem slot_write (c d : Dev nD) (h : holder d ⟨chip c, chip_lt c⟩ = c) (g : Buf (Elt F) ((d.tc : Thread nD τ).loc main_v1)) :
    ((((d.tc : Thread nD τ).loc main_v1) ↦[(slot c).view.set]{fullShare}
        ((slot c).view.write (Elt F) g ((Memref.whole main_arg0 : Memref sig .tc _ _ _).view.read (Elt F) (m ((c.tc : Thread nD τ).loc main_arg0))) Finset.univ)) : sProp 𝕄)
      = (((d.tc : Thread nD τ).loc main_v1) ↦[slotSet 4 63488 128 (chip c)]{fullShare} gathered m d) := by
  have hread : ∀ x, (Memref.whole main_arg0 : Memref sig .tc _ _ _).view.read (Elt F) (m ((c.tc : Thread nD τ).loc main_arg0)) x
      = (slot c).view.read (Elt F) (gathered m d) x := fun x => by
    rw [View.read_apply, View.read_apply]
    have he : (slot c).view.emb x = ValueIdx.ix3 (⟨chip c, chip_lt c⟩ : Fin 4) (x 0) (x 1) :=
      slot_emb (Gen.k0_off1_eq c) (chip_lt c) (Facts₀.k0_off1_inb c) _ x
    rw [he]
    show m ((c.tc : Thread nD τ).loc main_arg0) x = m (((holder d ⟨chip c, chip_lt c⟩).tc : Thread nD τ).loc main_arg0) (ValueIdx.ix2 (x 0) (x 1))
    rw [h]
    exact congrArg _ (ValueIdx.eq_ix2 x)
  rw [pointsTo_congr (write_eq (slot c).view (Memref.whole main_arg0 : Memref sig .tc _ _ _).view g (gathered m d) _ hread), slot_set]

/-- The whole gathered buffer is its four slots. -/
theorem slots_eq (c : Dev nD) (f : Buf (Elt F) ((c.tc : Thread nD τ).loc main_v1)) :
    (((c.tc : Thread nD τ).loc main_v1 ↦{fullShare} f) : sProp 𝕄)
      ⊣⊢ iprop((((c.tc : Thread nD τ).loc main_v1) ↦[slotSet 4 63488 128 (chip c)]{fullShare} f)
        ∗ (((c.tc : Thread nD τ).loc main_v1) ↦[slotSet 4 63488 128 (chip (p0 c))]{fullShare} f)
        ∗ (((c.tc : Thread nD τ).loc main_v1) ↦[slotSet 4 63488 128 (chip (p1 c))]{fullShare} f)
        ∗ (((c.tc : Thread nD τ).loc main_v1) ↦[slotSet 4 63488 128 (chip (p2 c))]{fullShare} f)) :=
  four_parts f (slots_four 63488 128 (chips c)) (slots_disjoint _ _ _ (chip_ne c).1) (slots_disjoint _ _ _ (chip_ne c).2.1)
    (slots_disjoint _ _ _ (chip_ne c).2.2.1) (slots_disjoint _ _ _ (chip_ne c).2.2.2.1) (slots_disjoint _ _ _ (chip_ne c).2.2.2.2.1)
    (slots_disjoint _ _ _ (chip_ne c).2.2.2.2.2)

/-! ## What a completion hands over -/

/-- A device's block, read. -/
abbrev block (c : Dev nD) (k : Fin 4) : sProp 𝕄 :=
  (((c.tc : Thread nD τ).loc main_arg0) ↦[(Memref.whole main_arg0 : Memref sig .tc _ _ _).view.set]{quarter k} m ((c.tc : Thread nD τ).loc main_arg0))

/-- The slot of a device's chip, received by a device of the same core. -/
abbrev got (c d : Dev nD) : sProp 𝕄 := (((d.tc : Thread nD τ).loc main_v1) ↦[slotSet 4 63488 128 (chip c)]{fullShare} gathered m d)

/-- What each completion hands its device: a send, the reading back; a receipt, the peer's slot; the copy, both. -/
def pay (c : Dev nD) (i : Fin talk.n) : sProp 𝕄 :=
  match (show Fin 7 from i) with
  | ⟨0, _⟩ => block m c 0
  | ⟨1, _⟩ => block m c 1
  | ⟨2, _⟩ => block m c 2
  | ⟨3, _⟩ => got m (p0 c) c
  | ⟨4, _⟩ => got m (p1 c) c
  | ⟨5, _⟩ => got m (p2 c) c
  | ⟨_ + 6, _⟩ => iprop(got m c c ∗ block m c 3)

instance pay_storable (c : Dev nD) (i : Fin talk.n) : Storable (upEmb : UEmb _ 𝕄) (pay m c i) := by
  unfold pay; split <;> infer_instance

theorem whole_eq (c : Dev nD) (k : Fin 4) :
    ((((c.tc : Thread nD τ).loc main_arg0) ↦{quarter k} m ((c.tc : Thread nD τ).loc main_arg0)) : sProp 𝕄) = block m c k := by
  unfold block; rw [show (Memref.whole main_arg0 : Memref sig .tc _ _ _).view.set = Finset.univ from View.set_whole main_arg0]

/-- The copy done: the device's own slot at its own block. -/
theorem kept (c : Dev nD) : iprop((((c.tc : Thread nD τ).loc main_v1) ↦[(slot c).view.set]{fullShare}
        ((slot c).view.write (Elt F) (m ((c.tc : Thread nD τ).loc main_v1)) ((Memref.whole main_arg0 : Memref sig .tc _ _ _).view.read (Elt F) (m ((c.tc : Thread nD τ).loc main_arg0))) Finset.univ))
      ∗ block m c 3) ⊢ pay m c (6 : Fin 7) := by
  rw [slot_write m c c (holder_self c)]
  exact Entails.rfl

/-- A send done: the receiver's slot at the sender's block. -/
theorem sent (c d : Dev nD) (h : holder d ⟨chip c, chip_lt c⟩ = c) (i : Fin 7) (hi : got m c d = pay m d i) :
    ((((d.tc : Thread nD τ).loc main_v1) ↦[(slot c).view.set]{fullShare}
        ((slot c).view.write (Elt F) (m ((d.tc : Thread nD τ).loc main_v1)) ((Memref.whole main_arg0 : Memref sig .tc _ _ _).view.read (Elt F) (m ((c.tc : Thread nD τ).loc main_arg0))) Finset.univ)) : sProp 𝕄)
      ⊢ pay m d i := by
  rw [slot_write m c d h, ← hi]

/-! ## The call -/

/-- What a device hands a peer before the call: the token of a receipt and the slot it fills. -/
def away (c : Dev nD) (i : Fin 7) (d : Dev nD) : sProp 𝕄 :=
  iprop(talk.tok (τ := τ) c i ∗ ((c.tc : Thread nD τ).loc main_v1) ↦[slotSet 4 63488 128 (chip d)]{fullShare} m ((c.tc : Thread nD τ).loc main_v1))

/-- What a device keeps for the call: its block, its own slot, its positions, the tokens of its own work, its credit. -/
def own (c : Dev nD) : sProp 𝕄 :=
  iprop((((c.tc : Thread nD τ).loc main_arg0) ↦{fullShare} m ((c.tc : Thread nD τ).loc main_arg0))
    ∗ (((c.tc : Thread nD τ).loc main_v1) ↦[slotSet 4 63488 128 (chip c)]{fullShare} m ((c.tc : Thread nD τ).loc main_v1))
    ∗ (bigSep Finset.univ fun i : Fin 7 => talk.at0 (τ := τ) c i)
    ∗ (talk.tok (τ := τ) c (0 : Fin 7) ∗ talk.tok (τ := τ) c (1 : Fin 7) ∗ talk.tok (τ := τ) c (2 : Fin 7) ∗ talk.tok (τ := τ) c (6 : Fin 7))
    ∗ launchCred O₀ c)

/-- What a device starts the call with. -/
def start (κ : Dev nD × Fin talk.n → ℕ) (c : Dev nD) : sProp 𝕄 :=
  iprop(talk.invs (τ := τ) (pay m) κ ∗ own m c
    ∗ away m (p0 c) (3 : Fin 7) (p0 (p0 c)) ∗ away m (p1 c) (4 : Fin 7) (p1 (p1 c)) ∗ away m (p2 c) (5 : Fin 7) (p2 (p2 c)))

/-- What it ends the call with: its block as it was, and the gathered blocks. -/
def done (c : Dev nD) : sProp 𝕄 :=
  iprop((((c.tc : Thread nD τ).loc main_arg0) ↦{fullShare} m ((c.tc : Thread nD τ).loc main_arg0))
    ∗ (((c.tc : Thread nD τ).loc main_v1) ↦{fullShare} gathered m c))

set_option maxHeartbeats 1000000 in
/-- The kernel's body, from its start to its end, every debt to a peer paid. -/
theorem body (κ : Dev nD × Fin talk.n → ℕ) (c : Dev nD) (t : Fin cfg0.N) :
    iprop(start m κ c ∗ ∃ W, owes (c.tc : Thread nD τ) (O₀ c) W)
      ⊢ wp frame (wpE defs₀ Variants.none (c.tc : Thread nD τ) none) Set.univ (defs₀ (F := F) .tc (cfg0).body ((cfg0).bodyArgs t ((cfg0).slots t)))
          fun _ => iprop((done m c ∗ bigSep Finset.univ fun i => semVal (talk.cell τ c i) 0) ∗ ∃ W, owes (c.tc : Thread nD τ) (0 : CellTallies nD τ sig Unit) W) := by
  have hcred : (launchCred O₀ c : sProp 𝕄)
      ⊢ iprop(cred (tallyAt (talk.cell τ c (3 : Fin 7)) () talk.N) ∗ cred (tallyAt (talk.cell τ c (4 : Fin 7)) () talk.N) ∗ cred (tallyAt (talk.cell τ c (5 : Fin 7)) () talk.N)) := by
    rw [talk.launch_cred peer peer_peer]
    simp only [Talk.due, cred_add]
    show _ ⊢ (_ : sProp 𝕄)
    iintro ⟨⟨⟨-, H5⟩, H4⟩, H3⟩
    isplitl [H3]; · iexact H3
    isplitl [H4]; · iexact H4
    iexact H5
  show _ ⊢ wp frame _ _ (cc0_gather_weights (Memref.whole main_arg0) _ (Memref.whole main_v1) _ cc0_scratch0 cc0_scratch1 cc0_scratch2) _
  simp only [Gen.cc0_gather_weights_eq_skeleton]
  unfold Gen.cc0_gather_weights_skel
  simp only [Gen.k0_part1_eq_skeleton, Gen.k0_part2_eq_skeleton, Gen.k0_part3_eq_skeleton]
  unfold Gen.k0_part1_skel Gen.k0_part2_skel Gen.k0_part3_skel
  simp only [Prog.lift, Prog.bind_op, Prog.bind_ret, Prog.pure_eq_ret, wp_deviceId]
  unfold start own away
  iintro ⟨⟨#Hinv, ⟨Ha, Hv, Hat, ⟨Ht0, Ht1, Ht2, Ht6⟩, Hc⟩, ⟨Ht3, Hv0⟩, ⟨Ht4, Hv1⟩, ⟨Ht5, Hv2⟩⟩, HO⟩
  ihave Hc := hcred $$ Hc
  ihave Ha := (four_quarters _).1 $$ Ha
  icases Ha with ⟨Ha0, Ha1, Ha2, Ha3⟩
  ihave Hat := (Entails.of_eq (bigSep_seven _)) $$ Hat
  icases Hat with ⟨A0, A1, A2, A3, A4, A5, A6⟩
  iapply (talk.wp_exchange Variants.none (pay m) κ c (p0 c) (p1 c) (p2 c) (0 : Fin 7) (1 : Fin 7) (2 : Fin 7) (3 : Fin 7) (4 : Fin 7) (5 : Fin 7) (6 : Fin 7)
    (a := Memref.whole main_arg0) (a0 := Memref.whole main_arg0) (a1 := Memref.whole main_arg0) (a2 := Memref.whole main_arg0) (D := slot c)
    rfl rfl rfl rfl rfl rfl rfl (fun _ => rfl) (fun _ => rfl) (fun _ => rfl) (fun _ => rfl) (fun _ => rfl) (fun _ => rfl) (fun _ => rfl)
    (q := quarter 3) (q0 := quarter 0) (q1 := quarter 1) (q2 := quarter 2)
    (f := m ((c.tc : Thread nD τ).loc main_arg0)) (f0 := m ((c.tc : Thread nD τ).loc main_arg0)) (f1 := m ((c.tc : Thread nD τ).loc main_arg0))
    (f2 := m ((c.tc : Thread nD τ).loc main_arg0)) (g := m ((c.tc : Thread nD τ).loc main_v1)) (g0 := m (((p0 c).tc : Thread nD τ).loc main_v1))
    (g1 := m (((p1 c).tc : Thread nD τ).loc main_v1)) (g2 := m (((p2 c).tc : Thread nD τ).loc main_v1))
    rfl rfl rfl rfl (kept m c) Entails.rfl Entails.rfl Entails.rfl (sent m c (p0 c) (holder_p0 c) (3 : Fin 7) (congrArg (fun x => got m x (p0 c)) (p0_p0 c).symm))
    (sent m c (p1 c) (holder_p1 c) (4 : Fin 7) (congrArg (fun x => got m x (p1 c)) (p1_p1 c).symm))
    (sent m c (p2 c) (holder_p2 c) (5 : Fin 7) (congrArg (fun x => got m x (p2 c)) (p2_p2 c).symm)))
    $$ [Ha0 Ha1 Ha2 Ha3 Hv Hv0 Hv1 Hv2 Ht0 Ht1 Ht2 Ht3 Ht4 Ht5 Ht6 A0 A1 A2 A3 A4 A5 A6 Hc HO]
  · isplitr; · iexact Hinv
    isplitl [Ha0 Ha1 Ha2 Ha3]
    · isplitl [Ha3]; · iapply (Entails.of_eq (whole_eq m c 3)) $$ Ha3
      isplitl [Ha0]; · iapply (Entails.of_eq (whole_eq m c 0)) $$ Ha0
      isplitl [Ha1]; · iapply (Entails.of_eq (whole_eq m c 1)) $$ Ha1
      iapply (Entails.of_eq (whole_eq m c 2)) $$ Ha2
    isplitl [Hv Hv0 Hv1 Hv2]
    · isplitl [Hv]; · iapply (Entails.of_eq (by rw [slot_set])) $$ Hv
      isplitl [Hv0]; · iapply (Entails.of_eq (by rw [slot_set, p0_p0])) $$ Hv0
      isplitl [Hv1]; · iapply (Entails.of_eq (by rw [slot_set, p1_p1])) $$ Hv1
      iapply (Entails.of_eq (by rw [slot_set, p2_p2])) $$ Hv2
    isplitl [Ht6 Ht0 Ht1 Ht2]
    · isplitl [Ht6]; · iexact Ht6
      isplitl [Ht0]; · iexact Ht0
      isplitl [Ht1]; · iexact Ht1
      iexact Ht2
    isplitl [Ht3 Ht4 Ht5]
    · isplitl [Ht3]; · iexact Ht3
      isplitl [Ht4]; · iexact Ht4
      iexact Ht5
    isplitl [A0 A1 A2 A3 A4 A5 A6]
    · isplitl [A6]; · iexact A6
      isplitl [A0]; · iexact A0
      isplitl [A1]; · iexact A1
      isplitl [A2]; · iexact A2
      isplitl [A3]; · iexact A3
      isplitl [A4]; · iexact A4
      iexact A5
    isplitl [Hc]; · iexact Hc
    icases HO with ⟨%W, HO⟩
    iexists W
    iexact HO
  iintro ⟨⟨Hp6, Hp0, Hp1, Hp2, Hp3, Hp4, Hp5⟩, ⟨S6, S0, S1, S2, S3, S4, S5⟩, HO⟩
  iapply (Entails.of_eq (wp_ret ..).symm)
  imodintro
  isplitr [HO]
  · isplitl [Hp0 Hp1 Hp2 Hp3 Hp4 Hp5 Hp6]
    · ihave ⟨Hg, Ha3⟩ := (Entails.of_eq (show pay m c (6 : Fin 7) = iprop(got m c c ∗ block m c 3) from rfl)) $$ Hp6
      unfold done
      isplitl [Hp0 Hp1 Hp2 Ha3]
      · iapply (four_quarters _).2 $$ [Hp0 Hp1 Hp2 Ha3]
        isplitl [Hp0]; · iapply (Entails.of_eq ((whole_eq m c 0).trans (show block m c 0 = pay m c (0 : Fin 7) from rfl)).symm) $$ Hp0
        isplitl [Hp1]; · iapply (Entails.of_eq ((whole_eq m c 1).trans (show block m c 1 = pay m c (1 : Fin 7) from rfl)).symm) $$ Hp1
        isplitl [Hp2]; · iapply (Entails.of_eq ((whole_eq m c 2).trans (show block m c 2 = pay m c (2 : Fin 7) from rfl)).symm) $$ Hp2
        iapply (Entails.of_eq (whole_eq m c 3).symm) $$ Ha3
      · iapply (slots_eq c _).2 $$ [Hg Hp3 Hp4 Hp5]
        isplitl [Hg]; · iexact Hg
        isplitl [Hp3]; · iapply (Entails.of_eq (show pay m c (3 : Fin 7) = got m (p0 c) c from rfl)) $$ Hp3
        isplitl [Hp4]; · iapply (Entails.of_eq (show pay m c (4 : Fin 7) = got m (p1 c) c from rfl)) $$ Hp4
        iapply (Entails.of_eq (show pay m c (5 : Fin 7) = got m (p2 c) c from rfl)) $$ Hp5
    · iapply (Entails.of_eq (bigSep_seven _).symm) $$ [S0 S1 S2 S3 S4 S5 S6]
      isplitl [S0]; · iexact S0
      isplitl [S1]; · iexact S1
      isplitl [S2]; · iexact S2
      isplitl [S3]; · iexact S3
      isplitl [S4]; · iexact S4
      isplitl [S5]; · iexact S5
      iexact S6
  iexact HO

/-! ## The run -/

/-- The proof data of the one call. -/
def dats (κ : Dev nD × Fin talk.n → ℕ) (p : Fin 1) (c : Dev nD) : Dat τ (Elt F) Unit ℕ (UU nD τ sig) ℕ (Pipeline.pin (pcfgs (F := F)) (fun p => (cfgs p).toPCfg_adm) p) c :=
  Talk.dat (Pipeline.pin (pcfgs (F := F)) (fun p => (cfgs p).toPCfg_adm) p) rfl c iprop(start m κ c ∗ scopedBufs (c.tc : Thread nD τ))
    iprop((done m c ∗ bigSep Finset.univ fun i => semVal (talk.cell τ c i) 0) ∗ scopedBufs (c.tc : Thread nD τ)) (O₀ c)

/-- What a device holds once the launch has dealt everyone their tokens and slots. -/
def dealt (c : Dev nD) : sProp 𝕄 :=
  iprop(∃ κ : Dev nD × Fin talk.n → ℕ, start m κ c ∗ talk.kit (pcfgs (F := F)) (fun p => (cfgs p).toPCfg_adm) O₀ c)

/-- The launch deals every device what it starts with. -/
theorem deal :
    iprop((bigSep Finset.univ fun c : Dev nD => iprop(boundary (c.tc : Thread nD τ)
          ∗ unscopedBufs c (fun b => m ((c.tc : Thread nD τ).loc b)) ∗ owes (c.tc : Thread nD τ) (O₀ c) ∅ ∗ launchCred O₀ c))
        ∗ ownU (talk.ghost₀ (pcfgs (F := F)) (fun p => (cfgs p).toPCfg_adm) Gen.cellOf_inj)) ⊢ |={Set.univ}=> bigSep Finset.univ (dealt m) := by
  have hbufs : ∀ c : Dev nD, (unscopedBufs c (fun b => m ((c.tc : Thread nD τ).loc b)) : sProp 𝕄)
      ⊢ iprop((((c.tc : Thread nD τ).loc main_arg0) ↦{fullShare} m ((c.tc : Thread nD τ).loc main_arg0))
        ∗ (((c.tc : Thread nD τ).loc main_v1) ↦{fullShare} m ((c.tc : Thread nD τ).loc main_v1))) := fun c => by
    rw [Pipeline.unscopedBufs_split₀ cfgs 0 (fun w => w.elim0), Gen.unscopedRest0_eq]
    show _ ⊢ (_ : sProp 𝕄)
    iintro ⟨-, H⟩
    iexact H
  refine (talk.launch talk_scoped (pcfgs (F := F)) (fun p => (cfgs p).toPCfg_adm) Gen.cellOf_inj (pay m) _ O₀).trans ?_
  have hone : ∀ (κ : Dev nD × Fin talk.n → ℕ) (c : Dev nD),
      iprop(talk.kit (pcfgs (F := F)) (fun p => (cfgs p).toPCfg_adm) O₀ c
            ∗ ((bigSep Finset.univ fun i : Fin talk.n => talk.at0 (τ := τ) c i) ∗ (bigSep Finset.univ fun i : Fin talk.n => talk.tok (τ := τ) c i))
            ∗ unscopedBufs c (fun b => m ((c.tc : Thread nD τ).loc b)) ∗ launchCred O₀ c)
        ⊢ (iprop((talk.kit (pcfgs (F := F)) (fun p => (cfgs p).toPCfg_adm) O₀ c
            ∗ own m c)
          ∗ away m c (3 : Fin 7) (p0 c) ∗ away m c (4 : Fin 7) (p1 c) ∗ away m c (5 : Fin 7) (p2 c)) : sProp 𝕄) := fun κ c => by
    iintro ⟨Hkit, ⟨Hat, Htok⟩, HU, Hc⟩
    ihave HU := (hbufs c) $$ HU
    icases HU with ⟨Ha, Hv⟩
    ihave Hv := (slots_eq c _).1 $$ Hv
    icases Hv with ⟨Hv, Hv0, Hv1, Hv2⟩
    ihave Htok := (Entails.of_eq (show (bigSep Finset.univ fun i : Fin talk.n => talk.tok (τ := τ) c i : sProp 𝕄) = _ from bigSep_seven _)) $$ Htok
    icases Htok with ⟨T0, T1, T2, T3, T4, T5, T6⟩
    isplitl [Hkit Ha Hv Hat T0 T1 T2 T6 Hc]
    · isplitl [Hkit]; · iexact Hkit
      unfold own
      isplitl [Ha]; · iexact Ha
      isplitl [Hv]; · iexact Hv
      isplitl [Hat]; · iexact Hat
      isplitl [T0 T1 T2 T6]
      · isplitl [T0]; · iexact T0
        isplitl [T1]; · iexact T1
        isplitl [T2] <;> iassumption
      iexact Hc
    unfold away
    isplitl [T3 Hv0]; · isplitl [T3] <;> iassumption
    isplitl [T4 Hv1]; · isplitl [T4] <;> iassumption
    isplitl [T5] <;> iassumption
  have hall : ∀ κ : Dev nD × Fin talk.n → ℕ, (bigSep Finset.univ fun c : Dev nD => iprop(talk.kit (pcfgs (F := F)) (fun p => (cfgs p).toPCfg_adm) O₀ c
            ∗ ((bigSep Finset.univ fun i : Fin talk.n => talk.at0 (τ := τ) c i) ∗ (bigSep Finset.univ fun i : Fin talk.n => talk.tok (τ := τ) c i))
            ∗ unscopedBufs c (fun b => m ((c.tc : Thread nD τ).loc b)) ∗ launchCred O₀ c)) ⊢ (_ : sProp 𝕄) := fun κ =>
    (bigSep_mono fun c _ => hone κ c).trans (Entails.of_eq
      (deal_three p0 p1 p2 p0_p0 p1_p1 p2_p2 _ (fun c => away m c (3 : Fin 7) (p0 c)) (fun c => away m c (4 : Fin 7) (p1 c)) (fun c => away m c (5 : Fin 7) (p2 c))))
  have hinvs : ∀ κ : Dev nD × Fin talk.n → ℕ, talk.invs (τ := τ) (pay m) κ ⊢ (bigSep Finset.univ fun _ : Dev nD => talk.invs (τ := τ) (pay m) κ : sProp 𝕄) :=
    fun κ => bigSep_of_persistent Finset.univ _
  have hend : ∀ κ : Dev nD × Fin talk.n → ℕ, iprop((bigSep Finset.univ fun _ : Dev nD => talk.invs (τ := τ) (pay m) κ)
      ∗ bigSep Finset.univ fun c => iprop((talk.kit (pcfgs (F := F)) (fun p => (cfgs p).toPCfg_adm) O₀ c ∗ own m c)
          ∗ away m (p0 c) (3 : Fin 7) (p0 (p0 c)) ∗ away m (p1 c) (4 : Fin 7) (p1 (p1 c)) ∗ away m (p2 c) (5 : Fin 7) (p2 (p2 c))))
      ⊢ bigSep Finset.univ (dealt m) := fun κ => by
    rw [← bigSep_sep']
    refine bigSep_mono fun c _ => ?_
    unfold dealt start
    show _ ⊢ (_ : sProp 𝕄)
    iintro ⟨Hi, ⟨Hkit, HX⟩, HA, HB, HC⟩
    iexists κ
    isplitr [Hkit]
    · isplitl [Hi]; · iexact Hi
      isplitl [HX]; · iexact HX
      isplitl [HA]; · iexact HA
      isplitl [HB] <;> iassumption
    iexact Hkit
  iintro >⟨%κ, #Hinv, H⟩
  imodintro
  ihave H := (hall κ) $$ H
  iapply (hend κ) $$ [H]
  isplitr [H]; · iapply (hinvs κ); iexact Hinv
  iexact H

/-- The call in the program. -/
theorem region (κ : Dev nD × Fin talk.n → ℕ) (c : Dev nD) {α : Type}
    {k : PUnit → Prog (TpuEff nD τ sig (Elt F) (Pipeline.Sig Λ₀ (Fin 1) fun p => (pcfgs (F := F) p).Adm) .tc) α} {Q : α → sProp 𝕄} :
    iprop(start m κ c ∗ scopedBufs (c.tc : Thread nD τ) ∗ talk.otherSems c ∗ opIdle (c.tc : Thread nD τ) ∗ owes (c.tc : Thread nD τ) (O₀ c) ∅
        ∗ Pipeline.cellsGhost (Pipeline.pin (pcfgs (F := F)) (fun p => (cfgs p).toPCfg_adm)) EP 0 c
        ∗ Pipeline.toksInit (Pipeline.pin (pcfgs (F := F)) (fun p => (cfgs p).toPCfg_adm)) EP 0 c)
      ⊢ iprop(((done m c ∗ boundary (c.tc : Thread nD τ) ∗ ∃ W, owes (c.tc : Thread nD τ) (0 : CellTallies nD τ sig Unit) W)
            -∗ wp frame (wpE (Pipeline.defs pcfgs defs₀) (Variants.lift Variants.none) (c.tc : Thread nD τ) none) Set.univ (k ⟨⟩) Q)
          -∗ wp frame (wpE (Pipeline.defs pcfgs defs₀) (Variants.lift Variants.none) (c.tc : Thread nD τ) none) Set.univ (.op (.customCall (entry 0) ()) k) Q) :=
  talk.wp_region talk_scoped pcfgs (fun p => (cfgs p).toPCfg_adm) (dats m κ) Gen.cellOf_inj 0 defs₀ Variants.none rfl Gen.N_0 rfl c
    (Pre := start m κ c) (Post := done m c) (O := O₀ c) rfl (fun t => body m κ c t)

/-- The program on a device, from what the launch deals it. -/
theorem run_device (c : Dev nD) : dealt m c ⊢ wp frame (wpE defs (Variants.lift Variants.none) (c.tc : Thread nD τ) none) Set.univ (main (F := F) c)
    fun _ => iprop((done m c ∗ boundary (c.tc : Thread nD τ)) ∗ ∃ W, owes (c.tc : Thread nD τ) (0 : CellTallies nD τ sig Unit) W) := by
  have hmain : main (F := F) c = (.op (.customCall (entry 0) ()) fun _ => .ret ⟨⟩) := rfl
  rw [hmain]
  unfold dealt Talk.kit defs
  iintro ⟨%κ, Hs, Hb, Hsem, Hidle, HO, Hg, Ht⟩
  ihave Hg := (Entails.of_eq (bigSep_one _)) $$ Hg
  ihave Ht := (Entails.of_eq (bigSep_one _)) $$ Ht
  iapply (region m κ c) $$ [Hs Hb Hsem Hidle HO Hg Ht]
  · isplitl [Hs]; · iexact Hs
    isplitl [Hb]; · iexact Hb
    isplitl [Hsem]; · iexact Hsem
    isplitl [Hidle]; · iexact Hidle
    isplitl [HO]; · iexact HO
    isplitl [Hg]; · iexact Hg
    iexact Ht
  iintro ⟨Hd, Hb, HO⟩
  iapply (Entails.of_eq (wp_ret ..).symm)
  imodintro
  isplitr [HO]
  · isplitl [Hd] <;> iassumption
  iexact HO

/-- The whole mesh: every device ends with the gathered blocks and its own as it was, every semaphore at zero. -/
theorem run_main (ρ : Dev nD → PrngReg) : θ_run (defs (F := F)) (onTc (τ := τ) (main (F := F))) ⟨m, fun _ => 0, ρ⟩ (fun r =>
    (∀ c : Dev nD, r.2.mem ((c.tc : Thread nD τ).loc main_v1) = gathered m c
      ∧ r.2.mem ((c.tc : Thread nD τ).loc main_arg0) = m ((c.tc : Thread nD τ).loc main_arg0)) ∧ r.2.sem = fun _ => 0) := by
  refine run_talk defs (Variants.lift Variants.none) m ρ main O₀ _ (dealt m) (done m) (deal m) (run_device m)
    (fun c mem => mem.mem ((c.tc : Thread nD τ).loc main_v1) = gathered m c ∧ mem.mem ((c.tc : Thread nD τ).loc main_arg0) = m ((c.tc : Thread nD τ).loc main_arg0))
    (fun c s' => ?_) (fun s h hz => ⟨h, funext fun g' => hz g' ?_⟩)
  · unfold done
    iintro ⟨⟨Ha, Hv⟩, HS⟩
    imodintro
    icombine HS Ha gives %ha
    icombine HS Hv gives %hv
    isplitr [HS]
    · ipureintro; exact ⟨funext fun i => hv i (Finset.mem_univ i), funext fun i => ha i (Finset.mem_univ i)⟩
    iexact HS
  · obtain ⟨⟨d, p⟩, s⟩ := g'
    by_cases hp : p = .tc
    · subst hp; exact Or.inr (all_scoped s)
    · exact Or.inl hp

/-! ## The claims -/

/-- Core `d mod 2` of chip `j` holds block `j` of an array cut over the chips. -/
theorem holder_block : ∀ (d : Dev nD) (j : Fin 4), Layout.meshLin [2, 2, 2] (holder d j).val [0, 1] = j.val := by decide +kernel

/-- Blocks of one array, gathered, are the array with its rows in groups. -/
theorem gathered_blocks (V : (⟨2, ![253952, 128]⟩ : Shape).Idx → Elt F .bf16) (hs : (⟨2, ![253952, 128]⟩ : Shape).ShapeCasts ⟨3, ![4, 63488, 128]⟩)
    (h : ∀ c : Dev nD, m ((c.tc : Thread nD τ).loc main_arg0)
      = Layout.blockN ⟨2, ![63488, 128]⟩ ⟨2, ![253952, 128]⟩ (Layout.meshBlock [2, 2, 2] ![[0, 1], []] c) V) (c : Dev nD) :
    gathered m c = shapeCast _ V hs := by
  funext i
  have e : gathered m c i = V (Layout.TilesN.idx (S := ⟨2, ![63488, 128]⟩) (T := ⟨2, ![253952, 128]⟩)
      (kN := fun b => Layout.cutSize [2, 2, 2] ((![[0, 1], []] : Fin 2 → List Nat) b)) (by decide)
      (Layout.meshBlock [2, 2, 2] ![[0, 1], []] (holder c (i 0))) (ValueIdx.ix2 (i 1) (i 2))) := by
    unfold gathered; rw [h]; rfl
  rw [e]
  refine (shapeCast_apply _ _ _ _ ?_).symm
  refine (Shape.rowMajor_val_two _).trans (Eq.trans ?_ (Shape.rowMajor_val_three _).symm)
  have e0 := holder_block c (i 0)
  show (Layout.meshLin [2, 2, 2] (holder c (i 0)).val [0, 1] * 63488 + (i 1).val) * 128 + (0 * 128 + (i 2).val) = ((i 0).val * 63488 + (i 1).val) * 128 + (i 2).val
  rw [e0, Nat.zero_mul, Nat.zero_add]

end Cert.GatherIdeal

namespace Cert.Proof

open Idealize.ShloMosaic Idealize.ShloMosaic.TcCoe Idealize.SL.Sem

/-- The gathering program at bits runs, keeps its argument, and leaves every semaphore at zero. -/
theorem frame_gather : Cert.quiescent_Gather := fun m ρ _ =>
  (θ_run Cert.GatherIdeal.defs _ _).mono (fun _ h => ⟨fun c => (h.1 c).2, h.2⟩) (Cert.GatherIdeal.run_main (F := Bits) m ρ)

/-- The same at the ideal values. -/
theorem frame_gatherIdeal : Cert.quiescent_GatherIdeal := fun m ρ _ =>
  (θ_run Cert.GatherIdeal.defs _ _).mono (fun _ h => ⟨fun c => (h.1 c).2, h.2⟩) (Cert.GatherIdeal.run_main (F := Ideal) m ρ)

/-- The grouping of the whole weight's rows runs and keeps its argument. -/
theorem frame_gatherRefIdeal : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run (F := Ideal) m ρ)

/-- Every device ends with the whole weight, its rows in the chips' groups. -/
theorem algebraic_gather : Cert.algebraic_GatherIdeal_GatherRefIdeal := fun m ρ m' ρ' _ h =>
  ⟨_, (θ_run Cert.GatherIdeal.defs _ _).mono (fun _ hr c => ⟨(hr.1 c).1.trans (Cert.GatherIdeal.gathered_blocks m _ _ h c), (hr.1 c).2⟩)
      (Cert.GatherIdeal.run_main (F := Ideal) m ρ),
    (θ_run Cert.GatherRefIdeal.defs _ _).mono (fun _ hr => hr 0) (Cert.GatherRefIdeal.Value.run (F := Ideal) m' ρ')⟩

/-- The grouping of the whole weight's rows at bits is the same program. -/
theorem frame_gatherRef : Cert.quiescent_GatherRef := fun m ρ _ =>
  (θ_run Cert.GatherRefIdeal.defs _ _).mono (fun r h => ⟨fun c => (h c).2, sem_eq_zero_of_no_sems (by decide) r.2⟩)
    (Cert.GatherRefIdeal.Value.run (F := Bits) m ρ)

/-- The gathered weight is exact at bits too: the blocks are only moved. -/
theorem bitexact_gather : Cert.bitexact_Gather_GatherRef := fun m ρ m' ρ' _ h =>
  ⟨_, (θ_run Cert.GatherIdeal.defs _ _).mono (fun _ hr c => ⟨(hr.1 c).1.trans (Cert.GatherIdeal.gathered_blocks m _ _ h c), (hr.1 c).2⟩)
      (Cert.GatherIdeal.run_main (F := Bits) m ρ),
    (θ_run Cert.GatherRefIdeal.defs _ _).mono (fun _ hr => hr 0) (Cert.GatherRefIdeal.Value.run (F := Bits) m' ρ')⟩

end Cert.Proof
-- ==== Proof.Quiet.lean ====
/-
  The region of a kernel that talks to nobody, in a program another of whose kernels talks: the call takes the arrays its
  windows name at what they hold, and gives them back at what its write-backs leave.
-/
module

public import proofs.«01_k».proof.Proof.Exchange
public import Idealize.ShloMosaic.Lib.Pipeline.Kit
public import Idealize.ShloMosaic.Lib.Pipeline.RegionArrays

@[expose] public section

noncomputable section

namespace Cert.Talking

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg pin entry)

variable {nD : ℕ} {τ : Topo} {sig : RefSig} {Val : EltTy → Type}

local notation "𝕄" => MT nD τ sig Unit Val ℕ (UU nD τ sig) ℕ

variable {Λ₀ : Labels} {P : Type} [Fintype P] [DecidableEq P] [∀ e, Nonempty (Val e)]

/-- The call of a kernel that talks to nobody, its invariant the scoped buffers no window stages: it is entered from its
    arrays and left with them at the contents after the last point. -/
theorem wp_quiet (pcs : P → PCfg sig Λ₀ Val) (a : (p : P) → (pcs p).Adm)
    (pdats : (p : P) → (c : Dev nD) → Dat τ Val Unit ℕ (UU nD τ sig) ℕ (pin pcs a p) c) (p : P)
    (kit : Pipeline.PLaunchFacts (nD := nD) (τ := τ) pcs p) (hK : (pcs p).pre.K = 0) (defs₀ : Defs nD τ sig Val Λ₀) (𝒱₀ : Variants)
    (hbody : ∀ c, Pipeline.BodyObligationLoose (pdats p c) defs₀ 𝒱₀ () Set.univ)
    (howed : ∀ c t, (pdats p c).owed t = 0) (hrec : ∀ c, (pdats p c).recorded 0 = Set.univ)
    (hshare : ∀ c w, (pdats p c).share w = fullShare)
    (hΦ : ∀ c t, (pdats p c).Φ t = Pipeline.scopedRest (pin pcs a p).spec c) (c : Dev nD)
    {α : Type} {k : PUnit → Prog (TpuEff nD τ sig Val (Pipeline.Sig Λ₀ P fun p => (pcs p).Adm) Proc.tc) α} {Q : α → sProp 𝕄} :
    iprop((bigSep Finset.univ fun w => (((c.tc : Thread nD τ).loc (Pipeline.arrRef (pin pcs a p).spec w)) ↦{fullShare} (pdats p c).arrAt w 0 : sProp 𝕄))
        ∗ boundary (c.tc : Thread nD τ) ∗ (∃ W, owes (c.tc : Thread nD τ) (0 : CellTallies nD τ sig Unit) W)
        ∗ Pipeline.cellsGhost (pin pcs a) EP p c ∗ Pipeline.toksInit (pin pcs a) EP p c)
      ⊢ iprop((((bigSep Finset.univ fun w => (((c.tc : Thread nD τ).loc (Pipeline.arrRef (pin pcs a p).spec w)) ↦{fullShare} (pdats p c).arrAt w (pin pcs a p).N : sProp 𝕄))
              ∗ boundary (c.tc : Thread nD τ) ∗ ∃ W, owes (c.tc : Thread nD τ) (0 : CellTallies nD τ sig Unit) W)
            -∗ wp frame (wpE (Pipeline.defs pcs defs₀) (Variants.lift 𝒱₀) (c.tc : Thread nD τ) none) Set.univ (k ⟨⟩) Q)
          -∗ wp frame (wpE (Pipeline.defs pcs defs₀) (Variants.lift 𝒱₀) (c.tc : Thread nD τ) none) Set.univ (.op (.customCall (entry p) ()) k) Q) := by
  let L : GSem nD τ sig → Finset Unit := fun _ => ∅
  let lv : GSem nD τ sig → Unit → ℕ := fun _ _ => 0
  let R : Pipeline.RegionSeg pcs a pdats () defs₀ 𝒱₀ L lv p :=
    { win := kit.win.to₀
      block_pos := kit.block_pos
      stage_whole := kit.stage_whole
      K := PEmpty
      osem := fun k => k.elim
      ho := Pipeline.OwnSemFacts.none _
      hbody := hbody
      hwaits := Pipeline.hwaits_of_owed_zero _ _ _ _ L lv p howed
      pre := fun c => iprop((pdats p c).arrays ((pdats p c).arrAt · 0) ∗ ∃ W, owes (c.tc : Thread nD τ) (0 : CellTallies nD τ sig Unit) W)
      post := fun c => iprop((pdats p c).arrays ((pdats p c).arrAt · (pin pcs a p).N) ∗ ∃ W, owes (c.tc : Thread nD τ) (0 : CellTallies nD τ sig Unit) W)
      X := fun _ => iprop(emp)
      Y := fun _ => iprop(emp)
      Z := fun _ => iprop(emp)
      hentry := fun c => by
        rw [Pipeline.ownSems0_none, Pipeline.prefHeld_of_none _ hK]
        unfold Dat.owesAt Pipeline.owesWithin Dat.bound
        rw [howed c 0, hrec c]
        iintro ⟨⟨Ha, %W, HO⟩, -, -⟩
        imodintro
        isplitl [Ha]; · iexact Ha
        isplitr; · iempintro
        isplitl [HO]
        · iexists W
          isplitr; · ipureintro; exact fun _ _ => Or.inl trivial
          iexact HO
        isplitr <;> iempintro
      hin := fun c => by
        rw [hΦ]
        iintro ⟨-, -, H⟩
        iexact H
      hout := fun c => by
        rw [hΦ, Pipeline.ownSems0_none]
        iintro H
        isplitr; · iempintro
        isplitr; · iempintro
        iexact H
      hexit := fun c => by
        unfold Dat.owesAt Pipeline.owesWithin
        rw [howed c (Fin.last _)]
        iintro ⟨Ha, ⟨%W, -, HO⟩, -, -⟩
        imodintro
        isplitl [Ha]; · iexact Ha
        iexists W
        iexact HO }
  have harr : ∀ G, ((pdats p c).arrays G : sProp 𝕄)
      = bigSep Finset.univ fun w => (((c.tc : Thread nD τ).loc (Pipeline.arrRef (pin pcs a p).spec w)) ↦{fullShare} G w : sProp 𝕄) :=
    fun G => Pipeline.arrays_eq (pin pcs a) pdats p c kit.arr_whole (hshare c) G
  have hrun := Pipeline.RegionSeg.wp pcs a pdats () (kit.cellOf_inj a) EP defs₀ 𝒱₀ L lv R c none (fun u h => nomatch h) k Q
  have hpre : R.pre c = iprop((pdats p c).arrays ((pdats p c).arrAt · 0) ∗ ∃ W, owes (c.tc : Thread nD τ) (0 : CellTallies nD τ sig Unit) W) := rfl
  have hpost : R.post c = iprop((pdats p c).arrays ((pdats p c).arrAt · (pin pcs a p).N) ∗ ∃ W, owes (c.tc : Thread nD τ) (0 : CellTallies nD τ sig Unit) W) := rfl
  rw [hpre, hpost, harr, harr] at hrun
  iintro ⟨Ha, Hb, HO, Hg, Ht⟩ Hk
  iapply hrun
  isplitl [Hk]
  · iintro ⟨Hb, Ha, HO⟩
    iapply Hk
    isplitl [Ha]; · iexact Ha
    isplitl [Hb] <;> iassumption
  isplitl [Hb]; · iexact Hb
  isplitl [Ha HO]; · isplitl [Ha] <;> iassumption
  isplitr
  · have hlev : (iprop(emp) : sProp 𝕄) ⊢ levAts L lv := by
      unfold levAts
      refine Entails.of_eq (Eq.symm ((bigSep_congr fun g _ => ?_).trans (bigSep_emp_const _)))
      exact bigSep_empty
    iapply hlev
    iempintro
  isplitl [Hg] <;> iassumption

end Cert.Talking
-- ==== Proof.Sum.lean ====
/-
  The second call of the scattering program: the four parts a device has received are added up, 1024 rows at a grid point.
  What a grid point leaves, and so what the call leaves, is stated over any float values.
-/
module

public import proofs.«01_k».proof.Defs
public import proofs.«01_k».proof.Proof.Quiet
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import Idealize.ShloMosaic.Lib.Pipeline.FrameBody
public import Idealize.ShloMosaic.Lib.Pipeline.Value
public import Idealize.ShloMosaic.Lib.Tactic
public import Idealize.ShloMosaic.Lib.Ring
public import Idealize.ShloMosaic.Lib.WordCmp

@[expose] public section

noncomputable section

namespace Cert.ScatterIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Talking

variable {F : FTy → Type} [FloatOps F]

local notation "𝕄" => MT nD τ sig Unit (Elt F) ℕ (UU nD τ sig) ℕ

/-! ## A grid point -/

/-- The sum of four vectors, left to right. -/
abbrev plus4 (a b c d : F .bf16) : F .f32 :=
  FloatOps.addf (FloatOps.addf (FloatOps.addf (FloatOps.extf .f32 Facts₀.bitsLt_bf16_f32 a) (FloatOps.extf .f32 Facts₀.bitsLt_bf16_f32 b))
    (FloatOps.extf .f32 Facts₀.bitsLt_bf16_f32 c)) (FloatOps.extf .f32 Facts₀.bitsLt_bf16_f32 d)

/-- Slot `j` of a block of four. -/
abbrev row0 : Rect S4x1024x128 := Rect.unit (s := S4x1024x128) ![0, 0, 0] S1x1024x128.size Facts₀.inb_S4x1024x128_S1x1024x128_0_0_0
abbrev row1 : Rect S4x1024x128 := Rect.unit (s := S4x1024x128) ![1, 0, 0] S1x1024x128.size Facts₀.inb_S4x1024x128_S1x1024x128_1_0_0
abbrev row2 : Rect S4x1024x128 := Rect.unit (s := S4x1024x128) ![2, 0, 0] S1x1024x128.size Facts₀.inb_S4x1024x128_S1x1024x128_2_0_0
abbrev row3 : Rect S4x1024x128 := Rect.unit (s := S4x1024x128) ![3, 0, 0] S1x1024x128.size Facts₀.inb_S4x1024x128_S1x1024x128_3_0_0
abbrev full : Rect S1024x128 := Rect.unit (s := S1024x128) ![0, 0] S1024x128.size Facts₀.inb_S1024x128_S1024x128_0_0

/-- What a grid point stores, from the block it reads. -/
def stored (x : Vec F S4x1024x128 .bf16) : Vec F S1024x128 .f32 :=
  View.canon [⟨full, Gen.k1_pay1 (View.ld x row0) (View.ld x row1) (View.ld x row2) (View.ld x row3)⟩]

theorem full_cover (p : Vec F S1024x128 .f32) (y : S1024x128.Idx) :
    ∃ pc ∈ ([⟨full, p⟩] : List (View.Piece (Elt F) S1024x128 .f32)), y ∈ pc.1.set :=
  View.cover_of_tiled [⟨full, p⟩] S1024x128.size (by rfl) y

/-- A row of the block of four, at the element it holds there. -/
theorem row_apply (x : Vec F S4x1024x128 .bf16) (j : ℕ) (hj : j < 4) (h : ∀ a, (![j, 0, 0] : Fin 3 → ℕ) a + S1x1024x128.size a ≤ S4x1024x128.size a)
    (y : S1024x128.Idx) :
    shapeCast S1024x128 (View.ld x (Rect.unit (s := S4x1024x128) ![j, 0, 0] S1x1024x128.size h)) Facts₀.shapeCasts_S1x1024x128_S1024x128 y
      = x (ValueIdx.ix3 (⟨j, hj⟩ : Fin 4) (y 0) (y 1)) := by
  refine (shapeCast_apply _ _ y (ValueIdx.ix3 (⟨0, by decide⟩ : Fin 1) (y 0) (y 1)) ?_).trans ?_
  · refine (Shape.rowMajor_val_three _).trans (Eq.trans ?_ (Shape.rowMajor_val_two _).symm)
    show (0 * 1024 + (y 0).val) * 128 + (y 1).val = (y 0).val * 128 + (y 1).val
    omega
  · refine congrArg x (funext fun a => Fin.ext ?_)
    match a with
    | ⟨0, _⟩ => show j + 1 * 0 = j; omega
    | ⟨1, _⟩ => show 0 + 1 * (y 0).val = (y 0).val; omega
    | ⟨2, _⟩ => show 0 + 1 * (y 1).val = (y 1).val; omega

/-- What a grid point stores is the sum of the block's four slots. -/
theorem stored_apply (x : Vec F S4x1024x128 .bf16) (y : S1024x128.Idx) :
    stored x y = plus4 (x (ValueIdx.ix3 (0 : Fin 4) (y 0) (y 1))) (x (ValueIdx.ix3 (1 : Fin 4) (y 0) (y 1)))
      (x (ValueIdx.ix3 (2 : Fin 4) (y 0) (y 1))) (x (ValueIdx.ix3 (3 : Fin 4) (y 0) (y 1))) := by
  have hz : (![0, 0] : Fin 2 → ℕ) = fun _ => 0 := funext fun a => by fin_cases a <;> rfl
  unfold stored
  rw [View.canon_unit_zero hz]
  have e0 := row_apply x 0 (by decide) Facts₀.inb_S4x1024x128_S1x1024x128_0_0_0 y
  have e1 := row_apply x 1 (by decide) Facts₀.inb_S4x1024x128_S1x1024x128_1_0_0 y
  have e2 := row_apply x 2 (by decide) Facts₀.inb_S4x1024x128_S1x1024x128_2_0_0 y
  have e3 := row_apply x 3 (by decide) Facts₀.inb_S4x1024x128_S1x1024x128_3_0_0 y
  show plus4 (shapeCast S1024x128 (View.ld x row0) Facts₀.shapeCasts_S1x1024x128_S1024x128 y) (shapeCast S1024x128 (View.ld x row1) Facts₀.shapeCasts_S1x1024x128_S1024x128 y)
    (shapeCast S1024x128 (View.ld x row2) Facts₀.shapeCasts_S1x1024x128_S1024x128 y) (shapeCast S1024x128 (View.ld x row3) Facts₀.shapeCasts_S1x1024x128_S1024x128 y) = _
  rw [e0, e1, e2, e3]
  rfl

set_option maxHeartbeats 1000000 in
/-- The body at a grid point leaves the block it reads, and stores its four slots' sum. -/
theorem point (c : Dev nD) (i : grid1.Coords) (arg1 : Memref sig .tc .vmem S4x1024x128 .bf16) (harg1 : arg1.IsWhole)
    (arg2 : Memref sig .tc .vmem S1024x128 .f32) (harg2 : arg2.IsWhole) (x : Vec F S4x1024x128 .bf16) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) Set.univ (cc1_sum4 i arg1 harg1 arg2 harg2) K := by
  simp only [Gen.cc1_sum4_eq_skeleton]
  unfold Gen.cc1_sum4_skel owns
  iintro ⟨⟨%f, %hf, Hin⟩, ⟨%d, %g, -, Hout⟩, Hk⟩
  subst hf
  sl_exec
  sl_step
  iapply Hk
  isplitl [Hin]
  · iexists f
    isplitr; · ipureintro; rfl
    iexact Hin
  iexists _
  isplitr
  swap; · iexact Hout
  ipureintro
  exact View.read_writes_eq_canon _ _ _ (full_cover _)

/-! ## The grid -/

variable (X : (c : Dev nD) → Buf (Elt F) ((c.tc : Thread nD τ).loc main_v1)) (Y : (c : Dev nD) → Buf (Elt F) ((c.tc : Thread nD τ).loc main_v2))

/-- The block a grid point reads. -/
def part (c : Dev nD) (t : Fin cfg1.N) : Vec F S4x1024x128 .bf16 := ((cfg1.win 0).blk t).view.read (Elt F) (X c)

/-- The call's proof data, entered with the received parts at `X` and the sums' array at `Y`. -/
def sumDat (c : Dev nD) : Dat τ (Elt F) Unit ℕ (UU nD τ sig) ℕ cfg1 c where
  A w := match w with
    | ⟨0, _⟩ => X c
    | ⟨1, _⟩ => Y c
  after w t := match w with
    | ⟨0, _⟩ => part X c t
    | ⟨1, _⟩ => stored (part X c t)
  Φ _ := Pipeline.scopedRest spec1 c
  q _ := fullShare
  owed _ := 0

theorem sum_in (c : Dev nD) : (sumDat X Y c).A 0 = X c := by dsimp only [sumDat]
theorem sum_out (c : Dev nD) : (sumDat X Y c).A 1 = Y c := by dsimp only [sumDat]
theorem after_in (c : Dev nD) (t : Fin cfg1.N) : (sumDat X Y c).after 0 t = part X c t := by dsimp only [sumDat]
theorem after_out (c : Dev nD) (t : Fin cfg1.N) : (sumDat X Y c).after 1 t = stored (part X c t) := by dsimp only [sumDat]

/-- A grid point finds the block it reads in its staging buffer. -/
theorem before_in (c : Dev nD) (t : Fin cfg1.N) (d) : (sumDat X Y c).before 0 t d = part X c t :=
  ((sumDat X Y c).before_in_eq_fetched 0 rfl (fun _ => rfl) (fun _ _ _ => rfl)
    (fun t => by rw [after_in]; unfold Dat.blockOf part; rw [sum_in]; try rfl) t d).trans
    (by unfold Dat.fetched Dat.blockOf part; rw [sum_in]; try rfl)

theorem row_eq (t : Fin cfg1.N) : defs₀ (F := F) .tc cfg1.body (cfg1.bodyArgs t (cfg1.slots t)) = Gen.bodyAt1 t := by
  unfold defs₀; rw [Defs.onTc_tc]

/-- Every grid point's body meets the call's data. -/
theorem points (c : Dev nD) : BodyObligation (sumDat X Y c) (defs₀ (F := F)) Variants.none () Set.univ := fun t => by
  rw [Gen.bigSep_W1, Gen.bigSep_W1, row_eq]
  have h : iprop((sumDat X Y c).Φ t.castSucc ∗ (sumDat X Y c).owesAt () t.castSucc
        ∗ (∃ d, owns (c : Thread nD τ) (Gen.st1_0 t) fullShare ((sumDat X Y c).before 0 t d))
        ∗ (∃ d, owns (c : Thread nD τ) (Gen.st1_1 t) fullShare ((sumDat X Y c).before 1 t d)))
      ⊢ wp frame (wpE (defs₀ (F := F)) Variants.none c none) Set.univ (Gen.bodyAt1 t) (fun _ =>
        iprop((sumDat X Y c).Φ t.succ ∗ (sumDat X Y c).owesAt () t.succ
          ∗ owns (c : Thread nD τ) (Gen.st1_0 t) fullShare ((sumDat X Y c).after 0 t)
          ∗ owns (c : Thread nD τ) (Gen.st1_1 t) fullShare ((sumDat X Y c).after 1 t))) := by
    unfold Gen.bodyAt1
    simp only [before_in]
    rw [show (sumDat X Y c).Φ t.succ = (sumDat X Y c).Φ t.castSucc from rfl,
      show (sumDat X Y c).owesAt () t.succ = (sumDat X Y c).owesAt () t.castSucc from rfl, after_in, after_out]
    iintro ⟨HΦ, HO, ⟨%d, Hin⟩, ⟨%d', Hout⟩⟩
    iapply (point c (grid1.coords t) _ _ _ _ (part X c t) _)
    isplitl [Hin]; · iexact Hin
    isplitl [Hout]; · iexists _; iexact Hout
    iintro ⟨Hin, Hout⟩
    isplitl [HΦ]; · iexact HΦ
    isplitl [HO]; · iexact HO
    isplitl [Hin] <;> iassumption
  exact triple_restated h rfl .rfl fun _ => .rfl

/-! ## What the call leaves -/

/-- The sums of a device's four slots. -/
def sums (c : Dev nD) : Buf (Elt F) ((c.tc : Thread nD τ).loc main_v2) := fun i =>
  plus4 (X c (ValueIdx.ix3 (0 : Fin 4) (i 0) (i 1))) (X c (ValueIdx.ix3 (1 : Fin 4) (i 0) (i 1)))
    (X c (ValueIdx.ix3 (2 : Fin 4) (i 0) (i 1))) (X c (ValueIdx.ix3 (3 : Fin 4) (i 0) (i 1)))

/-- At a grid point the block read and the block written begin at the same row. -/
theorem same_rows : ∀ t : Fin cfg1.N, win1_0.index t (0 : Fin 3) = 0 ∧ win1_0.index t (1 : Fin 3) = win1_1.index t (0 : Fin 2)
    ∧ win1_0.index t (2 : Fin 3) = 0 ∧ win1_1.index t (1 : Fin 2) = 0 :=
  (by decide +kernel : ∀ t : Fin grid1.N, win1_0.index t (0 : Fin 3) = 0 ∧ win1_0.index t (1 : Fin 3) = win1_1.index t (0 : Fin 2)
    ∧ win1_0.index t (2 : Fin 3) = 0 ∧ win1_1.index t (1 : Fin 2) = 0)

/-- Every block of rows is some grid point's. -/
theorem all_rows : ∀ q : Fin 62, ∃ t : Fin cfg1.N, win1_1.index t = ![q.val, 0] :=
  (by decide +kernel : ∀ q : Fin 62, ∃ t : Fin grid1.N, win1_1.index t = ![q.val, 0])

/-- A grid point writes back its block of the sums. -/
theorem flushed (c : Dev nD) (t : Fin cfg1.N) :
    (sumDat X Y c).flushed 1 t = ((cfg1.win 1).blk t).view.read (Elt F) (sums X c) := by
  show (cfg1.win 1).cut (grid1.coords t) ((sumDat X Y c).after 1 t) = _
  rw [after_out]
  obtain ⟨h0, h1, h2, h3⟩ := same_rows t
  have hat : ∀ (k : Fin 4) (j : S1024x128.Idx), part X c t (ValueIdx.ix3 k (j 0) (j 1))
      = X c (ValueIdx.ix3 k ((((cfg1.win 1).blk t).view.emb j) 0) ((((cfg1.win 1).blk t).view.emb j) 1)) := fun k j => by
    show X c (((cfg1.win 0).blk t).view.emb (ValueIdx.ix3 k (j 0) (j 1))) = _
    refine congrArg (X c) (funext fun a => Fin.ext ?_)
    match a with
    | ⟨0, _⟩ => show win1_0.index t (0 : Fin 3) * 4 + 1 * k.val = k.val; omega
    | ⟨1, _⟩ => show win1_0.index t (1 : Fin 3) * 1024 + 1 * (j 0).val = win1_1.index t (0 : Fin 2) * 1024 + 1 * (j 0).val; omega
    | ⟨2, _⟩ => show win1_0.index t (2 : Fin 3) * 128 + 1 * (j 1).val = win1_1.index t (1 : Fin 2) * 128 + 1 * (j 1).val; omega
  funext j
  show stored (part X c t) j = sums X c (((cfg1.win 1).blk t).view.emb j)
  rw [stored_apply, hat 0 j, hat 1 j, hat 2 j, hat 3 j]
  rfl

/-- After the call the sums' array holds the sums. -/
theorem left_out (c : Dev nD) : (sumDat X Y c).arrAt 1 cfg1.N = sums X c :=
  (sumDat X Y c).arrAt_eq_of_cover 1 _ (fun t _ => flushed X Y c t) fun i => by
    have h0 : (i 0).val < 63488 := (i 0).isLt
    have h1 : (i 1).val < 128 := (i 1).isLt
    obtain ⟨t, ht⟩ := all_rows ⟨(i 0).val / 1024, by omega⟩
    have q0 : win1_1.index t (0 : Fin 2) = (i 0).val / 1024 := congrFun ht 0
    have q1 : win1_1.index t (1 : Fin 2) = 0 := congrFun ht 1
    refine ⟨t, Gen.flush1_1 t, ?_⟩
    show i ∈ ((View.whole main_v2).slice (win1_1.rect t)).set
    rw [View.set_slice_whole, Rect.mem_set_unit]
    intro a
    match a with
    | ⟨0, _⟩ => show win1_1.index t (0 : Fin 2) * 1024 ≤ (i 0).val ∧ (i 0).val < win1_1.index t (0 : Fin 2) * 1024 + 1024; omega
    | ⟨1, _⟩ => show win1_1.index t (1 : Fin 2) * 128 ≤ (i 1).val ∧ (i 1).val < win1_1.index t (1 : Fin 2) * 128 + 128; omega

/-- And the received parts are as they were. -/
theorem left_in (c : Dev nD) (n : ℕ) : (sumDat X Y c).arrAt 0 n = X c :=
  ((sumDat X Y c).arrAt_in 0 rfl _).trans (sum_in X Y c)

end Cert.ScatterIdeal
-- ==== Proof.Scatter.lean ====
/-
  The scattering of gradients over the chips: every device keeps the part of its own chip and sends the three others to
  the devices of the same core on those chips, then adds up the four parts it holds. The run is over any float values;
  the claims read it at bits and at the ideal values.
-/
module

public import proofs.«01_k».proof.Defs
public import proofs.«01_k».proof.Proof.Gather
public import proofs.«01_k».proof.Proof.Sum
public import proofs.«01_k».proof.Proof.Gen.Scatter
public import proofs.«01_k».proof.Proof.Gen.ScatterRefIdeal.Run
public import Idealize.ShloMosaic.Lib.Pointwise.Reduce

@[expose] public section

noncomputable section

namespace Cert.ScatterIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat launchCred entry)
open Cert.Talking

variable {F : FTy → Type} [FloatOps F]

local notation "𝕄" => MT nD τ sig Unit (Elt F) ℕ (UU nD τ sig) ℕ

/-! ## Who talks to whom -/

/-- The chip of a device: the part it keeps, and the slot its parts go to. -/
def chip (c : Dev nD) : ℕ := 2 * (c.val / 4) + (c.val / 2) % 2

/-- The device a part is sent to, for each of the three transfers. -/
abbrev p0 (c : Dev nD) : Dev nD := ⟨k0_dev1 c, Facts₀.k0_dev1_lt c⟩
abbrev p1 (c : Dev nD) : Dev nD := ⟨k0_dev2 c, Facts₀.k0_dev2_lt c⟩
abbrev p2 (c : Dev nD) : Dev nD := ⟨k0_dev3 c, Facts₀.k0_dev3_lt c⟩

theorem p0_p0 : ∀ c, p0 (p0 c) = c := by decide +kernel
theorem p1_p1 : ∀ c, p1 (p1 c) = c := by decide +kernel
theorem p2_p2 : ∀ c, p2 (p2 c) = c := by decide +kernel

/-- The part of `main_arg0` a device reads for each of its transfers is the receiving chip's. -/
theorem off_p0 : ∀ c : Dev nD, k0_off2 c = ![chip (p0 c), 0, 0] := by decide +kernel
theorem off_p1 : ∀ c : Dev nD, k0_off3 c = ![chip (p1 c), 0, 0] := by decide +kernel
theorem off_p2 : ∀ c : Dev nD, k0_off4 c = ![chip (p2 c), 0, 0] := by decide +kernel

/-- The four chips are the device's own and its three peers'. -/
theorem chips : ∀ c : Dev nD, ∀ k < 4, k = chip c ∨ k = chip (p0 c) ∨ k = chip (p1 c) ∨ k = chip (p2 c) := by decide +kernel
theorem chip_ne : ∀ c : Dev nD, chip c ≠ chip (p0 c) ∧ chip c ≠ chip (p1 c) ∧ chip c ≠ chip (p2 c) ∧ chip (p0 c) ≠ chip (p1 c)
    ∧ chip (p0 c) ≠ chip (p2 c) ∧ chip (p1 c) ≠ chip (p2 c) := by decide +kernel
theorem chip_lt : ∀ c : Dev nD, chip c < 4 := by decide +kernel

/-- The device of core `d mod 2` on chip `j`. -/
def holder (d : Dev nD) (j : Fin 4) : Dev nD := ⟨2 * j.val + d.val % 2, by have := j.isLt; show _ < 8; omega⟩

theorem holder_self : ∀ c : Dev nD, holder c ⟨chip c, chip_lt c⟩ = c := by decide +kernel
theorem holder_p0 : ∀ c : Dev nD, holder (p0 c) ⟨chip c, chip_lt c⟩ = c := by decide +kernel
theorem holder_p1 : ∀ c : Dev nD, holder (p1 c) ⟨chip c, chip_lt c⟩ = c := by decide +kernel
theorem holder_p2 : ∀ c : Dev nD, holder (p2 c) ⟨chip c, chip_lt c⟩ = c := by decide +kernel

/-! ## The protocol -/

/-- A slot of `main_arg0`: the part a device has for one chip. -/
abbrev away0 (off : Fin 3 → ℕ) (h : ∀ a, off a + S1x63488x128.size a ≤ S4x63488x128.size a) : Memref sig .tc .hbm S63488x128 .bf16 :=
  ((Memref.whole main_arg0).slice (Rect.unit (s := S4x63488x128) off S1x63488x128.size h) (fun _ => rfl)).squeeze
    S63488x128 Facts₀.squeezes_S1x63488x128_S63488x128

/-- The slot of `main_v1` a device's part goes to, on every device. -/
abbrev slot (c : Dev nD) : Memref sig .tc .hbm S63488x128 .bf16 :=
  ((Memref.whole main_v1).slice (Rect.unit (s := S4x63488x128) (k0_off1 c) S1x63488x128.size (Facts₀.k0_off1_inb c)) (fun _ => rfl)).squeeze
    S63488x128 Facts₀.squeezes_S1x63488x128_S63488x128

/-- The seven completions of a device: its three sends, its three receipts, its own copy. -/
def talk : Talk sig where
  n := 7
  sem := fun i => .dma (i.castLE (by decide))
  inj := fun _ _ h => Fin.castLE_injective _ (SemLoc.dma.inj h)
  N := (away0 (k0_off1 0) (Facts₀.k0_off1_inb 0)).view.dmaCredit
  pos := View.dmaCredit_pos _ (by decide)

theorem talk_scoped : ∀ i, (talk.sem i).isScoped .tc = true := by decide

theorem all_scoped : ∀ s : SemLoc sig, s.isScoped .tc = true := by decide

/-- Whose completion each one is: a receipt is the work of the peer. -/
def peer : Fin talk.n → Dev nD → Dev nD
  | ⟨3, _⟩ => p0
  | ⟨4, _⟩ => p1
  | ⟨5, _⟩ => p2
  | _ => id

theorem peer_peer : ∀ j c, peer j (peer j c) = c := by decide +kernel

/-- What every device owes its peers at launch. -/
abbrev O₀ : Dev nD → CellTallies nD τ sig Unit := talk.due τ peer [⟨3, by decide⟩, ⟨4, by decide⟩, ⟨5, by decide⟩]

/-! ## The values -/

variable (m : (ℓ : Loc nD τ sig) → Buf (Elt F) ℓ)

/-- The parts a device receives: slot `j` is what the device of its core on chip `j` has for this device's chip. -/
def received (c : Dev nD) : Buf (Elt F) ((c.tc : Thread nD τ).loc main_v1) := fun i =>
  m (((holder c (i 0)).tc : Thread nD τ).loc main_arg0) (ValueIdx.ix3 (⟨chip c, chip_lt c⟩ : Fin 4) (i 1) (i 2))

theorem slot_set (c : Dev nD) : (slot c).view.set = slotSet 4 63488 128 (chip c) := by
  refine (Memref.set_view_squeeze _ _).trans ?_
  refine (View.set_slice_whole main_v1 _).trans ?_
  exact slot_rect (Gen.k0_off1_eq c) _

theorem away0_set {off : Fin 3 → ℕ} (h : ∀ a, off a + S1x63488x128.size a ≤ S4x63488x128.size a) {j : ℕ} (e : off = ![j, 0, 0]) :
    (away0 off h).view.set = slotSet 4 63488 128 j := by
  refine (Memref.set_view_squeeze _ _).trans ?_
  refine (View.set_slice_whole main_arg0 _).trans ?_
  exact slot_rect e _

/-- The part for chip `d`'s device, written to the sender's slot there, is what the received array has in that slot. -/
theorem slot_write (c d : Dev nD) (hd : holder d ⟨chip c, chip_lt c⟩ = c) {off : Fin 3 → ℕ}
    (h : ∀ a, off a + S1x63488x128.size a ≤ S4x63488x128.size a) (e : off = ![chip d, 0, 0]) (g : Buf (Elt F) ((d.tc : Thread nD τ).loc main_v1)) :
    ((((d.tc : Thread nD τ).loc main_v1) ↦[(slot c).view.set]{fullShare}
        ((slot c).view.write (Elt F) g ((away0 off h).view.read (Elt F) (m ((c.tc : Thread nD τ).loc main_arg0))) Finset.univ)) : sProp 𝕄)
      = (((d.tc : Thread nD τ).loc main_v1) ↦[slotSet 4 63488 128 (chip c)]{fullShare} received m d) := by
  have hread : ∀ x, (away0 off h).view.read (Elt F) (m ((c.tc : Thread nD τ).loc main_arg0)) x
      = (slot c).view.read (Elt F) (received m d) x := fun x => by
    rw [View.read_apply, View.read_apply]
    have he : (slot c).view.emb x = ValueIdx.ix3 (⟨chip c, chip_lt c⟩ : Fin 4) (x 0) (x 1) :=
      slot_emb (Gen.k0_off1_eq c) (chip_lt c) (Facts₀.k0_off1_inb c) _ x
    have ha : (away0 off h).view.emb x = ValueIdx.ix3 (⟨chip d, chip_lt d⟩ : Fin 4) (x 0) (x 1) :=
      slot_emb e (chip_lt d) h _ x
    rw [he, ha]
    show m ((c.tc : Thread nD τ).loc main_arg0) (ValueIdx.ix3 (⟨chip d, chip_lt d⟩ : Fin 4) (x 0) (x 1))
      = m (((holder d ⟨chip c, chip_lt c⟩).tc : Thread nD τ).loc main_arg0) (ValueIdx.ix3 (⟨chip d, chip_lt d⟩ : Fin 4) (x 0) (x 1))
    rw [hd]
  rw [pointsTo_congr (write_eq (slot c).view (away0 off h).view g (received m d) _ hread), slot_set]

/-- A buffer of four slots, by the chips they are of. -/
theorem slots_eq (c : Dev nD) (f : Buf (Elt F) ((c.tc : Thread nD τ).loc main_v1)) :
    (((c.tc : Thread nD τ).loc main_v1 ↦{fullShare} f) : sProp 𝕄)
      ⊣⊢ iprop((((c.tc : Thread nD τ).loc main_v1) ↦[slotSet 4 63488 128 (chip c)]{fullShare} f)
        ∗ (((c.tc : Thread nD τ).loc main_v1) ↦[slotSet 4 63488 128 (chip (p0 c))]{fullShare} f)
        ∗ (((c.tc : Thread nD τ).loc main_v1) ↦[slotSet 4 63488 128 (chip (p1 c))]{fullShare} f)
        ∗ (((c.tc : Thread nD τ).loc main_v1) ↦[slotSet 4 63488 128 (chip (p2 c))]{fullShare} f)) :=
  four_parts f (slots_four 63488 128 (chips c)) (slots_disjoint _ _ _ (chip_ne c).1) (slots_disjoint _ _ _ (chip_ne c).2.1)
    (slots_disjoint _ _ _ (chip_ne c).2.2.1) (slots_disjoint _ _ _ (chip_ne c).2.2.2.1) (slots_disjoint _ _ _ (chip_ne c).2.2.2.2.1)
    (slots_disjoint _ _ _ (chip_ne c).2.2.2.2.2)

theorem parts_eq (c : Dev nD) (f : Buf (Elt F) ((c.tc : Thread nD τ).loc main_arg0)) :
    (((c.tc : Thread nD τ).loc main_arg0 ↦{fullShare} f) : sProp 𝕄)
      ⊣⊢ iprop((((c.tc : Thread nD τ).loc main_arg0) ↦[slotSet 4 63488 128 (chip c)]{fullShare} f)
        ∗ (((c.tc : Thread nD τ).loc main_arg0) ↦[slotSet 4 63488 128 (chip (p0 c))]{fullShare} f)
        ∗ (((c.tc : Thread nD τ).loc main_arg0) ↦[slotSet 4 63488 128 (chip (p1 c))]{fullShare} f)
        ∗ (((c.tc : Thread nD τ).loc main_arg0) ↦[slotSet 4 63488 128 (chip (p2 c))]{fullShare} f)) :=
  four_parts f (slots_four 63488 128 (chips c)) (slots_disjoint _ _ _ (chip_ne c).1) (slots_disjoint _ _ _ (chip_ne c).2.1)
    (slots_disjoint _ _ _ (chip_ne c).2.2.1) (slots_disjoint _ _ _ (chip_ne c).2.2.2.1) (slots_disjoint _ _ _ (chip_ne c).2.2.2.2.1)
    (slots_disjoint _ _ _ (chip_ne c).2.2.2.2.2)

/-! ## What a completion hands over -/

/-- The part a device has for the chip of `d`. -/
abbrev share (c d : Dev nD) : sProp 𝕄 :=
  (((c.tc : Thread nD τ).loc main_arg0) ↦[slotSet 4 63488 128 (chip d)]{fullShare} m ((c.tc : Thread nD τ).loc main_arg0))

/-- The slot of a device's chip, received by a device of the same core. -/
abbrev got (c d : Dev nD) : sProp 𝕄 := (((d.tc : Thread nD τ).loc main_v1) ↦[slotSet 4 63488 128 (chip c)]{fullShare} received m d)

/-- What each completion hands its device: a send, the part back; a receipt, the peer's slot; the copy, both. -/
def pay (c : Dev nD) (i : Fin talk.n) : sProp 𝕄 :=
  match (show Fin 7 from i) with
  | ⟨0, _⟩ => share m c (p0 c)
  | ⟨1, _⟩ => share m c (p1 c)
  | ⟨2, _⟩ => share m c (p2 c)
  | ⟨3, _⟩ => got m (p0 c) c
  | ⟨4, _⟩ => got m (p1 c) c
  | ⟨5, _⟩ => got m (p2 c) c
  | ⟨_ + 6, _⟩ => iprop(got m c c ∗ share m c c)

instance pay_storable (c : Dev nD) (i : Fin talk.n) : Storable (upEmb : UEmb _ 𝕄) (pay m c i) := by
  unfold pay; split <;> infer_instance

theorem share_eq (c d : Dev nD) {off : Fin 3 → ℕ} (h : ∀ a, off a + S1x63488x128.size a ≤ S4x63488x128.size a) (e : off = ![chip d, 0, 0]) :
    ((((c.tc : Thread nD τ).loc main_arg0) ↦[(away0 off h).view.set]{fullShare} m ((c.tc : Thread nD τ).loc main_arg0)) : sProp 𝕄) = share m c d := by
  rw [away0_set h e]

/-- The copy done: the device's own slot at its own part. -/
theorem kept (c : Dev nD) : iprop((((c.tc : Thread nD τ).loc main_v1) ↦[(slot c).view.set]{fullShare}
        ((slot c).view.write (Elt F) (m ((c.tc : Thread nD τ).loc main_v1))
          ((away0 (k0_off1 c) (Facts₀.k0_off1_inb c)).view.read (Elt F) (m ((c.tc : Thread nD τ).loc main_arg0))) Finset.univ))
      ∗ (((c.tc : Thread nD τ).loc main_arg0) ↦[(away0 (k0_off1 c) (Facts₀.k0_off1_inb c)).view.set]{fullShare} m ((c.tc : Thread nD τ).loc main_arg0)))
      ⊢ pay m c (6 : Fin 7) := by
  rw [slot_write m c c (holder_self c) _ (Gen.k0_off1_eq c), share_eq m c c _ (Gen.k0_off1_eq c)]
  exact Entails.rfl

/-- A send done: the receiver's slot at the sender's part for it. -/
theorem sent (c d : Dev nD) (hd : holder d ⟨chip c, chip_lt c⟩ = c) {off : Fin 3 → ℕ}
    (h : ∀ a, off a + S1x63488x128.size a ≤ S4x63488x128.size a) (e : off = ![chip d, 0, 0]) (i : Fin 7) (hi : got m c d = pay m d i) :
    ((((d.tc : Thread nD τ).loc main_v1) ↦[(slot c).view.set]{fullShare}
        ((slot c).view.write (Elt F) (m ((d.tc : Thread nD τ).loc main_v1)) ((away0 off h).view.read (Elt F) (m ((c.tc : Thread nD τ).loc main_arg0))) Finset.univ)) : sProp 𝕄)
      ⊢ pay m d i := by
  rw [slot_write m c d hd h e, ← hi]

/-! ## The call -/

/-- What a device hands a peer before the call: the token of a receipt and the slot it fills. -/
def away (c : Dev nD) (i : Fin 7) (d : Dev nD) : sProp 𝕄 :=
  iprop(talk.tok (τ := τ) c i ∗ ((c.tc : Thread nD τ).loc main_v1) ↦[slotSet 4 63488 128 (chip d)]{fullShare} m ((c.tc : Thread nD τ).loc main_v1))

/-- What a device keeps for the call: its parts, the sums' array, its own slot, its positions, the tokens of its own work, its credit. -/
def own (c : Dev nD) : sProp 𝕄 :=
  iprop((((c.tc : Thread nD τ).loc main_arg0) ↦{fullShare} m ((c.tc : Thread nD τ).loc main_arg0))
    ∗ (((c.tc : Thread nD τ).loc main_v2) ↦{fullShare} m ((c.tc : Thread nD τ).loc main_v2))
    ∗ (((c.tc : Thread nD τ).loc main_v1) ↦[slotSet 4 63488 128 (chip c)]{fullShare} m ((c.tc : Thread nD τ).loc main_v1))
    ∗ (bigSep Finset.univ fun i : Fin 7 => talk.at0 (τ := τ) c i)
    ∗ (talk.tok (τ := τ) c (0 : Fin 7) ∗ talk.tok (τ := τ) c (1 : Fin 7) ∗ talk.tok (τ := τ) c (2 : Fin 7) ∗ talk.tok (τ := τ) c (6 : Fin 7))
    ∗ launchCred O₀ c)

/-- What a device starts the call with. -/
def start (κ : Dev nD × Fin talk.n → ℕ) (c : Dev nD) : sProp 𝕄 :=
  iprop(talk.invs (τ := τ) (pay m) κ ∗ own m c
    ∗ away m (p0 c) (3 : Fin 7) (p0 (p0 c)) ∗ away m (p1 c) (4 : Fin 7) (p1 (p1 c)) ∗ away m (p2 c) (5 : Fin 7) (p2 (p2 c)))

/-- What it ends the call with: its parts and the sums' array as they were, and the received parts. -/
def done (c : Dev nD) : sProp 𝕄 :=
  iprop((((c.tc : Thread nD τ).loc main_arg0) ↦{fullShare} m ((c.tc : Thread nD τ).loc main_arg0))
    ∗ (((c.tc : Thread nD τ).loc main_v2) ↦{fullShare} m ((c.tc : Thread nD τ).loc main_v2))
    ∗ (((c.tc : Thread nD τ).loc main_v1) ↦{fullShare} received m c))

set_option maxHeartbeats 1000000 in
/-- The kernel's body, from its start to its end, every debt to a peer paid. -/
theorem body (κ : Dev nD × Fin talk.n → ℕ) (c : Dev nD) (t : Fin cfg0.N) :
    iprop(start m κ c ∗ ∃ W, owes (c.tc : Thread nD τ) (O₀ c) W)
      ⊢ wp frame (wpE defs₀ Variants.none (c.tc : Thread nD τ) none) Set.univ (defs₀ (F := F) .tc (cfg0).body ((cfg0).bodyArgs t ((cfg0).slots t)))
          fun _ => iprop((done m c ∗ bigSep Finset.univ fun i => semVal (talk.cell τ c i) 0) ∗ ∃ W, owes (c.tc : Thread nD τ) (0 : CellTallies nD τ sig Unit) W) := by
  have hcred : (launchCred O₀ c : sProp 𝕄)
      ⊢ iprop(cred (tallyAt (talk.cell τ c (3 : Fin 7)) () talk.N) ∗ cred (tallyAt (talk.cell τ c (4 : Fin 7)) () talk.N) ∗ cred (tallyAt (talk.cell τ c (5 : Fin 7)) () talk.N)) := by
    rw [talk.launch_cred peer peer_peer]
    simp only [Talk.due, cred_add]
    show _ ⊢ (_ : sProp 𝕄)
    iintro ⟨⟨⟨-, H5⟩, H4⟩, H3⟩
    isplitl [H3]; · iexact H3
    isplitl [H4]; · iexact H4
    iexact H5
  show _ ⊢ wp frame _ _ (cc0_scatter_grads (Memref.whole main_arg0) _ (Memref.whole main_v1) _ cc0_scratch0 cc0_scratch1 cc0_scratch2) _
  simp only [Gen.cc0_scatter_grads_eq_skeleton]
  unfold Gen.cc0_scatter_grads_skel
  simp only [Gen.k0_part1_eq_skeleton, Gen.k0_part2_eq_skeleton, Gen.k0_part3_eq_skeleton, Gen.k0_part4_eq_skeleton]
  unfold Gen.k0_part1_skel Gen.k0_part2_skel Gen.k0_part3_skel Gen.k0_part4_skel
  simp only [Prog.lift, Prog.bind_op, Prog.bind_ret, Prog.pure_eq_ret, wp_deviceId]
  unfold start own away
  iintro ⟨⟨#Hinv, ⟨Ha, Hs, Hv, Hat, ⟨Ht0, Ht1, Ht2, Ht6⟩, Hc⟩, ⟨Ht3, Hv0⟩, ⟨Ht4, Hv1⟩, ⟨Ht5, Hv2⟩⟩, HO⟩
  ihave Hc := hcred $$ Hc
  ihave Ha := (parts_eq c _).1 $$ Ha
  icases Ha with ⟨Ha3, Ha0, Ha1, Ha2⟩
  ihave Hat := (Entails.of_eq (bigSep_seven _)) $$ Hat
  icases Hat with ⟨A0, A1, A2, A3, A4, A5, A6⟩
  iapply (talk.wp_exchange Variants.none (pay m) κ c (p0 c) (p1 c) (p2 c) (0 : Fin 7) (1 : Fin 7) (2 : Fin 7) (3 : Fin 7) (4 : Fin 7) (5 : Fin 7) (6 : Fin 7)
    (a := away0 (k0_off1 c) (Facts₀.k0_off1_inb c)) (a0 := away0 (k0_off2 c) (Facts₀.k0_off2_inb c)) (a1 := away0 (k0_off3 c) (Facts₀.k0_off3_inb c))
    (a2 := away0 (k0_off4 c) (Facts₀.k0_off4_inb c)) (D := slot c)
    rfl rfl rfl rfl rfl rfl rfl (fun _ => rfl) (fun _ => rfl) (fun _ => rfl) (fun _ => rfl) (fun _ => rfl) (fun _ => rfl) (fun _ => rfl)
    (q := fullShare) (q0 := fullShare) (q1 := fullShare) (q2 := fullShare)
    (f := m ((c.tc : Thread nD τ).loc main_arg0)) (f0 := m ((c.tc : Thread nD τ).loc main_arg0)) (f1 := m ((c.tc : Thread nD τ).loc main_arg0))
    (f2 := m ((c.tc : Thread nD τ).loc main_arg0)) (g := m ((c.tc : Thread nD τ).loc main_v1)) (g0 := m (((p0 c).tc : Thread nD τ).loc main_v1))
    (g1 := m (((p1 c).tc : Thread nD τ).loc main_v1)) (g2 := m (((p2 c).tc : Thread nD τ).loc main_v1))
    rfl rfl rfl rfl (kept m c) (Entails.of_eq (share_eq m c (p0 c) _ (off_p0 c))) (Entails.of_eq (share_eq m c (p1 c) _ (off_p1 c)))
    (Entails.of_eq (share_eq m c (p2 c) _ (off_p2 c)))
    (sent m c (p0 c) (holder_p0 c) _ (off_p0 c) (3 : Fin 7) (congrArg (fun x => got m x (p0 c)) (p0_p0 c).symm))
    (sent m c (p1 c) (holder_p1 c) _ (off_p1 c) (4 : Fin 7) (congrArg (fun x => got m x (p1 c)) (p1_p1 c).symm))
    (sent m c (p2 c) (holder_p2 c) _ (off_p2 c) (5 : Fin 7) (congrArg (fun x => got m x (p2 c)) (p2_p2 c).symm)))
    $$ [Ha0 Ha1 Ha2 Ha3 Hv Hv0 Hv1 Hv2 Ht0 Ht1 Ht2 Ht3 Ht4 Ht5 Ht6 A0 A1 A2 A3 A4 A5 A6 Hc HO]
  · isplitr; · iexact Hinv
    isplitl [Ha0 Ha1 Ha2 Ha3]
    · isplitl [Ha3]; · iapply (Entails.of_eq (share_eq m c c _ (Gen.k0_off1_eq c)).symm) $$ Ha3
      isplitl [Ha0]; · iapply (Entails.of_eq (share_eq m c (p0 c) _ (off_p0 c)).symm) $$ Ha0
      isplitl [Ha1]; · iapply (Entails.of_eq (share_eq m c (p1 c) _ (off_p1 c)).symm) $$ Ha1
      iapply (Entails.of_eq (share_eq m c (p2 c) _ (off_p2 c)).symm) $$ Ha2
    isplitl [Hv Hv0 Hv1 Hv2]
    · isplitl [Hv]; · iapply (Entails.of_eq (by rw [slot_set])) $$ Hv
      isplitl [Hv0]; · iapply (Entails.of_eq (by rw [slot_set, p0_p0])) $$ Hv0
      isplitl [Hv1]; · iapply (Entails.of_eq (by rw [slot_set, p1_p1])) $$ Hv1
      iapply (Entails.of_eq (by rw [slot_set, p2_p2])) $$ Hv2
    isplitl [Ht6 Ht0 Ht1 Ht2]
    · isplitl [Ht6]; · iexact Ht6
      isplitl [Ht0]; · iexact Ht0
      isplitl [Ht1]; · iexact Ht1
      iexact Ht2
    isplitl [Ht3 Ht4 Ht5]
    · isplitl [Ht3]; · iexact Ht3
      isplitl [Ht4]; · iexact Ht4
      iexact Ht5
    isplitl [A0 A1 A2 A3 A4 A5 A6]
    · isplitl [A6]; · iexact A6
      isplitl [A0]; · iexact A0
      isplitl [A1]; · iexact A1
      isplitl [A2]; · iexact A2
      isplitl [A3]; · iexact A3
      isplitl [A4]; · iexact A4
      iexact A5
    isplitl [Hc]; · iexact Hc
    icases HO with ⟨%W, HO⟩
    iexists W
    iexact HO
  iintro ⟨⟨Hp6, Hp0, Hp1, Hp2, Hp3, Hp4, Hp5⟩, ⟨S6, S0, S1, S2, S3, S4, S5⟩, HO⟩
  iapply (Entails.of_eq (wp_ret ..).symm)
  imodintro
  isplitr [HO]
  · isplitl [Hp0 Hp1 Hp2 Hp3 Hp4 Hp5 Hp6 Hs]
    · ihave ⟨Hg, Ha3⟩ := (Entails.of_eq (show pay m c (6 : Fin 7) = iprop(got m c c ∗ share m c c) from rfl)) $$ Hp6
      unfold done
      isplitl [Hp0 Hp1 Hp2 Ha3]
      · iapply (parts_eq c _).2 $$ [Hp0 Hp1 Hp2 Ha3]
        isplitl [Ha3]; · iexact Ha3
        isplitl [Hp0]; · iapply (Entails.of_eq (show pay m c (0 : Fin 7) = share m c (p0 c) from rfl)) $$ Hp0
        isplitl [Hp1]; · iapply (Entails.of_eq (show pay m c (1 : Fin 7) = share m c (p1 c) from rfl)) $$ Hp1
        iapply (Entails.of_eq (show pay m c (2 : Fin 7) = share m c (p2 c) from rfl)) $$ Hp2
      isplitl [Hs]; · iexact Hs
      · iapply (slots_eq c _).2 $$ [Hg Hp3 Hp4 Hp5]
        isplitl [Hg]; · iexact Hg
        isplitl [Hp3]; · iapply (Entails.of_eq (show pay m c (3 : Fin 7) = got m (p0 c) c from rfl)) $$ Hp3
        isplitl [Hp4]; · iapply (Entails.of_eq (show pay m c (4 : Fin 7) = got m (p1 c) c from rfl)) $$ Hp4
        iapply (Entails.of_eq (show pay m c (5 : Fin 7) = got m (p2 c) c from rfl)) $$ Hp5
    · iapply (Entails.of_eq (bigSep_seven _).symm) $$ [S0 S1 S2 S3 S4 S5 S6]
      isplitl [S0]; · iexact S0
      isplitl [S1]; · iexact S1
      isplitl [S2]; · iexact S2
      isplitl [S3]; · iexact S3
      isplitl [S4]; · iexact S4
      isplitl [S5]; · iexact S5
      iexact S6
  iexact HO

/-! ## The run -/

/-- The proof data of the two calls: the exchange, then the sums of what it leaves. -/
def dats (κ : Dev nD × Fin talk.n → ℕ) (p : Fin 2) (c : Dev nD) : Dat τ (Elt F) Unit ℕ (UU nD τ sig) ℕ (cfgs p) c :=
  match p with
  | ⟨0, _⟩ => Talk.dat cfg0 rfl c iprop(start m κ c ∗ scopedBufs (c.tc : Thread nD τ))
      iprop((done m c ∗ bigSep Finset.univ fun i => semVal (talk.cell τ c i) 0) ∗ scopedBufs (c.tc : Thread nD τ)) (O₀ c)
  | ⟨1, _⟩ => sumDat (received m) (fun c => m ((c.tc : Thread nD τ).loc main_v2)) c
  | ⟨_ + 2, h⟩ => absurd h (Nat.not_lt.2 (Nat.le_add_left _ _))

/-- What a device holds once the launch has dealt everyone their tokens and slots. -/
def dealt (c : Dev nD) : sProp 𝕄 :=
  iprop(∃ κ : Dev nD × Fin talk.n → ℕ, start m κ c ∗ talk.kit (pcfgs (F := F)) (fun p => (cfgs p).toPCfg_adm) O₀ c)

/-- The launch deals every device what it starts with. -/
theorem deal :
    iprop((bigSep Finset.univ fun c : Dev nD => iprop(boundary (c.tc : Thread nD τ)
          ∗ unscopedBufs c (fun b => m ((c.tc : Thread nD τ).loc b)) ∗ owes (c.tc : Thread nD τ) (O₀ c) ∅ ∗ launchCred O₀ c))
        ∗ ownU (talk.ghost₀ (pcfgs (F := F)) (fun p => (cfgs p).toPCfg_adm) Gen.cellOf_inj)) ⊢ |={Set.univ}=> bigSep Finset.univ (dealt m) := by
  have hbufs : ∀ c : Dev nD, (unscopedBufs c (fun b => m ((c.tc : Thread nD τ).loc b)) : sProp 𝕄)
      ⊢ iprop((((c.tc : Thread nD τ).loc main_arg0) ↦{fullShare} m ((c.tc : Thread nD τ).loc main_arg0))
        ∗ (((c.tc : Thread nD τ).loc main_v1) ↦{fullShare} m ((c.tc : Thread nD τ).loc main_v1))
        ∗ (((c.tc : Thread nD τ).loc main_v2) ↦{fullShare} m ((c.tc : Thread nD τ).loc main_v2))) := fun c => by
    have hrest : (Pipeline.unscopedRest (cfgs 0).spec c (fun b => m ((c.tc : Thread nD τ).loc b)) : sProp 𝕄) = _ := Gen.unscopedRest0_eq c _
    rw [Pipeline.unscopedBufs_split₀ cfgs 0 (fun w => w.elim0), hrest]
    show _ ⊢ (_ : sProp 𝕄)
    iintro ⟨-, H⟩
    iexact H
  refine (talk.launch talk_scoped (pcfgs (F := F)) (fun p => (cfgs p).toPCfg_adm) Gen.cellOf_inj (pay m) _ O₀).trans ?_
  have hone : ∀ (κ : Dev nD × Fin talk.n → ℕ) (c : Dev nD),
      iprop(talk.kit (pcfgs (F := F)) (fun p => (cfgs p).toPCfg_adm) O₀ c
            ∗ ((bigSep Finset.univ fun i : Fin talk.n => talk.at0 (τ := τ) c i) ∗ (bigSep Finset.univ fun i : Fin talk.n => talk.tok (τ := τ) c i))
            ∗ unscopedBufs c (fun b => m ((c.tc : Thread nD τ).loc b)) ∗ launchCred O₀ c)
        ⊢ (iprop((talk.kit (pcfgs (F := F)) (fun p => (cfgs p).toPCfg_adm) O₀ c
            ∗ own m c)
          ∗ away m c (3 : Fin 7) (p0 c) ∗ away m c (4 : Fin 7) (p1 c) ∗ away m c (5 : Fin 7) (p2 c)) : sProp 𝕄) := fun κ c => by
    iintro ⟨Hkit, ⟨Hat, Htok⟩, HU, Hc⟩
    ihave HU := (hbufs c) $$ HU
    icases HU with ⟨Ha, Hv, Hs⟩
    ihave Hv := (slots_eq c _).1 $$ Hv
    icases Hv with ⟨Hv, Hv0, Hv1, Hv2⟩
    ihave Htok := (Entails.of_eq (show (bigSep Finset.univ fun i : Fin talk.n => talk.tok (τ := τ) c i : sProp 𝕄) = _ from bigSep_seven _)) $$ Htok
    icases Htok with ⟨T0, T1, T2, T3, T4, T5, T6⟩
    isplitl [Hkit Ha Hs Hv Hat T0 T1 T2 T6 Hc]
    · isplitl [Hkit]; · iexact Hkit
      unfold own
      isplitl [Ha]; · iexact Ha
      isplitl [Hs]; · iexact Hs
      isplitl [Hv]; · iexact Hv
      isplitl [Hat]; · iexact Hat
      isplitl [T0 T1 T2 T6]
      · isplitl [T0]; · iexact T0
        isplitl [T1]; · iexact T1
        isplitl [T2] <;> iassumption
      iexact Hc
    unfold away
    isplitl [T3 Hv0]; · isplitl [T3] <;> iassumption
    isplitl [T4 Hv1]; · isplitl [T4] <;> iassumption
    isplitl [T5] <;> iassumption
  have hall : ∀ κ : Dev nD × Fin talk.n → ℕ, (bigSep Finset.univ fun c : Dev nD => iprop(talk.kit (pcfgs (F := F)) (fun p => (cfgs p).toPCfg_adm) O₀ c
            ∗ ((bigSep Finset.univ fun i : Fin talk.n => talk.at0 (τ := τ) c i) ∗ (bigSep Finset.univ fun i : Fin talk.n => talk.tok (τ := τ) c i))
            ∗ unscopedBufs c (fun b => m ((c.tc : Thread nD τ).loc b)) ∗ launchCred O₀ c)) ⊢ (_ : sProp 𝕄) := fun κ =>
    (bigSep_mono fun c _ => hone κ c).trans (Entails.of_eq
      (deal_three p0 p1 p2 p0_p0 p1_p1 p2_p2 _ (fun c => away m c (3 : Fin 7) (p0 c)) (fun c => away m c (4 : Fin 7) (p1 c)) (fun c => away m c (5 : Fin 7) (p2 c))))
  have hinvs : ∀ κ : Dev nD × Fin talk.n → ℕ, talk.invs (τ := τ) (pay m) κ ⊢ (bigSep Finset.univ fun _ : Dev nD => talk.invs (τ := τ) (pay m) κ : sProp 𝕄) :=
    fun κ => bigSep_of_persistent Finset.univ _
  have hend : ∀ κ : Dev nD × Fin talk.n → ℕ, iprop((bigSep Finset.univ fun _ : Dev nD => talk.invs (τ := τ) (pay m) κ)
      ∗ bigSep Finset.univ fun c => iprop((talk.kit (pcfgs (F := F)) (fun p => (cfgs p).toPCfg_adm) O₀ c ∗ own m c)
          ∗ away m (p0 c) (3 : Fin 7) (p0 (p0 c)) ∗ away m (p1 c) (4 : Fin 7) (p1 (p1 c)) ∗ away m (p2 c) (5 : Fin 7) (p2 (p2 c))))
      ⊢ bigSep Finset.univ (dealt m) := fun κ => by
    rw [← bigSep_sep']
    refine bigSep_mono fun c _ => ?_
    unfold dealt start
    show _ ⊢ (_ : sProp 𝕄)
    iintro ⟨Hi, ⟨Hkit, HX⟩, HA, HB, HC⟩
    iexists κ
    isplitr [Hkit]
    · isplitl [Hi]; · iexact Hi
      isplitl [HX]; · iexact HX
      isplitl [HA]; · iexact HA
      isplitl [HB] <;> iassumption
    iexact Hkit
  iintro >⟨%κ, #Hinv, H⟩
  imodintro
  ihave H := (hall κ) $$ H
  iapply (hend κ) $$ [H]
  isplitr [H]; · iapply (hinvs κ); iexact Hinv
  iexact H

/-- The call in the program. -/
theorem region (κ : Dev nD × Fin talk.n → ℕ) (c : Dev nD) {α : Type}
    {k : PUnit → Prog (TpuEff nD τ sig (Elt F) (Pipeline.Sig Λ₀ (Fin 2) fun p => (pcfgs (F := F) p).Adm) .tc) α} {Q : α → sProp 𝕄} :
    iprop(start m κ c ∗ scopedBufs (c.tc : Thread nD τ) ∗ talk.otherSems c ∗ opIdle (c.tc : Thread nD τ) ∗ owes (c.tc : Thread nD τ) (O₀ c) ∅
        ∗ Pipeline.cellsGhost (Pipeline.pin (pcfgs (F := F)) (fun p => (cfgs p).toPCfg_adm)) EP 0 c
        ∗ Pipeline.toksInit (Pipeline.pin (pcfgs (F := F)) (fun p => (cfgs p).toPCfg_adm)) EP 0 c)
      ⊢ iprop(((done m c ∗ boundary (c.tc : Thread nD τ) ∗ ∃ W, owes (c.tc : Thread nD τ) (0 : CellTallies nD τ sig Unit) W)
            -∗ wp frame (wpE (Pipeline.defs pcfgs defs₀) (Variants.lift Variants.none) (c.tc : Thread nD τ) none) Set.univ (k ⟨⟩) Q)
          -∗ wp frame (wpE (Pipeline.defs pcfgs defs₀) (Variants.lift Variants.none) (c.tc : Thread nD τ) none) Set.univ (.op (.customCall (entry 0) ()) k) Q) :=
  talk.wp_region talk_scoped pcfgs (fun p => (cfgs p).toPCfg_adm) (dats m κ) Gen.cellOf_inj 0 defs₀ Variants.none rfl Gen.N_0 rfl c
    (Pre := start m κ c) (Post := done m c) (O := O₀ c) rfl (fun t => body m κ c t)

/-- What a device ends with: its parts as they were, the received parts, and their sums. -/
def finished (c : Dev nD) : sProp 𝕄 :=
  iprop((((c.tc : Thread nD τ).loc main_arg0) ↦{fullShare} m ((c.tc : Thread nD τ).loc main_arg0))
    ∗ (((c.tc : Thread nD τ).loc main_v1) ↦{fullShare} received m c)
    ∗ (((c.tc : Thread nD τ).loc main_v2) ↦{fullShare} sums (received m) c))

set_option backward.isDefEq.respectTransparency.types false in
/-- The second call in the program. -/
theorem sum_region (κ : Dev nD × Fin talk.n → ℕ) (c : Dev nD) {α : Type}
    {k : PUnit → Prog (TpuEff nD τ sig (Elt F) (Pipeline.Sig Λ₀ (Fin 2) fun p => (pcfgs (F := F) p).Adm) .tc) α} {Q : α → sProp 𝕄} :
    iprop(done m c ∗ boundary (c.tc : Thread nD τ) ∗ (∃ W, owes (c.tc : Thread nD τ) (0 : CellTallies nD τ sig Unit) W)
        ∗ Pipeline.cellsGhost (Pipeline.pin (pcfgs (F := F)) (fun p => (cfgs p).toPCfg_adm)) EP 1 c
        ∗ Pipeline.toksInit (Pipeline.pin (pcfgs (F := F)) (fun p => (cfgs p).toPCfg_adm)) EP 1 c)
      ⊢ iprop(((finished m c ∗ boundary (c.tc : Thread nD τ) ∗ ∃ W, owes (c.tc : Thread nD τ) (0 : CellTallies nD τ sig Unit) W)
            -∗ wp frame (wpE (Pipeline.defs pcfgs defs₀) (Variants.lift Variants.none) (c.tc : Thread nD τ) none) Set.univ (k ⟨⟩) Q)
          -∗ wp frame (wpE (Pipeline.defs pcfgs defs₀) (Variants.lift Variants.none) (c.tc : Thread nD τ) none) Set.univ (.op (.customCall (entry 1) ()) k) Q) := by
  have hcall := wp_quiet (pcfgs (F := F)) (fun p => (cfgs p).toPCfg_adm) (dats m κ) 1 Gen.launch1.toP rfl defs₀ Variants.none
    (fun c => (points (received m) (fun c => m ((c.tc : Thread nD τ).loc main_v2)) c).loose) (fun _ _ => rfl) (fun _ => rfl) (fun _ w => by fin_cases w <;> rfl) (fun _ _ => rfl) c (k := k) (Q := Q)
  have harr : ∀ n, (bigSep Finset.univ fun w : Fin 2 => (((c.tc : Thread nD τ).loc (Pipeline.arrRef spec1 w)) ↦{fullShare}
        (sumDat (received m) (fun c => m ((c.tc : Thread nD τ).loc main_v2)) c).arrAt w n : sProp 𝕄))
      = iprop((((c.tc : Thread nD τ).loc main_v1) ↦{fullShare} received m c)
        ∗ (((c.tc : Thread nD τ).loc main_v2) ↦{fullShare} (sumDat (received m) (fun c => m ((c.tc : Thread nD τ).loc main_v2)) c).arrAt 1 n)) := fun n => by
    rw [Gen.bigSep_W1, left_in]
  have h0 : (sumDat (received m) (fun c => m ((c.tc : Thread nD τ).loc main_v2)) c).arrAt 1 0 = m ((c.tc : Thread nD τ).loc main_v2) := rfl
  have hN := left_out (received m) (fun c => m ((c.tc : Thread nD τ).loc main_v2)) c
  have hin := harr 0
  have hout := harr cfg1.N
  rw [h0] at hin
  rw [hN] at hout
  have hcall' : iprop(((((c.tc : Thread nD τ).loc main_v1) ↦{fullShare} received m c) ∗ (((c.tc : Thread nD τ).loc main_v2) ↦{fullShare} m ((c.tc : Thread nD τ).loc main_v2)))
        ∗ boundary (c.tc : Thread nD τ) ∗ (∃ W, owes (c.tc : Thread nD τ) (0 : CellTallies nD τ sig Unit) W)
        ∗ Pipeline.cellsGhost (Pipeline.pin (pcfgs (F := F)) (fun p => (cfgs p).toPCfg_adm)) EP 1 c
        ∗ Pipeline.toksInit (Pipeline.pin (pcfgs (F := F)) (fun p => (cfgs p).toPCfg_adm)) EP 1 c)
      ⊢ iprop((((((c.tc : Thread nD τ).loc main_v1) ↦{fullShare} received m c) ∗ (((c.tc : Thread nD τ).loc main_v2) ↦{fullShare} sums (received m) c))
            ∗ boundary (c.tc : Thread nD τ) ∗ (∃ W, owes (c.tc : Thread nD τ) (0 : CellTallies nD τ sig Unit) W)
            -∗ wp frame (wpE (Pipeline.defs pcfgs defs₀) (Variants.lift Variants.none) (c.tc : Thread nD τ) none) Set.univ (k ⟨⟩) Q)
          -∗ wp frame (wpE (Pipeline.defs pcfgs defs₀) (Variants.lift Variants.none) (c.tc : Thread nD τ) none) Set.univ (.op (.customCall (entry 1) ()) k) Q) := by
    rw [← hin, ← hout]
    exact hcall
  unfold done finished
  iintro ⟨⟨Ha, Hs, Hv⟩, Hb, HO, Hg, Ht⟩ Hk
  iapply hcall' $$ [Hs Hv Hb HO Hg Ht]
  · isplitl [Hs Hv]
    · isplitl [Hv] <;> iassumption
    isplitl [Hb]; · iexact Hb
    isplitl [HO]; · iexact HO
    isplitl [Hg] <;> iassumption
  iintro ⟨⟨Hv, Hs⟩, Hb, HO⟩
  iapply Hk
  isplitl [Ha Hv Hs]
  · isplitl [Ha]; · iexact Ha
    isplitl [Hv] <;> iassumption
  isplitl [Hb] <;> iassumption

/-- The program on a device, from what the launch deals it. -/
theorem run_device (c : Dev nD) : dealt m c ⊢ wp frame (wpE defs (Variants.lift Variants.none) (c.tc : Thread nD τ) none) Set.univ (main (F := F) c)
    fun _ => iprop((finished m c ∗ boundary (c.tc : Thread nD τ)) ∗ ∃ W, owes (c.tc : Thread nD τ) (0 : CellTallies nD τ sig Unit) W) := by
  have hmain : main (F := F) c = (.op (.customCall (entry 0) ()) fun _ => .op (.customCall (entry 1) ()) fun _ => .ret ⟨⟩) := rfl
  rw [hmain]
  unfold dealt Talk.kit defs
  iintro ⟨%κ, Hs, Hb, Hsem, Hidle, HO, Hg, Ht⟩
  ihave Hg := (Entails.of_eq (bigSep_two _)) $$ Hg
  ihave Ht := (Entails.of_eq (bigSep_two _)) $$ Ht
  icases Hg with ⟨Hg, Hg'⟩
  icases Ht with ⟨Ht, Ht'⟩
  iapply (region m κ c) $$ [Hs Hb Hsem Hidle HO Hg Ht]
  · isplitl [Hs]; · iexact Hs
    isplitl [Hb]; · iexact Hb
    isplitl [Hsem]; · iexact Hsem
    isplitl [Hidle]; · iexact Hidle
    isplitl [HO]; · iexact HO
    isplitl [Hg]; · iexact Hg
    iexact Ht
  iintro ⟨Hd, Hb, HO⟩
  iapply (sum_region m κ c) $$ [Hd Hb HO Hg' Ht']
  · isplitl [Hd]; · iexact Hd
    isplitl [Hb]; · iexact Hb
    isplitl [HO]; · iexact HO
    isplitl [Hg']; · iexact Hg'
    iexact Ht'
  iintro ⟨Hd, Hb, HO⟩
  iapply (Entails.of_eq (wp_ret ..).symm)
  imodintro
  isplitr [HO]
  · isplitl [Hd] <;> iassumption
  iexact HO

/-- The whole mesh: every device ends with the sums of its received parts and its own parts as they were, every semaphore
    at zero. -/
theorem run_main (ρ : Dev nD → PrngReg) : θ_run (defs (F := F)) (onTc (τ := τ) (main (F := F))) ⟨m, fun _ => 0, ρ⟩ (fun r =>
    (∀ c : Dev nD, r.2.mem ((c.tc : Thread nD τ).loc main_v2) = sums (received m) c
      ∧ r.2.mem ((c.tc : Thread nD τ).loc main_arg0) = m ((c.tc : Thread nD τ).loc main_arg0)) ∧ r.2.sem = fun _ => 0) := by
  refine run_talk defs (Variants.lift Variants.none) m ρ main O₀ _ (dealt m) (finished m) (deal m) (run_device m)
    (fun c mem => mem.mem ((c.tc : Thread nD τ).loc main_v2) = sums (received m) c ∧ mem.mem ((c.tc : Thread nD τ).loc main_arg0) = m ((c.tc : Thread nD τ).loc main_arg0))
    (fun c s' => ?_) (fun s h hz => ⟨h, funext fun g' => hz g' ?_⟩)
  · unfold finished
    iintro ⟨⟨Ha, -, Hs⟩, HS⟩
    imodintro
    icombine HS Ha gives %ha
    icombine HS Hs gives %hs
    isplitr [HS]
    · ipureintro; exact ⟨funext fun i => hs i (Finset.mem_univ i), funext fun i => ha i (Finset.mem_univ i)⟩
    iexact HS
  · obtain ⟨⟨d, p⟩, s⟩ := g'
    by_cases hp : p = .tc
    · subst hp; exact Or.inr (all_scoped s)
    · exact Or.inl hp

/-! ## The sums are the reference's, at the ideal values -/

/-- The device of core `d mod 2` on chip `j` holds the parts `4 * (2 j + d mod 2)` and on; chips are numbered by halves. -/
theorem holder_part : ∀ (d : Dev nD) (j : Fin 4), (holder d j).val * 4 + chip d = (j.val * 2 + d.val % 2) * 4 + d.val / 2 := by decide +kernel

/-- What a device has received for slot `j`, read off the whole array of parts. -/
theorem received_part (m : (ℓ : Loc nD τ sig) → Buf (Elt F) ℓ) (V : (⟨3, ![32, 63488, 128]⟩ : Shape).Idx → Elt F .bf16)
    (h : ∀ c : Dev nD, m ((c.tc : Thread nD τ).loc main_arg0) = Layout.block ⟨3, ![4, 63488, 128]⟩ ⟨3, ![32, 63488, 128]⟩ 0 8 c V)
    (c : Dev nD) (j : Fin 4) (a : Fin 63488) (b : Fin 128) (k : Fin 32) (hk : k.val = (j.val * 2 + c.val % 2) * 4 + c.val / 2) :
    received m c (ValueIdx.ix3 j a b) = V (ValueIdx.ix3 k a b) := by
  have e : received m c (ValueIdx.ix3 j a b) = V (Layout.Tiles.idx (S := ⟨3, ![4, 63488, 128]⟩) (T := ⟨3, ![32, 63488, 128]⟩) (a := 0) (k := 8)
      (by decide) (holder c j) (ValueIdx.ix3 (⟨chip c, chip_lt c⟩ : Fin 4) a b)) := by
    unfold received; rw [h]; rfl
  rw [e]
  refine congrArg V (funext fun x => Fin.ext ?_)
  match x with
  | ⟨0, _⟩ => exact (holder_part c j).trans hk.symm
  | ⟨1, _⟩ => rfl
  | ⟨2, _⟩ => rfl

/-- The reference's sum over the chips, one element: the four parts of its core and slot. -/
theorem summed (V : (⟨3, ![32, 63488, 128]⟩ : Shape).Idx → Elt Ideal .bf16) (c : Dev nD) (i : S63488x128.Idx) (k : Fin 4 → Fin 32)
    (hk : ∀ j, (k j).val = (j.val * 2 + c.val % 2) * 4 + c.val / 2)
    (y : (⟨2, ![507904, 128]⟩ : Shape).Idx) (hy0 : (y 0).val = c.val * 63488 + (i 0).val) (hy1 : (y 1).val = (i 1).val) :
    (shapeCast Cert.ScatterRefIdeal.S507904x128 (transpose Cert.ScatterRefIdeal.S4x2x63488x128 [1, 0, 2, 3] (Host.reduceAdd (F := Ideal)
      (shapeCast Cert.ScatterRefIdeal.S4x2x4x63488x128 (extf .f32 V Cert.ScatterRefIdeal.Gen.bitsLt_bf16_f32)
        Cert.ScatterRefIdeal.Gen.shapeCasts_S32x63488x128_S4x2x4x63488x128)
      (constant Cert.ScatterRefIdeal.S_ .f32 0x00000000#32) Cert.ScatterRefIdeal.Gen.reducesTo_S4x2x4x63488x128_S2x4x63488x128_d0 Cert.ScatterRefIdeal.Gen.h_S_)
      Cert.ScatterRefIdeal.Gen.transposes_S2x4x63488x128_S4x2x63488x128_1_0_2_3) Cert.ScatterRefIdeal.Gen.shapeCasts_S4x2x63488x128_S507904x128 y : EReal)
      = ∑ j : Fin 4, (V (ValueIdx.ix3 (k j) (i 0) (i 1)) : EReal) := by
  have hc : c.val / 2 < 4 := by have := c.isLt; change c.val < 8 at this; omega
  have h2 : c.val % 2 < 2 := by omega
  refine (shapeCast_apply _ _ y (ValueIdx.ix4 (⟨c.val / 2, hc⟩ : Fin 4) (⟨c.val % 2, h2⟩ : Fin 2) (i 0) (i 1)) ?_).trans ?_
  · refine (Shape.rowMajor_val_four _).trans (Eq.trans ?_ (Shape.rowMajor_val_two _).symm)
    show ((c.val / 2 * 2 + c.val % 2) * 63488 + (i 0).val) * 128 + (i 1).val = (y 0).val * 128 + (y 1).val
    rw [hy0, hy1]; omega
  refine (transpose_apply _ _ _ _ (ValueIdx.ix4 (⟨c.val % 2, h2⟩ : Fin 2) (⟨c.val / 2, hc⟩ : Fin 4) (i 0) (i 1)) ?_).trans ?_
  · intro b
    match b with
    | ⟨0, _⟩ => rfl
    | ⟨1, _⟩ => rfl
    | ⟨2, _⟩ => rfl
    | ⟨3, _⟩ => rfl
  refine (Ideal.hostReduceAdd_r5_a0 (n0 := 4) (n1 := 2) (n2 := 4) (n3 := 63488) (n4 := 128) Cert.ScatterRefIdeal.Gen.reducesTo_S4x2x4x63488x128_S2x4x63488x128_d0 _ _ _).trans ?_
  have hz : (constant (F := Ideal) Cert.ScatterRefIdeal.S_ .f32 0x00000000#32) (Shape.Idx.first Cert.ScatterRefIdeal.Gen.h_S_) = (0 : EReal) := Ideal.ofBits_zero_f32
  rw [hz, zero_add]
  refine Finset.sum_congr rfl fun j _ => ?_
  refine (shapeCast_apply _ _ _ (ValueIdx.ix3 (k j) (i 0) (i 1)) ?_).trans rfl
  refine (Shape.rowMajor_val_three _).trans (Eq.trans ?_ (Shape.rowMajor_val_five _).symm)
  show ((k j).val * 63488 + (i 0).val) * 128 + (i 1).val = (((j.val * 2 + c.val % 2) * 4 + c.val / 2) * 63488 + (i 0).val) * 128 + (i 1).val
  rw [hk]

end Cert.ScatterIdeal

namespace Cert.Proof

open Idealize.ShloMosaic Idealize.ShloMosaic.TcCoe Idealize.SL.Sem

/-- The two kernels of the scattering program are the same text in both of its printings, -/
theorem scatter_bodies : Cert.Scatter.defs₀ (F := Bits) = Cert.ScatterIdeal.defs₀ (F := Bits) := by
  refine congrArg Defs.onTc (funext fun l => funext fun x => ?_)
  match l, x with
  | ⟨0, _⟩, _ => rfl
  | ⟨1, _⟩, _ => rfl

/-- and so are the two calls. -/
theorem scatter_calls : Cert.Scatter.defs (F := Bits) = Cert.ScatterIdeal.defs (F := Bits) :=
  congrArg (Pipeline.defs Cert.ScatterIdeal.pcfgs) scatter_bodies

/-- The scattering program at bits runs, keeps its argument, and leaves every semaphore at zero. -/
theorem frame_scatter : Cert.quiescent_Scatter := fun m ρ _ => by
  rw [scatter_calls]
  exact (θ_run Cert.ScatterIdeal.defs _ _).mono (fun _ h => ⟨fun c => (h.1 c).2, h.2⟩) (Cert.ScatterIdeal.run_main (F := Bits) m ρ)

/-- The same at the ideal values. -/
theorem frame_scatterIdeal : Cert.quiescent_ScatterIdeal := fun m ρ _ =>
  (θ_run Cert.ScatterIdeal.defs _ _).mono (fun _ h => ⟨fun c => (h.1 c).2, h.2⟩) (Cert.ScatterIdeal.run_main (F := Ideal) m ρ)

/-- The sum of all the devices' parts over the chips runs and keeps its argument. -/
theorem frame_scatterRefIdeal : Cert.quiescent_ScatterRefIdeal := fun m ρ _ =>
  (θ_run Cert.ScatterRefIdeal.defs _ _).mono (fun r h => ⟨fun c => (h c).2, sem_eq_zero_of_no_sems (by decide) r.2⟩)
    (Cert.ScatterRefIdeal.Value.run (F := Ideal) m ρ)

/-- Every device ends with its block of the sums over the chips. -/
theorem algebraic_scatter : Cert.algebraic_ScatterIdeal_ScatterRefIdeal := fun m ρ m' ρ' _ h =>
  ⟨_, (θ_run Cert.ScatterIdeal.defs _ _).mono (fun _ hr c => ⟨(hr.1 c).1.trans (by
        funext i
        have hb : ∀ j : Fin 4, (j.val * 2 + c.val % 2) * 4 + c.val / 2 < 32 := fun j => by
          have := j.isLt; have hc := c.isLt; change c.val < 8 at hc; omega
        refine Eq.trans ?_ (Cert.ScatterIdeal.summed _ c i (fun j => ⟨_, hb j⟩) (fun _ => rfl) _ rfl rfl).symm
        rw [Fin.sum_univ_four]
        unfold Cert.ScatterIdeal.sums
        rw [Cert.ScatterIdeal.received_part m _ h c 0 (i 0) (i 1) ⟨_, hb 0⟩ rfl, Cert.ScatterIdeal.received_part m _ h c 1 (i 0) (i 1) ⟨_, hb 1⟩ rfl,
          Cert.ScatterIdeal.received_part m _ h c 2 (i 0) (i 1) ⟨_, hb 2⟩ rfl, Cert.ScatterIdeal.received_part m _ h c 3 (i 0) (i 1) ⟨_, hb 3⟩ rfl]
        rfl), (hr.1 c).2⟩)
      (Cert.ScatterIdeal.run_main (F := Ideal) m ρ),
    (θ_run Cert.ScatterRefIdeal.defs _ _).mono (fun _ hr => hr 0) (Cert.ScatterRefIdeal.Value.run (F := Ideal) m' ρ')⟩

end Cert.Proof
-- ==== Proof.AdamW.lean ====
/-
  The second call of the updating program: the two halves of a gradient are added and AdamW is taken with their sum, 1024
  rows at a grid point. What a grid point leaves, and so what the call leaves, is stated over any float values.
-/
module

public import proofs.«01_k».proof.Defs
public import proofs.«01_k».proof.Proof.Quiet
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import Idealize.ShloMosaic.Lib.Pipeline.FrameBody
public import Idealize.ShloMosaic.Lib.Pipeline.Value
public import Idealize.ShloMosaic.Lib.Tactic
public import Idealize.ShloMosaic.Lib.Ring
public import Idealize.ShloMosaic.Lib.WordCmp

@[expose] public section

noncomputable section

namespace Cert.UpdateIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Talking

variable {F : FTy → Type} [FloatOps F]

local notation "𝕄" => MT nD τ sig Unit (Elt F) ℕ (UU nD τ sig) ℕ

/-! ## AdamW, one element -/

/-- The new first moment, from the gradient and the old one. -/
abbrev first (g m : F .f32) : F .f32 :=
  FloatOps.addf (FloatOps.mulf (Scalar.ofBits .f32 0x3F666666#32) m) (FloatOps.mulf (Scalar.ofBits .f32 0x3DCCCCCD#32) g)

/-- The new second moment. -/
abbrev second (g v : F .f32) : F .f32 :=
  FloatOps.addf (FloatOps.mulf (Scalar.ofBits .f32 0x3F7FBE77#32) v) (FloatOps.mulf (Scalar.ofBits .f32 0x3A83126F#32) (FloatOps.mulf g g))

/-- The step, from the gradient, the weight and the old moments. -/
abbrev step (g w m v : F .f32) : F .f32 :=
  FloatOps.mulf (Scalar.ofBits .f32 0xBA83126F#32) (FloatOps.addf
    (FloatOps.divf (FloatOps.divf (first g m) (Scalar.ofBits .f32 0x3F26BD02#32))
      (FloatOps.addf (FloatOps.sqrt (FloatOps.divf (second g v) (Scalar.ofBits .f32 0x3C231ACC#32))) (Scalar.ofBits .f32 0x322BCC77#32)))
    (FloatOps.mulf (Scalar.ofBits .f32 0x3C23D70A#32) w))

/-- An array of a device, whole. -/
abbrev Arr (F : FTy → Type) [FloatOps F] : Type := S63488x128.Idx → Elt F .f32

/-- What the call makes of its five arrays (weight, two moments, the two halves of the gradient): the gradient, the step,
    the new moments. -/
def made (x : Fin 5 → Arr F) (k : Fin 4) : Arr F := fun i =>
  match k with
  | ⟨0, _⟩ => FloatOps.addf (x 3 i) (x 4 i)
  | ⟨1, _⟩ => step (FloatOps.addf (x 3 i) (x 4 i)) (x 0 i) (x 1 i) (x 2 i)
  | ⟨2, _⟩ => first (FloatOps.addf (x 3 i) (x 4 i)) (x 1 i)
  | ⟨3, _⟩ => second (FloatOps.addf (x 3 i) (x 4 i)) (x 2 i)

/-! ## A grid point -/

/-- Every one of the 62 grid points. -/
theorem point_lt (t : Fin cfg1.N) : t.val < 62 := Nat.lt_of_lt_of_eq t.isLt Gen.N_1

/-- The rows of an array a grid point works on. -/
def rows (x : Arr F) (t : Fin cfg1.N) : Vec F S1024x128 .f32 := fun j =>
  x (ValueIdx.ix2 (⟨t.val * 1024 + (j 0).val, by
    have h := point_lt t; have hj : (j 0).val < 1024 := (j 0).isLt; show _ < 63488; omega⟩ : Fin 63488) (j 1))

abbrev full : Rect S1024x128 := Rect.unit (s := S1024x128) ![0, 0] S1024x128.size Facts₀.inb_S1024x128_S1024x128_0_0

theorem full_cover (p : Vec F S1024x128 .f32) (y : S1024x128.Idx) :
    ∃ pc ∈ ([⟨full, p⟩] : List (View.Piece (Elt F) S1024x128 .f32)), y ∈ pc.1.set :=
  View.cover_of_tiled [⟨full, p⟩] S1024x128.size (by rfl) y

theorem offset_zero : (![0, 0] : Fin 2 → ℕ) = fun _ => 0 := funext fun a => by fin_cases a <;> rfl

/-- A buffer stored whole holds what was stored, -/
theorem stored_full (p : Vec F S1024x128 .f32) : View.canon [⟨full, p⟩] = p :=
  View.canon_unit_zero (S := S1024x128) offset_zero _ p

/-- and read whole it is what it holds. -/
theorem loaded_full (x : Vec F S1024x128 .f32) : View.ld x full = x :=
  View.ld_unit_zero (S := S1024x128) offset_zero _ x

/-- What a grid point stores is its rows of what the call makes. -/
theorem pays (x : Fin 5 → Arr F) (t : Fin cfg1.N) :
    Gen.k1_pay1 (rows (x 3) t) (rows (x 4) t) = rows (made x 0) t
      ∧ Gen.k1_pay4 (rows (x 3) t) (rows (x 4) t) (rows (x 1) t) (rows (x 2) t) (rows (x 0) t) = rows (made x 1) t
      ∧ Gen.k1_pay2 (rows (x 3) t) (rows (x 4) t) (rows (x 1) t) = rows (made x 2) t
      ∧ Gen.k1_pay3 (rows (x 3) t) (rows (x 4) t) (rows (x 2) t) = rows (made x 3) t := by
  unfold Gen.k1_pay4 Gen.k1_pay3 Gen.k1_pay2 Gen.k1_pay1
  simp only [shapeCast_self]
  exact ⟨rfl, rfl, rfl, rfl⟩

set_option maxHeartbeats 1000000 in
/-- The body at a grid point leaves the five blocks it reads, and stores its rows of what the call makes. -/
theorem point (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (x : Fin 5 → Arr F) (t : Fin cfg1.N) (K : PUnit → sProp 𝕄) :
    iprop(owns (c : Thread nD τ) arg1 fullShare (rows (x 0) t) ∗ owns (c : Thread nD τ) arg2 fullShare (rows (x 1) t) ∗ owns (c : Thread nD τ) arg3 fullShare (rows (x 2) t) ∗ owns (c : Thread nD τ) arg4 fullShare (rows (x 3) t) ∗ owns (c : Thread nD τ) arg5 fullShare (rows (x 4) t)
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare (rows (x 0) t) ∗ owns (c : Thread nD τ) arg2 fullShare (rows (x 1) t) ∗ owns (c : Thread nD τ) arg3 fullShare (rows (x 2) t) ∗ owns (c : Thread nD τ) arg4 fullShare (rows (x 3) t) ∗ owns (c : Thread nD τ) arg5 fullShare (rows (x 4) t)
            ∗ owns (c : Thread nD τ) arg6 fullShare (rows (made x 0) t) ∗ owns (c : Thread nD τ) arg7 fullShare (rows (made x 1) t) ∗ owns (c : Thread nD τ) arg8 fullShare (rows (made x 2) t) ∗ owns (c : Thread nD τ) arg9 fullShare (rows (made x 3) t)) -∗ K ⟨⟩))
      ⊢ wp frame (wpE (defs₀ (F := F)) Variants.none c none) Set.univ (cc1_adamw_big i arg1 harg1 arg2 harg2 arg3 harg3 arg4 harg4 arg5 harg5 arg6 harg6 arg7 harg7 arg8 harg8 arg9 harg9) K := by
  obtain ⟨h5, h6, h7, h8⟩ := pays x t
  rw [← h5, ← h6, ← h7, ← h8]
  generalize rows (x 0) t = x0, rows (x 1) t = x1, rows (x 2) t = x2, rows (x 3) t = x3, rows (x 4) t = x4
  simp only [Gen.cc1_adamw_big_eq_skeleton]
  unfold Gen.cc1_adamw_big_skel
  simp only [Gen.k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0
    isplitr; · ipureintro; rfl
    iexact H0
  isplitl [H1]
  · iexists f1
    isplitr; · ipureintro; rfl
    iexact H1
  isplitl [H2]
  · iexists f2
    isplitr; · ipureintro; rfl
    iexact H2
  isplitl [H3]
  · iexists f3
    isplitr; · ipureintro; rfl
    iexact H3
  isplitl [H4]
  · iexists f4
    isplitr; · ipureintro; rfl
    iexact H4
  isplitl [H5]
  · iexists _
    isplitr
    swap; · iexact H5
    ipureintro
    refine (View.read_writes_eq_canon _ _ _ (full_cover _)).trans ((stored_full _).trans ?_)
    show Gen.k1_pay1 (View.ld _ full) (View.ld _ full) = _
    simp only [loaded_full]
  isplitl [H6]
  · iexists _
    isplitr
    swap; · iexact H6
    ipureintro
    refine (View.read_writes_eq_canon _ _ _ (full_cover _)).trans ((stored_full _).trans ?_)
    show Gen.k1_pay4 (View.ld _ full) (View.ld _ full) (View.ld _ full) (View.ld _ full) (View.ld _ full) = _
    simp only [loaded_full]
  isplitl [H7]
  · iexists _
    isplitr
    swap; · iexact H7
    ipureintro
    refine (View.read_writes_eq_canon _ _ _ (full_cover _)).trans ((stored_full _).trans ?_)
    show Gen.k1_pay2 (View.ld _ full) (View.ld _ full) (View.ld _ full) = _
    simp only [loaded_full]
  iexists _
  isplitr
  swap; · iexact H8
  ipureintro
  refine (View.read_writes_eq_canon _ _ _ (full_cover _)).trans ((stored_full _).trans ?_)
  show Gen.k1_pay3 (View.ld _ full) (View.ld _ full) (View.ld _ full) = _
  simp only [loaded_full]

/-! ## The grid -/

variable (X : Dev nD → Fin 5 → Arr F) (Y : Dev nD → Fin 4 → Arr F)

/-- The call's proof data, entered with the five arrays at `X` and the four it makes at `Y`. -/
def adamDat (c : Dev nD) : Dat τ (Elt F) Unit ℕ (UU nD τ sig) ℕ cfg1 c where
  A w := match w with
    | ⟨0, _⟩ => X c 0
    | ⟨1, _⟩ => X c 1
    | ⟨2, _⟩ => X c 2
    | ⟨3, _⟩ => X c 3
    | ⟨4, _⟩ => X c 4
    | ⟨5, _⟩ => Y c 0
    | ⟨6, _⟩ => Y c 1
    | ⟨7, _⟩ => Y c 2
    | ⟨8, _⟩ => Y c 3
  after w t := match w with
    | ⟨0, _⟩ => rows (X c 0) t
    | ⟨1, _⟩ => rows (X c 1) t
    | ⟨2, _⟩ => rows (X c 2) t
    | ⟨3, _⟩ => rows (X c 3) t
    | ⟨4, _⟩ => rows (X c 4) t
    | ⟨5, _⟩ => rows (made (X c) 0) t
    | ⟨6, _⟩ => rows (made (X c) 1) t
    | ⟨7, _⟩ => rows (made (X c) 2) t
    | ⟨8, _⟩ => rows (made (X c) 3) t
  Φ _ := Pipeline.scopedRest spec1 c
  q _ := fullShare
  owed _ := 0

theorem whole_share (c : Dev nD) (w : Fin cfg1.W) : (adamDat X Y c).share w = fullShare := by unfold Dat.share; exact ite_self _

theorem entry0 (c : Dev nD) : (adamDat X Y c).A 0 = X c 0 := by dsimp only [adamDat]
theorem entry1 (c : Dev nD) : (adamDat X Y c).A 1 = X c 1 := by dsimp only [adamDat]
theorem entry2 (c : Dev nD) : (adamDat X Y c).A 2 = X c 2 := by dsimp only [adamDat]
theorem entry3 (c : Dev nD) : (adamDat X Y c).A 3 = X c 3 := by dsimp only [adamDat]
theorem entry4 (c : Dev nD) : (adamDat X Y c).A 4 = X c 4 := by dsimp only [adamDat]
theorem entry5 (c : Dev nD) : (adamDat X Y c).A 5 = Y c 0 := by dsimp only [adamDat]
theorem entry6 (c : Dev nD) : (adamDat X Y c).A 6 = Y c 1 := by dsimp only [adamDat]
theorem entry7 (c : Dev nD) : (adamDat X Y c).A 7 = Y c 2 := by dsimp only [adamDat]
theorem entry8 (c : Dev nD) : (adamDat X Y c).A 8 = Y c 3 := by dsimp only [adamDat]
theorem after0 (c : Dev nD) (t : Fin cfg1.N) : (adamDat X Y c).after 0 t = rows (X c 0) t := by dsimp only [adamDat]
theorem after1 (c : Dev nD) (t : Fin cfg1.N) : (adamDat X Y c).after 1 t = rows (X c 1) t := by dsimp only [adamDat]
theorem after2 (c : Dev nD) (t : Fin cfg1.N) : (adamDat X Y c).after 2 t = rows (X c 2) t := by dsimp only [adamDat]
theorem after3 (c : Dev nD) (t : Fin cfg1.N) : (adamDat X Y c).after 3 t = rows (X c 3) t := by dsimp only [adamDat]
theorem after4 (c : Dev nD) (t : Fin cfg1.N) : (adamDat X Y c).after 4 t = rows (X c 4) t := by dsimp only [adamDat]
theorem after5 (c : Dev nD) (t : Fin cfg1.N) : (adamDat X Y c).after 5 t = rows (made (X c) 0) t := by dsimp only [adamDat]
theorem after6 (c : Dev nD) (t : Fin cfg1.N) : (adamDat X Y c).after 6 t = rows (made (X c) 1) t := by dsimp only [adamDat]
theorem after7 (c : Dev nD) (t : Fin cfg1.N) : (adamDat X Y c).after 7 t = rows (made (X c) 2) t := by dsimp only [adamDat]
theorem after8 (c : Dev nD) (t : Fin cfg1.N) : (adamDat X Y c).after 8 t = rows (made (X c) 3) t := by dsimp only [adamDat]

/-- Every window is at block `t` of its array's rows at grid point `t`. -/
theorem at_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0)

theorem block0 (x : Arr F) (t : Fin cfg1.N) : ((cfg1.win 0).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_0.index t (0 : Fin 2) * 1024 + 1 * (j 0).val = t.val * 1024 + (j 0).val; omega
  | ⟨1, _⟩ => show win1_0.index t (1 : Fin 2) * 128 + 1 * (j 1).val = (j 1).val; omega
theorem block1 (x : Arr F) (t : Fin cfg1.N) : ((cfg1.win 1).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_1.index t (0 : Fin 2) * 1024 + 1 * (j 0).val = t.val * 1024 + (j 0).val; omega
  | ⟨1, _⟩ => show win1_1.index t (1 : Fin 2) * 128 + 1 * (j 1).val = (j 1).val; omega
theorem block2 (x : Arr F) (t : Fin cfg1.N) : ((cfg1.win 2).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_2.index t (0 : Fin 2) * 1024 + 1 * (j 0).val = t.val * 1024 + (j 0).val; omega
  | ⟨1, _⟩ => show win1_2.index t (1 : Fin 2) * 128 + 1 * (j 1).val = (j 1).val; omega
theorem block3 (x : Arr F) (t : Fin cfg1.N) : ((cfg1.win 3).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_3.index t (0 : Fin 2) * 1024 + 1 * (j 0).val = t.val * 1024 + (j 0).val; omega
  | ⟨1, _⟩ => show win1_3.index t (1 : Fin 2) * 128 + 1 * (j 1).val = (j 1).val; omega
theorem block4 (x : Arr F) (t : Fin cfg1.N) : ((cfg1.win 4).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_4.index t (0 : Fin 2) * 1024 + 1 * (j 0).val = t.val * 1024 + (j 0).val; omega
  | ⟨1, _⟩ => show win1_4.index t (1 : Fin 2) * 128 + 1 * (j 1).val = (j 1).val; omega
theorem block5 (x : Arr F) (t : Fin cfg1.N) : ((cfg1.win 5).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_5.index t (0 : Fin 2) * 1024 + 1 * (j 0).val = t.val * 1024 + (j 0).val; omega
  | ⟨1, _⟩ => show win1_5.index t (1 : Fin 2) * 128 + 1 * (j 1).val = (j 1).val; omega
theorem block6 (x : Arr F) (t : Fin cfg1.N) : ((cfg1.win 6).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_6.index t (0 : Fin 2) * 1024 + 1 * (j 0).val = t.val * 1024 + (j 0).val; omega
  | ⟨1, _⟩ => show win1_6.index t (1 : Fin 2) * 128 + 1 * (j 1).val = (j 1).val; omega
theorem block7 (x : Arr F) (t : Fin cfg1.N) : ((cfg1.win 7).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_7.index t (0 : Fin 2) * 1024 + 1 * (j 0).val = t.val * 1024 + (j 0).val; omega
  | ⟨1, _⟩ => show win1_7.index t (1 : Fin 2) * 128 + 1 * (j 1).val = (j 1).val; omega
theorem block8 (x : Arr F) (t : Fin cfg1.N) : ((cfg1.win 8).blk t).view.read (Elt F) x = rows x t := by
  obtain ⟨p0, q0, p1, q1, p2, q2, p3, q3, p4, q4, p5, q5, p6, q6, p7, q7, p8, q8⟩ := at_rows t
  funext j
  refine congrArg x (funext fun a => Fin.ext ?_)
  match a with
  | ⟨0, _⟩ => show win1_8.index t (0 : Fin 2) * 1024 + 1 * (j 0).val = t.val * 1024 + (j 0).val; omega
  | ⟨1, _⟩ => show win1_8.index t (1 : Fin 2) * 128 + 1 * (j 1).val = (j 1).val; omega

/-- A grid point finds the rows it reads in its staging buffers. -/
theorem before0 (c : Dev nD) (t : Fin cfg1.N) (d) : (adamDat X Y c).before 0 t d = rows (X c 0) t :=
  ((adamDat X Y c).before_in_eq_fetched 0 rfl (fun _ => rfl) (fun _ _ _ => rfl)
    (fun t => by rw [after0]; unfold Dat.blockOf; rw [entry0]; exact (block0 _ t).symm) t d).trans
    (by unfold Dat.fetched Dat.blockOf; rw [entry0]; exact block0 (X c 0) t)
theorem before1 (c : Dev nD) (t : Fin cfg1.N) (d) : (adamDat X Y c).before 1 t d = rows (X c 1) t :=
  ((adamDat X Y c).before_in_eq_fetched 1 rfl (fun _ => rfl) (fun _ _ _ => rfl)
    (fun t => by rw [after1]; unfold Dat.blockOf; rw [entry1]; exact (block1 _ t).symm) t d).trans
    (by unfold Dat.fetched Dat.blockOf; rw [entry1]; exact block1 (X c 1) t)
theorem before2 (c : Dev nD) (t : Fin cfg1.N) (d) : (adamDat X Y c).before 2 t d = rows (X c 2) t :=
  ((adamDat X Y c).before_in_eq_fetched 2 rfl (fun _ => rfl) (fun _ _ _ => rfl)
    (fun t => by rw [after2]; unfold Dat.blockOf; rw [entry2]; exact (block2 _ t).symm) t d).trans
    (by unfold Dat.fetched Dat.blockOf; rw [entry2]; exact block2 (X c 2) t)
theorem before3 (c : Dev nD) (t : Fin cfg1.N) (d) : (adamDat X Y c).before 3 t d = rows (X c 3) t :=
  ((adamDat X Y c).before_in_eq_fetched 3 rfl (fun _ => rfl) (fun _ _ _ => rfl)
    (fun t => by rw [after3]; unfold Dat.blockOf; rw [entry3]; exact (block3 _ t).symm) t d).trans
    (by unfold Dat.fetched Dat.blockOf; rw [entry3]; exact block3 (X c 3) t)
theorem before4 (c : Dev nD) (t : Fin cfg1.N) (d) : (adamDat X Y c).before 4 t d = rows (X c 4) t :=
  ((adamDat X Y c).before_in_eq_fetched 4 rfl (fun _ => rfl) (fun _ _ _ => rfl)
    (fun t => by rw [after4]; unfold Dat.blockOf; rw [entry4]; exact (block4 _ t).symm) t d).trans
    (by unfold Dat.fetched Dat.blockOf; rw [entry4]; exact block4 (X c 4) t)

theorem row_eq (t : Fin cfg1.N) : defs₀ (F := F) .tc cfg1.body (cfg1.bodyArgs t (cfg1.slots t)) = Gen.bodyAt1 t := by
  unfold defs₀; rw [Defs.onTc_tc]

set_option maxHeartbeats 1000000 in
/-- Every grid point's body meets the call's data. -/
theorem points (c : Dev nD) : BodyObligation (adamDat X Y c) (defs₀ (F := F)) Variants.none () Set.univ := fun t => by
  rw [Gen.bigSep_W1, Gen.bigSep_W1, row_eq]
  have h : iprop((adamDat X Y c).Φ t.castSucc ∗ (adamDat X Y c).owesAt () t.castSucc
        ∗ (∃ d, owns (c : Thread nD τ) (Gen.st1_0 t) fullShare ((adamDat X Y c).before 0 t d))
        ∗ (∃ d, owns (c : Thread nD τ) (Gen.st1_1 t) fullShare ((adamDat X Y c).before 1 t d))
        ∗ (∃ d, owns (c : Thread nD τ) (Gen.st1_2 t) fullShare ((adamDat X Y c).before 2 t d))
        ∗ (∃ d, owns (c : Thread nD τ) (Gen.st1_3 t) fullShare ((adamDat X Y c).before 3 t d))
        ∗ (∃ d, owns (c : Thread nD τ) (Gen.st1_4 t) fullShare ((adamDat X Y c).before 4 t d))
        ∗ (∃ d, owns (c : Thread nD τ) (Gen.st1_5 t) fullShare ((adamDat X Y c).before 5 t d))
        ∗ (∃ d, owns (c : Thread nD τ) (Gen.st1_6 t) fullShare ((adamDat X Y c).before 6 t d))
        ∗ (∃ d, owns (c : Thread nD τ) (Gen.st1_7 t) fullShare ((adamDat X Y c).before 7 t d))
        ∗ (∃ d, owns (c : Thread nD τ) (Gen.st1_8 t) fullShare ((adamDat X Y c).before 8 t d)))
      ⊢ wp frame (wpE (defs₀ (F := F)) Variants.none c none) Set.univ (Gen.bodyAt1 t) (fun _ =>
        iprop((adamDat X Y c).Φ t.succ ∗ (adamDat X Y c).owesAt () t.succ
          ∗ owns (c : Thread nD τ) (Gen.st1_0 t) fullShare ((adamDat X Y c).after 0 t)
          ∗ owns (c : Thread nD τ) (Gen.st1_1 t) fullShare ((adamDat X Y c).after 1 t)
          ∗ owns (c : Thread nD τ) (Gen.st1_2 t) fullShare ((adamDat X Y c).after 2 t)
          ∗ owns (c : Thread nD τ) (Gen.st1_3 t) fullShare ((adamDat X Y c).after 3 t)
          ∗ owns (c : Thread nD τ) (Gen.st1_4 t) fullShare ((adamDat X Y c).after 4 t)
          ∗ owns (c : Thread nD τ) (Gen.st1_5 t) fullShare ((adamDat X Y c).after 5 t)
          ∗ owns (c : Thread nD τ) (Gen.st1_6 t) fullShare ((adamDat X Y c).after 6 t)
          ∗ owns (c : Thread nD τ) (Gen.st1_7 t) fullShare ((adamDat X Y c).after 7 t)
          ∗ owns (c : Thread nD τ) (Gen.st1_8 t) fullShare ((adamDat X Y c).after 8 t))) := by
    unfold Gen.bodyAt1
    simp only [before0, before1, before2, before3, before4]
    rw [show (adamDat X Y c).Φ t.succ = (adamDat X Y c).Φ t.castSucc from rfl,
      show (adamDat X Y c).owesAt () t.succ = (adamDat X Y c).owesAt () t.castSucc from rfl,
      after0, after1, after2, after3, after4, after5, after6, after7, after8]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (point c (grid1.coords t) _ _ _ _ _ _ _ _ _ _ _ _ _ _ _ _ _ _ (X c) t _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact triple_restated h rfl .rfl fun _ => .rfl

/-! ## What the call leaves -/

/-- Every row is in some grid point's block. -/
theorem row_point (i : S63488x128.Idx) : ∃ t : Fin cfg1.N, t.val = (i 0).val / 1024 := by
  have h0 : (i 0).val < 63488 := (i 0).isLt
  exact ⟨⟨(i 0).val / 1024, Nat.lt_of_lt_of_eq (by omega) Gen.N_1.symm⟩, rfl⟩

theorem left0 (c : Dev nD) (n : ℕ) : (adamDat X Y c).arrAt 0 n = X c 0 := ((adamDat X Y c).arrAt_in 0 rfl _).trans (entry0 X Y c)
theorem left1 (c : Dev nD) (n : ℕ) : (adamDat X Y c).arrAt 1 n = X c 1 := ((adamDat X Y c).arrAt_in 1 rfl _).trans (entry1 X Y c)
theorem left2 (c : Dev nD) (n : ℕ) : (adamDat X Y c).arrAt 2 n = X c 2 := ((adamDat X Y c).arrAt_in 2 rfl _).trans (entry2 X Y c)
theorem left3 (c : Dev nD) (n : ℕ) : (adamDat X Y c).arrAt 3 n = X c 3 := ((adamDat X Y c).arrAt_in 3 rfl _).trans (entry3 X Y c)
theorem left4 (c : Dev nD) (n : ℕ) : (adamDat X Y c).arrAt 4 n = X c 4 := ((adamDat X Y c).arrAt_in 4 rfl _).trans (entry4 X Y c)

/-- After the call array 5 holds what the call makes there. -/
theorem left5 (c : Dev nD) : (adamDat X Y c).arrAt 5 cfg1.N = made (X c) 0 :=
  (adamDat X Y c).arrAt_eq_of_cover 5 _ (fun t _ => by
    show (cfg1.win 5).cut (grid1.coords t) ((adamDat X Y c).after 5 t) = _
    rw [after5]
    exact (block5 _ t).symm) fun i => by
    have h0 : (i 0).val < 63488 := (i 0).isLt
    have h1 : (i 1).val < 128 := (i 1).isLt
    obtain ⟨t, ht⟩ := row_point i
    obtain ⟨p0, q0, p1, q1, p2, q2, p3, q3, p4, q4, p5, q5, p6, q6, p7, q7, p8, q8⟩ := at_rows t
    refine ⟨t, Gen.flush1_5 t, ?_⟩
    show i ∈ ((View.whole main_v2_0).slice (win1_5.rect t)).set
    rw [View.set_slice_whole, Rect.mem_set_unit]
    intro a
    match a with
    | ⟨0, _⟩ => show win1_5.index t (0 : Fin 2) * 1024 ≤ (i 0).val ∧ (i 0).val < win1_5.index t (0 : Fin 2) * 1024 + 1024; omega
    | ⟨1, _⟩ => show win1_5.index t (1 : Fin 2) * 128 ≤ (i 1).val ∧ (i 1).val < win1_5.index t (1 : Fin 2) * 128 + 128; omega

/-- After the call array 6 holds what the call makes there. -/
theorem left6 (c : Dev nD) : (adamDat X Y c).arrAt 6 cfg1.N = made (X c) 1 :=
  (adamDat X Y c).arrAt_eq_of_cover 6 _ (fun t _ => by
    show (cfg1.win 6).cut (grid1.coords t) ((adamDat X Y c).after 6 t) = _
    rw [after6]
    exact (block6 _ t).symm) fun i => by
    have h0 : (i 0).val < 63488 := (i 0).isLt
    have h1 : (i 1).val < 128 := (i 1).isLt
    obtain ⟨t, ht⟩ := row_point i
    obtain ⟨p0, q0, p1, q1, p2, q2, p3, q3, p4, q4, p5, q5, p6, q6, p7, q7, p8, q8⟩ := at_rows t
    refine ⟨t, Gen.flush1_6 t, ?_⟩
    show i ∈ ((View.whole main_v2_1).slice (win1_6.rect t)).set
    rw [View.set_slice_whole, Rect.mem_set_unit]
    intro a
    match a with
    | ⟨0, _⟩ => show win1_6.index t (0 : Fin 2) * 1024 ≤ (i 0).val ∧ (i 0).val < win1_6.index t (0 : Fin 2) * 1024 + 1024; omega
    | ⟨1, _⟩ => show win1_6.index t (1 : Fin 2) * 128 ≤ (i 1).val ∧ (i 1).val < win1_6.index t (1 : Fin 2) * 128 + 128; omega

/-- After the call array 7 holds what the call makes there. -/
theorem left7 (c : Dev nD) : (adamDat X Y c).arrAt 7 cfg1.N = made (X c) 2 :=
  (adamDat X Y c).arrAt_eq_of_cover 7 _ (fun t _ => by
    show (cfg1.win 7).cut (grid1.coords t) ((adamDat X Y c).after 7 t) = _
    rw [after7]
    exact (block7 _ t).symm) fun i => by
    have h0 : (i 0).val < 63488 := (i 0).isLt
    have h1 : (i 1).val < 128 := (i 1).isLt
    obtain ⟨t, ht⟩ := row_point i
    obtain ⟨p0, q0, p1, q1, p2, q2, p3, q3, p4, q4, p5, q5, p6, q6, p7, q7, p8, q8⟩ := at_rows t
    refine ⟨t, Gen.flush1_7 t, ?_⟩
    show i ∈ ((View.whole main_v2_2).slice (win1_7.rect t)).set
    rw [View.set_slice_whole, Rect.mem_set_unit]
    intro a
    match a with
    | ⟨0, _⟩ => show win1_7.index t (0 : Fin 2) * 1024 ≤ (i 0).val ∧ (i 0).val < win1_7.index t (0 : Fin 2) * 1024 + 1024; omega
    | ⟨1, _⟩ => show win1_7.index t (1 : Fin 2) * 128 ≤ (i 1).val ∧ (i 1).val < win1_7.index t (1 : Fin 2) * 128 + 128; omega

/-- After the call array 8 holds what the call makes there. -/
theorem left8 (c : Dev nD) : (adamDat X Y c).arrAt 8 cfg1.N = made (X c) 3 :=
  (adamDat X Y c).arrAt_eq_of_cover 8 _ (fun t _ => by
    show (cfg1.win 8).cut (grid1.coords t) ((adamDat X Y c).after 8 t) = _
    rw [after8]
    exact (block8 _ t).symm) fun i => by
    have h0 : (i 0).val < 63488 := (i 0).isLt
    have h1 : (i 1).val < 128 := (i 1).isLt
    obtain ⟨t, ht⟩ := row_point i
    obtain ⟨p0, q0, p1, q1, p2, q2, p3, q3, p4, q4, p5, q5, p6, q6, p7, q7, p8, q8⟩ := at_rows t
    refine ⟨t, Gen.flush1_8 t, ?_⟩
    show i ∈ ((View.whole main_v2_3).slice (win1_8.rect t)).set
    rw [View.set_slice_whole, Rect.mem_set_unit]
    intro a
    match a with
    | ⟨0, _⟩ => show win1_8.index t (0 : Fin 2) * 1024 ≤ (i 0).val ∧ (i 0).val < win1_8.index t (0 : Fin 2) * 1024 + 1024; omega
    | ⟨1, _⟩ => show win1_8.index t (1 : Fin 2) * 128 ≤ (i 1).val ∧ (i 1).val < win1_8.index t (1 : Fin 2) * 128 + 128; omega

end Cert.UpdateIdeal
-- ==== Proof.Update.lean ====
/-
  The updating program: the two cores of a chip swap their halves of the gradient, then every device adds the two and
  takes AdamW with the sum. The run is over any float values; the claims read it at bits and at the ideal values.
-/
module

public import proofs.«01_k».proof.Defs
public import proofs.«01_k».proof.Proof.Scatter
public import proofs.«01_k».proof.Proof.AdamW
public import proofs.«01_k».proof.Proof.Gen.UpdateIdeal.Regions
public import proofs.«01_k».proof.Proof.Gen.Update
public import proofs.«01_k».proof.Proof.Gen.UpdateRefIdeal.Run

@[expose] public section

noncomputable section

namespace Cert.UpdateIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat launchCred entry)
open Cert.Talking

variable {F : FTy → Type} [FloatOps F]

local notation "𝕄" => MT nD τ sig Unit (Elt F) ℕ (UU nD τ sig) ℕ

/-! ## The protocol -/

/-- The other core of a device's chip. -/
abbrev twin (c : Dev nD) : Dev nD := ⟨k0_dev1 c, Facts₀.k0_dev1_lt c⟩

theorem twin_twin : ∀ c, twin (twin c) = c := by decide +kernel

/-- The two completions of a device: its send and its receipt. -/
def talk : Talk sig where
  n := 2
  sem := fun i => .dma (i.castLE (by decide))
  inj := fun _ _ h => Fin.castLE_injective _ (SemLoc.dma.inj h)
  N := (Memref.whole main_v1 : Memref sig .tc .hbm S63488x128 .f32).view.dmaCredit
  pos := View.dmaCredit_pos _ (by decide)

theorem talk_scoped : ∀ i, (talk.sem i).isScoped .tc = true := by decide

theorem all_scoped : ∀ s : SemLoc sig, s.isScoped .tc = true := by decide

/-- Whose completion each one is: a receipt is the work of the twin. -/
def peer : Fin talk.n → Dev nD → Dev nD
  | ⟨1, _⟩ => twin
  | _ => id

theorem peer_peer : ∀ j c, peer j (peer j c) = c := by decide +kernel

/-- What every device owes its twin at launch. -/
abbrev O₀ : Dev nD → CellTallies nD τ sig Unit := talk.due τ peer [⟨1, by decide⟩]

variable (m : (ℓ : Loc nD τ sig) → Buf (Elt F) ℓ)

/-- The half a device receives: its twin's. -/
def theirs (c : Dev nD) : Arr F := m (((twin c).tc : Thread nD τ).loc main_arg3)

/-- The half a device has. -/
abbrev half (c : Dev nD) : sProp 𝕄 := (((c.tc : Thread nD τ).loc main_arg3) ↦{fullShare} m ((c.tc : Thread nD τ).loc main_arg3))

/-- The half a device receives, in its place. -/
abbrev got (c : Dev nD) : sProp 𝕄 := (((c.tc : Thread nD τ).loc main_v1) ↦{fullShare} theirs m c)

/-- What each completion hands its device: the send, its half back; the receipt, the twin's half. -/
def pay (c : Dev nD) (i : Fin talk.n) : sProp 𝕄 :=
  match (show Fin 2 from i) with
  | ⟨0, _⟩ => half m c
  | ⟨_ + 1, _⟩ => got m c

instance pay_storable (c : Dev nD) (i : Fin talk.n) : Storable (upEmb : UEmb _ 𝕄) (pay m c i) := by
  unfold pay; split <;> infer_instance

/-- A half sent is in its place on the twin. -/
theorem sent (c : Dev nD) : ((((twin c).tc : Thread nD τ).loc main_v1) ↦[(Memref.whole main_v1 : Memref sig .tc .hbm S63488x128 .f32).view.set]{fullShare}
      ((Memref.whole main_v1 : Memref sig .tc .hbm S63488x128 .f32).view.write (Elt F) (m (((twin c).tc : Thread nD τ).loc main_v1))
        ((Memref.whole main_arg3 : Memref sig .tc .hbm S63488x128 .f32).view.read (Elt F) (m ((c.tc : Thread nD τ).loc main_arg3))) Finset.univ) : sProp 𝕄)
    ⊢ pay m (twin c) (1 : Fin 2) := by
  rw [pointsTo_congr (write_eq (Memref.whole main_v1 : Memref sig .tc .hbm S63488x128 .f32).view (Memref.whole main_arg3 : Memref sig .tc .hbm S63488x128 .f32).view
    (m (((twin c).tc : Thread nD τ).loc main_v1)) (theirs m (twin c)) _ (fun x => by
      rw [View.read_apply, View.read_apply]
      unfold theirs; rw [twin_twin]; rfl))]
  exact Entails.of_eq (by rw [show (Memref.whole main_v1 : Memref sig .tc .hbm S63488x128 .f32).view.set = Finset.univ from View.set_whole main_v1]; rfl)

/-! ## The call -/

/-- What a device hands its twin before the call: the token of its receipt and the place it fills. -/
def away (c : Dev nD) : sProp 𝕄 :=
  iprop(talk.tok (τ := τ) c (1 : Fin 2) ∗ (((c.tc : Thread nD τ).loc main_v1) ↦{fullShare} m ((c.tc : Thread nD τ).loc main_v1)))

/-- What the first call leaves alone: the weight, the moments, the places of the results. -/
def rest (c : Dev nD) : sProp 𝕄 :=
  iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_arg2) ↦{fullShare} m ((c.tc : Thread nD τ).loc main_arg2))
    ∗ (((c.tc : Thread nD τ).loc main_v2_0) ↦{fullShare} m ((c.tc : Thread nD τ).loc main_v2_0))
    ∗ (((c.tc : Thread nD τ).loc main_v2_1) ↦{fullShare} m ((c.tc : Thread nD τ).loc main_v2_1))
    ∗ (((c.tc : Thread nD τ).loc main_v2_2) ↦{fullShare} m ((c.tc : Thread nD τ).loc main_v2_2))
    ∗ (((c.tc : Thread nD τ).loc main_v2_3) ↦{fullShare} m ((c.tc : Thread nD τ).loc main_v2_3)))

/-- What a device keeps for the call: its half, the rest, its positions, the token of its send, its credit. -/
def own (c : Dev nD) : sProp 𝕄 :=
  iprop(half m c ∗ rest m c ∗ (bigSep Finset.univ fun i : Fin 2 => talk.at0 (τ := τ) c i) ∗ talk.tok (τ := τ) c (0 : Fin 2) ∗ launchCred O₀ c)

/-- What a device starts the call with. -/
def start (κ : Dev nD × Fin talk.n → ℕ) (c : Dev nD) : sProp 𝕄 :=
  iprop(talk.invs (τ := τ) (pay m) κ ∗ own m c ∗ away m (twin c))

/-- What it ends the call with: both halves, and the rest. -/
def done (c : Dev nD) : sProp 𝕄 := iprop(half m c ∗ got m c ∗ rest m c)

set_option maxHeartbeats 1000000 in
/-- The kernel's body, from its start to its end, the debt to the twin paid. -/
theorem body (κ : Dev nD × Fin talk.n → ℕ) (c : Dev nD) (t : Fin cfg0.N) :
    iprop(start m κ c ∗ ∃ W, owes (c.tc : Thread nD τ) (O₀ c) W)
      ⊢ wp frame (wpE defs₀ Variants.none (c.tc : Thread nD τ) none) Set.univ (defs₀ (F := F) .tc (cfg0).body ((cfg0).bodyArgs t ((cfg0).slots t)))
          fun _ => iprop((done m c ∗ bigSep Finset.univ fun i => semVal (talk.cell τ c i) 0) ∗ ∃ W, owes (c.tc : Thread nD τ) (0 : CellTallies nD τ sig Unit) W) := by
  have hcred : (launchCred O₀ c : sProp 𝕄) ⊢ cred (tallyAt (talk.cell τ c (1 : Fin 2)) () talk.N) := by
    rw [talk.launch_cred peer peer_peer]
    simp only [Talk.due, cred_add]
    show _ ⊢ (_ : sProp 𝕄)
    iintro ⟨-, H⟩
    iexact H
  show _ ⊢ wp frame _ _ (cc0_swap_cores (Memref.whole main_arg3) (Memref.isWhole_whole _) (Memref.whole main_v1) (Memref.isWhole_whole _) cc0_scratch0 cc0_scratch1) _
  simp only [Gen.cc0_swap_cores_eq_skeleton]
  unfold Gen.cc0_swap_cores_skel
  simp only [Prog.lift, Prog.bind_op, Prog.bind_ret, Prog.pure_eq_ret, wp_deviceId]
  unfold start own away
  iintro ⟨⟨#Hinv, ⟨Ha, Hr, Hat, Ht0, Hc⟩, Ht1, Hv⟩, HO⟩
  ihave Hc := hcred $$ Hc
  ihave Hat := (Entails.of_eq (bigSep_two _)) $$ Hat
  icases Hat with ⟨A0, A1⟩
  iapply (talk.wp_swap Variants.none (pay m) κ c (twin c) (0 : Fin 2) (1 : Fin 2)
    (a := Memref.whole main_arg3) (D := Memref.whole main_v1) rfl rfl (fun _ => rfl) (fun _ => rfl)
    (q := fullShare) (f := m ((c.tc : Thread nD τ).loc main_arg3)) (g := m (((twin c).tc : Thread nD τ).loc main_v1)) rfl
    (Entails.of_eq (by rw [show (Memref.whole main_arg3 : Memref sig .tc .hbm S63488x128 .f32).view.set = Finset.univ from View.set_whole main_arg3]; rfl))
    (sent m c)) $$ [Ha Hv Ht0 Ht1 A0 A1 Hc HO]
  · isplitr; · iexact Hinv
    isplitl [Ha]
    · iapply (Entails.of_eq (by rw [show (Memref.whole main_arg3 : Memref sig .tc .hbm S63488x128 .f32).view.set = Finset.univ from View.set_whole main_arg3])) $$ Ha
    isplitl [Hv]
    · iapply (Entails.of_eq (by rw [show (Memref.whole main_v1 : Memref sig .tc .hbm S63488x128 .f32).view.set = Finset.univ from View.set_whole main_v1])) $$ Hv
    isplitl [Ht0 Ht1]; · isplitl [Ht0] <;> iassumption
    isplitl [A0 A1]; · isplitl [A0] <;> iassumption
    isplitl [Hc]; · iexact Hc
    icases HO with ⟨%W, HO⟩
    iexists W
    iexact HO
  iintro ⟨⟨Hp0, Hp1⟩, ⟨S0, S1⟩, HO⟩
  iapply (Entails.of_eq (wp_ret ..).symm)
  imodintro
  isplitr [HO]
  · isplitl [Hp0 Hp1 Hr]
    · unfold done
      isplitl [Hp0]; · iapply (Entails.of_eq (show pay m c (0 : Fin 2) = half m c from rfl)) $$ Hp0
      isplitl [Hp1]; · iapply (Entails.of_eq (show pay m c (1 : Fin 2) = got m c from rfl)) $$ Hp1
      iexact Hr
    · iapply (Entails.of_eq (bigSep_two _).symm) $$ [S0 S1]
      isplitl [S0] <;> iassumption
  iexact HO

/-! ## The run -/

/-- The five arrays the second call reads. -/
def read (c : Dev nD) : Fin 5 → Arr F
  | ⟨0, _⟩ => m ((c.tc : Thread nD τ).loc main_arg0)
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => theirs m c

/-- The four it writes, as they were. -/
def old (c : Dev nD) : Fin 4 → Arr F
  | ⟨0, _⟩ => m ((c.tc : Thread nD τ).loc main_v2_0)
  | ⟨1, _⟩ => m ((c.tc : Thread nD τ).loc main_v2_1)
  | ⟨2, _⟩ => m ((c.tc : Thread nD τ).loc main_v2_2)
  | ⟨3, _⟩ => m ((c.tc : Thread nD τ).loc main_v2_3)

/-- The proof data of the two calls: the swap, then AdamW with what it leaves. -/
def dats (κ : Dev nD × Fin talk.n → ℕ) (p : Fin 2) (c : Dev nD) : Dat τ (Elt F) Unit ℕ (UU nD τ sig) ℕ (cfgs p) c :=
  match p with
  | ⟨0, _⟩ => Talk.dat cfg0 rfl c iprop(start m κ c ∗ scopedBufs (c.tc : Thread nD τ))
      iprop((done m c ∗ bigSep Finset.univ fun i => semVal (talk.cell τ c i) 0) ∗ scopedBufs (c.tc : Thread nD τ)) (O₀ c)
  | ⟨1, _⟩ => adamDat (read m) (old m) c
  | ⟨_ + 2, h⟩ => absurd h (Nat.not_lt.2 (Nat.le_add_left _ _))

/-- What a device holds once the launch has dealt everyone their tokens and places. -/
def dealt (c : Dev nD) : sProp 𝕄 :=
  iprop(∃ κ : Dev nD × Fin talk.n → ℕ, start m κ c ∗ talk.kit (pcfgs (F := F)) (fun p => (cfgs p).toPCfg_adm) O₀ c)

/-- The launch deals every device what it starts with. -/
theorem deal :
    iprop((bigSep Finset.univ fun c : Dev nD => iprop(boundary (c.tc : Thread nD τ)
          ∗ unscopedBufs c (fun b => m ((c.tc : Thread nD τ).loc b)) ∗ owes (c.tc : Thread nD τ) (O₀ c) ∅ ∗ launchCred O₀ c))
        ∗ ownU (talk.ghost₀ (pcfgs (F := F)) (fun p => (cfgs p).toPCfg_adm) Gen.cellOf_inj)) ⊢ |={Set.univ}=> bigSep Finset.univ (dealt m) := by
  have hbufs : ∀ c : Dev nD, (unscopedBufs c (fun b => m ((c.tc : Thread nD τ).loc b)) : sProp 𝕄)
      ⊢ iprop((((c.tc : Thread nD τ).loc main_arg0) ↦{fullShare} m ((c.tc : Thread nD τ).loc main_arg0))
        ∗ (((c.tc : Thread nD τ).loc main_arg1) ↦{fullShare} m ((c.tc : Thread nD τ).loc main_arg1))
        ∗ (((c.tc : Thread nD τ).loc main_arg2) ↦{fullShare} m ((c.tc : Thread nD τ).loc main_arg2))
        ∗ (((c.tc : Thread nD τ).loc main_arg3) ↦{fullShare} m ((c.tc : Thread nD τ).loc main_arg3))
        ∗ (((c.tc : Thread nD τ).loc main_v1) ↦{fullShare} m ((c.tc : Thread nD τ).loc main_v1))
        ∗ (((c.tc : Thread nD τ).loc main_v2_0) ↦{fullShare} m ((c.tc : Thread nD τ).loc main_v2_0))
        ∗ (((c.tc : Thread nD τ).loc main_v2_1) ↦{fullShare} m ((c.tc : Thread nD τ).loc main_v2_1))
        ∗ (((c.tc : Thread nD τ).loc main_v2_2) ↦{fullShare} m ((c.tc : Thread nD τ).loc main_v2_2))
        ∗ (((c.tc : Thread nD τ).loc main_v2_3) ↦{fullShare} m ((c.tc : Thread nD τ).loc main_v2_3))) := fun c => by
    have hrest : (Pipeline.unscopedRest (cfgs 0).spec c (fun b => m ((c.tc : Thread nD τ).loc b)) : sProp 𝕄) = _ := Gen.unscopedRest0_eq c _
    rw [Pipeline.unscopedBufs_split₀ cfgs 0 (fun w => w.elim0), hrest]
    show _ ⊢ (_ : sProp 𝕄)
    iintro ⟨-, H⟩
    iexact H
  refine (talk.launch talk_scoped (pcfgs (F := F)) (fun p => (cfgs p).toPCfg_adm) Gen.cellOf_inj (pay m) _ O₀).trans ?_
  have hone : ∀ (κ : Dev nD × Fin talk.n → ℕ) (c : Dev nD),
      iprop(talk.kit (pcfgs (F := F)) (fun p => (cfgs p).toPCfg_adm) O₀ c
            ∗ ((bigSep Finset.univ fun i : Fin talk.n => talk.at0 (τ := τ) c i) ∗ (bigSep Finset.univ fun i : Fin talk.n => talk.tok (τ := τ) c i))
            ∗ unscopedBufs c (fun b => m ((c.tc : Thread nD τ).loc b)) ∗ launchCred O₀ c)
        ⊢ (iprop((talk.kit (pcfgs (F := F)) (fun p => (cfgs p).toPCfg_adm) O₀ c ∗ own m c) ∗ away m c) : sProp 𝕄) := fun κ c => by
    iintro ⟨Hkit, ⟨Hat, Htok⟩, HU, Hc⟩
    ihave HU := (hbufs c) $$ HU
    icases HU with ⟨H0, H1, H2, Ha, Hv, H3, H4, H5, H6⟩
    ihave Htok := (Entails.of_eq (show (bigSep Finset.univ fun i : Fin talk.n => talk.tok (τ := τ) c i : sProp 𝕄) = _ from bigSep_two _)) $$ Htok
    icases Htok with ⟨T0, T1⟩
    isplitr [Hv T1]
    · isplitl [Hkit]; · iexact Hkit
      unfold own rest
      isplitl [Ha]; · iexact Ha
      isplitl [H0 H1 H2 H3 H4 H5 H6]
      · isplitl [H0]; · iexact H0
        isplitl [H1]; · iexact H1
        isplitl [H2]; · iexact H2
        isplitl [H3]; · iexact H3
        isplitl [H4]; · iexact H4
        isplitl [H5] <;> iassumption
      isplitl [Hat]; · iexact Hat
      isplitl [T0] <;> iassumption
    unfold away
    isplitl [T1] <;> iassumption
  have hall : ∀ κ : Dev nD × Fin talk.n → ℕ, (bigSep Finset.univ fun c : Dev nD => iprop(talk.kit (pcfgs (F := F)) (fun p => (cfgs p).toPCfg_adm) O₀ c
            ∗ ((bigSep Finset.univ fun i : Fin talk.n => talk.at0 (τ := τ) c i) ∗ (bigSep Finset.univ fun i : Fin talk.n => talk.tok (τ := τ) c i))
            ∗ unscopedBufs c (fun b => m ((c.tc : Thread nD τ).loc b)) ∗ launchCred O₀ c))
      ⊢ (bigSep Finset.univ fun c => iprop((talk.kit (pcfgs (F := F)) (fun p => (cfgs p).toPCfg_adm) O₀ c ∗ own m c) ∗ away m (twin c)) : sProp 𝕄) := fun κ => by
    have heq : (bigSep Finset.univ fun c => iprop((talk.kit (pcfgs (F := F)) (fun p => (cfgs p).toPCfg_adm) O₀ c ∗ own m c) ∗ away m (twin c)) : sProp 𝕄)
        = bigSep Finset.univ fun c => iprop((talk.kit (pcfgs (F := F)) (fun p => (cfgs p).toPCfg_adm) O₀ c ∗ own m c) ∗ away m c) := by
      simp only [bigSep_sep']
      rw [bigSep_peer twin twin_twin (away m)]
    rw [heq]
    exact bigSep_mono fun c _ => hone κ c
  have hinvs : ∀ κ : Dev nD × Fin talk.n → ℕ, talk.invs (τ := τ) (pay m) κ ⊢ (bigSep Finset.univ fun _ : Dev nD => talk.invs (τ := τ) (pay m) κ : sProp 𝕄) :=
    fun κ => bigSep_of_persistent Finset.univ _
  have hend : ∀ κ : Dev nD × Fin talk.n → ℕ, iprop((bigSep Finset.univ fun _ : Dev nD => talk.invs (τ := τ) (pay m) κ)
      ∗ bigSep Finset.univ fun c => iprop((talk.kit (pcfgs (F := F)) (fun p => (cfgs p).toPCfg_adm) O₀ c ∗ own m c) ∗ away m (twin c)))
      ⊢ bigSep Finset.univ (dealt m) := fun κ => by
    rw [← bigSep_sep']
    refine bigSep_mono fun c _ => ?_
    unfold dealt start
    show _ ⊢ (_ : sProp 𝕄)
    iintro ⟨Hi, ⟨Hkit, HX⟩, HA⟩
    iexists κ
    isplitr [Hkit]
    · isplitl [Hi]; · iexact Hi
      isplitl [HX] <;> iassumption
    iexact Hkit
  iintro >⟨%κ, #Hinv, H⟩
  imodintro
  ihave H := (hall κ) $$ H
  iapply (hend κ) $$ [H]
  isplitr [H]; · iapply (hinvs κ); iexact Hinv
  iexact H

/-- The swap in the program. -/
theorem region (κ : Dev nD × Fin talk.n → ℕ) (c : Dev nD) {α : Type}
    {k : PUnit → Prog (TpuEff nD τ sig (Elt F) (Pipeline.Sig Λ₀ (Fin 2) fun p => (pcfgs (F := F) p).Adm) .tc) α} {Q : α → sProp 𝕄} :
    iprop(start m κ c ∗ scopedBufs (c.tc : Thread nD τ) ∗ talk.otherSems c ∗ opIdle (c.tc : Thread nD τ) ∗ owes (c.tc : Thread nD τ) (O₀ c) ∅
        ∗ Pipeline.cellsGhost (Pipeline.pin (pcfgs (F := F)) (fun p => (cfgs p).toPCfg_adm)) EP 0 c
        ∗ Pipeline.toksInit (Pipeline.pin (pcfgs (F := F)) (fun p => (cfgs p).toPCfg_adm)) EP 0 c)
      ⊢ iprop(((done m c ∗ boundary (c.tc : Thread nD τ) ∗ ∃ W, owes (c.tc : Thread nD τ) (0 : CellTallies nD τ sig Unit) W)
            -∗ wp frame (wpE (Pipeline.defs pcfgs defs₀) (Variants.lift Variants.none) (c.tc : Thread nD τ) none) Set.univ (k ⟨⟩) Q)
          -∗ wp frame (wpE (Pipeline.defs pcfgs defs₀) (Variants.lift Variants.none) (c.tc : Thread nD τ) none) Set.univ (.op (.customCall (entry 0) ()) k) Q) :=
  talk.wp_region talk_scoped pcfgs (fun p => (cfgs p).toPCfg_adm) (dats m κ) Gen.cellOf_inj 0 defs₀ Variants.none rfl Gen.N_0 rfl c
    (Pre := start m κ c) (Post := done m c) (O := O₀ c) rfl (fun t => body m κ c t)

/-- The arrays the second call reads and the four at `y`. -/
def arrays (y : Dev nD → Fin 4 → Arr F) (c : Dev nD) : sProp 𝕄 :=
  iprop((((c.tc : Thread nD τ).loc main_arg0) ↦{fullShare} read m c 0)
    ∗ (((c.tc : Thread nD τ).loc main_arg1) ↦{fullShare} read m c 1)
    ∗ (((c.tc : Thread nD τ).loc main_arg2) ↦{fullShare} read m c 2)
    ∗ (((c.tc : Thread nD τ).loc main_arg3) ↦{fullShare} read m c 3)
    ∗ (((c.tc : Thread nD τ).loc main_v1) ↦{fullShare} read m c 4)
    ∗ (((c.tc : Thread nD τ).loc main_v2_0) ↦{fullShare} y c 0)
    ∗ (((c.tc : Thread nD τ).loc main_v2_1) ↦{fullShare} y c 1)
    ∗ (((c.tc : Thread nD τ).loc main_v2_2) ↦{fullShare} y c 2)
    ∗ (((c.tc : Thread nD τ).loc main_v2_3) ↦{fullShare} y c 3))

/-- The first call ends with the arrays the second starts with. -/
theorem done_arrays (c : Dev nD) : done m c ⊢ arrays m (old m) c := by
  unfold done rest arrays read old
  iintro ⟨Ha, Hv, H0, H1, H2, H3, H4, H5, H6⟩
  isplitl [H0]; · iexact H0
  isplitl [H1]; · iexact H1
  isplitl [H2]; · iexact H2
  isplitl [Ha]; · iexact Ha
  isplitl [Hv]; · iexact Hv
  isplitl [H3]; · iexact H3
  isplitl [H4]; · iexact H4
  isplitl [H5]; · iexact H5
  iexact H6

/-- What a device ends with: the arrays it read, and what the call makes of them. -/
abbrev finished (c : Dev nD) : sProp 𝕄 := arrays m (fun c => made (read m c)) c

set_option backward.isDefEq.respectTransparency.types false in
/-- AdamW in the program. -/
theorem adam_region (κ : Dev nD × Fin talk.n → ℕ) (c : Dev nD) {α : Type}
    {k : PUnit → Prog (TpuEff nD τ sig (Elt F) (Pipeline.Sig Λ₀ (Fin 2) fun p => (pcfgs (F := F) p).Adm) .tc) α} {Q : α → sProp 𝕄} :
    iprop(arrays m (old m) c ∗ boundary (c.tc : Thread nD τ) ∗ (∃ W, owes (c.tc : Thread nD τ) (0 : CellTallies nD τ sig Unit) W)
        ∗ Pipeline.cellsGhost (Pipeline.pin (pcfgs (F := F)) (fun p => (cfgs p).toPCfg_adm)) EP 1 c
        ∗ Pipeline.toksInit (Pipeline.pin (pcfgs (F := F)) (fun p => (cfgs p).toPCfg_adm)) EP 1 c)
      ⊢ iprop((finished m c ∗ boundary (c.tc : Thread nD τ) ∗ (∃ W, owes (c.tc : Thread nD τ) (0 : CellTallies nD τ sig Unit) W)
            -∗ wp frame (wpE (Pipeline.defs pcfgs defs₀) (Variants.lift Variants.none) (c.tc : Thread nD τ) none) Set.univ (k ⟨⟩) Q)
          -∗ wp frame (wpE (Pipeline.defs pcfgs defs₀) (Variants.lift Variants.none) (c.tc : Thread nD τ) none) Set.univ (.op (.customCall (entry 1) ()) k) Q) := by
  have hO : ∀ (c : Dev nD) t, (dats m κ 1 c).owed t = 0 := fun _ _ => rfl
  have hR : ∀ c : Dev nD, (dats m κ 1 c).recorded 0 = Set.univ := fun _ => rfl
  have hS : ∀ (c : Dev nD) w, (dats m κ 1 c).share w = fullShare := fun c w => whole_share (read m) (old m) c w
  have hΦ : ∀ (c : Dev nD) t, (dats m κ 1 c).Φ t = Pipeline.scopedRest (cfgs 1).spec c := fun _ _ => rfl
  have hcall := wp_quiet (pcfgs (F := F)) (fun p => (cfgs p).toPCfg_adm) (dats m κ) 1 Gen.launch1.toP rfl defs₀ Variants.none
    (fun c => (points (read m) (old m) c).loose) hO hR hS hΦ c (k := k) (Q := Q)
  have harr : ∀ (n : ℕ) (y : Fin 4 → Arr F), (adamDat (read m) (old m) c).arrAt 5 n = y 0 → (adamDat (read m) (old m) c).arrAt 6 n = y 1 → (adamDat (read m) (old m) c).arrAt 7 n = y 2
      → (adamDat (read m) (old m) c).arrAt 8 n = y 3 → (bigSep Finset.univ fun w : Fin 9 => (((c.tc : Thread nD τ).loc (Pipeline.arrRef spec1 w)) ↦{fullShare}
        (adamDat (read m) (old m) c).arrAt w n : sProp 𝕄)) = arrays m (fun _ => y) c := fun n y h5 h6 h7 h8 => by
    rw [Gen.bigSep_W1, left0, left1, left2, left3, left4, h5, h6, h7, h8]
    rfl
  have hin : _ = arrays m (old m) c := harr 0 (old m c) rfl rfl rfl rfl
  have hout : _ = finished m c := harr cfg1.N (made (read m c)) (left5 _ _ c) (left6 _ _ c) (left7 _ _ c) (left8 _ _ c)
  rw [← hin, ← hout]
  exact hcall

/-- The program on a device, from what the launch deals it. -/
theorem run_device (c : Dev nD) : dealt m c ⊢ wp frame (wpE defs (Variants.lift Variants.none) (c.tc : Thread nD τ) none) Set.univ (main (F := F) c)
    fun _ => iprop((finished m c ∗ boundary (c.tc : Thread nD τ)) ∗ ∃ W, owes (c.tc : Thread nD τ) (0 : CellTallies nD τ sig Unit) W) := by
  have hmain : main (F := F) c = (.op (.customCall (entry 0) ()) fun _ => .op (.customCall (entry 1) ()) fun _ => .ret ⟨⟩) := rfl
  rw [hmain]
  unfold dealt Talk.kit defs
  iintro ⟨%κ, Hs, Hb, Hsem, Hidle, HO, Hg, Ht⟩
  ihave Hg := (Entails.of_eq (bigSep_two _)) $$ Hg
  ihave Ht := (Entails.of_eq (bigSep_two _)) $$ Ht
  icases Hg with ⟨Hg, Hg'⟩
  icases Ht with ⟨Ht, Ht'⟩
  iapply (region m κ c) $$ [Hs Hb Hsem Hidle HO Hg Ht]
  · isplitl [Hs]; · iexact Hs
    isplitl [Hb]; · iexact Hb
    isplitl [Hsem]; · iexact Hsem
    isplitl [Hidle]; · iexact Hidle
    isplitl [HO]; · iexact HO
    isplitl [Hg] <;> iassumption
  iintro ⟨Hd, Hb, HO⟩
  ihave Hd := (done_arrays m c) $$ Hd
  iapply (adam_region m κ c) $$ [Hd Hb HO Hg' Ht']
  · isplitl [Hd]; · iexact Hd
    isplitl [Hb]; · iexact Hb
    isplitl [HO]; · iexact HO
    isplitl [Hg'] <;> iassumption
  iintro ⟨Hd, Hb, HO⟩
  iapply (Entails.of_eq (wp_ret ..).symm)
  imodintro
  isplitr [HO]
  · isplitl [Hd] <;> iassumption
  iexact HO

/-- The whole mesh: every device ends with what AdamW makes of its arrays and its twin's half of the gradient, its
    arguments as they were, every semaphore at zero. -/
theorem run_main (ρ : Dev nD → PrngReg) : θ_run (defs (F := F)) (onTc (τ := τ) (main (F := F))) ⟨m, fun _ => 0, ρ⟩ (fun r =>
    (∀ c : Dev nD, r.2.mem ((c.tc : Thread nD τ).loc main_v2_0) = made (read m c) 0
      ∧ r.2.mem ((c.tc : Thread nD τ).loc main_v2_1) = made (read m c) 1
      ∧ r.2.mem ((c.tc : Thread nD τ).loc main_v2_2) = made (read m c) 2
      ∧ r.2.mem ((c.tc : Thread nD τ).loc main_v2_3) = made (read m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine run_talk defs (Variants.lift Variants.none) m ρ main O₀ _ (dealt m) (finished m) (deal m) (run_device m)
    (fun c mem => mem.mem ((c.tc : Thread nD τ).loc main_v2_0) = made (read m c) 0
      ∧ mem.mem ((c.tc : Thread nD τ).loc main_v2_1) = made (read m c) 1
      ∧ mem.mem ((c.tc : Thread nD τ).loc main_v2_2) = made (read m c) 2
      ∧ mem.mem ((c.tc : Thread nD τ).loc main_v2_3) = made (read m c) 3
      ∧ mem.mem ((c.tc : Thread nD τ).loc main_arg0) = m ((c.tc : Thread nD τ).loc main_arg0)
      ∧ mem.mem ((c.tc : Thread nD τ).loc main_arg1) = m ((c.tc : Thread nD τ).loc main_arg1)
      ∧ mem.mem ((c.tc : Thread nD τ).loc main_arg2) = m ((c.tc : Thread nD τ).loc main_arg2)
      ∧ mem.mem ((c.tc : Thread nD τ).loc main_arg3) = m ((c.tc : Thread nD τ).loc main_arg3))
    (fun c s' => ?_) (fun s h hz => ⟨h, funext fun g' => hz g' ?_⟩)
  · unfold finished arrays
    iintro ⟨⟨H0, H1, H2, H3, -, H4, H5, H6, H7⟩, HS⟩
    imodintro
    icombine HS H0 gives %h0
    icombine HS H1 gives %h1
    icombine HS H2 gives %h2
    icombine HS H3 gives %h3
    icombine HS H4 gives %h4
    icombine HS H5 gives %h5
    icombine HS H6 gives %h6
    icombine HS H7 gives %h7
    isplitr [HS]
    · ipureintro
      exact ⟨funext fun i => h4 i (Finset.mem_univ i), funext fun i => h5 i (Finset.mem_univ i), funext fun i => h6 i (Finset.mem_univ i), funext fun i => h7 i (Finset.mem_univ i), funext fun i => h0 i (Finset.mem_univ i), funext fun i => h1 i (Finset.mem_univ i), funext fun i => h2 i (Finset.mem_univ i), funext fun i => h3 i (Finset.mem_univ i)⟩
    iexact HS
  · obtain ⟨⟨d, p⟩, s⟩ := g'
    by_cases hp : p = .tc
    · subst hp; exact Or.inr (all_scoped s)
    · exact Or.inl hp

/-! ## The results are the reference's, at the ideal values -/

/-- Where an element of a device's block is in the whole array. -/
abbrev place (c : Dev nD) (i : S63488x128.Idx) : (⟨2, ![253952, 128]⟩ : Shape).Idx :=
  Layout.TilesN.idx (S := ⟨2, ![63488, 128]⟩) (T := ⟨2, ![253952, 128]⟩) (kN := fun b => Layout.cutSize [2, 2, 2] ((![[0, 1], []] : Fin 2 → List Nat) b))
    (by decide) (Layout.meshBlock [2, 2, 2] ![[0, 1], []] c) i

/-- The blocks are the chips', in order. -/
theorem chip_block : ∀ c : Dev nD, Layout.meshLin [2, 2, 2] c.val [0, 1] = c.val / 2 := by decide +kernel

theorem place_row (c : Dev nD) (i : S63488x128.Idx) : (place c i 0).val = c.val / 2 * 63488 + (i 0).val := by
  show Layout.meshLin [2, 2, 2] c.val [0, 1] * 63488 + (i 0).val = _
  rw [chip_block]

theorem place_lane (c : Dev nD) (i : S63488x128.Idx) : (place c i 1).val = (i 1).val := by
  show 0 * 128 + (i 1).val = _
  omega

/-- A core and its twin are the two of a chip. -/
theorem two_cores : ∀ c : Dev nD, (c.val = c.val / 2 * 2 + 0 ∧ (twin c).val = c.val / 2 * 2 + 1) ∨ (c.val = c.val / 2 * 2 + 1 ∧ (twin c).val = c.val / 2 * 2 + 0) := by
  decide +kernel

/-- Where an element of a device's half is in the halves of all the devices. -/
abbrev halfPlace (d : Fin 8) (i : S63488x128.Idx) : (⟨2, ![507904, 128]⟩ : Shape).Idx :=
  ValueIdx.ix2 (⟨d.val * 63488 + (i 0).val, by have := d.isLt; have h : (i 0).val < 63488 := (i 0).isLt; omega⟩ : Fin 507904) (i 1)

/-- The whole gradient: the sum of its halves, as the reference takes it. -/
abbrev gradient (V : (⟨2, ![507904, 128]⟩ : Shape).Idx → Elt Ideal .f32) : (⟨2, ![253952, 128]⟩ : Shape).Idx → Elt Ideal .f32 :=
  shapeCast Cert.UpdateRefIdeal.S253952x128 (Host.reduceAdd (F := Ideal) (φ := .f32) (shapeCast Cert.UpdateRefIdeal.S4x2x63488x128 V Cert.UpdateRefIdeal.Gen.shapeCasts_S507904x128_S4x2x63488x128)
    (constant (F := Ideal) Cert.UpdateRefIdeal.S_ .f32 0x00000000#32) Cert.UpdateRefIdeal.Gen.reducesTo_S4x2x63488x128_S4x63488x128_d1 Cert.UpdateRefIdeal.Gen.h_S_)
    Cert.UpdateRefIdeal.Gen.shapeCasts_S4x63488x128_S253952x128

/-- One element of the whole gradient: the two cores' halves of it added. -/
theorem gradient_at (V : (⟨2, ![507904, 128]⟩ : Shape).Idx → Elt Ideal .f32) (c : Dev nD) (i : S63488x128.Idx) (k : Fin 2 → Fin 8)
    (hk : ∀ j, (k j).val = c.val / 2 * 2 + j.val) :
    (gradient V (place c i) : EReal) = ∑ j : Fin 2, (V (halfPlace (k j) i) : EReal) := by
  have hc : c.val / 2 < 4 := by have := c.isLt; change c.val < 8 at this; omega
  refine (shapeCast_apply _ _ (place c i) (ValueIdx.ix3 (⟨c.val / 2, hc⟩ : Fin 4) (i 0) (i 1)) ?_).trans ?_
  · refine (Shape.rowMajor_val_three _).trans (Eq.trans ?_ (Shape.rowMajor_val_two _).symm)
    show (c.val / 2 * 63488 + (i 0).val) * 128 + (i 1).val = (place c i 0).val * 128 + (place c i 1).val
    rw [place_row, place_lane]
  refine (Ideal.hostReduceAdd_r4_a1 (n0 := 4) (n1 := 2) (n2 := 63488) (n3 := 128) Cert.UpdateRefIdeal.Gen.reducesTo_S4x2x63488x128_S4x63488x128_d1 _ _ _).trans ?_
  have hz : (constant (F := Ideal) Cert.UpdateRefIdeal.S_ .f32 0x00000000#32) (Shape.Idx.first Cert.UpdateRefIdeal.Gen.h_S_) = (0 : EReal) := Ideal.ofBits_zero_f32
  rw [hz, zero_add]
  refine Finset.sum_congr rfl fun j _ => ?_
  refine (shapeCast_apply _ _ _ (halfPlace (k j) i) ?_).trans rfl
  refine (Shape.rowMajor_val_two _).trans (Eq.trans ?_ (Shape.rowMajor_val_four _).symm)
  show ((k j).val * 63488 + (i 0).val) * 128 + (i 1).val = ((c.val / 2 * 2 + j.val) * 63488 + (i 0).val) * 128 + (i 1).val
  rw [hk]

/-- A device's half is its block of the halves of all the devices. -/
theorem half_at (m : (ℓ : Loc nD τ sig) → Buf (Elt F) ℓ) (V : (⟨2, ![507904, 128]⟩ : Shape).Idx → Elt F .f32)
    (h : ∀ c : Dev nD, m ((c.tc : Thread nD τ).loc main_arg3) = Layout.block ⟨2, ![63488, 128]⟩ ⟨2, ![507904, 128]⟩ 0 8 c V)
    (d : Dev nD) (i : S63488x128.Idx) (k : Fin 8) (hk : k.val = d.val) : m ((d.tc : Thread nD τ).loc main_arg3) i = V (halfPlace k i) := by
  have e : m ((d.tc : Thread nD τ).loc main_arg3) i = V (Layout.Tiles.idx (S := ⟨2, ![63488, 128]⟩) (T := ⟨2, ![507904, 128]⟩) (a := 0) (k := 8)
      (by decide) d i) := by rw [h]; rfl
  rw [e]
  refine congrArg V (funext fun x => Fin.ext ?_)
  match x with
  | ⟨0, _⟩ => show d.val * 63488 + (i 0).val = k.val * 63488 + (i 0).val; rw [hk]
  | ⟨1, _⟩ => rfl

/-- The two halves a device adds make its block of the whole gradient. -/
theorem gradient_block (m : (ℓ : Loc nD τ sig) → Buf (Elt Ideal) ℓ) (V : (⟨2, ![507904, 128]⟩ : Shape).Idx → Elt Ideal .f32)
    (h : ∀ c : Dev nD, m ((c.tc : Thread nD τ).loc main_arg3) = Layout.block ⟨2, ![63488, 128]⟩ ⟨2, ![507904, 128]⟩ 0 8 c V)
    (c : Dev nD) (i : S63488x128.Idx) :
    (FloatOps.addf (read m c 3 i) (read m c 4 i) : Elt Ideal .f32) = gradient V (place c i) := by
  have hb : ∀ j : Fin 2, c.val / 2 * 2 + j.val < 8 := fun j => by have := j.isLt; have hc := c.isLt; change c.val < 8 at hc; omega
  refine Eq.trans ?_ (gradient_at V c i (fun j => ⟨_, hb j⟩) (fun _ => rfl)).symm
  rw [Fin.sum_univ_two]
  rcases two_cores c with ⟨h0, h1⟩ | ⟨h1, h0⟩
  · have e0 := half_at m V h c i ⟨_, hb 0⟩ h0.symm
    have e1 := half_at m V h (twin c) i ⟨_, hb 1⟩ h1.symm
    rw [← e0, ← e1]
    rfl
  · have e0 := half_at m V h (twin c) i ⟨_, hb 0⟩ h0.symm
    have e1 := half_at m V h c i ⟨_, hb 1⟩ h1.symm
    rw [← e0, ← e1]
    exact add_comm (G := EReal) _ _

/-! The reference's results, one element. -/

section reference

variable (G W M V : (⟨2, ![253952, 128]⟩ : Shape).Idx → Elt Ideal .f32)

theorem first_at : addf (mulf (broadcastInDim Cert.UpdateRefIdeal.S253952x128 ![] Cert.UpdateRefIdeal.Gen.bcast_S_S253952x128 (constant (F := Ideal) Cert.UpdateRefIdeal.S_ .f32 0x3F666666#32)) M) (mulf (broadcastInDim Cert.UpdateRefIdeal.S253952x128 ![] Cert.UpdateRefIdeal.Gen.bcast_S_S253952x128 (constant (F := Ideal) Cert.UpdateRefIdeal.S_ .f32 0x3DCCCCCD#32)) G)
    = fun y => first (G y) (M y) := rfl

theorem second_at : addf (mulf (broadcastInDim Cert.UpdateRefIdeal.S253952x128 ![] Cert.UpdateRefIdeal.Gen.bcast_S_S253952x128 (constant (F := Ideal) Cert.UpdateRefIdeal.S_ .f32 0x3F7FBE77#32)) V) (mulf (broadcastInDim Cert.UpdateRefIdeal.S253952x128 ![] Cert.UpdateRefIdeal.Gen.bcast_S_S253952x128 (constant (F := Ideal) Cert.UpdateRefIdeal.S_ .f32 0x3A83126F#32)) (mulf G G))
    = fun y => second (G y) (V y) := rfl

theorem step_at : mulf (broadcastInDim Cert.UpdateRefIdeal.S253952x128 ![] Cert.UpdateRefIdeal.Gen.bcast_S_S253952x128 (constant (F := Ideal) Cert.UpdateRefIdeal.S_ .f32 0xBA83126F#32)) (addf (Host.divf (Host.divf (addf (mulf (broadcastInDim Cert.UpdateRefIdeal.S253952x128 ![] Cert.UpdateRefIdeal.Gen.bcast_S_S253952x128 (constant (F := Ideal) Cert.UpdateRefIdeal.S_ .f32 0x3F666666#32)) M) (mulf (broadcastInDim Cert.UpdateRefIdeal.S253952x128 ![] Cert.UpdateRefIdeal.Gen.bcast_S_S253952x128 (constant (F := Ideal) Cert.UpdateRefIdeal.S_ .f32 0x3DCCCCCD#32)) G)) (broadcastInDim Cert.UpdateRefIdeal.S253952x128 ![] Cert.UpdateRefIdeal.Gen.bcast_S_S253952x128 (constant (F := Ideal) Cert.UpdateRefIdeal.S_ .f32 0x3F26BD02#32))) (addf (Host.sqrt (Host.divf (addf (mulf (broadcastInDim Cert.UpdateRefIdeal.S253952x128 ![] Cert.UpdateRefIdeal.Gen.bcast_S_S253952x128 (constant (F := Ideal) Cert.UpdateRefIdeal.S_ .f32 0x3F7FBE77#32)) V) (mulf (broadcastInDim Cert.UpdateRefIdeal.S253952x128 ![] Cert.UpdateRefIdeal.Gen.bcast_S_S253952x128 (constant (F := Ideal) Cert.UpdateRefIdeal.S_ .f32 0x3A83126F#32)) (mulf G G))) (broadcastInDim Cert.UpdateRefIdeal.S253952x128 ![] Cert.UpdateRefIdeal.Gen.bcast_S_S253952x128 (constant (F := Ideal) Cert.UpdateRefIdeal.S_ .f32 0x3C231ACC#32)))) (broadcastInDim Cert.UpdateRefIdeal.S253952x128 ![] Cert.UpdateRefIdeal.Gen.bcast_S_S253952x128 (constant (F := Ideal) Cert.UpdateRefIdeal.S_ .f32 0x322BCC77#32)))) (mulf (broadcastInDim Cert.UpdateRefIdeal.S253952x128 ![] Cert.UpdateRefIdeal.Gen.bcast_S_S253952x128 (constant (F := Ideal) Cert.UpdateRefIdeal.S_ .f32 0x3C23D70A#32)) W))
    = fun y => step (G y) (W y) (M y) (V y) := rfl

end reference

end Cert.UpdateIdeal

namespace Cert.Proof

open Idealize.ShloMosaic Idealize.ShloMosaic.TcCoe Idealize.SL.Sem

/-- The two kernels of the updating program are the same text in both of its printings, -/
theorem update_bodies : Cert.Update.defs₀ (F := Bits) = Cert.UpdateIdeal.defs₀ (F := Bits) := by
  refine congrArg Defs.onTc (funext fun l => funext fun x => ?_)
  match l, x with
  | ⟨0, _⟩, _ => rfl
  | ⟨1, _⟩, _ => rfl

/-- and so are the two calls. -/
theorem update_calls : Cert.Update.defs (F := Bits) = Cert.UpdateIdeal.defs (F := Bits) :=
  congrArg (Pipeline.defs Cert.UpdateIdeal.pcfgs) update_bodies

/-- The updating program at bits runs, keeps its arguments, and leaves every semaphore at zero. -/
theorem frame_update : Cert.quiescent_Update := fun m ρ _ => by
  rw [update_calls]
  exact (θ_run Cert.UpdateIdeal.defs _ _).mono (fun _ h => ⟨fun c => (h.1 c).2.2.2.2, h.2⟩) (Cert.UpdateIdeal.run_main (F := Bits) m ρ)

/-- The same at the ideal values. -/
theorem frame_updateIdeal : Cert.quiescent_UpdateIdeal := fun m ρ _ =>
  (θ_run Cert.UpdateIdeal.defs _ _).mono (fun _ h => ⟨fun c => (h.1 c).2.2.2.2, h.2⟩) (Cert.UpdateIdeal.run_main (F := Ideal) m ρ)

/-- AdamW with the sum of all the devices' halves runs and keeps its arguments. -/
theorem frame_updateRefIdeal : Cert.quiescent_UpdateRefIdeal := fun m ρ _ =>
  (θ_run Cert.UpdateRefIdeal.defs _ _).mono (fun r h => ⟨fun c => (h c).2.2.2.2, sem_eq_zero_of_no_sems (by decide) r.2⟩)
    (Cert.UpdateRefIdeal.Value.run (F := Ideal) m ρ)

open Cert.UpdateRefIdeal in
/-- The reference's run, its results by the element. -/
theorem update_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.UpdateIdeal.gradient (m ((c.tc : Thread nD τ).loc main_arg3))
      ∧ r.2.mem ((c.tc : Thread nD τ).loc main_v26) = (fun y => Cert.UpdateIdeal.step (F := Ideal) (Cert.UpdateIdeal.gradient (m ((c.tc : Thread nD τ).loc main_arg3)) y) (m ((c.tc : Thread nD τ).loc main_arg0) y) (m ((c.tc : Thread nD τ).loc main_arg1) y) (m ((c.tc : Thread nD τ).loc main_arg2) y))
      ∧ r.2.mem ((c.tc : Thread nD τ).loc main_v7) = (fun y => Cert.UpdateIdeal.first (F := Ideal) (Cert.UpdateIdeal.gradient (m ((c.tc : Thread nD τ).loc main_arg3)) y) (m ((c.tc : Thread nD τ).loc main_arg1) y))
      ∧ r.2.mem ((c.tc : Thread nD τ).loc main_v13) = (fun y => Cert.UpdateIdeal.second (F := Ideal) (Cert.UpdateIdeal.gradient (m ((c.tc : Thread nD τ).loc main_arg3)) y) (m ((c.tc : Thread nD τ).loc main_arg2) y))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c => ⟨(h c).1, (h c).2.1.trans (Cert.UpdateIdeal.step_at _ _ _ _), (h c).2.2.1.trans (Cert.UpdateIdeal.first_at _ _),
    (h c).2.2.2.1.trans (Cert.UpdateIdeal.second_at _ _), (h c).2.2.2.2⟩) (Value.run (F := Ideal) m ρ)

/-- Every device ends with its block of the gradient, of the step, and of the new moments. -/
theorem algebraic_update : Cert.algebraic_UpdateIdeal_UpdateRefIdeal := fun m ρ m' ρ' _ h => by
  have hg := fun c i => Cert.UpdateIdeal.gradient_block m _ (fun c => (h c).2.2.2) c i
  have h0 : ∀ c i, Cert.UpdateIdeal.read m c 0 i = _ := fun c i => congrFun (h c).1 i
  have h1 : ∀ c i, Cert.UpdateIdeal.read m c 1 i = _ := fun c i => congrFun (h c).2.1 i
  have h2 : ∀ c i, Cert.UpdateIdeal.read m c 2 i = _ := fun c i => congrFun (h c).2.2.1 i
  refine ⟨_, _, _, _, ?_, (θ_run Cert.UpdateRefIdeal.defs _ _).mono (fun _ hr => hr 0) (update_reference m' ρ')⟩
  refine (θ_run Cert.UpdateIdeal.defs _ _).mono (fun _ hr c => ⟨(hr.1 c).1.trans (funext fun i => ?_),
        (hr.1 c).2.1.trans (funext fun i => ?_), (hr.1 c).2.2.1.trans (funext fun i => ?_),
        (hr.1 c).2.2.2.1.trans (funext fun i => ?_), (hr.1 c).2.2.2.2⟩)
      (Cert.UpdateIdeal.run_main (F := Ideal) m ρ)
  · exact hg c i
  · show Cert.UpdateIdeal.step _ _ _ _ = _
    rw [hg, h0, h1, h2]
    rfl
  · show Cert.UpdateIdeal.first _ _ = _
    rw [hg, h1]
    rfl
  · show Cert.UpdateIdeal.second _ _ = _
    rw [hg, h2]
    rfl

end Cert.Proof
-- ==== Proof.Small.lean ====
/-
  The update of the small weights, on one device: the eight devices' parts of the gradients, as gathered, are added in the
  devices' order and AdamW is taken with their sum. The call has one grid point and every block is a whole array, so an
  array it leaves is what its one point stores.
-/
module

public import proofs.«01_k».proof.Defs
public import proofs.«01_k».proof.Proof.Update
public import proofs.«01_k».proof.Proof.Gen.Small.Frame
public import proofs.«01_k».proof.Proof.Gen.SmallIdeal.Value
public import proofs.«01_k».proof.Proof.Gen.SmallRefIdeal.Run

@[expose] public section

noncomputable section

namespace Cert.Windows

open Idealize.ShloMosaic

/-- A window with one block, the whole array. -/
abbrev Stays {N : ℕ} (w : Fin N → Fin 2 → ℕ) : Prop := ∀ t : Fin N, w t 0 = 0 ∧ w t 1 = 0

theorem stays {N A B : ℕ} {w : Fin N → Fin 2 → ℕ} (h : Stays w) (t : Fin N) {i j : (⟨2, ![A, B]⟩ : Shape).Idx}
    (h0 : (i 0).val = w t 0 * A + 1 * (j 0).val) (h1 : (i 1).val = w t 1 * B + 1 * (j 1).val) : i = j := by
  rw [(h t).1, Nat.zero_mul, Nat.zero_add, Nat.one_mul] at h0
  rw [(h t).2, Nat.zero_mul, Nat.zero_add, Nat.one_mul] at h1
  exact funext fun a => match a with
    | ⟨0, _⟩ => Fin.ext h0
    | ⟨1, _⟩ => Fin.ext h1

end Cert.Windows

namespace Cert.SmallIdeal

open Idealize.ShloMosaic Idealize.ShloMosaic.TcCoe Idealize.ShloMosaic.Tactic
open Cert.Windows (stays)
open Idealize.SL.Sem
open Cert.UpdateIdeal (first second step)

variable {F : FTy → Type} [FloatOps F]

/-- An array of the packed small weights, whole. -/
abbrev Packed (F : FTy → Type) [FloatOps F] : Type := S144x128.Idx → Elt F .f32

/-- The eight parts added in order. -/
abbrev added (p : Fin 8 → Packed F) : Packed F := fun i =>
  FloatOps.addf (FloatOps.addf (FloatOps.addf (FloatOps.addf (FloatOps.addf (FloatOps.addf (FloatOps.addf (p 0 i) (p 1 i)) (p 2 i)) (p 3 i)) (p 4 i)) (p 5 i)) (p 6 i)) (p 7 i)

theorem offset_zero : (![0, 0] : Fin 2 → ℕ) = fun _ => 0 := funext fun a => by fin_cases a <;> rfl

theorem stored_whole (p : Vec F S144x128 .f32) : View.canon [⟨Gen.r0_0, p⟩] = p :=
  View.canon_unit_zero (S := S144x128) offset_zero _ p

theorem loaded_whole (x : Vec F S144x128 .f32) : View.ld x Gen.r0_0 = x :=
  View.ld_unit_zero (S := S144x128) offset_zero _ x

/-! ## What the one grid point stores -/

section stores

variable (w m v : Packed F) (p : Fin 8 → Packed F)

theorem stores_gradient : Gen.out0_11 w m v (p 0) (p 1) (p 2) (p 3) (p 4) (p 5) (p 6) (p 7) = added p := by
  unfold Gen.out0_11
  simp only [loaded_whole, stored_whole]
  unfold Gen.k0_pay3
  simp only [shapeCast_self]
  rfl

theorem stores_step : Gen.out0_12 w m v (p 0) (p 1) (p 2) (p 3) (p 4) (p 5) (p 6) (p 7) = fun i => step (added p i) (w i) (m i) (v i) := by
  unfold Gen.out0_12 Gen.k0_pay7 Gen.k0_pay8 Gen.k0_pay9
  simp only [loaded_whole, stored_whole]
  unfold Gen.k0_pay2 Gen.k0_pay4 Gen.k0_pay5 Gen.k0_pay6 Gen.k0_pay3
  simp only [shapeCast_self]
  rfl

theorem stores_first : Gen.out0_13 w m v (p 0) (p 1) (p 2) (p 3) (p 4) (p 5) (p 6) (p 7) = fun i => first (added p i) (m i) := by
  unfold Gen.out0_13 Gen.k0_pay7
  simp only [loaded_whole, stored_whole]
  unfold Gen.k0_pay4 Gen.k0_pay3
  simp only [shapeCast_self]
  rfl

theorem stores_second : Gen.out0_14 w m v (p 0) (p 1) (p 2) (p 3) (p 4) (p 5) (p 6) (p 7) = fun i => second (added p i) (v i) := by
  unfold Gen.out0_14 Gen.k0_pay8 Gen.k0_pay9
  simp only [loaded_whole, stored_whole]
  unfold Gen.k0_pay1 Gen.k0_pay5 Gen.k0_pay6 Gen.k0_pay3
  simp only [shapeCast_self]
  rfl

end stores

/-! ## The arrays the point reads -/

variable (m : (ℓ : Loc nD τ sig) → Buf (Elt F) ℓ)

/-- A device's part, out of the parts as gathered. -/
def part (c : Dev nD) (k : Fin 8) : Packed F := fun i => m ((c.tc : Thread nD τ).loc main_arg3) (ValueIdx.ix3 k (i 0) (i 1))

/-- The slice at `k`, its first axis dropped, is part `k`. -/
theorem slice_part (x : S8x144x128.Idx → Elt F .f32) (k : Fin 8) (off : Fin 3 → ℕ) (ho : off = ![k.val, 0, 0]) (h : S8x144x128.Slices off S1x144x128)
    (h' : S1x144x128.ShapeCasts S144x128) :
    shapeCast S144x128 (extractStridedSlice S1x144x128 off x h) h' = fun i => x (ValueIdx.ix3 k (i 0) (i 1)) := by
  subst ho
  funext i
  refine (shapeCast_apply _ _ i (ValueIdx.ix3 (0 : Fin 1) (i 0) (i 1)) ?_).trans ?_
  · refine (Shape.rowMajor_val_three _).trans (Eq.trans ?_ (Shape.rowMajor_val_two _).symm)
    show (0 * 144 + (i 0).val) * 128 + (i 1).val = (i 0).val * 128 + (i 1).val
    omega
  · refine extractStridedSlice_apply _ _ _ _ _ fun a => ?_
    match a with
    | ⟨0, _⟩ => show k.val = k.val + 0; omega
    | ⟨1, _⟩ => show (i 0).val = 0 + (i 0).val; omega
    | ⟨2, _⟩ => show (i 1).val = 0 + (i 1).val; omega

theorem finds0 (c : Dev nD) : Gen.V m c main_v1 = part m c 0 := by
  refine Eq.trans ?_ (slice_part (m ((c.tc : Thread nD τ).loc main_arg3)) 0 _ rfl Gen.slices_S8x144x128_S1x144x128_0_0_0 Gen.shapeCasts_S1x144x128_S144x128)
  unfold Gen.V
  after_results_simp
  rfl
theorem finds1 (c : Dev nD) : Gen.V m c main_v3 = part m c 1 := by
  refine Eq.trans ?_ (slice_part (m ((c.tc : Thread nD τ).loc main_arg3)) 1 _ rfl Gen.slices_S8x144x128_S1x144x128_1_0_0 Gen.shapeCasts_S1x144x128_S144x128)
  unfold Gen.V
  after_results_simp
  rfl
theorem finds2 (c : Dev nD) : Gen.V m c main_v5 = part m c 2 := by
  refine Eq.trans ?_ (slice_part (m ((c.tc : Thread nD τ).loc main_arg3)) 2 _ rfl Gen.slices_S8x144x128_S1x144x128_2_0_0 Gen.shapeCasts_S1x144x128_S144x128)
  unfold Gen.V
  after_results_simp
  rfl
theorem finds3 (c : Dev nD) : Gen.V m c main_v7 = part m c 3 := by
  refine Eq.trans ?_ (slice_part (m ((c.tc : Thread nD τ).loc main_arg3)) 3 _ rfl Gen.slices_S8x144x128_S1x144x128_3_0_0 Gen.shapeCasts_S1x144x128_S144x128)
  unfold Gen.V
  after_results_simp
  rfl
theorem finds4 (c : Dev nD) : Gen.V m c main_v9 = part m c 4 := by
  refine Eq.trans ?_ (slice_part (m ((c.tc : Thread nD τ).loc main_arg3)) 4 _ rfl Gen.slices_S8x144x128_S1x144x128_4_0_0 Gen.shapeCasts_S1x144x128_S144x128)
  unfold Gen.V
  after_results_simp
  rfl
theorem finds5 (c : Dev nD) : Gen.V m c main_v11 = part m c 5 := by
  refine Eq.trans ?_ (slice_part (m ((c.tc : Thread nD τ).loc main_arg3)) 5 _ rfl Gen.slices_S8x144x128_S1x144x128_5_0_0 Gen.shapeCasts_S1x144x128_S144x128)
  unfold Gen.V
  after_results_simp
  rfl
theorem finds6 (c : Dev nD) : Gen.V m c main_v13 = part m c 6 := by
  refine Eq.trans ?_ (slice_part (m ((c.tc : Thread nD τ).loc main_arg3)) 6 _ rfl Gen.slices_S8x144x128_S1x144x128_6_0_0 Gen.shapeCasts_S1x144x128_S144x128)
  unfold Gen.V
  after_results_simp
  rfl
theorem finds7 (c : Dev nD) : Gen.V m c main_v15 = part m c 7 := by
  refine Eq.trans ?_ (slice_part (m ((c.tc : Thread nD τ).loc main_arg3)) 7 _ rfl Gen.slices_S8x144x128_S1x144x128_7_0_0 Gen.shapeCasts_S1x144x128_S144x128)
  unfold Gen.V
  after_results_simp
  rfl

/-! So it is the array, whole. -/

theorem whole0 (x : Packed F) (t : Fin cfg0.N) : ((cfg0.win 0).blk t).view.read (Elt F) x = x :=
  funext fun j => congrArg x (stays (w := win0_0.index) (by decide +kernel) t rfl rfl)
theorem whole1 (x : Packed F) (t : Fin cfg0.N) : ((cfg0.win 1).blk t).view.read (Elt F) x = x :=
  funext fun j => congrArg x (stays (w := win0_1.index) (by decide +kernel) t rfl rfl)
theorem whole2 (x : Packed F) (t : Fin cfg0.N) : ((cfg0.win 2).blk t).view.read (Elt F) x = x :=
  funext fun j => congrArg x (stays (w := win0_2.index) (by decide +kernel) t rfl rfl)
theorem whole3 (x : Packed F) (t : Fin cfg0.N) : ((cfg0.win 3).blk t).view.read (Elt F) x = x :=
  funext fun j => congrArg x (stays (w := win0_3.index) (by decide +kernel) t rfl rfl)
theorem whole4 (x : Packed F) (t : Fin cfg0.N) : ((cfg0.win 4).blk t).view.read (Elt F) x = x :=
  funext fun j => congrArg x (stays (w := win0_4.index) (by decide +kernel) t rfl rfl)
theorem whole5 (x : Packed F) (t : Fin cfg0.N) : ((cfg0.win 5).blk t).view.read (Elt F) x = x :=
  funext fun j => congrArg x (stays (w := win0_5.index) (by decide +kernel) t rfl rfl)
theorem whole6 (x : Packed F) (t : Fin cfg0.N) : ((cfg0.win 6).blk t).view.read (Elt F) x = x :=
  funext fun j => congrArg x (stays (w := win0_6.index) (by decide +kernel) t rfl rfl)
theorem whole7 (x : Packed F) (t : Fin cfg0.N) : ((cfg0.win 7).blk t).view.read (Elt F) x = x :=
  funext fun j => congrArg x (stays (w := win0_7.index) (by decide +kernel) t rfl rfl)
theorem whole8 (x : Packed F) (t : Fin cfg0.N) : ((cfg0.win 8).blk t).view.read (Elt F) x = x :=
  funext fun j => congrArg x (stays (w := win0_8.index) (by decide +kernel) t rfl rfl)
theorem whole9 (x : Packed F) (t : Fin cfg0.N) : ((cfg0.win 9).blk t).view.read (Elt F) x = x :=
  funext fun j => congrArg x (stays (w := win0_9.index) (by decide +kernel) t rfl rfl)
theorem whole10 (x : Packed F) (t : Fin cfg0.N) : ((cfg0.win 10).blk t).view.read (Elt F) x = x :=
  funext fun j => congrArg x (stays (w := win0_10.index) (by decide +kernel) t rfl rfl)
theorem whole11 (x : Packed F) (t : Fin cfg0.N) : ((cfg0.win 11).blk t).view.read (Elt F) x = x :=
  funext fun j => congrArg x (stays (w := win0_11.index) (by decide +kernel) t rfl rfl)
theorem whole12 (x : Packed F) (t : Fin cfg0.N) : ((cfg0.win 12).blk t).view.read (Elt F) x = x :=
  funext fun j => congrArg x (stays (w := win0_12.index) (by decide +kernel) t rfl rfl)
theorem whole13 (x : Packed F) (t : Fin cfg0.N) : ((cfg0.win 13).blk t).view.read (Elt F) x = x :=
  funext fun j => congrArg x (stays (w := win0_13.index) (by decide +kernel) t rfl rfl)
theorem whole14 (x : Packed F) (t : Fin cfg0.N) : ((cfg0.win 14).blk t).view.read (Elt F) x = x :=
  funext fun j => congrArg x (stays (w := win0_14.index) (by decide +kernel) t rfl rfl)

/-! ## What the call leaves -/

/-- The blocks the one point reads: the weight, the moments, and the eight parts. -/
theorem reads (c : Dev nD) (t : Fin cfg0.N) :
    Gen.iblk m c 0 t = m ((c.tc : Thread nD τ).loc main_arg0) ∧ Gen.iblk m c 1 t = m ((c.tc : Thread nD τ).loc main_arg1) ∧ Gen.iblk m c 2 t = m ((c.tc : Thread nD τ).loc main_arg2)
      ∧ Gen.iblk m c 3 t = part m c 0 ∧ Gen.iblk m c 4 t = part m c 1 ∧ Gen.iblk m c 5 t = part m c 2 ∧ Gen.iblk m c 6 t = part m c 3
      ∧ Gen.iblk m c 7 t = part m c 4 ∧ Gen.iblk m c 8 t = part m c 5 ∧ Gen.iblk m c 9 t = part m c 6 ∧ Gen.iblk m c 10 t = part m c 7 :=
  ⟨(whole0 _ t).trans (Gen.V_main_arg0 m c), (whole1 _ t).trans (Gen.V_main_arg1 m c), (whole2 _ t).trans (Gen.V_main_arg2 m c),
    (whole3 _ t).trans (finds0 m c), (whole4 _ t).trans (finds1 m c), (whole5 _ t).trans (finds2 m c), (whole6 _ t).trans (finds3 m c),
    (whole7 _ t).trans (finds4 m c), (whole8 _ t).trans (finds5 m c), (whole9 _ t).trans (finds6 m c), (whole10 _ t).trans (finds7 m c)⟩

/-- The grid's one point. -/
abbrev point : Fin cfg0.N := ⟨0, by decide +kernel⟩

theorem leaves_gradient (c : Dev nD) : (Gen.dats m 0 c).arrAt 11 cfg0.N = added (part m c) := by
  obtain ⟨e0, e1, e2, e3, e4, e5, e6, e7, e8, e9, e10⟩ := reads m c point
  refine ((whole11 _ point).symm.trans (Value.blocks11 m c point (by decide +kernel))).trans ((Value.flushed11 m c point).trans ?_)
  rw [e0, e1, e2, e3, e4, e5, e6, e7, e8, e9, e10, stores_gradient]
  rfl
theorem leaves_step (c : Dev nD) : (Gen.dats m 0 c).arrAt 12 cfg0.N = fun i => step (added (part m c) i) (m ((c.tc : Thread nD τ).loc main_arg0) i) (m ((c.tc : Thread nD τ).loc main_arg1) i) (m ((c.tc : Thread nD τ).loc main_arg2) i) := by
  obtain ⟨e0, e1, e2, e3, e4, e5, e6, e7, e8, e9, e10⟩ := reads m c point
  refine ((whole12 _ point).symm.trans (Value.blocks12 m c point (by decide +kernel))).trans ((Value.flushed12 m c point).trans ?_)
  rw [e0, e1, e2, e3, e4, e5, e6, e7, e8, e9, e10, stores_step]
  rfl
theorem leaves_first (c : Dev nD) : (Gen.dats m 0 c).arrAt 13 cfg0.N = fun i => first (added (part m c) i) (m ((c.tc : Thread nD τ).loc main_arg1) i) := by
  obtain ⟨e0, e1, e2, e3, e4, e5, e6, e7, e8, e9, e10⟩ := reads m c point
  refine ((whole13 _ point).symm.trans (Value.blocks13 m c point (by decide +kernel))).trans ((Value.flushed13 m c point).trans ?_)
  rw [e0, e1, e2, e3, e4, e5, e6, e7, e8, e9, e10, stores_first]
  rfl
theorem leaves_second (c : Dev nD) : (Gen.dats m 0 c).arrAt 14 cfg0.N = fun i => second (added (part m c) i) (m ((c.tc : Thread nD τ).loc main_arg2) i) := by
  obtain ⟨e0, e1, e2, e3, e4, e5, e6, e7, e8, e9, e10⟩ := reads m c point
  refine ((whole14 _ point).symm.trans (Value.blocks14 m c point (by decide +kernel))).trans ((Value.flushed14 m c point).trans ?_)
  rw [e0, e1, e2, e3, e4, e5, e6, e7, e8, e9, e10, stores_second]
  rfl

/-! ## The results are the reference's, at the ideal values -/

/-- The whole gradient, as the reference takes it. -/
abbrev gradient (P : S8x144x128.Idx → Elt Ideal .f32) : Packed Ideal :=
  Host.reduceAdd (F := Ideal) (φ := .f32) P (constant (F := Ideal) Cert.SmallRefIdeal.S_ .f32 0x00000000#32) Cert.SmallRefIdeal.Gen.reducesTo_S8x144x128_S144x128_d0 Cert.SmallRefIdeal.Gen.h_S_

/-- Added in order or summed, the parts make the same gradient. -/
theorem added_gradient (P : S8x144x128.Idx → Elt Ideal .f32) : added (F := Ideal) (fun k i => P (ValueIdx.ix3 k (i 0) (i 1))) = gradient P := by
  funext i
  refine Eq.symm ((Ideal.hostReduceAdd_r3_a0 (n0 := 8) (n1 := 144) (n2 := 128) Cert.SmallRefIdeal.Gen.reducesTo_S8x144x128_S144x128_d0 _ _ _).trans ?_)
  have hz : (constant (F := Ideal) Cert.SmallRefIdeal.S_ .f32 0x00000000#32) (Shape.Idx.first Cert.SmallRefIdeal.Gen.h_S_) = (0 : EReal) := Ideal.ofBits_zero_f32
  rw [hz, zero_add, Fin.sum_univ_eight]
  rfl

section reference

variable (G W M V : Packed Ideal)

theorem first_at : addf (mulf (broadcastInDim Cert.SmallRefIdeal.S144x128 ![] Cert.SmallRefIdeal.Gen.bcast_S_S144x128 (constant (F := Ideal) Cert.SmallRefIdeal.S_ .f32 0x3F666666#32)) M) (mulf (broadcastInDim Cert.SmallRefIdeal.S144x128 ![] Cert.SmallRefIdeal.Gen.bcast_S_S144x128 (constant (F := Ideal) Cert.SmallRefIdeal.S_ .f32 0x3DCCCCCD#32)) G)
    = fun y => first (G y) (M y) := rfl

theorem second_at : addf (mulf (broadcastInDim Cert.SmallRefIdeal.S144x128 ![] Cert.SmallRefIdeal.Gen.bcast_S_S144x128 (constant (F := Ideal) Cert.SmallRefIdeal.S_ .f32 0x3F7FBE77#32)) V) (mulf (broadcastInDim Cert.SmallRefIdeal.S144x128 ![] Cert.SmallRefIdeal.Gen.bcast_S_S144x128 (constant (F := Ideal) Cert.SmallRefIdeal.S_ .f32 0x3A83126F#32)) (mulf G G))
    = fun y => second (G y) (V y) := rfl

theorem step_at : mulf (broadcastInDim Cert.SmallRefIdeal.S144x128 ![] Cert.SmallRefIdeal.Gen.bcast_S_S144x128 (constant (F := Ideal) Cert.SmallRefIdeal.S_ .f32 0xBA83126F#32)) (addf (Host.divf (Host.divf (addf (mulf (broadcastInDim Cert.SmallRefIdeal.S144x128 ![] Cert.SmallRefIdeal.Gen.bcast_S_S144x128 (constant (F := Ideal) Cert.SmallRefIdeal.S_ .f32 0x3F666666#32)) M) (mulf (broadcastInDim Cert.SmallRefIdeal.S144x128 ![] Cert.SmallRefIdeal.Gen.bcast_S_S144x128 (constant (F := Ideal) Cert.SmallRefIdeal.S_ .f32 0x3DCCCCCD#32)) G)) (broadcastInDim Cert.SmallRefIdeal.S144x128 ![] Cert.SmallRefIdeal.Gen.bcast_S_S144x128 (constant (F := Ideal) Cert.SmallRefIdeal.S_ .f32 0x3F26BD02#32))) (addf (Host.sqrt (Host.divf (addf (mulf (broadcastInDim Cert.SmallRefIdeal.S144x128 ![] Cert.SmallRefIdeal.Gen.bcast_S_S144x128 (constant (F := Ideal) Cert.SmallRefIdeal.S_ .f32 0x3F7FBE77#32)) V) (mulf (broadcastInDim Cert.SmallRefIdeal.S144x128 ![] Cert.SmallRefIdeal.Gen.bcast_S_S144x128 (constant (F := Ideal) Cert.SmallRefIdeal.S_ .f32 0x3A83126F#32)) (mulf G G))) (broadcastInDim Cert.SmallRefIdeal.S144x128 ![] Cert.SmallRefIdeal.Gen.bcast_S_S144x128 (constant (F := Ideal) Cert.SmallRefIdeal.S_ .f32 0x3C231ACC#32)))) (broadcastInDim Cert.SmallRefIdeal.S144x128 ![] Cert.SmallRefIdeal.Gen.bcast_S_S144x128 (constant (F := Ideal) Cert.SmallRefIdeal.S_ .f32 0x322BCC77#32)))) (mulf (broadcastInDim Cert.SmallRefIdeal.S144x128 ![] Cert.SmallRefIdeal.Gen.bcast_S_S144x128 (constant (F := Ideal) Cert.SmallRefIdeal.S_ .f32 0x3C23D70A#32)) W))
    = fun y => step (G y) (W y) (M y) (V y) := rfl

end reference

end Cert.SmallIdeal

namespace Cert.Proof

open Idealize.ShloMosaic Idealize.ShloMosaic.TcCoe Idealize.SL.Sem

/-- The update of the small weights at bits runs, keeps its arguments, and leaves every semaphore at zero. -/
theorem frame_small : Cert.quiescent_Small := fun m ρ _ => Cert.Small.Gen.frame m ρ

/-- The same at the ideal values. -/
theorem frame_smallIdeal : Cert.quiescent_SmallIdeal := fun m ρ _ => Cert.SmallIdeal.Gen.frame m ρ

/-- AdamW with the sum of the parts runs and keeps its arguments. -/
theorem frame_smallRefIdeal : Cert.quiescent_SmallRefIdeal := fun m ρ _ =>
  (θ_run Cert.SmallRefIdeal.defs _ _).mono (fun r h => ⟨fun c => (h c).2.2.2.2, sem_eq_zero_of_no_sems (by decide) r.2⟩)
    (Cert.SmallRefIdeal.Value.run (F := Ideal) m ρ)

open Cert.SmallRefIdeal in
/-- The reference's run, its results by the element. -/
theorem small_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.SmallIdeal.gradient (m ((c.tc : Thread nD τ).loc main_arg3))
      ∧ r.2.mem ((c.tc : Thread nD τ).loc main_v24) = (fun y => Cert.UpdateIdeal.step (F := Ideal) (Cert.SmallIdeal.gradient (m ((c.tc : Thread nD τ).loc main_arg3)) y) (m ((c.tc : Thread nD τ).loc main_arg0) y) (m ((c.tc : Thread nD τ).loc main_arg1) y) (m ((c.tc : Thread nD τ).loc main_arg2) y))
      ∧ r.2.mem ((c.tc : Thread nD τ).loc main_v5) = (fun y => Cert.UpdateIdeal.first (F := Ideal) (Cert.SmallIdeal.gradient (m ((c.tc : Thread nD τ).loc main_arg3)) y) (m ((c.tc : Thread nD τ).loc main_arg1) y))
      ∧ r.2.mem ((c.tc : Thread nD τ).loc main_v11) = (fun y => Cert.UpdateIdeal.second (F := Ideal) (Cert.SmallIdeal.gradient (m ((c.tc : Thread nD τ).loc main_arg3)) y) (m ((c.tc : Thread nD τ).loc main_arg2) y))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c => ⟨(h c).1, (h c).2.1.trans (Cert.SmallIdeal.step_at _ _ _ _), (h c).2.2.1.trans (Cert.SmallIdeal.first_at _ _),
    (h c).2.2.2.1.trans (Cert.SmallIdeal.second_at _ _), (h c).2.2.2.2⟩) (Value.run (F := Ideal) m ρ)

/-- The device ends with the sum of the parts, the step, and the new moments. -/
theorem algebraic_small : Cert.algebraic_SmallIdeal_SmallRefIdeal := fun m ρ m' ρ' _ h => by
  have hg : ∀ c, Cert.SmallIdeal.added (F := Ideal) (Cert.SmallIdeal.part m c) = _ := fun c =>
    (Cert.SmallIdeal.added_gradient (m ((c.tc : Thread Cert.SmallIdeal.nD Cert.SmallIdeal.τ).loc Cert.SmallIdeal.main_arg3))).trans (congrArg Cert.SmallIdeal.gradient (h c).2.2.2.symm)
  refine ⟨_, _, _, _, ?_, small_reference m' ρ'⟩
  refine (θ_run Cert.SmallIdeal.defs _ _).mono (fun _ hr c => ⟨(hr c).1.trans ?_, (hr c).2.1.trans ?_, (hr c).2.2.1.trans ?_, (hr c).2.2.2.1.trans ?_, (hr c).2.2.2.2⟩)
    (Cert.SmallIdeal.Value.run_blocks (F := Ideal) m ρ)
  · rw [Cert.SmallIdeal.leaves_gradient, hg]
  · rw [Cert.SmallIdeal.leaves_step, hg, (h c).1, (h c).2.1, (h c).2.2.1]
  · rw [Cert.SmallIdeal.leaves_first, hg, (h c).2.1]
  · rw [Cert.SmallIdeal.leaves_second, hg, (h c).2.2.1]

end Cert.Proof
-- ==== Proof.Pre.lean ====
/-
  The gradient of the rows' norm, on one device: eight blocks of 256 rows, each row's gradient from that row alone, and the
  gradient of the norm's weights accumulated over the blocks and written at the last one.
-/
module

public import proofs.«01_k».proof.Defs
public import proofs.«01_k».proof.Proof.Small
public import proofs.«01_k».proof.Proof.Gen.Pre.Frame
public import proofs.«01_k».proof.Proof.Gen.PreIdeal.Value
public import proofs.«01_k».proof.Proof.Gen.PreRefIdeal.Run
public import Idealize.ShloMosaic.Lib.Pointwise

@[expose] public section

noncomputable section

namespace Cert.PreIdeal

open Idealize.ShloMosaic Idealize.ShloMosaic.TcCoe Idealize.ShloMosaic.Tactic
open Cert.Windows (stays)
open Idealize.SL.Sem

section stores

variable {F : FTy → Type} [FloatOps F]

theorem offset_zero : (![0, 0] : Fin 2 → ℕ) = fun _ => 0 := funext fun a => by fin_cases a <;> rfl

/-! ## What a grid point stores -/

variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole)
  (x : Vec F S256x2048 .f32) (g : Vec F S1x2048 .f32) (dh dy : Vec F S256x2048 .f32) (s : Vec F S1x2048 .f32)

theorem stores_rows_first (hc : Gen.cond0_0 i) :
    Gen.out0_A_4 c i a1 h1 a2 h2 a3 h3 a4 h4 a5 h5 a6 h6 hc x g dh dy = Gen.k0_pay6 x g dh dy := by
  unfold Gen.out0_A_4
  rw [View.read_writes_eq_canon _ _ _ (Gen.cover0_A_4 c i a1 h1 a2 h2 a3 h3 a4 h4 a5 h5 a6 h6 hc x g dh dy)]
  unfold Gen.kernelRun0_A
  dsimp only
  sl_unfold_words
  rw [View.canon_unit_zero offset_zero]
  simp only [View.readAt_eq_ld, h1.read_unread, h2.read_unread, h3.read_unread, h4.read_unread, View.ld_unit_zero (S := S256x2048) offset_zero,
    View.ld_unit_zero (S := S1x2048) offset_zero]

theorem stores_rows_later (hc : ¬Gen.cond0_0 i) :
    Gen.out0_B_4 c i a1 h1 a2 h2 a3 h3 a4 h4 a5 h5 a6 h6 hc x g dh dy s = Gen.k0_pay6 x g dh dy := by
  unfold Gen.out0_B_4
  rw [View.read_writes_eq_canon _ _ _ (Gen.cover0_B_4 c i a1 h1 a2 h2 a3 h3 a4 h4 a5 h5 a6 h6 hc x g dh dy s)]
  unfold Gen.kernelRun0_B
  dsimp only
  sl_unfold_words
  rw [View.canon_unit_zero offset_zero]
  simp only [View.readAt_eq_ld, h1.read_unread, h2.read_unread, h3.read_unread, h4.read_unread, View.ld_unit_zero (S := S256x2048) offset_zero,
    View.ld_unit_zero (S := S1x2048) offset_zero]

theorem stores_sum_first (hc : Gen.cond0_0 i) :
    Gen.out0_A_5 c i a1 h1 a2 h2 a3 h3 a4 h4 a5 h5 a6 h6 hc x g dh dy = addf Gen.k0_pay1 (Gen.k0_pay5 x dh) := by
  unfold Gen.out0_A_5
  rw [View.read_writes_eq_canon _ _ _ (Gen.cover0_A_5 c i a1 h1 a2 h2 a3 h3 a4 h4 a5 h5 a6 h6 hc x g dh dy)]
  unfold Gen.kernelRun0_A
  dsimp only
  sl_unfold_words
  rw [View.canon_cons_unit_zero (S := S1x2048) offset_zero, View.readCov_unit_zero (S := S1x2048) _ offset_zero]
  unfold Gen.k0_pay2
  simp only [View.readAt_eq_ld, h1.read_unread, h3.read_unread, View.ld_unit_zero (S := S256x2048) offset_zero, shapeCast_self]

theorem stores_sum_later (hc : ¬Gen.cond0_0 i) :
    Gen.out0_B_5 c i a1 h1 a2 h2 a3 h3 a4 h4 a5 h5 a6 h6 hc x g dh dy s = addf s (Gen.k0_pay5 x dh) := by
  unfold Gen.out0_B_5
  rw [View.read_writes_eq_canon _ _ _ (Gen.cover0_B_5 c i a1 h1 a2 h2 a3 h3 a4 h4 a5 h5 a6 h6 hc x g dh dy s)]
  unfold Gen.kernelRun0_B
  dsimp only
  sl_unfold_words
  rw [View.canon_unit_zero offset_zero]
  unfold Gen.k0_pay2
  simp only [View.readAt_eq_ld, h1.read_unread, h3.read_unread, h6.read_unread, View.ld_unit_zero (S := S256x2048) offset_zero,
    View.ld_unit_zero (S := S1x2048) offset_zero, shapeCast_self]

end stores

/-! ## The gradient, row by row -/

/-- Rows of 2048. -/
abbrev Rows (n : ℕ) : Type := (⟨2, ![n, 2048]⟩ : Shape).Idx → EReal

section rows

variable {n : ℕ} (x dh dy : Rows n) (g : Rows 1) (r : Fin n) (k : Fin 2048)

/-- A row's mean square, and what is added to it. -/
def spread : Ideal .f32 := FloatOps.addf (F := Ideal) (φ := .f32)
  (FloatOps.divf (F := Ideal) (φ := .f32) (∑ j : Fin 2048, x (ix2 r j) * x (ix2 r j)) (Scalar.ofBits (F := Ideal) .f32 0x45000000#32))
  (Scalar.ofBits (F := Ideal) .f32 0x358637BD#32)

/-- What the row is multiplied by. -/
def scale : Ideal .f32 := FloatOps.rsqrt (F := Ideal) (φ := .f32) (spread x r)

/-- A row's term of the gradient of the norm's weights. -/
def term : EReal := x (ix2 r k) * scale x r * dh (ix2 r k)

/-- The gradient of the row's mean square. -/
def pull : Ideal .f32 := FloatOps.divf (F := Ideal) (φ := .f32)
  ((∑ j : Fin 2048, x (ix2 r j) * (dh (ix2 r j) * g (ix2 0 j))) *
    ((Scalar.ofBits (F := Ideal) .f32 0xBF000000#32 : EReal) * FloatOps.divf (F := Ideal) (φ := .f32) (scale x r) (spread x r)))
  (Scalar.ofBits (F := Ideal) .f32 0x45000000#32)

/-- The row's gradient. -/
def back : EReal :=
  dy (ix2 r k) + dh (ix2 r k) * g (ix2 0 k) * scale x r + x (ix2 r k) * pull x dh g r + pull x dh g r * x (ix2 r k)

end rows

section block

variable (x : Rows 256) (g : Rows 1) (dh dy : Rows 256) (r : Fin 256) (k : Fin 2048)

theorem block_spread : Gen.k0_pay3 (F := Ideal) x (ix2 r 0) = spread x r := by
  unfold Gen.k0_pay3 spread
  pointwise

theorem block_rows : Gen.k0_pay6 (F := Ideal) x g dh dy (ix2 r k) = back x dh dy g r k := by
  unfold Gen.k0_pay6 Gen.k0_pay4 back pull scale
  pointwise
  simp only [Finset.univ_unique, Finset.sum_singleton, Fin.default_eq_zero, block_spread]

theorem block_sum : Gen.k0_pay5 (F := Ideal) x dh (ix2 0 k) = ∑ r : Fin 256, term x dh r k := by
  unfold Gen.k0_pay5 Gen.k0_pay4 term scale
  pointwise
  simp only [block_spread]

end block

/-! ## The blocks -/

theorem points (t : Fin cfg0.N) : t.val < 8 := Nat.lt_of_lt_of_eq t.isLt Gen.N_0

/-- Block `t`'s row `r`, in the array. -/
def row (t : Fin 8) (r : Fin 256) : Fin 2048 := ⟨256 * t.val + r.val, by omega⟩

/-- A window whose blocks of rows follow each other down block column `b`. -/
abbrev Down {N : ℕ} (b : ℕ) (w : Fin N → Fin 2 → ℕ) : Prop := ∀ t : Fin N, w t 0 = t.val ∧ w t 1 = b

/-- Where an entry of a block lies in the array. -/
theorem placed {N b W V B : ℕ} {w : Fin N → Fin 2 → ℕ} (h : Down b w) (t : Fin N) (ht : t.val < 8) (r : Fin 256) (k : Fin V) {k' : Fin B} {i : (⟨2, ![2048, B]⟩ : Shape).Idx}
    (h0 : (i 0).val = w t 0 * 256 + 1 * r.val) (h1 : (i 1).val = w t 1 * W + 1 * k.val) (hk : b * W + k.val = k'.val) : i = ix2 (row ⟨t.val, ht⟩ r) k' := by
  rw [(h t).1] at h0
  rw [(h t).2] at h1
  exact funext fun a => match a with
    | ⟨0, _⟩ => Fin.ext (show (i 0).val = 256 * t.val + r.val by omega)
    | ⟨1, _⟩ => Fin.ext (show (i 1).val = k'.val by omega)

/-- Block `t` of an array. -/
def cut (t : Fin 8) (x : Rows 2048) : Rows 256 := fun i => x (ix2 (row t (i 0)) (i 1))

theorem back_cut (t : Fin 8) (x dh dy : Rows 2048) (g : Rows 1) (r : Fin 256) (k : Fin 2048) :
    back (cut t x) (cut t dh) (cut t dy) g r k = back x dh dy g (row t r) k := rfl

theorem cut0 (x : Rows 2048) (t : Fin cfg0.N) : ((cfg0.win 0).blk t).view.read (Elt Ideal) x = cut ⟨t.val, points t⟩ x :=
  funext fun j => congrArg x (placed (b := 0) (W := 2048) (w := win0_0.index) (by decide +kernel) t (points t) (j 0) (j 1) rfl rfl (Nat.zero_add _))
theorem whole1 (x : Rows 1) (t : Fin cfg0.N) : ((cfg0.win 1).blk t).view.read (Elt Ideal) x = x :=
  funext fun j => congrArg x (stays (w := win0_1.index) (by decide +kernel) t rfl rfl)
theorem cut2 (x : Rows 2048) (t : Fin cfg0.N) : ((cfg0.win 2).blk t).view.read (Elt Ideal) x = cut ⟨t.val, points t⟩ x :=
  funext fun j => congrArg x (placed (b := 0) (W := 2048) (w := win0_2.index) (by decide +kernel) t (points t) (j 0) (j 1) rfl rfl (Nat.zero_add _))
theorem cut3 (x : Rows 2048) (t : Fin cfg0.N) : ((cfg0.win 3).blk t).view.read (Elt Ideal) x = cut ⟨t.val, points t⟩ x :=
  funext fun j => congrArg x (placed (b := 0) (W := 2048) (w := win0_3.index) (by decide +kernel) t (points t) (j 0) (j 1) rfl rfl (Nat.zero_add _))
theorem cut4 (x : Rows 2048) (t : Fin cfg0.N) : ((cfg0.win 4).blk t).view.read (Elt Ideal) x = cut ⟨t.val, points t⟩ x :=
  funext fun j => congrArg x (placed (b := 0) (W := 2048) (w := win0_4.index) (by decide +kernel) t (points t) (j 0) (j 1) rfl rfl (Nat.zero_add _))
theorem whole5 (x : Rows 1) (t : Fin cfg0.N) : ((cfg0.win 5).blk t).view.read (Elt Ideal) x = x :=
  funext fun j => congrArg x (stays (w := win0_5.index) (by decide +kernel) t rfl rfl)

/-! ## What the call leaves -/

section leaves

variable (m : (ℓ : Loc nD τ sig) → Buf (Elt Ideal) ℓ) (c : Dev nD)

/-- The rows, the weights, the gradient of the normed rows, and the gradient past the norm. -/
abbrev argX : Rows 2048 := m ((c.tc : Thread nD τ).loc main_arg0)
abbrev argG : Rows 1 := m ((c.tc : Thread nD τ).loc main_arg1)
abbrev argDh : Rows 2048 := m ((c.tc : Thread nD τ).loc main_arg2)
abbrev argDy : Rows 2048 := m ((c.tc : Thread nD τ).loc main_arg3)

/-- The blocks a point reads. -/
theorem reads (t : Fin cfg0.N) : Gen.iblk m c 0 t = cut ⟨t.val, points t⟩ (argX m c) ∧ Gen.iblk m c 1 t = argG m c
    ∧ Gen.iblk m c 2 t = cut ⟨t.val, points t⟩ (argDh m c) ∧ Gen.iblk m c 3 t = cut ⟨t.val, points t⟩ (argDy m c) :=
  ⟨cut0 _ t, whole1 _ t, cut2 _ t, cut3 _ t⟩

/-- A point stores its rows' gradients. -/
theorem point_rows (t : Fin cfg0.N) :
    (Gen.outsAt0 m c t.val t.isLt).1 = Gen.k0_pay6 (F := Ideal) (cut ⟨t.val, points t⟩ (argX m c)) (argG m c) (cut ⟨t.val, points t⟩ (argDh m c)) (cut ⟨t.val, points t⟩ (argDy m c)) := by
  obtain ⟨e0, e1, e2, e3⟩ := reads m c t
  by_cases h : t.val % 8 = 0
  · rw [Gen.outsAt0_A m c t h]
    dsimp only
    rw [stores_rows_first, e0, e1, e2, e3]
  · rw [Gen.outsAt0_B m c t h]
    dsimp only
    rw [stores_rows_later, e0, e1, e2, e3]

/-- The terms of the first `n` blocks. -/
def upto (n : ℕ) (k : Fin 2048) : EReal :=
  ∑ t ∈ Finset.range n, if h : t < 8 then ∑ r : Fin 256, term (argX m c) (argDh m c) (row ⟨t, h⟩ r) k else 0

/-- After each point, the terms so far. -/
theorem point_sum (k : Fin 2048) : ∀ (n : ℕ) (hn : n < cfg0.N), (Gen.outsAt0 m c n hn).2 (ix2 0 k) = upto m c (n + 1) k
  | 0, hn => by
    obtain ⟨e0, e1, e2, e3⟩ := reads m c ⟨0, hn⟩
    rw [show Gen.outsAt0 m c 0 hn = _ from Gen.outsAt0_A m c ⟨0, hn⟩ rfl]
    dsimp only
    rw [stores_sum_first, e0, e2]
    have hz : Gen.k0_pay1 (F := Ideal) (ix2 0 k) = (0 : EReal) := Ideal.ofBits_zero_f32
    show (Gen.k0_pay1 (F := Ideal) (ix2 0 k) : EReal) + Gen.k0_pay5 (F := Ideal) _ _ (ix2 0 k) = _
    rw [hz, block_sum, zero_add]
    unfold upto
    rw [Finset.sum_range_one, dif_pos (by omega)]
    rfl
  | n + 1, hn => by
    have hN : cfg0.N = 8 := Gen.N_0
    obtain ⟨e0, e1, e2, e3⟩ := reads m c ⟨n + 1, hn⟩
    rw [show Gen.outsAt0 m c (n + 1) hn = _ from Gen.outsAt0_B m c ⟨n + 1, hn⟩ (by dsimp only; omega)]
    dsimp only
    rw [stores_sum_later, e0, e2]
    show ((Gen.outsAt0 m c n _).2 (ix2 0 k) : EReal) + Gen.k0_pay5 (F := Ideal) _ _ (ix2 0 k) = _
    rw [block_sum, point_sum k n]
    unfold upto
    rw [Finset.sum_range_succ _ (n + 1), dif_pos (by omega)]
    rfl

/-- Eight blocks are all the rows. -/
theorem upto_all (k : Fin 2048) : upto m c 8 k = ∑ r : Fin 2048, term (argX m c) (argDh m c) r k := by
  rw [Fin.sum_univ_tiles 8 256 rfl]
  unfold upto
  rw [Finset.sum_range]
  refine Finset.sum_congr rfl fun t _ => ?_
  rw [dif_pos t.isLt]
  refine Finset.sum_congr rfl fun r _ => congrArg (fun q => term _ _ q k) (Fin.ext ?_)
  show 256 * t.val + r.val = t.val * 256 + r.val
  omega

theorem leaves_rows : (Gen.dats m 0 c).arrAt 4 cfg0.N = fun i : S2048x2048.Idx => back (argX m c) (argDh m c) (argDy m c) (argG m c) (i 0) (i 1) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have e := congrFun ((cut4 _ t).symm.trans ((Value.blocks4 m c t (Gen.flush0_4 t)).trans (Value.flushed4 m c t))) (ix2 r (i 1))
  have ei : ix2 (row ⟨t.val, points t⟩ r) (i 1) = i := by rw [hr]; exact funext fun a => by fin_cases a <;> rfl
  refine Eq.trans (congrArg _ ei.symm) (e.trans ?_)
  refine (congrFun (point_rows m c t) (ix2 r (i 1))).trans ((block_rows _ _ _ _ r (i 1)).trans ((back_cut _ _ _ _ _ r (i 1)).trans ?_))
  rw [hr]

theorem leaves_sum : (Gen.dats m 0 c).arrAt 5 cfg0.N = fun i : S1x2048.Idx => ∑ r : Fin 2048, term (argX m c) (argDh m c) r (i 1) := by
  have hN : cfg0.N = 8 := Gen.N_0
  let t : Fin cfg0.N := ⟨7, by omega⟩
  have ht : (cfg0.win 5).flush t = true := (Gen.flush0_5 t).mpr rfl
  have one : ∀ u u' : Fin cfg0.N, (cfg0.win 5).flush u = true → (cfg0.win 5).flush u' = true → u ≠ u' →
      Disjoint ((cfg0.win 5).blk u).view.set ((cfg0.win 5).blk u').view.set := fun u u' hu hu' hne => by
    have a := (Gen.flush0_5 u).mp hu
    have b := (Gen.flush0_5 u').mp hu'
    exact absurd (Fin.ext (by have := points u; have := points u'; omega)) hne
  refine ((whole5 _ t).symm.trans (((Gen.dats m 0 c).read_blk_arrAt_eq_flushed 5 one cfg0.N t t.isLt ht).trans (Value.flushed5 m c t))).trans ?_
  funext i
  have ei : i = ix2 0 (i 1) := funext fun a => by
    match a with
    | ⟨0, _⟩ => exact Fin.ext (by have : (i 0).val < 1 := (i 0).isLt; show (i 0).val = 0; omega)
    | ⟨1, _⟩ => rfl
  refine Eq.trans ?_ ((point_sum m c (i 1) 7 t.isLt).trans (upto_all m c (i 1)))
  exact congrArg (Gen.outsAt0 m c 7 t.isLt).2 ei

end leaves

end Cert.PreIdeal

namespace Cert.PreRefIdeal

open Idealize.ShloMosaic Idealize.ShloMosaic.TcCoe Idealize.ShloMosaic.Tactic
open Cert.PreRefIdeal.Gen
open Cert.PreIdeal (Rows spread scale term pull back)

/-! ## The reference, row by row -/

variable (X DH DY : FVec Ideal S2048x2048 .f32) (G : FVec Ideal S1x2048 .f32)

theorem rows_at : (addf (addf (addf DY (mulf (mulf DH (broadcastInDim S2048x2048 ![0, 1] bcast_S1x2048_S2048x2048_0_1 G)) (broadcastInDim S2048x2048 ![0, 1] bcast_S2048x1_S2048x2048_0_1 (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf X (broadcastInDim S2048x2048 ![0] bcast_S2048_S2048x2048_0 (Host.reduceAdd (Host.divf (mulf (shapeCast _ (Host.reduceAdd (mulf X (mulf DH (broadcastInDim S2048x2048 ![0, 1] bcast_S1x2048_S2048x2048_0_1 G))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf X (mulf DH (broadcastInDim S2048x2048 ![0, 1] bcast_S1x2048_S2048x2048_0_1 G))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) X) : FVec Ideal S2048x2048 .f32)
    = fun i => back X DH DY G (i 0) (i 1) := by
  funext i
  obtain ⟨r, k, rfl⟩ : ∃ (r k : Fin 2048), i = ix2 r k := ⟨i 0, i 1, funext fun a => by fin_cases a <;> rfl⟩
  show _ = back X DH DY G r k
  unfold back pull scale spread
  pointwise
  simp only [Finset.univ_unique, Finset.sum_singleton]

theorem sum_at : (shapeCast _ (Host.reduceAdd (mulf (mulf X (broadcastInDim S2048x2048 ![0, 1] bcast_S2048x1_S2048x2048_0_1 (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) DH) (constant S_ .f32 0x00000000#32) reducesTo_S2048x2048_S2048_d0 h_S_) shapeCasts_S2048_S1x2048 : FVec Ideal S1x2048 .f32)
    = fun i => ∑ r : Fin 2048, term X DH r (i 1) := by
  funext i
  obtain ⟨r, k, rfl⟩ : ∃ (r : Fin 1) (k : Fin 2048), i = ix2 r k := ⟨i 0, i 1, funext fun a => by fin_cases a <;> rfl⟩
  show _ = ∑ r : Fin 2048, term X DH r k
  unfold term scale spread
  pointwise

end Cert.PreRefIdeal

namespace Cert.Proof

open Idealize.ShloMosaic Idealize.ShloMosaic.TcCoe Idealize.SL.Sem

/-- The gradient of the rows' norm at bits runs, keeps its arguments, and leaves every semaphore at zero. -/
theorem frame_pre : Cert.quiescent_Pre := fun m ρ _ => Cert.Pre.Gen.frame m ρ

/-- The same at the ideal values. -/
theorem frame_preIdeal : Cert.quiescent_PreIdeal := fun m ρ _ => Cert.PreIdeal.Gen.frame m ρ

/-- The plain gradient runs and keeps its arguments. -/
theorem frame_preRefIdeal : Cert.quiescent_PreRefIdeal := fun m ρ _ =>
  (θ_run Cert.PreRefIdeal.defs _ _).mono (fun r h => ⟨fun c => (h c).2.2, sem_eq_zero_of_no_sems (by decide) r.2⟩)
    (Cert.PreRefIdeal.Value.run (F := Ideal) m ρ)

open Cert.PreRefIdeal in
/-- The reference's run, its results row by row. -/
theorem pre_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = (fun i : S2048x2048.Idx => Cert.PreIdeal.back (n := 2048) (m ((c.tc : Thread nD τ).loc main_arg0)) (m ((c.tc : Thread nD τ).loc main_arg2)) (m ((c.tc : Thread nD τ).loc main_arg3)) (m ((c.tc : Thread nD τ).loc main_arg1)) (i 0) (i 1))
      ∧ r.2.mem ((c.tc : Thread nD τ).loc main_v17) = (fun i : S1x2048.Idx => ∑ r : Fin 2048, Cert.PreIdeal.term (n := 2048) (m ((c.tc : Thread nD τ).loc main_arg0)) (m ((c.tc : Thread nD τ).loc main_arg2)) r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (rows_at _ _ _ _), (h c).2.1.trans (sum_at _ _), (h c).2.2⟩)
    (Value.run (F := Ideal) m ρ)

/-- The device ends with every row's gradient, and with the gradient of the norm's weights. -/
theorem algebraic_pre : Cert.algebraic_PreIdeal_PreRefIdeal := fun m ρ m' ρ' _ h => by
  refine ⟨_, _, ?_, pre_reference m' ρ'⟩
  refine (θ_run Cert.PreIdeal.defs _ _).mono (fun _ hr c => ⟨(hr c).1.trans ?_, (hr c).2.1.trans ?_, (hr c).2.2⟩)
    (Cert.PreIdeal.Value.run_blocks (F := Ideal) m ρ)
  · rw [Cert.PreIdeal.leaves_rows, (h c).1, (h c).2.1, (h c).2.2.1, (h c).2.2.2]
  · rw [Cert.PreIdeal.leaves_sum, (h c).1, (h c).2.2.1]

end Cert.Proof

end
-- ==== Proof.Products.lean ====
/-
  The three products of the output projection, on one device: four blocks of 512 columns, each from the whole inner axis
  at once.
-/
module

public import proofs.«01_k».proof.Defs
public import proofs.«01_k».proof.Proof.Pre
public import proofs.«01_k».proof.Proof.Gen.OutProduct.Frame
public import proofs.«01_k».proof.Proof.Gen.OutProductIdeal.Value
public import proofs.«01_k».proof.Proof.Gen.OutProductRefIdeal.Run
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDw.Frame
public import proofs.«01_k».proof.Proof.Gen.OutDwIdeal.Value
public import proofs.«01_k».proof.Proof.Gen.OutDwRefIdeal.Run
public import Idealize.ShloMosaic.Lib.Pointwise

@[expose] public section

noncomputable section

namespace Cert.OutProductIdeal

open Idealize.ShloMosaic Idealize.ShloMosaic.TcCoe Idealize.ShloMosaic.Tactic
open Idealize.SL.Sem

/-- An entry of the product: the merged rows by the weights. -/
def entry (a : FVec Ideal S2048x2048 .bf16) (b : FVec Ideal S2048x2048 .bf16) (r k : Fin 2048) : EReal := ∑ j : Fin 2048, a (ix2 r j) * b (ix2 j k)

/-- An entry of a block. -/
theorem block_at (a : FVec Ideal S2048x2048 .bf16) (b : FVec Ideal S2048x512 .bf16) (r : Fin 2048) (k : Fin 512) :
    Gen.k0_pay1 (F := Ideal) a b (ix2 r k) = ∑ j : Fin 2048, a (ix2 r j) * b (ix2 j k) := by
  unfold Gen.k0_pay1
  pointwise

theorem stores (a : FVec Ideal S2048x2048 .bf16) (b : FVec Ideal S2048x512 .bf16) : Gen.out0_2 (F := Ideal) a b = Gen.k0_pay1 (F := Ideal) a b := by
  unfold Gen.out0_2
  rw [View.canon_unit_zero PreIdeal.offset_zero, View.ld_unit_zero (S := S2048x2048) PreIdeal.offset_zero, View.ld_unit_zero (S := S2048x512) PreIdeal.offset_zero]

theorem points (t : Fin cfg0.N) : t.val < 4 := Nat.lt_of_lt_of_eq t.isLt Gen.N_0

/-- Block `t`'s column `k`, in the array. -/
def col (t : Fin 4) (k : Fin 512) : Fin 2048 := ⟨512 * t.val + k.val, by omega⟩

theorem at_start : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val)

theorem whole0 (a : FVec Ideal S2048x2048 .bf16) (t : Fin cfg0.N) : ((cfg0.win 0).blk t).view.read (Elt Ideal) a = a := by
  obtain ⟨p0, q0, p1, q1, p2, q2⟩ := at_start t
  funext j
  refine congrArg a (funext fun x => Fin.ext ?_)
  match x with
  | ⟨0, _⟩ => show win0_0.index t (0 : Fin 2) * 2048 + 1 * (j 0).val = (j 0).val; omega
  | ⟨1, _⟩ => show win0_0.index t (1 : Fin 2) * 2048 + 1 * (j 1).val = (j 1).val; omega

/-- Block `t` of the right operand. -/
def cut (t : Fin 4) (b : FVec Ideal S2048x2048 .bf16) : FVec Ideal S2048x512 .bf16 := fun i => b (ix2 (i 0) (col t (i 1)))

theorem cut1 (b : FVec Ideal S2048x2048 .bf16) (t : Fin cfg0.N) : ((cfg0.win 1).blk t).view.read (Elt Ideal) b = cut ⟨t.val, points t⟩ b := by
  obtain ⟨p0, q0, p1, q1, p2, q2⟩ := at_start t
  funext j
  refine congrArg b (funext fun x => Fin.ext ?_)
  match x with
  | ⟨0, _⟩ => show win0_1.index t (0 : Fin 2) * 2048 + 1 * (j 0).val = (j 0).val; omega
  | ⟨1, _⟩ => show win0_1.index t (1 : Fin 2) * 512 + 1 * (j 1).val = 512 * t.val + (j 1).val; omega

theorem cut2 (o : FVec Ideal S2048x2048 .f32) (t : Fin cfg0.N) (r : Fin 2048) (k : Fin 512) :
    ((cfg0.win 2).blk t).view.read (Elt Ideal) o (ix2 r k) = o (ix2 r (col ⟨t.val, points t⟩ k)) := by
  obtain ⟨p0, q0, p1, q1, p2, q2⟩ := at_start t
  refine congrArg o (funext fun x => Fin.ext ?_)
  match x with
  | ⟨0, _⟩ => show win0_2.index t (0 : Fin 2) * 2048 + 1 * r.val = r.val; omega
  | ⟨1, _⟩ => show win0_2.index t (1 : Fin 2) * 512 + 1 * k.val = 512 * t.val + k.val; omega

/-- What the call leaves: every entry of the product. -/
theorem leaves (m : (ℓ : Loc nD τ sig) → Buf (Elt Ideal) ℓ) (c : Dev nD) : (Gen.dats m 0 c).arrAt 2 cfg0.N
    = fun i : S2048x2048.Idx => entry (m ((c.tc : Thread nD τ).loc main_arg0)) (m ((c.tc : Thread nD τ).loc main_arg1)) (i 0) (i 1) := by
  funext i
  have hN : cfg0.N = 4 := Gen.N_0
  have hi : (i 1).val < 2048 := (i 1).isLt
  let t : Fin cfg0.N := ⟨(i 1).val / 512, by omega⟩
  let k : Fin 512 := ⟨(i 1).val % 512, Nat.mod_lt _ (by omega)⟩
  have hk : col ⟨t.val, points t⟩ k = i 1 := Fin.ext (Nat.div_add_mod _ _)
  have e0 : Gen.iblk m c 0 t = m ((c.tc : Thread nD τ).loc main_arg0) := whole0 _ t
  have e1 : Gen.iblk m c 1 t = cut ⟨t.val, points t⟩ (m ((c.tc : Thread nD τ).loc main_arg1)) := cut1 _ t
  have e := congrFun ((Value.blocks2 m c t (Gen.flush0_2 t)).trans (Value.flushed2 m c t)) (ix2 (i 0) k)
  have ei : ix2 (i 0) (col ⟨t.val, points t⟩ k) = i := by rw [hk]; exact funext fun x => by fin_cases x <;> rfl
  refine Eq.trans (congrArg _ ei.symm) ((cut2 _ t (i 0) k).symm.trans (e.trans ?_))
  rw [e0, e1, stores]
  refine (block_at _ _ (i 0) k).trans ?_
  show entry _ _ (i 0) (col ⟨t.val, points t⟩ k) = _
  rw [hk]

end Cert.OutProductIdeal

namespace Cert.OutProductRefIdeal

open Idealize.ShloMosaic Idealize.ShloMosaic.TcCoe Idealize.ShloMosaic.Tactic
open Cert.OutProductRefIdeal.Gen

/-- The reference, entry by entry. -/
theorem entries (A B : FVec Ideal S2048x2048 .bf16) : (Host.dotGeneral dot_S2048x2048_S2048x2048_S2048x2048_1_0_0_1_n_n none (extf .f32 A bitsLt_bf16_f32) (extf .f32 B bitsLt_bf16_f32) : FVec Ideal S2048x2048 .f32)
    = fun i => Cert.OutProductIdeal.entry A B (i 0) (i 1) := by
  funext i
  obtain ⟨r, k, rfl⟩ : ∃ (r k : Fin 2048), i = ix2 r k := ⟨i 0, i 1, funext fun a => by fin_cases a <;> rfl⟩
  show _ = Cert.OutProductIdeal.entry A B r k
  unfold Cert.OutProductIdeal.entry
  pointwise

end Cert.OutProductRefIdeal

namespace Cert.Proof

open Idealize.ShloMosaic Idealize.ShloMosaic.TcCoe Idealize.SL.Sem

/-- The call at bits runs, keeps its arguments, and leaves every semaphore at zero. -/
theorem frame_out_product : Cert.quiescent_OutProduct := fun m ρ _ => Cert.OutProduct.Gen.frame m ρ

/-- The same at the ideal values. -/
theorem frame_out_productIdeal : Cert.quiescent_OutProductIdeal := fun m ρ _ => Cert.OutProductIdeal.Gen.frame m ρ

/-- The plain product runs and keeps its arguments. -/
theorem frame_out_productRefIdeal : Cert.quiescent_OutProductRefIdeal := fun m ρ _ =>
  (θ_run Cert.OutProductRefIdeal.defs _ _).mono (fun r h => ⟨fun c => (h c).2, sem_eq_zero_of_no_sems (by decide) r.2⟩)
    (Cert.OutProductRefIdeal.Value.run (F := Ideal) m ρ)

open Cert.OutProductRefIdeal in
/-- The reference's run, its result entry by entry. -/
theorem out_product_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = (fun i : S2048x2048.Idx => Cert.OutProductIdeal.entry (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (entries _ _), (h c).2⟩)
    (Value.run (F := Ideal) m ρ)

/-- The device ends with every entry of the product. -/
theorem algebraic_out_product : Cert.algebraic_OutProductIdeal_OutProductRefIdeal := fun m ρ m' ρ' _ h => by
  refine ⟨_, ?_, out_product_reference m' ρ'⟩
  refine (θ_run Cert.OutProductIdeal.defs _ _).mono (fun _ hr c => ⟨(hr c).1.trans ?_, (hr c).2⟩)
    (Cert.OutProductIdeal.Value.run_blocks (F := Ideal) m ρ)
  rw [Cert.OutProductIdeal.leaves, (h c).1, (h c).2]

end Cert.Proof

namespace Cert.OutDxIdeal

open Idealize.ShloMosaic Idealize.ShloMosaic.TcCoe Idealize.ShloMosaic.Tactic
open Idealize.SL.Sem

/-- An entry of the product: the result's gradient by the weights turned over. -/
def entry (a : FVec Ideal S2048x2048 .bf16) (b : FVec Ideal S2048x2048 .bf16) (r k : Fin 2048) : EReal := ∑ j : Fin 2048, a (ix2 r j) * b (ix2 k j)

/-- An entry of a block. -/
theorem block_at (a : FVec Ideal S2048x2048 .bf16) (b : FVec Ideal S512x2048 .bf16) (r : Fin 2048) (k : Fin 512) :
    Gen.k0_pay1 (F := Ideal) a b (ix2 r k) = ∑ j : Fin 2048, a (ix2 r j) * b (ix2 k j) := by
  unfold Gen.k0_pay1
  pointwise

theorem stores (a : FVec Ideal S2048x2048 .bf16) (b : FVec Ideal S512x2048 .bf16) : Gen.out0_2 (F := Ideal) a b = Gen.k0_pay1 (F := Ideal) a b := by
  unfold Gen.out0_2
  rw [View.canon_unit_zero PreIdeal.offset_zero, View.ld_unit_zero (S := S2048x2048) PreIdeal.offset_zero, View.ld_unit_zero (S := S512x2048) PreIdeal.offset_zero]

theorem points (t : Fin cfg0.N) : t.val < 4 := Nat.lt_of_lt_of_eq t.isLt Gen.N_0

/-- Block `t`'s column `k`, in the array. -/
def col (t : Fin 4) (k : Fin 512) : Fin 2048 := ⟨512 * t.val + k.val, by omega⟩

theorem at_start : ∀ t : Fin cfg0.N, win0_0.index t (0 : Fin 2) = 0 ∧ win0_0.index t (1 : Fin 2) = 0
    ∧ win0_1.index t (0 : Fin 2) = t.val ∧ win0_1.index t (1 : Fin 2) = 0 ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = t.val ∧ win0_1.index t (1 : Fin 2) = 0 ∧ win0_2.index t (0 : Fin 2) = 0 ∧ win0_2.index t (1 : Fin 2) = t.val)

theorem whole0 (a : FVec Ideal S2048x2048 .bf16) (t : Fin cfg0.N) : ((cfg0.win 0).blk t).view.read (Elt Ideal) a = a := by
  obtain ⟨p0, q0, p1, q1, p2, q2⟩ := at_start t
  funext j
  refine congrArg a (funext fun x => Fin.ext ?_)
  match x with
  | ⟨0, _⟩ => show win0_0.index t (0 : Fin 2) * 2048 + 1 * (j 0).val = (j 0).val; omega
  | ⟨1, _⟩ => show win0_0.index t (1 : Fin 2) * 2048 + 1 * (j 1).val = (j 1).val; omega

/-- Block `t` of the right operand. -/
def cut (t : Fin 4) (b : FVec Ideal S2048x2048 .bf16) : FVec Ideal S512x2048 .bf16 := fun i => b (ix2 (col t (i 0)) (i 1))

theorem cut1 (b : FVec Ideal S2048x2048 .bf16) (t : Fin cfg0.N) : ((cfg0.win 1).blk t).view.read (Elt Ideal) b = cut ⟨t.val, points t⟩ b := by
  obtain ⟨p0, q0, p1, q1, p2, q2⟩ := at_start t
  funext j
  refine congrArg b (funext fun x => Fin.ext ?_)
  match x with
  | ⟨0, _⟩ => show win0_1.index t (0 : Fin 2) * 512 + 1 * (j 0).val = 512 * t.val + (j 0).val; omega
  | ⟨1, _⟩ => show win0_1.index t (1 : Fin 2) * 2048 + 1 * (j 1).val = (j 1).val; omega

theorem cut2 (o : FVec Ideal S2048x2048 .f32) (t : Fin cfg0.N) (r : Fin 2048) (k : Fin 512) :
    ((cfg0.win 2).blk t).view.read (Elt Ideal) o (ix2 r k) = o (ix2 r (col ⟨t.val, points t⟩ k)) := by
  obtain ⟨p0, q0, p1, q1, p2, q2⟩ := at_start t
  refine congrArg o (funext fun x => Fin.ext ?_)
  match x with
  | ⟨0, _⟩ => show win0_2.index t (0 : Fin 2) * 2048 + 1 * r.val = r.val; omega
  | ⟨1, _⟩ => show win0_2.index t (1 : Fin 2) * 512 + 1 * k.val = 512 * t.val + k.val; omega

/-- What the call leaves: every entry of the product. -/
theorem leaves (m : (ℓ : Loc nD τ sig) → Buf (Elt Ideal) ℓ) (c : Dev nD) : (Gen.dats m 0 c).arrAt 2 cfg0.N
    = fun i : S2048x2048.Idx => entry (m ((c.tc : Thread nD τ).loc main_arg0)) (m ((c.tc : Thread nD τ).loc main_arg1)) (i 0) (i 1) := by
  funext i
  have hN : cfg0.N = 4 := Gen.N_0
  have hi : (i 1).val < 2048 := (i 1).isLt
  let t : Fin cfg0.N := ⟨(i 1).val / 512, by omega⟩
  let k : Fin 512 := ⟨(i 1).val % 512, Nat.mod_lt _ (by omega)⟩
  have hk : col ⟨t.val, points t⟩ k = i 1 := Fin.ext (Nat.div_add_mod _ _)
  have e0 : Gen.iblk m c 0 t = m ((c.tc : Thread nD τ).loc main_arg0) := whole0 _ t
  have e1 : Gen.iblk m c 1 t = cut ⟨t.val, points t⟩ (m ((c.tc : Thread nD τ).loc main_arg1)) := cut1 _ t
  have e := congrFun ((Value.blocks2 m c t (Gen.flush0_2 t)).trans (Value.flushed2 m c t)) (ix2 (i 0) k)
  have ei : ix2 (i 0) (col ⟨t.val, points t⟩ k) = i := by rw [hk]; exact funext fun x => by fin_cases x <;> rfl
  refine Eq.trans (congrArg _ ei.symm) ((cut2 _ t (i 0) k).symm.trans (e.trans ?_))
  rw [e0, e1, stores]
  refine (block_at _ _ (i 0) k).trans ?_
  show entry _ _ (i 0) (col ⟨t.val, points t⟩ k) = _
  rw [hk]

end Cert.OutDxIdeal

namespace Cert.OutDxRefIdeal

open Idealize.ShloMosaic Idealize.ShloMosaic.TcCoe Idealize.ShloMosaic.Tactic
open Cert.OutDxRefIdeal.Gen

/-- The reference, entry by entry. -/
theorem entries (A B : FVec Ideal S2048x2048 .bf16) : (Host.dotGeneral dot_S2048x2048_S2048x2048_S2048x2048_1_0_0_1_n_n none (extf .f32 A bitsLt_bf16_f32) (transpose S2048x2048 [1, 0] (extf .f32 B bitsLt_bf16_f32) transposes_S2048x2048_S2048x2048_1_0) : FVec Ideal S2048x2048 .f32)
    = fun i => Cert.OutDxIdeal.entry A B (i 0) (i 1) := by
  funext i
  obtain ⟨r, k, rfl⟩ : ∃ (r k : Fin 2048), i = ix2 r k := ⟨i 0, i 1, funext fun a => by fin_cases a <;> rfl⟩
  show _ = Cert.OutDxIdeal.entry A B r k
  unfold Cert.OutDxIdeal.entry
  pointwise

end Cert.OutDxRefIdeal

namespace Cert.Proof

open Idealize.ShloMosaic Idealize.ShloMosaic.TcCoe Idealize.SL.Sem

/-- The call at bits runs, keeps its arguments, and leaves every semaphore at zero. -/
theorem frame_out_dx : Cert.quiescent_OutDx := fun m ρ _ => Cert.OutDx.Gen.frame m ρ

/-- The same at the ideal values. -/
theorem frame_out_dxIdeal : Cert.quiescent_OutDxIdeal := fun m ρ _ => Cert.OutDxIdeal.Gen.frame m ρ

/-- The plain product runs and keeps its arguments. -/
theorem frame_out_dxRefIdeal : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

open Cert.OutDxRefIdeal in
/-- The reference's run, its result entry by entry. -/
theorem out_dx_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i : S2048x2048.Idx => Cert.OutDxIdeal.entry (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (entries _ _), (h c).2⟩)
    (Value.run (F := Ideal) m ρ)

/-- The device ends with every entry of the product. -/
theorem algebraic_out_dx : Cert.algebraic_OutDxIdeal_OutDxRefIdeal := fun m ρ m' ρ' _ h => by
  refine ⟨_, ?_, out_dx_reference m' ρ'⟩
  refine (θ_run Cert.OutDxIdeal.defs _ _).mono (fun _ hr c => ⟨(hr c).1.trans ?_, (hr c).2⟩)
    (Cert.OutDxIdeal.Value.run_blocks (F := Ideal) m ρ)
  rw [Cert.OutDxIdeal.leaves, (h c).1, (h c).2]

end Cert.Proof

namespace Cert.OutDwIdeal

open Idealize.ShloMosaic Idealize.ShloMosaic.TcCoe Idealize.ShloMosaic.Tactic
open Idealize.SL.Sem

/-- An entry of the product: the merged rows turned over by the result's gradient. -/
def entry (a : FVec Ideal S2048x2048 .bf16) (b : FVec Ideal S2048x2048 .bf16) (r k : Fin 2048) : EReal := ∑ j : Fin 2048, a (ix2 j r) * b (ix2 j k)

/-- An entry of a block. -/
theorem block_at (a : FVec Ideal S2048x2048 .bf16) (b : FVec Ideal S2048x512 .bf16) (r : Fin 2048) (k : Fin 512) :
    Gen.k0_pay1 (F := Ideal) a b (ix2 r k) = ∑ j : Fin 2048, a (ix2 j r) * b (ix2 j k) := by
  unfold Gen.k0_pay1
  pointwise

theorem stores (a : FVec Ideal S2048x2048 .bf16) (b : FVec Ideal S2048x512 .bf16) : Gen.out0_2 (F := Ideal) a b = Gen.k0_pay1 (F := Ideal) a b := by
  unfold Gen.out0_2
  rw [View.canon_unit_zero PreIdeal.offset_zero, View.ld_unit_zero (S := S2048x2048) PreIdeal.offset_zero, View.ld_unit_zero (S := S2048x512) PreIdeal.offset_zero]

theorem points (t : Fin cfg0.N) : t.val < 4 := Nat.lt_of_lt_of_eq t.isLt Gen.N_0

/-- Block `t`'s column `k`, in the array. -/
def col (t : Fin 4) (k : Fin 512) : Fin 2048 := ⟨512 * t.val + k.val, by omega⟩

theorem at_start : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val)

theorem whole0 (a : FVec Ideal S2048x2048 .bf16) (t : Fin cfg0.N) : ((cfg0.win 0).blk t).view.read (Elt Ideal) a = a := by
  obtain ⟨p0, q0, p1, q1, p2, q2⟩ := at_start t
  funext j
  refine congrArg a (funext fun x => Fin.ext ?_)
  match x with
  | ⟨0, _⟩ => show win0_0.index t (0 : Fin 2) * 2048 + 1 * (j 0).val = (j 0).val; omega
  | ⟨1, _⟩ => show win0_0.index t (1 : Fin 2) * 2048 + 1 * (j 1).val = (j 1).val; omega

/-- Block `t` of the right operand. -/
def cut (t : Fin 4) (b : FVec Ideal S2048x2048 .bf16) : FVec Ideal S2048x512 .bf16 := fun i => b (ix2 (i 0) (col t (i 1)))

theorem cut1 (b : FVec Ideal S2048x2048 .bf16) (t : Fin cfg0.N) : ((cfg0.win 1).blk t).view.read (Elt Ideal) b = cut ⟨t.val, points t⟩ b := by
  obtain ⟨p0, q0, p1, q1, p2, q2⟩ := at_start t
  funext j
  refine congrArg b (funext fun x => Fin.ext ?_)
  match x with
  | ⟨0, _⟩ => show win0_1.index t (0 : Fin 2) * 2048 + 1 * (j 0).val = (j 0).val; omega
  | ⟨1, _⟩ => show win0_1.index t (1 : Fin 2) * 512 + 1 * (j 1).val = 512 * t.val + (j 1).val; omega

theorem cut2 (o : FVec Ideal S2048x2048 .f32) (t : Fin cfg0.N) (r : Fin 2048) (k : Fin 512) :
    ((cfg0.win 2).blk t).view.read (Elt Ideal) o (ix2 r k) = o (ix2 r (col ⟨t.val, points t⟩ k)) := by
  obtain ⟨p0, q0, p1, q1, p2, q2⟩ := at_start t
  refine congrArg o (funext fun x => Fin.ext ?_)
  match x with
  | ⟨0, _⟩ => show win0_2.index t (0 : Fin 2) * 2048 + 1 * r.val = r.val; omega
  | ⟨1, _⟩ => show win0_2.index t (1 : Fin 2) * 512 + 1 * k.val = 512 * t.val + k.val; omega

/-- What the call leaves: every entry of the product. -/
theorem leaves (m : (ℓ : Loc nD τ sig) → Buf (Elt Ideal) ℓ) (c : Dev nD) : (Gen.dats m 0 c).arrAt 2 cfg0.N
    = fun i : S2048x2048.Idx => entry (m ((c.tc : Thread nD τ).loc main_arg0)) (m ((c.tc : Thread nD τ).loc main_arg1)) (i 0) (i 1) := by
  funext i
  have hN : cfg0.N = 4 := Gen.N_0
  have hi : (i 1).val < 2048 := (i 1).isLt
  let t : Fin cfg0.N := ⟨(i 1).val / 512, by omega⟩
  let k : Fin 512 := ⟨(i 1).val % 512, Nat.mod_lt _ (by omega)⟩
  have hk : col ⟨t.val, points t⟩ k = i 1 := Fin.ext (Nat.div_add_mod _ _)
  have e0 : Gen.iblk m c 0 t = m ((c.tc : Thread nD τ).loc main_arg0) := whole0 _ t
  have e1 : Gen.iblk m c 1 t = cut ⟨t.val, points t⟩ (m ((c.tc : Thread nD τ).loc main_arg1)) := cut1 _ t
  have e := congrFun ((Value.blocks2 m c t (Gen.flush0_2 t)).trans (Value.flushed2 m c t)) (ix2 (i 0) k)
  have ei : ix2 (i 0) (col ⟨t.val, points t⟩ k) = i := by rw [hk]; exact funext fun x => by fin_cases x <;> rfl
  refine Eq.trans (congrArg _ ei.symm) ((cut2 _ t (i 0) k).symm.trans (e.trans ?_))
  rw [e0, e1, stores]
  refine (block_at _ _ (i 0) k).trans ?_
  show entry _ _ (i 0) (col ⟨t.val, points t⟩ k) = _
  rw [hk]

end Cert.OutDwIdeal

namespace Cert.OutDwRefIdeal

open Idealize.ShloMosaic Idealize.ShloMosaic.TcCoe Idealize.ShloMosaic.Tactic
open Cert.OutDwRefIdeal.Gen

/-- The reference, entry by entry. -/
theorem entries (A B : FVec Ideal S2048x2048 .bf16) : (Host.dotGeneral dot_S2048x2048_S2048x2048_S2048x2048_1_0_0_1_n_n none (transpose S2048x2048 [1, 0] (extf .f32 A bitsLt_bf16_f32) transposes_S2048x2048_S2048x2048_1_0) (extf .f32 B bitsLt_bf16_f32) : FVec Ideal S2048x2048 .f32)
    = fun i => Cert.OutDwIdeal.entry A B (i 0) (i 1) := by
  funext i
  obtain ⟨r, k, rfl⟩ : ∃ (r k : Fin 2048), i = ix2 r k := ⟨i 0, i 1, funext fun a => by fin_cases a <;> rfl⟩
  show _ = Cert.OutDwIdeal.entry A B r k
  unfold Cert.OutDwIdeal.entry
  pointwise

end Cert.OutDwRefIdeal

namespace Cert.Proof

open Idealize.ShloMosaic Idealize.ShloMosaic.TcCoe Idealize.SL.Sem

/-- The call at bits runs, keeps its arguments, and leaves every semaphore at zero. -/
theorem frame_out_dw : Cert.quiescent_OutDw := fun m ρ _ => Cert.OutDw.Gen.frame m ρ

/-- The same at the ideal values. -/
theorem frame_out_dwIdeal : Cert.quiescent_OutDwIdeal := fun m ρ _ => Cert.OutDwIdeal.Gen.frame m ρ

/-- The plain product runs and keeps its arguments. -/
theorem frame_out_dwRefIdeal : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

open Cert.OutDwRefIdeal in
/-- The reference's run, its result entry by entry. -/
theorem out_dw_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i : S2048x2048.Idx => Cert.OutDwIdeal.entry (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (entries _ _), (h c).2⟩)
    (Value.run (F := Ideal) m ρ)

/-- The device ends with every entry of the product. -/
theorem algebraic_out_dw : Cert.algebraic_OutDwIdeal_OutDwRefIdeal := fun m ρ m' ρ' _ h => by
  refine ⟨_, ?_, out_dw_reference m' ρ'⟩
  refine (θ_run Cert.OutDwIdeal.defs _ _).mono (fun _ hr c => ⟨(hr c).1.trans ?_, (hr c).2⟩)
    (Cert.OutDwIdeal.Value.run_blocks (F := Ideal) m ρ)
  rw [Cert.OutDwIdeal.leaves, (h c).1, (h c).2]

end Cert.Proof

end
-- ==== Proof.Gates.lean ====
/-
  The layers that work row by row, on one device, in eight blocks of 256 rows: the first norm, the gate of the attention's
  rows and its gradient, the merge of the two branches and its gradient.
-/
module

public import proofs.«01_k».proof.Defs
public import proofs.«01_k».proof.Proof.Products
public import proofs.«01_k».proof.Proof.Gen.Norm.Frame
public import proofs.«01_k».proof.Proof.Gen.NormIdeal.Value
public import proofs.«01_k».proof.Proof.Gen.NormRefIdeal.Run
public import proofs.«01_k».proof.Proof.Gen.Gate.Frame
public import proofs.«01_k».proof.Proof.Gen.GateIdeal.Value
public import proofs.«01_k».proof.Proof.Gen.GateRefIdeal.Run
public import proofs.«01_k».proof.Proof.Gen.GateBack.Frame
public import proofs.«01_k».proof.Proof.Gen.GateBackIdeal.Value
public import proofs.«01_k».proof.Proof.Gen.GateBackRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.MergeBack.Frame
public import proofs.«01_k».proof.Proof.Gen.MergeBackIdeal.Value
public import proofs.«01_k».proof.Proof.Gen.MergeBackRefIdeal.Run
public import Idealize.ShloMosaic.Lib.Pointwise

@[expose] public section

noncomputable section

namespace Cert.GateIdeal

open Idealize.ShloMosaic

/-- The gate's weight, and its slope. -/
def weight (z : EReal) : EReal := Ideal.logistic z
def steep (z : EReal) : EReal := weight z * (1 - weight z)

end Cert.GateIdeal

namespace Cert.NormIdeal

open Idealize.ShloMosaic Idealize.ShloMosaic.TcCoe Idealize.ShloMosaic.Tactic
open Idealize.SL.Sem
open Cert.PreIdeal (row offset_zero placed)
open Cert.Windows (stays)
/-- A normed entry. -/
def normed {n : ℕ} (x : Cert.PreIdeal.Rows n) (g : Cert.PreIdeal.Rows 1) (r : Fin n) (k : Fin 2048) : EReal := x (ix2 r k) * Cert.PreIdeal.scale x r * g (ix2 0 k)

theorem block_at (x : Cert.PreIdeal.Rows 256) (g : Cert.PreIdeal.Rows 1) (r : Fin 256) (k : Fin 2048) :
    Gen.k0_pay1 (F := Ideal) x g (ix2 r k) = normed x g r k := by
  unfold Gen.k0_pay1 normed Cert.PreIdeal.scale Cert.PreIdeal.spread
  pointwise

theorem stores (x : Cert.PreIdeal.Rows 256) (g : Cert.PreIdeal.Rows 1) : Gen.out0_2 (F := Ideal) x g = Gen.k0_pay1 (F := Ideal) x g := by
  unfold Gen.out0_2
  rw [View.canon_unit_zero offset_zero, View.ld_unit_zero (S := S256x2048) offset_zero, View.ld_unit_zero (S := S1x2048) offset_zero]

theorem points (t : Fin cfg0.N) : t.val < 8 := Nat.lt_of_lt_of_eq t.isLt Gen.N_0

theorem cut0 (x : FVec Ideal S2048x2048 .f32) (t : Fin cfg0.N) (r : Fin 256) (k : Fin 2048) :
    ((cfg0.win 0).blk t).view.read (Elt Ideal) x (ix2 r k) = x (ix2 (row ⟨t.val, points t⟩ r) k) :=
  congrArg x (placed (b := 0) (W := 2048) (w := win0_0.index) (by decide +kernel) t (points t) r k rfl rfl (Nat.zero_add _))

theorem whole1 (x : FVec Ideal S1x2048 .f32) (t : Fin cfg0.N) : ((cfg0.win 1).blk t).view.read (Elt Ideal) x = x :=
  funext fun j => congrArg x (stays (w := win0_1.index) (by decide +kernel) t rfl rfl)

theorem cut2 (x : FVec Ideal S2048x2048 .bf16) (t : Fin cfg0.N) (r : Fin 256) (k : Fin 2048) :
    ((cfg0.win 2).blk t).view.read (Elt Ideal) x (ix2 r k) = x (ix2 (row ⟨t.val, points t⟩ r) k) :=
  congrArg x (placed (b := 0) (W := 2048) (w := win0_2.index) (by decide +kernel) t (points t) r k rfl rfl (Nat.zero_add _))

section leaves

variable (m : (ℓ : Loc nD τ sig) → Buf (Elt Ideal) ℓ) (c : Dev nD)

theorem leaves2 : (Gen.dats m 0 c).arrAt 2 cfg0.N = fun i : S2048x2048.Idx => normed (m ((c.tc : Thread nD τ).loc main_arg0)) (m ((c.tc : Thread nD τ).loc main_arg1)) (i 0) (i 1) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks2 m c t (Gen.flush0_2 t)).trans (Value.flushed2 m c t)) (ix2 r (i 1))
  have e0 : Gen.iblk m c 0 t = Cert.PreIdeal.cut ⟨t.val, points t⟩ (m ((c.tc : Thread nD τ).loc main_arg0)) := funext fun j =>
    (congrArg _ (show j = ix2 (j 0) (j 1) from funext fun a => by fin_cases a <;> rfl)).trans (cut0 _ t (j 0) (j 1))
  have e1 : Gen.iblk m c 1 t = (m ((c.tc : Thread nD τ).loc main_arg1)) := whole1 _ t
  refine Eq.trans (congrArg _ ei.symm) ((cut2 _ t r (i 1)).symm.trans (e.trans ?_))
  rw [e0, e1, stores]
  refine (block_at _ _ r (i 1)).trans ?_
  show normed _ _ (row ⟨t.val, points t⟩ r) (i 1) = _
  rw [hr]

end leaves

end Cert.NormIdeal

namespace Cert.NormRefIdeal

open Idealize.ShloMosaic Idealize.ShloMosaic.TcCoe Idealize.ShloMosaic.Tactic
open Cert.NormRefIdeal.Gen

/-! ## The reference, entry by entry -/

variable (A0 : FVec Ideal S2048x2048 .f32) (A1 : FVec Ideal S1x2048 .f32)

theorem entries2 : (truncf .bf16 (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A1)) bitsLt_bf16_f32 : FVec Ideal S2048x2048 .bf16)
    = fun i => Cert.NormIdeal.normed A0 A1 (i 0) (i 1) := by
  funext i
  obtain ⟨r, k, rfl⟩ : ∃ (r : Fin 2048) (k : Fin 2048), i = ix2 r k := ⟨i 0, i 1, funext fun a => by fin_cases a <;> rfl⟩
  show _ = Cert.NormIdeal.normed A0 A1 r k
  unfold Cert.NormIdeal.normed Cert.PreIdeal.scale Cert.PreIdeal.spread
  pointwise

end Cert.NormRefIdeal

namespace Cert.Proof

open Idealize.ShloMosaic Idealize.ShloMosaic.TcCoe Idealize.SL.Sem

/-- The call at bits runs, keeps its arguments, and leaves every semaphore at zero. -/
theorem frame_norm : Cert.quiescent_Norm := fun m ρ _ => Cert.Norm.Gen.frame m ρ

/-- The same at the ideal values. -/
theorem frame_normIdeal : Cert.quiescent_NormIdeal := fun m ρ _ => Cert.NormIdeal.Gen.frame m ρ

/-- The plain lines run and keep their arguments. -/
theorem frame_normRefIdeal : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

open Cert.NormRefIdeal in
/-- The reference's run, its results entry by entry. -/
theorem norm_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = (fun i : S2048x2048.Idx => Cert.NormIdeal.normed (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (entries2 _ _), (h c).2⟩)
    (Value.run (F := Ideal) m ρ)

/-- The device ends with every row normed. -/
theorem algebraic_norm : Cert.algebraic_NormIdeal_NormRefIdeal := fun m ρ m' ρ' _ h => by
  refine ⟨_, ?_, norm_reference m' ρ'⟩
  refine (θ_run Cert.NormIdeal.defs _ _).mono (fun _ hr c => ⟨(hr c).1.trans ?_, (hr c).2⟩)
    (Cert.NormIdeal.Value.run_blocks (F := Ideal) m ρ)
  rw [Cert.NormIdeal.leaves2, (h c).1, (h c).2]

end Cert.Proof

namespace Cert.GateIdeal

open Idealize.ShloMosaic Idealize.ShloMosaic.TcCoe Idealize.ShloMosaic.Tactic
open Idealize.SL.Sem
open Cert.PreIdeal (row offset_zero placed)
open Cert.Windows (stays)

/-- The column of a row that holds the gate of its entry `k`. -/
def gateCol (k : Fin 1024) : Fin 11008 := ⟨4096 + k.val, by omega⟩

/-- A gated entry. -/
def out (y z : EReal) : EReal := y * (z * weight z)

section stores

variable {F : FTy → Type} [FloatOps F] (c : Dev nD) (i : grid0.Coords)
  (a1 : Memref sig .tc .vmem S256x1024 .f32) (h1 : a1.IsWhole) (a2 : Memref sig .tc .vmem S256x1024 .f32) (h2 : a2.IsWhole) (a3 : Memref sig .tc .vmem S256x1024 .bf16) (h3 : a3.IsWhole)
  (x0 x1 : Vec F S256x1024 .f32)

theorem stores2 : Gen.out0_A_2 c i a1 h1 a2 h2 a3 h3 x0 x1 = Gen.k0_pay1 x0 x1 := by
  unfold Gen.out0_A_2
  rw [View.read_writes_eq_canon _ _ _ (Gen.cover0_A_2 c i a1 h1 a2 h2 a3 h3 x0 x1)]
  unfold Gen.kernelRun0_A
  dsimp only
  sl_unfold_words
  rw [View.canon_unit_zero offset_zero]
  simp only [View.readAt_eq_ld, h1.read_unread, h2.read_unread, View.ld_unit_zero (S := S256x1024) offset_zero]

end stores

theorem block2 (x0 x1 : FVec Ideal S256x1024 .f32) (r : Fin 256) (k : Fin 1024) :
    Gen.k0_pay1 (F := Ideal) x0 x1 (ix2 r k) = out (x0 (ix2 r k)) (x1 (ix2 r k)) := by
  unfold Gen.k0_pay1 out weight
  pointwise

theorem points (t : Fin cfg0.N) : t.val < 8 := Nat.lt_of_lt_of_eq t.isLt Gen.N_0

theorem cut0 (x : FVec Ideal S2048x1024 .f32) (t : Fin cfg0.N) (r : Fin 256) (k : Fin 1024) :
    ((cfg0.win 0).blk t).view.read (Elt Ideal) x (ix2 r k) = x (ix2 (row ⟨t.val, points t⟩ r) k) :=
  congrArg x (placed (b := 0) (W := 1024) (w := win0_0.index) (by decide +kernel) t (points t) r k rfl rfl (Nat.zero_add _))

theorem cut1 (m : (ℓ : Loc nD τ sig) → Buf (Elt Ideal) ℓ) (c : Dev nD) (t : Fin cfg0.N) (r : Fin 256) (k : Fin 1024) :
    Gen.X0_1 m c t (ix2 r k) = (m ((c.tc : Thread nD τ).loc main_arg1)) (ix2 (row ⟨t.val, points t⟩ r) (gateCol k)) := by
  unfold Gen.X0_1 Pipeline.Window.fill
  rw [dif_pos (Gen.moved0_1 t _)]
  exact congrArg (m ((c.tc : Thread nD τ).loc main_arg1)) (placed (b := 4) (W := 1024) (w := win0_1.index) (by decide +kernel) t (points t) r k rfl rfl rfl)

theorem cut2 (x : FVec Ideal S2048x1024 .bf16) (t : Fin cfg0.N) (r : Fin 256) (k : Fin 1024) :
    ((cfg0.win 2).blk t).view.read (Elt Ideal) x (ix2 r k) = x (ix2 (row ⟨t.val, points t⟩ r) k) :=
  congrArg x (placed (b := 0) (W := 1024) (w := win0_2.index) (by decide +kernel) t (points t) r k rfl rfl (Nat.zero_add _))

section leaves

variable (m : (ℓ : Loc nD τ sig) → Buf (Elt Ideal) ℓ) (c : Dev nD)

theorem leaves2 : (Gen.dats m 0 c).arrAt 2 cfg0.N = fun i : S2048x1024.Idx =>
    out ((m ((c.tc : Thread nD τ).loc main_arg0)) (ix2 (i 0) (i 1))) ((m ((c.tc : Thread nD τ).loc main_arg1)) (ix2 (i 0) (gateCol (i 1)))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks2 m c t (Gen.flush0_2 t)).trans (Value.flushed2_A m c t)) (ix2 r (i 1))
  refine Eq.trans (congrArg _ ei.symm) ((cut2 _ t r (i 1)).symm.trans (e.trans ?_))
  rw [stores2]
  refine (block2 _ _ r (i 1)).trans ?_
  rw [show Gen.iblk m c 0 t (ix2 r (i 1)) = _ from cut0 _ t r (i 1), cut1 m c t r (i 1), hr]

end leaves

end Cert.GateIdeal

namespace Cert.GateRefIdeal

open Idealize.ShloMosaic Idealize.ShloMosaic.TcCoe Idealize.ShloMosaic.Tactic
open Cert.GateRefIdeal.Gen

/-! ## The reference, entry by entry -/

variable (A0 : FVec Ideal S2048x1024 .f32) (A1 : FVec Ideal S2048x11008 .f32)

theorem entries2 : (truncf .bf16 (mulf A0 (mulf (extractStridedSlice S2048x1024 ![0, 4096] A1 slices_S2048x11008_S2048x1024_0_4096) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 4096] A1 slices_S2048x11008_S2048x1024_0_4096))))))) bitsLt_bf16_f32 : FVec Ideal S2048x1024 .bf16)
    = fun i => Cert.GateIdeal.out (A0 (ix2 (i 0) (i 1))) (A1 (ix2 (i 0) (Cert.GateIdeal.gateCol (i 1)))) := by
  funext i
  obtain ⟨r, k, rfl⟩ : ∃ (r : Fin 2048) (k : Fin 1024), i = ix2 r k := ⟨i 0, i 1, funext fun a => by fin_cases a <;> rfl⟩
  show _ = Cert.GateIdeal.out (A0 (ix2 r k)) (A1 (ix2 r (Cert.GateIdeal.gateCol k)))
  unfold Cert.GateIdeal.out Cert.GateIdeal.weight Ideal.logistic Cert.GateIdeal.gateCol
  pointwise

end Cert.GateRefIdeal

namespace Cert.Proof

open Idealize.ShloMosaic Idealize.ShloMosaic.TcCoe Idealize.SL.Sem

/-- The call at bits runs, keeps its arguments, and leaves every semaphore at zero. -/
theorem frame_gate : Cert.quiescent_Gate := fun m ρ _ => Cert.Gate.Gen.frame m ρ

/-- The same at the ideal values. -/
theorem frame_gateIdeal : Cert.quiescent_GateIdeal := fun m ρ _ => Cert.GateIdeal.Gen.frame m ρ

/-- The plain lines run and keep their arguments. -/
theorem frame_gateRefIdeal : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

open Cert.GateRefIdeal in
/-- The reference's run, its results entry by entry. -/
theorem gate_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i : S2048x1024.Idx => Cert.GateIdeal.out (m ((c.tc : Thread nD τ).loc main_arg0) (ix2 (i 0) (i 1))) (m ((c.tc : Thread nD τ).loc main_arg1) (ix2 (i 0) (Cert.GateIdeal.gateCol (i 1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (entries2 _ _), (h c).2⟩)
    (Value.run (F := Ideal) m ρ)

/-- The device ends with the gate. -/
theorem algebraic_gate : Cert.algebraic_GateIdeal_GateRefIdeal := fun m ρ m' ρ' _ h => by
  refine ⟨_, ?_, gate_reference m' ρ'⟩
  refine (θ_run Cert.GateIdeal.defs _ _).mono (fun _ hr c => ⟨(hr c).1.trans ?_, (hr c).2⟩)
    (Cert.GateIdeal.Value.run_blocks (F := Ideal) m ρ)
  rw [Cert.GateIdeal.leaves2, (h c).1, (h c).2]

end Cert.Proof

namespace Cert.GateBackIdeal

open Idealize.ShloMosaic Idealize.ShloMosaic.TcCoe Idealize.ShloMosaic.Tactic
open Idealize.SL.Sem
open Cert.PreIdeal (row offset_zero placed)
open Cert.Windows (stays)
open Cert.GateIdeal (weight steep)

/-- The column of a row that holds the gate of its entry `k`. -/
def gateCol (k : Fin 1024) : Fin 11008 := ⟨4096 + k.val, by omega⟩

/-- The gradient of a row's entry. -/
def toRows (z d : EReal) : EReal := d * (z * weight z)

/-- The gradient of a gate. -/
def toGate (y z d : EReal) : EReal := y * d * weight z + z * (y * d) * steep z

section stores

variable {F : FTy → Type} [FloatOps F] (c : Dev nD) (i : grid0.Coords)
  (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x1024 .bf16) (h5 : a5.IsWhole)
  (x0 x1 x2 : Vec F S256x1024 .f32)

theorem stores3 : Gen.out0_A_3 c i a1 h1 a2 h2 a3 h3 a4 h4 a5 h5 x0 x1 x2 = Gen.k0_pay2 x1 x2 := by
  unfold Gen.out0_A_3
  rw [View.read_writes_eq_canon _ _ _ (Gen.cover0_A_3 c i a1 h1 a2 h2 a3 h3 a4 h4 a5 h5 x0 x1 x2)]
  unfold Gen.kernelRun0_A
  dsimp only
  sl_unfold_words
  rw [View.canon_unit_zero offset_zero]
  simp only [View.readAt_eq_ld, h2.read_unread, h3.read_unread, View.ld_unit_zero (S := S256x1024) offset_zero]

theorem stores4 : Gen.out0_A_4 c i a1 h1 a2 h2 a3 h3 a4 h4 a5 h5 x0 x1 x2 = Gen.k0_pay3 x0 x1 x2 := by
  unfold Gen.out0_A_4
  rw [View.read_writes_eq_canon _ _ _ (Gen.cover0_A_4 c i a1 h1 a2 h2 a3 h3 a4 h4 a5 h5 x0 x1 x2)]
  unfold Gen.kernelRun0_A
  dsimp only
  sl_unfold_words
  rw [View.canon_unit_zero offset_zero]
  simp only [View.readAt_eq_ld, h1.read_unread, h2.read_unread, h3.read_unread, View.ld_unit_zero (S := S256x1024) offset_zero]

end stores

theorem block3 (x1 x2 : FVec Ideal S256x1024 .f32) (r : Fin 256) (k : Fin 1024) :
    Gen.k0_pay2 (F := Ideal) x1 x2 (ix2 r k) = toRows (x1 (ix2 r k)) (x2 (ix2 r k)) := by
  unfold Gen.k0_pay2 Gen.k0_pay1 toRows weight
  pointwise

theorem block4 (x0 x1 x2 : FVec Ideal S256x1024 .f32) (r : Fin 256) (k : Fin 1024) :
    Gen.k0_pay3 (F := Ideal) x0 x1 x2 (ix2 r k) = toGate (x0 (ix2 r k)) (x1 (ix2 r k)) (x2 (ix2 r k)) := by
  unfold Gen.k0_pay3 Gen.k0_pay1 toGate steep weight
  pointwise

theorem points (t : Fin cfg0.N) : t.val < 8 := Nat.lt_of_lt_of_eq t.isLt Gen.N_0

theorem cut0 (x : FVec Ideal S2048x1024 .f32) (t : Fin cfg0.N) (r : Fin 256) (k : Fin 1024) :
    ((cfg0.win 0).blk t).view.read (Elt Ideal) x (ix2 r k) = x (ix2 (row ⟨t.val, points t⟩ r) k) :=
  congrArg x (placed (b := 0) (W := 1024) (w := win0_0.index) (by decide +kernel) t (points t) r k rfl rfl (Nat.zero_add _))

theorem cut1 (m : (ℓ : Loc nD τ sig) → Buf (Elt Ideal) ℓ) (c : Dev nD) (t : Fin cfg0.N) (r : Fin 256) (k : Fin 1024) :
    Gen.X0_1 m c t (ix2 r k) = (m ((c.tc : Thread nD τ).loc main_arg1)) (ix2 (row ⟨t.val, points t⟩ r) (gateCol k)) := by
  unfold Gen.X0_1 Pipeline.Window.fill
  rw [dif_pos (Gen.moved0_1 t _)]
  exact congrArg (m ((c.tc : Thread nD τ).loc main_arg1)) (placed (b := 4) (W := 1024) (w := win0_1.index) (by decide +kernel) t (points t) r k rfl rfl rfl)

theorem cut2 (x : FVec Ideal S2048x1024 .f32) (t : Fin cfg0.N) (r : Fin 256) (k : Fin 1024) :
    ((cfg0.win 2).blk t).view.read (Elt Ideal) x (ix2 r k) = x (ix2 (row ⟨t.val, points t⟩ r) k) :=
  congrArg x (placed (b := 0) (W := 1024) (w := win0_2.index) (by decide +kernel) t (points t) r k rfl rfl (Nat.zero_add _))

theorem cut3 (x : FVec Ideal S2048x1024 .f32) (t : Fin cfg0.N) (r : Fin 256) (k : Fin 1024) :
    ((cfg0.win 3).blk t).view.read (Elt Ideal) x (ix2 r k) = x (ix2 (row ⟨t.val, points t⟩ r) k) :=
  congrArg x (placed (b := 0) (W := 1024) (w := win0_3.index) (by decide +kernel) t (points t) r k rfl rfl (Nat.zero_add _))

theorem cut4 (x : FVec Ideal S2048x1024 .bf16) (t : Fin cfg0.N) (r : Fin 256) (k : Fin 1024) :
    ((cfg0.win 4).blk t).view.read (Elt Ideal) x (ix2 r k) = x (ix2 (row ⟨t.val, points t⟩ r) k) :=
  congrArg x (placed (b := 0) (W := 1024) (w := win0_4.index) (by decide +kernel) t (points t) r k rfl rfl (Nat.zero_add _))

section leaves

variable (m : (ℓ : Loc nD τ sig) → Buf (Elt Ideal) ℓ) (c : Dev nD)

theorem leaves3 : (Gen.dats m 0 c).arrAt 3 cfg0.N = fun i : S2048x1024.Idx =>
    toRows ((m ((c.tc : Thread nD τ).loc main_arg1)) (ix2 (i 0) (gateCol (i 1)))) ((m ((c.tc : Thread nD τ).loc main_arg2)) (ix2 (i 0) (i 1))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks3 m c t (Gen.flush0_3 t)).trans (Value.flushed3_A m c t)) (ix2 r (i 1))
  refine Eq.trans (congrArg _ ei.symm) ((cut3 _ t r (i 1)).symm.trans (e.trans ?_))
  rw [stores3]
  refine (block3 _ _ r (i 1)).trans ?_
  rw [cut1 m c t r (i 1), show Gen.iblk m c 2 t (ix2 r (i 1)) = _ from cut2 _ t r (i 1), hr]

theorem leaves4 : (Gen.dats m 0 c).arrAt 4 cfg0.N = fun i : S2048x1024.Idx =>
    toGate ((m ((c.tc : Thread nD τ).loc main_arg0)) (ix2 (i 0) (i 1))) ((m ((c.tc : Thread nD τ).loc main_arg1)) (ix2 (i 0) (gateCol (i 1)))) ((m ((c.tc : Thread nD τ).loc main_arg2)) (ix2 (i 0) (i 1))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks4 m c t (Gen.flush0_4 t)).trans (Value.flushed4_A m c t)) (ix2 r (i 1))
  refine Eq.trans (congrArg _ ei.symm) ((cut4 _ t r (i 1)).symm.trans (e.trans ?_))
  rw [stores4]
  refine (block4 _ _ _ r (i 1)).trans ?_
  rw [show Gen.iblk m c 0 t (ix2 r (i 1)) = _ from cut0 _ t r (i 1), cut1 m c t r (i 1), show Gen.iblk m c 2 t (ix2 r (i 1)) = _ from cut2 _ t r (i 1), hr]

end leaves

end Cert.GateBackIdeal

namespace Cert.GateBackRefIdeal

open Idealize.ShloMosaic Idealize.ShloMosaic.TcCoe Idealize.ShloMosaic.Tactic
open Cert.GateBackRefIdeal.Gen

/-! ## The reference, entry by entry -/

variable (A0 : FVec Ideal S2048x1024 .f32) (A1 : FVec Ideal S2048x11008 .f32) (A2 : FVec Ideal S2048x1024 .f32)

theorem entries3 : (mulf A2 (mulf (extractStridedSlice S2048x1024 ![0, 4096] A1 slices_S2048x11008_S2048x1024_0_4096) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 4096] A1 slices_S2048x11008_S2048x1024_0_4096)))))) : FVec Ideal S2048x1024 .f32)
    = fun i => Cert.GateBackIdeal.toRows (A1 (ix2 (i 0) (Cert.GateBackIdeal.gateCol (i 1)))) (A2 (ix2 (i 0) (i 1))) := by
  funext i
  obtain ⟨r, k, rfl⟩ : ∃ (r : Fin 2048) (k : Fin 1024), i = ix2 r k := ⟨i 0, i 1, funext fun a => by fin_cases a <;> rfl⟩
  show _ = Cert.GateBackIdeal.toRows (A1 (ix2 r (Cert.GateBackIdeal.gateCol k))) (A2 (ix2 r k))
  unfold Cert.GateBackIdeal.toRows Cert.GateIdeal.weight Ideal.logistic Cert.GateBackIdeal.gateCol
  pointwise

theorem entries4 : (truncf .bf16 (addf (mulf (mulf A0 A2) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 4096] A1 slices_S2048x11008_S2048x1024_0_4096)))))) (mulf (mulf (extractStridedSlice S2048x1024 ![0, 4096] A1 slices_S2048x11008_S2048x1024_0_4096) (mulf A0 A2)) (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 4096] A1 slices_S2048x11008_S2048x1024_0_4096))))) (subf (broadcastInDim S2048x1024 ![] bcast_S_S2048x1024 (constant S_ .f32 0x3F800000#32)) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 4096] A1 slices_S2048x11008_S2048x1024_0_4096))))))))) bitsLt_bf16_f32 : FVec Ideal S2048x1024 .bf16)
    = fun i => Cert.GateBackIdeal.toGate (A0 (ix2 (i 0) (i 1))) (A1 (ix2 (i 0) (Cert.GateBackIdeal.gateCol (i 1)))) (A2 (ix2 (i 0) (i 1))) := by
  funext i
  obtain ⟨r, k, rfl⟩ : ∃ (r : Fin 2048) (k : Fin 1024), i = ix2 r k := ⟨i 0, i 1, funext fun a => by fin_cases a <;> rfl⟩
  show _ = Cert.GateBackIdeal.toGate (A0 (ix2 r k)) (A1 (ix2 r (Cert.GateBackIdeal.gateCol k))) (A2 (ix2 r k))
  unfold Cert.GateBackIdeal.toGate Cert.GateIdeal.steep Cert.GateIdeal.weight Ideal.logistic Cert.GateBackIdeal.gateCol
  pointwise

end Cert.GateBackRefIdeal

namespace Cert.Proof

open Idealize.ShloMosaic Idealize.ShloMosaic.TcCoe Idealize.SL.Sem

/-- The call at bits runs, keeps its arguments, and leaves every semaphore at zero. -/
theorem frame_gate_back : Cert.quiescent_GateBack := fun m ρ _ => Cert.GateBack.Gen.frame m ρ

/-- The same at the ideal values. -/
theorem frame_gate_backIdeal : Cert.quiescent_GateBackIdeal := fun m ρ _ => Cert.GateBackIdeal.Gen.frame m ρ

/-- The plain lines run and keep their arguments. -/
theorem frame_gate_backRefIdeal : Cert.quiescent_GateBackRefIdeal := fun m ρ _ =>
  (θ_run Cert.GateBackRefIdeal.defs _ _).mono (fun r h => ⟨fun c => (h c).2.2, sem_eq_zero_of_no_sems (by decide) r.2⟩)
    (Cert.GateBackRefIdeal.Value.run (F := Ideal) m ρ)

open Cert.GateBackRefIdeal in
/-- The reference's run, its results entry by entry. -/
theorem gate_back_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = (fun i : S2048x1024.Idx => Cert.GateBackIdeal.toRows (m ((c.tc : Thread nD τ).loc main_arg1) (ix2 (i 0) (Cert.GateBackIdeal.gateCol (i 1)))) (m ((c.tc : Thread nD τ).loc main_arg2) (ix2 (i 0) (i 1))))
      ∧ r.2.mem ((c.tc : Thread nD τ).loc main_v6) = (fun i : S2048x1024.Idx => Cert.GateBackIdeal.toGate (m ((c.tc : Thread nD τ).loc main_arg0) (ix2 (i 0) (i 1))) (m ((c.tc : Thread nD τ).loc main_arg1) (ix2 (i 0) (Cert.GateBackIdeal.gateCol (i 1)))) (m ((c.tc : Thread nD τ).loc main_arg2) (ix2 (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (entries3 _ _), (h c).2.1.trans (entries4 _ _ _), (h c).2.2⟩)
    (Value.run (F := Ideal) m ρ)

/-- The device ends with the gate's gradient. -/
theorem algebraic_gate_back : Cert.algebraic_GateBackIdeal_GateBackRefIdeal := fun m ρ m' ρ' _ h => by
  refine ⟨_, _, ?_, gate_back_reference m' ρ'⟩
  refine (θ_run Cert.GateBackIdeal.defs _ _).mono (fun _ hr c => ⟨(hr c).1.trans ?_, (hr c).2.1.trans ?_, (hr c).2.2⟩)
    (Cert.GateBackIdeal.Value.run_blocks (F := Ideal) m ρ)
  · rw [Cert.GateBackIdeal.leaves3, (h c).2.1, (h c).2.2]
  · rw [Cert.GateBackIdeal.leaves4, (h c).1, (h c).2.1, (h c).2.2]

end Cert.Proof

namespace Cert.MergeIdeal

open Idealize.ShloMosaic Idealize.ShloMosaic.TcCoe Idealize.ShloMosaic.Tactic
open Idealize.SL.Sem
open Cert.PreIdeal (row offset_zero placed)
open Cert.Windows (stays)
open Cert.GateIdeal (weight steep)

/-- The column of a row that holds the left gate of its entry `k`. -/
def leftCol (k : Fin 2048) : Fin 11008 := ⟨6144 + k.val, by omega⟩

/-- The column of a row that holds the right gate of its entry `k`. -/
def rightCol (k : Fin 2048) : Fin 11008 := ⟨8192 + k.val, by omega⟩

/-- A merged entry. -/
def out (u v y z : EReal) : EReal := weight y * u + weight z * v

section stores

variable {F : FTy → Type} [FloatOps F] (c : Dev nD) (i : grid0.Coords)
  (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .bf16) (h5 : a5.IsWhole)
  (x0 x1 x2 x3 : Vec F S256x2048 .f32)

theorem stores4 : Gen.out0_A_4 c i a1 h1 a2 h2 a3 h3 a4 h4 a5 h5 x0 x1 x2 x3 = Gen.k0_pay1 x0 x1 x2 x3 := by
  unfold Gen.out0_A_4
  rw [View.read_writes_eq_canon _ _ _ (Gen.cover0_A_4 c i a1 h1 a2 h2 a3 h3 a4 h4 a5 h5 x0 x1 x2 x3)]
  unfold Gen.kernelRun0_A
  dsimp only
  sl_unfold_words
  rw [View.canon_unit_zero offset_zero]
  simp only [View.readAt_eq_ld, h1.read_unread, h2.read_unread, h3.read_unread, h4.read_unread, View.ld_unit_zero (S := S256x2048) offset_zero]

end stores

theorem block4 (x0 x1 x2 x3 : FVec Ideal S256x2048 .f32) (r : Fin 256) (k : Fin 2048) :
    Gen.k0_pay1 (F := Ideal) x0 x1 x2 x3 (ix2 r k) = out (x0 (ix2 r k)) (x1 (ix2 r k)) (x2 (ix2 r k)) (x3 (ix2 r k)) := by
  unfold Gen.k0_pay1 out weight
  pointwise

theorem points (t : Fin cfg0.N) : t.val < 8 := Nat.lt_of_lt_of_eq t.isLt Gen.N_0

theorem cut0 (x : FVec Ideal S2048x2048 .f32) (t : Fin cfg0.N) (r : Fin 256) (k : Fin 2048) :
    ((cfg0.win 0).blk t).view.read (Elt Ideal) x (ix2 r k) = x (ix2 (row ⟨t.val, points t⟩ r) k) :=
  congrArg x (placed (b := 0) (W := 2048) (w := win0_0.index) (by decide +kernel) t (points t) r k rfl rfl (Nat.zero_add _))

theorem cut1 (x : FVec Ideal S2048x2048 .f32) (t : Fin cfg0.N) (r : Fin 256) (k : Fin 2048) :
    ((cfg0.win 1).blk t).view.read (Elt Ideal) x (ix2 r k) = x (ix2 (row ⟨t.val, points t⟩ r) k) :=
  congrArg x (placed (b := 0) (W := 2048) (w := win0_1.index) (by decide +kernel) t (points t) r k rfl rfl (Nat.zero_add _))

theorem cut2 (m : (ℓ : Loc nD τ sig) → Buf (Elt Ideal) ℓ) (c : Dev nD) (t : Fin cfg0.N) (r : Fin 256) (k : Fin 2048) :
    Gen.X0_2 m c t (ix2 r k) = (m ((c.tc : Thread nD τ).loc main_arg2)) (ix2 (row ⟨t.val, points t⟩ r) (leftCol k)) := by
  unfold Gen.X0_2 Pipeline.Window.fill
  rw [dif_pos (Gen.moved0_2 t _)]
  exact congrArg (m ((c.tc : Thread nD τ).loc main_arg2)) (placed (b := 3) (W := 2048) (w := win0_2.index) (by decide +kernel) t (points t) r k rfl rfl rfl)

theorem cut3 (m : (ℓ : Loc nD τ sig) → Buf (Elt Ideal) ℓ) (c : Dev nD) (t : Fin cfg0.N) (r : Fin 256) (k : Fin 2048) :
    Gen.X0_3 m c t (ix2 r k) = (m ((c.tc : Thread nD τ).loc main_arg2)) (ix2 (row ⟨t.val, points t⟩ r) (rightCol k)) := by
  unfold Gen.X0_3 Pipeline.Window.fill
  rw [dif_pos (Gen.moved0_3 t _)]
  exact congrArg (m ((c.tc : Thread nD τ).loc main_arg2)) (placed (b := 4) (W := 2048) (w := win0_3.index) (by decide +kernel) t (points t) r k rfl rfl rfl)

theorem cut4 (x : FVec Ideal S2048x2048 .bf16) (t : Fin cfg0.N) (r : Fin 256) (k : Fin 2048) :
    ((cfg0.win 4).blk t).view.read (Elt Ideal) x (ix2 r k) = x (ix2 (row ⟨t.val, points t⟩ r) k) :=
  congrArg x (placed (b := 0) (W := 2048) (w := win0_4.index) (by decide +kernel) t (points t) r k rfl rfl (Nat.zero_add _))

section leaves

variable (m : (ℓ : Loc nD τ sig) → Buf (Elt Ideal) ℓ) (c : Dev nD)

theorem leaves4 : (Gen.dats m 0 c).arrAt 4 cfg0.N = fun i : S2048x2048.Idx =>
    out ((m ((c.tc : Thread nD τ).loc main_arg0)) (ix2 (i 0) (i 1))) ((m ((c.tc : Thread nD τ).loc main_arg1)) (ix2 (i 0) (i 1))) ((m ((c.tc : Thread nD τ).loc main_arg2)) (ix2 (i 0) (leftCol (i 1)))) ((m ((c.tc : Thread nD τ).loc main_arg2)) (ix2 (i 0) (rightCol (i 1)))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks4 m c t (Gen.flush0_4 t)).trans (Value.flushed4_A m c t)) (ix2 r (i 1))
  refine Eq.trans (congrArg _ ei.symm) ((cut4 _ t r (i 1)).symm.trans (e.trans ?_))
  rw [stores4]
  refine (block4 _ _ _ _ r (i 1)).trans ?_
  rw [show Gen.iblk m c 0 t (ix2 r (i 1)) = _ from cut0 _ t r (i 1), show Gen.iblk m c 1 t (ix2 r (i 1)) = _ from cut1 _ t r (i 1), cut2 m c t r (i 1), cut3 m c t r (i 1), hr]

end leaves

end Cert.MergeIdeal

namespace Cert.MergeRefIdeal

open Idealize.ShloMosaic Idealize.ShloMosaic.TcCoe Idealize.ShloMosaic.Tactic
open Cert.MergeRefIdeal.Gen

/-! ## The reference, entry by entry -/

variable (A0 : FVec Ideal S2048x2048 .f32) (A1 : FVec Ideal S2048x2048 .f32) (A2 : FVec Ideal S2048x11008 .f32)

theorem entries4 : (truncf .bf16 (addf (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 6144] A2 slices_S2048x11008_S2048x2048_0_6144))))) A0) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 8192] A2 slices_S2048x11008_S2048x2048_0_8192))))) A1)) bitsLt_bf16_f32 : FVec Ideal S2048x2048 .bf16)
    = fun i => Cert.MergeIdeal.out (A0 (ix2 (i 0) (i 1))) (A1 (ix2 (i 0) (i 1))) (A2 (ix2 (i 0) (Cert.MergeIdeal.leftCol (i 1)))) (A2 (ix2 (i 0) (Cert.MergeIdeal.rightCol (i 1)))) := by
  funext i
  obtain ⟨r, k, rfl⟩ : ∃ (r : Fin 2048) (k : Fin 2048), i = ix2 r k := ⟨i 0, i 1, funext fun a => by fin_cases a <;> rfl⟩
  show _ = Cert.MergeIdeal.out (A0 (ix2 r k)) (A1 (ix2 r k)) (A2 (ix2 r (Cert.MergeIdeal.leftCol k))) (A2 (ix2 r (Cert.MergeIdeal.rightCol k)))
  unfold Cert.MergeIdeal.out Cert.GateIdeal.weight Ideal.logistic Cert.MergeIdeal.leftCol Cert.MergeIdeal.rightCol
  pointwise

end Cert.MergeRefIdeal

namespace Cert.Proof

open Idealize.ShloMosaic Idealize.ShloMosaic.TcCoe Idealize.SL.Sem

/-- The call at bits runs, keeps its arguments, and leaves every semaphore at zero. -/
theorem frame_merge : Cert.quiescent_Merge := fun m ρ _ => Cert.Merge.Gen.frame m ρ

/-- The same at the ideal values. -/
theorem frame_mergeIdeal : Cert.quiescent_MergeIdeal := fun m ρ _ => Cert.MergeIdeal.Gen.frame m ρ

/-- The plain lines run and keep their arguments. -/
theorem frame_mergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

open Cert.MergeRefIdeal in
/-- The reference's run, its results entry by entry. -/
theorem merge_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = (fun i : S2048x2048.Idx => Cert.MergeIdeal.out (m ((c.tc : Thread nD τ).loc main_arg0) (ix2 (i 0) (i 1))) (m ((c.tc : Thread nD τ).loc main_arg1) (ix2 (i 0) (i 1))) (m ((c.tc : Thread nD τ).loc main_arg2) (ix2 (i 0) (Cert.MergeIdeal.leftCol (i 1)))) (m ((c.tc : Thread nD τ).loc main_arg2) (ix2 (i 0) (Cert.MergeIdeal.rightCol (i 1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (entries4 _ _ _), (h c).2⟩)
    (Value.run (F := Ideal) m ρ)

/-- The device ends with the merge. -/
theorem algebraic_merge : Cert.algebraic_MergeIdeal_MergeRefIdeal := fun m ρ m' ρ' _ h => by
  refine ⟨_, ?_, merge_reference m' ρ'⟩
  refine (θ_run Cert.MergeIdeal.defs _ _).mono (fun _ hr c => ⟨(hr c).1.trans ?_, (hr c).2⟩)
    (Cert.MergeIdeal.Value.run_blocks (F := Ideal) m ρ)
  rw [Cert.MergeIdeal.leaves4, (h c).1, (h c).2.1, (h c).2.2]

end Cert.Proof

namespace Cert.MergeBackIdeal

open Idealize.ShloMosaic Idealize.ShloMosaic.TcCoe Idealize.ShloMosaic.Tactic
open Idealize.SL.Sem
open Cert.PreIdeal (row offset_zero placed)
open Cert.Windows (stays)
open Cert.GateIdeal (weight steep)

/-- The column of a row that holds the left gate of its entry `k`. -/
def leftCol (k : Fin 2048) : Fin 11008 := ⟨6144 + k.val, by omega⟩

/-- The column of a row that holds the right gate of its entry `k`. -/
def rightCol (k : Fin 2048) : Fin 11008 := ⟨8192 + k.val, by omega⟩

/-- The gradient of a left entry. -/
def toLeft (y d : EReal) : EReal := weight y * d

/-- The gradient of a right entry. -/
def toRight (z d : EReal) : EReal := weight z * d

/-- The gradient of a left gate. -/
def toLeftGate (u y d : EReal) : EReal := d * u * steep y

/-- The gradient of a right gate. -/
def toRightGate (v z d : EReal) : EReal := d * v * steep z

section stores

variable {F : FTy → Type} [FloatOps F] (c : Dev nD) (i : grid0.Coords)
  (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S256x2048 .bf16) (h7 : a7.IsWhole) (a8 : Memref sig .tc .vmem S256x2048 .bf16) (h8 : a8.IsWhole) (a9 : Memref sig .tc .vmem S256x2048 .bf16) (h9 : a9.IsWhole)
  (x0 x1 x2 x3 x4 : Vec F S256x2048 .f32)

theorem stores5 : Gen.out0_A_5 c i a1 h1 a2 h2 a3 h3 a4 h4 a5 h5 a6 h6 a7 h7 a8 h8 a9 h9 x0 x1 x2 x3 x4 = Gen.k0_pay5 x2 x4 := by
  unfold Gen.out0_A_5
  rw [View.read_writes_eq_canon _ _ _ (Gen.cover0_A_5 c i a1 h1 a2 h2 a3 h3 a4 h4 a5 h5 a6 h6 a7 h7 a8 h8 a9 h9 x0 x1 x2 x3 x4)]
  unfold Gen.kernelRun0_A
  dsimp only
  sl_unfold_words
  rw [View.canon_unit_zero offset_zero]
  simp only [View.readAt_eq_ld, h3.read_unread, h5.read_unread, View.ld_unit_zero (S := S256x2048) offset_zero]

theorem stores6 : Gen.out0_A_6 c i a1 h1 a2 h2 a3 h3 a4 h4 a5 h5 a6 h6 a7 h7 a8 h8 a9 h9 x0 x1 x2 x3 x4 = Gen.k0_pay6 x3 x4 := by
  unfold Gen.out0_A_6
  rw [View.read_writes_eq_canon _ _ _ (Gen.cover0_A_6 c i a1 h1 a2 h2 a3 h3 a4 h4 a5 h5 a6 h6 a7 h7 a8 h8 a9 h9 x0 x1 x2 x3 x4)]
  unfold Gen.kernelRun0_A
  dsimp only
  sl_unfold_words
  rw [View.canon_unit_zero offset_zero]
  simp only [View.readAt_eq_ld, h4.read_unread, h5.read_unread, View.ld_unit_zero (S := S256x2048) offset_zero]

theorem stores7 : Gen.out0_A_7 c i a1 h1 a2 h2 a3 h3 a4 h4 a5 h5 a6 h6 a7 h7 a8 h8 a9 h9 x0 x1 x2 x3 x4 = Gen.k0_pay7 x0 x2 x4 := by
  unfold Gen.out0_A_7
  rw [View.read_writes_eq_canon _ _ _ (Gen.cover0_A_7 c i a1 h1 a2 h2 a3 h3 a4 h4 a5 h5 a6 h6 a7 h7 a8 h8 a9 h9 x0 x1 x2 x3 x4)]
  unfold Gen.kernelRun0_A
  dsimp only
  sl_unfold_words
  rw [View.canon_unit_zero offset_zero]
  simp only [View.readAt_eq_ld, h1.read_unread, h3.read_unread, h5.read_unread, View.ld_unit_zero (S := S256x2048) offset_zero]

theorem stores8 : Gen.out0_A_8 c i a1 h1 a2 h2 a3 h3 a4 h4 a5 h5 a6 h6 a7 h7 a8 h8 a9 h9 x0 x1 x2 x3 x4 = Gen.k0_pay8 x1 x3 x4 := by
  unfold Gen.out0_A_8
  rw [View.read_writes_eq_canon _ _ _ (Gen.cover0_A_8 c i a1 h1 a2 h2 a3 h3 a4 h4 a5 h5 a6 h6 a7 h7 a8 h8 a9 h9 x0 x1 x2 x3 x4)]
  unfold Gen.kernelRun0_A
  dsimp only
  sl_unfold_words
  rw [View.canon_unit_zero offset_zero]
  simp only [View.readAt_eq_ld, h2.read_unread, h4.read_unread, h5.read_unread, View.ld_unit_zero (S := S256x2048) offset_zero]

end stores

theorem block5 (x2 x4 : FVec Ideal S256x2048 .f32) (r : Fin 256) (k : Fin 2048) :
    Gen.k0_pay5 (F := Ideal) x2 x4 (ix2 r k) = toLeft (x2 (ix2 r k)) (x4 (ix2 r k)) := by
  unfold Gen.k0_pay5 Gen.k0_pay1 Gen.k0_pay3 toLeft weight
  pointwise

theorem block6 (x3 x4 : FVec Ideal S256x2048 .f32) (r : Fin 256) (k : Fin 2048) :
    Gen.k0_pay6 (F := Ideal) x3 x4 (ix2 r k) = toRight (x3 (ix2 r k)) (x4 (ix2 r k)) := by
  unfold Gen.k0_pay6 Gen.k0_pay2 Gen.k0_pay4 toRight weight
  pointwise

theorem block7 (x0 x2 x4 : FVec Ideal S256x2048 .f32) (r : Fin 256) (k : Fin 2048) :
    Gen.k0_pay7 (F := Ideal) x0 x2 x4 (ix2 r k) = toLeftGate (x0 (ix2 r k)) (x2 (ix2 r k)) (x4 (ix2 r k)) := by
  unfold Gen.k0_pay7 Gen.k0_pay1 Gen.k0_pay3 toLeftGate steep weight
  pointwise

theorem block8 (x1 x3 x4 : FVec Ideal S256x2048 .f32) (r : Fin 256) (k : Fin 2048) :
    Gen.k0_pay8 (F := Ideal) x1 x3 x4 (ix2 r k) = toRightGate (x1 (ix2 r k)) (x3 (ix2 r k)) (x4 (ix2 r k)) := by
  unfold Gen.k0_pay8 Gen.k0_pay2 Gen.k0_pay4 toRightGate steep weight
  pointwise

theorem points (t : Fin cfg0.N) : t.val < 8 := Nat.lt_of_lt_of_eq t.isLt Gen.N_0

theorem cut0 (x : FVec Ideal S2048x2048 .f32) (t : Fin cfg0.N) (r : Fin 256) (k : Fin 2048) :
    ((cfg0.win 0).blk t).view.read (Elt Ideal) x (ix2 r k) = x (ix2 (row ⟨t.val, points t⟩ r) k) :=
  congrArg x (placed (b := 0) (W := 2048) (w := win0_0.index) (by decide +kernel) t (points t) r k rfl rfl (Nat.zero_add _))

theorem cut1 (x : FVec Ideal S2048x2048 .f32) (t : Fin cfg0.N) (r : Fin 256) (k : Fin 2048) :
    ((cfg0.win 1).blk t).view.read (Elt Ideal) x (ix2 r k) = x (ix2 (row ⟨t.val, points t⟩ r) k) :=
  congrArg x (placed (b := 0) (W := 2048) (w := win0_1.index) (by decide +kernel) t (points t) r k rfl rfl (Nat.zero_add _))

theorem cut2 (m : (ℓ : Loc nD τ sig) → Buf (Elt Ideal) ℓ) (c : Dev nD) (t : Fin cfg0.N) (r : Fin 256) (k : Fin 2048) :
    Gen.X0_2 m c t (ix2 r k) = (m ((c.tc : Thread nD τ).loc main_arg2)) (ix2 (row ⟨t.val, points t⟩ r) (leftCol k)) := by
  unfold Gen.X0_2 Pipeline.Window.fill
  rw [dif_pos (Gen.moved0_2 t _)]
  exact congrArg (m ((c.tc : Thread nD τ).loc main_arg2)) (placed (b := 3) (W := 2048) (w := win0_2.index) (by decide +kernel) t (points t) r k rfl rfl rfl)

theorem cut3 (m : (ℓ : Loc nD τ sig) → Buf (Elt Ideal) ℓ) (c : Dev nD) (t : Fin cfg0.N) (r : Fin 256) (k : Fin 2048) :
    Gen.X0_3 m c t (ix2 r k) = (m ((c.tc : Thread nD τ).loc main_arg2)) (ix2 (row ⟨t.val, points t⟩ r) (rightCol k)) := by
  unfold Gen.X0_3 Pipeline.Window.fill
  rw [dif_pos (Gen.moved0_3 t _)]
  exact congrArg (m ((c.tc : Thread nD τ).loc main_arg2)) (placed (b := 4) (W := 2048) (w := win0_3.index) (by decide +kernel) t (points t) r k rfl rfl rfl)

theorem cut4 (x : FVec Ideal S2048x2048 .f32) (t : Fin cfg0.N) (r : Fin 256) (k : Fin 2048) :
    ((cfg0.win 4).blk t).view.read (Elt Ideal) x (ix2 r k) = x (ix2 (row ⟨t.val, points t⟩ r) k) :=
  congrArg x (placed (b := 0) (W := 2048) (w := win0_4.index) (by decide +kernel) t (points t) r k rfl rfl (Nat.zero_add _))

theorem cut5 (x : FVec Ideal S2048x2048 .bf16) (t : Fin cfg0.N) (r : Fin 256) (k : Fin 2048) :
    ((cfg0.win 5).blk t).view.read (Elt Ideal) x (ix2 r k) = x (ix2 (row ⟨t.val, points t⟩ r) k) :=
  congrArg x (placed (b := 0) (W := 2048) (w := win0_5.index) (by decide +kernel) t (points t) r k rfl rfl (Nat.zero_add _))

theorem cut6 (x : FVec Ideal S2048x2048 .bf16) (t : Fin cfg0.N) (r : Fin 256) (k : Fin 2048) :
    ((cfg0.win 6).blk t).view.read (Elt Ideal) x (ix2 r k) = x (ix2 (row ⟨t.val, points t⟩ r) k) :=
  congrArg x (placed (b := 0) (W := 2048) (w := win0_6.index) (by decide +kernel) t (points t) r k rfl rfl (Nat.zero_add _))

theorem cut7 (x : FVec Ideal S2048x2048 .bf16) (t : Fin cfg0.N) (r : Fin 256) (k : Fin 2048) :
    ((cfg0.win 7).blk t).view.read (Elt Ideal) x (ix2 r k) = x (ix2 (row ⟨t.val, points t⟩ r) k) :=
  congrArg x (placed (b := 0) (W := 2048) (w := win0_7.index) (by decide +kernel) t (points t) r k rfl rfl (Nat.zero_add _))

theorem cut8 (x : FVec Ideal S2048x2048 .bf16) (t : Fin cfg0.N) (r : Fin 256) (k : Fin 2048) :
    ((cfg0.win 8).blk t).view.read (Elt Ideal) x (ix2 r k) = x (ix2 (row ⟨t.val, points t⟩ r) k) :=
  congrArg x (placed (b := 0) (W := 2048) (w := win0_8.index) (by decide +kernel) t (points t) r k rfl rfl (Nat.zero_add _))

section leaves

variable (m : (ℓ : Loc nD τ sig) → Buf (Elt Ideal) ℓ) (c : Dev nD)

theorem leaves5 : (Gen.dats m 0 c).arrAt 5 cfg0.N = fun i : S2048x2048.Idx =>
    toLeft ((m ((c.tc : Thread nD τ).loc main_arg2)) (ix2 (i 0) (leftCol (i 1)))) ((m ((c.tc : Thread nD τ).loc main_arg3)) (ix2 (i 0) (i 1))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks5 m c t (Gen.flush0_5 t)).trans (Value.flushed5_A m c t)) (ix2 r (i 1))
  refine Eq.trans (congrArg _ ei.symm) ((cut5 _ t r (i 1)).symm.trans (e.trans ?_))
  rw [stores5]
  refine (block5 _ _ r (i 1)).trans ?_
  rw [cut2 m c t r (i 1), show Gen.iblk m c 4 t (ix2 r (i 1)) = _ from cut4 _ t r (i 1), hr]

theorem leaves6 : (Gen.dats m 0 c).arrAt 6 cfg0.N = fun i : S2048x2048.Idx =>
    toRight ((m ((c.tc : Thread nD τ).loc main_arg2)) (ix2 (i 0) (rightCol (i 1)))) ((m ((c.tc : Thread nD τ).loc main_arg3)) (ix2 (i 0) (i 1))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks6 m c t (Gen.flush0_6 t)).trans (Value.flushed6_A m c t)) (ix2 r (i 1))
  refine Eq.trans (congrArg _ ei.symm) ((cut6 _ t r (i 1)).symm.trans (e.trans ?_))
  rw [stores6]
  refine (block6 _ _ r (i 1)).trans ?_
  rw [cut3 m c t r (i 1), show Gen.iblk m c 4 t (ix2 r (i 1)) = _ from cut4 _ t r (i 1), hr]

theorem leaves7 : (Gen.dats m 0 c).arrAt 7 cfg0.N = fun i : S2048x2048.Idx =>
    toLeftGate ((m ((c.tc : Thread nD τ).loc main_arg0)) (ix2 (i 0) (i 1))) ((m ((c.tc : Thread nD τ).loc main_arg2)) (ix2 (i 0) (leftCol (i 1)))) ((m ((c.tc : Thread nD τ).loc main_arg3)) (ix2 (i 0) (i 1))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks7 m c t (Gen.flush0_7 t)).trans (Value.flushed7_A m c t)) (ix2 r (i 1))
  refine Eq.trans (congrArg _ ei.symm) ((cut7 _ t r (i 1)).symm.trans (e.trans ?_))
  rw [stores7]
  refine (block7 _ _ _ r (i 1)).trans ?_
  rw [show Gen.iblk m c 0 t (ix2 r (i 1)) = _ from cut0 _ t r (i 1), cut2 m c t r (i 1), show Gen.iblk m c 4 t (ix2 r (i 1)) = _ from cut4 _ t r (i 1), hr]

theorem leaves8 : (Gen.dats m 0 c).arrAt 8 cfg0.N = fun i : S2048x2048.Idx =>
    toRightGate ((m ((c.tc : Thread nD τ).loc main_arg1)) (ix2 (i 0) (i 1))) ((m ((c.tc : Thread nD τ).loc main_arg2)) (ix2 (i 0) (rightCol (i 1)))) ((m ((c.tc : Thread nD τ).loc main_arg3)) (ix2 (i 0) (i 1))) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have ei : ix2 (row ⟨t.val, points t⟩ r) (i 1) = i := by rw [hr]; exact funext fun a => by fin_cases a <;> rfl
  have e := congrFun ((Value.blocks8 m c t (Gen.flush0_8 t)).trans (Value.flushed8_A m c t)) (ix2 r (i 1))
  refine Eq.trans (congrArg _ ei.symm) ((cut8 _ t r (i 1)).symm.trans (e.trans ?_))
  rw [stores8]
  refine (block8 _ _ _ r (i 1)).trans ?_
  rw [show Gen.iblk m c 1 t (ix2 r (i 1)) = _ from cut1 _ t r (i 1), cut3 m c t r (i 1), show Gen.iblk m c 4 t (ix2 r (i 1)) = _ from cut4 _ t r (i 1), hr]

end leaves

end Cert.MergeBackIdeal

namespace Cert.MergeBackRefIdeal

open Idealize.ShloMosaic Idealize.ShloMosaic.TcCoe Idealize.ShloMosaic.Tactic
open Cert.MergeBackRefIdeal.Gen

/-! ## The reference, entry by entry -/

variable (A0 : FVec Ideal S2048x2048 .f32) (A1 : FVec Ideal S2048x2048 .f32) (A2 : FVec Ideal S2048x11008 .f32) (A3 : FVec Ideal S2048x2048 .f32)

theorem entries5 : (truncf .bf16 (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 6144] A2 slices_S2048x11008_S2048x2048_0_6144))))) (shapeCast _ A3 shapeCasts_S2048x2048_S2048x2048)) bitsLt_bf16_f32 : FVec Ideal S2048x2048 .bf16)
    = fun i => Cert.MergeBackIdeal.toLeft (A2 (ix2 (i 0) (Cert.MergeBackIdeal.leftCol (i 1)))) (A3 (ix2 (i 0) (i 1))) := by
  funext i
  obtain ⟨r, k, rfl⟩ : ∃ (r : Fin 2048) (k : Fin 2048), i = ix2 r k := ⟨i 0, i 1, funext fun a => by fin_cases a <;> rfl⟩
  show _ = Cert.MergeBackIdeal.toLeft (A2 (ix2 r (Cert.MergeBackIdeal.leftCol k))) (A3 (ix2 r k))
  unfold Cert.MergeBackIdeal.toLeft Cert.GateIdeal.weight Ideal.logistic Cert.MergeBackIdeal.leftCol
  pointwise

theorem entries6 : (truncf .bf16 (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 8192] A2 slices_S2048x11008_S2048x2048_0_8192))))) (shapeCast _ A3 shapeCasts_S2048x2048_S2048x2048)) bitsLt_bf16_f32 : FVec Ideal S2048x2048 .bf16)
    = fun i => Cert.MergeBackIdeal.toRight (A2 (ix2 (i 0) (Cert.MergeBackIdeal.rightCol (i 1)))) (A3 (ix2 (i 0) (i 1))) := by
  funext i
  obtain ⟨r, k, rfl⟩ : ∃ (r : Fin 2048) (k : Fin 2048), i = ix2 r k := ⟨i 0, i 1, funext fun a => by fin_cases a <;> rfl⟩
  show _ = Cert.MergeBackIdeal.toRight (A2 (ix2 r (Cert.MergeBackIdeal.rightCol k))) (A3 (ix2 r k))
  unfold Cert.MergeBackIdeal.toRight Cert.GateIdeal.weight Ideal.logistic Cert.MergeBackIdeal.rightCol
  pointwise

theorem entries7 : (truncf .bf16 (mulf (mulf (shapeCast _ A3 shapeCasts_S2048x2048_S2048x2048) A0) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 6144] A2 slices_S2048x11008_S2048x2048_0_6144))))) (subf (broadcastInDim S2048x2048 ![] bcast_S_S2048x2048 (constant S_ .f32 0x3F800000#32)) (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 6144] A2 slices_S2048x11008_S2048x2048_0_6144)))))))) bitsLt_bf16_f32 : FVec Ideal S2048x2048 .bf16)
    = fun i => Cert.MergeBackIdeal.toLeftGate (A0 (ix2 (i 0) (i 1))) (A2 (ix2 (i 0) (Cert.MergeBackIdeal.leftCol (i 1)))) (A3 (ix2 (i 0) (i 1))) := by
  funext i
  obtain ⟨r, k, rfl⟩ : ∃ (r : Fin 2048) (k : Fin 2048), i = ix2 r k := ⟨i 0, i 1, funext fun a => by fin_cases a <;> rfl⟩
  show _ = Cert.MergeBackIdeal.toLeftGate (A0 (ix2 r k)) (A2 (ix2 r (Cert.MergeBackIdeal.leftCol k))) (A3 (ix2 r k))
  unfold Cert.MergeBackIdeal.toLeftGate Cert.GateIdeal.steep Cert.GateIdeal.weight Ideal.logistic Cert.MergeBackIdeal.leftCol
  pointwise

theorem entries8 : (truncf .bf16 (mulf (mulf (shapeCast _ A3 shapeCasts_S2048x2048_S2048x2048) A1) (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 8192] A2 slices_S2048x11008_S2048x2048_0_8192))))) (subf (broadcastInDim S2048x2048 ![] bcast_S_S2048x2048 (constant S_ .f32 0x3F800000#32)) (Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 8192] A2 slices_S2048x11008_S2048x2048_0_8192)))))))) bitsLt_bf16_f32 : FVec Ideal S2048x2048 .bf16)
    = fun i => Cert.MergeBackIdeal.toRightGate (A1 (ix2 (i 0) (i 1))) (A2 (ix2 (i 0) (Cert.MergeBackIdeal.rightCol (i 1)))) (A3 (ix2 (i 0) (i 1))) := by
  funext i
  obtain ⟨r, k, rfl⟩ : ∃ (r : Fin 2048) (k : Fin 2048), i = ix2 r k := ⟨i 0, i 1, funext fun a => by fin_cases a <;> rfl⟩
  show _ = Cert.MergeBackIdeal.toRightGate (A1 (ix2 r k)) (A2 (ix2 r (Cert.MergeBackIdeal.rightCol k))) (A3 (ix2 r k))
  unfold Cert.MergeBackIdeal.toRightGate Cert.GateIdeal.steep Cert.GateIdeal.weight Ideal.logistic Cert.MergeBackIdeal.rightCol
  pointwise

end Cert.MergeBackRefIdeal

namespace Cert.Proof

open Idealize.ShloMosaic Idealize.ShloMosaic.TcCoe Idealize.SL.Sem

/-- The call at bits runs, keeps its arguments, and leaves every semaphore at zero. -/
theorem frame_merge_back : Cert.quiescent_MergeBack := fun m ρ _ => Cert.MergeBack.Gen.frame m ρ

/-- The same at the ideal values. -/
theorem frame_merge_backIdeal : Cert.quiescent_MergeBackIdeal := fun m ρ _ => Cert.MergeBackIdeal.Gen.frame m ρ

/-- The plain lines run and keep their arguments. -/
theorem frame_merge_backRefIdeal : Cert.quiescent_MergeBackRefIdeal := fun m ρ _ =>
  (θ_run Cert.MergeBackRefIdeal.defs _ _).mono (fun r h => ⟨fun c => (h c).2.2.2.2, sem_eq_zero_of_no_sems (by decide) r.2⟩)
    (Cert.MergeBackRefIdeal.Value.run (F := Ideal) m ρ)

open Cert.MergeBackRefIdeal in
/-- The reference's run, its results entry by entry. -/
theorem merge_back_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = (fun i : S2048x2048.Idx => Cert.MergeBackIdeal.toLeft (m ((c.tc : Thread nD τ).loc main_arg2) (ix2 (i 0) (Cert.MergeBackIdeal.leftCol (i 1)))) (m ((c.tc : Thread nD τ).loc main_arg3) (ix2 (i 0) (i 1))))
      ∧ r.2.mem ((c.tc : Thread nD τ).loc main_v32) = (fun i : S2048x2048.Idx => Cert.MergeBackIdeal.toRight (m ((c.tc : Thread nD τ).loc main_arg2) (ix2 (i 0) (Cert.MergeBackIdeal.rightCol (i 1)))) (m ((c.tc : Thread nD τ).loc main_arg3) (ix2 (i 0) (i 1))))
      ∧ r.2.mem ((c.tc : Thread nD τ).loc main_v33) = (fun i : S2048x2048.Idx => Cert.MergeBackIdeal.toLeftGate (m ((c.tc : Thread nD τ).loc main_arg0) (ix2 (i 0) (i 1))) (m ((c.tc : Thread nD τ).loc main_arg2) (ix2 (i 0) (Cert.MergeBackIdeal.leftCol (i 1)))) (m ((c.tc : Thread nD τ).loc main_arg3) (ix2 (i 0) (i 1))))
      ∧ r.2.mem ((c.tc : Thread nD τ).loc main_v34) = (fun i : S2048x2048.Idx => Cert.MergeBackIdeal.toRightGate (m ((c.tc : Thread nD τ).loc main_arg1) (ix2 (i 0) (i 1))) (m ((c.tc : Thread nD τ).loc main_arg2) (ix2 (i 0) (Cert.MergeBackIdeal.rightCol (i 1)))) (m ((c.tc : Thread nD τ).loc main_arg3) (ix2 (i 0) (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (entries5 _ _), (h c).2.1.trans (entries6 _ _), (h c).2.2.1.trans (entries7 _ _ _), (h c).2.2.2.1.trans (entries8 _ _ _), (h c).2.2.2.2⟩)
    (Value.run (F := Ideal) m ρ)

/-- The device ends with the merge's gradient. -/
theorem algebraic_merge_back : Cert.algebraic_MergeBackIdeal_MergeBackRefIdeal := fun m ρ m' ρ' _ h => by
  refine ⟨_, _, _, _, ?_, merge_back_reference m' ρ'⟩
  refine (θ_run Cert.MergeBackIdeal.defs _ _).mono (fun _ hr c => ⟨(hr c).1.trans ?_, (hr c).2.1.trans ?_, (hr c).2.2.1.trans ?_, (hr c).2.2.2.1.trans ?_, (hr c).2.2.2.2⟩)
    (Cert.MergeBackIdeal.Value.run_blocks (F := Ideal) m ρ)
  · rw [Cert.MergeBackIdeal.leaves5, (h c).2.2.1, (h c).2.2.2]
  · rw [Cert.MergeBackIdeal.leaves6, (h c).2.2.1, (h c).2.2.2]
  · rw [Cert.MergeBackIdeal.leaves7, (h c).1, (h c).2.2.1, (h c).2.2.2]
  · rw [Cert.MergeBackIdeal.leaves8, (h c).2.1, (h c).2.2.1, (h c).2.2.2]

end Cert.Proof

end
-- ==== Proof.Loss.lean ====
/-
  The loss at the last device, on one device: eight blocks of 256 rows. Each row's error is the residual and the normed output
  less the target, its gradients come from that row alone, and the gradient of the norm's weights and the loss accumulate over
  the blocks and are written at the last one. The kernel multiplies by 1/2048 and by 1/4096 where the reference halves,
  doubles and divides by 2048: real constants, carried through sums of squares.
-/
module

public import proofs.«01_k».proof.Defs
public import proofs.«01_k».proof.Proof.Gates
public import proofs.«01_k».proof.Proof.Gen.Loss.Frame
public import proofs.«01_k».proof.Proof.Gen.LossIdeal.Value
public import proofs.«01_k».proof.Proof.Gen.LossRefIdeal.Run
public import Idealize.ShloMosaic.Lib.Pointwise

@[expose] public section

noncomputable section

namespace Cert.LossIdeal

open Idealize.ShloMosaic Idealize.ShloMosaic.TcCoe Idealize.ShloMosaic.Tactic
open Idealize.SL.Sem
open Cert.PreIdeal (Rows spread scale term pull row cut placed)
open Cert.Windows (stays)

/-! ## The constants -/

theorem half_f32 : Ideal.ofBits .f32 0x3F000000#32 = (((1 : ℝ) / 2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem width_f32 : Ideal.ofBits .f32 0x45000000#32 = ((2048 : ℝ) : EReal) := by
  simp [Ideal.ofBits, Ideal.ieee, -EReal.coe_mul]; norm_num
theorem mean_f32 : Ideal.ofBits .f32 0x3A000000#32 = (((1 : ℝ) / 2048 : ℝ) : EReal) := by
  simp [Ideal.ofBits, Ideal.ieee, -EReal.coe_mul]; norm_num
theorem half_mean_f32 : Ideal.ofBits .f32 0x39800000#32 = (((1 : ℝ) / 4096 : ℝ) : EReal) := by
  simp [Ideal.ofBits, Ideal.ieee, -EReal.coe_mul]; norm_num

/-- Division by 2048 multiplies by its reciprocal. -/
theorem div_width (e : EReal) : Ideal.div e (Ideal.ofBits .f32 0x45000000#32) = e * (((1 : ℝ) / 2048 : ℝ) : EReal) := by
  rw [width_f32]
  unfold Ideal.div
  rw [if_neg (by norm_cast), ← EReal.coe_inv]
  norm_num

/-- Half of twice a 2048th is a 2048th. -/
theorem slope_eq (e : EReal) :
    Ideal.div (Ideal.ofBits .f32 0x3F000000#32 * 1) (Ideal.ofBits .f32 0x45000000#32) * (Ideal.ofBits .f32 0x40000000#32 * e)
      = e * Ideal.ofBits .f32 0x3A000000#32 := by
  rw [div_width, half_f32, two_f32, mean_f32, mul_one, ← EReal.coe_mul, ← mul_assoc, ← EReal.coe_mul, mul_comm]
  norm_num

/-- A square is not negative. -/
theorem square_nonneg (e : EReal) : 0 ≤ e * e := by
  rcases le_total 0 e with h | h
  · exact mul_nonneg h h
  · rw [← neg_mul_neg]
    exact mul_nonneg (EReal.neg_nonneg.mpr h) (EReal.neg_nonneg.mpr h)

/-- A real that is not negative goes through a sum of terms that are not negative. -/
theorem sum_scaled {ι : Type} (u : Finset ι) (f : ι → EReal) (hf : ∀ i, 0 ≤ f i) (a : ℝ) : (∑ i ∈ u, f i) * (a : EReal) = ∑ i ∈ u, f i * (a : EReal) := by
  classical
  induction u using Finset.induction_on with
  | empty => simp
  | insert i u hi ih => rw [Finset.sum_insert hi, Finset.sum_insert hi, EReal.right_distrib_of_nonneg (hf i) (Finset.sum_nonneg fun j _ => hf j), ih]

/-- Half the rows' means is the rows' squares, each by 1/4096. -/
theorem loss_eq {n : ℕ} (f : Fin n → EReal) (hf : ∀ r, 0 ≤ f r) :
    Ideal.ofBits .f32 0x3F000000#32 * (∑ r : Fin n, Ideal.div (f r) (Ideal.ofBits .f32 0x45000000#32)) = ∑ r : Fin n, f r * Ideal.ofBits .f32 0x39800000#32 := by
  simp only [div_width]
  rw [← sum_scaled _ f hf, half_f32, half_mean_f32, mul_comm, mul_assoc, ← EReal.coe_mul, sum_scaled _ f hf]
  norm_num

section stores

variable {F : FTy → Type} [FloatOps F]

theorem offset_zero : (![0, 0] : Fin 2 → ℕ) = fun _ => 0 := funext fun a => by fin_cases a <;> rfl

/-! ## What a grid point stores -/

variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S1x2048 .f32) (h4 : a4.IsWhole)
  (a5 : Memref sig .tc .vmem S256x2048 .bf16) (h5 : a5.IsWhole) (a6 : Memref sig .tc .vmem S256x2048 .f32) (h6 : a6.IsWhole)
  (a7 : Memref sig .tc .vmem S1x2048 .f32) (h7 : a7.IsWhole) (a8 : Memref sig .tc .vmem S8x128 .f32) (h8 : a8.IsWhole)
  (out x tgt : Vec F S256x2048 .f32) (g s : Vec F S1x2048 .f32) (l : Vec F S8x128 .f32)

theorem stores_out_first (hc : Gen.cond0_0 i) :
    Gen.out0_A_4 c i a1 h1 a2 h2 a3 h3 a4 h4 a5 h5 a6 h6 a7 h7 a8 h8 hc out x tgt g = Gen.k0_pay2 out g (Gen.k0_pay7 out) (Gen.k0_pay8 out) (Gen.k0_pay10 out g x tgt) := by
  unfold Gen.out0_A_4
  rw [View.read_writes_eq_canon _ _ _ (Gen.cover0_A_4 c i a1 h1 a2 h2 a3 h3 a4 h4 a5 h5 a6 h6 a7 h7 a8 h8 hc out x tgt g)]
  unfold Gen.kernelRun0_A
  dsimp only
  sl_unfold_words
  rw [View.canon_unit_zero offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

theorem stores_rows_first (hc : Gen.cond0_0 i) :
    Gen.out0_A_5 c i a1 h1 a2 h2 a3 h3 a4 h4 a5 h5 a6 h6 a7 h7 a8 h8 hc out x tgt g = Gen.k0_pay1 (Gen.k0_pay10 out g x tgt) := by
  unfold Gen.out0_A_5
  rw [View.read_writes_eq_canon _ _ _ (Gen.cover0_A_5 c i a1 h1 a2 h2 a3 h3 a4 h4 a5 h5 a6 h6 a7 h7 a8 h8 hc out x tgt g)]
  unfold Gen.kernelRun0_A
  dsimp only
  sl_unfold_words
  rw [View.canon_unit_zero offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

theorem stores_sum_first (hc : Gen.cond0_0 i) :
    Gen.out0_A_6 c i a1 h1 a2 h2 a3 h3 a4 h4 a5 h5 a6 h6 a7 h7 a8 h8 hc out x tgt g = Gen.k0_pay3 (Gen.k0_pay9 out) (Gen.k0_pay10 out g x tgt) Gen.k0_pay4 := by
  unfold Gen.out0_A_6
  rw [View.read_writes_eq_canon _ _ _ (Gen.cover0_A_6 c i a1 h1 a2 h2 a3 h3 a4 h4 a5 h5 a6 h6 a7 h7 a8 h8 hc out x tgt g)]
  unfold Gen.kernelRun0_A
  dsimp only
  sl_unfold_words
  rw [View.canon_cons_unit_zero (S := S1x2048) offset_zero, View.readCov_unit_zero (S := S1x2048) _ offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

theorem stores_loss_first (hc : Gen.cond0_0 i) :
    Gen.out0_A_7 c i a1 h1 a2 h2 a3 h3 a4 h4 a5 h5 a6 h6 a7 h7 a8 h8 hc out x tgt g = Gen.k0_pay11 out g x tgt Gen.k0_pay5 := by
  unfold Gen.out0_A_7
  rw [View.read_writes_eq_canon _ _ _ (Gen.cover0_A_7 c i a1 h1 a2 h2 a3 h3 a4 h4 a5 h5 a6 h6 a7 h7 a8 h8 hc out x tgt g)]
  unfold Gen.kernelRun0_A
  dsimp only
  sl_unfold_words
  rw [View.canon_cons_unit_zero (S := S8x128) offset_zero, View.readCov_unit_zero (S := S8x128) _ offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

theorem stores_out_later (hc : ¬Gen.cond0_0 i) :
    Gen.out0_B_4 c i a1 h1 a2 h2 a3 h3 a4 h4 a5 h5 a6 h6 a7 h7 a8 h8 hc out x tgt g s l = Gen.k0_pay2 out g (Gen.k0_pay7 out) (Gen.k0_pay8 out) (Gen.k0_pay10 out g x tgt) := by
  unfold Gen.out0_B_4
  rw [View.read_writes_eq_canon _ _ _ (Gen.cover0_B_4 c i a1 h1 a2 h2 a3 h3 a4 h4 a5 h5 a6 h6 a7 h7 a8 h8 hc out x tgt g s l)]
  unfold Gen.kernelRun0_B
  dsimp only
  sl_unfold_words
  rw [View.canon_unit_zero offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

theorem stores_rows_later (hc : ¬Gen.cond0_0 i) :
    Gen.out0_B_5 c i a1 h1 a2 h2 a3 h3 a4 h4 a5 h5 a6 h6 a7 h7 a8 h8 hc out x tgt g s l = Gen.k0_pay1 (Gen.k0_pay10 out g x tgt) := by
  unfold Gen.out0_B_5
  rw [View.read_writes_eq_canon _ _ _ (Gen.cover0_B_5 c i a1 h1 a2 h2 a3 h3 a4 h4 a5 h5 a6 h6 a7 h7 a8 h8 hc out x tgt g s l)]
  unfold Gen.kernelRun0_B
  dsimp only
  sl_unfold_words
  rw [View.canon_unit_zero offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

theorem stores_sum_later (hc : ¬Gen.cond0_0 i) :
    Gen.out0_B_6 c i a1 h1 a2 h2 a3 h3 a4 h4 a5 h5 a6 h6 a7 h7 a8 h8 hc out x tgt g s l = Gen.k0_pay3 (Gen.k0_pay9 out) (Gen.k0_pay10 out g x tgt) s := by
  unfold Gen.out0_B_6
  rw [View.read_writes_eq_canon _ _ _ (Gen.cover0_B_6 c i a1 h1 a2 h2 a3 h3 a4 h4 a5 h5 a6 h6 a7 h7 a8 h8 hc out x tgt g s l)]
  unfold Gen.kernelRun0_B
  dsimp only
  sl_unfold_words
  rw [View.canon_unit_zero offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

theorem stores_loss_later (hc : ¬Gen.cond0_0 i) :
    Gen.out0_B_7 c i a1 h1 a2 h2 a3 h3 a4 h4 a5 h5 a6 h6 a7 h7 a8 h8 hc out x tgt g s l = Gen.k0_pay11 out g x tgt l := by
  unfold Gen.out0_B_7
  rw [View.read_writes_eq_canon _ _ _ (Gen.cover0_B_7 c i a1 h1 a2 h2 a3 h3 a4 h4 a5 h5 a6 h6 a7 h7 a8 h8 hc out x tgt g s l)]
  unfold Gen.kernelRun0_B
  dsimp only
  sl_unfold_words
  rw [View.canon_unit_zero offset_zero]
  simp only [View.readAt_eq_ld, h1.read_unread, h2.read_unread, h3.read_unread, h4.read_unread, h7.read_unread, h8.read_unread,
    View.ld_unit_zero (S := S256x2048) offset_zero, View.ld_unit_zero (S := S1x2048) offset_zero, View.ld_unit_zero (S := S8x128) offset_zero, shapeCast_self]

end stores

/-! ## The loss, row by row -/

section rows

variable {n : ℕ} (out x tgt dy : Rows n) (g : Rows 1) (r : Fin n) (k : Fin 2048)

/-- The error: the residual and the normed output, less the target. -/
def error : EReal := x (ix2 r k) + out (ix2 r k) * scale out r * g (ix2 0 k) - tgt (ix2 r k)

/-- The errors' gradients. -/
def errors : Rows n := fun i => error out x tgt g (i 0) (i 1) * Ideal.ofBits .f32 0x3A000000#32

/-- The output's gradient, from the normed output's. -/
def flow : EReal := dy (ix2 r k) * g (ix2 0 k) * scale out r + out (ix2 r k) * pull out dy g r + pull out dy g r * out (ix2 r k)

/-- The row's squared error. -/
def squares : EReal := ∑ j : Fin 2048, error out x tgt g r j * error out x tgt g r j

theorem squares_nonneg : 0 ≤ squares out x tgt g r := Finset.sum_nonneg fun _ _ => square_nonneg _

end rows

section block

variable (out x tgt dy : Rows 256) (g s : Rows 1) (l : (⟨2, ![8, 128]⟩ : Shape).Idx → EReal) (r : Fin 256) (k : Fin 2048)

theorem block_spread : Gen.k0_pay6 (F := Ideal) out (ix2 r 0) = spread out r := by
  unfold Gen.k0_pay6 spread
  pointwise

theorem block_scale : Gen.k0_pay7 (F := Ideal) out (ix2 r 0) = scale out r := by
  unfold Gen.k0_pay7 scale
  pointwise
  simp only [block_spread]

theorem block_error : Gen.k0_pay10 (F := Ideal) out g x tgt (ix2 r k) = error out x tgt g r k := by
  unfold Gen.k0_pay10 Gen.k0_pay9 error
  pointwise
  simp only [block_scale]

theorem block_rows : Gen.k0_pay1 (F := Ideal) (Gen.k0_pay10 out g x tgt) = errors out x tgt g := by
  funext i
  obtain ⟨r, k, rfl⟩ : ∃ (r : Fin 256) (k : Fin 2048), i = ix2 r k := ⟨i 0, i 1, funext fun a => by fin_cases a <;> rfl⟩
  show _ = error out x tgt g r k * Ideal.ofBits .f32 0x3A000000#32
  unfold Gen.k0_pay1
  pointwise
  simp only [block_error]

theorem block_out (e : Rows 256) : Gen.k0_pay2 (F := Ideal) out g (Gen.k0_pay7 out) (Gen.k0_pay8 out) e (ix2 r k) = flow out (Gen.k0_pay1 (F := Ideal) e) g r k := by
  unfold Gen.k0_pay2 Gen.k0_pay8 flow pull
  pointwise
  simp only [Finset.univ_unique, Finset.sum_singleton, Fin.default_eq_zero, block_scale, block_spread]

theorem block_sum (e : Rows 256) : Gen.k0_pay3 (F := Ideal) (Gen.k0_pay9 out) e s (ix2 0 k) = s (ix2 0 k) + ∑ r : Fin 256, term out (Gen.k0_pay1 (F := Ideal) e) r k := by
  unfold Gen.k0_pay3 Gen.k0_pay9 term
  pointwise
  simp only [block_scale]

theorem block_loss (a : Fin 8) (b : Fin 128) : Gen.k0_pay11 (F := Ideal) out g x tgt l (ix2 a b)
    = l (ix2 a b) + (∑ r : Fin 256, squares out x tgt g r) * Ideal.ofBits .f32 0x39800000#32 := by
  unfold Gen.k0_pay11 squares
  pointwise
  simp only [block_error]

end block

/-! ## The blocks -/

theorem points (t : Fin cfg0.N) : t.val < 8 := Nat.lt_of_lt_of_eq t.isLt Gen.N_0

theorem errors_cut (t : Fin 8) (out x tgt : Rows 2048) (g : Rows 1) :
    errors (cut t out) (cut t x) (cut t tgt) g = cut t (errors out x tgt g) := rfl

theorem flow_cut (t : Fin 8) (out dy : Rows 2048) (g : Rows 1) (r : Fin 256) (k : Fin 2048) :
    flow (cut t out) (cut t dy) g r k = flow out dy g (row t r) k := rfl

theorem cut0 (x : Rows 2048) (t : Fin cfg0.N) : ((cfg0.win 0).blk t).view.read (Elt Ideal) x = cut ⟨t.val, points t⟩ x :=
  funext fun j => congrArg x (placed (b := 0) (W := 2048) (w := win0_0.index) (by decide +kernel) t (points t) (j 0) (j 1) rfl rfl (Nat.zero_add _))
theorem cut1 (x : Rows 2048) (t : Fin cfg0.N) : ((cfg0.win 1).blk t).view.read (Elt Ideal) x = cut ⟨t.val, points t⟩ x :=
  funext fun j => congrArg x (placed (b := 0) (W := 2048) (w := win0_1.index) (by decide +kernel) t (points t) (j 0) (j 1) rfl rfl (Nat.zero_add _))
theorem cut2 (x : Rows 2048) (t : Fin cfg0.N) : ((cfg0.win 2).blk t).view.read (Elt Ideal) x = cut ⟨t.val, points t⟩ x :=
  funext fun j => congrArg x (placed (b := 0) (W := 2048) (w := win0_2.index) (by decide +kernel) t (points t) (j 0) (j 1) rfl rfl (Nat.zero_add _))
theorem whole3 (x : Rows 1) (t : Fin cfg0.N) : ((cfg0.win 3).blk t).view.read (Elt Ideal) x = x :=
  funext fun j => congrArg x (stays (w := win0_3.index) (by decide +kernel) t rfl rfl)
theorem cut4 (x : Rows 2048) (t : Fin cfg0.N) : ((cfg0.win 4).blk t).view.read (Elt Ideal) x = cut ⟨t.val, points t⟩ x :=
  funext fun j => congrArg x (placed (b := 0) (W := 2048) (w := win0_4.index) (by decide +kernel) t (points t) (j 0) (j 1) rfl rfl (Nat.zero_add _))
theorem cut5 (x : Rows 2048) (t : Fin cfg0.N) : ((cfg0.win 5).blk t).view.read (Elt Ideal) x = cut ⟨t.val, points t⟩ x :=
  funext fun j => congrArg x (placed (b := 0) (W := 2048) (w := win0_5.index) (by decide +kernel) t (points t) (j 0) (j 1) rfl rfl (Nat.zero_add _))
theorem whole6 (x : Rows 1) (t : Fin cfg0.N) : ((cfg0.win 6).blk t).view.read (Elt Ideal) x = x :=
  funext fun j => congrArg x (stays (w := win0_6.index) (by decide +kernel) t rfl rfl)
theorem whole7 (x : (⟨2, ![8, 128]⟩ : Shape).Idx → EReal) (t : Fin cfg0.N) : ((cfg0.win 7).blk t).view.read (Elt Ideal) x = x :=
  funext fun j => congrArg x (stays (w := win0_7.index) (by decide +kernel) t rfl rfl)

/-! ## What the call leaves -/

section leaves

variable (m : (ℓ : Loc nD τ sig) → Buf (Elt Ideal) ℓ) (c : Dev nD)

/-- The output, the residual, the target and the norm's weights. -/
abbrev argOut : Rows 2048 := m ((c.tc : Thread nD τ).loc main_arg0)
abbrev argX : Rows 2048 := m ((c.tc : Thread nD τ).loc main_arg1)
abbrev argTgt : Rows 2048 := m ((c.tc : Thread nD τ).loc main_arg2)
abbrev argG : Rows 1 := m ((c.tc : Thread nD τ).loc main_arg3)

/-- The blocks a point reads. -/
theorem reads (t : Fin cfg0.N) : Gen.iblk m c 0 t = cut ⟨t.val, points t⟩ (argOut m c) ∧ Gen.iblk m c 1 t = cut ⟨t.val, points t⟩ (argX m c)
    ∧ Gen.iblk m c 2 t = cut ⟨t.val, points t⟩ (argTgt m c) ∧ Gen.iblk m c 3 t = argG m c :=
  ⟨cut0 _ t, cut1 _ t, cut2 _ t, whole3 _ t⟩

/-- The errors' gradients, over the array. -/
abbrev dys : Rows 2048 := errors (argOut m c) (argX m c) (argTgt m c) (argG m c)

theorem point_rows (t : Fin cfg0.N) : (Gen.outsAt0 m c t.val t.isLt).2.1 = cut ⟨t.val, points t⟩ (dys m c) := by
  obtain ⟨e0, e1, e2, e3⟩ := reads m c t
  by_cases h : t.val % 8 = 0
  · rw [Gen.outsAt0_A m c t h]
    dsimp only
    rw [stores_rows_first, e0, e1, e2, e3, block_rows, errors_cut]
  · rw [Gen.outsAt0_B m c t h]
    dsimp only
    rw [stores_rows_later, e0, e1, e2, e3, block_rows, errors_cut]

theorem out_cut (t : Fin 8) : Gen.k0_pay2 (F := Ideal) (cut t (argOut m c)) (argG m c) (Gen.k0_pay7 (F := Ideal) (cut t (argOut m c))) (Gen.k0_pay8 (F := Ideal) (cut t (argOut m c)))
      (Gen.k0_pay10 (F := Ideal) (cut t (argOut m c)) (argG m c) (cut t (argX m c)) (cut t (argTgt m c)))
    = fun i : S256x2048.Idx => flow (argOut m c) (dys m c) (argG m c) (row t (i 0)) (i 1) := by
  funext i
  obtain ⟨r, k, rfl⟩ : ∃ (r : Fin 256) (k : Fin 2048), i = ix2 r k := ⟨i 0, i 1, funext fun a => by fin_cases a <;> rfl⟩
  rw [block_out, block_rows, errors_cut, flow_cut]
  rfl

theorem point_out (t : Fin cfg0.N) : (Gen.outsAt0 m c t.val t.isLt).1 = fun i : S256x2048.Idx => flow (argOut m c) (dys m c) (argG m c) (row ⟨t.val, points t⟩ (i 0)) (i 1) := by
  obtain ⟨e0, e1, e2, e3⟩ := reads m c t
  by_cases h : t.val % 8 = 0
  · rw [Gen.outsAt0_A m c t h]
    dsimp only
    rw [stores_out_first, e0, e1, e2, e3, out_cut]
  · rw [Gen.outsAt0_B m c t h]
    dsimp only
    rw [stores_out_later, e0, e1, e2, e3, out_cut]

/-- The terms of the first `n` blocks. -/
def upto (n : ℕ) (f : Fin 2048 → EReal) (d : EReal) : EReal :=
  ∑ t ∈ Finset.range n, if h : t < 8 then (∑ r : Fin 256, f (row ⟨t, h⟩ r)) * d else 0

/-- Eight blocks are all the rows. -/
theorem upto_all (f : Fin 2048 → EReal) (d : EReal) (hd : ∀ t : Fin 8, (∑ r : Fin 256, f (row t r)) * d = ∑ r : Fin 256, f (row t r) * d) :
    upto 8 f d = ∑ r : Fin 2048, f r * d := by
  rw [Fin.sum_univ_tiles 8 256 rfl]
  unfold upto
  rw [Finset.sum_range]
  refine Finset.sum_congr rfl fun t _ => ?_
  rw [dif_pos t.isLt, hd]
  refine Finset.sum_congr rfl fun r _ => congrArg (fun q => f q * d) (Fin.ext ?_)
  show 256 * t.val + r.val = t.val * 256 + r.val
  omega

/-- After each point, the weights' gradient so far. -/
theorem point_sum (k : Fin 2048) : ∀ (n : ℕ) (hn : n < cfg0.N),
    (Gen.outsAt0 m c n hn).2.2.1 (ix2 0 k) = upto (n + 1) (fun r => term (argOut m c) (dys m c) r k) 1
  | 0, hn => by
    obtain ⟨e0, e1, e2, e3⟩ := reads m c ⟨0, hn⟩
    rw [show Gen.outsAt0 m c 0 hn = _ from Gen.outsAt0_A m c ⟨0, hn⟩ rfl]
    dsimp only
    rw [stores_sum_first, e0, e1, e2, e3, block_sum, block_rows, errors_cut]
    have hz : Gen.k0_pay4 (F := Ideal) (ix2 0 k) = (0 : EReal) := Ideal.ofBits_zero_f32
    rw [hz, zero_add]
    unfold upto
    rw [Finset.sum_range_one, dif_pos (by omega), mul_one]
    rfl
  | n + 1, hn => by
    have hN : cfg0.N = 8 := Gen.N_0
    obtain ⟨e0, e1, e2, e3⟩ := reads m c ⟨n + 1, hn⟩
    rw [show Gen.outsAt0 m c (n + 1) hn = _ from Gen.outsAt0_B m c ⟨n + 1, hn⟩ (by dsimp only; omega)]
    dsimp only
    rw [stores_sum_later, e0, e1, e2, e3, block_sum, block_rows, errors_cut]
    refine (congrArg (· + _) (point_sum k n (by omega))).trans ?_
    unfold upto
    rw [Finset.sum_range_succ _ (n + 1), dif_pos (by omega), mul_one]
    rfl

/-- After each point, the loss so far. -/
theorem point_loss (a : Fin 8) (b : Fin 128) : ∀ (n : ℕ) (hn : n < cfg0.N),
    (Gen.outsAt0 m c n hn).2.2.2 (ix2 a b) = upto (n + 1) (squares (argOut m c) (argX m c) (argTgt m c) (argG m c)) (Ideal.ofBits .f32 0x39800000#32)
  | 0, hn => by
    obtain ⟨e0, e1, e2, e3⟩ := reads m c ⟨0, hn⟩
    rw [show Gen.outsAt0 m c 0 hn = _ from Gen.outsAt0_A m c ⟨0, hn⟩ rfl]
    dsimp only
    rw [stores_loss_first, e0, e1, e2, e3, block_loss]
    have hz : Gen.k0_pay5 (F := Ideal) (ix2 a b) = (0 : EReal) := Ideal.ofBits_zero_f32
    rw [hz, zero_add]
    unfold upto
    rw [Finset.sum_range_one, dif_pos (by omega)]
    rfl
  | n + 1, hn => by
    have hN : cfg0.N = 8 := Gen.N_0
    obtain ⟨e0, e1, e2, e3⟩ := reads m c ⟨n + 1, hn⟩
    rw [show Gen.outsAt0 m c (n + 1) hn = _ from Gen.outsAt0_B m c ⟨n + 1, hn⟩ (by dsimp only; omega)]
    dsimp only
    rw [stores_loss_later, e0, e1, e2, e3, block_loss]
    refine (congrArg (· + _) (point_loss a b n (by omega))).trans ?_
    unfold upto
    rw [Finset.sum_range_succ _ (n + 1), dif_pos (by omega)]
    rfl

theorem leaves_rows : (Gen.dats m 0 c).arrAt 5 cfg0.N = dys m c := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have e := congrFun ((cut5 _ t).symm.trans ((Value.blocks5 m c t (Gen.flush0_5 t)).trans (Value.flushed5 m c t))) (ix2 r (i 1))
  have ei : ix2 (row ⟨t.val, points t⟩ r) (i 1) = i := by rw [hr]; exact funext fun a => by fin_cases a <;> rfl
  refine Eq.trans (congrArg _ ei.symm) (e.trans ((congrFun (point_rows m c t) (ix2 r (i 1))).trans ?_))
  exact congrArg (dys m c) ei

theorem leaves_out : (Gen.dats m 0 c).arrAt 4 cfg0.N = fun i : S2048x2048.Idx => flow (argOut m c) (dys m c) (argG m c) (i 0) (i 1) := by
  funext i
  have hN : cfg0.N = 8 := Gen.N_0
  have hi : (i 0).val < 2048 := (i 0).isLt
  let t : Fin cfg0.N := ⟨(i 0).val / 256, by omega⟩
  let r : Fin 256 := ⟨(i 0).val % 256, Nat.mod_lt _ (by omega)⟩
  have hr : row ⟨t.val, points t⟩ r = i 0 := Fin.ext (Nat.div_add_mod _ _)
  have e := congrFun ((cut4 _ t).symm.trans ((Value.blocks4 m c t (Gen.flush0_4 t)).trans (Value.flushed4 m c t))) (ix2 r (i 1))
  have ei : ix2 (row ⟨t.val, points t⟩ r) (i 1) = i := by rw [hr]; exact funext fun a => by fin_cases a <;> rfl
  refine Eq.trans (congrArg _ ei.symm) (e.trans ((congrFun (point_out m c t) (ix2 r (i 1))).trans ?_))
  exact congrArg (fun q => flow (argOut m c) (dys m c) (argG m c) q (i 1)) hr

theorem leaves_sum : (Gen.dats m 0 c).arrAt 6 cfg0.N = fun i : S1x2048.Idx => ∑ r : Fin 2048, term (argOut m c) (dys m c) r (i 1) := by
  have hN : cfg0.N = 8 := Gen.N_0
  let t : Fin cfg0.N := ⟨7, by omega⟩
  have ht : (cfg0.win 6).flush t = true := (Gen.flush0_6 t).mpr rfl
  have one : ∀ u u' : Fin cfg0.N, (cfg0.win 6).flush u = true → (cfg0.win 6).flush u' = true → u ≠ u' →
      Disjoint ((cfg0.win 6).blk u).view.set ((cfg0.win 6).blk u').view.set := fun u u' hu hu' hne => by
    have a := (Gen.flush0_6 u).mp hu
    have b := (Gen.flush0_6 u').mp hu'
    exact absurd (Fin.ext (by have := points u; have := points u'; omega)) hne
  refine ((whole6 _ t).symm.trans (((Gen.dats m 0 c).read_blk_arrAt_eq_flushed 6 one cfg0.N t t.isLt ht).trans (Value.flushed6 m c t))).trans ?_
  funext i
  have ei : i = ix2 0 (i 1) := funext fun a => by
    match a with
    | ⟨0, _⟩ => exact Fin.ext (by have : (i 0).val < 1 := (i 0).isLt; show (i 0).val = 0; omega)
    | ⟨1, _⟩ => rfl
  refine Eq.trans ?_ ((point_sum m c (i 1) 7 t.isLt).trans ((upto_all _ 1 fun t => by simp only [mul_one]).trans (by simp only [mul_one])))
  exact congrArg (Gen.outsAt0 m c 7 t.isLt).2.2.1 ei

theorem leaves_loss : (Gen.dats m 0 c).arrAt 7 cfg0.N
    = fun _ : S8x128.Idx => ∑ r : Fin 2048, squares (argOut m c) (argX m c) (argTgt m c) (argG m c) r * Ideal.ofBits .f32 0x39800000#32 := by
  have hN : cfg0.N = 8 := Gen.N_0
  let t : Fin cfg0.N := ⟨7, by omega⟩
  have ht : (cfg0.win 7).flush t = true := (Gen.flush0_7 t).mpr rfl
  have one : ∀ u u' : Fin cfg0.N, (cfg0.win 7).flush u = true → (cfg0.win 7).flush u' = true → u ≠ u' →
      Disjoint ((cfg0.win 7).blk u).view.set ((cfg0.win 7).blk u').view.set := fun u u' hu hu' hne => by
    have a := (Gen.flush0_7 u).mp hu
    have b := (Gen.flush0_7 u').mp hu'
    exact absurd (Fin.ext (by have := points u; have := points u'; omega)) hne
  refine ((whole7 _ t).symm.trans (((Gen.dats m 0 c).read_blk_arrAt_eq_flushed 7 one cfg0.N t t.isLt ht).trans (Value.flushed7 m c t))).trans ?_
  funext i
  have ei : i = ix2 (i 0) (i 1) := funext fun a => by fin_cases a <;> rfl
  refine Eq.trans ?_ ((point_loss m c (i 0) (i 1) 7 t.isLt).trans (upto_all _ _ fun t => ?_))
  · exact congrArg (Gen.outsAt0 m c 7 t.isLt).2.2.2 ei
  · rw [half_mean_f32]
    exact sum_scaled _ _ (fun r => squares_nonneg _ _ _ _ _) _

end leaves

end Cert.LossIdeal

namespace Cert.LossRefIdeal

open Idealize.ShloMosaic Idealize.ShloMosaic.TcCoe Idealize.ShloMosaic.Tactic
open Cert.LossRefIdeal.Gen
open Cert.PreIdeal (Rows spread scale term pull)
open Cert.LossIdeal (error errors flow squares)

/-! ## The reference, row by row -/

variable (OUT X TGT Y E : FVec Ideal S2048x2048 .f32) (G : FVec Ideal S1x2048 .f32)

/-! What a row's norm multiplies it by, the errors, their gradients, the gradient that flows on from
rows `Y`, the scale's gradient, and the loss, as the reference writes them. -/

def rates : FVec Ideal S2048x1 .f32 := Host.rsqrt (addf (Host.divf (broadcastInDim S2048x1 ![0] bcast_S2048_S2048x1_0 (Host.reduceAdd (mulf OUT OUT) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))
def gaps : FVec Ideal S2048x2048 .f32 := subf (addf X (mulf (mulf OUT (broadcastInDim S2048x2048 ![0, 1] bcast_S2048x1_S2048x2048_0_1 (rates OUT))) (broadcastInDim S2048x2048 ![0, 1] bcast_S1x2048_S2048x2048_0_1 G))) TGT
def sloped : FVec Ideal S2048x2048 .f32 := mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) E)
def flowed : FVec Ideal S2048x2048 .bf16 := truncf .bf16 (addf (addf (mulf (mulf Y (broadcastInDim S2048x2048 ![0, 1] bcast_S1x2048_S2048x2048_0_1 G)) (broadcastInDim S2048x2048 ![0, 1] bcast_S2048x1_S2048x2048_0_1 (rates OUT))) (mulf OUT (broadcastInDim S2048x2048 ![0] bcast_S2048_S2048x2048_0 (Host.reduceAdd (Host.divf (mulf (shapeCast _ (Host.reduceAdd (mulf OUT (mulf Y (broadcastInDim S2048x2048 ![0, 1] bcast_S1x2048_S2048x2048_0_1 G))) (constant S_ .f32 0x00000000#32) reducesTo_S2048x2048_S2048_d1 h_S_) shapeCasts_S2048_S2048x1) (mulf (broadcastInDim S2048x1 ![] bcast_S_S2048x1 (constant S_ .f32 0xBF000000#32)) (Host.divf (rates OUT) (addf (Host.divf (broadcastInDim S2048x1 ![0] bcast_S2048_S2048x1_0 (Host.reduceAdd (mulf OUT OUT) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf OUT (mulf Y (broadcastInDim S2048x2048 ![0, 1] bcast_S1x2048_S2048x2048_0_1 G))) (constant S_ .f32 0x00000000#32) reducesTo_S2048x2048_S2048_d1 h_S_) shapeCasts_S2048_S2048x1) (mulf (broadcastInDim S2048x1 ![] bcast_S_S2048x1 (constant S_ .f32 0xBF000000#32)) (Host.divf (rates OUT) (addf (Host.divf (broadcastInDim S2048x1 ![0] bcast_S2048_S2048x1_0 (Host.reduceAdd (mulf OUT OUT) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) OUT)) bitsLt_bf16_f32
def termed : FVec Ideal S1x2048 .f32 := shapeCast _ (Host.reduceAdd (mulf (mulf OUT (broadcastInDim S2048x2048 ![0, 1] bcast_S2048x1_S2048x2048_0_1 (rates OUT))) Y) (constant S_ .f32 0x00000000#32) reducesTo_S2048x2048_S2048_d0 h_S_) shapeCasts_S2048_S1x2048
def meaned : FVec Ideal S8x128 .f32 := broadcastInDim S8x128 ![] bcast_S_S8x128 (mulf (constant S_ .f32 0x3F000000#32) (Host.reduceAdd (Host.divf (Host.reduceAdd (mulf E E) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

theorem error_at : gaps OUT X TGT G
    = fun i => error OUT X TGT G (i 0) (i 1) := by
  funext i
  obtain ⟨r, k, rfl⟩ : ∃ (r k : Fin 2048), i = ix2 r k := ⟨i 0, i 1, funext fun a => by fin_cases a <;> rfl⟩
  show _ = error OUT X TGT G r k
  unfold gaps rates error scale spread
  pointwise

theorem slope_at : sloped E
    = fun i => E i * Ideal.ofBits .f32 0x3A000000#32 := by
  funext i
  obtain ⟨r, k, rfl⟩ : ∃ (r k : Fin 2048), i = ix2 r k := ⟨i 0, i 1, funext fun a => by fin_cases a <;> rfl⟩
  show _ = E (ix2 r k) * Ideal.ofBits .f32 0x3A000000#32
  rw [← Cert.LossIdeal.slope_eq]
  unfold sloped
  pointwise

theorem rows_at : sloped (gaps OUT X TGT G)
    = errors OUT X TGT G := by
  rw [error_at, slope_at]
  rfl

theorem flow_at : flowed OUT Y G
    = fun i => flow OUT Y G (i 0) (i 1) := by
  funext i
  obtain ⟨r, k, rfl⟩ : ∃ (r k : Fin 2048), i = ix2 r k := ⟨i 0, i 1, funext fun a => by fin_cases a <;> rfl⟩
  show _ = flow OUT Y G r k
  unfold flowed rates flow pull scale spread
  pointwise
  simp only [Finset.univ_unique, Finset.sum_singleton]

theorem out_at : flowed OUT (sloped (gaps OUT X TGT G)) G
    = fun i => flow OUT (errors OUT X TGT G) G (i 0) (i 1) := by
  rw [rows_at, flow_at]

theorem term_at : termed OUT Y
    = fun i => ∑ r : Fin 2048, term OUT Y r (i 1) := by
  funext i
  obtain ⟨r, k, rfl⟩ : ∃ (r : Fin 1) (k : Fin 2048), i = ix2 r k := ⟨i 0, i 1, funext fun a => by fin_cases a <;> rfl⟩
  show _ = ∑ r : Fin 2048, term OUT Y r k
  unfold termed rates term scale spread
  pointwise

theorem sum_at : termed OUT (sloped (gaps OUT X TGT G))
    = fun i => ∑ r : Fin 2048, term OUT (errors OUT X TGT G) r (i 1) := by
  rw [rows_at, term_at]

theorem mean_at : meaned E
    = fun _ => Ideal.ofBits .f32 0x3F000000#32 * (∑ r : Fin 2048, Ideal.div (∑ k : Fin 2048, E (ix2 r k) * E (ix2 r k)) (Ideal.ofBits .f32 0x45000000#32)) := by
  funext i
  obtain ⟨a, b, rfl⟩ : ∃ (a : Fin 8) (b : Fin 128), i = ix2 a b := ⟨i 0, i 1, funext fun a => by fin_cases a <;> rfl⟩
  unfold meaned
  pointwise

theorem loss_at : meaned (gaps OUT X TGT G)
    = fun _ => ∑ r : Fin 2048, squares OUT X TGT G r * Ideal.ofBits .f32 0x39800000#32 := by
  rw [error_at, mean_at]
  funext _
  exact Cert.LossIdeal.loss_eq (squares OUT X TGT G) fun r => Cert.LossIdeal.squares_nonneg _ _ _ _ r

end Cert.LossRefIdeal

namespace Cert.Proof

open Idealize.ShloMosaic Idealize.ShloMosaic.TcCoe Idealize.SL.Sem

/-- The loss at bits runs, keeps its arguments, and leaves every semaphore at zero. -/
theorem frame_loss : Cert.quiescent_Loss := fun m ρ _ => Cert.Loss.Gen.frame m ρ

/-- The same at the ideal values. -/
theorem frame_lossIdeal : Cert.quiescent_LossIdeal := fun m ρ _ => Cert.LossIdeal.Gen.frame m ρ

/-- The plain loss runs and keeps its arguments. -/
theorem frame_lossRefIdeal : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

open Cert.LossRefIdeal in
/-- The reference's run, its results row by row. -/
theorem loss_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50) = (fun i : S2048x2048.Idx => Cert.LossIdeal.flow (n := 2048) (m ((c.tc : Thread nD τ).loc main_arg0)) (Cert.LossIdeal.errors (n := 2048) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg3)) (i 0) (i 1))
      ∧ r.2.mem ((c.tc : Thread nD τ).loc main_v30) = (Cert.LossIdeal.errors (n := 2048) (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v33) = (fun i : S1x2048.Idx => ∑ r : Fin 2048, Cert.PreIdeal.term (n := 2048) (m ((c.tc : Thread nD τ).loc main_arg0)) (Cert.LossIdeal.errors (n := 2048) (m ((c.tc : Thread nD τ).loc main_arg0)) (m ((c.tc : Thread nD τ).loc main_arg1)) (m ((c.tc : Thread nD τ).loc main_arg2)) (m ((c.tc : Thread nD τ).loc main_arg3))) r (i 1))
      ∧ r.2.mem ((c.tc : Thread nD τ).loc main_v51) = (fun _ : S8x128.Idx => ∑ r : Fin 2048, Cert.LossIdeal.squares (n := 2048) (m ((c.tc : Thread nD τ).loc main_arg0)) (m ((c.tc : Thread nD τ).loc main_arg1)) (m ((c.tc : Thread nD τ).loc main_arg2)) (m ((c.tc : Thread nD τ).loc main_arg3)) r * Ideal.ofBits .f32 0x39800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_at _ _ _ _), (h c).2.1.trans (rows_at _ _ _ _),
      (h c).2.2.1.trans (sum_at _ _ _ _), (h c).2.2.2.1.trans (loss_at _ _ _ _), (h c).2.2.2.2⟩)
    (Value.run (F := Ideal) m ρ)

/-- The device ends with the output's gradient, the errors' gradients, the gradient of the norm's weights, and the loss. -/
theorem algebraic_loss : Cert.algebraic_LossIdeal_LossRefIdeal := fun m ρ m' ρ' _ h => by
  refine ⟨_, _, _, _, ?_, loss_reference m' ρ'⟩
  refine (θ_run Cert.LossIdeal.defs _ _).mono (fun _ hr c => ⟨(hr c).1.trans ?_, (hr c).2.1.trans ?_, (hr c).2.2.1.trans ?_, (hr c).2.2.2.1.trans ?_, (hr c).2.2.2.2⟩)
    (Cert.LossIdeal.Value.run_blocks (F := Ideal) m ρ)
  · rw [Cert.LossIdeal.leaves_out, (h c).1, (h c).2.1, (h c).2.2.1, (h c).2.2.2]
  · rw [Cert.LossIdeal.leaves_rows, (h c).1, (h c).2.1, (h c).2.2.1, (h c).2.2.2]
  · rw [Cert.LossIdeal.leaves_sum, (h c).1, (h c).2.1, (h c).2.2.1, (h c).2.2.2]
  · rw [Cert.LossIdeal.leaves_loss, (h c).1, (h c).2.1, (h c).2.2.1, (h c).2.2.2]

end Cert.Proof

end
-- ==== Proof.Inputs.lean ====
/-
  The products of the projection into the block and of the branches, on one device: blocks of 256 or 512 columns, each from
  the whole inner axis at once.
-/
module

public import proofs.«01_k».proof.Defs
public import proofs.«01_k».proof.Proof.Pre
public import proofs.«01_k».proof.Proof.Gen.InProduct.Frame
public import proofs.«01_k».proof.Proof.Gen.InProductIdeal.Value
public import proofs.«01_k».proof.Proof.Gen.InProductRefIdeal.Run
public import proofs.«01_k».proof.Proof.Gen.InDw.Frame
public import proofs.«01_k».proof.Proof.Gen.InDwIdeal.Value
public import proofs.«01_k».proof.Proof.Gen.InDwRefIdeal.Run
public import proofs.«01_k».proof.Proof.Gen.Branch.Frame
public import proofs.«01_k».proof.Proof.Gen.BranchIdeal.Value
public import proofs.«01_k».proof.Proof.Gen.BranchRefIdeal.Run
public import proofs.«01_k».proof.Proof.Gen.BranchDx.Frame
public import proofs.«01_k».proof.Proof.Gen.BranchDxIdeal.Value
public import proofs.«01_k».proof.Proof.Gen.BranchDxRefIdeal.Run
public import proofs.«01_k».proof.Proof.Gen.BranchDw.Frame
public import proofs.«01_k».proof.Proof.Gen.BranchDwIdeal.Value
public import proofs.«01_k».proof.Proof.Gen.BranchDwRefIdeal.Run
public import Idealize.ShloMosaic.Lib.Pointwise

@[expose] public section

noncomputable section

namespace Cert.Inputs

open Idealize.ShloMosaic Idealize.ShloMosaic.TcCoe Idealize.ShloMosaic.Tactic

/-- An entry of the product of two matrices. -/
def entry {A K B : ℕ} (a : FVec Ideal ⟨2, ![A, K]⟩ .bf16) (b : FVec Ideal ⟨2, ![K, B]⟩ .bf16) (r : Fin A) (k : Fin B) : EReal := ∑ j : Fin K, a (ix2 r j) * b (ix2 j k)

/-- The same, the right matrix turned over. -/
def entryT {A K B : ℕ} (a : FVec Ideal ⟨2, ![A, K]⟩ .bf16) (b : FVec Ideal ⟨2, ![B, K]⟩ .bf16) (r : Fin A) (k : Fin B) : EReal := ∑ j : Fin K, a (ix2 r j) * b (ix2 k j)

/-- The same, the left matrix turned over. -/
def Tentry {A K B : ℕ} (a : FVec Ideal ⟨2, ![K, A]⟩ .bf16) (b : FVec Ideal ⟨2, ![K, B]⟩ .bf16) (r : Fin A) (k : Fin B) : EReal := ∑ j : Fin K, a (ix2 j r) * b (ix2 j k)

/-- An index of a matrix from its row and its column. -/
theorem at_ix2 {A B : ℕ} {i : (⟨2, ![A, B]⟩ : Shape).Idx} {r : Fin A} {k : Fin B} (h0 : (i 0).val = r.val) (h1 : (i 1).val = k.val) : i = ix2 r k :=
  funext fun x => match x with
    | ⟨0, _⟩ => Fin.ext h0
    | ⟨1, _⟩ => Fin.ext h1

/-- A matrix known in every block of `W` columns is known. -/
theorem by_columns (W : ℕ) (hW : 0 < W) {A B : ℕ} (o : FVec Ideal ⟨2, ![A, B]⟩ .f32) (e : Fin A → Fin B → EReal)
    (h : ∀ (t : ℕ) (k : Fin W) (hk : W * t + k.val < B) (r : Fin A), o (ix2 r ⟨W * t + k.val, hk⟩) = e r ⟨W * t + k.val, hk⟩) : o = fun i => e (i 0) (i 1) := by
  funext i
  have d : W * ((i 1).val / W) + (i 1).val % W = (i 1).val := Nat.div_add_mod _ _
  have b : W * ((i 1).val / W) + (i 1).val % W < B := d.symm ▸ (i 1).isLt
  have hk : (⟨W * ((i 1).val / W) + (i 1).val % W, b⟩ : Fin B) = i 1 := Fin.ext d
  have e1 := h ((i 1).val / W) ⟨(i 1).val % W, Nat.mod_lt _ hW⟩ b (i 0)
  exact (congrArg o (at_ix2 rfl d.symm)).trans (e1.trans (congrArg (e (i 0)) hk))

end Cert.Inputs

namespace Cert.InProductIdeal

open Idealize.ShloMosaic Idealize.ShloMosaic.TcCoe Idealize.ShloMosaic.Tactic
open Idealize.SL.Sem

/-- A block of the columns of the mixer and the gates. -/
theorem block_at (a : FVec Ideal S2048x2048 .bf16) (b : FVec Ideal S2048x256 .bf16) (r : Fin 2048) (k : Fin 256) :
    Gen.k0_pay1 (F := Ideal) a b (ix2 r k) = Inputs.entry a b r k := by
  unfold Gen.k0_pay1 Inputs.entry
  pointwise

theorem stores (a : FVec Ideal S2048x2048 .bf16) (b : FVec Ideal S2048x256 .bf16) : Gen.out0_2 (F := Ideal) a b = Gen.k0_pay1 (F := Ideal) a b := by
  unfold Gen.out0_2
  rw [View.canon_unit_zero PreIdeal.offset_zero, View.ld_unit_zero (S := S2048x2048) PreIdeal.offset_zero, View.ld_unit_zero (S := S2048x256) PreIdeal.offset_zero]

theorem at_start : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val)

theorem left_at (a : FVec Ideal S2048x2048 .bf16) (t : Fin cfg0.N) (r : Fin 2048) (j : Fin 2048) :
    ((cfg0.win 0).blk t).view.read (Elt Ideal) a (ix2 r j) = a (ix2 r j) := by
  obtain ⟨p0, q0, p1, q1, p2, q2⟩ := at_start t
  refine congrArg a (Inputs.at_ix2 ?_ ?_)
  · show win0_0.index t (0 : Fin 2) * 2048 + 1 * r.val = r.val; omega
  · show win0_0.index t (1 : Fin 2) * 2048 + 1 * j.val = j.val; omega

theorem right_at (b : FVec Ideal S2048x11008 .bf16) (t : Fin cfg0.N) (k : Fin 256) (j : Fin 2048) (hk : 256 * t.val + k.val < 11008) :
    ((cfg0.win 1).blk t).view.read (Elt Ideal) b (ix2 j k) = b (ix2 j ⟨256 * t.val + k.val, hk⟩) := by
  obtain ⟨p0, q0, p1, q1, p2, q2⟩ := at_start t
  refine congrArg b (Inputs.at_ix2 ?_ ?_)
  · show win0_1.index t (0 : Fin 2) * 2048 + 1 * j.val = j.val; omega
  · show win0_1.index t (1 : Fin 2) * 256 + 1 * k.val = 256 * t.val + k.val; omega

theorem out_at (o : FVec Ideal S2048x11008 .f32) (t : Fin cfg0.N) (r : Fin 2048) (k : Fin 256) (hk : 256 * t.val + k.val < 11008) :
    ((cfg0.win 2).blk t).view.read (Elt Ideal) o (ix2 r k) = o (ix2 r ⟨256 * t.val + k.val, hk⟩) := by
  obtain ⟨p0, q0, p1, q1, p2, q2⟩ := at_start t
  refine congrArg o (Inputs.at_ix2 ?_ ?_)
  · show win0_2.index t (0 : Fin 2) * 2048 + 1 * r.val = r.val; omega
  · show win0_2.index t (1 : Fin 2) * 256 + 1 * k.val = 256 * t.val + k.val; omega

/-- What the call leaves: every entry of the product. -/
theorem leaves (m : (ℓ : Loc nD τ sig) → Buf (Elt Ideal) ℓ) (c : Dev nD) : (Gen.dats m 0 c).arrAt 2 cfg0.N
    = fun i : S2048x11008.Idx => Inputs.entry (m ((c.tc : Thread nD τ).loc main_arg0)) (m ((c.tc : Thread nD τ).loc main_arg1)) (i 0) (i 1) :=
  Inputs.by_columns 256 (by omega) _ _ fun p k hk r => by
    have hN : cfg0.N = 43 := Gen.N_0
    let t : Fin cfg0.N := ⟨p, by omega⟩
    refine (out_at _ t r k hk).symm.trans ((congrFun ((Value.blocks2 m c t (Gen.flush0_2 t)).trans (Value.flushed2 m c t)) (ix2 r k)).trans ?_)
    rw [stores]
    exact (block_at _ _ r k).trans (Finset.sum_congr rfl fun j _ => congrArg₂ (· * ·) (left_at _ t r j) (right_at _ t k j hk))

end Cert.InProductIdeal

namespace Cert.InProductRefIdeal

open Idealize.ShloMosaic Idealize.ShloMosaic.TcCoe Idealize.ShloMosaic.Tactic
open Cert.InProductRefIdeal.Gen

/-- The reference, entry by entry. -/
theorem entries (A : FVec Ideal S2048x2048 .bf16) (B : FVec Ideal S2048x11008 .bf16) : (Host.dotGeneral dot_S2048x2048_S2048x11008_S2048x11008_1_0_0_1_n_n none (extf .f32 A bitsLt_bf16_f32) (extf .f32 B bitsLt_bf16_f32) : FVec Ideal S2048x11008 .f32)
    = fun i => Inputs.entry A B (i 0) (i 1) := by
  funext i
  obtain ⟨r, k, rfl⟩ : ∃ (r : Fin 2048) (k : Fin 11008), i = ix2 r k := ⟨i 0, i 1, Inputs.at_ix2 rfl rfl⟩
  show _ = Inputs.entry A B r k
  unfold Inputs.entry
  pointwise

end Cert.InProductRefIdeal

namespace Cert.Proof

open Idealize.ShloMosaic Idealize.ShloMosaic.TcCoe Idealize.SL.Sem

theorem frame_in_product : Cert.quiescent_InProduct := fun m ρ _ => Cert.InProduct.Gen.frame m ρ

theorem frame_in_productIdeal : Cert.quiescent_InProductIdeal := fun m ρ _ => Cert.InProductIdeal.Gen.frame m ρ

theorem frame_in_productRefIdeal : Cert.quiescent_InProductRefIdeal := fun m ρ _ =>
  (θ_run Cert.InProductRefIdeal.defs _ _).mono (fun r h => ⟨fun c => (h c).2, sem_eq_zero_of_no_sems (by decide) r.2⟩)
    (Cert.InProductRefIdeal.Value.run (F := Ideal) m ρ)

/-- The device ends with every entry of the product. -/
theorem algebraic_in_product : Cert.algebraic_InProductIdeal_InProductRefIdeal := fun m ρ m' ρ' _ h => by
  refine ⟨_, ?_, Cert.InProductRefIdeal.Value.run (F := Ideal) m' ρ'⟩
  refine (θ_run Cert.InProductIdeal.defs _ _).mono (fun _ hr c => ⟨(hr c).1.trans ?_, (hr c).2⟩)
    (Cert.InProductIdeal.Value.run_blocks (F := Ideal) m ρ)
  rw [Cert.InProductIdeal.leaves, (h c).1, (h c).2]
  exact (Cert.InProductRefIdeal.entries _ _).symm

end Cert.Proof

namespace Cert.InDwIdeal

open Idealize.ShloMosaic Idealize.ShloMosaic.TcCoe Idealize.ShloMosaic.Tactic
open Idealize.SL.Sem

/-- A block of the gradient of the projection's weights. -/
theorem block_at (a : FVec Ideal S2048x2048 .bf16) (b : FVec Ideal S2048x256 .bf16) (r : Fin 2048) (k : Fin 256) :
    Gen.k0_pay1 (F := Ideal) a b (ix2 r k) = Inputs.Tentry a b r k := by
  unfold Gen.k0_pay1 Inputs.Tentry
  pointwise

theorem stores (a : FVec Ideal S2048x2048 .bf16) (b : FVec Ideal S2048x256 .bf16) : Gen.out0_2 (F := Ideal) a b = Gen.k0_pay1 (F := Ideal) a b := by
  unfold Gen.out0_2
  rw [View.canon_unit_zero PreIdeal.offset_zero, View.ld_unit_zero (S := S2048x2048) PreIdeal.offset_zero, View.ld_unit_zero (S := S2048x256) PreIdeal.offset_zero]

theorem at_start : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val)

theorem left_at (a : FVec Ideal S2048x2048 .bf16) (t : Fin cfg0.N) (r : Fin 2048) (j : Fin 2048) :
    ((cfg0.win 0).blk t).view.read (Elt Ideal) a (ix2 j r) = a (ix2 j r) := by
  obtain ⟨p0, q0, p1, q1, p2, q2⟩ := at_start t
  refine congrArg a (Inputs.at_ix2 ?_ ?_)
  · show win0_0.index t (0 : Fin 2) * 2048 + 1 * j.val = j.val; omega
  · show win0_0.index t (1 : Fin 2) * 2048 + 1 * r.val = r.val; omega

theorem right_at (b : FVec Ideal S2048x11008 .bf16) (t : Fin cfg0.N) (k : Fin 256) (j : Fin 2048) (hk : 256 * t.val + k.val < 11008) :
    ((cfg0.win 1).blk t).view.read (Elt Ideal) b (ix2 j k) = b (ix2 j ⟨256 * t.val + k.val, hk⟩) := by
  obtain ⟨p0, q0, p1, q1, p2, q2⟩ := at_start t
  refine congrArg b (Inputs.at_ix2 ?_ ?_)
  · show win0_1.index t (0 : Fin 2) * 2048 + 1 * j.val = j.val; omega
  · show win0_1.index t (1 : Fin 2) * 256 + 1 * k.val = 256 * t.val + k.val; omega

theorem out_at (o : FVec Ideal S2048x11008 .f32) (t : Fin cfg0.N) (r : Fin 2048) (k : Fin 256) (hk : 256 * t.val + k.val < 11008) :
    ((cfg0.win 2).blk t).view.read (Elt Ideal) o (ix2 r k) = o (ix2 r ⟨256 * t.val + k.val, hk⟩) := by
  obtain ⟨p0, q0, p1, q1, p2, q2⟩ := at_start t
  refine congrArg o (Inputs.at_ix2 ?_ ?_)
  · show win0_2.index t (0 : Fin 2) * 2048 + 1 * r.val = r.val; omega
  · show win0_2.index t (1 : Fin 2) * 256 + 1 * k.val = 256 * t.val + k.val; omega

/-- What the call leaves: every entry of the product. -/
theorem leaves (m : (ℓ : Loc nD τ sig) → Buf (Elt Ideal) ℓ) (c : Dev nD) : (Gen.dats m 0 c).arrAt 2 cfg0.N
    = fun i : S2048x11008.Idx => Inputs.Tentry (m ((c.tc : Thread nD τ).loc main_arg0)) (m ((c.tc : Thread nD τ).loc main_arg1)) (i 0) (i 1) :=
  Inputs.by_columns 256 (by omega) _ _ fun p k hk r => by
    have hN : cfg0.N = 43 := Gen.N_0
    let t : Fin cfg0.N := ⟨p, by omega⟩
    refine (out_at _ t r k hk).symm.trans ((congrFun ((Value.blocks2 m c t (Gen.flush0_2 t)).trans (Value.flushed2 m c t)) (ix2 r k)).trans ?_)
    rw [stores]
    exact (block_at _ _ r k).trans (Finset.sum_congr rfl fun j _ => congrArg₂ (· * ·) (left_at _ t r j) (right_at _ t k j hk))

end Cert.InDwIdeal

namespace Cert.InDwRefIdeal

open Idealize.ShloMosaic Idealize.ShloMosaic.TcCoe Idealize.ShloMosaic.Tactic
open Cert.InDwRefIdeal.Gen

/-- The reference, entry by entry. -/
theorem entries (A : FVec Ideal S2048x2048 .bf16) (B : FVec Ideal S2048x11008 .bf16) : (Host.dotGeneral dot_S2048x2048_S2048x11008_S2048x11008_1_0_0_1_n_n none (transpose S2048x2048 [1, 0] (extf .f32 A bitsLt_bf16_f32) transposes_S2048x2048_S2048x2048_1_0) (extf .f32 B bitsLt_bf16_f32) : FVec Ideal S2048x11008 .f32)
    = fun i => Inputs.Tentry A B (i 0) (i 1) := by
  funext i
  obtain ⟨r, k, rfl⟩ : ∃ (r : Fin 2048) (k : Fin 11008), i = ix2 r k := ⟨i 0, i 1, Inputs.at_ix2 rfl rfl⟩
  show _ = Inputs.Tentry A B r k
  unfold Inputs.Tentry
  pointwise

end Cert.InDwRefIdeal

namespace Cert.Proof

open Idealize.ShloMosaic Idealize.ShloMosaic.TcCoe Idealize.SL.Sem

theorem frame_in_dw : Cert.quiescent_InDw := fun m ρ _ => Cert.InDw.Gen.frame m ρ

theorem frame_in_dwIdeal : Cert.quiescent_InDwIdeal := fun m ρ _ => Cert.InDwIdeal.Gen.frame m ρ

theorem frame_in_dwRefIdeal : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- The device ends with every entry of the product. -/
theorem algebraic_in_dw : Cert.algebraic_InDwIdeal_InDwRefIdeal := fun m ρ m' ρ' _ h => by
  refine ⟨_, ?_, Cert.InDwRefIdeal.Value.run (F := Ideal) m' ρ'⟩
  refine (θ_run Cert.InDwIdeal.defs _ _).mono (fun _ hr c => ⟨(hr c).1.trans ?_, (hr c).2⟩)
    (Cert.InDwIdeal.Value.run_blocks (F := Ideal) m ρ)
  rw [Cert.InDwIdeal.leaves, (h c).1, (h c).2]
  exact (Cert.InDwRefIdeal.entries _ _).symm

end Cert.Proof

namespace Cert.BranchIdeal

open Idealize.ShloMosaic Idealize.ShloMosaic.TcCoe Idealize.ShloMosaic.Tactic
open Idealize.SL.Sem

/-- A block of a branch in the model's width. -/
theorem block_at (a : FVec Ideal S2048x1024 .bf16) (b : FVec Ideal S1024x512 .bf16) (r : Fin 2048) (k : Fin 512) :
    Gen.k0_pay1 (F := Ideal) a b (ix2 r k) = Inputs.entry a b r k := by
  unfold Gen.k0_pay1 Inputs.entry
  pointwise

theorem stores (a : FVec Ideal S2048x1024 .bf16) (b : FVec Ideal S1024x512 .bf16) : Gen.out0_2 (F := Ideal) a b = Gen.k0_pay1 (F := Ideal) a b := by
  unfold Gen.out0_2
  rw [View.canon_unit_zero PreIdeal.offset_zero, View.ld_unit_zero (S := S2048x1024) PreIdeal.offset_zero, View.ld_unit_zero (S := S1024x512) PreIdeal.offset_zero]

theorem at_start : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val)

theorem left_at (a : FVec Ideal S2048x1024 .bf16) (t : Fin cfg0.N) (r : Fin 2048) (j : Fin 1024) :
    ((cfg0.win 0).blk t).view.read (Elt Ideal) a (ix2 r j) = a (ix2 r j) := by
  obtain ⟨p0, q0, p1, q1, p2, q2⟩ := at_start t
  refine congrArg a (Inputs.at_ix2 ?_ ?_)
  · show win0_0.index t (0 : Fin 2) * 2048 + 1 * r.val = r.val; omega
  · show win0_0.index t (1 : Fin 2) * 1024 + 1 * j.val = j.val; omega

theorem right_at (b : FVec Ideal S1024x2048 .bf16) (t : Fin cfg0.N) (k : Fin 512) (j : Fin 1024) (hk : 512 * t.val + k.val < 2048) :
    ((cfg0.win 1).blk t).view.read (Elt Ideal) b (ix2 j k) = b (ix2 j ⟨512 * t.val + k.val, hk⟩) := by
  obtain ⟨p0, q0, p1, q1, p2, q2⟩ := at_start t
  refine congrArg b (Inputs.at_ix2 ?_ ?_)
  · show win0_1.index t (0 : Fin 2) * 1024 + 1 * j.val = j.val; omega
  · show win0_1.index t (1 : Fin 2) * 512 + 1 * k.val = 512 * t.val + k.val; omega

theorem out_at (o : FVec Ideal S2048x2048 .f32) (t : Fin cfg0.N) (r : Fin 2048) (k : Fin 512) (hk : 512 * t.val + k.val < 2048) :
    ((cfg0.win 2).blk t).view.read (Elt Ideal) o (ix2 r k) = o (ix2 r ⟨512 * t.val + k.val, hk⟩) := by
  obtain ⟨p0, q0, p1, q1, p2, q2⟩ := at_start t
  refine congrArg o (Inputs.at_ix2 ?_ ?_)
  · show win0_2.index t (0 : Fin 2) * 2048 + 1 * r.val = r.val; omega
  · show win0_2.index t (1 : Fin 2) * 512 + 1 * k.val = 512 * t.val + k.val; omega

/-- What the call leaves: every entry of the product. -/
theorem leaves (m : (ℓ : Loc nD τ sig) → Buf (Elt Ideal) ℓ) (c : Dev nD) : (Gen.dats m 0 c).arrAt 2 cfg0.N
    = fun i : S2048x2048.Idx => Inputs.entry (m ((c.tc : Thread nD τ).loc main_arg0)) (m ((c.tc : Thread nD τ).loc main_arg1)) (i 0) (i 1) :=
  Inputs.by_columns 512 (by omega) _ _ fun p k hk r => by
    have hN : cfg0.N = 4 := Gen.N_0
    let t : Fin cfg0.N := ⟨p, by omega⟩
    refine (out_at _ t r k hk).symm.trans ((congrFun ((Value.blocks2 m c t (Gen.flush0_2 t)).trans (Value.flushed2 m c t)) (ix2 r k)).trans ?_)
    rw [stores]
    exact (block_at _ _ r k).trans (Finset.sum_congr rfl fun j _ => congrArg₂ (· * ·) (left_at _ t r j) (right_at _ t k j hk))

end Cert.BranchIdeal

namespace Cert.BranchRefIdeal

open Idealize.ShloMosaic Idealize.ShloMosaic.TcCoe Idealize.ShloMosaic.Tactic
open Cert.BranchRefIdeal.Gen

/-- The reference, entry by entry. -/
theorem entries (A : FVec Ideal S2048x1024 .bf16) (B : FVec Ideal S1024x2048 .bf16) : (Host.dotGeneral dot_S2048x1024_S1024x2048_S2048x2048_1_0_0_1_n_n none (extf .f32 A bitsLt_bf16_f32) (extf .f32 B bitsLt_bf16_f32) : FVec Ideal S2048x2048 .f32)
    = fun i => Inputs.entry A B (i 0) (i 1) := by
  funext i
  obtain ⟨r, k, rfl⟩ : ∃ (r : Fin 2048) (k : Fin 2048), i = ix2 r k := ⟨i 0, i 1, Inputs.at_ix2 rfl rfl⟩
  show _ = Inputs.entry A B r k
  unfold Inputs.entry
  pointwise

end Cert.BranchRefIdeal

namespace Cert.Proof

open Idealize.ShloMosaic Idealize.ShloMosaic.TcCoe Idealize.SL.Sem

theorem frame_branch : Cert.quiescent_Branch := fun m ρ _ => Cert.Branch.Gen.frame m ρ

theorem frame_branchIdeal : Cert.quiescent_BranchIdeal := fun m ρ _ => Cert.BranchIdeal.Gen.frame m ρ

theorem frame_branchRefIdeal : Cert.quiescent_BranchRefIdeal := fun m ρ _ =>
  (θ_run Cert.BranchRefIdeal.defs _ _).mono (fun r h => ⟨fun c => (h c).2, sem_eq_zero_of_no_sems (by decide) r.2⟩)
    (Cert.BranchRefIdeal.Value.run (F := Ideal) m ρ)

/-- The device ends with every entry of the product. -/
theorem algebraic_branch : Cert.algebraic_BranchIdeal_BranchRefIdeal := fun m ρ m' ρ' _ h => by
  refine ⟨_, ?_, Cert.BranchRefIdeal.Value.run (F := Ideal) m' ρ'⟩
  refine (θ_run Cert.BranchIdeal.defs _ _).mono (fun _ hr c => ⟨(hr c).1.trans ?_, (hr c).2⟩)
    (Cert.BranchIdeal.Value.run_blocks (F := Ideal) m ρ)
  rw [Cert.BranchIdeal.leaves, (h c).1, (h c).2]
  exact (Cert.BranchRefIdeal.entries _ _).symm

end Cert.Proof

namespace Cert.BranchDxIdeal

open Idealize.ShloMosaic Idealize.ShloMosaic.TcCoe Idealize.ShloMosaic.Tactic
open Idealize.SL.Sem

/-- A block of the gradient of a branch's rows. -/
theorem block_at (a : FVec Ideal S2048x2048 .bf16) (b : FVec Ideal S512x2048 .bf16) (r : Fin 2048) (k : Fin 512) :
    Gen.k0_pay1 (F := Ideal) a b (ix2 r k) = Inputs.entryT a b r k := by
  unfold Gen.k0_pay1 Inputs.entryT
  pointwise

theorem stores (a : FVec Ideal S2048x2048 .bf16) (b : FVec Ideal S512x2048 .bf16) : Gen.out0_2 (F := Ideal) a b = Gen.k0_pay1 (F := Ideal) a b := by
  unfold Gen.out0_2
  rw [View.canon_unit_zero PreIdeal.offset_zero, View.ld_unit_zero (S := S2048x2048) PreIdeal.offset_zero, View.ld_unit_zero (S := S512x2048) PreIdeal.offset_zero]

theorem at_start : ∀ t : Fin cfg0.N, win0_0.index t (0 : Fin 2) = 0 ∧ win0_0.index t (1 : Fin 2) = 0
    ∧ win0_1.index t (0 : Fin 2) = t.val ∧ win0_1.index t (1 : Fin 2) = 0 ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = t.val ∧ win0_1.index t (1 : Fin 2) = 0 ∧ win0_2.index t (0 : Fin 2) = 0 ∧ win0_2.index t (1 : Fin 2) = t.val)

theorem left_at (a : FVec Ideal S2048x2048 .bf16) (t : Fin cfg0.N) (r : Fin 2048) (j : Fin 2048) :
    ((cfg0.win 0).blk t).view.read (Elt Ideal) a (ix2 r j) = a (ix2 r j) := by
  obtain ⟨p0, q0, p1, q1, p2, q2⟩ := at_start t
  refine congrArg a (Inputs.at_ix2 ?_ ?_)
  · show win0_0.index t (0 : Fin 2) * 2048 + 1 * r.val = r.val; omega
  · show win0_0.index t (1 : Fin 2) * 2048 + 1 * j.val = j.val; omega

theorem right_at (b : FVec Ideal S1024x2048 .bf16) (t : Fin cfg0.N) (k : Fin 512) (j : Fin 2048) (hk : 512 * t.val + k.val < 1024) :
    ((cfg0.win 1).blk t).view.read (Elt Ideal) b (ix2 k j) = b (ix2 ⟨512 * t.val + k.val, hk⟩ j) := by
  obtain ⟨p0, q0, p1, q1, p2, q2⟩ := at_start t
  refine congrArg b (Inputs.at_ix2 ?_ ?_)
  · show win0_1.index t (0 : Fin 2) * 512 + 1 * k.val = 512 * t.val + k.val; omega
  · show win0_1.index t (1 : Fin 2) * 2048 + 1 * j.val = j.val; omega

theorem out_at (o : FVec Ideal S2048x1024 .f32) (t : Fin cfg0.N) (r : Fin 2048) (k : Fin 512) (hk : 512 * t.val + k.val < 1024) :
    ((cfg0.win 2).blk t).view.read (Elt Ideal) o (ix2 r k) = o (ix2 r ⟨512 * t.val + k.val, hk⟩) := by
  obtain ⟨p0, q0, p1, q1, p2, q2⟩ := at_start t
  refine congrArg o (Inputs.at_ix2 ?_ ?_)
  · show win0_2.index t (0 : Fin 2) * 2048 + 1 * r.val = r.val; omega
  · show win0_2.index t (1 : Fin 2) * 512 + 1 * k.val = 512 * t.val + k.val; omega

/-- What the call leaves: every entry of the product. -/
theorem leaves (m : (ℓ : Loc nD τ sig) → Buf (Elt Ideal) ℓ) (c : Dev nD) : (Gen.dats m 0 c).arrAt 2 cfg0.N
    = fun i : S2048x1024.Idx => Inputs.entryT (m ((c.tc : Thread nD τ).loc main_arg0)) (m ((c.tc : Thread nD τ).loc main_arg1)) (i 0) (i 1) :=
  Inputs.by_columns 512 (by omega) _ _ fun p k hk r => by
    have hN : cfg0.N = 2 := Gen.N_0
    let t : Fin cfg0.N := ⟨p, by omega⟩
    refine (out_at _ t r k hk).symm.trans ((congrFun ((Value.blocks2 m c t (Gen.flush0_2 t)).trans (Value.flushed2 m c t)) (ix2 r k)).trans ?_)
    rw [stores]
    exact (block_at _ _ r k).trans (Finset.sum_congr rfl fun j _ => congrArg₂ (· * ·) (left_at _ t r j) (right_at _ t k j hk))

end Cert.BranchDxIdeal

namespace Cert.BranchDxRefIdeal

open Idealize.ShloMosaic Idealize.ShloMosaic.TcCoe Idealize.ShloMosaic.Tactic
open Cert.BranchDxRefIdeal.Gen

/-- The reference, entry by entry. -/
theorem entries (A : FVec Ideal S2048x2048 .bf16) (B : FVec Ideal S1024x2048 .bf16) : (Host.dotGeneral dot_S2048x2048_S2048x1024_S2048x1024_1_0_0_1_n_n none (extf .f32 A bitsLt_bf16_f32) (transpose S2048x1024 [1, 0] (extf .f32 B bitsLt_bf16_f32) transposes_S1024x2048_S2048x1024_1_0) : FVec Ideal S2048x1024 .f32)
    = fun i => Inputs.entryT A B (i 0) (i 1) := by
  funext i
  obtain ⟨r, k, rfl⟩ : ∃ (r : Fin 2048) (k : Fin 1024), i = ix2 r k := ⟨i 0, i 1, Inputs.at_ix2 rfl rfl⟩
  show _ = Inputs.entryT A B r k
  unfold Inputs.entryT
  pointwise

end Cert.BranchDxRefIdeal

namespace Cert.Proof

open Idealize.ShloMosaic Idealize.ShloMosaic.TcCoe Idealize.SL.Sem

theorem frame_branch_dx : Cert.quiescent_BranchDx := fun m ρ _ => Cert.BranchDx.Gen.frame m ρ

theorem frame_branch_dxIdeal : Cert.quiescent_BranchDxIdeal := fun m ρ _ => Cert.BranchDxIdeal.Gen.frame m ρ

theorem frame_branch_dxRefIdeal : Cert.quiescent_BranchDxRefIdeal := fun m ρ _ =>
  (θ_run Cert.BranchDxRefIdeal.defs _ _).mono (fun r h => ⟨fun c => (h c).2, sem_eq_zero_of_no_sems (by decide) r.2⟩)
    (Cert.BranchDxRefIdeal.Value.run (F := Ideal) m ρ)

/-- The device ends with every entry of the product. -/
theorem algebraic_branch_dx : Cert.algebraic_BranchDxIdeal_BranchDxRefIdeal := fun m ρ m' ρ' _ h => by
  refine ⟨_, ?_, Cert.BranchDxRefIdeal.Value.run (F := Ideal) m' ρ'⟩
  refine (θ_run Cert.BranchDxIdeal.defs _ _).mono (fun _ hr c => ⟨(hr c).1.trans ?_, (hr c).2⟩)
    (Cert.BranchDxIdeal.Value.run_blocks (F := Ideal) m ρ)
  rw [Cert.BranchDxIdeal.leaves, (h c).1, (h c).2]
  exact (Cert.BranchDxRefIdeal.entries _ _).symm

end Cert.Proof

namespace Cert.BranchDwIdeal

open Idealize.ShloMosaic Idealize.ShloMosaic.TcCoe Idealize.ShloMosaic.Tactic
open Idealize.SL.Sem

/-- A block of the gradient of a branch's weights. -/
theorem block_at (a : FVec Ideal S2048x1024 .bf16) (b : FVec Ideal S2048x512 .bf16) (r : Fin 1024) (k : Fin 512) :
    Gen.k0_pay1 (F := Ideal) a b (ix2 r k) = Inputs.Tentry a b r k := by
  unfold Gen.k0_pay1 Inputs.Tentry
  pointwise

theorem stores (a : FVec Ideal S2048x1024 .bf16) (b : FVec Ideal S2048x512 .bf16) : Gen.out0_2 (F := Ideal) a b = Gen.k0_pay1 (F := Ideal) a b := by
  unfold Gen.out0_2
  rw [View.canon_unit_zero PreIdeal.offset_zero, View.ld_unit_zero (S := S2048x1024) PreIdeal.offset_zero, View.ld_unit_zero (S := S2048x512) PreIdeal.offset_zero]

theorem at_start : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val)

theorem left_at (a : FVec Ideal S2048x1024 .bf16) (t : Fin cfg0.N) (r : Fin 1024) (j : Fin 2048) :
    ((cfg0.win 0).blk t).view.read (Elt Ideal) a (ix2 j r) = a (ix2 j r) := by
  obtain ⟨p0, q0, p1, q1, p2, q2⟩ := at_start t
  refine congrArg a (Inputs.at_ix2 ?_ ?_)
  · show win0_0.index t (0 : Fin 2) * 2048 + 1 * j.val = j.val; omega
  · show win0_0.index t (1 : Fin 2) * 1024 + 1 * r.val = r.val; omega

theorem right_at (b : FVec Ideal S2048x2048 .bf16) (t : Fin cfg0.N) (k : Fin 512) (j : Fin 2048) (hk : 512 * t.val + k.val < 2048) :
    ((cfg0.win 1).blk t).view.read (Elt Ideal) b (ix2 j k) = b (ix2 j ⟨512 * t.val + k.val, hk⟩) := by
  obtain ⟨p0, q0, p1, q1, p2, q2⟩ := at_start t
  refine congrArg b (Inputs.at_ix2 ?_ ?_)
  · show win0_1.index t (0 : Fin 2) * 2048 + 1 * j.val = j.val; omega
  · show win0_1.index t (1 : Fin 2) * 512 + 1 * k.val = 512 * t.val + k.val; omega

theorem out_at (o : FVec Ideal S1024x2048 .f32) (t : Fin cfg0.N) (r : Fin 1024) (k : Fin 512) (hk : 512 * t.val + k.val < 2048) :
    ((cfg0.win 2).blk t).view.read (Elt Ideal) o (ix2 r k) = o (ix2 r ⟨512 * t.val + k.val, hk⟩) := by
  obtain ⟨p0, q0, p1, q1, p2, q2⟩ := at_start t
  refine congrArg o (Inputs.at_ix2 ?_ ?_)
  · show win0_2.index t (0 : Fin 2) * 1024 + 1 * r.val = r.val; omega
  · show win0_2.index t (1 : Fin 2) * 512 + 1 * k.val = 512 * t.val + k.val; omega

/-- What the call leaves: every entry of the product. -/
theorem leaves (m : (ℓ : Loc nD τ sig) → Buf (Elt Ideal) ℓ) (c : Dev nD) : (Gen.dats m 0 c).arrAt 2 cfg0.N
    = fun i : S1024x2048.Idx => Inputs.Tentry (m ((c.tc : Thread nD τ).loc main_arg0)) (m ((c.tc : Thread nD τ).loc main_arg1)) (i 0) (i 1) :=
  Inputs.by_columns 512 (by omega) _ _ fun p k hk r => by
    have hN : cfg0.N = 4 := Gen.N_0
    let t : Fin cfg0.N := ⟨p, by omega⟩
    refine (out_at _ t r k hk).symm.trans ((congrFun ((Value.blocks2 m c t (Gen.flush0_2 t)).trans (Value.flushed2 m c t)) (ix2 r k)).trans ?_)
    rw [stores]
    exact (block_at _ _ r k).trans (Finset.sum_congr rfl fun j _ => congrArg₂ (· * ·) (left_at _ t r j) (right_at _ t k j hk))

end Cert.BranchDwIdeal

namespace Cert.BranchDwRefIdeal

open Idealize.ShloMosaic Idealize.ShloMosaic.TcCoe Idealize.ShloMosaic.Tactic
open Cert.BranchDwRefIdeal.Gen

/-- The reference, entry by entry. -/
theorem entries (A : FVec Ideal S2048x1024 .bf16) (B : FVec Ideal S2048x2048 .bf16) : (Host.dotGeneral dot_S1024x2048_S2048x2048_S1024x2048_1_0_0_1_n_n none (transpose S1024x2048 [1, 0] (extf .f32 A bitsLt_bf16_f32) transposes_S2048x1024_S1024x2048_1_0) (extf .f32 B bitsLt_bf16_f32) : FVec Ideal S1024x2048 .f32)
    = fun i => Inputs.Tentry A B (i 0) (i 1) := by
  funext i
  obtain ⟨r, k, rfl⟩ : ∃ (r : Fin 1024) (k : Fin 2048), i = ix2 r k := ⟨i 0, i 1, Inputs.at_ix2 rfl rfl⟩
  show _ = Inputs.Tentry A B r k
  unfold Inputs.Tentry
  pointwise

end Cert.BranchDwRefIdeal

namespace Cert.Proof

open Idealize.ShloMosaic Idealize.ShloMosaic.TcCoe Idealize.SL.Sem

theorem frame_branch_dw : Cert.quiescent_BranchDw := fun m ρ _ => Cert.BranchDw.Gen.frame m ρ

theorem frame_branch_dwIdeal : Cert.quiescent_BranchDwIdeal := fun m ρ _ => Cert.BranchDwIdeal.Gen.frame m ρ

theorem frame_branch_dwRefIdeal : Cert.quiescent_BranchDwRefIdeal := fun m ρ _ =>
  (θ_run Cert.BranchDwRefIdeal.defs _ _).mono (fun r h => ⟨fun c => (h c).2, sem_eq_zero_of_no_sems (by decide) r.2⟩)
    (Cert.BranchDwRefIdeal.Value.run (F := Ideal) m ρ)

/-- The device ends with every entry of the product. -/
theorem algebraic_branch_dw : Cert.algebraic_BranchDwIdeal_BranchDwRefIdeal := fun m ρ m' ρ' _ h => by
  refine ⟨_, ?_, Cert.BranchDwRefIdeal.Value.run (F := Ideal) m' ρ'⟩
  refine (θ_run Cert.BranchDwIdeal.defs _ _).mono (fun _ hr c => ⟨(hr c).1.trans ?_, (hr c).2⟩)
    (Cert.BranchDwIdeal.Value.run_blocks (F := Ideal) m ρ)
  rw [Cert.BranchDwIdeal.leaves, (h c).1, (h c).2]
  exact (Cert.BranchDwRefIdeal.entries _ _).symm

end Cert.Proof

end
-- ==== Proof.InDx.lean ====
/-
  The gradient of the normed rows, on one device: sixteen blocks, each the sum of the products of the two halves of the inner
  axis, the first kept between the points.
-/
module

public import proofs.«01_k».proof.Defs
public import proofs.«01_k».proof.Proof.Inputs
public import proofs.«01_k».proof.Proof.Gen.InDx.Frame
public import proofs.«01_k».proof.Proof.Gen.InDxIdeal.Value
public import proofs.«01_k».proof.Proof.Gen.InDxRefIdeal.Run

@[expose] public section

noncomputable section

namespace Cert.InDxIdeal

open Idealize.ShloMosaic Idealize.ShloMosaic.TcCoe Idealize.ShloMosaic.Tactic
open Idealize.SL.Sem

section stores

variable (c : Dev nD) (i : grid0.Coords)
  (a1 : Memref sig .tc .vmem S512x5504 .bf16) (h1 : a1.IsWhole) (a2 : Memref sig .tc .vmem S512x5504 .bf16) (h2 : a2.IsWhole)
  (a3 : Memref sig .tc .vmem S512x512 .f32) (h3 : a3.IsWhole) (a4 : Memref sig .tc .vmem S512x512 .f32) (h4 : a4.IsWhole)
  (x y : Vec Ideal S512x5504 .bf16) (s : Vec Ideal S512x512 .f32)

/-- The first point of a block keeps its half's product. -/
theorem keeps (hc0 : Gen.cond0_0 i) (hc1 : ¬Gen.cond0_1 i) (hc2 : ¬Gen.cond0_2 i) :
    Gen.sout0_A_0 c i a1 h1 a2 h2 a3 h3 a4 h4 hc0 hc1 hc2 x y = Gen.k0_pay1 x y := by
  unfold Gen.sout0_A_0
  rw [View.read_writes_eq_canon _ _ _ (Gen.scover0_A_0 c i a1 h1 a2 h2 a3 h3 a4 h4 hc0 hc1 hc2 x y)]
  unfold Gen.kernelRun0_A
  dsimp only
  sl_unfold_words
  rw [View.canon_unit_zero PreIdeal.offset_zero]
  unfold Gen.k0_pay2
  simp only [View.readAt_eq_ld, h1.read_unread, h2.read_unread, View.ld_unit_zero (S := S512x5504) PreIdeal.offset_zero, shapeCast_self]

/-- The second adds its own and stores the sum. -/
theorem stores (hc0 : ¬Gen.cond0_0 i) (hc1 : Gen.cond0_1 i) (hc2 : Gen.cond0_2 i) :
    Gen.out0_B_2 c i a1 h1 a2 h2 a3 h3 a4 h4 hc0 hc1 hc2 x y s = addf s (Gen.k0_pay1 x y) := by
  unfold Gen.out0_B_2
  rw [View.read_writes_eq_canon _ _ _ (Gen.cover0_B_2 c i a1 h1 a2 h2 a3 h3 a4 h4 hc0 hc1 hc2 x y s)]
  unfold Gen.kernelRun0_B
  dsimp only
  sl_unfold_words
  rw [View.canon_unit_zero PreIdeal.offset_zero, View.readCov_unit_zero (S := S512x512) _ PreIdeal.offset_zero]
  unfold Gen.k0_pay3
  simp only [View.readAt_eq_ld, h1.read_unread, h2.read_unread, h4.read_unread, View.ld_unit_zero (S := S512x5504) PreIdeal.offset_zero,
    View.ld_unit_zero (S := S512x512) PreIdeal.offset_zero, shapeCast_self]

end stores

/-- A block's product over half of the inner axis. -/
theorem block_at (a b : FVec Ideal S512x5504 .bf16) (r k : Fin 512) : Gen.k0_pay1 (F := Ideal) a b (ix2 r k) = Inputs.entryT a b r k := by
  unfold Gen.k0_pay1 Inputs.entryT
  pointwise

theorem at_start : ∀ t : Fin cfg0.N, win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = t.val / 8 ∧ win0_2.index t (1 : Fin 2) = t.val / 2 % 4 :=
  (by decide +kernel : ∀ t : Fin grid0.N, win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = t.val / 8 ∧ win0_2.index t (1 : Fin 2) = t.val / 2 % 4)

/-- Place `k` of group `q`, of four groups of 512. -/
def at512 (q : ℕ) (hq : q < 4) (k : Fin 512) : Fin 2048 := ⟨512 * q + k.val, by omega⟩

/-- Place `j` of half `q` of the inner axis. -/
def half (q : ℕ) (hq : q < 2) (j : Fin 5504) : Fin 11008 := ⟨q * 5504 + j.val, by omega⟩

theorem left_at (a : FVec Ideal S2048x11008 .bf16) (t : Fin cfg0.N) (q : ℕ) (hq : q < 4) (p : ℕ) (hp : p < 2) (eq : t.val / 8 = q) (ep : t.val % 2 = p)
    (r : Fin 512) (j : Fin 5504) : ((cfg0.win 0).blk t).view.read (Elt Ideal) a (ix2 r j) = a (ix2 (at512 q hq r) (half p hp j)) := by
  obtain ⟨p0, q0, p1, q1, p2, q2⟩ := at_start t
  refine congrArg a (Inputs.at_ix2 ?_ ?_)
  · show win0_0.index t (0 : Fin 2) * 512 + 1 * r.val = 512 * q + r.val; omega
  · show win0_0.index t (1 : Fin 2) * 5504 + 1 * j.val = p * 5504 + j.val; rw [q0, ep]; omega

theorem right_at (b : FVec Ideal S2048x11008 .bf16) (t : Fin cfg0.N) (q : ℕ) (hq : q < 4) (p : ℕ) (hp : p < 2) (eq : t.val / 2 % 4 = q) (ep : t.val % 2 = p)
    (k : Fin 512) (j : Fin 5504) : ((cfg0.win 1).blk t).view.read (Elt Ideal) b (ix2 k j) = b (ix2 (at512 q hq k) (half p hp j)) := by
  obtain ⟨p0, q0, p1, q1, p2, q2⟩ := at_start t
  refine congrArg b (Inputs.at_ix2 ?_ ?_)
  · show win0_1.index t (0 : Fin 2) * 512 + 1 * k.val = 512 * q + k.val; rw [p1, eq]; omega
  · show win0_1.index t (1 : Fin 2) * 5504 + 1 * j.val = p * 5504 + j.val; rw [q1, ep]; omega

theorem out_at (o : FVec Ideal S2048x2048 .f32) (t : Fin cfg0.N) (q : ℕ) (hq : q < 4) (u : ℕ) (hu : u < 4) (eq : t.val / 8 = q) (eu : t.val / 2 % 4 = u)
    (r k : Fin 512) : ((cfg0.win 2).blk t).view.read (Elt Ideal) o (ix2 r k) = o (ix2 (at512 q hq r) (at512 u hu k)) := by
  obtain ⟨p0, q0, p1, q1, p2, q2⟩ := at_start t
  refine congrArg o (Inputs.at_ix2 ?_ ?_)
  · show win0_2.index t (0 : Fin 2) * 512 + 1 * r.val = 512 * q + r.val; omega
  · show win0_2.index t (1 : Fin 2) * 512 + 1 * k.val = 512 * u + k.val; rw [q2, eu]; omega

/-- The terms of half `p`. -/
def part (a b : FVec Ideal S2048x11008 .bf16) (p : ℕ) (hp : p < 2) (r k : Fin 2048) : EReal := ∑ j : Fin 5504, a (ix2 r (half p hp j)) * b (ix2 k (half p hp j))

/-- The two halves make the whole sum. -/
theorem halves (a b : FVec Ideal S2048x11008 .bf16) (r k : Fin 2048) : part a b 0 (by omega) r k + part a b 1 (by omega) r k = Inputs.entryT a b r k := by
  unfold Inputs.entryT
  rw [Fin.sum_univ_tiles 2 5504 rfl, Fin.sum_univ_two]
  rfl

section leaves

variable (m : (ℓ : Loc nD τ sig) → Buf (Elt Ideal) ℓ) (c : Dev nD)

/-- A half's product, from the blocks that its point reads. -/
theorem point_at (t : Fin cfg0.N) (q : ℕ) (hq : q < 4) (u : ℕ) (hu : u < 4) (p : ℕ) (hp : p < 2) (eq : t.val / 8 = q) (eu : t.val / 2 % 4 = u) (ep : t.val % 2 = p) (r k : Fin 512) :
    Gen.k0_pay1 (F := Ideal) (Gen.iblk m c 0 t) (Gen.iblk m c 1 t) (ix2 r k)
      = part (m ((c.tc : Thread nD τ).loc main_arg0)) (m ((c.tc : Thread nD τ).loc main_arg1)) p hp (at512 q hq r) (at512 u hu k) :=
  (block_at _ _ r k).trans (Finset.sum_congr rfl fun j _ => congrArg₂ (fun x y : EReal => x * y) (left_at _ t q hq p hp eq ep r j) (right_at _ t u hu p hp eu ep k j))

/-- What a block's first point keeps. -/
theorem kept (t : Fin cfg0.N) (ht : t.val % 2 = 0) : (Gen.outsAt0 m c t.val t.isLt).2 = Gen.k0_pay1 (F := Ideal) (Gen.iblk m c 0 t) (Gen.iblk m c 1 t) := by
  rw [Gen.outsAt0_A m c t ht (by omega) (by omega)]
  dsimp only
  rw [keeps]

/-- What its second point writes back. -/
theorem written (t : Fin cfg0.N) (s : Fin cfg0.N) (hs : t.val - 1 = s.val) (ht : t.val % 2 = 1) :
    (Gen.dats m 0 c).flushed 2 t = addf (Gen.k0_pay1 (F := Ideal) (Gen.iblk m c 0 s) (Gen.iblk m c 1 s)) (Gen.k0_pay1 (F := Ideal) (Gen.iblk m c 0 t) (Gen.iblk m c 1 t)) := by
  have e : ∀ (n : ℕ) (hn : n < cfg0.N), n = s.val → (Gen.outsAt0 m c n hn).2 = Gen.k0_pay1 (F := Ideal) (Gen.iblk m c 0 s) (Gen.iblk m c 1 s) := fun n hn h => by
    subst h
    exact kept m c s (by omega)
  rw [Value.flushed2_B m c t (by omega) ht ht, stores, e _ _ hs]
  rfl

/-- What the call leaves: every entry of the product. -/
theorem leaves : (Gen.dats m 0 c).arrAt 2 cfg0.N
    = fun i : S2048x2048.Idx => Inputs.entryT (m ((c.tc : Thread nD τ).loc main_arg0)) (m ((c.tc : Thread nD τ).loc main_arg1)) (i 0) (i 1) := by
  refine Inputs.by_columns 512 (by omega) _ _ fun u k hk R => ?_
  have hN : cfg0.N = 32 := Gen.N_0
  have hR : R.val < 2048 := R.isLt
  have hu : u < 4 := by omega
  have hq : R.val / 512 < 4 := by omega
  let r : Fin 512 := ⟨R.val % 512, Nat.mod_lt _ (by omega)⟩
  have er : at512 (R.val / 512) hq r = R := Fin.ext (Nat.div_add_mod _ _)
  let s : Fin cfg0.N := ⟨2 * (4 * (R.val / 512) + u), by omega⟩
  let t : Fin cfg0.N := ⟨2 * (4 * (R.val / 512) + u) + 1, by omega⟩
  have ht : t.val % 2 = 1 := by show (2 * (4 * (R.val / 512) + u) + 1) % 2 = 1; omega
  have tq : t.val / 8 = R.val / 512 := by show (2 * (4 * (R.val / 512) + u) + 1) / 8 = _; omega
  have tu : t.val / 2 % 4 = u := by show (2 * (4 * (R.val / 512) + u) + 1) / 2 % 4 = u; omega
  have sp : s.val % 2 = 0 := by show (2 * (4 * (R.val / 512) + u)) % 2 = 0; omega
  have sq : s.val / 8 = R.val / 512 := by show (2 * (4 * (R.val / 512) + u)) / 8 = _; omega
  have su : s.val / 2 % 4 = u := by show (2 * (4 * (R.val / 512) + u)) / 2 % 4 = u; omega
  have e := (congrArg (((cfg0.win 2).blk t).view.read (Elt Ideal)) (Value.final2 m c)).trans (Value.flushed2_eq m c t ((Gen.flush0_2 t).mpr ht)).symm
  have e' := congrFun (e.trans (written m c t s rfl ht)) (ix2 r k)
  have ec : (⟨512 * u + k.val, hk⟩ : Fin 2048) = at512 u hu k := rfl
  rw [ec]
  refine (congrArg (fun x => (Gen.dats m 0 c).arrAt 2 cfg0.N (ix2 x (at512 u hu k))) er.symm).trans ((out_at _ t _ hq u hu tq tu r k).symm.trans (e'.trans ?_))
  refine (congrArg₂ (fun x y : EReal => x + y) (point_at m c s _ hq u hu 0 (by omega) sq su sp r k) (point_at m c t _ hq u hu 1 (by omega) tq tu ht r k)).trans ?_
  rw [er]
  exact halves _ _ R (at512 u hu k)

end leaves

end Cert.InDxIdeal

namespace Cert.InDxRefIdeal

open Idealize.ShloMosaic Idealize.ShloMosaic.TcCoe Idealize.ShloMosaic.Tactic
open Cert.InDxRefIdeal.Gen

/-- The reference, entry by entry. -/
theorem entries (A B : FVec Ideal S2048x11008 .bf16) : (Host.dotGeneral dot_S2048x11008_S11008x2048_S2048x2048_1_0_0_1_n_n none (extf .f32 A bitsLt_bf16_f32) (transpose S11008x2048 [1, 0] (extf .f32 B bitsLt_bf16_f32) transposes_S2048x11008_S11008x2048_1_0) : FVec Ideal S2048x2048 .f32)
    = fun i => Inputs.entryT A B (i 0) (i 1) := by
  funext i
  obtain ⟨r, k, rfl⟩ : ∃ (r k : Fin 2048), i = ix2 r k := ⟨i 0, i 1, Inputs.at_ix2 rfl rfl⟩
  show _ = Inputs.entryT A B r k
  unfold Inputs.entryT
  pointwise

end Cert.InDxRefIdeal

namespace Cert.Proof

open Idealize.ShloMosaic Idealize.ShloMosaic.TcCoe Idealize.SL.Sem

theorem frame_in_dx : Cert.quiescent_InDx := fun m ρ _ => Cert.InDx.Gen.frame m ρ

theorem frame_in_dxIdeal : Cert.quiescent_InDxIdeal := fun m ρ _ => Cert.InDxIdeal.Gen.frame m ρ

theorem frame_in_dxRefIdeal : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- The device ends with every entry of the product. -/
theorem algebraic_in_dx : Cert.algebraic_InDxIdeal_InDxRefIdeal := fun m ρ m' ρ' _ h => by
  refine ⟨_, ?_, Cert.InDxRefIdeal.Value.run (F := Ideal) m' ρ'⟩
  refine (θ_run Cert.InDxIdeal.defs _ _).mono (fun _ hr c => ⟨(hr c).1.trans ?_, (hr c).2⟩)
    (Cert.InDxIdeal.Value.run_blocks (F := Ideal) m ρ)
  rw [Cert.InDxIdeal.leaves, (h c).1, (h c).2]
  exact (Cert.InDxRefIdeal.entries _ _).symm

end Cert.Proof

end
-- ==== Proof.Shift.lean ====
/-
  The token shift and its gradient, on one device.
-/
module

public import proofs.«01_k».proof.Defs
public import proofs.«01_k».proof.Proof.Pre
public import proofs.«01_k».proof.Proof.Gen.Shift.Frame
public import proofs.«01_k».proof.Proof.Gen.ShiftIdeal.Value
public import proofs.«01_k».proof.Proof.Gen.ShiftRefIdeal.Run
public import proofs.«01_k».proof.Proof.Gen.ShiftBack.Frame
public import proofs.«01_k».proof.Proof.Gen.ShiftBackIdeal.Value
public import proofs.«01_k».proof.Proof.Gen.ShiftBackRefIdeal.Run
public import Idealize.ShloMosaic.Lib.Pointwise

@[expose] public section

noncomputable section

namespace Cert.ShiftIdeal

open Idealize.ShloMosaic Idealize.ShloMosaic.TcCoe Idealize.ShloMosaic.Tactic
open Idealize.SL.Sem

/-- A column's entry before row `r`, and nothing before the first. -/
def before (x : Fin 2048 → EReal) (r : Fin 2048) : EReal := if r.val = 0 then 0 else x ⟨r.val - 1, by omega⟩

/-- A column's entry after row `r`, and nothing after the last. -/
def after (x : Fin 2048 → EReal) (r : Fin 2048) : EReal := if h : r.val = 2047 then 0 else x ⟨r.val + 1, by omega⟩

/-- One half. -/
def half : EReal := Ideal.ofBits .f32 0x3F000000#32

/-- How far the mean of a row's two neighbours lies from the row. -/
def step (x : Fin 2048 → EReal) (r : Fin 2048) : EReal := half * (before x r + after x r) - x r

/-- The shift of a column, by its weight. -/
def mixed (x : Fin 2048 → EReal) (w : EReal) (r : Fin 2048) : EReal := x r + w * step x r

/-- A choice by row number. -/
theorem choose_row (r : Fin 2048) (n : Nat) (hn : n < 2048) (a b : EReal) :
    Scalar.select (IntOp.cmpi CmpIPredicate.eq (BitVec.ofNat 32 r.val) (BitVec.ofNat 32 n)) a b = if r.val = n then a else b := by
  have e : (BitVec.ofNat 32 r.val == BitVec.ofNat 32 n) = decide (r.val = n) := by
    rw [beq_eq_decide, decide_eq_decide]
    refine ⟨fun h => ?_, fun h => by rw [h]⟩
    have := congrArg BitVec.toNat h
    rw [BitVec.toNat_ofNat, BitVec.toNat_ofNat, Nat.mod_eq_of_lt (by omega), Nat.mod_eq_of_lt (by omega)] at this
    exact this
  unfold Scalar.select IntOp.cmpi
  simp only [e]
  by_cases h : r.val = n
  · rw [if_pos h, decide_eq_true h]; exact if_pos rfl
  · rw [if_neg h, decide_eq_false h]; exact if_neg (by decide)

/-- Rotated by some rows, one row cleared. -/
theorem rotate_at (n c : BitVec 32) (x : FVec Ideal S2048x256 .f32) (r : Fin 2048) (k : Fin 256) :
    (select (cmpi .eq (iota .tc S2048x256 32 [0] Gen.iota_S2048x256_d0_w32) (broadcast S2048x256 c)) (broadcast S2048x256 (Scalar.ofBits .f32 0x00000000#32)) (dynamicRotate 0 n none x Gen.rotates_S2048x256_d0) : FVec Ideal S2048x256 .f32) (ix2 r k)
      = Scalar.select (IntOp.cmpi CmpIPredicate.eq (BitVec.ofNat 32 r.val) c) (0 : EReal) (x (ix2 ⟨(r.val + 2048 - n.toNat % 2048) % 2048, Nat.mod_lt _ (by decide)⟩ k)) := by
  pointwise

/-- Rotated down by a row, the first row cleared: the entry before. -/
theorem before_at (x : FVec Ideal S2048x256 .f32) (r : Fin 2048) (k : Fin 256) :
    (select (cmpi .eq (iota .tc S2048x256 32 [0] Gen.iota_S2048x256_d0_w32) (broadcast S2048x256 0#32)) (broadcast S2048x256 (Scalar.ofBits .f32 0x00000000#32)) (dynamicRotate 0 1#32 none x Gen.rotates_S2048x256_d0) : FVec Ideal S2048x256 .f32) (ix2 r k)
      = before (fun i => x (ix2 i k)) r := by
  rw [rotate_at, choose_row r 0 (by decide)]
  unfold before
  by_cases h : r.val = 0
  · rw [if_pos h, if_pos h]
  · rw [if_neg h, if_neg h]
    exact congrArg (fun i => x (ix2 i k)) (Fin.ext (by show (r.val + 2048 - 1) % 2048 = r.val - 1; omega))

/-- Rotated up by a row, the last row cleared: the entry after. -/
theorem after_at (x : FVec Ideal S2048x256 .f32) (r : Fin 2048) (k : Fin 256) :
    (select (cmpi .eq (iota .tc S2048x256 32 [0] Gen.iota_S2048x256_d0_w32) (broadcast S2048x256 2047#32)) (broadcast S2048x256 (Scalar.ofBits .f32 0x00000000#32)) (dynamicRotate 0 2047#32 none x Gen.rotates_S2048x256_d0) : FVec Ideal S2048x256 .f32) (ix2 r k)
      = after (fun i => x (ix2 i k)) r := by
  rw [rotate_at, choose_row r 2047 (by decide)]
  unfold after
  by_cases h : r.val = 2047
  · rw [if_pos h, dif_pos h]
  · rw [if_neg h, dif_neg h]
    exact congrArg (fun i => x (ix2 i k)) (Fin.ext (by show (r.val + 2048 - 2047) % 2048 = r.val + 1; omega))

/-- A block, over what its rotations hold. -/
theorem mixed_at (x p q : FVec Ideal S2048x256 .f32) (w : FVec Ideal S1x256 .f32) (r : Fin 2048) (k : Fin 256) :
    (addf x (mulf (broadcastTo S2048x256 w Gen.broadcasts_S1x256_S2048x256) (subf (mulf (broadcast S2048x256 (Scalar.ofBits .f32 0x3F000000#32)) (addf p q)) x)) : FVec Ideal S2048x256 .f32) (ix2 r k)
      = x (ix2 r k) + w (ix2 0 k) * (half * (p (ix2 r k) + q (ix2 r k)) - x (ix2 r k)) := by
  unfold half
  pointwise

theorem block_at (x : FVec Ideal S2048x256 .f32) (w : FVec Ideal S1x256 .f32) (r : Fin 2048) (k : Fin 256) :
    Gen.k0_pay1 (F := Ideal) x w (ix2 r k) = mixed (fun i => x (ix2 i k)) (w (ix2 0 k)) r := by
  refine (mixed_at x _ _ w r k).trans ?_
  rw [before_at, after_at]
  rfl

theorem stores (x : FVec Ideal S2048x256 .f32) (w : FVec Ideal S1x256 .f32) : Gen.out0_2 (F := Ideal) x w = Gen.k0_pay1 (F := Ideal) x w := by
  unfold Gen.out0_2
  rw [View.canon_unit_zero PreIdeal.offset_zero, View.ld_unit_zero (S := S2048x256) PreIdeal.offset_zero, View.ld_unit_zero (S := S1x256) PreIdeal.offset_zero]

theorem points (t : Fin cfg0.N) : t.val < 14 := Nat.lt_of_lt_of_eq t.isLt Gen.N_0

/-- Block `t`'s column `k`, among the shifted columns. -/
def col (t : Fin 14) (k : Fin 256) : Fin 3584 := ⟨256 * t.val + k.val, by omega⟩

/-- Where a shifted column stands in the input. -/
def source (k : Fin 3584) : Fin 11008 := if k.val < 3072 then ⟨1024 + k.val, by omega⟩ else ⟨7168 + k.val, by omega⟩

theorem source_col (t : Fin 14) (k : Fin 256) : (source (col t k)).val = 256 * (if t.val < 12 then 4 + t.val else 28 + t.val) + k.val := by
  unfold source col
  by_cases h : t.val < 12
  · rw [if_pos h, if_pos (by show 256 * t.val + k.val < 3072; omega)]; show 1024 + (256 * t.val + k.val) = _; omega
  · rw [if_neg h, if_neg (by show ¬ 256 * t.val + k.val < 3072; omega)]; show 7168 + (256 * t.val + k.val) = _; omega

theorem at_start : ∀ t : Fin cfg0.N, win0_0.index t (0 : Fin 2) = 0 ∧ win0_0.index t (1 : Fin 2) = (if t.val < 12 then 4 + t.val else 28 + t.val)
    ∧ win0_1.index t (0 : Fin 2) = 0 ∧ win0_1.index t (1 : Fin 2) = t.val ∧ win0_2.index t (0 : Fin 2) = 0 ∧ win0_2.index t (1 : Fin 2) = t.val :=
  (by decide +kernel : ∀ t : Fin grid0.N, win0_0.index t (0 : Fin 2) = 0 ∧ win0_0.index t (1 : Fin 2) = (if t.val < 12 then 4 + t.val else 28 + t.val)
    ∧ win0_1.index t (0 : Fin 2) = 0 ∧ win0_1.index t (1 : Fin 2) = t.val ∧ win0_2.index t (0 : Fin 2) = 0 ∧ win0_2.index t (1 : Fin 2) = t.val)

theorem read0 (a : FVec Ideal S2048x11008 .f32) (t : Fin cfg0.N) (r : Fin 2048) (k : Fin 256) :
    ((cfg0.win 0).blk t).view.read (Elt Ideal) a (ix2 r k) = a (ix2 r (source (col ⟨t.val, points t⟩ k))) := by
  obtain ⟨p0, q0, p1, q1, p2, q2⟩ := at_start t
  refine congrArg a (funext fun x => Fin.ext ?_)
  match x with
  | ⟨0, _⟩ => show win0_0.index t (0 : Fin 2) * 2048 + 1 * r.val = r.val; omega
  | ⟨1, _⟩ =>
    show win0_0.index t (1 : Fin 2) * 256 + 1 * k.val = (source (col ⟨t.val, points t⟩ k)).val
    rw [source_col, q0]
    show (if t.val < 12 then 4 + t.val else 28 + t.val) * 256 + 1 * k.val = 256 * (if t.val < 12 then 4 + t.val else 28 + t.val) + k.val
    omega

theorem read1 (a : FVec Ideal S1x3584 .f32) (t : Fin cfg0.N) (k : Fin 256) :
    ((cfg0.win 1).blk t).view.read (Elt Ideal) a (ix2 0 k) = a (ix2 0 (col ⟨t.val, points t⟩ k)) := by
  obtain ⟨p0, q0, p1, q1, p2, q2⟩ := at_start t
  refine congrArg a (funext fun x => Fin.ext ?_)
  match x with
  | ⟨0, _⟩ => show win0_1.index t (0 : Fin 2) * 1 + 1 * 0 = 0; omega
  | ⟨1, _⟩ => show win0_1.index t (1 : Fin 2) * 256 + 1 * k.val = 256 * t.val + k.val; omega

theorem read2 (o : FVec Ideal S2048x3584 .f32) (t : Fin cfg0.N) (r : Fin 2048) (k : Fin 256) :
    ((cfg0.win 2).blk t).view.read (Elt Ideal) o (ix2 r k) = o (ix2 r (col ⟨t.val, points t⟩ k)) := by
  obtain ⟨p0, q0, p1, q1, p2, q2⟩ := at_start t
  refine congrArg o (funext fun x => Fin.ext ?_)
  match x with
  | ⟨0, _⟩ => show win0_2.index t (0 : Fin 2) * 2048 + 1 * r.val = r.val; omega
  | ⟨1, _⟩ => show win0_2.index t (1 : Fin 2) * 256 + 1 * k.val = 256 * t.val + k.val; omega

/-- An entry of the shift. -/
def entry (x : FVec Ideal S2048x11008 .f32) (w : FVec Ideal S1x3584 .f32) (r : Fin 2048) (k : Fin 3584) : EReal :=
  mixed (fun i => x (ix2 i (source k))) (w (ix2 0 k)) r

/-- What the call leaves: every entry of the shift. -/
theorem leaves (m : (ℓ : Loc nD τ sig) → Buf (Elt Ideal) ℓ) (c : Dev nD) : (Gen.dats m 0 c).arrAt 2 cfg0.N
    = fun i : S2048x3584.Idx => entry (m ((c.tc : Thread nD τ).loc main_arg0)) (m ((c.tc : Thread nD τ).loc main_arg1)) (i 0) (i 1) := by
  funext i
  have hN : cfg0.N = 14 := Gen.N_0
  have hi : (i 1).val < 3584 := (i 1).isLt
  let t : Fin cfg0.N := ⟨(i 1).val / 256, by omega⟩
  let k : Fin 256 := ⟨(i 1).val % 256, Nat.mod_lt _ (by omega)⟩
  have hk : col ⟨t.val, points t⟩ k = i 1 := Fin.ext (Nat.div_add_mod _ _)
  have ei : ix2 (i 0) (col ⟨t.val, points t⟩ k) = i := by rw [hk]; exact funext fun x => by fin_cases x <;> rfl
  have e0 : ∀ r, Gen.iblk m c 0 t (ix2 r k) = m ((c.tc : Thread nD τ).loc main_arg0) (ix2 r (source (i 1))) := fun r => by
    rw [← hk]; exact read0 _ t r k
  have e1 : Gen.iblk m c 1 t (ix2 0 k) = m ((c.tc : Thread nD τ).loc main_arg1) (ix2 0 (i 1)) := by
    rw [← hk]; exact read1 _ t k
  have e := congrFun ((Value.blocks2 m c t (Gen.flush0_2 t)).trans (Value.flushed2 m c t)) (ix2 (i 0) k)
  refine Eq.trans (congrArg _ ei.symm) ((read2 _ t (i 0) k).symm.trans (e.trans ?_))
  rw [stores]
  refine (block_at _ _ (i 0) k).trans ?_
  unfold entry
  simp only [e0, e1]

end Cert.ShiftIdeal

namespace Cert.ShiftRefIdeal

open Idealize.ShloMosaic Idealize.ShloMosaic.TcCoe Idealize.ShloMosaic.Tactic
open Cert.ShiftRefIdeal.Gen Cert.ShiftIdeal

/-- The shifted columns, side by side. -/
theorem columns_at (x : FVec Ideal S2048x11008 .f32) (r : Fin 2048) (k : Fin 3584) :
    (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1 : FVec Ideal S2048x3584 .f32) (ix2 r k) = x (ix2 r (source k)) := by
  pointwise
  unfold source
  by_cases h : k.val < 3072
  · rw [dif_pos h, if_pos h]
  · rw [dif_neg h, if_neg h]
    exact congrArg (fun j => x (ix2 r j)) (Fin.ext (by show 10240 + (k.val - 3072) = 7168 + k.val; omega))

theorem nothing : (FloatOps.sitofp (F := Ideal) FTy.f32 (0#32) : EReal) = 0 := by
  show (((0#32 : BitVec 32).toInt : ℝ) : EReal) = 0
  simp

theorem before_at (x : FVec Ideal S2048x3584 .f32) (r : Fin 2048) (k : Fin 3584) : (extractStridedSlice S2048x3584 ![0, 0] (pad S2050x3584 ![1, 0] ![1, 0] ![0, 0] x (sitofp .f32 (constantI S_ 32 0#32)) pads_S2048x3584_S2050x3584_110_000 h_S_) slices_S2050x3584_S2048x3584_0_0 : FVec Ideal S2048x3584 .f32) (ix2 r k)
    = before (fun i => x (ix2 i k)) r := by
  pointwise
  unfold before
  by_cases h : r.val = 0
  · rw [if_pos h, dif_neg (by omega)]; exact nothing
  · rw [if_neg h, dif_pos (by omega)]

theorem after_at (x : FVec Ideal S2048x3584 .f32) (r : Fin 2048) (k : Fin 3584) : (extractStridedSlice S2048x3584 ![2, 0] (pad S2050x3584 ![1, 0] ![1, 0] ![0, 0] x (sitofp .f32 (constantI S_ 32 0#32)) pads_S2048x3584_S2050x3584_110_000 h_S_) slices_S2050x3584_S2048x3584_2_0 : FVec Ideal S2048x3584 .f32) (ix2 r k)
    = after (fun i => x (ix2 i k)) r := by
  pointwise
  unfold after
  by_cases h : r.val = 2047
  · rw [dif_pos h, dif_neg (by omega)]; exact nothing
  · rw [dif_neg h, dif_pos (by omega)]
    exact congrArg (fun j => x (ix2 j k)) (Fin.ext (by show 2 + r.val - 1 = r.val + 1; omega))

theorem mixed_at (x p q : FVec Ideal S2048x3584 .f32) (w : FVec Ideal S1x3584 .f32) (r : Fin 2048) (k : Fin 3584) :
    (addf x (mulf (broadcastInDim S2048x3584 ![0, 1] bcast_S1x3584_S2048x3584_0_1 w) (subf (mulf (broadcastInDim S2048x3584 ![] bcast_S_S2048x3584 (constant S_ .f32 0x3F000000#32)) (addf p q)) x)) : FVec Ideal S2048x3584 .f32) (ix2 r k)
      = x (ix2 r k) + w (ix2 0 k) * (half * (p (ix2 r k) + q (ix2 r k)) - x (ix2 r k)) := by
  unfold half
  pointwise

/-- The reference, entry by entry. -/
theorem entries (x : FVec Ideal S2048x11008 .f32) (w : FVec Ideal S1x3584 .f32) : (addf (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1) (mulf (broadcastInDim S2048x3584 ![0, 1] bcast_S1x3584_S2048x3584_0_1 w) (subf (mulf (broadcastInDim S2048x3584 ![] bcast_S_S2048x3584 (constant S_ .f32 0x3F000000#32)) (addf (extractStridedSlice S2048x3584 ![0, 0] (pad S2050x3584 ![1, 0] ![1, 0] ![0, 0] (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1) (sitofp .f32 (constantI S_ 32 0#32)) pads_S2048x3584_S2050x3584_110_000 h_S_) slices_S2050x3584_S2048x3584_0_0) (extractStridedSlice S2048x3584 ![2, 0] (pad S2050x3584 ![1, 0] ![1, 0] ![0, 0] (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1) (sitofp .f32 (constantI S_ 32 0#32)) pads_S2048x3584_S2050x3584_110_000 h_S_) slices_S2050x3584_S2048x3584_2_0))) (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1))) : FVec Ideal S2048x3584 .f32)
    = fun i : S2048x3584.Idx => entry x w (i 0) (i 1) := by
  funext i
  obtain ⟨r, k, rfl⟩ : ∃ (r : Fin 2048) (k : Fin 3584), i = ix2 r k := ⟨i 0, i 1, funext fun a => by fin_cases a <;> rfl⟩
  show _ = entry x w r k
  refine (mixed_at _ _ _ _ r k).trans ?_
  rw [before_at, after_at]
  unfold entry mixed step
  simp only [columns_at]

end Cert.ShiftRefIdeal

namespace Cert.Proof

open Idealize.ShloMosaic Idealize.ShloMosaic.TcCoe Idealize.SL.Sem

/-- The call at bits runs, keeps its arguments, and leaves every semaphore at zero. -/
theorem frame_shift : Cert.quiescent_Shift := fun m ρ _ => Cert.Shift.Gen.frame m ρ

/-- The same at the ideal values. -/
theorem frame_shiftIdeal : Cert.quiescent_ShiftIdeal := fun m ρ _ => Cert.ShiftIdeal.Gen.frame m ρ

/-- The plain shift runs and keeps its arguments. -/
theorem frame_shiftRefIdeal : Cert.quiescent_ShiftRefIdeal := fun m ρ _ =>
  (θ_run Cert.ShiftRefIdeal.defs _ _).mono (fun r h => ⟨fun c => (h c).2, sem_eq_zero_of_no_sems (by decide) r.2⟩)
    (Cert.ShiftRefIdeal.Value.run (F := Ideal) m ρ)

/-- The device ends with every entry of the shift. -/
theorem algebraic_shift : Cert.algebraic_ShiftIdeal_ShiftRefIdeal := fun m ρ m' ρ' _ h => by
  refine ⟨_, ?_, Cert.ShiftRefIdeal.Value.run (F := Ideal) m' ρ'⟩
  refine (θ_run Cert.ShiftIdeal.defs _ _).mono (fun _ hr c => ⟨(hr c).1.trans ?_, (hr c).2⟩)
    (Cert.ShiftIdeal.Value.run_blocks (F := Ideal) m ρ)
  rw [Cert.ShiftIdeal.leaves]
  refine Eq.trans ?_ (Cert.ShiftRefIdeal.entries _ _).symm
  rw [(h c).1, (h c).2]

end Cert.Proof

namespace Cert.ShiftBackIdeal

open Idealize.ShloMosaic Idealize.ShloMosaic.TcCoe Idealize.ShloMosaic.Tactic
open Idealize.SL.Sem
open Cert.ShiftIdeal (before after half step col source source_col)

/-- A column's gradient through its shift: what the row keeps, and half of what each neighbour passes to it. -/
def carried (g : Fin 2048 → EReal) (w : EReal) (r : Fin 2048) : EReal :=
  (g r - g r * w) + half * (before (fun i => g i * w) r + after (fun i => g i * w) r)

/-- The gradient of a column's weight. -/
def pull (x g : Fin 2048 → EReal) : EReal := ∑ r : Fin 2048, g r * step x r

theorem half_eq : half = ((1 / 2 : ℝ) : EReal) := by
  unfold half
  simp [Ideal.ofBits, Ideal.ieee, -EReal.coe_mul]; norm_num

theorem half_before (x : Fin 2048 → EReal) (r : Fin 2048) : half * before x r = before (fun i => half * x i) r := by
  unfold before
  by_cases h : r.val = 0
  · rw [if_pos h, if_pos h, mul_zero]
  · rw [if_neg h, if_neg h]

theorem half_after (x : Fin 2048 → EReal) (r : Fin 2048) : half * after x r = after (fun i => half * x i) r := by
  unfold after
  by_cases h : r.val = 2047
  · rw [dif_pos h, dif_pos h, mul_zero]
  · rw [dif_neg h, dif_neg h]

/-- The halves taken before the rows are passed on, and the terms added one after another. -/
theorem carried_eq (g : Fin 2048 → EReal) (w : EReal) (r : Fin 2048) :
    carried g w r = ((g r + -(w * g r)) + before (fun i => half * (w * g i)) r) + after (fun i => half * (w * g i)) r := by
  unfold carried
  have h0 : (0 : EReal) ≤ half := by rw [half_eq]; exact EReal.coe_nonneg.mpr (by norm_num)
  have ht : half ≠ ⊤ := by rw [half_eq]; exact EReal.coe_ne_top _
  rw [EReal.left_distrib_of_nonneg_of_ne_top h0 ht, half_before, half_after, ← add_assoc, sub_eq_add_neg]
  simp only [mul_comm _ w]

theorem kept_at (g p q : FVec Ideal S2048x256 .f32) (w : FVec Ideal S1x256 .f32) (r : Fin 2048) (k : Fin 256) :
    (truncf .bf16 (addf (subf g (mulf g (broadcastTo S2048x256 w Gen.broadcasts_S1x256_S2048x256))) (mulf (broadcast S2048x256 (Scalar.ofBits .f32 0x3F000000#32)) (addf p q))) Gen.bitsLt_bf16_f32 : FVec Ideal S2048x256 .bf16) (ix2 r k)
      = (g (ix2 r k) - g (ix2 r k) * w (ix2 0 k)) + half * (p (ix2 r k) + q (ix2 r k)) := by
  unfold half
  pointwise

theorem weighted_at (g : FVec Ideal S2048x256 .f32) (w : FVec Ideal S1x256 .f32) (r : Fin 2048) (k : Fin 256) :
    Gen.k0_pay3 (F := Ideal) g w (ix2 r k) = g (ix2 r k) * w (ix2 0 k) := by
  unfold Gen.k0_pay3
  pointwise

/-- A block of the first result. -/
theorem carried_at (g : FVec Ideal S2048x256 .f32) (w : FVec Ideal S1x256 .f32) (r : Fin 2048) (k : Fin 256) :
    Gen.k0_pay1 (F := Ideal) (Gen.k0_pay4 g w) (Gen.k0_pay5 g w) (Gen.k0_pay6 g w) (ix2 r k) = carried (fun i => g (ix2 i k)) (w (ix2 0 k)) r := by
  refine (kept_at g _ _ w r k).trans ?_
  unfold carried
  refine congrArg (_ + half * ·) (congrArg₂ (· + ·) ?_ ?_)
  · refine (ShiftIdeal.before_at (Gen.k0_pay3 (F := Ideal) g w) r k).trans ?_
    simp only [weighted_at]
  · refine (ShiftIdeal.after_at (Gen.k0_pay3 (F := Ideal) g w) r k).trans ?_
    simp only [weighted_at]

theorem sum_at (x g p q : FVec Ideal S2048x256 .f32) (k : Fin 256) :
    (shapeCast S1x256 (multiReduction .add [0] S256 (mulf g (subf (mulf (broadcast S2048x256 (Scalar.ofBits .f32 0x3F000000#32)) (addf p q)) x)) 0x00000000#32 Gen.reduces_S2048x256_S256 (.inl rfl) rfl) Gen.shapeCasts_S256_S1x256 : FVec Ideal S1x256 .f32) (ix2 0 k)
      = ∑ r : Fin 2048, g (ix2 r k) * (half * (p (ix2 r k) + q (ix2 r k)) - x (ix2 r k)) := by
  unfold half
  pointwise

/-- A block of the second. -/
theorem pull_at (x g : FVec Ideal S2048x256 .f32) (k : Fin 256) :
    Gen.k0_pay2 (F := Ideal) x g (ix2 0 k) = pull (fun i => x (ix2 i k)) fun i => g (ix2 i k) := by
  refine (sum_at x g _ _ k).trans (Finset.sum_congr rfl fun r _ => ?_)
  refine congrArg (_ * ·) (congrArg (half * · - _) (congrArg₂ (· + ·) ?_ ?_))
  · exact ShiftIdeal.before_at x r k
  · exact ShiftIdeal.after_at x r k

theorem stores3 (x g : FVec Ideal S2048x256 .f32) (w : FVec Ideal S1x256 .f32) : Gen.out0_3 (F := Ideal) x w g = Gen.k0_pay1 (F := Ideal) (Gen.k0_pay4 g w) (Gen.k0_pay5 g w) (Gen.k0_pay6 g w) := by
  unfold Gen.out0_3
  rw [View.canon_unit_zero PreIdeal.offset_zero, View.ld_unit_zero (S := S2048x256) PreIdeal.offset_zero, View.ld_unit_zero (S := S1x256) PreIdeal.offset_zero]

theorem stores4 (x g : FVec Ideal S2048x256 .f32) (w : FVec Ideal S1x256 .f32) : Gen.out0_4 (F := Ideal) x w g = Gen.k0_pay2 (F := Ideal) x g := by
  unfold Gen.out0_4
  rw [View.canon_unit_zero PreIdeal.offset_zero, View.ld_unit_zero (S := S2048x256) PreIdeal.offset_zero, View.ld_unit_zero (S := S2048x256) PreIdeal.offset_zero]

theorem points (t : Fin cfg0.N) : t.val < 14 := Nat.lt_of_lt_of_eq t.isLt Gen.N_0

theorem at_start : ∀ t : Fin cfg0.N, win0_0.index t (0 : Fin 2) = 0 ∧ win0_0.index t (1 : Fin 2) = (if t.val < 12 then 4 + t.val else 28 + t.val)
    ∧ win0_1.index t (0 : Fin 2) = 0 ∧ win0_1.index t (1 : Fin 2) = t.val ∧ win0_2.index t (0 : Fin 2) = 0 ∧ win0_2.index t (1 : Fin 2) = t.val
    ∧ win0_3.index t (0 : Fin 2) = 0 ∧ win0_3.index t (1 : Fin 2) = t.val ∧ win0_4.index t (0 : Fin 2) = 0 ∧ win0_4.index t (1 : Fin 2) = t.val :=
  (by decide +kernel : ∀ t : Fin grid0.N, win0_0.index t (0 : Fin 2) = 0 ∧ win0_0.index t (1 : Fin 2) = (if t.val < 12 then 4 + t.val else 28 + t.val)
    ∧ win0_1.index t (0 : Fin 2) = 0 ∧ win0_1.index t (1 : Fin 2) = t.val ∧ win0_2.index t (0 : Fin 2) = 0 ∧ win0_2.index t (1 : Fin 2) = t.val
    ∧ win0_3.index t (0 : Fin 2) = 0 ∧ win0_3.index t (1 : Fin 2) = t.val ∧ win0_4.index t (0 : Fin 2) = 0 ∧ win0_4.index t (1 : Fin 2) = t.val)

theorem read0 (a : FVec Ideal S2048x11008 .f32) (t : Fin cfg0.N) (r : Fin 2048) (k : Fin 256) :
    ((cfg0.win 0).blk t).view.read (Elt Ideal) a (ix2 r k) = a (ix2 r (source (col ⟨t.val, points t⟩ k))) := by
  obtain ⟨p0, q0, p1, q1, p2, q2, p3, q3, p4, q4⟩ := at_start t
  refine congrArg a (funext fun x => Fin.ext ?_)
  match x with
  | ⟨0, _⟩ => show win0_0.index t (0 : Fin 2) * 2048 + 1 * r.val = r.val; omega
  | ⟨1, _⟩ =>
    show win0_0.index t (1 : Fin 2) * 256 + 1 * k.val = (source (col ⟨t.val, points t⟩ k)).val
    rw [source_col, q0]
    show (if t.val < 12 then 4 + t.val else 28 + t.val) * 256 + 1 * k.val = 256 * (if t.val < 12 then 4 + t.val else 28 + t.val) + k.val
    omega

theorem read1 (a : FVec Ideal S1x3584 .f32) (t : Fin cfg0.N) (k : Fin 256) :
    ((cfg0.win 1).blk t).view.read (Elt Ideal) a (ix2 0 k) = a (ix2 0 (col ⟨t.val, points t⟩ k)) := by
  obtain ⟨p0, q0, p1, q1, p2, q2, p3, q3, p4, q4⟩ := at_start t
  refine congrArg a (funext fun x => Fin.ext ?_)
  match x with
  | ⟨0, _⟩ => show win0_1.index t (0 : Fin 2) * 1 + 1 * 0 = 0; omega
  | ⟨1, _⟩ => show win0_1.index t (1 : Fin 2) * 256 + 1 * k.val = 256 * t.val + k.val; omega

theorem read2 (a : FVec Ideal S2048x3584 .f32) (t : Fin cfg0.N) (r : Fin 2048) (k : Fin 256) :
    ((cfg0.win 2).blk t).view.read (Elt Ideal) a (ix2 r k) = a (ix2 r (col ⟨t.val, points t⟩ k)) := by
  obtain ⟨p0, q0, p1, q1, p2, q2, p3, q3, p4, q4⟩ := at_start t
  refine congrArg a (funext fun x => Fin.ext ?_)
  match x with
  | ⟨0, _⟩ => show win0_2.index t (0 : Fin 2) * 2048 + 1 * r.val = r.val; omega
  | ⟨1, _⟩ => show win0_2.index t (1 : Fin 2) * 256 + 1 * k.val = 256 * t.val + k.val; omega

theorem read3 (o : FVec Ideal S2048x3584 .bf16) (t : Fin cfg0.N) (r : Fin 2048) (k : Fin 256) :
    ((cfg0.win 3).blk t).view.read (Elt Ideal) o (ix2 r k) = o (ix2 r (col ⟨t.val, points t⟩ k)) := by
  obtain ⟨p0, q0, p1, q1, p2, q2, p3, q3, p4, q4⟩ := at_start t
  refine congrArg o (funext fun x => Fin.ext ?_)
  match x with
  | ⟨0, _⟩ => show win0_3.index t (0 : Fin 2) * 2048 + 1 * r.val = r.val; omega
  | ⟨1, _⟩ => show win0_3.index t (1 : Fin 2) * 256 + 1 * k.val = 256 * t.val + k.val; omega

theorem read4 (o : FVec Ideal S1x3584 .f32) (t : Fin cfg0.N) (k : Fin 256) :
    ((cfg0.win 4).blk t).view.read (Elt Ideal) o (ix2 0 k) = o (ix2 0 (col ⟨t.val, points t⟩ k)) := by
  obtain ⟨p0, q0, p1, q1, p2, q2, p3, q3, p4, q4⟩ := at_start t
  refine congrArg o (funext fun x => Fin.ext ?_)
  match x with
  | ⟨0, _⟩ => show win0_4.index t (0 : Fin 2) * 1 + 1 * 0 = 0; omega
  | ⟨1, _⟩ => show win0_4.index t (1 : Fin 2) * 256 + 1 * k.val = 256 * t.val + k.val; omega

/-- An entry of the gradient of the shifted columns. -/
def entry (w : FVec Ideal S1x3584 .f32) (g : FVec Ideal S2048x3584 .f32) (r : Fin 2048) (k : Fin 3584) : EReal :=
  carried (fun i => g (ix2 i k)) (w (ix2 0 k)) r

/-- An entry of the gradient of the weights. -/
def share (x : FVec Ideal S2048x11008 .f32) (g : FVec Ideal S2048x3584 .f32) (k : Fin 3584) : EReal :=
  pull (fun i => x (ix2 i (source k))) fun i => g (ix2 i k)

/-- What the call leaves in its first result. -/
theorem leaves3 (m : (ℓ : Loc nD τ sig) → Buf (Elt Ideal) ℓ) (c : Dev nD) : (Gen.dats m 0 c).arrAt 3 cfg0.N
    = fun i : S2048x3584.Idx => entry (m ((c.tc : Thread nD τ).loc main_arg1)) (m ((c.tc : Thread nD τ).loc main_arg2)) (i 0) (i 1) := by
  funext i
  have hN : cfg0.N = 14 := Gen.N_0
  have hi : (i 1).val < 3584 := (i 1).isLt
  let t : Fin cfg0.N := ⟨(i 1).val / 256, by omega⟩
  let k : Fin 256 := ⟨(i 1).val % 256, Nat.mod_lt _ (by omega)⟩
  have hk : col ⟨t.val, points t⟩ k = i 1 := Fin.ext (Nat.div_add_mod _ _)
  have ei : ix2 (i 0) (col ⟨t.val, points t⟩ k) = i := by rw [hk]; exact funext fun x => by fin_cases x <;> rfl
  have e1 : Gen.iblk m c 1 t (ix2 0 k) = m ((c.tc : Thread nD τ).loc main_arg1) (ix2 0 (i 1)) := by
    rw [← hk]; exact read1 _ t k
  have e2 : ∀ r, Gen.iblk m c 2 t (ix2 r k) = m ((c.tc : Thread nD τ).loc main_arg2) (ix2 r (i 1)) := fun r => by
    rw [← hk]; exact read2 _ t r k
  have e := congrFun ((Value.blocks3 m c t (Gen.flush0_3 t)).trans (Value.flushed3 m c t)) (ix2 (i 0) k)
  refine Eq.trans (congrArg _ ei.symm) ((read3 _ t (i 0) k).symm.trans (e.trans ?_))
  rw [stores3]
  refine (carried_at _ _ (i 0) k).trans ?_
  unfold entry
  simp only [e1, e2]

/-- What the call leaves in its second. -/
theorem leaves4 (m : (ℓ : Loc nD τ sig) → Buf (Elt Ideal) ℓ) (c : Dev nD) : (Gen.dats m 0 c).arrAt 4 cfg0.N
    = fun i : S1x3584.Idx => share (m ((c.tc : Thread nD τ).loc main_arg0)) (m ((c.tc : Thread nD τ).loc main_arg2)) (i 1) := by
  funext i
  have hN : cfg0.N = 14 := Gen.N_0
  have hi : (i 1).val < 3584 := (i 1).isLt
  let t : Fin cfg0.N := ⟨(i 1).val / 256, by omega⟩
  let k : Fin 256 := ⟨(i 1).val % 256, Nat.mod_lt _ (by omega)⟩
  have hk : col ⟨t.val, points t⟩ k = i 1 := Fin.ext (Nat.div_add_mod _ _)
  have h0 : (i 0).val < 1 := (i 0).isLt
  have ei : ix2 0 (col ⟨t.val, points t⟩ k) = i := by rw [hk]; exact funext fun x => Fin.ext (by fin_cases x; (show 0 = (i 0).val; omega); rfl)
  have e0 : ∀ r, Gen.iblk m c 0 t (ix2 r k) = m ((c.tc : Thread nD τ).loc main_arg0) (ix2 r (source (i 1))) := fun r => by
    rw [← hk]; exact read0 _ t r k
  have e2 : ∀ r, Gen.iblk m c 2 t (ix2 r k) = m ((c.tc : Thread nD τ).loc main_arg2) (ix2 r (i 1)) := fun r => by
    rw [← hk]; exact read2 _ t r k
  have e := congrFun ((Value.blocks4 m c t (Gen.flush0_4 t)).trans (Value.flushed4 m c t)) (ix2 0 k)
  refine Eq.trans (congrArg _ ei.symm) ((read4 _ t k).symm.trans (e.trans ?_))
  rw [stores4]
  refine (pull_at _ _ k).trans ?_
  unfold share
  simp only [e0, e2]

end Cert.ShiftBackIdeal

namespace Cert.ShiftBackRefIdeal

open Idealize.ShloMosaic Idealize.ShloMosaic.TcCoe Idealize.ShloMosaic.Tactic
open Cert.ShiftBackRefIdeal.Gen Cert.ShiftBackIdeal
open Cert.ShiftIdeal (before after half step source)

theorem passed_on (z : FVec Ideal S2048x3584 .f32) (r : Fin 2048) (k : Fin 3584) :
    (pad S2048x3584 ![1, 0] ![0, 0] ![0, 0] (extractStridedSlice S2047x3584 ![0, 0] z slices_S2048x3584_S2047x3584_0_0) (constant S_ .f32 0x00000000#32) pads_S2047x3584_S2048x3584_100_000 h_S_ : FVec Ideal S2048x3584 .f32) (ix2 r k)
      = before (fun i => z (ix2 i k)) r := by
  pointwise
  unfold before
  by_cases h : r.val = 0
  · rw [if_pos h, dif_neg (by omega)]
  · rw [if_neg h, dif_pos (by omega)]

theorem passed_back (z : FVec Ideal S2048x3584 .f32) (r : Fin 2048) (k : Fin 3584) :
    (pad S2048x3584 ![0, 0] ![1, 0] ![0, 0] (extractStridedSlice S2047x3584 ![1, 0] z slices_S2048x3584_S2047x3584_1_0) (constant S_ .f32 0x00000000#32) pads_S2047x3584_S2048x3584_010_000 h_S_ : FVec Ideal S2048x3584 .f32) (ix2 r k)
      = after (fun i => z (ix2 i k)) r := by
  pointwise
  unfold after
  by_cases h : r.val = 2047
  · rw [dif_pos h, dif_neg (by omega)]
  · rw [dif_neg h, dif_pos (by omega)]
    exact congrArg (fun j => z (ix2 j k)) (Fin.ext (by show 1 + r.val = r.val + 1; omega))

theorem before_at (x : FVec Ideal S2048x3584 .f32) (r : Fin 2048) (k : Fin 3584) :
    (concatenate S2048x3584 0 [⟨S1x3584, (broadcastInDim S1x3584 ![] bcast_S_S1x3584 (constant S_ .f32 0x00000000#32))⟩, ⟨S2047x3584, (extractStridedSlice S2047x3584 ![0, 0] x slices_S2048x3584_S2047x3584_0_0)⟩] concatenates_S1x3584_S2047x3584_S2048x3584_d0 : FVec Ideal S2048x3584 .f32) (ix2 r k)
      = before (fun i => x (ix2 i k)) r := by
  pointwise
  unfold before
  by_cases h : r.val = 0
  · rw [if_pos h, dif_pos (by omega)]
  · rw [if_neg h, dif_neg (by omega)]

theorem after_at (x : FVec Ideal S2048x3584 .f32) (r : Fin 2048) (k : Fin 3584) :
    (concatenate S2048x3584 0 [⟨S2047x3584, (extractStridedSlice S2047x3584 ![1, 0] x slices_S2048x3584_S2047x3584_1_0)⟩, ⟨S1x3584, (broadcastInDim S1x3584 ![] bcast_S_S1x3584 (constant S_ .f32 0x00000000#32))⟩] concatenates_S2047x3584_S1x3584_S2048x3584_d0 : FVec Ideal S2048x3584 .f32) (ix2 r k)
      = after (fun i => x (ix2 i k)) r := by
  pointwise
  unfold after
  by_cases h : r.val = 2047
  · rw [dif_pos h, dif_neg (by omega)]
  · rw [dif_neg h, dif_pos (by omega)]
    exact congrArg (fun j => x (ix2 j k)) (Fin.ext (by show 1 + r.val = r.val + 1; omega))

theorem terms_at (w : FVec Ideal S1x3584 .f32) (g p q : FVec Ideal S2048x3584 .f32) (r : Fin 2048) (k : Fin 3584) :
    (truncf .bf16 (addf (addf (addf g (Host.negf (mulf (broadcastInDim S2048x3584 ![0, 1] bcast_S1x3584_S2048x3584_0_1 w) g))) p) q) bitsLt_bf16_f32 : FVec Ideal S2048x3584 .bf16) (ix2 r k)
      = ((g (ix2 r k) + -(w (ix2 0 k) * g (ix2 r k))) + p (ix2 r k)) + q (ix2 r k) := by
  pointwise

theorem halves_at (w : FVec Ideal S1x3584 .f32) (g : FVec Ideal S2048x3584 .f32) (r : Fin 2048) (k : Fin 3584) :
    (mulf (broadcastInDim S2048x3584 ![] bcast_S_S2048x3584 (constant S_ .f32 0x3F000000#32)) (mulf (broadcastInDim S2048x3584 ![0, 1] bcast_S1x3584_S2048x3584_0_1 w) g) : FVec Ideal S2048x3584 .f32) (ix2 r k)
      = half * (w (ix2 0 k) * g (ix2 r k)) := by
  unfold half
  pointwise

theorem same (g : FVec Ideal S2048x3584 .f32) : (shapeCast _ g shapeCasts_S2048x3584_S2048x3584 : FVec Ideal S2048x3584 .f32) = g := shapeCast_self _ _

/-- The reference's first result, entry by entry. -/
theorem entries (w : FVec Ideal S1x3584 .f32) (g : FVec Ideal S2048x3584 .f32) : (truncf .bf16 (addf (addf (addf (shapeCast _ g shapeCasts_S2048x3584_S2048x3584) (Host.negf (mulf (broadcastInDim S2048x3584 ![0, 1] bcast_S1x3584_S2048x3584_0_1 w) (shapeCast _ g shapeCasts_S2048x3584_S2048x3584)))) (pad S2048x3584 ![1, 0] ![0, 0] ![0, 0] (extractStridedSlice S2047x3584 ![0, 0] (mulf (broadcastInDim S2048x3584 ![] bcast_S_S2048x3584 (constant S_ .f32 0x3F000000#32)) (mulf (broadcastInDim S2048x3584 ![0, 1] bcast_S1x3584_S2048x3584_0_1 w) (shapeCast _ g shapeCasts_S2048x3584_S2048x3584))) slices_S2048x3584_S2047x3584_0_0) (constant S_ .f32 0x00000000#32) pads_S2047x3584_S2048x3584_100_000 h_S_)) (pad S2048x3584 ![0, 0] ![1, 0] ![0, 0] (extractStridedSlice S2047x3584 ![1, 0] (mulf (broadcastInDim S2048x3584 ![] bcast_S_S2048x3584 (constant S_ .f32 0x3F000000#32)) (mulf (broadcastInDim S2048x3584 ![0, 1] bcast_S1x3584_S2048x3584_0_1 w) (shapeCast _ g shapeCasts_S2048x3584_S2048x3584))) slices_S2048x3584_S2047x3584_1_0) (constant S_ .f32 0x00000000#32) pads_S2047x3584_S2048x3584_010_000 h_S_)) bitsLt_bf16_f32 : FVec Ideal S2048x3584 .bf16)
    = fun i : S2048x3584.Idx => entry w g (i 0) (i 1) := by
  funext i
  obtain ⟨r, k, rfl⟩ : ∃ (r : Fin 2048) (k : Fin 3584), i = ix2 r k := ⟨i 0, i 1, funext fun a => by fin_cases a <;> rfl⟩
  show _ = entry w g r k
  rw [same]
  refine (terms_at _ _ _ _ r k).trans ?_
  rw [passed_on, passed_back]
  unfold entry
  rw [carried_eq]
  exact congrArg₂ (· + ·) (congrArg (_ + ·) (congrArg (before · r) (funext fun i => halves_at w g i k))) (congrArg (after · r) (funext fun i => halves_at w g i k))

theorem sum_at (x g p q : FVec Ideal S2048x3584 .f32) (k : Fin 3584) :
    (shapeCast _ (Host.reduceAdd (mulf g (subf (mulf (broadcastInDim S2048x3584 ![] bcast_S_S2048x3584 (constant S_ .f32 0x3F000000#32)) (addf p q)) x)) (constant S_ .f32 0x00000000#32) reducesTo_S2048x3584_S3584_d0 h_S_) shapeCasts_S3584_S1x3584 : FVec Ideal S1x3584 .f32) (ix2 0 k)
      = ∑ r : Fin 2048, g (ix2 r k) * (half * (p (ix2 r k) + q (ix2 r k)) - x (ix2 r k)) := by
  unfold half
  pointwise

/-- The reference's second, entry by entry. -/
theorem shares (x : FVec Ideal S2048x11008 .f32) (g : FVec Ideal S2048x3584 .f32) : (shapeCast _ (Host.reduceAdd (mulf (shapeCast _ g shapeCasts_S2048x3584_S2048x3584) (subf (mulf (broadcastInDim S2048x3584 ![] bcast_S_S2048x3584 (constant S_ .f32 0x3F000000#32)) (addf (concatenate S2048x3584 0 [⟨S1x3584, (broadcastInDim S1x3584 ![] bcast_S_S1x3584 (constant S_ .f32 0x00000000#32))⟩, ⟨S2047x3584, (extractStridedSlice S2047x3584 ![0, 0] (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1) slices_S2048x3584_S2047x3584_0_0)⟩] concatenates_S1x3584_S2047x3584_S2048x3584_d0) (concatenate S2048x3584 0 [⟨S2047x3584, (extractStridedSlice S2047x3584 ![1, 0] (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1) slices_S2048x3584_S2047x3584_1_0)⟩, ⟨S1x3584, (broadcastInDim S1x3584 ![] bcast_S_S1x3584 (constant S_ .f32 0x00000000#32))⟩] concatenates_S2047x3584_S1x3584_S2048x3584_d0))) (concatenate S2048x3584 1 [⟨S2048x3072, (extractStridedSlice S2048x3072 ![0, 1024] x slices_S2048x11008_S2048x3072_0_1024)⟩, ⟨S2048x512, (extractStridedSlice S2048x512 ![0, 10240] x slices_S2048x11008_S2048x512_0_10240)⟩] concatenates_S2048x3072_S2048x512_S2048x3584_d1))) (constant S_ .f32 0x00000000#32) reducesTo_S2048x3584_S3584_d0 h_S_) shapeCasts_S3584_S1x3584 : FVec Ideal S1x3584 .f32)
    = fun i : S1x3584.Idx => share x g (i 1) := by
  funext i
  obtain ⟨k, rfl⟩ : ∃ k : Fin 3584, i = ix2 0 k := ⟨i 1, funext fun a => Fin.ext (by
    have h0 : (i 0).val < 1 := (i 0).isLt
    fin_cases a; (show (i 0).val = 0; omega); rfl)⟩
  show _ = share x g k
  rw [same]
  unfold share pull
  refine (sum_at _ _ _ _ k).trans (Finset.sum_congr rfl fun r _ => ?_)
  rw [before_at, after_at]
  unfold step
  simp only [ShiftRefIdeal.columns_at]

end Cert.ShiftBackRefIdeal

namespace Cert.Proof

open Idealize.ShloMosaic Idealize.ShloMosaic.TcCoe Idealize.SL.Sem

/-- The call at bits runs, keeps its arguments, and leaves every semaphore at zero. -/
theorem frame_shift_back : Cert.quiescent_ShiftBack := fun m ρ _ => Cert.ShiftBack.Gen.frame m ρ

/-- The same at the ideal values. -/
theorem frame_shift_backIdeal : Cert.quiescent_ShiftBackIdeal := fun m ρ _ => Cert.ShiftBackIdeal.Gen.frame m ρ

/-- The plain gradient runs and keeps its arguments. -/
theorem frame_shift_backRefIdeal : Cert.quiescent_ShiftBackRefIdeal := fun m ρ _ =>
  (θ_run Cert.ShiftBackRefIdeal.defs _ _).mono (fun r h => ⟨fun c => (h c).2.2, sem_eq_zero_of_no_sems (by decide) r.2⟩)
    (Cert.ShiftBackRefIdeal.Value.run (F := Ideal) m ρ)

/-- The device ends with every entry of both gradients. -/
theorem algebraic_shift_back : Cert.algebraic_ShiftBackIdeal_ShiftBackRefIdeal := fun m ρ m' ρ' _ h => by
  refine ⟨_, _, ?_, Cert.ShiftBackRefIdeal.Value.run (F := Ideal) m' ρ'⟩
  refine (θ_run Cert.ShiftBackIdeal.defs _ _).mono (fun _ hr c => ⟨(hr c).1.trans ?_, (hr c).2.1.trans ?_, (hr c).2.2⟩)
    (Cert.ShiftBackIdeal.Value.run_blocks (F := Ideal) m ρ)
  · rw [Cert.ShiftBackIdeal.leaves3]
    refine Eq.trans ?_ (Cert.ShiftBackRefIdeal.entries _ _).symm
    rw [(h c).2.1, (h c).2.2]
  · rw [Cert.ShiftBackIdeal.leaves4]
    refine Eq.trans ?_ (Cert.ShiftBackRefIdeal.shares _ _).symm
    rw [(h c).1, (h c).2.2]

end Cert.Proof

end
-- ==== Proof.Attention.lean ====
/-
  The attention of the eight heads, on one device: sixty-four blocks of 256 query rows, each against all the keys of its
  head.
-/
module

public import proofs.«01_k».proof.Defs
public import proofs.«01_k».proof.Proof.Pre
public import proofs.«01_k».proof.Proof.Gen.Attention.Frame
public import proofs.«01_k».proof.Proof.Gen.AttentionIdeal.Value
public import proofs.«01_k».proof.Proof.Gen.AttentionRefIdeal.Run
public import proofs.«01_k».proof.Proof.Gen.Pre_finite_rows
public import Idealize.ShloMosaic.Lib.Pointwise
public import Idealize.ShloMosaic.Lib.IdealHost

@[expose] public section

noncomputable section

namespace Cert.AttentionIdeal

open Idealize.ShloMosaic Idealize.ShloMosaic.TcCoe Idealize.ShloMosaic.Tactic
open Idealize.SL.Sem

/-- The factor of the scores. -/
def scale : EReal := Ideal.ofBits .f32 0x3D93CD3A#32

theorem scale_eq : scale = ((9686330 / 134217728 : ℝ) : EReal) := by
  unfold scale
  simp [Ideal.ofBits, Ideal.ieee, -EReal.coe_mul]; norm_num

/-- The word the running maximum starts from is below every score. -/
theorem low_eq : Ideal.ofBits .f32 0xFF800000#32 = ⊥ := by
  simp [Ideal.ofBits, Ideal.ieee]

/-- The greatest of a row of scores. -/
def top (s : Fin 2048 → EReal) : EReal := Finset.univ.fold max ⊥ s

/-- A score's weight before the weights are made to sum to one. -/
def weight (s : Fin 2048 → EReal) (k : Fin 2048) : EReal := Ideal.exp (s k - top s)

/-- The mean of a column of values under the weights of a row of scores. -/
def mean (s v : Fin 2048 → EReal) : EReal := ∑ j : Fin 2048, Ideal.div (weight s j) (∑ i : Fin 2048, weight s i) * v j

theorem exp_nonneg (x : EReal) : 0 ≤ Ideal.exp x := by
  induction x with
  | bot => exact le_refl _
  | top => exact le_top
  | coe r => exact EReal.coe_nonneg.mpr (Real.exp_pos r).le

/-- The greatest score is one of them, so its weight is one and the weights do not sum to zero. -/
theorem total_ne_zero (s : Fin 2048 → EReal) (hs : ∀ j, ∃ x : ℝ, s j = x) : ∑ i : Fin 2048, weight s i ≠ 0 := by
  obtain ⟨j, -, hj⟩ := Finset.exists_mem_eq_sup (Finset.univ : Finset (Fin 2048)) Finset.univ_nonempty s
  have ht : top s = s j := hj
  obtain ⟨x, hx⟩ := hs j
  have h1 : weight s j = 1 := by
    unfold weight
    rw [ht, hx, ← EReal.coe_sub, sub_self]
    show ((Real.exp 0 : ℝ) : EReal) = 1
    rw [Real.exp_zero]; rfl
  have h2 : weight s j ≤ ∑ i : Fin 2048, weight s i := Finset.single_le_sum (f := weight s) (fun i _ => exp_nonneg _) (Finset.mem_univ j)
  rw [h1] at h2
  intro e; rw [e] at h2; exact absurd h2 (by simp)

/-- Dividing each weight by their sum, or multiplying it by the sum's reciprocal. -/
theorem mean_eq (s v : Fin 2048 → EReal) (hs : ∀ j, ∃ x : ℝ, s j = x) :
    ∑ j : Fin 2048, weight s j * Ideal.div 1 (∑ i : Fin 2048, weight s i) * v j = mean s v :=
  Finset.sum_congr rfl fun j _ => by rw [Ideal.mul_one_div (total_ne_zero s hs)]

/-- A query row against a key: their product, scaled. -/
def score (q k : Fin 192 → EReal) : EReal := (∑ d : Fin 192, q d * k d) * scale

/-- A sum of products of reals is real. -/
theorem score_real (q k : Fin 192 → EReal) (hq : ∀ d, ∃ x : ℝ, q d = x) (hk : ∀ d, ∃ x : ℝ, k d = x) : ∃ x : ℝ, score q k = x := by
  obtain ⟨x, hx⟩ : ∃ x : ℝ, ∑ d : Fin 192, q d * k d = x :=
    Finset.sum_induction (fun d => q d * k d) (fun z => ∃ x : ℝ, z = x)
      (fun _ _ ⟨a, ha⟩ ⟨b, hb⟩ => ⟨a + b, by rw [ha, hb, EReal.coe_add]⟩) ⟨0, rfl⟩
      fun d _ => (hq d).elim fun a ha => (hk d).elim fun b hb => ⟨a * b, by rw [ha, hb, EReal.coe_mul]⟩
  exact ⟨x * (9686330 / 134217728), by unfold score; rw [hx, scale_eq, EReal.coe_mul]⟩

/-- The product's two parts, as the reference adds them. -/
theorem score_parts (q k : Fin 192 → EReal) :
    ((∑ d : Fin 128, q ⟨d.val, by omega⟩ * k ⟨d.val, by omega⟩) + ∑ d : Fin 64, q ⟨128 + d.val, by omega⟩ * k ⟨128 + d.val, by omega⟩) * scale = score q k :=
  congrArg (· * scale) (Fin.sum_univ_add (a := 128) (b := 64) fun d => q d * k d).symm

/-- An entry of a block. -/
theorem block_at (q : FVec Ideal S1x256x192 .bf16) (k : FVec Ideal S1x2048x192 .bf16) (v : FVec Ideal S1x2048x128 .bf16) (r : Fin 256) (e : Fin 128)
    (hq : ∀ d, ∃ x : ℝ, q (ix3 0 r d) = x) (hk : ∀ j d, ∃ x : ℝ, k (ix3 0 j d) = x) :
    Gen.k0_pay1 (F := Ideal) q k v (ix3 0 r e)
      = mean (fun j => score (fun d => q (ix3 0 r d)) fun d => k (ix3 0 j d)) fun j => v (ix3 0 j e) := by
  rw [← mean_eq _ _ fun j => score_real _ _ hq (hk j)]
  unfold Gen.k0_pay1 weight top score scale
  rw [← low_eq]
  pointwise

theorem offset_zero : (![0, 0, 0] : Fin 3 → Nat) = fun _ => 0 := funext fun x => by fin_cases x <;> rfl

theorem stores (q : FVec Ideal S1x256x192 .bf16) (k : FVec Ideal S1x2048x192 .bf16) (v : FVec Ideal S1x2048x128 .bf16) :
    Gen.out0_3 (F := Ideal) q k v = Gen.k0_pay1 (F := Ideal) q k v := by
  unfold Gen.out0_3
  rw [View.canon_unit_zero offset_zero, View.ld_unit_zero (S := S1x256x192) offset_zero, View.ld_unit_zero (S := S1x2048x192) offset_zero,
    View.ld_unit_zero (S := S1x2048x128) offset_zero]

/-- Point `t`'s head, and its row `r` in the array. -/
def head (t : Fin 64) : Fin 8 := ⟨t.val / 8, by omega⟩
def row (t : Fin 64) (r : Fin 256) : Fin 2048 := ⟨256 * (t.val % 8) + r.val, by omega⟩

theorem points (t : Fin cfg0.N) : t.val < 64 := Nat.lt_of_lt_of_eq t.isLt Gen.N_0

theorem queries_start : ∀ t : Fin cfg0.N, win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0)

theorem keys_start : ∀ t : Fin cfg0.N, win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0)

theorem read0 (q : FVec Ideal S8x2048x192 .bf16) (t : Fin cfg0.N) (r : Fin 256) (d : Fin 192) :
    ((cfg0.win 0).blk t).view.read (Elt Ideal) q (ix3 0 r d) = q (ix3 (head ⟨t.val, points t⟩) (row ⟨t.val, points t⟩ r) d) := by
  obtain ⟨p0, q0, z0, p3, q3, z3⟩ := queries_start t
  refine congrArg q (funext fun x => Fin.ext ?_)
  match x with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 192 + 1 * d.val = d.val; omega

theorem read1 (k : FVec Ideal S8x2048x192 .bf16) (t : Fin cfg0.N) (j : Fin 2048) (d : Fin 192) :
    ((cfg0.win 1).blk t).view.read (Elt Ideal) k (ix3 0 j d) = k (ix3 (head ⟨t.val, points t⟩) j d) := by
  obtain ⟨p1, q1, z1, p2, q2, z2⟩ := keys_start t
  refine congrArg k (funext fun x => Fin.ext ?_)
  match x with
  | ⟨0, _⟩ => show win0_1.index t (0 : Fin 3) * 1 + 1 * 0 = t.val / 8; omega
  | ⟨1, _⟩ => show win0_1.index t (1 : Fin 3) * 2048 + 1 * j.val = j.val; omega
  | ⟨2, _⟩ => show win0_1.index t (2 : Fin 3) * 192 + 1 * d.val = d.val; omega

theorem read2 (v : FVec Ideal S8x2048x128 .bf16) (t : Fin cfg0.N) (j : Fin 2048) (e : Fin 128) :
    ((cfg0.win 2).blk t).view.read (Elt Ideal) v (ix3 0 j e) = v (ix3 (head ⟨t.val, points t⟩) j e) := by
  obtain ⟨p1, q1, z1, p2, q2, z2⟩ := keys_start t
  refine congrArg v (funext fun x => Fin.ext ?_)
  match x with
  | ⟨0, _⟩ => show win0_2.index t (0 : Fin 3) * 1 + 1 * 0 = t.val / 8; omega
  | ⟨1, _⟩ => show win0_2.index t (1 : Fin 3) * 2048 + 1 * j.val = j.val; omega
  | ⟨2, _⟩ => show win0_2.index t (2 : Fin 3) * 128 + 1 * e.val = e.val; omega

theorem read3 (o : FVec Ideal S8x2048x128 .f32) (t : Fin cfg0.N) (r : Fin 256) (e : Fin 128) :
    ((cfg0.win 3).blk t).view.read (Elt Ideal) o (ix3 0 r e) = o (ix3 (head ⟨t.val, points t⟩) (row ⟨t.val, points t⟩ r) e) := by
  obtain ⟨p0, q0, z0, p3, q3, z3⟩ := queries_start t
  refine congrArg o (funext fun x => Fin.ext ?_)
  match x with
  | ⟨0, _⟩ => show win0_3.index t (0 : Fin 3) * 1 + 1 * 0 = t.val / 8; omega
  | ⟨1, _⟩ => show win0_3.index t (1 : Fin 3) * 256 + 1 * r.val = 256 * (t.val % 8) + r.val; omega
  | ⟨2, _⟩ => show win0_3.index t (2 : Fin 3) * 128 + 1 * e.val = e.val; omega

/-- An entry of the attention: a head's query row against all its keys, over a column of its values. -/
def entry (q k : FVec Ideal S8x2048x192 .bf16) (v : FVec Ideal S8x2048x128 .bf16) (h : Fin 8) (r : Fin 2048) (e : Fin 128) : EReal :=
  mean (fun j => score (fun d => q (ix3 h r d)) fun d => k (ix3 h j d)) fun j => v (ix3 h j e)

/-- What the call leaves, at rows and keys that are real. -/
theorem leaves (m : (ℓ : Loc nD τ sig) → Buf (Elt Ideal) ℓ) (c : Dev nD)
    (hq : ∀ i, ∃ x : ℝ, (m ((c.tc : Thread nD τ).loc main_arg0) : FVec Ideal S8x2048x192 .bf16) i = (x : EReal))
    (hk : ∀ i, ∃ x : ℝ, (m ((c.tc : Thread nD τ).loc main_arg1) : FVec Ideal S8x2048x192 .bf16) i = (x : EReal)) : (Gen.dats m 0 c).arrAt 3 cfg0.N
    = fun i : S8x2048x128.Idx => entry (m ((c.tc : Thread nD τ).loc main_arg0)) (m ((c.tc : Thread nD τ).loc main_arg1)) (m ((c.tc : Thread nD τ).loc main_arg2)) (i 0) (i 1) (i 2) := by
  funext i
  have hN : cfg0.N = 64 := Gen.N_0
  have h0 : (i 0).val < 8 := (i 0).isLt
  have h1 : (i 1).val < 2048 := (i 1).isLt
  let t : Fin cfg0.N := ⟨8 * (i 0).val + (i 1).val / 256, by omega⟩
  let r : Fin 256 := ⟨(i 1).val % 256, Nat.mod_lt _ (by omega)⟩
  have eh : head ⟨t.val, points t⟩ = i 0 := Fin.ext (by show (8 * (i 0).val + (i 1).val / 256) / 8 = (i 0).val; omega)
  have er : row ⟨t.val, points t⟩ r = i 1 := Fin.ext (by show 256 * ((8 * (i 0).val + (i 1).val / 256) % 8) + (i 1).val % 256 = (i 1).val; omega)
  have ei : ix3 (head ⟨t.val, points t⟩) (row ⟨t.val, points t⟩ r) (i 2) = i := by rw [eh, er]; exact funext fun x => by fin_cases x <;> rfl
  have e := congrFun ((Value.blocks3 m c t (Gen.flush0_3 t)).trans (Value.flushed3 m c t)) (ix3 0 r (i 2))
  have e0 : ∀ d, Gen.iblk m c 0 t (ix3 0 r d) = m ((c.tc : Thread nD τ).loc main_arg0) (ix3 (i 0) (i 1) d) := fun d => by
    rw [← eh, ← er]; exact read0 _ t r d
  have e1 : ∀ j d, Gen.iblk m c 1 t (ix3 0 j d) = m ((c.tc : Thread nD τ).loc main_arg1) (ix3 (i 0) j d) := fun j d => by
    rw [← eh]; exact read1 _ t j d
  have e2 : ∀ j, Gen.iblk m c 2 t (ix3 0 j (i 2)) = m ((c.tc : Thread nD τ).loc main_arg2) (ix3 (i 0) j (i 2)) := fun j => by
    rw [← eh]; exact read2 _ t j (i 2)
  refine Eq.trans (congrArg _ ei.symm) ((read3 _ t r (i 2)).symm.trans (e.trans ?_))
  rw [stores]
  refine (block_at _ _ _ r (i 2) (fun d => by rw [e0]; exact hq _) (fun j d => by rw [e1]; exact hk _)).trans ?_
  unfold entry
  simp only [e0, e1, e2]

/-- Below the infinities in absolute value: a real. -/
theorem real_of_tame (x : FVec Ideal S8x2048x192 .bf16)
    (h : cmpf .olt (Host.absf x) (broadcastInDim S8x2048x192 ![] Pre_finite_rows.Facts.bcast_S_S8x2048x192 (constant Pre_finite_rows.S_ .bf16 0x7F80#16)) = fun _ => 1#1)
    (i : S8x2048x192.Idx) : ∃ r : ℝ, x i = r := by
  have e : BitVec.ofBool (decide (max (x i) (-(x i)) < Ideal.ofBits .bf16 0x7F80#16)) = 1#1 := congrFun h i
  have ht : Ideal.ofBits .bf16 0x7F80#16 = ⊤ := by simp [Ideal.ofBits, Ideal.ieee]
  rw [ht] at e
  have l : max (x i) (-(x i)) < ⊤ := by
    by_contra hn
    rw [decide_eq_false hn] at e
    exact absurd e (by decide)
  obtain ⟨l1, l2⟩ := max_lt_iff.mp l
  generalize x i = y at l1 l2 ⊢
  induction y using EReal.rec with
  | bot => exact absurd l2 (by simp)
  | top => exact absurd l1 (by simp)
  | coe r => exact ⟨r, rfl⟩

end Cert.AttentionIdeal

namespace Cert.AttentionRefIdeal

open Idealize.ShloMosaic Idealize.ShloMosaic.TcCoe Idealize.ShloMosaic.Tactic
open Cert.AttentionRefIdeal.Gen Cert.AttentionIdeal

/-- The reference's scores. -/
theorem scores_at (q k : FVec Ideal S8x2048x192 .bf16) : (mulf (addf (Host.dotGeneral dot_S8x2048x128_S8x2048x128_S8x2048x2048_2_2_1_1_0_0 none (extractStridedSlice S8x2048x128 ![0, 0, 0] q slices_S8x2048x192_S8x2048x128_0_0_0) (extractStridedSlice S8x2048x128 ![0, 0, 0] k slices_S8x2048x192_S8x2048x128_0_0_0)) (Host.dotGeneral dot_S8x2048x64_S8x2048x64_S8x2048x2048_2_2_1_1_0_0 none (extractStridedSlice S8x2048x64 ![0, 0, 128] q slices_S8x2048x192_S8x2048x64_0_0_128) (extractStridedSlice S8x2048x64 ![0, 0, 128] k slices_S8x2048x192_S8x2048x64_0_0_128))) (broadcastInDim S8x2048x2048 ![] bcast_S_S8x2048x2048 (constant S_ .f32 0x3D93CD3A#32)) : FVec Ideal S8x2048x2048 .f32)
    = fun i : S8x2048x2048.Idx => score (fun d => q (ix3 (i 0) (i 1) d)) fun d => k (ix3 (i 0) (i 2) d) := by
  funext i
  obtain ⟨h, r, j, rfl⟩ : ∃ (h : Fin 8) (r j : Fin 2048), i = ix3 h r j := ⟨i 0, i 1, i 2, funext fun a => by fin_cases a <;> rfl⟩
  show _ = score (fun d => q (ix3 h r d)) fun d => k (ix3 h j d)
  rw [← score_parts]
  unfold scale
  pointwise

/-- The greatest of a row of scores. -/
theorem top_at (s : FVec Ideal S8x2048x2048 .f32) (h : Fin 8) (r : Fin 2048) :
    (Host.reduce FloatOps.maximumf s (constant S_ .f32 0xFF800000#32) reducesTo_S8x2048x2048_S8x2048_d2 h_S_ : FVec Ideal S8x2048 .f32) (ix2 h r)
      = Finset.univ.fold max (Ideal.ofBits .f32 0xFF800000#32) fun l : Fin 2048 => s (ix3 h r l) := by
  pointwise

/-- No less than the least value. -/
theorem top_max (f : Fin 2048 → EReal) : max (Ideal.ofBits .f32 0xFF800000#32) (Finset.univ.fold max (Ideal.ofBits .f32 0xFF800000#32) f) = top f := by
  rw [low_eq, max_eq_right bot_le]
  rfl

/-- A value of each row, no less than the least, at each of the row's entries. -/
theorem spread_at (z : FVec Ideal S8x2048 .f32) (h : Fin 8) (r j : Fin 2048) :
    (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) z)) : FVec Ideal S8x2048x2048 .f32) (ix3 h r j)
      = max (Ideal.ofBits .f32 0xFF800000#32) (z (ix2 h r)) := by
  pointwise

/-- The greatest of the row, at each of the row's entries. -/
theorem tops_at (s : FVec Ideal S8x2048x2048 .f32) (h : Fin 8) (r j : Fin 2048) :
    (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (Host.reduce FloatOps.maximumf s (constant S_ .f32 0xFF800000#32) reducesTo_S8x2048x2048_S8x2048_d2 h_S_))) : FVec Ideal S8x2048x2048 .f32) (ix3 h r j)
      = top fun l => s (ix3 h r l) :=
  (spread_at _ h r j).trans ((congrArg (max _) (top_at s h r)).trans (top_max _))

/-- The sum of each row of weights. -/
theorem total_at (w : FVec Ideal S8x2048x2048 .f32) (h : Fin 8) (r : Fin 2048) :
    (Host.reduceAdd w (constant S_ .f32 0x00000000#32) reducesTo_S8x2048x2048_S8x2048_d2 h_S_ : FVec Ideal S8x2048 .f32) (ix2 h r) = ∑ l : Fin 2048, w (ix3 h r l) := by
  rw [Host.reduceAdd_apply, Ideal.hostReduceAdd_def]
  refine (Ideal.hostReduceAdd_r3_a2 reducesTo_S8x2048x2048_S8x2048_d2 w _ (ix2 h r)).trans ?_
  refine Eq.trans (congrArg (· + _) (show _ = (0 : EReal) from Ideal.ofBits_zero .f32)) (zero_add _)

/-- The same, at each of the row's entries. -/
theorem totals_at (w : FVec Ideal S8x2048x2048 .f32) (h : Fin 8) (r j : Fin 2048) :
    (broadcastInDim S8x2048x2048 ![0, 1, 2] bcast_S8x2048x1_S8x2048x2048_0_1_2 (broadcastInDim S8x2048x1 ![0, 1] bcast_S8x2048_S8x2048x1_0_1 (Host.reduceAdd w (constant S_ .f32 0x00000000#32) reducesTo_S8x2048x2048_S8x2048_d2 h_S_)) : FVec Ideal S8x2048x2048 .f32) (ix3 h r j)
      = ∑ l : Fin 2048, w (ix3 h r l) := by
  rw [← total_at]
  generalize (Host.reduceAdd w (constant S_ .f32 0x00000000#32) reducesTo_S8x2048x2048_S8x2048_d2 h_S_ : FVec Ideal S8x2048 .f32) = z
  pointwise

/-- The values under an array of weights. -/
theorem values_at (p : FVec Ideal S8x2048x2048 .f32) (v : FVec Ideal S8x2048x128 .bf16) (h : Fin 8) (r : Fin 2048) (e : Fin 128) :
    (Host.dotGeneral dot_S8x2048x2048_S8x2048x128_S8x2048x128_2_1_1_2_0_0 none (truncf .bf16 p bitsLt_bf16_f32) v : FVec Ideal S8x2048x128 .f32) (ix3 h r e)
      = ∑ j : Fin 2048, p (ix3 h r j) * v (ix3 h j e) := by
  pointwise

/-- The reference's weights over its scores, and the values under them. -/
theorem mean_at (s t w u : FVec Ideal S8x2048x2048 .f32) (v : FVec Ideal S8x2048x128 .bf16) (h : Fin 8) (r : Fin 2048) (e : Fin 128)
    (ht : ∀ j, t (ix3 h r j) = top fun l => s (ix3 h r l)) (hw : w = Host.exp (subf s t)) (hu : ∀ j, u (ix3 h r j) = ∑ l : Fin 2048, w (ix3 h r l)) :
    (Host.dotGeneral dot_S8x2048x2048_S8x2048x128_S8x2048x128_2_1_1_2_0_0 none (truncf .bf16 (Host.divf w u) bitsLt_bf16_f32) v : FVec Ideal S8x2048x128 .f32) (ix3 h r e)
      = mean (fun j => s (ix3 h r j)) fun j => v (ix3 h j e) := by
  have ew : ∀ j, w (ix3 h r j) = weight (fun l => s (ix3 h r l)) j := fun j => by
    rw [hw]
    show Ideal.exp (s (ix3 h r j) - t (ix3 h r j)) = _
    rw [ht]; rfl
  rw [values_at]
  refine Finset.sum_congr rfl fun j _ => congrArg (· * _) ?_
  show Ideal.div (w (ix3 h r j)) (u (ix3 h r j)) = _
  rw [hu, ew]
  exact congrArg _ (Finset.sum_congr rfl fun l _ => ew l)

/-- The reference, entry by entry. -/
theorem entries (m : (ℓ : Loc nD τ sig) → Buf (Elt Ideal) ℓ) (c : Dev nD) : Value.res_main_v21 (F := Ideal) m c
    = fun i : S8x2048x128.Idx => entry (m ((c.tc : Thread nD τ).loc main_arg0)) (m ((c.tc : Thread nD τ).loc main_arg1)) (m ((c.tc : Thread nD τ).loc main_arg2)) (i 0) (i 1) (i 2) := by
  funext i
  obtain ⟨h, r, e, rfl⟩ : ∃ (h : Fin 8) (r : Fin 2048) (e : Fin 128), i = ix3 h r e := ⟨i 0, i 1, i 2, funext fun a => by fin_cases a <;> rfl⟩
  unfold Value.res_main_v21
  rw [scores_at]
  generalize hs : (fun i : S8x2048x2048.Idx => score (fun d => (m ((c.tc : Thread nD τ).loc main_arg0) : FVec Ideal S8x2048x192 .bf16) (ix3 (i 0) (i 1) d)) fun d => (m ((c.tc : Thread nD τ).loc main_arg1) : FVec Ideal S8x2048x192 .bf16) (ix3 (i 0) (i 2) d) : FVec Ideal S8x2048x2048 .f32) = s
  refine (mean_at s _ _ _ _ h r e (tops_at s h r) rfl (totals_at _ h r)).trans ?_
  subst hs
  rfl

end Cert.AttentionRefIdeal

namespace Cert.Proof

open Idealize.ShloMosaic Idealize.ShloMosaic.TcCoe Idealize.SL.Sem

/-- The call at bits runs, keeps its arguments, and leaves every semaphore at zero. -/
theorem frame_attention : Cert.quiescent_Attention := fun m ρ _ => Cert.Attention.Gen.frame m ρ

/-- The same at the ideal values. -/
theorem frame_attentionIdeal : Cert.quiescent_AttentionIdeal := fun m ρ _ => Cert.AttentionIdeal.Gen.frame m ρ

/-- The plain attention runs and keeps its arguments. -/
theorem frame_attentionRefIdeal : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)

/-- The two frames under the precondition say no more. -/
theorem frame_attentionIdeal_tame : Cert.quiescent_AttentionIdeal_pre_finite_rows := fun m ρ _ => frame_attentionIdeal m ρ trivial
theorem frame_attentionRefIdeal_tame : Cert.quiescent_AttentionRefIdeal_pre_finite_rows := fun m ρ _ => frame_attentionRefIdeal m ρ trivial

/-- The device ends with every entry of the attention. -/
theorem algebraic_attention : Cert.algebraic_AttentionIdeal_AttentionRefIdeal_pre_finite_rows := fun m ρ m' ρ' p h => by
  refine ⟨_, ?_, Cert.AttentionRefIdeal.Value.run (F := Ideal) m' ρ'⟩
  refine (θ_run Cert.AttentionIdeal.defs _ _).mono (fun _ hr c => ⟨(hr c).1.trans ?_, (hr c).2⟩)
    (Cert.AttentionIdeal.Value.run_blocks (F := Ideal) m ρ)
  rw [Cert.AttentionIdeal.leaves m c (Cert.AttentionIdeal.real_of_tame _ (p c).1) (Cert.AttentionIdeal.real_of_tame _ (p c).2),
    Cert.AttentionRefIdeal.entries, (h c).1, (h c).2.1, (h c).2.2]

end Cert.Proof

end
-- ==== Proof.AttentionBack.lean ====
/-
  The gradient of the attention of the eight heads, on one device: sixty-four blocks of 256 query rows. A block's own rows'
  gradient is written at once, and its share of the gradients of its head's keys and values is added to what the head's blocks
  before it left.
-/
module

public import proofs.«01_k».proof.Defs
public import proofs.«01_k».proof.Proof.Attention
public import proofs.«01_k».proof.Proof.Gen.AttentionBack.Frame
public import proofs.«01_k».proof.Proof.Gen.AttentionBackIdeal.Value
public import proofs.«01_k».proof.Proof.Gen.AttentionBackRefIdeal.Run
public import proofs.«01_k».proof.Proof.Gen.Pre_finite_keys

@[expose] public section

noncomputable section

namespace Cert.AttentionBackIdeal

open Idealize.ShloMosaic Idealize.ShloMosaic.TcCoe Idealize.ShloMosaic.Tactic
open Idealize.SL.Sem
open Cert.AttentionIdeal (scale top weight score score_real low_eq exp_nonneg total_ne_zero offset_zero head row real_of_tame)

/-! ## One row of scores -/

/-- A score's weight, the weights made to sum to one. -/
def share (s : Fin 2048 → EReal) (j : Fin 2048) : EReal := weight s j * Ideal.div 1 (∑ i : Fin 2048, weight s i)

/-- The gradient of a score, from the shares and the gradients of the shares. -/
def passed (p g : Fin 2048 → EReal) (j : Fin 2048) : EReal := p j * (g j - ∑ i : Fin 2048, g i * p i) * scale

/-- A weight is real, and not negative. -/
theorem weight_real (s : Fin 2048 → EReal) (hs : ∀ j, ∃ x : ℝ, s j = x) (j : Fin 2048) : ∃ x : ℝ, weight s j = x := by
  obtain ⟨i, -, hi⟩ := Finset.exists_mem_eq_sup (Finset.univ : Finset (Fin 2048)) Finset.univ_nonempty s
  have ht : top s = s i := hi
  obtain ⟨x, hx⟩ := hs j
  obtain ⟨y, hy⟩ := hs i
  exact ⟨Real.exp (x - y), by unfold weight; rw [ht, hx, hy, ← EReal.coe_sub]; rfl⟩

/-- A sum of reals is real. -/
theorem sum_real (f : Fin 2048 → EReal) (hf : ∀ j, ∃ x : ℝ, f j = x) : ∃ x : ℝ, ∑ j : Fin 2048, f j = x :=
  Finset.sum_induction f (fun z => ∃ x : ℝ, z = x)
    (fun _ _ ⟨a, ha⟩ ⟨b, hb⟩ => ⟨a + b, by rw [ha, hb, EReal.coe_add]⟩) ⟨0, rfl⟩ fun j _ => hf j

/-- A factor that is real and not negative goes into a sum. -/
theorem mul_sum (c : ℝ) (hc : 0 ≤ c) (f : Fin 2048 → EReal) : (c : EReal) * ∑ j : Fin 2048, f j = ∑ j : Fin 2048, (c : EReal) * f j := by
  classical
  induction (Finset.univ : Finset (Fin 2048)) using Finset.induction_on with
  | empty => simp
  | insert a A ha ih =>
    rw [Finset.sum_insert ha, Finset.sum_insert ha, ← ih]
    exact EReal.left_distrib_of_nonneg_of_ne_top (EReal.coe_nonneg.mpr hc) (EReal.coe_ne_top c) _ _

/-- The gradient of a score by the quotient's rule. -/
theorem passed_eq (s g : Fin 2048 → EReal) (hs : ∀ j, ∃ x : ℝ, s j = x) (j : Fin 2048) :
    (Ideal.div (g j) (∑ i : Fin 2048, weight s i)
        + -(∑ i : Fin 2048, g i * Ideal.div 1 ((∑ l : Fin 2048, weight s l) * ∑ l : Fin 2048, weight s l) * weight s i)) * weight s j * scale
      = passed (share s) g j := by
  obtain ⟨z, hz⟩ := sum_real (weight s) (weight_real s hs)
  have h0 : (0 : EReal) ≤ ∑ i : Fin 2048, weight s i := Finset.sum_nonneg fun i _ => exp_nonneg _
  have hne := total_ne_zero s hs
  unfold passed share
  rw [hz] at h0 hne ⊢
  have zn : z ≠ 0 := fun e => hne (by rw [e]; rfl)
  have zp : 0 ≤ z := EReal.coe_nonneg.mp h0
  have cp : 0 ≤ 1 / z := one_div_nonneg.mpr zp
  rw [← EReal.coe_mul, Ideal.div_coe (mul_ne_zero zn zn), Ideal.div_coe zn, Ideal.div_coe zn, one_mul, one_mul,
    show (1 / (z * z) : ℝ) = 1 / z * (1 / z) by rw [one_div_mul_one_div], EReal.coe_mul]
  generalize 1 / z = c at cp
  have e : ∑ i : Fin 2048, g i * ((c : EReal) * c) * weight s i = c * ∑ i : Fin 2048, g i * (weight s i * c) := by
    rw [mul_sum c cp]
    exact Finset.sum_congr rfl fun i _ => by ac_rfl
  have d : ∀ S : EReal, g j * c + -(c * S) = c * (g j - S) := fun S => by
    rw [sub_eq_add_neg, EReal.left_distrib_of_nonneg_of_ne_top (EReal.coe_nonneg.mpr cp) (EReal.coe_ne_top c), mul_neg, mul_comm (g j)]
  rw [e, d]
  ac_rfl

/-! ## A block -/

section block

variable (q : FVec Ideal S1x256x192 .bf16) (k : FVec Ideal S1x2048x192 .bf16) (v : FVec Ideal S1x2048x128 .bf16) (o : FVec Ideal S1x256x128 .f32)

/-- The block's shares. -/
theorem shares_at (r : Fin 256) (j : Fin 2048) :
    Gen.k0_pay11 (F := Ideal) q k (ix2 r j) = share (fun j => score (fun d => q (ix3 0 r d)) fun d => k (ix3 0 j d)) j := by
  unfold Gen.k0_pay11 Gen.k0_pay7 Gen.k0_pay8 share weight top score scale
  rw [← low_eq]
  pointwise

/-- The gradients of the block's scores. -/
theorem passed_at (v : FVec Ideal S2048x128 .bf16) (o : FVec Ideal S256x128 .bf16) (p : FVec Ideal S256x2048 .f32) (r : Fin 256) (j : Fin 2048) :
    Gen.k0_pay2 (F := Ideal) v o p (ix2 r j) = passed (fun j => p (ix2 r j)) (fun j => ∑ e : Fin 128, o (ix2 r e) * v (ix2 j e)) j := by
  unfold Gen.k0_pay2 passed scale
  pointwise

/-- The gradients of the block's rows. -/
theorem rows_at (k : FVec Ideal S2048x192 .bf16) (v : FVec Ideal S2048x128 .bf16) (o : FVec Ideal S256x128 .bf16) (p : FVec Ideal S256x2048 .f32) (r : Fin 256) (d : Fin 192) :
    Gen.k0_pay3 (F := Ideal) k v o p (ix3 0 r d) = ∑ j : Fin 2048, Gen.k0_pay2 (F := Ideal) v o p (ix2 r j) * k (ix2 j d) := by
  unfold Gen.k0_pay3
  generalize Gen.k0_pay2 (F := Ideal) v o p = x
  pointwise

/-- What the block adds to the gradients of its keys. -/
theorem keys_at (q : FVec Ideal S256x192 .bf16) (v : FVec Ideal S2048x128 .bf16) (o : FVec Ideal S256x128 .bf16) (p : FVec Ideal S256x2048 .f32) (a : FVec Ideal S1x2048x192 .f32)
    (j : Fin 2048) (d : Fin 192) :
    Gen.k0_pay4 (F := Ideal) q v o p a (ix3 0 j d) = a (ix3 0 j d) + ∑ r : Fin 256, Gen.k0_pay2 (F := Ideal) v o p (ix2 r j) * q (ix2 r d) := by
  unfold Gen.k0_pay4
  generalize Gen.k0_pay2 (F := Ideal) v o p = x
  pointwise

/-- What the block adds to the gradients of its values. -/
theorem values_at (a : FVec Ideal S1x2048x128 .f32) (j : Fin 2048) (e : Fin 128) :
    Gen.k0_pay1 (F := Ideal) (Gen.k0_pay12 (F := Ideal) q k o a) (ix3 0 j e)
      = a (ix3 0 j e) + ∑ r : Fin 256, Gen.k0_pay11 (F := Ideal) q k (ix2 r j) * o (ix3 0 r e) := by
  unfold Gen.k0_pay1 Gen.k0_pay12 Gen.k0_pay10
  generalize Gen.k0_pay11 (F := Ideal) q k = x
  pointwise

/-- The gradients of the block's scores, from the block's arrays. -/
def slope (r : Fin 256) (j : Fin 2048) : EReal :=
  passed (share fun j => score (fun d => q (ix3 0 r d)) fun d => k (ix3 0 j d)) (fun j => ∑ e : Fin 128, o (ix3 0 r e) * v (ix3 0 j e)) j

theorem slope_at (r : Fin 256) (j : Fin 2048) :
    Gen.k0_pay2 (F := Ideal) (Gen.k0_pay9 (F := Ideal) v) (Gen.k0_pay10 (F := Ideal) o) (Gen.k0_pay11 (F := Ideal) q k) (ix2 r j) = slope q k v o r j := by
  have e9 : ∀ (j : Fin 2048) (e : Fin 128), Gen.k0_pay9 (F := Ideal) v (ix2 j e) = v (ix3 0 j e) := fun j e => by
    unfold Gen.k0_pay9; pointwise
  have e10 : ∀ (r : Fin 256) (e : Fin 128), Gen.k0_pay10 (F := Ideal) o (ix2 r e) = o (ix3 0 r e) := fun r e => by
    unfold Gen.k0_pay10; pointwise
  rw [passed_at]
  simp only [e9, e10, shares_at]
  rfl

theorem rows_read (r : Fin 256) (d : Fin 192) : Gen.k0_pay7 (F := Ideal) q (ix2 r d) = q (ix3 0 r d) := by
  unfold Gen.k0_pay7; pointwise

theorem keys_read (j : Fin 2048) (d : Fin 192) : Gen.k0_pay8 (F := Ideal) k (ix2 j d) = k (ix3 0 j d) := by
  unfold Gen.k0_pay8; pointwise

/-- What a block stores, from the block's arrays. -/
theorem block_rows (r : Fin 256) (d : Fin 192) :
    Gen.k0_pay3 (F := Ideal) (Gen.k0_pay8 (F := Ideal) k) (Gen.k0_pay9 (F := Ideal) v) (Gen.k0_pay10 (F := Ideal) o) (Gen.k0_pay11 (F := Ideal) q k) (ix3 0 r d)
      = ∑ j : Fin 2048, slope q k v o r j * k (ix3 0 j d) := by
  rw [rows_at]
  simp only [slope_at, keys_read]

theorem block_keys (a : FVec Ideal S1x2048x192 .f32) (j : Fin 2048) (d : Fin 192) :
    Gen.k0_pay4 (F := Ideal) (Gen.k0_pay7 (F := Ideal) q) (Gen.k0_pay9 (F := Ideal) v) (Gen.k0_pay10 (F := Ideal) o) (Gen.k0_pay11 (F := Ideal) q k) a (ix3 0 j d)
      = a (ix3 0 j d) + ∑ r : Fin 256, slope q k v o r j * q (ix3 0 r d) := by
  rw [keys_at]
  simp only [slope_at, rows_read]

theorem block_values (a : FVec Ideal S1x2048x128 .f32) (j : Fin 2048) (e : Fin 128) :
    Gen.k0_pay1 (F := Ideal) (Gen.k0_pay12 (F := Ideal) q k o a) (ix3 0 j e)
      = a (ix3 0 j e) + ∑ r : Fin 256, share (fun j => score (fun d => q (ix3 0 r d)) fun d => k (ix3 0 j d)) j * o (ix3 0 r e) := by
  rw [values_at]
  simp only [shares_at]

/-- The sums a head's first block starts from. -/
theorem none_keys (j : Fin 2048) (d : Fin 192) : Gen.k0_pay5 (F := Ideal) (ix3 0 j d) = (0 : EReal) := Ideal.ofBits_zero_f32
theorem none_values (j : Fin 2048) (e : Fin 128) : Gen.k0_pay6 (F := Ideal) (ix3 0 j e) = (0 : EReal) := Ideal.ofBits_zero_f32

end block

/-! ## What a grid point stores -/

section stores

variable {F : FTy → Type} [FloatOps F]

variable (c : Dev nD) (i : grid0.Coords)
  (a1 : Memref sig .tc .vmem S1x256x192 .bf16) (h1 : a1.IsWhole) (a2 : Memref sig .tc .vmem S1x2048x192 .bf16) (h2 : a2.IsWhole)
  (a3 : Memref sig .tc .vmem S1x2048x128 .bf16) (h3 : a3.IsWhole) (a4 : Memref sig .tc .vmem S1x256x128 .f32) (h4 : a4.IsWhole)
  (a5 : Memref sig .tc .vmem S1x256x192 .f32) (h5 : a5.IsWhole) (a6 : Memref sig .tc .vmem S1x2048x192 .f32) (h6 : a6.IsWhole)
  (a7 : Memref sig .tc .vmem S1x2048x128 .f32) (h7 : a7.IsWhole)
  (q : Vec F S1x256x192 .bf16) (k : Vec F S1x2048x192 .bf16) (v : Vec F S1x2048x128 .bf16) (o : Vec F S1x256x128 .f32)
  (b : Vec F S1x2048x192 .f32) (w : Vec F S1x2048x128 .f32)

theorem stores_rows_first (hc : Gen.cond0_0 i) :
    Gen.out0_A_4 c i a1 h1 a2 h2 a3 h3 a4 h4 a5 h5 a6 h6 a7 h7 hc q k v o = Gen.k0_pay3 (Gen.k0_pay8 k) (Gen.k0_pay9 v) (Gen.k0_pay10 o) (Gen.k0_pay11 q k) := by
  unfold Gen.out0_A_4
  rw [View.read_writes_eq_canon _ _ _ (Gen.cover0_A_4 c i a1 h1 a2 h2 a3 h3 a4 h4 a5 h5 a6 h6 a7 h7 hc q k v o)]
  unfold Gen.kernelRun0_A
  dsimp only
  sl_unfold_words
  rw [View.canon_unit_zero offset_zero]
  simp only [View.readAt_eq_ld, h1.read_unread, h2.read_unread, h3.read_unread, h4.read_unread, View.ld_unit_zero (S := S1x256x192) offset_zero,
    View.ld_unit_zero (S := S1x2048x192) offset_zero, View.ld_unit_zero (S := S1x2048x128) offset_zero, View.ld_unit_zero (S := S1x256x128) offset_zero]

theorem stores_rows_later (hc : ¬Gen.cond0_0 i) :
    Gen.out0_B_4 c i a1 h1 a2 h2 a3 h3 a4 h4 a5 h5 a6 h6 a7 h7 hc q k v o b w = Gen.k0_pay3 (Gen.k0_pay8 k) (Gen.k0_pay9 v) (Gen.k0_pay10 o) (Gen.k0_pay11 q k) := by
  unfold Gen.out0_B_4
  rw [View.read_writes_eq_canon _ _ _ (Gen.cover0_B_4 c i a1 h1 a2 h2 a3 h3 a4 h4 a5 h5 a6 h6 a7 h7 hc q k v o b w)]
  unfold Gen.kernelRun0_B
  dsimp only
  sl_unfold_words
  rw [View.canon_unit_zero offset_zero]
  simp only [View.readAt_eq_ld, h1.read_unread, h2.read_unread, h3.read_unread, h4.read_unread, View.ld_unit_zero (S := S1x256x192) offset_zero,
    View.ld_unit_zero (S := S1x2048x192) offset_zero, View.ld_unit_zero (S := S1x2048x128) offset_zero, View.ld_unit_zero (S := S1x256x128) offset_zero]

theorem stores_keys_first (hc : Gen.cond0_0 i) :
    Gen.out0_A_5 c i a1 h1 a2 h2 a3 h3 a4 h4 a5 h5 a6 h6 a7 h7 hc q k v o = Gen.k0_pay4 (Gen.k0_pay7 q) (Gen.k0_pay9 v) (Gen.k0_pay10 o) (Gen.k0_pay11 q k) Gen.k0_pay5 := by
  unfold Gen.out0_A_5
  rw [View.read_writes_eq_canon _ _ _ (Gen.cover0_A_5 c i a1 h1 a2 h2 a3 h3 a4 h4 a5 h5 a6 h6 a7 h7 hc q k v o)]
  unfold Gen.kernelRun0_A
  dsimp only
  sl_unfold_words
  rw [View.canon_cons_unit_zero (S := S1x2048x192) offset_zero, View.readCov_unit_zero (S := S1x2048x192) _ offset_zero]
  simp only [View.readAt_eq_ld, h1.read_unread, h2.read_unread, h3.read_unread, h4.read_unread, View.ld_unit_zero (S := S1x256x192) offset_zero,
    View.ld_unit_zero (S := S1x2048x192) offset_zero, View.ld_unit_zero (S := S1x2048x128) offset_zero, View.ld_unit_zero (S := S1x256x128) offset_zero]

theorem stores_keys_later (hc : ¬Gen.cond0_0 i) :
    Gen.out0_B_5 c i a1 h1 a2 h2 a3 h3 a4 h4 a5 h5 a6 h6 a7 h7 hc q k v o b w = Gen.k0_pay4 (Gen.k0_pay7 q) (Gen.k0_pay9 v) (Gen.k0_pay10 o) (Gen.k0_pay11 q k) b := by
  unfold Gen.out0_B_5
  rw [View.read_writes_eq_canon _ _ _ (Gen.cover0_B_5 c i a1 h1 a2 h2 a3 h3 a4 h4 a5 h5 a6 h6 a7 h7 hc q k v o b w)]
  unfold Gen.kernelRun0_B
  dsimp only
  sl_unfold_words
  rw [View.canon_unit_zero offset_zero]
  simp only [View.readAt_eq_ld, h1.read_unread, h2.read_unread, h3.read_unread, h4.read_unread, h6.read_unread, View.ld_unit_zero (S := S1x256x192) offset_zero,
    View.ld_unit_zero (S := S1x2048x192) offset_zero, View.ld_unit_zero (S := S1x2048x128) offset_zero, View.ld_unit_zero (S := S1x256x128) offset_zero]

theorem stores_values_first (hc : Gen.cond0_0 i) :
    Gen.out0_A_6 c i a1 h1 a2 h2 a3 h3 a4 h4 a5 h5 a6 h6 a7 h7 hc q k v o = Gen.k0_pay1 (Gen.k0_pay12 q k o Gen.k0_pay6) := by
  unfold Gen.out0_A_6
  rw [View.read_writes_eq_canon _ _ _ (Gen.cover0_A_6 c i a1 h1 a2 h2 a3 h3 a4 h4 a5 h5 a6 h6 a7 h7 hc q k v o)]
  unfold Gen.kernelRun0_A
  dsimp only
  sl_unfold_words
  rw [View.canon_cons_unit_zero (S := S1x2048x128) offset_zero, View.readCov_unit_zero (S := S1x2048x128) _ offset_zero]
  simp only [View.readAt_eq_ld, h1.read_unread, h2.read_unread, h3.read_unread, h4.read_unread, View.ld_unit_zero (S := S1x256x192) offset_zero,
    View.ld_unit_zero (S := S1x2048x192) offset_zero, View.ld_unit_zero (S := S1x2048x128) offset_zero, View.ld_unit_zero (S := S1x256x128) offset_zero]

theorem stores_values_later (hc : ¬Gen.cond0_0 i) :
    Gen.out0_B_6 c i a1 h1 a2 h2 a3 h3 a4 h4 a5 h5 a6 h6 a7 h7 hc q k v o b w = Gen.k0_pay1 (Gen.k0_pay12 q k o w) := by
  unfold Gen.out0_B_6
  rw [View.read_writes_eq_canon _ _ _ (Gen.cover0_B_6 c i a1 h1 a2 h2 a3 h3 a4 h4 a5 h5 a6 h6 a7 h7 hc q k v o b w)]
  unfold Gen.kernelRun0_B
  dsimp only
  sl_unfold_words
  rw [View.canon_unit_zero offset_zero]
  simp only [View.readAt_eq_ld, h1.read_unread, h2.read_unread, h3.read_unread, h4.read_unread, h7.read_unread, View.ld_unit_zero (S := S1x256x192) offset_zero,
    View.ld_unit_zero (S := S1x2048x192) offset_zero, View.ld_unit_zero (S := S1x2048x128) offset_zero, View.ld_unit_zero (S := S1x256x128) offset_zero]

end stores

/-! ## The blocks -/

theorem points (t : Fin cfg0.N) : t.val < 64 := Nat.lt_of_lt_of_eq t.isLt Gen.N_0

theorem rows_start : ∀ t : Fin cfg0.N, win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0)

theorem heads_start : ∀ t : Fin cfg0.N, (win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0)
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, (win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0)
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0)

theorem read0 (q : FVec Ideal S8x2048x192 .bf16) (t : Fin cfg0.N) (r : Fin 256) (d : Fin 192) :
    ((cfg0.win 0).blk t).view.read (Elt Ideal) q (ix3 0 r d) = q (ix3 (head ⟨t.val, points t⟩) (row ⟨t.val, points t⟩ r) d) := by
  obtain ⟨p0, q0, z0, p3, q3, z3, p4, q4, z4⟩ := rows_start t
  refine congrArg q (funext fun x => Fin.ext ?_)
  match x with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 192 + 1 * d.val = d.val; omega

theorem read1 (k : FVec Ideal S8x2048x192 .bf16) (t : Fin cfg0.N) (j : Fin 2048) (d : Fin 192) :
    ((cfg0.win 1).blk t).view.read (Elt Ideal) k (ix3 0 j d) = k (ix3 (head ⟨t.val, points t⟩) j d) := by
  obtain ⟨⟨p1, q1, z1, p2, q2, z2⟩, p5, q5, z5, p6, q6, z6⟩ := heads_start t
  refine congrArg k (funext fun x => Fin.ext ?_)
  match x with
  | ⟨0, _⟩ => show win0_1.index t (0 : Fin 3) * 1 + 1 * 0 = t.val / 8; omega
  | ⟨1, _⟩ => show win0_1.index t (1 : Fin 3) * 2048 + 1 * j.val = j.val; omega
  | ⟨2, _⟩ => show win0_1.index t (2 : Fin 3) * 192 + 1 * d.val = d.val; omega

theorem read2 (v : FVec Ideal S8x2048x128 .bf16) (t : Fin cfg0.N) (j : Fin 2048) (e : Fin 128) :
    ((cfg0.win 2).blk t).view.read (Elt Ideal) v (ix3 0 j e) = v (ix3 (head ⟨t.val, points t⟩) j e) := by
  obtain ⟨⟨p1, q1, z1, p2, q2, z2⟩, p5, q5, z5, p6, q6, z6⟩ := heads_start t
  refine congrArg v (funext fun x => Fin.ext ?_)
  match x with
  | ⟨0, _⟩ => show win0_2.index t (0 : Fin 3) * 1 + 1 * 0 = t.val / 8; omega
  | ⟨1, _⟩ => show win0_2.index t (1 : Fin 3) * 2048 + 1 * j.val = j.val; omega
  | ⟨2, _⟩ => show win0_2.index t (2 : Fin 3) * 128 + 1 * e.val = e.val; omega

theorem read3 (o : FVec Ideal S8x2048x128 .f32) (t : Fin cfg0.N) (r : Fin 256) (e : Fin 128) :
    ((cfg0.win 3).blk t).view.read (Elt Ideal) o (ix3 0 r e) = o (ix3 (head ⟨t.val, points t⟩) (row ⟨t.val, points t⟩ r) e) := by
  obtain ⟨p0, q0, z0, p3, q3, z3, p4, q4, z4⟩ := rows_start t
  refine congrArg o (funext fun x => Fin.ext ?_)
  match x with
  | ⟨0, _⟩ => show win0_3.index t (0 : Fin 3) * 1 + 1 * 0 = t.val / 8; omega
  | ⟨1, _⟩ => show win0_3.index t (1 : Fin 3) * 256 + 1 * r.val = 256 * (t.val % 8) + r.val; omega
  | ⟨2, _⟩ => show win0_3.index t (2 : Fin 3) * 128 + 1 * e.val = e.val; omega

theorem read4 (x : FVec Ideal S8x2048x192 .f32) (t : Fin cfg0.N) (r : Fin 256) (d : Fin 192) :
    ((cfg0.win 4).blk t).view.read (Elt Ideal) x (ix3 0 r d) = x (ix3 (head ⟨t.val, points t⟩) (row ⟨t.val, points t⟩ r) d) := by
  obtain ⟨p0, q0, z0, p3, q3, z3, p4, q4, z4⟩ := rows_start t
  refine congrArg x (funext fun x => Fin.ext ?_)
  match x with
  | ⟨0, _⟩ => show win0_4.index t (0 : Fin 3) * 1 + 1 * 0 = t.val / 8; omega
  | ⟨1, _⟩ => show win0_4.index t (1 : Fin 3) * 256 + 1 * r.val = 256 * (t.val % 8) + r.val; omega
  | ⟨2, _⟩ => show win0_4.index t (2 : Fin 3) * 192 + 1 * d.val = d.val; omega

theorem read5 (x : FVec Ideal S8x2048x192 .f32) (t : Fin cfg0.N) (j : Fin 2048) (d : Fin 192) :
    ((cfg0.win 5).blk t).view.read (Elt Ideal) x (ix3 0 j d) = x (ix3 (head ⟨t.val, points t⟩) j d) := by
  obtain ⟨⟨p1, q1, z1, p2, q2, z2⟩, p5, q5, z5, p6, q6, z6⟩ := heads_start t
  refine congrArg x (funext fun x => Fin.ext ?_)
  match x with
  | ⟨0, _⟩ => show win0_5.index t (0 : Fin 3) * 1 + 1 * 0 = t.val / 8; omega
  | ⟨1, _⟩ => show win0_5.index t (1 : Fin 3) * 2048 + 1 * j.val = j.val; omega
  | ⟨2, _⟩ => show win0_5.index t (2 : Fin 3) * 192 + 1 * d.val = d.val; omega

theorem read6 (x : FVec Ideal S8x2048x128 .f32) (t : Fin cfg0.N) (j : Fin 2048) (e : Fin 128) :
    ((cfg0.win 6).blk t).view.read (Elt Ideal) x (ix3 0 j e) = x (ix3 (head ⟨t.val, points t⟩) j e) := by
  obtain ⟨⟨p1, q1, z1, p2, q2, z2⟩, p5, q5, z5, p6, q6, z6⟩ := heads_start t
  refine congrArg x (funext fun x => Fin.ext ?_)
  match x with
  | ⟨0, _⟩ => show win0_6.index t (0 : Fin 3) * 1 + 1 * 0 = t.val / 8; omega
  | ⟨1, _⟩ => show win0_6.index t (1 : Fin 3) * 2048 + 1 * j.val = j.val; omega
  | ⟨2, _⟩ => show win0_6.index t (2 : Fin 3) * 128 + 1 * e.val = e.val; omega

/-! ## What the call leaves -/

section entries

variable (q k : FVec Ideal S8x2048x192 .bf16) (v : FVec Ideal S8x2048x128 .bf16) (o : FVec Ideal S8x2048x128 .f32) (h : Fin 8) (r j : Fin 2048)

/-- A row's scores. -/
def scores : EReal := score (fun d => q (ix3 h r d)) fun d => k (ix3 h j d)

/-- Its shares' gradients. -/
def pulls : EReal := ∑ e : Fin 128, o (ix3 h r e) * v (ix3 h j e)

/-- Its scores' gradients. -/
def slopes : EReal := passed (share fun j => scores q k h r j) (fun j => pulls v o h r j) j

/-- The gradients of a row, of a key, and of a value. -/
def entryQ (d : Fin 192) : EReal := ∑ j : Fin 2048, slopes q k v o h r j * k (ix3 h j d)
def entryK (d : Fin 192) : EReal := ∑ r : Fin 2048, slopes q k v o h r j * q (ix3 h r d)
def entryV (e : Fin 128) : EReal := ∑ r : Fin 2048, share (fun j => scores q k h r j) j * o (ix3 h r e)

end entries

/-- A sum that starts over at every eighth point. -/
theorem eighth (a : (n : ℕ) → n < 64 → EReal) (T : Fin 64 → EReal) (h0 : ∀ t : Fin 64, t.val % 8 = 0 → a t.val t.isLt = T t)
    (h1 : ∀ t : Fin 64, ¬t.val % 8 = 0 → a t.val t.isLt = a (t.val - 1) (by omega) + T t) (h : Fin 8) :
    ∀ (b : ℕ) (hb : b < 8), a (8 * h.val + b) (by omega) = ∑ i : Fin (b + 1), T ⟨8 * h.val + i.val, by omega⟩
  | 0, hb => by
    rw [Fin.sum_univ_one]
    exact h0 ⟨8 * h.val + 0, by omega⟩ (by show (8 * h.val + 0) % 8 = 0; omega)
  | b + 1, hb => by
    rw [Fin.sum_univ_castSucc]
    refine (h1 ⟨8 * h.val + (b + 1), by omega⟩ (by show ¬(8 * h.val + (b + 1)) % 8 = 0; omega)).trans ?_
    exact congrArg (· + _) (eighth a T h0 h1 h b (by omega))

/-- Eight blocks are all the rows. -/
theorem all_rows (h : Fin 8) (f : Fin 2048 → EReal) :
    ∑ i : Fin 8, ∑ r : Fin 256, f (row ⟨8 * h.val + i.val, by omega⟩ r) = ∑ r : Fin 2048, f r := by
  rw [Fin.sum_univ_tiles 8 256 rfl]
  refine Finset.sum_congr rfl fun i _ => Finset.sum_congr rfl fun r _ => congrArg f (Fin.ext ?_)
  show 256 * ((8 * h.val + i.val) % 8) + r.val = i.val * 256 + r.val
  omega

section leaves

variable (m : (ℓ : Loc nD τ sig) → Buf (Elt Ideal) ℓ) (c : Dev nD)

/-- The rows, the keys, the values, and the gradient of the outputs. -/
abbrev argQ : FVec Ideal S8x2048x192 .bf16 := m ((c.tc : Thread nD τ).loc main_arg0)
abbrev argK : FVec Ideal S8x2048x192 .bf16 := m ((c.tc : Thread nD τ).loc main_arg1)
abbrev argV : FVec Ideal S8x2048x128 .bf16 := m ((c.tc : Thread nD τ).loc main_arg2)
abbrev argO : FVec Ideal S8x2048x128 .f32 := m ((c.tc : Thread nD τ).loc main_arg3)

/-- A block's scores and their gradients are the arrays'. -/
theorem point_share (t : Fin cfg0.N) (r : Fin 256) :
    (share fun j => score (fun d => Gen.iblk m c 0 t (ix3 0 r d)) fun d => Gen.iblk m c 1 t (ix3 0 j d))
      = share fun j => scores (argQ m c) (argK m c) (head ⟨t.val, points t⟩) (row ⟨t.val, points t⟩ r) j :=
  congrArg share (funext fun j => congrArg₂ score (funext fun d => read0 _ t r d) (funext fun d => read1 _ t j d))

theorem point_slope (t : Fin cfg0.N) (r : Fin 256) (j : Fin 2048) :
    slope (Gen.iblk m c 0 t) (Gen.iblk m c 1 t) (Gen.iblk m c 2 t) (Gen.iblk m c 3 t) r j
      = slopes (argQ m c) (argK m c) (argV m c) (argO m c) (head ⟨t.val, points t⟩) (row ⟨t.val, points t⟩ r) j := by
  unfold slope slopes
  refine congrFun (congrArg₂ passed (point_share m c t r) (funext fun j => ?_)) j
  exact Finset.sum_congr rfl fun e _ => congrArg₂ (fun x y : EReal => x * y) (read3 _ t r e) (read2 _ t j e)

/-- A point's terms of its keys' gradients, and of its values'. -/
def termK (t : Fin cfg0.N) (j : Fin 2048) (d : Fin 192) : EReal :=
  ∑ r : Fin 256, slopes (argQ m c) (argK m c) (argV m c) (argO m c) (head ⟨t.val, points t⟩) (row ⟨t.val, points t⟩ r) j
    * argQ m c (ix3 (head ⟨t.val, points t⟩) (row ⟨t.val, points t⟩ r) d)
def termV (t : Fin cfg0.N) (j : Fin 2048) (e : Fin 128) : EReal :=
  ∑ r : Fin 256, share (fun j => scores (argQ m c) (argK m c) (head ⟨t.val, points t⟩) (row ⟨t.val, points t⟩ r) j) j
    * argO m c (ix3 (head ⟨t.val, points t⟩) (row ⟨t.val, points t⟩ r) e)

theorem adds_keys (t : Fin cfg0.N) (j : Fin 2048) (d : Fin 192) :
    ∑ r : Fin 256, slope (Gen.iblk m c 0 t) (Gen.iblk m c 1 t) (Gen.iblk m c 2 t) (Gen.iblk m c 3 t) r j * Gen.iblk m c 0 t (ix3 0 r d) = termK m c t j d :=
  Finset.sum_congr rfl fun r _ => congrArg₂ (fun x y : EReal => x * y) (point_slope m c t r j) (read0 _ t r d)

theorem adds_values (t : Fin cfg0.N) (j : Fin 2048) (e : Fin 128) :
    ∑ r : Fin 256, share (fun j => score (fun d => Gen.iblk m c 0 t (ix3 0 r d)) fun d => Gen.iblk m c 1 t (ix3 0 j d)) j * Gen.iblk m c 3 t (ix3 0 r e) = termV m c t j e :=
  Finset.sum_congr rfl fun r _ => congrArg₂ (fun x y : EReal => x * y) (congrFun (point_share m c t r) j) (read3 _ t r e)

/-- A point stores its rows' gradients. -/
theorem point_rows (t : Fin cfg0.N) (r : Fin 256) (d : Fin 192) : (Gen.outsAt0 m c t.val t.isLt).1 (ix3 0 r d)
    = entryQ (argQ m c) (argK m c) (argV m c) (argO m c) (head ⟨t.val, points t⟩) (row ⟨t.val, points t⟩ r) d := by
  have e : ∑ j : Fin 2048, slope (Gen.iblk m c 0 t) (Gen.iblk m c 1 t) (Gen.iblk m c 2 t) (Gen.iblk m c 3 t) r j * Gen.iblk m c 1 t (ix3 0 j d)
      = entryQ (argQ m c) (argK m c) (argV m c) (argO m c) (head ⟨t.val, points t⟩) (row ⟨t.val, points t⟩ r) d :=
    Finset.sum_congr rfl fun j _ => congrArg₂ (fun x y : EReal => x * y) (point_slope m c t r j) (read1 _ t j d)
  refine Eq.trans ?_ e
  by_cases h : t.val % 8 = 0
  · rw [Gen.outsAt0_A m c t h]
    dsimp only
    rw [stores_rows_first]
    exact block_rows _ _ _ _ r d
  · rw [Gen.outsAt0_B m c t h]
    dsimp only
    rw [stores_rows_later]
    exact block_rows _ _ _ _ r d

/-- After a head's last point, the terms of its eight points. -/
theorem point_keys (h : Fin 8) (j : Fin 2048) (d : Fin 192) (hn : 8 * h.val + 7 < cfg0.N) :
    (Gen.outsAt0 m c (8 * h.val + 7) hn).2.1 (ix3 0 j d) = ∑ i : Fin 8, termK m c ⟨8 * h.val + i.val, Nat.lt_of_le_of_lt (by omega) hn⟩ j d := by
  have hN : cfg0.N = 64 := Gen.N_0
  refine eighth (fun n hn => (Gen.outsAt0 m c n (by omega)).2.1 (ix3 0 j d)) (fun t => termK m c ⟨t.val, by omega⟩ j d) (fun t ht => ?_) (fun t ht => ?_) h 7 (by omega)
  · refine Eq.trans ?_ (adds_keys m c ⟨t.val, by omega⟩ j d)
    show (Gen.outsAt0 m c t.val _).2.1 (ix3 0 j d) = _
    rw [show Gen.outsAt0 m c t.val _ = _ from Gen.outsAt0_A m c ⟨t.val, by omega⟩ ht]
    dsimp only
    rw [stores_keys_first]
    exact (block_keys _ _ _ _ _ j d).trans ((congrArg (· + _) (none_keys j d)).trans (zero_add _))
  · refine Eq.trans ?_ (congrArg (_ + ·) (adds_keys m c ⟨t.val, by omega⟩ j d))
    show (Gen.outsAt0 m c t.val _).2.1 (ix3 0 j d) = _
    rw [show Gen.outsAt0 m c t.val _ = _ from Gen.outsAt0_B m c ⟨t.val, by omega⟩ ht]
    dsimp only
    rw [stores_keys_later]
    exact block_keys _ _ _ _ _ j d

theorem point_values (h : Fin 8) (j : Fin 2048) (e : Fin 128) (hn : 8 * h.val + 7 < cfg0.N) :
    (Gen.outsAt0 m c (8 * h.val + 7) hn).2.2 (ix3 0 j e) = ∑ i : Fin 8, termV m c ⟨8 * h.val + i.val, Nat.lt_of_le_of_lt (by omega) hn⟩ j e := by
  have hN : cfg0.N = 64 := Gen.N_0
  refine eighth (fun n hn => (Gen.outsAt0 m c n (by omega)).2.2 (ix3 0 j e)) (fun t => termV m c ⟨t.val, by omega⟩ j e) (fun t ht => ?_) (fun t ht => ?_) h 7 (by omega)
  · refine Eq.trans ?_ (adds_values m c ⟨t.val, by omega⟩ j e)
    show (Gen.outsAt0 m c t.val _).2.2 (ix3 0 j e) = _
    rw [show Gen.outsAt0 m c t.val _ = _ from Gen.outsAt0_A m c ⟨t.val, by omega⟩ ht]
    dsimp only
    rw [stores_values_first]
    exact (block_values _ _ _ _ j e).trans ((congrArg (· + _) (none_values j e)).trans (zero_add _))
  · refine Eq.trans ?_ (congrArg (_ + ·) (adds_values m c ⟨t.val, by omega⟩ j e))
    show (Gen.outsAt0 m c t.val _).2.2 (ix3 0 j e) = _
    rw [show Gen.outsAt0 m c t.val _ = _ from Gen.outsAt0_B m c ⟨t.val, by omega⟩ ht]
    dsimp only
    rw [stores_values_later]
    exact block_values _ _ _ _ j e

theorem leaves_rows : (Gen.dats m 0 c).arrAt 4 cfg0.N
    = fun i : S8x2048x192.Idx => entryQ (argQ m c) (argK m c) (argV m c) (argO m c) (i 0) (i 1) (i 2) := by
  funext i
  have hN : cfg0.N = 64 := Gen.N_0
  have h0 : (i 0).val < 8 := (i 0).isLt
  have h1 : (i 1).val < 2048 := (i 1).isLt
  let t : Fin cfg0.N := ⟨8 * (i 0).val + (i 1).val / 256, by omega⟩
  let r : Fin 256 := ⟨(i 1).val % 256, Nat.mod_lt _ (by omega)⟩
  have eh : head ⟨t.val, points t⟩ = i 0 := Fin.ext (by show (8 * (i 0).val + (i 1).val / 256) / 8 = (i 0).val; omega)
  have er : row ⟨t.val, points t⟩ r = i 1 := Fin.ext (by show 256 * ((8 * (i 0).val + (i 1).val / 256) % 8) + (i 1).val % 256 = (i 1).val; omega)
  have ei : ix3 (head ⟨t.val, points t⟩) (row ⟨t.val, points t⟩ r) (i 2) = i := by rw [eh, er]; exact funext fun x => by fin_cases x <;> rfl
  have e := congrFun ((Value.blocks4 m c t (Gen.flush0_4 t)).trans (Value.flushed4 m c t)) (ix3 0 r (i 2))
  refine Eq.trans (congrArg _ ei.symm) ((read4 _ t r (i 2)).symm.trans (e.trans ((point_rows m c t r (i 2)).trans ?_)))
  rw [eh, er]

/-- Distinct heads' blocks share nothing. -/
theorem apart (u u' : Fin cfg0.N) (hu : u.val % 8 = 7) (hu' : u'.val % 8 = 7) (hne : u ≠ u') : u.val / 8 ≠ u'.val / 8 :=
  fun e => hne (Fin.ext (by omega))

theorem leaves_keys : (Gen.dats m 0 c).arrAt 5 cfg0.N
    = fun i : S8x2048x192.Idx => entryK (argQ m c) (argK m c) (argV m c) (argO m c) (i 0) (i 1) (i 2) := by
  funext i
  have hN : cfg0.N = 64 := Gen.N_0
  have h0 : (i 0).val < 8 := (i 0).isLt
  let h : Fin 8 := ⟨(i 0).val, h0⟩
  let t : Fin cfg0.N := ⟨8 * h.val + 7, by omega⟩
  have ht : (cfg0.win 5).flush t = true := (Gen.flush0_5 t).mpr (by show (8 * h.val + 7) % 8 = 7; omega)
  have one : ∀ u u' : Fin cfg0.N, (cfg0.win 5).flush u = true → (cfg0.win 5).flush u' = true → u ≠ u' →
      Disjoint ((cfg0.win 5).blk u).view.set ((cfg0.win 5).blk u').view.set := fun u u' hu hu' hne =>
    (cfg0.win 5).disjoint_blk fun e => apart u u' ((Gen.flush0_5 u).mp hu) ((Gen.flush0_5 u').mp hu') hne
      ((heads_start u).2.1.symm.trans ((congrFun e (0 : Fin 3)).trans (heads_start u').2.1))
  have eh : head ⟨t.val, points t⟩ = i 0 := Fin.ext (by show (8 * (i 0).val + 7) / 8 = (i 0).val; omega)
  have ei : ix3 (head ⟨t.val, points t⟩) (i 1) (i 2) = i := by rw [eh]; exact funext fun x => by fin_cases x <;> rfl
  have e := congrFun (((Gen.dats m 0 c).read_blk_arrAt_eq_flushed 5 one cfg0.N t t.isLt ht).trans (Value.flushed5 m c t)) (ix3 0 (i 1) (i 2))
  refine Eq.trans (congrArg _ ei.symm) ((read5 _ t (i 1) (i 2)).symm.trans (e.trans ((point_keys m c h (i 1) (i 2) t.isLt).trans ?_)))
  unfold entryK
  rw [← all_rows h]
  refine Finset.sum_congr rfl fun b _ => Finset.sum_congr rfl fun r _ => ?_
  have eb : head ⟨8 * h.val + b.val, by omega⟩ = i 0 := Fin.ext (by show (8 * (i 0).val + b.val) / 8 = (i 0).val; omega)
  dsimp only
  rw [eb]

theorem leaves_values : (Gen.dats m 0 c).arrAt 6 cfg0.N
    = fun i : S8x2048x128.Idx => entryV (argQ m c) (argK m c) (argO m c) (i 0) (i 1) (i 2) := by
  funext i
  have hN : cfg0.N = 64 := Gen.N_0
  have h0 : (i 0).val < 8 := (i 0).isLt
  let h : Fin 8 := ⟨(i 0).val, h0⟩
  let t : Fin cfg0.N := ⟨8 * h.val + 7, by omega⟩
  have ht : (cfg0.win 6).flush t = true := (Gen.flush0_6 t).mpr (by show (8 * h.val + 7) % 8 = 7; omega)
  have one : ∀ u u' : Fin cfg0.N, (cfg0.win 6).flush u = true → (cfg0.win 6).flush u' = true → u ≠ u' →
      Disjoint ((cfg0.win 6).blk u).view.set ((cfg0.win 6).blk u').view.set := fun u u' hu hu' hne =>
    (cfg0.win 6).disjoint_blk fun e => apart u u' ((Gen.flush0_6 u).mp hu) ((Gen.flush0_6 u').mp hu') hne
      ((heads_start u).2.2.2.2.1.symm.trans ((congrFun e (0 : Fin 3)).trans (heads_start u').2.2.2.2.1))
  have eh : head ⟨t.val, points t⟩ = i 0 := Fin.ext (by show (8 * (i 0).val + 7) / 8 = (i 0).val; omega)
  have ei : ix3 (head ⟨t.val, points t⟩) (i 1) (i 2) = i := by rw [eh]; exact funext fun x => by fin_cases x <;> rfl
  have e := congrFun (((Gen.dats m 0 c).read_blk_arrAt_eq_flushed 6 one cfg0.N t t.isLt ht).trans (Value.flushed6 m c t)) (ix3 0 (i 1) (i 2))
  refine Eq.trans (congrArg _ ei.symm) ((read6 _ t (i 1) (i 2)).symm.trans (e.trans ((point_values m c h (i 1) (i 2) t.isLt).trans ?_)))
  unfold entryV
  rw [← all_rows h]
  refine Finset.sum_congr rfl fun b _ => Finset.sum_congr rfl fun r _ => ?_
  have eb : head ⟨8 * h.val + b.val, by omega⟩ = i 0 := Fin.ext (by show (8 * (i 0).val + b.val) / 8 = (i 0).val; omega)
  dsimp only
  rw [eb]

end leaves

end Cert.AttentionBackIdeal

namespace Cert.AttentionBackRefIdeal

open Idealize.ShloMosaic Idealize.ShloMosaic.TcCoe Idealize.ShloMosaic.Tactic
open Cert.AttentionBackRefIdeal.Gen
open Cert.AttentionIdeal (scale top weight score score_parts score_real total_ne_zero)
open Cert.AttentionBackIdeal (share passed passed_eq scores pulls slopes entryQ entryK entryV)
open Cert.AttentionRefIdeal (tops_at total_at totals_at)

/-! ## The reference, array by array -/

/-- The scores. -/
def scoresOf (q k : FVec Ideal S8x2048x192 .f32) : FVec Ideal S8x2048x2048 .f32 :=
  mulf (addf (Host.dotGeneral dot_S8x2048x128_S8x2048x128_S8x2048x2048_2_2_1_1_0_0 none (extractStridedSlice S8x2048x128 ![0, 0, 0] q slices_S8x2048x192_S8x2048x128_0_0_0) (extractStridedSlice S8x2048x128 ![0, 0, 0] k slices_S8x2048x192_S8x2048x128_0_0_0)) (Host.dotGeneral dot_S8x2048x64_S8x2048x64_S8x2048x2048_2_2_1_1_0_0 none (extractStridedSlice S8x2048x64 ![0, 0, 128] q slices_S8x2048x192_S8x2048x64_0_0_128) (extractStridedSlice S8x2048x64 ![0, 0, 128] k slices_S8x2048x192_S8x2048x64_0_0_128))) (broadcastInDim S8x2048x2048 ![] bcast_S_S8x2048x2048 (constant S_ .f32 0x3D93CD3A#32))

/-- Their weights. -/
def weightsOf (s : FVec Ideal S8x2048x2048 .f32) : FVec Ideal S8x2048x2048 .f32 :=
  Host.exp (subf s (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (Host.reduce FloatOps.maximumf s (constant S_ .f32 0xFF800000#32) reducesTo_S8x2048x2048_S8x2048_d2 h_S_)))))

/-- The scores' gradients, from the shares' gradients and the weights. -/
def slopesOf (g w : FVec Ideal S8x2048x2048 .f32) : FVec Ideal S8x2048x2048 .f32 :=
  mulf (mulf (addf (Host.divf g (broadcastInDim S8x2048x2048 ![0, 1, 2] bcast_S8x2048x1_S8x2048x2048_0_1_2 (broadcastInDim S8x2048x1 ![0, 1] bcast_S8x2048_S8x2048x1_0_1 (Host.reduceAdd w (constant S_ .f32 0x00000000#32) reducesTo_S8x2048x2048_S8x2048_d2 h_S_)))) (broadcastInDim S8x2048x2048 ![0, 1] bcast_S8x2048_S8x2048x2048_0_1 (Host.reduceAdd (Host.negf (shapeCast _ (Host.reduceAdd (mulf (mulf g (broadcastInDim S8x2048x2048 ![0, 1, 2] bcast_S8x2048x1_S8x2048x2048_0_1_2 (Host.divf (broadcastInDim S8x2048x1 ![] bcast_S_S8x2048x1 (constant S_ .f32 0x3F800000#32)) (mulf (broadcastInDim S8x2048x1 ![0, 1] bcast_S8x2048_S8x2048x1_0_1 (Host.reduceAdd w (constant S_ .f32 0x00000000#32) reducesTo_S8x2048x2048_S8x2048_d2 h_S_)) (broadcastInDim S8x2048x1 ![0, 1] bcast_S8x2048_S8x2048x1_0_1 (Host.reduceAdd w (constant S_ .f32 0x00000000#32) reducesTo_S8x2048x2048_S8x2048_d2 h_S_)))))) w) (constant S_ .f32 0x00000000#32) reducesTo_S8x2048x2048_S8x2048_d2 h_S_) shapeCasts_S8x2048_S8x2048x1)) (constant S_ .f32 0x00000000#32) reducesTo_S8x2048x1_S8x2048_d2 h_S_))) w) (broadcastInDim S8x2048x2048 ![] bcast_S_S8x2048x2048 (constant S_ .f32 0x3D93CD3A#32))

theorem scores_at (q k : FVec Ideal S8x2048x192 .f32) (h : Fin 8) (r j : Fin 2048) :
    scoresOf q k (ix3 h r j) = score (fun d => q (ix3 h r d)) fun d => k (ix3 h j d) := by
  rw [← score_parts]
  unfold scoresOf scale
  pointwise

theorem weights_at (s : FVec Ideal S8x2048x2048 .f32) (h : Fin 8) (r j : Fin 2048) : weightsOf s (ix3 h r j) = weight (fun l => s (ix3 h r l)) j :=
  congrArg (fun z => Ideal.exp (s (ix3 h r j) - z)) (tops_at s h r j)

/-- A column's value at each of the row's entries. -/
theorem column_at (z : FVec Ideal S8x2048 .f32) (h : Fin 8) (r : Fin 2048) :
    (broadcastInDim S8x2048x1 ![0, 1] bcast_S8x2048_S8x2048x1_0_1 z : FVec Ideal S8x2048x1 .f32) (ix3 h r 0) = z (ix2 h r) := by
  pointwise

theorem squares_at (t : FVec Ideal S8x2048x1 .f32) (h : Fin 8) (r j : Fin 2048) :
    (broadcastInDim S8x2048x2048 ![0, 1, 2] bcast_S8x2048x1_S8x2048x2048_0_1_2 (Host.divf (broadcastInDim S8x2048x1 ![] bcast_S_S8x2048x1 (constant S_ .f32 0x3F800000#32)) (mulf t t)) : FVec Ideal S8x2048x2048 .f32) (ix3 h r j)
      = Ideal.div 1 (t (ix3 h r 0) * t (ix3 h r 0)) := by
  pointwise

theorem negated_at (y : FVec Ideal S8x2048 .f32) (h : Fin 8) (r j : Fin 2048) :
    (broadcastInDim S8x2048x2048 ![0, 1] bcast_S8x2048_S8x2048x2048_0_1 (Host.reduceAdd (Host.negf (shapeCast _ y shapeCasts_S8x2048_S8x2048x1)) (constant S_ .f32 0x00000000#32) reducesTo_S8x2048x1_S8x2048_d2 h_S_) : FVec Ideal S8x2048x2048 .f32) (ix3 h r j)
      = -(y (ix2 h r)) := by
  pointwise
  exact Fin.sum_univ_one _

/-- A row's sum, its sign changed, at each of the row's entries. -/
theorem sum_negated_at (p : FVec Ideal S8x2048x2048 .f32) (h : Fin 8) (r j : Fin 2048) :
    (broadcastInDim S8x2048x2048 ![0, 1] bcast_S8x2048_S8x2048x2048_0_1 (Host.reduceAdd (Host.negf (shapeCast _ (Host.reduceAdd p (constant S_ .f32 0x00000000#32) reducesTo_S8x2048x2048_S8x2048_d2 h_S_) shapeCasts_S8x2048_S8x2048x1)) (constant S_ .f32 0x00000000#32) reducesTo_S8x2048x1_S8x2048_d2 h_S_) : FVec Ideal S8x2048x2048 .f32) (ix3 h r j)
      = -(∑ l : Fin 2048, p (ix3 h r l)) :=
  (negated_at _ h r j).trans (congrArg (fun z : EReal => -z) (total_at p h r))

/-- One over the square of a row's sum, at each of the row's entries. -/
theorem sum_squares_at (w : FVec Ideal S8x2048x2048 .f32) (h : Fin 8) (r j : Fin 2048) :
    (broadcastInDim S8x2048x2048 ![0, 1, 2] bcast_S8x2048x1_S8x2048x2048_0_1_2 (Host.divf (broadcastInDim S8x2048x1 ![] bcast_S_S8x2048x1 (constant S_ .f32 0x3F800000#32)) (mulf (broadcastInDim S8x2048x1 ![0, 1] bcast_S8x2048_S8x2048x1_0_1 (Host.reduceAdd w (constant S_ .f32 0x00000000#32) reducesTo_S8x2048x2048_S8x2048_d2 h_S_)) (broadcastInDim S8x2048x1 ![0, 1] bcast_S8x2048_S8x2048x1_0_1 (Host.reduceAdd w (constant S_ .f32 0x00000000#32) reducesTo_S8x2048x2048_S8x2048_d2 h_S_)))) : FVec Ideal S8x2048x2048 .f32) (ix3 h r j)
      = Ideal.div 1 ((∑ l : Fin 2048, w (ix3 h r l)) * ∑ l : Fin 2048, w (ix3 h r l)) :=
  (squares_at _ h r j).trans (congrArg (fun z : EReal => Ideal.div 1 (z * z)) ((column_at _ h r).trans (total_at w h r)))

/-- The quotient's rule, over arrays read at an entry. -/
theorem rule_at (g w t n : FVec Ideal S8x2048x2048 .f32) (h : Fin 8) (r j : Fin 2048) :
    (mulf (mulf (addf (Host.divf g t) n) w) (broadcastInDim S8x2048x2048 ![] bcast_S_S8x2048x2048 (constant S_ .f32 0x3D93CD3A#32)) : FVec Ideal S8x2048x2048 .f32) (ix3 h r j)
      = (Ideal.div (g (ix3 h r j)) (t (ix3 h r j)) + n (ix3 h r j)) * w (ix3 h r j) * scale := by
  unfold scale
  pointwise

/-- A score's gradient. -/
theorem slopes_at (g w : FVec Ideal S8x2048x2048 .f32) (h : Fin 8) (r j : Fin 2048) : slopesOf g w (ix3 h r j)
    = (Ideal.div (g (ix3 h r j)) (∑ l : Fin 2048, w (ix3 h r l))
        + -(∑ i : Fin 2048, g (ix3 h r i) * Ideal.div 1 ((∑ l : Fin 2048, w (ix3 h r l)) * ∑ l : Fin 2048, w (ix3 h r l)) * w (ix3 h r i))) * w (ix3 h r j) * scale := by
  unfold slopesOf
  refine (rule_at g w _ _ h r j).trans (congrArg₂ (fun a b : EReal => (Ideal.div (g (ix3 h r j)) a + b) * w (ix3 h r j) * scale) (totals_at w h r j) ?_)
  refine (sum_negated_at _ h r j).trans (congrArg (fun z : EReal => -z) (Finset.sum_congr rfl fun i _ => ?_))
  exact congrArg (fun z : EReal => g (ix3 h r i) * z * w (ix3 h r i)) (sum_squares_at w h r i)

/-- The shares' gradients. -/
theorem pulls_at (o v : FVec Ideal S8x2048x128 .f32) (h : Fin 8) (r j : Fin 2048) :
    (Host.dotGeneral dot_S8x2048x128_S8x2048x128_S8x2048x2048_2_2_1_1_0_0 none o v : FVec Ideal S8x2048x2048 .f32) (ix3 h r j) = ∑ e : Fin 128, o (ix3 h r e) * v (ix3 h j e) := by
  pointwise

/-- The rows' gradients, from the scores'. -/
theorem rows_at (x : FVec Ideal S8x2048x2048 .f32) (k : FVec Ideal S8x2048x192 .f32) (h : Fin 8) (r : Fin 2048) (d : Fin 192) :
    (addf (pad S8x2048x192 ![0, 0, 128] ![0, 0, 0] ![0, 0, 0] (Host.dotGeneral dot_S8x2048x2048_S8x2048x64_S8x2048x64_2_1_1_2_0_0 none x (extractStridedSlice S8x2048x64 ![0, 0, 128] k slices_S8x2048x192_S8x2048x64_0_0_128)) (constant S_ .f32 0x00000000#32) pads_S8x2048x64_S8x2048x192_000_000_12800 h_S_) (pad S8x2048x192 ![0, 0, 0] ![0, 0, 64] ![0, 0, 0] (Host.dotGeneral dot_S8x2048x2048_S8x2048x128_S8x2048x128_2_1_1_2_0_0 none x (extractStridedSlice S8x2048x128 ![0, 0, 0] k slices_S8x2048x192_S8x2048x128_0_0_0)) (constant S_ .f32 0x00000000#32) pads_S8x2048x128_S8x2048x192_000_000_0640 h_S_) : FVec Ideal S8x2048x192 .f32) (ix3 h r d)
      = ∑ j : Fin 2048, x (ix3 h r j) * k (ix3 h j d) := by
  pointwise
  by_cases hd : d.val < 128
  · rw [dif_neg (by omega), dif_pos hd]
    exact zero_add _
  · rw [dif_pos (by omega), dif_neg hd]
    refine (add_zero _).trans (Finset.sum_congr rfl fun i _ => congrArg (x (ix3 h r i) * ·) (congrArg (fun l => k (ix3 h i l)) (Fin.ext ?_)))
    show 128 + (d.val - 128) = d.val
    omega

/-- The keys' gradients, from the scores'. -/
theorem keys_at (x : FVec Ideal S8x2048x2048 .f32) (q : FVec Ideal S8x2048x192 .f32) (h : Fin 8) (j : Fin 2048) (d : Fin 192) :
    (addf (pad S8x2048x192 ![0, 0, 128] ![0, 0, 0] ![0, 0, 0] (Host.dotGeneral dot_S8x2048x2048_S8x2048x64_S8x2048x64_1_1_2_2_0_0 none x (extractStridedSlice S8x2048x64 ![0, 0, 128] q slices_S8x2048x192_S8x2048x64_0_0_128)) (constant S_ .f32 0x00000000#32) pads_S8x2048x64_S8x2048x192_000_000_12800 h_S_) (pad S8x2048x192 ![0, 0, 0] ![0, 0, 64] ![0, 0, 0] (Host.dotGeneral dot_S8x2048x2048_S8x2048x128_S8x2048x128_1_1_2_2_0_0 none x (extractStridedSlice S8x2048x128 ![0, 0, 0] q slices_S8x2048x192_S8x2048x128_0_0_0)) (constant S_ .f32 0x00000000#32) pads_S8x2048x128_S8x2048x192_000_000_0640 h_S_) : FVec Ideal S8x2048x192 .f32) (ix3 h j d)
      = ∑ r : Fin 2048, x (ix3 h r j) * q (ix3 h r d) := by
  pointwise
  by_cases hd : d.val < 128
  · rw [dif_neg (by omega), dif_pos hd]
    exact zero_add _
  · rw [dif_pos (by omega), dif_neg hd]
    refine (add_zero _).trans (Finset.sum_congr rfl fun i _ => congrArg (x (ix3 h i j) * ·) (congrArg (fun l => q (ix3 h i l)) (Fin.ext ?_)))
    show 128 + (d.val - 128) = d.val
    omega

/-- The values' gradients, from the shares. -/
theorem values_at (p : FVec Ideal S8x2048x2048 .f32) (o : FVec Ideal S8x2048x128 .f32) (h : Fin 8) (j : Fin 2048) (e : Fin 128) :
    (transpose S8x2048x128 [0, 2, 1] (Host.dotGeneral dot_S8x2048x128_S8x2048x2048_S8x128x2048_1_1_2_2_0_0 none o p : FVec Ideal S8x128x2048 .f32) transposes_S8x128x2048_S8x2048x128_0_2_1 : FVec Ideal S8x2048x128 .f32) (ix3 h j e)
      = ∑ r : Fin 2048, o (ix3 h r e) * p (ix3 h r j) := by
  pointwise

/-! ## The reference, entry by entry -/

section entries

variable (q k : FVec Ideal S8x2048x192 .f32) (v o : FVec Ideal S8x2048x128 .f32) (h : Fin 8)

theorem weight_at (r j : Fin 2048) : weightsOf (scoresOf q k) (ix3 h r j) = weight (fun j => scores q k h r j) j :=
  (weights_at _ h r j).trans (congrFun (congrArg weight (funext fun l => scores_at q k h r l)) j)

/-- At rows and keys that are real, the reference's gradients of the scores are the kernel's. -/
theorem slope_at (hq : ∀ i, ∃ x : ℝ, q i = x) (hk : ∀ i, ∃ x : ℝ, k i = x) (g : FVec Ideal S8x2048x2048 .f32)
    (hg : ∀ h r j, g (ix3 h r j) = pulls v o h r j) (r j : Fin 2048) :
    slopesOf g (weightsOf (scoresOf q k)) (ix3 h r j) = slopes q k v o h r j := by
  rw [slopes_at]
  simp only [weight_at, hg]
  exact passed_eq _ _ (fun j => score_real _ _ (fun _ => hq _) fun _ => hk _) j

/-- A share, as a quotient or as a product. -/
theorem share_at (hq : ∀ i, ∃ x : ℝ, q i = x) (hk : ∀ i, ∃ x : ℝ, k i = x) (t : FVec Ideal S8x2048x2048 .f32)
    (ht : ∀ h r j, t (ix3 h r j) = ∑ l : Fin 2048, weightsOf (scoresOf q k) (ix3 h r l)) (r j : Fin 2048) :
    (Host.divf (weightsOf (scoresOf q k)) t : FVec Ideal S8x2048x2048 .f32) (ix3 h r j) = share (fun j => scores q k h r j) j := by
  show Ideal.div (weightsOf (scoresOf q k) (ix3 h r j)) (t (ix3 h r j)) = _
  rw [ht]
  simp only [weight_at]
  exact (Ideal.mul_one_div (total_ne_zero _ fun j => score_real _ _ (fun _ => hq _) fun _ => hk _)).symm

end entries

variable (m : (ℓ : Loc nD τ sig) → Buf (Elt Ideal) ℓ) (c : Dev nD)

abbrev argQ : FVec Ideal S8x2048x192 .f32 := m ((c.tc : Thread nD τ).loc main_arg0)
abbrev argK : FVec Ideal S8x2048x192 .f32 := m ((c.tc : Thread nD τ).loc main_arg1)
abbrev argV : FVec Ideal S8x2048x128 .f32 := m ((c.tc : Thread nD τ).loc main_arg2)
abbrev argO : FVec Ideal S8x2048x128 .f32 := m ((c.tc : Thread nD τ).loc main_arg3)

theorem entries_rows (hq : ∀ i, ∃ x : ℝ, argQ m c i = x) (hk : ∀ i, ∃ x : ℝ, argK m c i = x) : Value.res_out0 (F := Ideal) m c
    = fun i : S8x2048x192.Idx => entryQ (argQ m c) (argK m c) (argV m c) (argO m c) (i 0) (i 1) (i 2) := by
  funext i
  obtain ⟨h, r, d, rfl⟩ : ∃ (h : Fin 8) (r : Fin 2048) (d : Fin 192), i = ix3 h r d := ⟨i 0, i 1, i 2, funext fun a => by fin_cases a <;> rfl⟩
  unfold Value.res_out0 Value.res_main_v67
  refine (rows_at (slopesOf _ (weightsOf (scoresOf (argQ m c) (argK m c)))) (argK m c) h r d).trans ?_
  exact Finset.sum_congr rfl fun j _ => congrArg (fun z : EReal => z * argK m c (ix3 h j d)) (slope_at _ _ _ _ h hq hk _ (pulls_at (argO m c) (argV m c)) r j)

theorem entries_keys (hq : ∀ i, ∃ x : ℝ, argQ m c i = x) (hk : ∀ i, ∃ x : ℝ, argK m c i = x) : Value.res_out1 (F := Ideal) m c
    = fun i : S8x2048x192.Idx => entryK (argQ m c) (argK m c) (argV m c) (argO m c) (i 0) (i 1) (i 2) := by
  funext i
  obtain ⟨h, j, d, rfl⟩ : ∃ (h : Fin 8) (j : Fin 2048) (d : Fin 192), i = ix3 h j d := ⟨i 0, i 1, i 2, funext fun a => by fin_cases a <;> rfl⟩
  unfold Value.res_out1 Value.res_main_v65
  refine (keys_at (slopesOf _ (weightsOf (scoresOf (argQ m c) (argK m c)))) (argQ m c) h j d).trans ?_
  exact Finset.sum_congr rfl fun r _ => congrArg (fun z : EReal => z * argQ m c (ix3 h r d)) (slope_at _ _ _ _ h hq hk _ (pulls_at (argO m c) (argV m c)) r j)

theorem entries_values (hq : ∀ i, ∃ x : ℝ, argQ m c i = x) (hk : ∀ i, ∃ x : ℝ, argK m c i = x) : Value.res_out2 (F := Ideal) m c
    = fun i : S8x2048x128.Idx => entryV (argQ m c) (argK m c) (argO m c) (i 0) (i 1) (i 2) := by
  funext i
  obtain ⟨h, j, e, rfl⟩ : ∃ (h : Fin 8) (j : Fin 2048) (e : Fin 128), i = ix3 h j e := ⟨i 0, i 1, i 2, funext fun a => by fin_cases a <;> rfl⟩
  unfold Value.res_out2 Value.res_main_v42
  refine (values_at (Host.divf (weightsOf (scoresOf (argQ m c) (argK m c))) _) (argO m c) h j e).trans ?_
  exact Finset.sum_congr rfl fun r _ => (mul_comm _ _).trans (congrArg (fun z : EReal => z * argO m c (ix3 h r e)) (share_at _ _ h hq hk _ (totals_at _) r j))

end Cert.AttentionBackRefIdeal

namespace Cert.Proof

open Idealize.ShloMosaic Idealize.ShloMosaic.TcCoe Idealize.SL.Sem

/-- The call at bits runs, keeps its arguments, and leaves every semaphore at zero. -/
theorem frame_attentionBack : Cert.quiescent_AttentionBack := fun m ρ _ => Cert.AttentionBack.Gen.frame m ρ

/-- The same at the ideal values. -/
theorem frame_attentionBackIdeal : Cert.quiescent_AttentionBackIdeal := fun m ρ _ => Cert.AttentionBackIdeal.Gen.frame m ρ

/-- The plain gradient runs and keeps its arguments. -/
theorem frame_attentionBackRefIdeal : Cert.quiescent_AttentionBackRefIdeal := fun m ρ _ =>
  (θ_run Cert.AttentionBackRefIdeal.defs _ _).mono (fun r h => ⟨fun c => (h c).2.2.2, sem_eq_zero_of_no_sems (by decide) r.2⟩)
    (Cert.AttentionBackRefIdeal.Value.run (F := Ideal) m ρ)

/-- The two frames under the precondition say no more. -/
theorem frame_attentionBackIdeal_tame : Cert.quiescent_AttentionBackIdeal_pre_finite_keys := fun m ρ _ => frame_attentionBackIdeal m ρ trivial
theorem frame_attentionBackRefIdeal_tame : Cert.quiescent_AttentionBackRefIdeal_pre_finite_keys := fun m ρ _ => frame_attentionBackRefIdeal m ρ trivial

/-- The device ends with every entry of the three gradients. -/
theorem algebraic_attentionBack : Cert.algebraic_AttentionBackIdeal_AttentionBackRefIdeal_pre_finite_keys := fun m ρ m' ρ' p h => by
  refine ⟨_, _, _, ?_, Cert.AttentionBackRefIdeal.Value.run (F := Ideal) m' ρ'⟩
  refine (θ_run Cert.AttentionBackIdeal.defs _ _).mono (fun _ hr c => ?_) (Cert.AttentionBackIdeal.Value.run_blocks (F := Ideal) m ρ)
  obtain ⟨a0, a1, a2, a3⟩ := h c
  have hq := Cert.AttentionIdeal.real_of_tame _ (p c).1
  have hk := Cert.AttentionIdeal.real_of_tame _ (p c).2
  rw [← a0] at hq
  rw [← a1] at hk
  refine ⟨(hr c).1.trans ?_, (hr c).2.1.trans ?_, (hr c).2.2.1.trans ?_, (hr c).2.2.2⟩
  · refine (Cert.AttentionBackIdeal.leaves_rows m c).trans (Eq.trans ?_ (Cert.AttentionBackRefIdeal.entries_rows m' c hq hk).symm)
    exact congr (congr (congr (congrArg (fun q k v o => fun i : Cert.AttentionBackIdeal.S8x2048x192.Idx => Cert.AttentionBackIdeal.entryQ q k v o (i 0) (i 1) (i 2))
      a0.symm) a1.symm) a2.symm) a3.symm
  · refine (Cert.AttentionBackIdeal.leaves_keys m c).trans (Eq.trans ?_ (Cert.AttentionBackRefIdeal.entries_keys m' c hq hk).symm)
    exact congr (congr (congr (congrArg (fun q k v o => fun i : Cert.AttentionBackIdeal.S8x2048x192.Idx => Cert.AttentionBackIdeal.entryK q k v o (i 0) (i 1) (i 2))
      a0.symm) a1.symm) a2.symm) a3.symm
  · refine (Cert.AttentionBackIdeal.leaves_values m c).trans (Eq.trans ?_ (Cert.AttentionBackRefIdeal.entries_values m' c hq hk).symm)
    exact congr (congr (congrArg (fun q k o => fun i : Cert.AttentionBackIdeal.S8x2048x128.Idx => Cert.AttentionBackIdeal.entryV q k o (i 0) (i 1) (i 2))
      a0.symm) a1.symm) a3.symm

end Cert.Proof

end
-- ==== Proof.Latent.lean ====
/-
  The attention's norms, projections and rotary positions, on one device: blocks of 256 rows. The cosines, the sines and
  the matrix that copies the keys' rotary to every head are laid out before the call, by plain copies.
-/
module

public import proofs.«01_k».proof.Defs
public import proofs.«01_k».proof.Proof.Gates
public import proofs.«01_k».proof.Proof.Inputs
public import proofs.«01_k».proof.Proof.Gen.Latent.Frame
public import proofs.«01_k».proof.Proof.Gen.LatentIdeal.Value
public import proofs.«01_k».proof.Proof.Gen.LatentRefIdeal.Run
public import Idealize.ShloMosaic.Lib.Pointwise
public import Idealize.ShloMosaic.Lib.KernelVsHost

@[expose] public section

noncomputable section

namespace Cert.LatentIdeal

open Idealize.ShloMosaic Idealize.ShloMosaic.TcCoe Idealize.ShloMosaic.Tactic
open Idealize.SL.Sem
open Cert.PreIdeal (row offset_zero placed)
open Cert.Windows (stays)

/-! ## A row normed and projected, and a pair turned -/

section args

variable {F : FTy → Type} (m : (ℓ : Loc nD τ sig) → Buf (Elt F) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)

end args

/-- What a row of 512 is multiplied by. -/
def scale (x : Fin 512 → EReal) : EReal := FloatOps.rsqrt (F := Ideal) (φ := .f32) (FloatOps.addf (F := Ideal) (φ := .f32)
  (FloatOps.divf (F := Ideal) (φ := .f32) (∑ j : Fin 512, x j * x j) (Scalar.ofBits (F := Ideal) .f32 0x44000000#32))
  (Scalar.ofBits (F := Ideal) .f32 0x358637BD#32))

/-- An entry of a row normed and projected. -/
def proj {B : ℕ} (x : Fin 512 → EReal) (g : FVec Ideal S1x512 .f32) (w : FVec Ideal ⟨2, ![512, B]⟩ .f32) (k : Fin B) : EReal :=
  ∑ j : Fin 512, x j * scale x * g (ix2 0 j) * w (ix2 j k)

/-- A pair's two halves, turned. -/
def near (a b c s : EReal) : EReal := a * c - b * s
def far (a b c s : EReal) : EReal := a * s + b * c

/-- Column `k` from `o` on. -/
def at_ {A B : ℕ} (o : ℕ) (h : o + A ≤ B) (k : Fin A) : Fin B := ⟨o + k.val, by omega⟩

theorem at_at {A B C : ℕ} (o p : ℕ) (h : o + B ≤ C) (h' : p + A ≤ B) (k : Fin A) : at_ o h (at_ p h' k) = at_ (o + p) (by omega) k := Fin.ext (Nat.add_assoc _ _ _).symm

/-- A head's column, in the head. -/
def inHead (k : Fin 256) : Fin 32 := ⟨k.val % 32, Nat.mod_lt _ (by omega)⟩

/-- The rows' queries, and their keys and values. -/
def queryAt (P : FVec Ideal S2048x11008 .f32) (g : FVec Ideal S1x512 .f32) (w : FVec Ideal S512x1536 .f32) (r : Fin 2048) (k : Fin 1536) : EReal :=
  proj (fun j => P (ix2 r (at_ 0 (by omega) j))) g w k
def keyvalAt (P : FVec Ideal S2048x11008 .f32) (g : FVec Ideal S1x512 .f32) (w : FVec Ideal S512x2048 .f32) (r : Fin 2048) (k : Fin 2048) : EReal :=
  proj (fun j => P (ix2 r (at_ 512 (by omega) j))) g w k

/-- The queries' halves turned, and the keys' one turned pair in every head. -/
def turned (f : EReal → EReal → EReal → EReal → EReal) (P : FVec Ideal S2048x11008 .f32) (g : FVec Ideal S1x512 .f32) (w : FVec Ideal S512x1536 .f32) (C S : FVec Ideal S2048x32 .f32) (r : Fin 2048) (k : Fin 256) : EReal :=
  f (queryAt P g w r (at_ 1024 (by omega) k)) (queryAt P g w r (at_ 1280 (by omega) k)) (C (ix2 r (inHead k))) (S (ix2 r (inHead k)))
def turnedKeys (f : EReal → EReal → EReal → EReal → EReal) (P : FVec Ideal S2048x11008 .f32) (C S : FVec Ideal S2048x32 .f32) (r : Fin 2048) (k : Fin 256) : EReal :=
  f (P (ix2 r (at_ 10752 (by omega) (inHead k)))) (P (ix2 r (at_ 10880 (by omega) (inHead k)))) (C (ix2 r (inHead k))) (S (ix2 r (inHead k)))

/-! ## What a block comes to -/

theorem query (x : FVec Ideal S256x512 .f32) (g : FVec Ideal S1x512 .f32) (w : FVec Ideal S512x1536 .f32) (r : Fin 256) (k : Fin 1536) :
    Gen.k0_pay7 (F := Ideal) x g w (ix2 r k) = proj (fun j => x (ix2 r j)) g w k := by
  unfold Gen.k0_pay7 proj scale
  pointwise

theorem keyval (x : FVec Ideal S256x512 .f32) (g : FVec Ideal S1x512 .f32) (w : FVec Ideal S512x2048 .f32) (r : Fin 256) (k : Fin 2048) :
    Gen.k0_pay9 (F := Ideal) x g w (Gen.k0_pay8 x) (ix2 r k) = proj (fun j => x (ix2 r j)) g w k := by
  unfold Gen.k0_pay9 Gen.k0_pay8 proj scale
  pointwise

theorem block12 (q : FVec Ideal S256x1536 .f32) (r : Fin 256) (k : Fin 1024) :
    Gen.k0_pay17 (F := Ideal) q (ix2 r k) = q (ix2 r (at_ 0 (by omega) k)) := by
  unfold Gen.k0_pay17 at_
  pointwise

theorem block13 (q : FVec Ideal S256x1536 .f32) (c s : FVec Ideal S256x256 .f32) (r k : Fin 256) :
    Gen.k0_pay18 (F := Ideal) c s q (ix2 r k) = near (q (ix2 r (at_ 1024 (by omega) k))) (q (ix2 r (at_ 1280 (by omega) k))) (c (ix2 r k)) (s (ix2 r k)) := by
  unfold Gen.k0_pay18 Gen.k0_pay10 Gen.k0_pay11 at_ near
  pointwise

theorem block14 (q : FVec Ideal S256x1536 .f32) (c s : FVec Ideal S256x256 .f32) (r k : Fin 256) :
    Gen.k0_pay19 (F := Ideal) c s q (ix2 r k) = far (q (ix2 r (at_ 1024 (by omega) k))) (q (ix2 r (at_ 1280 (by omega) k))) (c (ix2 r k)) (s (ix2 r k)) := by
  unfold Gen.k0_pay19 Gen.k0_pay10 Gen.k0_pay11 at_ far
  pointwise

theorem block15 (x : FVec Ideal S256x512 .f32) (g : FVec Ideal S1x512 .f32) (w : FVec Ideal S512x2048 .f32) (r : Fin 256) (k : Fin 1024) :
    Gen.k0_pay20 (F := Ideal) x g w (Gen.k0_pay8 x) (ix2 r k) = proj (fun j => x (ix2 r j)) g w (at_ 0 (by omega) k) := by
  refine Eq.trans ?_ (keyval x g w r _)
  unfold Gen.k0_pay20 at_
  generalize Gen.k0_pay9 (F := Ideal) x g w (Gen.k0_pay8 x) = y
  pointwise

theorem block18 (x : FVec Ideal S256x512 .f32) (g : FVec Ideal S1x512 .f32) (w : FVec Ideal S512x2048 .f32) (r : Fin 256) (k : Fin 1024) :
    Gen.k0_pay3 (F := Ideal) (Gen.k0_pay16 x g w (Gen.k0_pay8 x)) (ix2 r k) = proj (fun j => x (ix2 r j)) g w (at_ 1024 (by omega) k) := by
  refine Eq.trans ?_ (keyval x g w r _)
  unfold Gen.k0_pay3 Gen.k0_pay16 at_
  generalize Gen.k0_pay9 (F := Ideal) x g w (Gen.k0_pay8 x) = y
  pointwise

/-- The product with the copying matrix takes one column. -/
theorem picks (f : Fin 128 → EReal) (e : Fin 128 → EReal) (k : Fin 256) (he : ∀ j, e j = if j.val = k.val % 32 then 1 else 0) :
    ∑ j : Fin 128, f j * e j = f (at_ 0 (by omega) (inHead k)) := by
  rw [Finset.sum_eq_single (at_ 0 (by omega) (inHead k) : Fin 128)]
  · rw [he, if_pos, mul_one]
    exact Nat.zero_add _
  · intro j _ hj
    rw [he, if_neg fun h => hj (Fin.ext (h.trans (Nat.zero_add _).symm)), mul_zero]
  · exact fun h => absurd (Finset.mem_univ _) h

/-- The keys' pair at a column, turned. -/
def pairAt (f : EReal → EReal → EReal → EReal → EReal) (x : FVec Ideal S256x256 .f32) (c s : FVec Ideal S256x128 .f32) (r : Fin 256) (j : Fin 128) : EReal :=
  f (x (ix2 r (at_ 0 (by omega) j))) (x (ix2 r (at_ 128 (by omega) j))) (c (ix2 r j)) (s (ix2 r j))

section keys

variable (x : FVec Ideal S256x256 .f32) (c s : FVec Ideal S256x128 .f32) (e : FVec Ideal S128x256 .bf16)
  (he : ∀ (j : Fin 128) (k : Fin 256), e (ix2 j k) = if j.val = k.val % 32 then 1 else 0) (r k : Fin 256)

include he

theorem block16 : Gen.k0_pay1 (F := Ideal) (Gen.k0_pay14 x (Gen.k0_pay4 c) (Gen.k0_pay5 s) (Gen.k0_pay6 e)) (ix2 r k) = pairAt near x c s r (at_ 0 (by omega) (inHead k)) := by
  refine Eq.trans ?_ (picks (pairAt near x c s r) (fun j => e (ix2 j k)) k fun j => he j k)
  unfold Gen.k0_pay1 Gen.k0_pay14 Gen.k0_pay12 Gen.k0_pay13 Gen.k0_pay4 Gen.k0_pay5 Gen.k0_pay6 pairAt near at_
  pointwise

theorem block17 : Gen.k0_pay2 (F := Ideal) (Gen.k0_pay15 x (Gen.k0_pay4 c) (Gen.k0_pay5 s) (Gen.k0_pay6 e)) (ix2 r k) = pairAt far x c s r (at_ 0 (by omega) (inHead k)) := by
  refine Eq.trans ?_ (picks (pairAt far x c s r) (fun j => e (ix2 j k)) k fun j => he j k)
  unfold Gen.k0_pay2 Gen.k0_pay15 Gen.k0_pay12 Gen.k0_pay13 Gen.k0_pay4 Gen.k0_pay5 Gen.k0_pay6 pairAt far at_
  pointwise

end keys

/-! ## The tables -/

/-- Every head's columns the same. -/
theorem tiled {A : ℕ} {α : Type} (x : (⟨2, ![A, 32]⟩ : Shape).Idx → α) (h1 : (⟨2, ![A, 32]⟩ : Shape).ShapeCasts ⟨4, ![1, A, 1, 32]⟩)
    (h2 : (⟨4, ![1, A, 1, 32]⟩ : Shape).BroadcastsInDim ⟨4, ![1, A, 8, 32]⟩ ![0, 1, 2, 3]) (h3 : (⟨4, ![1, A, 8, 32]⟩ : Shape).ShapeCasts ⟨2, ![A, 256]⟩) (hA : A ≠ 1)
    (r : Fin A) (k : Fin 256) :
    shapeCast ⟨2, ![A, 256]⟩ (broadcastInDim ⟨4, ![1, A, 8, 32]⟩ ![0, 1, 2, 3] h2 (shapeCast ⟨4, ![1, A, 1, 32]⟩ x h1)) h3 (ix2 r k) = x (ix2 r (inHead k)) := by
  refine (shapeCast_apply _ _ _ (ix4 (0 : Fin 1) r (⟨k.val / 32, by omega⟩ : Fin 8) (inHead k)) ?_).trans
    ((broadcastInDim_apply _ _ _ _ (ix4 (0 : Fin 1) r (0 : Fin 1) (inHead k)) ?_).trans (shapeCast_apply _ _ _ _ ?_))
  · refine (Shape.rowMajor_val_four _).trans (Eq.trans ?_ (Shape.rowMajor_val_two _).symm)
    show ((0 * A + r.val) * 8 + k.val / 32) * 32 + k.val % 32 = r.val * 256 + k.val
    omega
  · intro a
    match a with
    | ⟨0, _⟩ => rfl
    | ⟨1, _⟩ => show r.val = if A = 1 then 0 else r.val; rw [if_neg hA]
    | ⟨2, _⟩ => rfl
    | ⟨3, _⟩ => rfl
  · refine (Shape.rowMajor_val_two _).trans (Eq.trans ?_ (Shape.rowMajor_val_four _).symm)
    show r.val * 32 + k.val % 32 = ((0 * A + r.val) * 1 + 0) * 32 + k.val % 32
    omega

section tables

variable (m : (ℓ : Loc nD τ sig) → Buf (Elt Ideal) ℓ) (c : Dev nD)

/-- An array with its columns in every head. -/
def perHead (x : FVec Ideal S2048x32 .f32) : FVec Ideal S2048x256 .f32 :=
  shapeCast S2048x256 (broadcastInDim S1x2048x8x32 ![0, 1, 2, 3] Gen.bcast_S1x2048x1x32_S1x2048x8x32_0_1_2_3 (shapeCast S1x2048x1x32 x Gen.shapeCasts_S2048x32_S1x2048x1x32)) Gen.shapeCasts_S1x2048x8x32_S2048x256

theorem table3 (r : Fin 2048) (k : Fin 256) : Gen.V m c main_v2 (ix2 r k) = a5 m c (ix2 r (inHead k)) := by
  have e : Gen.V m c main_v2 = perHead (a5 m c) := by
    unfold Gen.V
    rfl
  exact (congrFun e _).trans (tiled (A := 2048) _ _ _ _ (by omega) r k)

theorem table4 (r : Fin 2048) (k : Fin 256) : Gen.V m c main_v5 (ix2 r k) = a6 m c (ix2 r (inHead k)) := by
  have e : Gen.V m c main_v5 = perHead (a6 m c) := by
    unfold Gen.V
    rfl
  exact (congrFun e _).trans (tiled (A := 2048) _ _ _ _ (by omega) r k)

/-- An array with columns of zeros after its own. -/
def wide (x : FVec Ideal S2048x32 .f32) : FVec Ideal S2048x128 .f32 :=
  pad S2048x128 ![0, 0] ![0, 96] ![0, 0] x (sitofp .f32 (constantI S_ 32 0#32) : FVec Ideal S_ .f32) Gen.pads_S2048x32_S2048x128_000_0960 Gen.h_S_

theorem wide_at (x : FVec Ideal S2048x32 .f32) (r : Fin 2048) (k : Fin 32) : wide x (ix2 r (at_ 0 (by omega) k)) = x (ix2 r k) :=
  pad_apply_of_inside _ _ _ _ _ _ _ _ _ fun a => by
    match a with
    | ⟨0, _⟩ => show r.val = 0 + r.val * (0 + 1); omega
    | ⟨1, _⟩ => show 0 + k.val = 0 + k.val * (0 + 1); omega

theorem table5 (r : Fin 2048) (k : Fin 32) : Gen.V m c main_v6 (ix2 r (at_ 0 (by omega) k)) = a5 m c (ix2 r k) := by
  have e : Gen.V m c main_v6 = wide (a5 m c) := by
    unfold Gen.V
    simp only [Gen.hostOps0, Gen.hostOps0_1, Gen.hostOps0_2, Gen.hostOps0_3, Gen.hostOps0_4, List.flatten_cons, List.flatten_nil, List.cons_append, List.nil_append, List.append_nil, StableHlo.TRef.unary, StableHlo.TRef.binary]
    after_results_simp
    rfl
  exact (congrFun e _).trans (wide_at _ r k)

theorem table6 (r : Fin 2048) (k : Fin 32) : Gen.V m c main_v7 (ix2 r (at_ 0 (by omega) k)) = a6 m c (ix2 r k) := by
  have e : Gen.V m c main_v7 = wide (a6 m c) := by
    unfold Gen.V
    simp only [Gen.hostOps0, Gen.hostOps0_1, Gen.hostOps0_2, Gen.hostOps0_3, Gen.hostOps0_4, List.flatten_cons, List.flatten_nil, List.cons_append, List.nil_append, List.append_nil, StableHlo.TRef.unary, StableHlo.TRef.binary]
    after_results_simp
    rfl
  exact (congrFun e _).trans (wide_at _ r k)

/-- The identity, and zeros below it. -/
def unit : FVec Ideal S128x32 .bf16 :=
  uitofp .bf16 (cmpi .eq (addi (iotaInDim S128x32 32 0) (broadcastInDim S128x32 ![] Gen.bcast_S_S128x32 (constantI S_ 32 0#32))) (iotaInDim S128x32 32 1))

theorem unit_at (j : Fin 128) (k : Fin 32) : unit (ix2 j k) = if j.val = k.val then 1 else 0 := by
  unfold unit
  pointwise
  show ((BitVec.ofBool (BitVec.ofNat 32 j.val + 0#32 == BitVec.ofNat 32 k.val)).toNat : EReal) = _
  rw [BitVec.add_zero]
  by_cases h : j.val = k.val
  · rw [if_pos h, h]; simp
  · rw [if_neg h, beq_eq_false_iff_ne.mpr]
    · simp
    · intro h'
      have := congrArg BitVec.toNat h'
      simp only [BitVec.toNat_ofNat] at this
      omega

theorem table11 (j : Fin 128) (k : Fin 256) : Gen.V m c main_v16 (ix2 j k) = if j.val = k.val % 32 then (1 : EReal) else 0 := by
  have e : Gen.V m c main_v16 = shapeCast S128x256 (broadcastInDim S1x128x8x32 ![0, 1, 2, 3] Gen.bcast_S1x128x1x32_S1x128x8x32_0_1_2_3 (shapeCast S1x128x1x32 unit Gen.shapeCasts_S128x32_S1x128x1x32)) Gen.shapeCasts_S1x128x8x32_S128x256 := by
    unfold Gen.V
    after_results_simp
    rfl
  exact (congrFun e _).trans ((tiled (A := 128) _ _ _ _ (by omega) j k).trans (unit_at j (inHead k)))

end tables

/-! ## What the call reads and writes at a point -/

theorem points (t : Fin cfg0.N) : t.val < 8 := Nat.lt_of_lt_of_eq t.isLt Gen.N_0

/-- Block `t`'s row `r`. -/
abbrev rowAt (t : Fin cfg0.N) (r : Fin 256) : Fin 2048 := row ⟨t.val, points t⟩ r

/-- A matrix known in every block of rows is known. -/
theorem by_rows {B : ℕ} {o : FVec Ideal ⟨2, ![2048, B]⟩ .bf16} {e : (⟨2, ![2048, B]⟩ : Shape).Idx → EReal}
    (h : ∀ (t : Fin cfg0.N) (r : Fin 256) (k : Fin B), o (ix2 (rowAt t r) k) = e (ix2 (rowAt t r) k)) : o = e := by
  funext i
  have hN : cfg0.N = 8 := Gen.N_0
  have hi : (i 0).val < 2048 := (i 0).isLt
  have e1 := h ⟨(i 0).val / 256, by omega⟩ ⟨(i 0).val % 256, Nat.mod_lt _ (by omega)⟩ (i 1)
  have ei : i = ix2 (rowAt ⟨(i 0).val / 256, by omega⟩ ⟨(i 0).val % 256, Nat.mod_lt _ (by omega)⟩) (i 1) := Inputs.at_ix2 (Nat.div_add_mod _ _).symm rfl
  exact (congrArg o ei).trans (e1.trans (congrArg e ei.symm))

theorem cut0 (m : (ℓ : Loc nD τ sig) → Buf (Elt Ideal) ℓ) (c : Dev nD) (t : Fin cfg0.N) (r : Fin 256) (k : Fin 512) :
    Gen.X0_0 m c t (ix2 r k) = a0 m c (ix2 (rowAt t r) (at_ 0 (by omega) k)) := by
  unfold Gen.X0_0 Pipeline.Window.fill
  rw [dif_pos (Gen.moved0_0 t _)]
  exact (congrArg (Gen.V m c main_arg0) (placed (b := 0) (W := 512) (w := win0_0.index) (by decide +kernel) t (points t) r k rfl rfl rfl)).trans (congrFun (Gen.V_main_arg0 m c) _)

theorem cut1 (m : (ℓ : Loc nD τ sig) → Buf (Elt Ideal) ℓ) (c : Dev nD) (t : Fin cfg0.N) (r : Fin 256) (k : Fin 512) :
    Gen.X0_1 m c t (ix2 r k) = a0 m c (ix2 (rowAt t r) (at_ 512 (by omega) k)) := by
  unfold Gen.X0_1 Pipeline.Window.fill
  rw [dif_pos (Gen.moved0_1 t _)]
  exact (congrArg (Gen.V m c main_arg0) (placed (b := 1) (W := 512) (w := win0_1.index) (by decide +kernel) t (points t) r k rfl rfl rfl)).trans (congrFun (Gen.V_main_arg0 m c) _)

theorem cut2 (x : FVec Ideal S2048x11008 .f32) (t : Fin cfg0.N) (r : Fin 256) (k : Fin 256) : ((cfg0.win 2).blk t).view.read (Elt Ideal) x (ix2 r k) = x (ix2 (rowAt t r) (at_ 10752 (by omega) k)) :=
  congrArg x (placed (b := 42) (W := 256) (w := win0_2.index) (by decide +kernel) t (points t) r k rfl rfl rfl)
theorem cut3 (x : FVec Ideal S2048x256 .f32) (t : Fin cfg0.N) (r : Fin 256) (k : Fin 256) : ((cfg0.win 3).blk t).view.read (Elt Ideal) x (ix2 r k) = x (ix2 (rowAt t r) k) :=
  congrArg x (placed (b := 0) (W := 256) (w := win0_3.index) (by decide +kernel) t (points t) r k rfl rfl (Nat.zero_add _))
theorem cut4 (x : FVec Ideal S2048x256 .f32) (t : Fin cfg0.N) (r : Fin 256) (k : Fin 256) : ((cfg0.win 4).blk t).view.read (Elt Ideal) x (ix2 r k) = x (ix2 (rowAt t r) k) :=
  congrArg x (placed (b := 0) (W := 256) (w := win0_4.index) (by decide +kernel) t (points t) r k rfl rfl (Nat.zero_add _))
theorem cut5 (x : FVec Ideal S2048x128 .f32) (t : Fin cfg0.N) (r : Fin 256) (k : Fin 128) : ((cfg0.win 5).blk t).view.read (Elt Ideal) x (ix2 r k) = x (ix2 (rowAt t r) k) :=
  congrArg x (placed (b := 0) (W := 128) (w := win0_5.index) (by decide +kernel) t (points t) r k rfl rfl (Nat.zero_add _))
theorem cut6 (x : FVec Ideal S2048x128 .f32) (t : Fin cfg0.N) (r : Fin 256) (k : Fin 128) : ((cfg0.win 6).blk t).view.read (Elt Ideal) x (ix2 r k) = x (ix2 (rowAt t r) k) :=
  congrArg x (placed (b := 0) (W := 128) (w := win0_6.index) (by decide +kernel) t (points t) r k rfl rfl (Nat.zero_add _))
theorem cut12 (x : FVec Ideal S2048x1024 .bf16) (t : Fin cfg0.N) (r : Fin 256) (k : Fin 1024) : ((cfg0.win 12).blk t).view.read (Elt Ideal) x (ix2 r k) = x (ix2 (rowAt t r) k) :=
  congrArg x (placed (b := 0) (W := 1024) (w := win0_12.index) (by decide +kernel) t (points t) r k rfl rfl (Nat.zero_add _))
theorem cut13 (x : FVec Ideal S2048x256 .bf16) (t : Fin cfg0.N) (r : Fin 256) (k : Fin 256) : ((cfg0.win 13).blk t).view.read (Elt Ideal) x (ix2 r k) = x (ix2 (rowAt t r) k) :=
  congrArg x (placed (b := 0) (W := 256) (w := win0_13.index) (by decide +kernel) t (points t) r k rfl rfl (Nat.zero_add _))
theorem cut14 (x : FVec Ideal S2048x256 .bf16) (t : Fin cfg0.N) (r : Fin 256) (k : Fin 256) : ((cfg0.win 14).blk t).view.read (Elt Ideal) x (ix2 r k) = x (ix2 (rowAt t r) k) :=
  congrArg x (placed (b := 0) (W := 256) (w := win0_14.index) (by decide +kernel) t (points t) r k rfl rfl (Nat.zero_add _))
theorem cut15 (x : FVec Ideal S2048x1024 .bf16) (t : Fin cfg0.N) (r : Fin 256) (k : Fin 1024) : ((cfg0.win 15).blk t).view.read (Elt Ideal) x (ix2 r k) = x (ix2 (rowAt t r) k) :=
  congrArg x (placed (b := 0) (W := 1024) (w := win0_15.index) (by decide +kernel) t (points t) r k rfl rfl (Nat.zero_add _))
theorem cut16 (x : FVec Ideal S2048x256 .bf16) (t : Fin cfg0.N) (r : Fin 256) (k : Fin 256) : ((cfg0.win 16).blk t).view.read (Elt Ideal) x (ix2 r k) = x (ix2 (rowAt t r) k) :=
  congrArg x (placed (b := 0) (W := 256) (w := win0_16.index) (by decide +kernel) t (points t) r k rfl rfl (Nat.zero_add _))
theorem cut17 (x : FVec Ideal S2048x256 .bf16) (t : Fin cfg0.N) (r : Fin 256) (k : Fin 256) : ((cfg0.win 17).blk t).view.read (Elt Ideal) x (ix2 r k) = x (ix2 (rowAt t r) k) :=
  congrArg x (placed (b := 0) (W := 256) (w := win0_17.index) (by decide +kernel) t (points t) r k rfl rfl (Nat.zero_add _))
theorem cut18 (x : FVec Ideal S2048x1024 .bf16) (t : Fin cfg0.N) (r : Fin 256) (k : Fin 1024) : ((cfg0.win 18).blk t).view.read (Elt Ideal) x (ix2 r k) = x (ix2 (rowAt t r) k) :=
  congrArg x (placed (b := 0) (W := 1024) (w := win0_18.index) (by decide +kernel) t (points t) r k rfl rfl (Nat.zero_add _))
theorem whole7 (x : FVec Ideal S1x512 .f32) (t : Fin cfg0.N) : ((cfg0.win 7).blk t).view.read (Elt Ideal) x = x :=
  funext fun j => congrArg x (stays (w := win0_7.index) (by decide +kernel) t rfl rfl)
theorem whole8 (x : FVec Ideal S1x512 .f32) (t : Fin cfg0.N) : ((cfg0.win 8).blk t).view.read (Elt Ideal) x = x :=
  funext fun j => congrArg x (stays (w := win0_8.index) (by decide +kernel) t rfl rfl)
theorem whole9 (x : FVec Ideal S512x1536 .f32) (t : Fin cfg0.N) : ((cfg0.win 9).blk t).view.read (Elt Ideal) x = x :=
  funext fun j => congrArg x (stays (w := win0_9.index) (by decide +kernel) t rfl rfl)
theorem whole10 (x : FVec Ideal S512x2048 .f32) (t : Fin cfg0.N) : ((cfg0.win 10).blk t).view.read (Elt Ideal) x = x :=
  funext fun j => congrArg x (stays (w := win0_10.index) (by decide +kernel) t rfl rfl)
theorem whole11 (x : FVec Ideal S128x256 .bf16) (t : Fin cfg0.N) : ((cfg0.win 11).blk t).view.read (Elt Ideal) x = x :=
  funext fun j => congrArg x (stays (w := win0_11.index) (by decide +kernel) t rfl rfl)

section stores

variable {F : FTy → Type} [FloatOps F] (m : (ℓ : Loc nD τ sig) → Buf (Elt F) ℓ) (c : Dev nD) (t : Fin cfg0.N)

/-- A block's queries. -/
abbrev queriesOf : FVec F S256x1536 .f32 := Gen.k0_pay7 (Gen.X0_0 m c t) (Gen.iblk m c 7 t) (Gen.iblk m c 9 t)

theorem stores : (Gen.dats m 0 c).flushed 12 t = (cfg0.win 12).cut (grid0.coords t) (Gen.k0_pay17 (queriesOf m c t))
    ∧ (Gen.dats m 0 c).flushed 13 t = (cfg0.win 13).cut (grid0.coords t) (Gen.k0_pay18 (Gen.iblk m c 3 t) (Gen.iblk m c 4 t) (queriesOf m c t))
    ∧ (Gen.dats m 0 c).flushed 14 t = (cfg0.win 14).cut (grid0.coords t) (Gen.k0_pay19 (Gen.iblk m c 3 t) (Gen.iblk m c 4 t) (queriesOf m c t))
    ∧ (Gen.dats m 0 c).flushed 15 t = (cfg0.win 15).cut (grid0.coords t) (Gen.k0_pay20 (Gen.X0_1 m c t) (Gen.iblk m c 8 t) (Gen.iblk m c 10 t) (Gen.k0_pay8 (Gen.X0_1 m c t)))
    ∧ (Gen.dats m 0 c).flushed 16 t = (cfg0.win 16).cut (grid0.coords t) (Gen.k0_pay1 (Gen.k0_pay14 (Gen.iblk m c 2 t) (Gen.k0_pay4 (Gen.iblk m c 5 t)) (Gen.k0_pay5 (Gen.iblk m c 6 t)) (Gen.k0_pay6 (Gen.iblk m c 11 t))))
    ∧ (Gen.dats m 0 c).flushed 17 t = (cfg0.win 17).cut (grid0.coords t) (Gen.k0_pay2 (Gen.k0_pay15 (Gen.iblk m c 2 t) (Gen.k0_pay4 (Gen.iblk m c 5 t)) (Gen.k0_pay5 (Gen.iblk m c 6 t)) (Gen.k0_pay6 (Gen.iblk m c 11 t))))
    ∧ (Gen.dats m 0 c).flushed 18 t = (cfg0.win 18).cut (grid0.coords t) (Gen.k0_pay3 (Gen.k0_pay16 (Gen.X0_1 m c t) (Gen.iblk m c 8 t) (Gen.iblk m c 10 t) (Gen.k0_pay8 (Gen.X0_1 m c t)))) := by
  refine ⟨(Value.flushed12_A m c t).trans (congrArg _ ?_), (Value.flushed13_A m c t).trans (congrArg _ ?_), (Value.flushed14_A m c t).trans (congrArg _ ?_), (Value.flushed15_A m c t).trans (congrArg _ ?_), (Value.flushed16_A m c t).trans (congrArg _ ?_), (Value.flushed17_A m c t).trans (congrArg _ ?_), (Value.flushed18_A m c t).trans (congrArg _ ?_)⟩
  all_goals first
    | unfold Gen.out0_A_12; rw [View.read_writes_eq_canon _ _ _ (fun y => Gen.cover0_A_12 (y := y) ..)]
    | unfold Gen.out0_A_13; rw [View.read_writes_eq_canon _ _ _ (fun y => Gen.cover0_A_13 (y := y) ..)]
    | unfold Gen.out0_A_14; rw [View.read_writes_eq_canon _ _ _ (fun y => Gen.cover0_A_14 (y := y) ..)]
    | unfold Gen.out0_A_15; rw [View.read_writes_eq_canon _ _ _ (fun y => Gen.cover0_A_15 (y := y) ..)]
    | unfold Gen.out0_A_16; rw [View.read_writes_eq_canon _ _ _ (fun y => Gen.cover0_A_16 (y := y) ..)]
    | unfold Gen.out0_A_17; rw [View.read_writes_eq_canon _ _ _ (fun y => Gen.cover0_A_17 (y := y) ..)]
    | unfold Gen.out0_A_18; rw [View.read_writes_eq_canon _ _ _ (fun y => Gen.cover0_A_18 (y := y) ..)]
  all_goals
    unfold Gen.kernelRun0_A
    dsimp only
    sl_unfold_words
    rw [View.canon_unit_zero offset_zero]
    simp only [View.readAt_eq_ld, (Gen.hs0_0 t).read_unread, (Gen.hs0_1 t).read_unread, (Gen.hs0_2 t).read_unread, (Gen.hs0_3 t).read_unread, (Gen.hs0_4 t).read_unread, (Gen.hs0_5 t).read_unread, (Gen.hs0_6 t).read_unread, (Gen.hs0_7 t).read_unread, (Gen.hs0_8 t).read_unread, (Gen.hs0_9 t).read_unread, (Gen.hs0_10 t).read_unread, (Gen.hs0_11 t).read_unread, View.ld_unit_zero (S := S256x512) offset_zero, View.ld_unit_zero (S := S256x256) offset_zero, View.ld_unit_zero (S := S256x128) offset_zero, View.ld_unit_zero (S := S1x512) offset_zero, View.ld_unit_zero (S := S512x1536) offset_zero, View.ld_unit_zero (S := S512x2048) offset_zero, View.ld_unit_zero (S := S128x256) offset_zero]

end stores

section leaves

variable (m : (ℓ : Loc nD τ sig) → Buf (Elt Ideal) ℓ) (c : Dev nD)

theorem query_at (t : Fin cfg0.N) (r : Fin 256) (k : Fin 1536) : queriesOf m c t (ix2 r k)
    = queryAt (a0 m c) (a1 m c) (a3 m c) (rowAt t r) k := by
  unfold queriesOf
  rw [show Gen.iblk m c 7 t = (a1 m c) from (whole7 _ t).trans (Gen.V_main_arg1 m c), show Gen.iblk m c 9 t = (a3 m c) from (whole9 _ t).trans (Gen.V_main_arg3 m c)]
  exact (query _ _ _ r k).trans (congrArg (fun f => proj f _ _ k) (funext fun j => cut0 m c t r j))

theorem keyval_at (t : Fin cfg0.N) (r : Fin 256) (k : Fin 2048) : proj (fun j => Gen.X0_1 m c t (ix2 r j)) (Gen.iblk m c 8 t) (Gen.iblk m c 10 t) k
    = keyvalAt (a0 m c) (a2 m c) (a4 m c) (rowAt t r) k := by
  rw [show Gen.iblk m c 8 t = (a2 m c) from (whole8 _ t).trans (Gen.V_main_arg2 m c), show Gen.iblk m c 10 t = (a4 m c) from (whole10 _ t).trans (Gen.V_main_arg4 m c)]
  exact congrArg (fun f => proj f _ _ k) (funext fun j => cut1 m c t r j)

theorem cos_at (t : Fin cfg0.N) (r k : Fin 256) : Gen.iblk m c 3 t (ix2 r k) = (a5 m c) (ix2 (rowAt t r) (inHead k)) := (cut3 _ t r k).trans (table3 m c _ k)
theorem sin_at (t : Fin cfg0.N) (r k : Fin 256) : Gen.iblk m c 4 t (ix2 r k) = (a6 m c) (ix2 (rowAt t r) (inHead k)) := (cut4 _ t r k).trans (table4 m c _ k)
theorem keyCos_at (t : Fin cfg0.N) (r : Fin 256) (k : Fin 32) : Gen.iblk m c 5 t (ix2 r (at_ 0 (by omega) k)) = (a5 m c) (ix2 (rowAt t r) k) := (cut5 _ t r _).trans (table5 m c _ k)
theorem keySin_at (t : Fin cfg0.N) (r : Fin 256) (k : Fin 32) : Gen.iblk m c 6 t (ix2 r (at_ 0 (by omega) k)) = (a6 m c) (ix2 (rowAt t r) k) := (cut6 _ t r _).trans (table6 m c _ k)
theorem copies_at (t : Fin cfg0.N) (j : Fin 128) (k : Fin 256) : Gen.iblk m c 11 t (ix2 j k) = if j.val = k.val % 32 then (1 : EReal) else 0 :=
  (congrFun (whole11 (Gen.V m c main_v16) t) _).trans (table11 m c j k)
theorem key_at (t : Fin cfg0.N) (r k : Fin 256) : Gen.iblk m c 2 t (ix2 r k) = (a0 m c) (ix2 (rowAt t r) (at_ 10752 (by omega) k)) := (cut2 _ t r k).trans (congrFun (Gen.V_main_arg0 m c) _)

theorem leaves12 : (Gen.dats m 0 c).arrAt 12 cfg0.N = fun i : S2048x1024.Idx => queryAt (a0 m c) (a1 m c) (a3 m c) (i 0) (at_ (A := 1024) 0 (by omega) (i 1)) := by
  refine by_rows fun t r k => (cut12 _ t r k).symm.trans ((congrFun ((Value.blocks12 m c t (Gen.flush0_12 t)).trans (stores m c t).1) (ix2 r k)).trans ?_)
  exact (block12 _ r k).trans (query_at m c t r _)

theorem leaves13 : (Gen.dats m 0 c).arrAt 13 cfg0.N = fun i : S2048x256.Idx => turned near (a0 m c) (a1 m c) (a3 m c) (a5 m c) (a6 m c) (i 0) (i 1) := by
  refine by_rows fun t r k => (cut13 _ t r k).symm.trans ((congrFun ((Value.blocks13 m c t (Gen.flush0_13 t)).trans (stores m c t).2.1) (ix2 r k)).trans ?_)
  refine (block13 _ _ _ r k).trans ?_
  rw [query_at m c t r, query_at m c t r, cos_at m c t r k, sin_at m c t r k]
  rfl

theorem leaves14 : (Gen.dats m 0 c).arrAt 14 cfg0.N = fun i : S2048x256.Idx => turned far (a0 m c) (a1 m c) (a3 m c) (a5 m c) (a6 m c) (i 0) (i 1) := by
  refine by_rows fun t r k => (cut14 _ t r k).symm.trans ((congrFun ((Value.blocks14 m c t (Gen.flush0_14 t)).trans (stores m c t).2.2.1) (ix2 r k)).trans ?_)
  refine (block14 _ _ _ r k).trans ?_
  rw [query_at m c t r, query_at m c t r, cos_at m c t r k, sin_at m c t r k]
  rfl

theorem leaves15 : (Gen.dats m 0 c).arrAt 15 cfg0.N = fun i : S2048x1024.Idx => keyvalAt (a0 m c) (a2 m c) (a4 m c) (i 0) (at_ (A := 1024) 0 (by omega) (i 1)) := by
  refine by_rows fun t r k => (cut15 _ t r k).symm.trans ((congrFun ((Value.blocks15 m c t (Gen.flush0_15 t)).trans (stores m c t).2.2.2.1) (ix2 r k)).trans ?_)
  exact (block15 _ _ _ r k).trans (keyval_at m c t r _)

theorem leaves16 : (Gen.dats m 0 c).arrAt 16 cfg0.N = fun i : S2048x256.Idx => turnedKeys near (a0 m c) (a5 m c) (a6 m c) (i 0) (i 1) := by
  refine by_rows fun t r k => (cut16 _ t r k).symm.trans ((congrFun ((Value.blocks16 m c t (Gen.flush0_16 t)).trans (stores m c t).2.2.2.2.1) (ix2 r k)).trans ?_)
  refine (block16 _ _ _ _ (copies_at m c t) r k).trans ?_
  unfold pairAt
  rw [key_at m c t r, key_at m c t r, keyCos_at m c t r, keySin_at m c t r, at_at, at_at, at_at, at_at]
  rfl

theorem leaves17 : (Gen.dats m 0 c).arrAt 17 cfg0.N = fun i : S2048x256.Idx => turnedKeys far (a0 m c) (a5 m c) (a6 m c) (i 0) (i 1) := by
  refine by_rows fun t r k => (cut17 _ t r k).symm.trans ((congrFun ((Value.blocks17 m c t (Gen.flush0_17 t)).trans (stores m c t).2.2.2.2.2.1) (ix2 r k)).trans ?_)
  refine (block17 _ _ _ _ (copies_at m c t) r k).trans ?_
  unfold pairAt
  rw [key_at m c t r, key_at m c t r, keyCos_at m c t r, keySin_at m c t r, at_at, at_at, at_at, at_at]
  rfl

theorem leaves18 : (Gen.dats m 0 c).arrAt 18 cfg0.N = fun i : S2048x1024.Idx => keyvalAt (a0 m c) (a2 m c) (a4 m c) (i 0) (at_ (A := 1024) 1024 (by omega) (i 1)) := by
  refine by_rows fun t r k => (cut18 _ t r k).symm.trans ((congrFun ((Value.blocks18 m c t (Gen.flush0_18 t)).trans (stores m c t).2.2.2.2.2.2) (ix2 r k)).trans ?_)
  exact (block18 _ _ _ r k).trans (keyval_at m c t r _)

end leaves

end Cert.LatentIdeal

namespace Cert.LatentRefIdeal

open Idealize.ShloMosaic Idealize.ShloMosaic.TcCoe Idealize.ShloMosaic.Tactic
open Cert.LatentRefIdeal.Gen
open Cert.LatentIdeal (at_ inHead near far proj queryAt keyvalAt turned turnedKeys)

/-! ## The reference, entry by entry -/

variable (P : FVec Ideal S2048x11008 .f32) (g : FVec Ideal S1x512 .f32) (wq : FVec Ideal S512x1536 .f32) (wkv : FVec Ideal S512x2048 .f32) (C S : FVec Ideal S2048x32 .f32)

/-- Rows of 512, normed. -/
def normed (x : FVec Ideal S2048x512 .f32) : FVec Ideal S2048x512 .f32 :=
  mulf (mulf x (broadcastInDim S2048x512 ![0, 1] bcast_S2048x1_S2048x512_0_1 (Host.rsqrt (addf (Host.divf (broadcastInDim S2048x1 ![0] bcast_S2048_S2048x1_0 (Host.reduceAdd (mulf x x) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x358637BD#32)))))) (broadcastInDim S2048x512 ![0, 1] bcast_S1x512_S2048x512_0_1 g)

theorem normed_at (x : FVec Ideal S2048x512 .f32) (r : Fin 2048) (j : Fin 512) :
    normed g x (ix2 r j) = x (ix2 r j) * Cert.LatentIdeal.scale (fun j => x (ix2 r j)) * g (ix2 0 j) := by
  unfold normed Cert.LatentIdeal.scale
  pointwise

/-- The queries, and the keys and the values. -/
def queries : FVec Ideal S2048x1536 .f32 := Host.dotGeneral dot_S2048x512_S512x1536_S2048x1536_1_0_0_1_n_n none (normed g (extractStridedSlice S2048x512 ![0, 0] P slices_S2048x11008_S2048x512_0_0)) wq
def keyvals : FVec Ideal S2048x2048 .f32 := Host.dotGeneral dot_S2048x512_S512x2048_S2048x2048_1_0_0_1_n_n none (normed g (extractStridedSlice S2048x512 ![0, 512] P slices_S2048x11008_S2048x512_0_512)) wkv

theorem slice0 (r : Fin 2048) (j : Fin 512) : extractStridedSlice S2048x512 ![0, 0] P slices_S2048x11008_S2048x512_0_0 (ix2 r j) = P (ix2 r (at_ 0 (by omega) j)) := by
  unfold at_
  pointwise

theorem slice512 (r : Fin 2048) (j : Fin 512) : extractStridedSlice S2048x512 ![0, 512] P slices_S2048x11008_S2048x512_0_512 (ix2 r j) = P (ix2 r (at_ 512 (by omega) j)) := by
  unfold at_
  pointwise

theorem queries_at (r : Fin 2048) (k : Fin 1536) : queries P g wq (ix2 r k) = queryAt P g wq r k := by
  have e : ∀ x : FVec Ideal S2048x512 .f32, (Host.dotGeneral dot_S2048x512_S512x1536_S2048x1536_1_0_0_1_n_n none x wq : FVec Ideal S2048x1536 .f32) (ix2 r k) = ∑ j : Fin 512, x (ix2 r j) * wq (ix2 j k) := fun x => by pointwise
  refine (e _).trans ?_
  unfold queryAt proj
  simp only [normed_at, slice0]

theorem keyvals_at (r : Fin 2048) (k : Fin 2048) : keyvals P g wkv (ix2 r k) = keyvalAt P g wkv r k := by
  have e : ∀ x : FVec Ideal S2048x512 .f32, (Host.dotGeneral dot_S2048x512_S512x2048_S2048x2048_1_0_0_1_n_n none x wkv : FVec Ideal S2048x2048 .f32) (ix2 r k) = ∑ j : Fin 512, x (ix2 r j) * wkv (ix2 j k) := fun x => by pointwise
  refine (e _).trans ?_
  unfold keyvalAt proj
  simp only [normed_at, slice512]

/-- A row's columns and its heads. -/
theorem flat_at (y : FVec Ideal S2048x8x32 .f32) (r : Fin 2048) (k : Fin 256) :
    shapeCast S2048x256 y shapeCasts_S2048x8x32_S2048x256 (ix2 r k) = y (ix3 r (⟨k.val / 32, by omega⟩ : Fin 8) (inHead k)) := by
  refine shapeCast_apply _ _ _ _ ((Shape.rowMajor_val_three _).trans (Eq.trans ?_ (Shape.rowMajor_val_two _).symm))
  show (r.val * 8 + k.val / 32) * 32 + k.val % 32 = r.val * 256 + k.val
  omega

theorem heads_at (x : FVec Ideal S2048x256 .f32) (r : Fin 2048) (k : Fin 256) :
    shapeCast S2048x8x32 x shapeCasts_S2048x256_S2048x8x32 (ix3 r (⟨k.val / 32, by omega⟩ : Fin 8) (inHead k)) = x (ix2 r k) := by
  refine shapeCast_apply _ _ _ _ ((Shape.rowMajor_val_two _).trans (Eq.trans ?_ (Shape.rowMajor_val_three _).symm))
  show r.val * 256 + k.val = (r.val * 8 + k.val / 32) * 32 + k.val % 32
  omega

/-- A row in every head. -/
def copied (x : FVec Ideal S2048x32 .f32) : FVec Ideal S2048x8x32 .f32 :=
  broadcastInDim S2048x8x32 ![0, 1, 2] bcast_S2048x1x32_S2048x8x32_0_1_2 (broadcastInDim S2048x1x32 ![0, 2] bcast_S2048x32_S2048x1x32_0_2 x)

theorem copied_at (x : FVec Ideal S2048x32 .f32) (r : Fin 2048) (h : Fin 8) (k : Fin 32) : copied x (ix3 r h k) = x (ix2 r k) := by
  unfold copied
  pointwise

/-- The queries' two halves, by heads. -/
def firsts (q : FVec Ideal S2048x1536 .f32) : FVec Ideal S2048x8x32 .f32 :=
  shapeCast _ (extractStridedSlice S2048x256 ![0, 1024] q slices_S2048x1536_S2048x256_0_1024) shapeCasts_S2048x256_S2048x8x32
def seconds (q : FVec Ideal S2048x1536 .f32) : FVec Ideal S2048x8x32 .f32 :=
  shapeCast _ (extractStridedSlice S2048x256 ![0, 1280] q slices_S2048x1536_S2048x256_0_1280) shapeCasts_S2048x256_S2048x8x32

theorem first (q : FVec Ideal S2048x1536 .f32) (r : Fin 2048) (k : Fin 256) : firsts q (ix3 r (⟨k.val / 32, by omega⟩ : Fin 8) (inHead k)) = q (ix2 r (at_ 1024 (by omega) k)) := by
  refine (heads_at _ r k).trans ?_
  unfold at_
  pointwise

theorem second (q : FVec Ideal S2048x1536 .f32) (r : Fin 2048) (k : Fin 256) : seconds q (ix3 r (⟨k.val / 32, by omega⟩ : Fin 8) (inHead k)) = q (ix2 r (at_ 1280 (by omega) k)) := by
  refine (heads_at _ r k).trans ?_
  unfold at_
  pointwise

theorem keyFirst (r : Fin 2048) (k : Fin 32) : extractStridedSlice S2048x32 ![0, 10752] P slices_S2048x11008_S2048x32_0_10752 (ix2 r k) = P (ix2 r (at_ 10752 (by omega) k)) := by
  unfold at_
  pointwise

theorem keySecond (r : Fin 2048) (k : Fin 32) : extractStridedSlice S2048x32 ![0, 10880] P slices_S2048x11008_S2048x32_0_10880 (ix2 r k) = P (ix2 r (at_ 10880 (by omega) k)) := by
  unfold at_
  pointwise

theorem by_ix2 {B : ℕ} {o : FVec Ideal ⟨2, ![2048, B]⟩ .bf16} {e : (⟨2, ![2048, B]⟩ : Shape).Idx → EReal} (h : ∀ r k, o (ix2 r k) = e (ix2 r k)) : o = e :=
  funext fun i => have ei : i = ix2 (i 0) (i 1) := Inputs.at_ix2 rfl rfl
    (congrArg o ei).trans ((h _ _).trans (congrArg e ei.symm))

theorem entries59 : (truncf .bf16 (extractStridedSlice S2048x1024 ![0, 0] (queries P g wq) slices_S2048x1536_S2048x1024_0_0) bitsLt_bf16_f32 : FVec Ideal S2048x1024 .bf16)
    = fun i => queryAt P g wq (i 0) (at_ (A := 1024) 0 (by omega) (i 1)) :=
  by_ix2 fun r k => by
    show _ = queryAt P g wq r (at_ 0 (by omega) k)
    rw [← queries_at]
    generalize queries P g wq = q
    unfold at_
    pointwise

theorem entries65 : (truncf .bf16 (extractStridedSlice S2048x1024 ![0, 0] (keyvals P g wkv) slices_S2048x2048_S2048x1024_0_0) bitsLt_bf16_f32 : FVec Ideal S2048x1024 .bf16)
    = fun i => keyvalAt P g wkv (i 0) (at_ (A := 1024) 0 (by omega) (i 1)) :=
  by_ix2 fun r k => by
    show _ = keyvalAt P g wkv r (at_ 0 (by omega) k)
    rw [← keyvals_at]
    generalize keyvals P g wkv = q
    unfold at_
    pointwise

theorem entries71 : (truncf .bf16 (extractStridedSlice S2048x1024 ![0, 1024] (keyvals P g wkv) slices_S2048x2048_S2048x1024_0_1024) bitsLt_bf16_f32 : FVec Ideal S2048x1024 .bf16)
    = fun i => keyvalAt P g wkv (i 0) (at_ (A := 1024) 1024 (by omega) (i 1)) :=
  by_ix2 fun r k => by
    show _ = keyvalAt P g wkv r (at_ 1024 (by omega) k)
    rw [← keyvals_at]
    generalize keyvals P g wkv = q
    unfold at_
    pointwise

theorem entries61 : (truncf .bf16 (shapeCast _ (subf (mulf (firsts (queries P g wq)) (copied C)) (mulf (seconds (queries P g wq)) (copied S))) shapeCasts_S2048x8x32_S2048x256) bitsLt_bf16_f32 : FVec Ideal S2048x256 .bf16)
    = fun i => turned near P g wq C S (i 0) (i 1) :=
  by_ix2 fun r k => by
    have e : ∀ (a b c s : FVec Ideal S2048x8x32 .f32) (i : S2048x8x32.Idx), subf (mulf a c) (mulf b s) i = near (a i) (b i) (c i) (s i) := fun _ _ _ _ _ => rfl
    refine (flat_at _ r k).trans ((e _ _ (copied C) (copied S) _).trans ?_)
    rw [first, second, copied_at, copied_at, queries_at, queries_at]
    rfl

theorem entries63 : (truncf .bf16 (shapeCast _ (addf (mulf (firsts (queries P g wq)) (copied S)) (mulf (seconds (queries P g wq)) (copied C))) shapeCasts_S2048x8x32_S2048x256) bitsLt_bf16_f32 : FVec Ideal S2048x256 .bf16)
    = fun i => turned far P g wq C S (i 0) (i 1) :=
  by_ix2 fun r k => by
    have e : ∀ (a b c s : FVec Ideal S2048x8x32 .f32) (i : S2048x8x32.Idx), addf (mulf a s) (mulf b c) i = far (a i) (b i) (c i) (s i) := fun _ _ _ _ _ => rfl
    refine (flat_at _ r k).trans ((e _ _ (copied C) (copied S) _).trans ?_)
    rw [first, second, copied_at, copied_at, queries_at, queries_at]
    rfl

theorem entries67 : (truncf .bf16 (shapeCast _ (copied (subf (mulf (extractStridedSlice S2048x32 ![0, 10752] P slices_S2048x11008_S2048x32_0_10752) C) (mulf (extractStridedSlice S2048x32 ![0, 10880] P slices_S2048x11008_S2048x32_0_10880) S))) shapeCasts_S2048x8x32_S2048x256) bitsLt_bf16_f32 : FVec Ideal S2048x256 .bf16)
    = fun i => turnedKeys near P C S (i 0) (i 1) :=
  by_ix2 fun r k => by
    have e : ∀ (a b : FVec Ideal S2048x32 .f32) (i : S2048x32.Idx), subf (mulf a C) (mulf b S) i = near (a i) (b i) (C i) (S i) := fun _ _ _ => rfl
    refine (flat_at _ r k).trans ((copied_at _ r _ _).trans ((e _ _ _).trans ?_))
    rw [keyFirst, keySecond]
    rfl

theorem entries69 : (truncf .bf16 (shapeCast _ (copied (addf (mulf (extractStridedSlice S2048x32 ![0, 10752] P slices_S2048x11008_S2048x32_0_10752) S) (mulf (extractStridedSlice S2048x32 ![0, 10880] P slices_S2048x11008_S2048x32_0_10880) C))) shapeCasts_S2048x8x32_S2048x256) bitsLt_bf16_f32 : FVec Ideal S2048x256 .bf16)
    = fun i => turnedKeys far P C S (i 0) (i 1) :=
  by_ix2 fun r k => by
    have e : ∀ (a b : FVec Ideal S2048x32 .f32) (i : S2048x32.Idx), addf (mulf a S) (mulf b C) i = far (a i) (b i) (C i) (S i) := fun _ _ _ => rfl
    refine (flat_at _ r k).trans ((copied_at _ r _ _).trans ((e _ _ _).trans ?_))
    rw [keyFirst, keySecond]
    rfl

end Cert.LatentRefIdeal

namespace Cert.Proof

open Idealize.ShloMosaic Idealize.ShloMosaic.TcCoe Idealize.SL.Sem
open Cert.LatentRefIdeal

/-- The call at bits runs, keeps its arguments, and leaves every semaphore at zero. -/
theorem frame_latent : Cert.quiescent_Latent := fun m ρ _ => Cert.Latent.Gen.frame m ρ

/-- The same at the ideal values. -/
theorem frame_latentIdeal : Cert.quiescent_LatentIdeal := fun m ρ _ => Cert.LatentIdeal.Gen.frame m ρ

/-- The plain lines run and keep their arguments. -/
theorem frame_latentRefIdeal : Cert.quiescent_LatentRefIdeal := fun m ρ _ =>
  (θ_run Cert.LatentRefIdeal.defs _ _).mono (fun r h => ⟨fun c => (h c).2.2.2.2.2.2.2, sem_eq_zero_of_no_sems (by decide) r.2⟩)
    (Cert.LatentRefIdeal.Value.run (F := Ideal) m ρ)

/-- The device ends with the queries, the keys and the values, the rotary halves turned. -/
theorem algebraic_latent : Cert.algebraic_LatentIdeal_LatentRefIdeal := fun m ρ m' ρ' _ h => by
  refine ⟨_, _, _, _, _, _, _, ?_, (θ_run Cert.LatentRefIdeal.defs _ _).mono (fun _ hr c => by
    obtain ⟨e0, e1, e2, e3, e4, e5, e6, kept⟩ := hr c
    exact ⟨e0.trans (entries59 _ _ _), e1.trans (entries61 _ _ _ _ _), e2.trans (entries63 _ _ _ _ _), e3.trans (entries65 _ _ _), e4.trans (entries67 _ _ _), e5.trans (entries69 _ _ _), e6.trans (entries71 _ _ _), kept⟩)
    (Cert.LatentRefIdeal.Value.run (F := Ideal) m' ρ')⟩
  refine (θ_run Cert.LatentIdeal.defs _ _).mono (fun _ hr c => ?_) (Cert.LatentIdeal.Value.run_blocks (F := Ideal) m ρ)
  obtain ⟨a0, a1, a2, a3, a4, a5, a6⟩ := h c
  obtain ⟨e0, e1, e2, e3, e4, e5, e6, kept⟩ := hr c
  refine ⟨e0.trans ?_, e1.trans ?_, e2.trans ?_, e3.trans ?_, e4.trans ?_, e5.trans ?_, e6.trans ?_, kept⟩
  · rw [Cert.LatentIdeal.leaves12, a0, a1, a3]
  · rw [Cert.LatentIdeal.leaves13, a0, a1, a3, a5, a6]
  · rw [Cert.LatentIdeal.leaves14, a0, a1, a3, a5, a6]
  · rw [Cert.LatentIdeal.leaves15, a0, a2, a4]
  · rw [Cert.LatentIdeal.leaves16, a0, a5, a6]
  · rw [Cert.LatentIdeal.leaves17, a0, a5, a6]
  · rw [Cert.LatentIdeal.leaves18, a0, a2, a4]

end Cert.Proof
-- ==== Proof.MixerRows.lean ====
/-
  The mixer's rows after its scan, on one device: blocks of 256 rows, normed by heads of 64 columns, with their bonus,
  through their gate.
-/
module

public import proofs.«01_k».proof.Defs
public import proofs.«01_k».proof.Proof.Latent
public import proofs.«01_k».proof.Proof.Gen.MixerRows.Frame
public import proofs.«01_k».proof.Proof.Gen.MixerRowsIdeal.Value
public import proofs.«01_k».proof.Proof.Gen.MixerRowsRefIdeal.Run
public import proofs.«01_k».proof.Proof.Gen.Pre_finite_heads
public import Idealize.ShloMosaic.Lib.Pointwise

@[expose] public section

noncomputable section

namespace Cert.MixerRowsIdeal

open Idealize.ShloMosaic Idealize.ShloMosaic.TcCoe Idealize.ShloMosaic.Tactic
open Idealize.SL.Sem
open Cert.PreIdeal (row offset_zero placed)
open Cert.Windows (stays)

/-! ## A head's sum, and an entry -/

/-- Column `i` of column `k`'s head. -/
def mate (k : Fin 1024) (i : Fin 64) : Fin 1024 := ⟨k.val / 64 * 64 + i.val, by omega⟩

/-- The sum over the head that a column lies in. -/
def headSum (f : Fin 1024 → EReal) (k : Fin 1024) : EReal := ∑ i : Fin 64, f (mate k i)

theorem headSum_mate (f : Fin 1024 → EReal) (k : Fin 1024) (i : Fin 64) : headSum f (mate k i) = headSum f k := by
  unfold headSum mate
  refine Finset.sum_congr rfl fun j _ => congrArg f (Fin.ext ?_)
  show (k.val / 64 * 64 + i.val) / 64 * 64 + j.val = k.val / 64 * 64 + j.val
  omega

/-- The mean over the head that a column lies in. -/
def headMean (f : Fin 1024 → EReal) (k : Fin 1024) : EReal := headSum f k * Ideal.ofBits .f32 0x3C800000#32

/-- What a column is off its head's mean. -/
def off (y : Fin 1024 → EReal) (k : Fin 1024) : EReal := y k - headMean y k

/-- A column normed in its head. -/
def normed (y : Fin 1024 → EReal) (k : Fin 1024) : EReal :=
  off y k * Ideal.rsqrt (headMean (fun j => off y j * off y j) k + Ideal.ofBits .f32 0x3A27C5AC#32)

/-- An entry of the result, of the rows' sum `y` and the bonus's products `b`. -/
def entry (y b : Fin 1024 → EReal) (v z g β : EReal) (k : Fin 1024) : EReal :=
  (normed y k * g + β + headSum b k * v) * (z * Ideal.logistic z)

/-- Multiplying by the 64th is dividing by 64. -/
theorem mean_eq (e : EReal) : Ideal.div e (Ideal.ofBits .f32 0x42800000#32) = e * Ideal.ofBits .f32 0x3C800000#32 := by
  have h64 : Ideal.ofBits .f32 0x42800000#32 = ((64 : ℝ) : EReal) := by
    simp [Ideal.ofBits, Ideal.ieee, -EReal.coe_mul]; norm_num
  have hq : Ideal.ofBits .f32 0x3C800000#32 = ((1 / 64 : ℝ) : EReal) := by
    simp [Ideal.ofBits, Ideal.ieee, -EReal.coe_mul]; norm_num
  rw [h64, hq]
  unfold Ideal.div
  rw [if_neg (by norm_cast), ← EReal.coe_inv]
  norm_num

/-! ## Reals -/

abbrev Real_ (e : EReal) : Prop := ∃ x : ℝ, e = x

theorem real_add {a b : EReal} : Real_ a → Real_ b → Real_ (a + b) := fun ⟨x, hx⟩ ⟨y, hy⟩ => ⟨x + y, by rw [hx, hy, EReal.coe_add]⟩
theorem real_sub {a b : EReal} : Real_ a → Real_ b → Real_ (a - b) := fun ⟨x, hx⟩ ⟨y, hy⟩ => ⟨x - y, by rw [hx, hy, EReal.coe_sub]⟩
theorem real_mul {a b : EReal} : Real_ a → Real_ b → Real_ (a * b) := fun ⟨x, hx⟩ ⟨y, hy⟩ => ⟨x * y, by rw [hx, hy, EReal.coe_mul]⟩

theorem real_headMean {f : Fin 1024 → EReal} (h : ∀ k, Real_ (f k)) (k : Fin 1024) : Real_ (headMean f k) := by
  refine real_mul (Finset.sum_induction _ Real_ (fun _ _ => real_add) ⟨0, rfl⟩ fun i _ => h _) ⟨1 / 64, ?_⟩
  simp [Ideal.ofBits, Ideal.ieee, -EReal.coe_mul]; norm_num

theorem real_off {y : Fin 1024 → EReal} (h : ∀ k, Real_ (y k)) (k : Fin 1024) : Real_ (off y k) := real_sub (h k) (real_headMean h k)

/-- Below the infinities in absolute value: a real. -/
theorem real_of_tame {s : Shape} (x : FVec Ideal s .f32) (hb : Pre_finite_heads.S_.BroadcastsInDim s ![])
    (h : cmpf .olt (Host.absf x) (broadcastInDim s ![] hb (constant Pre_finite_heads.S_ .f32 0x7F800000#32)) = fun _ => 1#1)
    (i : s.Idx) : Real_ (x i) := by
  have e : BitVec.ofBool (decide (max (x i) (-(x i)) < Ideal.ofBits .f32 0x7F800000#32)) = 1#1 := congrFun h i
  have ht : Ideal.ofBits .f32 0x7F800000#32 = ⊤ := by simp [Ideal.ofBits, Ideal.ieee]
  rw [ht] at e
  have l : max (x i) (-(x i)) < ⊤ := by
    by_contra hn
    rw [decide_eq_false hn] at e
    exact absurd e (by decide)
  obtain ⟨l1, l2⟩ := max_lt_iff.mp l
  generalize x i = y at l1 l2 ⊢
  induction y using EReal.rec with
  | bot => exact absurd l2 (by simp)
  | top => exact absurd l1 (by simp)
  | coe r => exact ⟨r, rfl⟩

/-! ## A block's sums by heads -/

section block

variable {F : FTy → Type} [FloatOps F]

/-- The product of 128 columns with the heads' matrix, the columns in two parts. -/
def part (o : ℕ) (h : S256x1024.Slices ![0, o] S256x128) (x : FVec F S256x1024 .f32) (g : FVec F S128x128 .bf16) : FVec F S256x128 .f32 :=
  have u : FVec F S256x128 .f32 := extractStridedSlice S256x128 ![0, o] x h
  have hi : FVec F S256x128 .bf16 := truncf .bf16 u Gen.bitsLt_bf16_f32
  addf (matmul dot_S256x128_S128x128_S256x128_1_0_0_1_n_n none hi g (constant S256x128 .f32 0x00000000#32))
    (matmul dot_S256x128_S128x128_S256x128_1_0_0_1_n_n none (truncf .bf16 (subf u (extf .f32 hi Gen.bitsLt_bf16_f32)) Gen.bitsLt_bf16_f32) g (constant S256x128 .f32 0x00000000#32))

theorem slices (n : Fin 8) : S256x1024.Slices ![0, 128 * n.val] S256x128 := by
  revert n; decide

/-- The products side by side. -/
def sums (x : FVec F S256x1024 .f32) (g : FVec F S128x128 .bf16) : FVec F S256x1024 .f32 :=
  concatenate S256x1024 1 (List.ofFn fun n : Fin 8 => ⟨S256x128, part (128 * n.val) (slices n) x g⟩) Gen.concatenates_S256x128_S256x128_S256x128_S256x128_S256x128_S256x128_S256x128_S256x128_S256x1024_d1

/-- The means by heads, and the rows off them. -/
def means (x : FVec F S256x1024 .f32) (g : FVec F S128x128 .bf16) : FVec F S256x1024 .f32 := mulf (sums x g) (broadcast S256x1024 (Scalar.ofBits .f32 0x3C800000#32))
def offs (x : FVec F S256x1024 .f32) (g : FVec F S128x128 .bf16) : FVec F S256x1024 .f32 := subf x (means x g)

/-- The bonus's products. -/
def bonus (x2 x3 x4 : FVec F S256x1024 .f32) (x9 : FVec F S1x1024 .f32) : FVec F S256x1024 .f32 := mulf (mulf x2 (addf x3 x4)) (broadcastTo S256x1024 x9 Gen.broadcasts_S1x1024_S256x1024)

/-- What a point stores. -/
def block (x0 x1 x2 x3 x4 x5 x6 : FVec F S256x1024 .f32) (x7 x8 x9 : FVec F S1x1024 .f32) (g : FVec F S128x128 .bf16) : FVec F S256x1024 .bf16 :=
  truncf .bf16 (mulf (addf (addf (mulf (mulf (offs (addf x0 x1) g) (rsqrt (addf (means (mulf (offs (addf x0 x1) g) (offs (addf x0 x1) g)) g) (broadcast S256x1024 (Scalar.ofBits .f32 0x3A27C5AC#32)))))
    (broadcastTo S256x1024 x7 Gen.broadcasts_S1x1024_S256x1024)) (broadcastTo S256x1024 x8 Gen.broadcasts_S1x1024_S256x1024))
    (mulf (sums (bonus x2 x3 x4 x9) g) x5)) (mulf x6 (logistic x6))) Gen.bitsLt_bf16_f32

end block

/-- Column `i` among 128, of column `k`'s head. -/
def mate' (k : Fin 128) (i : Fin 64) : Fin 128 := ⟨k.val / 64 * 64 + i.val, by omega⟩

/-- The product with the heads' matrix takes the head's columns. -/
theorem picks (f e : Fin 128 → EReal) (k : Fin 128) (he : ∀ j, e j = if j.val / 64 = k.val / 64 then 1 else 0) :
    ∑ j : Fin 128, f j * e j = ∑ i : Fin 64, f (mate' k i) := by
  simp only [he, mul_ite, mul_one, mul_zero]
  rw [← Finset.sum_filter]
  refine (Finset.sum_bij (fun i _ => mate' k i) ?_ ?_ ?_ fun _ _ => rfl).symm
  · intro i _
    refine Finset.mem_filter.mpr ⟨Finset.mem_univ _, ?_⟩
    show (k.val / 64 * 64 + i.val) / 64 = k.val / 64
    omega
  · intro i _ j _ h
    have := congrArg Fin.val h
    exact Fin.ext (by simp only [mate'] at this; omega)
  · intro j hj
    have hj := (Finset.mem_filter.mp hj).2
    exact ⟨⟨j.val % 64, Nat.mod_lt _ (by omega)⟩, Finset.mem_univ _, Fin.ext (show k.val / 64 * 64 + j.val % 64 = j.val by omega)⟩

section sums

variable (x : FVec Ideal S256x1024 .f32) (g : FVec Ideal S128x128 .bf16)
  (hg : ∀ j k : Fin 128, g (ix2 j k) = if j.val / 64 = k.val / 64 then 1 else 0) (r : Fin 256) (hx : ∀ k, Real_ (x (ix2 r k)))

include hg hx

theorem part_at (o : ℕ) (h : S256x1024.Slices ![0, o] S256x128) (ho : o + 128 ≤ 1024) (k : Fin 128) :
    part o h x g (ix2 r k) = ∑ i : Fin 64, x (ix2 r ⟨o + (mate' k i).val, by omega⟩) := by
  have e : part o h x g (ix2 r k) = (∑ j : Fin 128, x (ix2 r ⟨o + j.val, by omega⟩) * g (ix2 j k))
      + ∑ j : Fin 128, (x (ix2 r ⟨o + j.val, by omega⟩) - x (ix2 r ⟨o + j.val, by omega⟩)) * g (ix2 j k) := by
    unfold part
    pointwise
  rw [e, Finset.sum_eq_zero (s := Finset.univ) (f := fun j : Fin 128 => (x (ix2 r ⟨o + j.val, by omega⟩) - x (ix2 r ⟨o + j.val, by omega⟩)) * g (ix2 j k)), add_zero]
  · exact picks (fun j => x (ix2 r ⟨o + j.val, by omega⟩)) _ k fun j => hg j k
  · intro j _
    obtain ⟨a, ha⟩ := hx ⟨o + j.val, by omega⟩
    show (x (ix2 r ⟨o + j.val, by omega⟩) - x (ix2 r ⟨o + j.val, by omega⟩)) * g (ix2 j k) = 0
    rw [ha, ← EReal.coe_sub, sub_self, EReal.coe_zero, zero_mul]

theorem sums_at (k : Fin 1024) : sums x g (ix2 r k) = headSum (fun j => x (ix2 r j)) k := by
  unfold sums
  refine (concatenate_ofFn_apply (t := S256x1024) (s₁ := S256x128) 1 (fun n : Fin 8 => part (128 * n.val) (slices n) x g) _ rfl 128 rfl (ix2 r k)
    ⟨k.val / 128, by omega⟩ rfl (ix2 r (⟨k.val % 128, Nat.mod_lt _ (by omega)⟩ : Fin 128)) rfl ?_).trans ?_
  · intro b hb
    match b with
    | ⟨0, _⟩ => rfl
    | ⟨1, _⟩ => exact absurd rfl hb
  · refine (part_at x g hg r hx _ _ (by show 128 * (k.val / 128) + 128 ≤ 1024; omega) _).trans ?_
    refine Finset.sum_congr rfl fun i _ => congrArg (fun j => x (ix2 r j)) (Fin.ext ?_)
    show 128 * (k.val / 128) + (k.val % 128 / 64 * 64 + i.val) = k.val / 64 * 64 + i.val
    omega

theorem means_at (k : Fin 1024) : means x g (ix2 r k) = headMean (fun j => x (ix2 r j)) k := congrArg (· * _) (sums_at x g hg r hx k)
theorem offs_at (k : Fin 1024) : offs x g (ix2 r k) = off (fun j => x (ix2 r j)) k := congrArg (x (ix2 r k) - ·) (means_at x g hg r hx k)

end sums

theorem block_at (x0 x1 x2 x3 x4 x5 x6 : FVec Ideal S256x1024 .f32) (x7 x8 x9 : FVec Ideal S1x1024 .f32) (g : FVec Ideal S128x128 .bf16)
    (hg : ∀ j k : Fin 128, g (ix2 j k) = if j.val / 64 = k.val / 64 then 1 else 0) (r : Fin 256)
    (h0 : ∀ k, Real_ (x0 (ix2 r k))) (h1 : ∀ k, Real_ (x1 (ix2 r k))) (h2 : ∀ k, Real_ (x2 (ix2 r k))) (h3 : ∀ k, Real_ (x3 (ix2 r k))) (h4 : ∀ k, Real_ (x4 (ix2 r k))) (h9 : ∀ k, Real_ (x9 (ix2 0 k))) (k : Fin 1024) :
    block x0 x1 x2 x3 x4 x5 x6 x7 x8 x9 g (ix2 r k)
      = entry (fun j => x0 (ix2 r j) + x1 (ix2 r j)) (fun j => x2 (ix2 r j) * (x3 (ix2 r j) + x4 (ix2 r j)) * x9 (ix2 0 j)) (x5 (ix2 r k)) (x6 (ix2 r k)) (x7 (ix2 0 k)) (x8 (ix2 0 k)) k := by
  have e : block x0 x1 x2 x3 x4 x5 x6 x7 x8 x9 g (ix2 r k)
      = (offs (addf x0 x1) g (ix2 r k) * Ideal.rsqrt (means (mulf (offs (addf x0 x1) g) (offs (addf x0 x1) g)) g (ix2 r k) + Ideal.ofBits .f32 0x3A27C5AC#32) * x7 (ix2 0 k) + x8 (ix2 0 k)
        + sums (bonus x2 x3 x4 x9) g (ix2 r k) * x5 (ix2 r k)) * (x6 (ix2 r k) * Ideal.logistic (x6 (ix2 r k))) := by
    unfold block
    generalize means (mulf (offs (addf x0 x1) g) (offs (addf x0 x1) g)) g = v
    generalize offs (addf x0 x1) g = d
    generalize sums (bonus x2 x3 x4 x9) g = b
    pointwise
  have eb : ∀ j, bonus x2 x3 x4 x9 (ix2 r j) = x2 (ix2 r j) * (x3 (ix2 r j) + x4 (ix2 r j)) * x9 (ix2 0 j) := fun j => by
    unfold bonus
    pointwise
  have hy : ∀ j, Real_ ((addf x0 x1 : FVec Ideal S256x1024 .f32) (ix2 r j)) := fun j => real_add (h0 j) (h1 j)
  have hd : ∀ j, Real_ (offs (addf x0 x1) g (ix2 r j)) := fun j => by
    rw [offs_at _ g hg r hy]
    exact real_off hy j
  rw [e, means_at _ g hg r (fun j => real_mul (hd j) (hd j)), sums_at _ g hg r (fun j => by rw [eb]; exact real_mul (real_mul (h2 j) (real_add (h3 j) (h4 j))) (h9 j)), offs_at _ g hg r hy]
  simp only [eb]
  unfold entry normed
  rw [show (fun j => (mulf (offs (addf x0 x1) g) (offs (addf x0 x1) g) : FVec Ideal S256x1024 .f32) (ix2 r j)) = fun j => off (fun l => x0 (ix2 r l) + x1 (ix2 r l)) j * off (fun l => x0 (ix2 r l) + x1 (ix2 r l)) j from
    funext fun j => congrArg (fun a => a * a) (offs_at _ g hg r hy j)]
  rfl

/-! ## The heads' matrix -/

/-- The identity of two rows. -/
def unit : FVec Ideal S2x2 .bf16 :=
  uitofp .bf16 (cmpi .eq (addi (iotaInDim S2x2 32 0) (broadcastInDim S2x2 ![] Gen.bcast_S_S2x2 (constantI S_ 32 0#32))) (iotaInDim S2x2 32 1))

theorem unit_at (j k : Fin 2) : unit (ix2 j k) = if j.val = k.val then 1 else 0 := by
  unfold unit
  pointwise
  show ((BitVec.ofBool (BitVec.ofNat 32 j.val + 0#32 == BitVec.ofNat 32 k.val)).toNat : EReal) = _
  fin_cases j <;> fin_cases k <;> simp

section args

variable {F : FTy → Type} (m : (ℓ : Loc nD τ sig) → Buf (Elt F) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)

end args

theorem table (m : (ℓ : Loc nD τ sig) → Buf (Elt Ideal) ℓ) (c : Dev nD) (j k : Fin 128) : Gen.V m c main_v8 (ix2 j k) = if j.val / 64 = k.val / 64 then (1 : EReal) else 0 := by
  have e : Gen.V m c main_v8 = shapeCast S128x128 (broadcastInDim S2x64x2x64 ![0, 1, 2, 3] Gen.bcast_S2x1x2x1_S2x64x2x64_0_1_2_3 (broadcastInDim S2x1x2x1 ![0, 2] Gen.bcast_S2x2_S2x1x2x1_0_2 unit)) Gen.shapeCasts_S2x64x2x64_S128x128 := by
    unfold Gen.V
    after_results_simp
    rfl
  refine (congrFun e _).trans ((shapeCast_apply _ _ _ (ix4 (⟨j.val / 64, by omega⟩ : Fin 2) (⟨j.val % 64, Nat.mod_lt _ (by omega)⟩ : Fin 64) (⟨k.val / 64, by omega⟩ : Fin 2) (⟨k.val % 64, Nat.mod_lt _ (by omega)⟩ : Fin 64)) ?_).trans ?_)
  · refine (Shape.rowMajor_val_four _).trans (Eq.trans ?_ (Shape.rowMajor_val_two _).symm)
    show ((j.val / 64 * 64 + j.val % 64) * 2 + k.val / 64) * 64 + k.val % 64 = j.val * 128 + k.val
    omega
  · refine Eq.trans ?_ (unit_at ⟨j.val / 64, by omega⟩ ⟨k.val / 64, by omega⟩)
    generalize unit = u
    pointwise

/-! ## What the call reads and writes at a point -/

theorem points (t : Fin cfg0.N) : t.val < 8 := Nat.lt_of_lt_of_eq t.isLt Gen.N_0

/-- Block `t`'s row `r`. -/
abbrev rowAt (t : Fin cfg0.N) (r : Fin 256) : Fin 2048 := row ⟨t.val, points t⟩ r

/-- The gate's column. -/
def gateCol (k : Fin 1024) : Fin 11008 := ⟨5120 + k.val, by omega⟩

theorem cut0 (x : FVec Ideal S2048x1024 .f32) (t : Fin cfg0.N) (r : Fin 256) (k : Fin 1024) : ((cfg0.win 0).blk t).view.read (Elt Ideal) x (ix2 r k) = x (ix2 (rowAt t r) k) :=
  congrArg x (placed (b := 0) (W := 1024) (w := win0_0.index) (by decide +kernel) t (points t) r k rfl rfl (Nat.zero_add _))
theorem cut1 (x : FVec Ideal S2048x1024 .f32) (t : Fin cfg0.N) (r : Fin 256) (k : Fin 1024) : ((cfg0.win 1).blk t).view.read (Elt Ideal) x (ix2 r k) = x (ix2 (rowAt t r) k) :=
  congrArg x (placed (b := 0) (W := 1024) (w := win0_1.index) (by decide +kernel) t (points t) r k rfl rfl (Nat.zero_add _))
theorem cut2 (x : FVec Ideal S2048x1024 .f32) (t : Fin cfg0.N) (r : Fin 256) (k : Fin 1024) : ((cfg0.win 2).blk t).view.read (Elt Ideal) x (ix2 r k) = x (ix2 (rowAt t r) k) :=
  congrArg x (placed (b := 0) (W := 1024) (w := win0_2.index) (by decide +kernel) t (points t) r k rfl rfl (Nat.zero_add _))
theorem cut3 (x : FVec Ideal S2048x1024 .f32) (t : Fin cfg0.N) (r : Fin 256) (k : Fin 1024) : ((cfg0.win 3).blk t).view.read (Elt Ideal) x (ix2 r k) = x (ix2 (rowAt t r) k) :=
  congrArg x (placed (b := 0) (W := 1024) (w := win0_3.index) (by decide +kernel) t (points t) r k rfl rfl (Nat.zero_add _))
theorem cut4 (x : FVec Ideal S2048x1024 .f32) (t : Fin cfg0.N) (r : Fin 256) (k : Fin 1024) : ((cfg0.win 4).blk t).view.read (Elt Ideal) x (ix2 r k) = x (ix2 (rowAt t r) k) :=
  congrArg x (placed (b := 0) (W := 1024) (w := win0_4.index) (by decide +kernel) t (points t) r k rfl rfl (Nat.zero_add _))
theorem cut5 (x : FVec Ideal S2048x1024 .f32) (t : Fin cfg0.N) (r : Fin 256) (k : Fin 1024) : ((cfg0.win 5).blk t).view.read (Elt Ideal) x (ix2 r k) = x (ix2 (rowAt t r) k) :=
  congrArg x (placed (b := 0) (W := 1024) (w := win0_5.index) (by decide +kernel) t (points t) r k rfl rfl (Nat.zero_add _))
theorem cut11 (x : FVec Ideal S2048x1024 .bf16) (t : Fin cfg0.N) (r : Fin 256) (k : Fin 1024) : ((cfg0.win 11).blk t).view.read (Elt Ideal) x (ix2 r k) = x (ix2 (rowAt t r) k) :=
  congrArg x (placed (b := 0) (W := 1024) (w := win0_11.index) (by decide +kernel) t (points t) r k rfl rfl (Nat.zero_add _))
theorem whole7 (x : FVec Ideal S1x1024 .f32) (t : Fin cfg0.N) : ((cfg0.win 7).blk t).view.read (Elt Ideal) x = x :=
  funext fun j => congrArg x (stays (w := win0_7.index) (by decide +kernel) t rfl rfl)
theorem whole8 (x : FVec Ideal S1x1024 .f32) (t : Fin cfg0.N) : ((cfg0.win 8).blk t).view.read (Elt Ideal) x = x :=
  funext fun j => congrArg x (stays (w := win0_8.index) (by decide +kernel) t rfl rfl)
theorem whole9 (x : FVec Ideal S1x1024 .f32) (t : Fin cfg0.N) : ((cfg0.win 9).blk t).view.read (Elt Ideal) x = x :=
  funext fun j => congrArg x (stays (w := win0_9.index) (by decide +kernel) t rfl rfl)
theorem whole10 (x : FVec Ideal S128x128 .bf16) (t : Fin cfg0.N) : ((cfg0.win 10).blk t).view.read (Elt Ideal) x = x :=
  funext fun j => congrArg x (stays (w := win0_10.index) (by decide +kernel) t rfl rfl)

section leaves

variable (m : (ℓ : Loc nD τ sig) → Buf (Elt Ideal) ℓ) (c : Dev nD)

theorem cut6 (t : Fin cfg0.N) (r : Fin 256) (k : Fin 1024) : Gen.X0_6 m c t (ix2 r k) = a6 m c (ix2 (rowAt t r) (gateCol k)) := by
  unfold Gen.X0_6 Pipeline.Window.fill
  rw [dif_pos (Gen.moved0_6 t _)]
  exact (congrArg (Gen.V m c main_arg6) (placed (b := 5) (W := 1024) (w := win0_6.index) (by decide +kernel) t (points t) r k rfl rfl rfl)).trans (congrFun (Gen.V_main_arg6 m c) _)

theorem stores {F : FTy → Type} [FloatOps F] (m : (ℓ : Loc nD τ sig) → Buf (Elt F) ℓ) (c : Dev nD) (t : Fin cfg0.N) :
    (Gen.dats m 0 c).flushed 11 t = (cfg0.win 11).cut (grid0.coords t) (block (Gen.iblk m c 0 t) (Gen.iblk m c 1 t) (Gen.iblk m c 2 t) (Gen.iblk m c 3 t) (Gen.iblk m c 4 t) (Gen.iblk m c 5 t) (Gen.X0_6 m c t)
      (Gen.iblk m c 7 t) (Gen.iblk m c 8 t) (Gen.iblk m c 9 t) (Gen.k0_pay2 (Gen.iblk m c 10 t))) := by
  refine (Value.flushed11_A m c t).trans (congrArg _ ?_)
  unfold Gen.out0_A_11
  rw [View.read_writes_eq_canon _ _ _ (fun y => Gen.cover0_A_11 (y := y) ..)]
  unfold Gen.kernelRun0_A
  dsimp only
  sl_unfold_words
  rw [View.canon_unit_zero offset_zero]
  simp only [View.readAt_eq_ld, (Gen.hs0_0 t).read_unread, (Gen.hs0_1 t).read_unread, (Gen.hs0_2 t).read_unread, (Gen.hs0_3 t).read_unread, (Gen.hs0_4 t).read_unread, (Gen.hs0_5 t).read_unread, (Gen.hs0_6 t).read_unread, (Gen.hs0_7 t).read_unread, (Gen.hs0_8 t).read_unread, (Gen.hs0_9 t).read_unread, (Gen.hs0_10 t).read_unread, View.ld_unit_zero (S := S256x1024) offset_zero, View.ld_unit_zero (S := S1x1024) offset_zero, View.ld_unit_zero (S := S128x128) offset_zero]
  generalize Gen.iblk m c 0 t = x0
  generalize Gen.iblk m c 1 t = x1
  generalize Gen.iblk m c 2 t = x2
  generalize Gen.iblk m c 3 t = x3
  generalize Gen.iblk m c 4 t = x4
  generalize Gen.iblk m c 9 t = x9
  generalize Gen.iblk m c 10 t = x10
  rfl

theorem heads_at (t : Fin cfg0.N) (j k : Fin 128) : Gen.k0_pay2 (Gen.iblk m c 10 t) (ix2 j k) = if j.val / 64 = k.val / 64 then (1 : EReal) else 0 := by
  refine Eq.trans ?_ ((congrFun (whole10 (Gen.V m c main_v8) t) _).trans (table m c j k))
  unfold Gen.k0_pay2 Gen.iblk
  generalize (((cfg0.win 10).blk t).view.read (Elt Ideal) (Gen.V m c main_v8) : FVec Ideal S128x128 .bf16) = y
  pointwise

/-- Every entry of the result. -/
def result (A0 A1 A2 A3 A4 A5 : FVec Ideal S2048x1024 .f32) (A6 : FVec Ideal S2048x11008 .f32) (A7 A8 A9 : FVec Ideal S1x1024 .f32) : FVec Ideal S2048x1024 .bf16 := fun i =>
  entry (fun j => A0 (ix2 (i 0) j) + A1 (ix2 (i 0) j)) (fun j => A2 (ix2 (i 0) j) * (A3 (ix2 (i 0) j) + A4 (ix2 (i 0) j)) * A9 (ix2 0 j)) (A5 (ix2 (i 0) (i 1))) (A6 (ix2 (i 0) (gateCol (i 1)))) (A7 (ix2 0 (i 1))) (A8 (ix2 0 (i 1))) (i 1)

theorem leaves (h0 : ∀ i, Real_ (a0 m c i)) (h1 : ∀ i, Real_ (a1 m c i)) (h2 : ∀ i, Real_ (a2 m c i)) (h3 : ∀ i, Real_ (a3 m c i)) (h4 : ∀ i, Real_ (a4 m c i)) (h9 : ∀ i, Real_ (a9 m c i)) :
    (Gen.dats m 0 c).arrAt 11 cfg0.N = result (a0 m c) (a1 m c) (a2 m c) (a3 m c) (a4 m c) (a5 m c) (a6 m c) (a7 m c) (a8 m c) (a9 m c) := by
  refine Cert.LatentIdeal.by_rows fun t' r k => ?_
  obtain ⟨t, ht⟩ : ∃ t : Fin cfg0.N, rowAt t r = Cert.LatentIdeal.rowAt t' r := ⟨⟨t'.val, Nat.lt_of_lt_of_eq (Cert.LatentIdeal.points t') Gen.N_0.symm⟩, rfl⟩
  rw [← ht]
  refine (cut11 _ t r k).symm.trans ((congrFun ((Value.blocks11 m c t (Gen.flush0_11 t)).trans (stores m c t)) (ix2 r k)).trans ?_)
  have e0 : ∀ j, Gen.iblk m c 0 t (ix2 r j) = a0 m c (ix2 (rowAt t r) j) := fun j => (cut0 _ t r j).trans (congrFun (Gen.V_main_arg0 m c) _)
  have e1 : ∀ j, Gen.iblk m c 1 t (ix2 r j) = a1 m c (ix2 (rowAt t r) j) := fun j => (cut1 _ t r j).trans (congrFun (Gen.V_main_arg1 m c) _)
  have e2 : ∀ j, Gen.iblk m c 2 t (ix2 r j) = a2 m c (ix2 (rowAt t r) j) := fun j => (cut2 _ t r j).trans (congrFun (Gen.V_main_arg2 m c) _)
  have e3 : ∀ j, Gen.iblk m c 3 t (ix2 r j) = a3 m c (ix2 (rowAt t r) j) := fun j => (cut3 _ t r j).trans (congrFun (Gen.V_main_arg3 m c) _)
  have e4 : ∀ j, Gen.iblk m c 4 t (ix2 r j) = a4 m c (ix2 (rowAt t r) j) := fun j => (cut4 _ t r j).trans (congrFun (Gen.V_main_arg4 m c) _)
  have e5 : ∀ j, Gen.iblk m c 5 t (ix2 r j) = a5 m c (ix2 (rowAt t r) j) := fun j => (cut5 _ t r j).trans (congrFun (Gen.V_main_arg5 m c) _)
  have e7 : Gen.iblk m c 7 t = a7 m c := (whole7 _ t).trans (Gen.V_main_arg7 m c)
  have e8 : Gen.iblk m c 8 t = a8 m c := (whole8 _ t).trans (Gen.V_main_arg8 m c)
  have e9 : Gen.iblk m c 9 t = a9 m c := (whole9 _ t).trans (Gen.V_main_arg9 m c)
  rw [e7, e8, e9]
  refine (block_at _ _ _ _ _ _ _ _ _ _ _ (heads_at m c t) r (fun j => by rw [e0]; exact h0 _) (fun j => by rw [e1]; exact h1 _) (fun j => by rw [e2]; exact h2 _) (fun j => by rw [e3]; exact h3 _) (fun j => by rw [e4]; exact h4 _) (fun j => h9 _) k).trans ?_
  simp only [e0, e1, e2, e3, e4, e5, cut6]
  rfl

end leaves

end Cert.MixerRowsIdeal

namespace Cert.MixerRowsRefIdeal

open Idealize.ShloMosaic Idealize.ShloMosaic.TcCoe Idealize.ShloMosaic.Tactic
open Cert.MixerRowsRefIdeal.Gen
open Cert.MixerRowsIdeal (mate headSum headMean headSum_mate off normed entry mean_eq gateCol result)

/-! ## The reference, entry by entry -/

/-- A column's head. -/
def headOf (k : Fin 1024) : Fin 16 := ⟨k.val / 64, by omega⟩
def within (k : Fin 1024) : Fin 64 := ⟨k.val % 64, Nat.mod_lt _ (by omega)⟩

theorem mate_within (k : Fin 1024) : mate k (within k) = k := Fin.ext (show k.val / 64 * 64 + k.val % 64 = k.val by omega)

/-- Rows by heads, and back. -/
def byHead (x : FVec Ideal S2048x1024 .f32) : FVec Ideal S2048x16x64 .f32 := shapeCast _ x shapeCasts_S2048x1024_S2048x16x64
def flat (y : FVec Ideal S2048x16x64 .f32) : FVec Ideal S2048x1024 .f32 := shapeCast _ y shapeCasts_S2048x16x64_S2048x1024

theorem byHead_at (x : FVec Ideal S2048x1024 .f32) (r : Fin 2048) (k : Fin 1024) (i : Fin 64) : byHead x (ix3 r (headOf k) i) = x (ix2 r (mate k i)) := by
  refine shapeCast_apply _ _ _ _ ((Shape.rowMajor_val_two _).trans (Eq.trans ?_ (Shape.rowMajor_val_three _).symm))
  show r.val * 1024 + (k.val / 64 * 64 + i.val) = (r.val * 16 + k.val / 64) * 64 + i.val
  omega

theorem flat_at (y : FVec Ideal S2048x16x64 .f32) (r : Fin 2048) (k : Fin 1024) : flat y (ix2 r k) = y (ix3 r (headOf k) (within k)) := by
  refine shapeCast_apply _ _ _ _ ((Shape.rowMajor_val_three _).trans (Eq.trans ?_ (Shape.rowMajor_val_two _).symm))
  show (r.val * 16 + k.val / 64) * 64 + k.val % 64 = r.val * 1024 + k.val
  omega

/-- The heads' sums and means, and a number for each head at each of its columns. -/
def totals (x : FVec Ideal S2048x16x64 .f32) : FVec Ideal S2048x16x1 .f32 :=
  broadcastInDim S2048x16x1 ![0, 1] bcast_S2048x16_S2048x16x1_0_1 (Host.reduceAdd x (constant S_ .f32 0x00000000#32) reducesTo_S2048x16x64_S2048x16_d2 h_S_)
def avgs (x : FVec Ideal S2048x16x64 .f32) : FVec Ideal S2048x16x1 .f32 := Host.divf (totals x) (broadcastInDim S2048x16x1 ![] bcast_S_S2048x16x1 (constant S_ .f32 0x42800000#32))
def spread (x : FVec Ideal S2048x16x1 .f32) : FVec Ideal S2048x16x64 .f32 := broadcastInDim S2048x16x64 ![0, 1, 2] bcast_S2048x16x1_S2048x16x64_0_1_2 x
def offs (x : FVec Ideal S2048x16x64 .f32) : FVec Ideal S2048x16x64 .f32 := subf x (spread (avgs x))

theorem spread_at (x : FVec Ideal S2048x16x1 .f32) (r : Fin 2048) (h : Fin 16) (i : Fin 64) : spread x (ix3 r h i) = x (ix3 r h 0) := by
  unfold spread
  pointwise

section rows

variable (x : FVec Ideal S2048x16x64 .f32) (f : Fin 1024 → EReal) (r : Fin 2048) (k : Fin 1024) (hf : ∀ i, x (ix3 r (headOf k) i) = f (mate k i))

include hf

theorem totals_at : totals x (ix3 r (headOf k) 0) = headSum f k := by
  have e : (Host.reduceAdd x (constant S_ .f32 0x00000000#32) reducesTo_S2048x16x64_S2048x16_d2 h_S_ : FVec Ideal S2048x16 .f32) (ix2 r (headOf k)) = ∑ i : Fin 64, x (ix3 r (headOf k) i) := by
    rw [Host.reduceAdd_apply, Ideal.hostReduceAdd_def]
    refine (Ideal.hostReduceAdd_r3_a2 reducesTo_S2048x16x64_S2048x16_d2 x _ (ix2 r (headOf k))).trans ?_
    refine Eq.trans (congrArg (· + _) (show _ = (0 : EReal) from Ideal.ofBits_zero .f32)) (zero_add _)
  refine Eq.trans ?_ (e.trans (Finset.sum_congr rfl fun i _ => hf i))
  unfold totals
  generalize (Host.reduceAdd x (constant S_ .f32 0x00000000#32) reducesTo_S2048x16x64_S2048x16_d2 h_S_ : FVec Ideal S2048x16 .f32) = z
  pointwise

theorem avgs_at : avgs x (ix3 r (headOf k) 0) = headMean f k := by
  have e : avgs x (ix3 r (headOf k) 0) = Ideal.div (totals x (ix3 r (headOf k) 0)) (Ideal.ofBits .f32 0x42800000#32) := by
    unfold avgs
    generalize totals x = z
    pointwise
  rw [e, mean_eq, totals_at x f r k hf]
  rfl

theorem offs_at (i : Fin 64) : offs x (ix3 r (headOf k) i) = off f (mate k i) := by
  have e : offs x (ix3 r (headOf k) i) = x (ix3 r (headOf k) i) - spread (avgs x) (ix3 r (headOf k) i) := rfl
  rw [e, spread_at, avgs_at x f r k hf, hf]
  unfold off headMean
  rw [headSum_mate]

end rows

section whole

variable (A0 A1 A2 A3 A4 A5 : FVec Ideal S2048x1024 .f32) (A6 : FVec Ideal S2048x11008 .f32) (A7 A8 A9 : FVec Ideal S1x1024 .f32)

/-- The two scans' rows off their heads' means, normed, and the bonus's products, by heads. -/
def centred : FVec Ideal S2048x16x64 .f32 := offs (addf (byHead A0) (byHead A1))
def norms : FVec Ideal S2048x16x64 .f32 :=
  mulf (centred A0 A1) (spread (Host.rsqrt (addf (avgs (mulf (centred A0 A1) (centred A0 A1))) (broadcastInDim S2048x16x1 ![] bcast_S_S2048x16x1 (constant S_ .f32 0x3A27C5AC#32)))))
def products : FVec Ideal S2048x16x64 .f32 :=
  mulf (mulf (byHead A2) (addf (byHead A3) (byHead A4))) (broadcastInDim S2048x16x64 ![0, 1, 2] bcast_S1x16x64_S2048x16x64_0_1_2 (broadcastInDim S1x16x64 ![1, 2] bcast_S16x64_S1x16x64_1_2 (shapeCast _ A9 shapeCasts_S1x1024_S16x64)))

theorem norms_at (r : Fin 2048) (k : Fin 1024) : flat (norms A0 A1) (ix2 r k) = normed (fun j => A0 (ix2 r j) + A1 (ix2 r j)) k := by
  have hc : ∀ i, centred A0 A1 (ix3 r (headOf k) i) = off (fun j => A0 (ix2 r j) + A1 (ix2 r j)) (mate k i) :=
    offs_at _ _ r k fun i => congrArg₂ (· + ·) (byHead_at A0 r k i) (byHead_at A1 r k i)
  have e : norms A0 A1 (ix3 r (headOf k) (within k)) = centred A0 A1 (ix3 r (headOf k) (within k)) * Ideal.rsqrt (avgs (mulf (centred A0 A1) (centred A0 A1)) (ix3 r (headOf k) 0) + Ideal.ofBits .f32 0x3A27C5AC#32) := by
    unfold norms
    refine congrArg (fun z => centred A0 A1 (ix3 r (headOf k) (within k)) * z) ((spread_at _ r _ _).trans ?_)
    generalize avgs (mulf (centred A0 A1) (centred A0 A1)) = z
    pointwise
  rw [flat_at, e, hc, mate_within, avgs_at _ (fun j => off (fun l => A0 (ix2 r l) + A1 (ix2 r l)) j * off (fun l => A0 (ix2 r l) + A1 (ix2 r l)) j) r k fun i => congrArg (fun a => a * a) (hc i)]
  rfl

theorem products_at (r : Fin 2048) (k : Fin 1024) (i : Fin 64) : products A2 A3 A4 A9 (ix3 r (headOf k) i)
    = A2 (ix2 r (mate k i)) * (A3 (ix2 r (mate k i)) + A4 (ix2 r (mate k i))) * A9 (ix2 0 (mate k i)) := by
  have e9 : (shapeCast S16x64 A9 shapeCasts_S1x1024_S16x64 : FVec Ideal S16x64 .f32) (ix2 (headOf k) i) = A9 (ix2 0 (mate k i)) := by
    refine shapeCast_apply _ _ _ _ ((Shape.rowMajor_val_two _).trans (Eq.trans ?_ (Shape.rowMajor_val_two _).symm))
    show 0 * 1024 + (k.val / 64 * 64 + i.val) = k.val / 64 * 64 + i.val
    omega
  rw [← e9, ← byHead_at A2, ← byHead_at A3, ← byHead_at A4]
  unfold products
  generalize (shapeCast S16x64 A9 shapeCasts_S1x1024_S16x64 : FVec Ideal S16x64 .f32) = w
  generalize byHead A2 = x2
  generalize byHead A3 = x3
  generalize byHead A4 = x4
  pointwise

/-- The reference's result. -/
def plain : FVec Ideal S2048x1024 .bf16 :=
  truncf .bf16 (mulf (addf (addf (mulf (flat (norms A0 A1)) (broadcastInDim S2048x1024 ![0, 1] bcast_S1x1024_S2048x1024_0_1 A7)) (broadcastInDim S2048x1024 ![0, 1] bcast_S1x1024_S2048x1024_0_1 A8))
    (flat (mulf (spread (totals (products A2 A3 A4 A9))) (byHead A5))))
    (mulf (extractStridedSlice S2048x1024 ![0, 5120] A6 slices_S2048x11008_S2048x1024_0_5120) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 5120] A6 slices_S2048x11008_S2048x1024_0_5120))))))) bitsLt_bf16_f32

theorem plain_eq : plain A0 A1 A2 A3 A4 A5 A6 A7 A8 A9 = result A0 A1 A2 A3 A4 A5 A6 A7 A8 A9 :=
  Cert.LatentRefIdeal.by_ix2 fun r k => by
    have eb : flat (mulf (spread (totals (products A2 A3 A4 A9))) (byHead A5)) (ix2 r k) = headSum (fun j => A2 (ix2 r j) * (A3 (ix2 r j) + A4 (ix2 r j)) * A9 (ix2 0 j)) k * A5 (ix2 r k) := by
      refine (flat_at _ r k).trans (congrArg₂ (· * ·) ((spread_at _ r _ _).trans (totals_at _ _ r k (products_at A2 A3 A4 A9 r k))) ((byHead_at A5 r k _).trans ?_))
      rw [mate_within]
    show _ = entry (fun j => A0 (ix2 r j) + A1 (ix2 r j)) (fun j => A2 (ix2 r j) * (A3 (ix2 r j) + A4 (ix2 r j)) * A9 (ix2 0 j)) (A5 (ix2 r k)) (A6 (ix2 r (gateCol k))) (A7 (ix2 0 k)) (A8 (ix2 0 k)) k
    unfold entry
    rw [← norms_at, ← eb]
    unfold plain Ideal.logistic gateCol
    generalize flat (norms A0 A1) = y
    generalize flat (mulf (spread (totals (products A2 A3 A4 A9))) (byHead A5)) = b
    pointwise

end whole

theorem res_eq (m : (ℓ : Loc nD τ sig) → Buf (Elt Ideal) ℓ) (c : Dev nD) : Value.res_main_v45 m c
    = plain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_main_v45
  rfl

end Cert.MixerRowsRefIdeal

namespace Cert.Proof

open Idealize.ShloMosaic Idealize.ShloMosaic.TcCoe Idealize.SL.Sem

/-- The call at bits runs, keeps its arguments, and leaves every semaphore at zero. -/
theorem frame_mixerRows : Cert.quiescent_MixerRows := fun m ρ _ => Cert.MixerRows.Gen.frame m ρ

/-- The same at the ideal values. -/
theorem frame_mixerRowsIdeal : Cert.quiescent_MixerRowsIdeal := fun m ρ _ => Cert.MixerRowsIdeal.Gen.frame m ρ

/-- The plain lines run and keep their arguments. -/
theorem frame_mixerRowsRefIdeal : Cert.quiescent_MixerRowsRefIdeal := fun m ρ _ =>
  (θ_run Cert.MixerRowsRefIdeal.defs _ _).mono (fun r h => ⟨fun c => (h c).2, sem_eq_zero_of_no_sems (by decide) r.2⟩)
    (Cert.MixerRowsRefIdeal.Value.run (F := Ideal) m ρ)

/-- The two frames under the precondition say no more. -/
theorem frame_mixerRowsIdeal_tame : Cert.quiescent_MixerRowsIdeal_pre_finite_heads := fun m ρ _ => frame_mixerRowsIdeal m ρ trivial
theorem frame_mixerRowsRefIdeal_tame : Cert.quiescent_MixerRowsRefIdeal_pre_finite_heads := fun m ρ _ => frame_mixerRowsRefIdeal m ρ trivial

/-- The device ends with the rows normed by heads, with their bonus, gated. -/
theorem algebraic_mixerRows : Cert.algebraic_MixerRowsIdeal_MixerRowsRefIdeal_pre_finite_heads := fun m ρ m' ρ' p h => by
  refine ⟨_, ?_, Cert.MixerRowsRefIdeal.Value.run (F := Ideal) m' ρ'⟩
  refine (θ_run Cert.MixerRowsIdeal.defs _ _).mono (fun _ hr c => ⟨(hr c).1.trans ?_, (hr c).2⟩)
    (Cert.MixerRowsIdeal.Value.run_blocks (F := Ideal) m ρ)
  have real := fun {s : Shape} (x : FVec Ideal s .f32) hb => Cert.MixerRowsIdeal.real_of_tame x hb
  have q := p c
  rw [Cert.MixerRowsIdeal.leaves m c (real _ _ q.1) (real _ _ q.2.1) (real _ _ q.2.2.1) (real _ _ q.2.2.2.1) (real _ _ q.2.2.2.2.1) (real _ _ q.2.2.2.2.2)]
  refine (Cert.MixerRowsRefIdeal.plain_eq _ _ _ _ _ _ _ _ _ _).symm.trans ?_
  obtain ⟨e0, e1, e2, e3, e4, e5, e6, e7, e8, e9⟩ := h c
  rw [Cert.MixerRowsRefIdeal.res_eq]
  unfold Cert.MixerRowsIdeal.a0 Cert.MixerRowsIdeal.a1 Cert.MixerRowsIdeal.a2 Cert.MixerRowsIdeal.a3 Cert.MixerRowsIdeal.a4 Cert.MixerRowsIdeal.a5 Cert.MixerRowsIdeal.a6 Cert.MixerRowsIdeal.a7 Cert.MixerRowsIdeal.a8 Cert.MixerRowsIdeal.a9
  rw [e0, e1, e2, e3, e4, e5, e6, e7, e8, e9]

end Cert.Proof

end
-- ==== Proof.lean ====
module

public import proofs.«01_k».proof.Defs
public import proofs.«01_k».proof.Proof.Update
public import proofs.«01_k».proof.Proof.Small
public import proofs.«01_k».proof.Proof.Pre
public import proofs.«01_k».proof.Proof.Gates
public import proofs.«01_k».proof.Proof.Products
public import proofs.«01_k».proof.Proof.Loss
public import proofs.«01_k».proof.Proof.Inputs
public import proofs.«01_k».proof.Proof.InDx
public import proofs.«01_k».proof.Proof.Shift
public import proofs.«01_k».proof.Proof.Attention
public import proofs.«01_k».proof.Proof.AttentionBack
public import proofs.«01_k».proof.Proof.Latent
public import proofs.«01_k».proof.Proof.MixerRows

@[expose] public section

noncomputable section

namespace Cert.Proof

/-- Every claim of the certificate. -/
theorem claim : Cert.Claim := ⟨Cert.Gather.Gen.facts, Cert.GatherIdeal.Gen.facts, Cert.GatherRefIdeal.Gen.facts, Cert.GatherRef.Gen.facts,
  Cert.Scatter.Gen.facts, Cert.ScatterIdeal.Gen.facts, Cert.ScatterRefIdeal.Gen.facts, Cert.Update.Gen.facts, Cert.UpdateIdeal.Gen.facts, Cert.UpdateRefIdeal.Gen.facts,
  Cert.Small.Gen.facts, Cert.SmallIdeal.Gen.facts, Cert.SmallRefIdeal.Gen.facts, Cert.Pre.Gen.facts, Cert.PreIdeal.Gen.facts, Cert.PreRefIdeal.Gen.facts,
  Cert.Loss.Gen.facts, Cert.LossIdeal.Gen.facts, Cert.LossRefIdeal.Gen.facts,
  Cert.Merge.Gen.facts, Cert.MergeIdeal.Gen.facts, Cert.MergeRefIdeal.Gen.facts,
  Cert.MergeBack.Gen.facts, Cert.MergeBackIdeal.Gen.facts, Cert.MergeBackRefIdeal.Gen.facts,
  Cert.Gate.Gen.facts, Cert.GateIdeal.Gen.facts, Cert.GateRefIdeal.Gen.facts,
  Cert.GateBack.Gen.facts, Cert.GateBackIdeal.Gen.facts, Cert.GateBackRefIdeal.Gen.facts,
  Cert.Norm.Gen.facts, Cert.NormIdeal.Gen.facts, Cert.NormRefIdeal.Gen.facts,
  Cert.OutProduct.Gen.facts, Cert.OutProductIdeal.Gen.facts, Cert.OutProductRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.Shift.Gen.facts, Cert.ShiftIdeal.Gen.facts, Cert.ShiftRefIdeal.Gen.facts,
  Cert.ShiftBack.Gen.facts, Cert.ShiftBackIdeal.Gen.facts, Cert.ShiftBackRefIdeal.Gen.facts,
  Cert.Attention.Gen.facts, Cert.AttentionIdeal.Gen.facts, Cert.AttentionRefIdeal.Gen.facts,
  Cert.InProduct.Gen.facts, Cert.InProductIdeal.Gen.facts, Cert.InProductRefIdeal.Gen.facts,
  Cert.InDw.Gen.facts, Cert.InDwIdeal.Gen.facts, Cert.InDwRefIdeal.Gen.facts,
  Cert.Branch.Gen.facts, Cert.BranchIdeal.Gen.facts, Cert.BranchRefIdeal.Gen.facts,
  Cert.BranchDx.Gen.facts, Cert.BranchDxIdeal.Gen.facts, Cert.BranchDxRefIdeal.Gen.facts,
  Cert.BranchDw.Gen.facts, Cert.BranchDwIdeal.Gen.facts, Cert.BranchDwRefIdeal.Gen.facts,
  Cert.InDx.Gen.facts, Cert.InDxIdeal.Gen.facts, Cert.InDxRefIdeal.Gen.facts,
  Cert.AttentionBack.Gen.facts, Cert.AttentionBackIdeal.Gen.facts, Cert.AttentionBackRefIdeal.Gen.facts,
  Cert.Latent.Gen.facts, Cert.LatentIdeal.Gen.facts, Cert.LatentRefIdeal.Gen.facts,
  Cert.MixerRows.Gen.facts, Cert.MixerRowsIdeal.Gen.facts, Cert.MixerRowsRefIdeal.Gen.facts,
  Cert.Pre_finite_rows.Gen.facts, Cert.Pre_finite_keys.Gen.facts, Cert.Pre_finite_heads.Gen.facts,
  frame_gather, frame_gatherIdeal, frame_gatherRefIdeal, frame_gatherRef, frame_scatter, frame_scatterIdeal, frame_scatterRefIdeal,
  frame_update, frame_updateIdeal, frame_updateRefIdeal, frame_small, frame_smallIdeal, frame_smallRefIdeal,
  frame_pre, frame_preIdeal, frame_preRefIdeal,
  frame_loss, frame_lossIdeal, frame_lossRefIdeal,
  frame_merge, frame_mergeIdeal, frame_mergeRefIdeal,
  frame_merge_back, frame_merge_backIdeal, frame_merge_backRefIdeal,
  frame_gate, frame_gateIdeal, frame_gateRefIdeal,
  frame_gate_back, frame_gate_backIdeal, frame_gate_backRefIdeal,
  frame_norm, frame_normIdeal, frame_normRefIdeal,
  frame_out_product, frame_out_productIdeal, frame_out_productRefIdeal,
  frame_out_dx, frame_out_dxIdeal, frame_out_dxRefIdeal,
  frame_out_dw, frame_out_dwIdeal, frame_out_dwRefIdeal,
  frame_shift, frame_shiftIdeal, frame_shiftRefIdeal,
  frame_shift_back, frame_shift_backIdeal, frame_shift_backRefIdeal,
  frame_attention, frame_attentionIdeal, frame_attentionIdeal_tame, frame_attentionRefIdeal, frame_attentionRefIdeal_tame,
  frame_in_product, frame_in_productIdeal, frame_in_productRefIdeal,
  frame_in_dw, frame_in_dwIdeal, frame_in_dwRefIdeal,
  frame_branch, frame_branchIdeal, frame_branchRefIdeal,
  frame_branch_dx, frame_branch_dxIdeal, frame_branch_dxRefIdeal,
  frame_branch_dw, frame_branch_dwIdeal, frame_branch_dwRefIdeal,
  frame_in_dx, frame_in_dxIdeal, frame_in_dxRefIdeal,
  frame_attentionBack, frame_attentionBackIdeal, frame_attentionBackIdeal_tame, frame_attentionBackRefIdeal, frame_attentionBackRefIdeal_tame,
  frame_latent, frame_latentIdeal, frame_latentRefIdeal,
  frame_mixerRows, frame_mixerRowsIdeal, frame_mixerRowsIdeal_tame, frame_mixerRowsRefIdeal, frame_mixerRowsRefIdeal_tame,
  trivial, algebraic_gather, bitexact_gather, trivial, algebraic_scatter, trivial, algebraic_update, trivial, algebraic_small, trivial, algebraic_pre,
  trivial, algebraic_loss, trivial, algebraic_merge, trivial, algebraic_merge_back, trivial, algebraic_gate, trivial, algebraic_gate_back, trivial, algebraic_norm, trivial, algebraic_out_product, trivial, algebraic_out_dx, trivial, algebraic_out_dw,
  trivial, algebraic_shift, trivial, algebraic_shift_back, trivial, algebraic_attention,
  trivial, algebraic_in_product, trivial, algebraic_in_dw, trivial, algebraic_branch, trivial, algebraic_branch_dx, trivial, algebraic_branch_dw, trivial, algebraic_in_dx,
  trivial, algebraic_attentionBack, trivial, algebraic_latent, trivial, algebraic_mixerRows⟩

end Cert.Proof

end
